-- ==== Defs.lean ====
def Pre_KernelAttnBwd (m : (ℓ : Loc Cert.KernelAttnBwd.nD Cert.KernelAttnBwd.τ Cert.KernelAttnBwd.sig) → Buf (Elt Bits) ℓ) : Prop :=
  True

def Pre_KernelAttnBwdIdeal (m : (ℓ : Loc Cert.KernelAttnBwdIdeal.nD Cert.KernelAttnBwdIdeal.τ Cert.KernelAttnBwdIdeal.sig) → Buf (Elt Ideal) ℓ) : Prop :=
  True

def Pre_KernelAttnBwdIdeal_finite_proj_do [hPre_finite_proj_do : Cert.Pre_finite_proj_do.Facts] (m : (ℓ : Loc Cert.KernelAttnBwdIdeal.nD Cert.KernelAttnBwdIdeal.τ Cert.KernelAttnBwdIdeal.sig) → Buf (Elt Ideal) ℓ) : Prop :=
  ∀ c : Dev Cert.KernelAttnBwdIdeal.nD,
    (Cert.Pre_finite_proj_do.fn (F := Ideal) (m ((c.tc : Thread Cert.KernelAttnBwdIdeal.nD Cert.KernelAttnBwdIdeal.τ).loc Cert.KernelAttnBwdIdeal.main_arg0)) (m ((c.tc : Thread Cert.KernelAttnBwdIdeal.nD Cert.KernelAttnBwdIdeal.τ).loc Cert.KernelAttnBwdIdeal.main_arg1))).1 = (fun _ => 1#1)
    ∧ (Cert.Pre_finite_proj_do.fn (F := Ideal) (m ((c.tc : Thread Cert.KernelAttnBwdIdeal.nD Cert.KernelAttnBwdIdeal.τ).loc Cert.KernelAttnBwdIdeal.main_arg0)) (m ((c.tc : Thread Cert.KernelAttnBwdIdeal.nD Cert.KernelAttnBwdIdeal.τ).loc Cert.KernelAttnBwdIdeal.main_arg1))).2 = (fun _ => 1#1)

def Pre_ReferenceAttnBwdIdeal (m : (ℓ : Loc Cert.ReferenceAttnBwdIdeal.nD Cert.ReferenceAttnBwdIdeal.τ Cert.ReferenceAttnBwdIdeal.sig) → Buf (Elt Ideal) ℓ) : Prop :=
  True

def Pre_ReferenceAttnBwdIdeal_finite_proj_do [hPre_finite_proj_do : Cert.Pre_finite_proj_do.Facts] (m : (ℓ : Loc Cert.ReferenceAttnBwdIdeal.nD Cert.ReferenceAttnBwdIdeal.τ Cert.ReferenceAttnBwdIdeal.sig) → Buf (Elt Ideal) ℓ) : Prop :=
  ∀ c : Dev Cert.ReferenceAttnBwdIdeal.nD,
    (Cert.Pre_finite_proj_do.fn (F := Ideal) (m ((c.tc : Thread Cert.ReferenceAttnBwdIdeal.nD Cert.ReferenceAttnBwdIdeal.τ).loc Cert.ReferenceAttnBwdIdeal.main_arg0)) (m ((c.tc : Thread Cert.ReferenceAttnBwdIdeal.nD Cert.ReferenceAttnBwdIdeal.τ).loc Cert.ReferenceAttnBwdIdeal.main_arg1))).1 = (fun _ => 1#1)
    ∧ (Cert.Pre_finite_proj_do.fn (F := Ideal) (m ((c.tc : Thread Cert.ReferenceAttnBwdIdeal.nD Cert.ReferenceAttnBwdIdeal.τ).loc Cert.ReferenceAttnBwdIdeal.main_arg0)) (m ((c.tc : Thread Cert.ReferenceAttnBwdIdeal.nD Cert.ReferenceAttnBwdIdeal.τ).loc Cert.ReferenceAttnBwdIdeal.main_arg1))).2 = (fun _ => 1#1)

def Pre_KernelAttnFwd (m : (ℓ : Loc Cert.KernelAttnFwd.nD Cert.KernelAttnFwd.τ Cert.KernelAttnFwd.sig) → Buf (Elt Bits) ℓ) : Prop :=
  True

def Pre_KernelAttnFwdIdeal (m : (ℓ : Loc Cert.KernelAttnFwdIdeal.nD Cert.KernelAttnFwdIdeal.τ Cert.KernelAttnFwdIdeal.sig) → Buf (Elt Ideal) ℓ) : Prop :=
  True

def Pre_KernelAttnFwdIdeal_finite_proj [hPre_finite_proj : Cert.Pre_finite_proj.Facts] (m : (ℓ : Loc Cert.KernelAttnFwdIdeal.nD Cert.KernelAttnFwdIdeal.τ Cert.KernelAttnFwdIdeal.sig) → Buf (Elt Ideal) ℓ) : Prop :=
  ∀ c : Dev Cert.KernelAttnFwdIdeal.nD,
    (Cert.Pre_finite_proj.fn (F := Ideal) (m ((c.tc : Thread Cert.KernelAttnFwdIdeal.nD Cert.KernelAttnFwdIdeal.τ).loc Cert.KernelAttnFwdIdeal.main_arg0))) = (fun _ => 1#1)

def Pre_ReferenceAttnFwdIdeal (m : (ℓ : Loc Cert.ReferenceAttnFwdIdeal.nD Cert.ReferenceAttnFwdIdeal.τ Cert.ReferenceAttnFwdIdeal.sig) → Buf (Elt Ideal) ℓ) : Prop :=
  True

def Pre_ReferenceAttnFwdIdeal_finite_proj [hPre_finite_proj : Cert.Pre_finite_proj.Facts] (m : (ℓ : Loc Cert.ReferenceAttnFwdIdeal.nD Cert.ReferenceAttnFwdIdeal.τ Cert.ReferenceAttnFwdIdeal.sig) → Buf (Elt Ideal) ℓ) : Prop :=
  ∀ c : Dev Cert.ReferenceAttnFwdIdeal.nD,
    (Cert.Pre_finite_proj.fn (F := Ideal) (m ((c.tc : Thread Cert.ReferenceAttnFwdIdeal.nD Cert.ReferenceAttnFwdIdeal.τ).loc Cert.ReferenceAttnFwdIdeal.main_arg0))) = (fun _ => 1#1)

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelRelu2 (m : (ℓ : Loc Cert.KernelRelu2.nD Cert.KernelRelu2.τ Cert.KernelRelu2.sig) → Buf (Elt Bits) ℓ) : Prop :=
  True

def Pre_KernelRelu2Ideal (m : (ℓ : Loc Cert.KernelRelu2Ideal.nD Cert.KernelRelu2Ideal.τ Cert.KernelRelu2Ideal.sig) → Buf (Elt Ideal) ℓ) : Prop :=
  True

def Pre_ReferenceRelu2Ideal (m : (ℓ : Loc Cert.ReferenceRelu2Ideal.nD Cert.ReferenceRelu2Ideal.τ Cert.ReferenceRelu2Ideal.sig) → Buf (Elt Ideal) ℓ) : Prop :=
  True

def Pre_KernelPost (m : (ℓ : Loc Cert.KernelPost.nD Cert.KernelPost.τ Cert.KernelPost.sig) → Buf (Elt Bits) ℓ) : Prop :=
  True

def Pre_KernelPostIdeal (m : (ℓ : Loc Cert.KernelPostIdeal.nD Cert.KernelPostIdeal.τ Cert.KernelPostIdeal.sig) → Buf (Elt Ideal) ℓ) : Prop :=
  True

def Pre_KernelPostIdeal_finite_post [hPre_finite_post : Cert.Pre_finite_post.Facts] (m : (ℓ : Loc Cert.KernelPostIdeal.nD Cert.KernelPostIdeal.τ Cert.KernelPostIdeal.sig) → Buf (Elt Ideal) ℓ) : Prop :=
  ∀ c : Dev Cert.KernelPostIdeal.nD,
    (Cert.Pre_finite_post.fn (F := Ideal) (m ((c.tc : Thread Cert.KernelPostIdeal.nD Cert.KernelPostIdeal.τ).loc Cert.KernelPostIdeal.main_arg0)) (m ((c.tc : Thread Cert.KernelPostIdeal.nD Cert.KernelPostIdeal.τ).loc Cert.KernelPostIdeal.main_arg1)) (m ((c.tc : Thread Cert.KernelPostIdeal.nD Cert.KernelPostIdeal.τ).loc Cert.KernelPostIdeal.main_arg2)) (m ((c.tc : Thread Cert.KernelPostIdeal.nD Cert.KernelPostIdeal.τ).loc Cert.KernelPostIdeal.main_arg3))).1 = (fun _ => 1#1)
    ∧ (Cert.Pre_finite_post.fn (F := Ideal) (m ((c.tc : Thread Cert.KernelPostIdeal.nD Cert.KernelPostIdeal.τ).loc Cert.KernelPostIdeal.main_arg0)) (m ((c.tc : Thread Cert.KernelPostIdeal.nD Cert.KernelPostIdeal.τ).loc Cert.KernelPostIdeal.main_arg1)) (m ((c.tc : Thread Cert.KernelPostIdeal.nD Cert.KernelPostIdeal.τ).loc Cert.KernelPostIdeal.main_arg2)) (m ((c.tc : Thread Cert.KernelPostIdeal.nD Cert.KernelPostIdeal.τ).loc Cert.KernelPostIdeal.main_arg3))).2.1 = (fun _ => 1#1)
    ∧ (Cert.Pre_finite_post.fn (F := Ideal) (m ((c.tc : Thread Cert.KernelPostIdeal.nD Cert.KernelPostIdeal.τ).loc Cert.KernelPostIdeal.main_arg0)) (m ((c.tc : Thread Cert.KernelPostIdeal.nD Cert.KernelPostIdeal.τ).loc Cert.KernelPostIdeal.main_arg1)) (m ((c.tc : Thread Cert.KernelPostIdeal.nD Cert.KernelPostIdeal.τ).loc Cert.KernelPostIdeal.main_arg2)) (m ((c.tc : Thread Cert.KernelPostIdeal.nD Cert.KernelPostIdeal.τ).loc Cert.KernelPostIdeal.main_arg3))).2.2 = (fun _ => 1#1)

def Pre_ReferencePostIdeal (m : (ℓ : Loc Cert.ReferencePostIdeal.nD Cert.ReferencePostIdeal.τ Cert.ReferencePostIdeal.sig) → Buf (Elt Ideal) ℓ) : Prop :=
  True

def Pre_ReferencePostIdeal_finite_post [hPre_finite_post : Cert.Pre_finite_post.Facts] (m : (ℓ : Loc Cert.ReferencePostIdeal.nD Cert.ReferencePostIdeal.τ Cert.ReferencePostIdeal.sig) → Buf (Elt Ideal) ℓ) : Prop :=
  ∀ c : Dev Cert.ReferencePostIdeal.nD,
    (Cert.Pre_finite_post.fn (F := Ideal) (m ((c.tc : Thread Cert.ReferencePostIdeal.nD Cert.ReferencePostIdeal.τ).loc Cert.ReferencePostIdeal.main_arg0)) (m ((c.tc : Thread Cert.ReferencePostIdeal.nD Cert.ReferencePostIdeal.τ).loc Cert.ReferencePostIdeal.main_arg1)) (m ((c.tc : Thread Cert.ReferencePostIdeal.nD Cert.ReferencePostIdeal.τ).loc Cert.ReferencePostIdeal.main_arg2)) (m ((c.tc : Thread Cert.ReferencePostIdeal.nD Cert.ReferencePostIdeal.τ).loc Cert.ReferencePostIdeal.main_arg3))).1 = (fun _ => 1#1)
    ∧ (Cert.Pre_finite_post.fn (F := Ideal) (m ((c.tc : Thread Cert.ReferencePostIdeal.nD Cert.ReferencePostIdeal.τ).loc Cert.ReferencePostIdeal.main_arg0)) (m ((c.tc : Thread Cert.ReferencePostIdeal.nD Cert.ReferencePostIdeal.τ).loc Cert.ReferencePostIdeal.main_arg1)) (m ((c.tc : Thread Cert.ReferencePostIdeal.nD Cert.ReferencePostIdeal.τ).loc Cert.ReferencePostIdeal.main_arg2)) (m ((c.tc : Thread Cert.ReferencePostIdeal.nD Cert.ReferencePostIdeal.τ).loc Cert.ReferencePostIdeal.main_arg3))).2.1 = (fun _ => 1#1)
    ∧ (Cert.Pre_finite_post.fn (F := Ideal) (m ((c.tc : Thread Cert.ReferencePostIdeal.nD Cert.ReferencePostIdeal.τ).loc Cert.ReferencePostIdeal.main_arg0)) (m ((c.tc : Thread Cert.ReferencePostIdeal.nD Cert.ReferencePostIdeal.τ).loc Cert.ReferencePostIdeal.main_arg1)) (m ((c.tc : Thread Cert.ReferencePostIdeal.nD Cert.ReferencePostIdeal.τ).loc Cert.ReferencePostIdeal.main_arg2)) (m ((c.tc : Thread Cert.ReferencePostIdeal.nD Cert.ReferencePostIdeal.τ).loc Cert.ReferencePostIdeal.main_arg3))).2.2 = (fun _ => 1#1)

def Pre_KernelPre (m : (ℓ : Loc Cert.KernelPre.nD Cert.KernelPre.τ Cert.KernelPre.sig) → Buf (Elt Bits) ℓ) : Prop :=
  True

def Pre_KernelPreIdeal (m : (ℓ : Loc Cert.KernelPreIdeal.nD Cert.KernelPreIdeal.τ Cert.KernelPreIdeal.sig) → Buf (Elt Ideal) ℓ) : Prop :=
  True

def Pre_KernelPreIdeal_finite_pre [hPre_finite_pre : Cert.Pre_finite_pre.Facts] (m : (ℓ : Loc Cert.KernelPreIdeal.nD Cert.KernelPreIdeal.τ Cert.KernelPreIdeal.sig) → Buf (Elt Ideal) ℓ) : Prop :=
  ∀ c : Dev Cert.KernelPreIdeal.nD,
    (Cert.Pre_finite_pre.fn (F := Ideal) (m ((c.tc : Thread Cert.KernelPreIdeal.nD Cert.KernelPreIdeal.τ).loc Cert.KernelPreIdeal.main_arg0)) (m ((c.tc : Thread Cert.KernelPreIdeal.nD Cert.KernelPreIdeal.τ).loc Cert.KernelPreIdeal.main_arg1)) (m ((c.tc : Thread Cert.KernelPreIdeal.nD Cert.KernelPreIdeal.τ).loc Cert.KernelPreIdeal.main_arg2)) (m ((c.tc : Thread Cert.KernelPreIdeal.nD Cert.KernelPreIdeal.τ).loc Cert.KernelPreIdeal.main_arg3)) (m ((c.tc : Thread Cert.KernelPreIdeal.nD Cert.KernelPreIdeal.τ).loc Cert.KernelPreIdeal.main_arg4))).1 = (fun _ => 1#1)
    ∧ (Cert.Pre_finite_pre.fn (F := Ideal) (m ((c.tc : Thread Cert.KernelPreIdeal.nD Cert.KernelPreIdeal.τ).loc Cert.KernelPreIdeal.main_arg0)) (m ((c.tc : Thread Cert.KernelPreIdeal.nD Cert.KernelPreIdeal.τ).loc Cert.KernelPreIdeal.main_arg1)) (m ((c.tc : Thread Cert.KernelPreIdeal.nD Cert.KernelPreIdeal.τ).loc Cert.KernelPreIdeal.main_arg2)) (m ((c.tc : Thread Cert.KernelPreIdeal.nD Cert.KernelPreIdeal.τ).loc Cert.KernelPreIdeal.main_arg3)) (m ((c.tc : Thread Cert.KernelPreIdeal.nD Cert.KernelPreIdeal.τ).loc Cert.KernelPreIdeal.main_arg4))).2.1 = (fun _ => 1#1)
    ∧ (Cert.Pre_finite_pre.fn (F := Ideal) (m ((c.tc : Thread Cert.KernelPreIdeal.nD Cert.KernelPreIdeal.τ).loc Cert.KernelPreIdeal.main_arg0)) (m ((c.tc : Thread Cert.KernelPreIdeal.nD Cert.KernelPreIdeal.τ).loc Cert.KernelPreIdeal.main_arg1)) (m ((c.tc : Thread Cert.KernelPreIdeal.nD Cert.KernelPreIdeal.τ).loc Cert.KernelPreIdeal.main_arg2)) (m ((c.tc : Thread Cert.KernelPreIdeal.nD Cert.KernelPreIdeal.τ).loc Cert.KernelPreIdeal.main_arg3)) (m ((c.tc : Thread Cert.KernelPreIdeal.nD Cert.KernelPreIdeal.τ).loc Cert.KernelPreIdeal.main_arg4))).2.2 = (fun _ => 1#1)

def Pre_ReferencePreIdeal (m : (ℓ : Loc Cert.ReferencePreIdeal.nD Cert.ReferencePreIdeal.τ Cert.ReferencePreIdeal.sig) → Buf (Elt Ideal) ℓ) : Prop :=
  True

def Pre_ReferencePreIdeal_finite_pre [hPre_finite_pre : Cert.Pre_finite_pre.Facts] (m : (ℓ : Loc Cert.ReferencePreIdeal.nD Cert.ReferencePreIdeal.τ Cert.ReferencePreIdeal.sig) → Buf (Elt Ideal) ℓ) : Prop :=
  ∀ c : Dev Cert.ReferencePreIdeal.nD,
    (Cert.Pre_finite_pre.fn (F := Ideal) (m ((c.tc : Thread Cert.ReferencePreIdeal.nD Cert.ReferencePreIdeal.τ).loc Cert.ReferencePreIdeal.main_arg0)) (m ((c.tc : Thread Cert.ReferencePreIdeal.nD Cert.ReferencePreIdeal.τ).loc Cert.ReferencePreIdeal.main_arg1)) (m ((c.tc : Thread Cert.ReferencePreIdeal.nD Cert.ReferencePreIdeal.τ).loc Cert.ReferencePreIdeal.main_arg2)) (m ((c.tc : Thread Cert.ReferencePreIdeal.nD Cert.ReferencePreIdeal.τ).loc Cert.ReferencePreIdeal.main_arg3)) (m ((c.tc : Thread Cert.ReferencePreIdeal.nD Cert.ReferencePreIdeal.τ).loc Cert.ReferencePreIdeal.main_arg4))).1 = (fun _ => 1#1)
    ∧ (Cert.Pre_finite_pre.fn (F := Ideal) (m ((c.tc : Thread Cert.ReferencePreIdeal.nD Cert.ReferencePreIdeal.τ).loc Cert.ReferencePreIdeal.main_arg0)) (m ((c.tc : Thread Cert.ReferencePreIdeal.nD Cert.ReferencePreIdeal.τ).loc Cert.ReferencePreIdeal.main_arg1)) (m ((c.tc : Thread Cert.ReferencePreIdeal.nD Cert.ReferencePreIdeal.τ).loc Cert.ReferencePreIdeal.main_arg2)) (m ((c.tc : Thread Cert.ReferencePreIdeal.nD Cert.ReferencePreIdeal.τ).loc Cert.ReferencePreIdeal.main_arg3)) (m ((c.tc : Thread Cert.ReferencePreIdeal.nD Cert.ReferencePreIdeal.τ).loc Cert.ReferencePreIdeal.main_arg4))).2.1 = (fun _ => 1#1)
    ∧ (Cert.Pre_finite_pre.fn (F := Ideal) (m ((c.tc : Thread Cert.ReferencePreIdeal.nD Cert.ReferencePreIdeal.τ).loc Cert.ReferencePreIdeal.main_arg0)) (m ((c.tc : Thread Cert.ReferencePreIdeal.nD Cert.ReferencePreIdeal.τ).loc Cert.ReferencePreIdeal.main_arg1)) (m ((c.tc : Thread Cert.ReferencePreIdeal.nD Cert.ReferencePreIdeal.τ).loc Cert.ReferencePreIdeal.main_arg2)) (m ((c.tc : Thread Cert.ReferencePreIdeal.nD Cert.ReferencePreIdeal.τ).loc Cert.ReferencePreIdeal.main_arg3)) (m ((c.tc : Thread Cert.ReferencePreIdeal.nD Cert.ReferencePreIdeal.τ).loc Cert.ReferencePreIdeal.main_arg4))).2.2 = (fun _ => 1#1)

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def Pre_KernelGateFwd (m : (ℓ : Loc Cert.KernelGateFwd.nD Cert.KernelGateFwd.τ Cert.KernelGateFwd.sig) → Buf (Elt Bits) ℓ) : Prop :=
  True

def Pre_KernelGateFwdIdeal (m : (ℓ : Loc Cert.KernelGateFwdIdeal.nD Cert.KernelGateFwdIdeal.τ Cert.KernelGateFwdIdeal.sig) → Buf (Elt Ideal) ℓ) : Prop :=
  True

def Pre_ReferenceGateFwdIdeal (m : (ℓ : Loc Cert.ReferenceGateFwdIdeal.nD Cert.ReferenceGateFwdIdeal.τ Cert.ReferenceGateFwdIdeal.sig) → Buf (Elt Ideal) ℓ) : Prop :=
  True

def Pre_KernelConvFwd (m : (ℓ : Loc Cert.KernelConvFwd.nD Cert.KernelConvFwd.τ Cert.KernelConvFwd.sig) → Buf (Elt Bits) ℓ) : Prop :=
  True

def Pre_KernelConvFwdIdeal (m : (ℓ : Loc Cert.KernelConvFwdIdeal.nD Cert.KernelConvFwdIdeal.τ Cert.KernelConvFwdIdeal.sig) → Buf (Elt Ideal) ℓ) : Prop :=
  True

def Pre_ReferenceConvFwdIdeal (m : (ℓ : Loc Cert.ReferenceConvFwdIdeal.nD Cert.ReferenceConvFwdIdeal.τ Cert.ReferenceConvFwdIdeal.sig) → Buf (Elt Ideal) ℓ) : Prop :=
  True

def Pre_KernelPreFwd (m : (ℓ : Loc Cert.KernelPreFwd.nD Cert.KernelPreFwd.τ Cert.KernelPreFwd.sig) → Buf (Elt Bits) ℓ) : Prop :=
  True

def Pre_KernelPreFwdIdeal (m : (ℓ : Loc Cert.KernelPreFwdIdeal.nD Cert.KernelPreFwdIdeal.τ Cert.KernelPreFwdIdeal.sig) → Buf (Elt Ideal) ℓ) : Prop :=
  True

def Pre_ReferencePreFwdIdeal (m : (ℓ : Loc Cert.ReferencePreFwdIdeal.nD Cert.ReferencePreFwdIdeal.τ Cert.ReferencePreFwdIdeal.sig) → Buf (Elt Ideal) ℓ) : Prop :=
  True

def Pre_KernelPostFwd (m : (ℓ : Loc Cert.KernelPostFwd.nD Cert.KernelPostFwd.τ Cert.KernelPostFwd.sig) → Buf (Elt Bits) ℓ) : Prop :=
  True

def Pre_KernelPostFwdIdeal (m : (ℓ : Loc Cert.KernelPostFwdIdeal.nD Cert.KernelPostFwdIdeal.τ Cert.KernelPostFwdIdeal.sig) → Buf (Elt Ideal) ℓ) : Prop :=
  True

def Pre_ReferencePostFwdIdeal (m : (ℓ : Loc Cert.ReferencePostFwdIdeal.nD Cert.ReferencePostFwdIdeal.τ Cert.ReferencePostFwdIdeal.sig) → Buf (Elt Ideal) ℓ) : Prop :=
  True

def Pre_KernelRelu2Fwd (m : (ℓ : Loc Cert.KernelRelu2Fwd.nD Cert.KernelRelu2Fwd.τ Cert.KernelRelu2Fwd.sig) → Buf (Elt Bits) ℓ) : Prop :=
  True

def Pre_KernelRelu2FwdIdeal (m : (ℓ : Loc Cert.KernelRelu2FwdIdeal.nD Cert.KernelRelu2FwdIdeal.τ Cert.KernelRelu2FwdIdeal.sig) → Buf (Elt Ideal) ℓ) : Prop :=
  True

def Pre_ReferenceRelu2FwdIdeal (m : (ℓ : Loc Cert.ReferenceRelu2FwdIdeal.nD Cert.ReferenceRelu2FwdIdeal.τ Cert.ReferenceRelu2FwdIdeal.sig) → Buf (Elt Ideal) ℓ) : Prop :=
  True

def Pre_KernelAdam (m : (ℓ : Loc Cert.KernelAdam.nD Cert.KernelAdam.τ Cert.KernelAdam.sig) → Buf (Elt Bits) ℓ) : Prop :=
  True

def Pre_KernelAdamIdeal (m : (ℓ : Loc Cert.KernelAdamIdeal.nD Cert.KernelAdamIdeal.τ Cert.KernelAdamIdeal.sig) → Buf (Elt Ideal) ℓ) : Prop :=
  True

def Pre_ReferenceAdamIdeal (m : (ℓ : Loc Cert.ReferenceAdamIdeal.nD Cert.ReferenceAdamIdeal.τ Cert.ReferenceAdamIdeal.sig) → Buf (Elt Ideal) ℓ) : Prop :=
  True

def Pre_KernelProduct (m : (ℓ : Loc Cert.KernelProduct.nD Cert.KernelProduct.τ Cert.KernelProduct.sig) → Buf (Elt Bits) ℓ) : Prop :=
  True

def Pre_KernelProductIdeal (m : (ℓ : Loc Cert.KernelProductIdeal.nD Cert.KernelProductIdeal.τ Cert.KernelProductIdeal.sig) → Buf (Elt Ideal) ℓ) : Prop :=
  True

def Pre_ReferenceProductIdeal (m : (ℓ : Loc Cert.ReferenceProductIdeal.nD Cert.ReferenceProductIdeal.τ Cert.ReferenceProductIdeal.sig) → Buf (Elt Ideal) ℓ) : Prop :=
  True

def quiescent_KernelAttnBwd [hKernelAttnBwd : Cert.KernelAttnBwd.Facts] : Prop :=
  ∀ (m : (ℓ : Loc Cert.KernelAttnBwd.nD Cert.KernelAttnBwd.τ Cert.KernelAttnBwd.sig) → Buf (Elt Bits) ℓ) (g : Dev Cert.KernelAttnBwd.nD → PrngReg), Pre_KernelAttnBwd m →
    θ_run (Cert.KernelAttnBwd.defs (F := Bits)) (onTc (τ := Cert.KernelAttnBwd.τ) (Cert.KernelAttnBwd.main (F := Bits))) ⟨m, fun _ => 0, g⟩ (fun r => (∀ c : Dev Cert.KernelAttnBwd.nD,
      r.2.mem ((c.tc : Thread Cert.KernelAttnBwd.nD Cert.KernelAttnBwd.τ).loc Cert.KernelAttnBwd.main_arg0) = m ((c.tc : Thread Cert.KernelAttnBwd.nD Cert.KernelAttnBwd.τ).loc Cert.KernelAttnBwd.main_arg0)
      ∧ r.2.mem ((c.tc : Thread Cert.KernelAttnBwd.nD Cert.KernelAttnBwd.τ).loc Cert.KernelAttnBwd.main_arg1) = m ((c.tc : Thread Cert.KernelAttnBwd.nD Cert.KernelAttnBwd.τ).loc Cert.KernelAttnBwd.main_arg1))
      ∧ r.2.sem = fun _ => 0)

def quiescent_KernelAttnBwdIdeal [hKernelAttnBwdIdeal : Cert.KernelAttnBwdIdeal.Facts] : Prop :=
  ∀ (m : (ℓ : Loc Cert.KernelAttnBwdIdeal.nD Cert.KernelAttnBwdIdeal.τ Cert.KernelAttnBwdIdeal.sig) → Buf (Elt Ideal) ℓ) (g : Dev Cert.KernelAttnBwdIdeal.nD → PrngReg), Pre_KernelAttnBwdIdeal m →
    θ_run (Cert.KernelAttnBwdIdeal.defs (F := Ideal)) (onTc (τ := Cert.KernelAttnBwdIdeal.τ) (Cert.KernelAttnBwdIdeal.main (F := Ideal))) ⟨m, fun _ => 0, g⟩ (fun r => (∀ c : Dev Cert.KernelAttnBwdIdeal.nD,
      r.2.mem ((c.tc : Thread Cert.KernelAttnBwdIdeal.nD Cert.KernelAttnBwdIdeal.τ).loc Cert.KernelAttnBwdIdeal.main_arg0) = m ((c.tc : Thread Cert.KernelAttnBwdIdeal.nD Cert.KernelAttnBwdIdeal.τ).loc Cert.KernelAttnBwdIdeal.main_arg0)
      ∧ r.2.mem ((c.tc : Thread Cert.KernelAttnBwdIdeal.nD Cert.KernelAttnBwdIdeal.τ).loc Cert.KernelAttnBwdIdeal.main_arg1) = m ((c.tc : Thread Cert.KernelAttnBwdIdeal.nD Cert.KernelAttnBwdIdeal.τ).loc Cert.KernelAttnBwdIdeal.main_arg1))
      ∧ r.2.sem = fun _ => 0)

def quiescent_KernelAttnBwdIdeal_pre_finite_proj_do [hKernelAttnBwdIdeal : Cert.KernelAttnBwdIdeal.Facts] [hPre_finite_proj_do : Cert.Pre_finite_proj_do.Facts] : Prop :=
  ∀ (m : (ℓ : Loc Cert.KernelAttnBwdIdeal.nD Cert.KernelAttnBwdIdeal.τ Cert.KernelAttnBwdIdeal.sig) → Buf (Elt Ideal) ℓ) (g : Dev Cert.KernelAttnBwdIdeal.nD → PrngReg), Pre_KernelAttnBwdIdeal_finite_proj_do m →
    θ_run (Cert.KernelAttnBwdIdeal.defs (F := Ideal)) (onTc (τ := Cert.KernelAttnBwdIdeal.τ) (Cert.KernelAttnBwdIdeal.main (F := Ideal))) ⟨m, fun _ => 0, g⟩ (fun r => (∀ c : Dev Cert.KernelAttnBwdIdeal.nD,
      r.2.mem ((c.tc : Thread Cert.KernelAttnBwdIdeal.nD Cert.KernelAttnBwdIdeal.τ).loc Cert.KernelAttnBwdIdeal.main_arg0) = m ((c.tc : Thread Cert.KernelAttnBwdIdeal.nD Cert.KernelAttnBwdIdeal.τ).loc Cert.KernelAttnBwdIdeal.main_arg0)
      ∧ r.2.mem ((c.tc : Thread Cert.KernelAttnBwdIdeal.nD Cert.KernelAttnBwdIdeal.τ).loc Cert.KernelAttnBwdIdeal.main_arg1) = m ((c.tc : Thread Cert.KernelAttnBwdIdeal.nD Cert.KernelAttnBwdIdeal.τ).loc Cert.KernelAttnBwdIdeal.main_arg1))
      ∧ r.2.sem = fun _ => 0)

def quiescent_ReferenceAttnBwdIdeal [hReferenceAttnBwdIdeal : Cert.ReferenceAttnBwdIdeal.Facts] : Prop :=
  ∀ (m : (ℓ : Loc Cert.ReferenceAttnBwdIdeal.nD Cert.ReferenceAttnBwdIdeal.τ Cert.ReferenceAttnBwdIdeal.sig) → Buf (Elt Ideal) ℓ) (g : Dev Cert.ReferenceAttnBwdIdeal.nD → PrngReg), Pre_ReferenceAttnBwdIdeal m →
    θ_run (Cert.ReferenceAttnBwdIdeal.defs (F := Ideal)) (onTc (τ := Cert.ReferenceAttnBwdIdeal.τ) (Cert.ReferenceAttnBwdIdeal.main (F := Ideal))) ⟨m, fun _ => 0, g⟩ (fun r => (∀ c : Dev Cert.ReferenceAttnBwdIdeal.nD,
      r.2.mem ((c.tc : Thread Cert.ReferenceAttnBwdIdeal.nD Cert.ReferenceAttnBwdIdeal.τ).loc Cert.ReferenceAttnBwdIdeal.main_arg0) = m ((c.tc : Thread Cert.ReferenceAttnBwdIdeal.nD Cert.ReferenceAttnBwdIdeal.τ).loc Cert.ReferenceAttnBwdIdeal.main_arg0)
      ∧ r.2.mem ((c.tc : Thread Cert.ReferenceAttnBwdIdeal.nD Cert.ReferenceAttnBwdIdeal.τ).loc Cert.ReferenceAttnBwdIdeal.main_arg1) = m ((c.tc : Thread Cert.ReferenceAttnBwdIdeal.nD Cert.ReferenceAttnBwdIdeal.τ).loc Cert.ReferenceAttnBwdIdeal.main_arg1))
      ∧ r.2.sem = fun _ => 0)

def quiescent_ReferenceAttnBwdIdeal_pre_finite_proj_do [hReferenceAttnBwdIdeal : Cert.ReferenceAttnBwdIdeal.Facts] [hPre_finite_proj_do : Cert.Pre_finite_proj_do.Facts] : Prop :=
  ∀ (m : (ℓ : Loc Cert.ReferenceAttnBwdIdeal.nD Cert.ReferenceAttnBwdIdeal.τ Cert.ReferenceAttnBwdIdeal.sig) → Buf (Elt Ideal) ℓ) (g : Dev Cert.ReferenceAttnBwdIdeal.nD → PrngReg), Pre_ReferenceAttnBwdIdeal_finite_proj_do m →
    θ_run (Cert.ReferenceAttnBwdIdeal.defs (F := Ideal)) (onTc (τ := Cert.ReferenceAttnBwdIdeal.τ) (Cert.ReferenceAttnBwdIdeal.main (F := Ideal))) ⟨m, fun _ => 0, g⟩ (fun r => (∀ c : Dev Cert.ReferenceAttnBwdIdeal.nD,
      r.2.mem ((c.tc : Thread Cert.ReferenceAttnBwdIdeal.nD Cert.ReferenceAttnBwdIdeal.τ).loc Cert.ReferenceAttnBwdIdeal.main_arg0) = m ((c.tc : Thread Cert.ReferenceAttnBwdIdeal.nD Cert.ReferenceAttnBwdIdeal.τ).loc Cert.ReferenceAttnBwdIdeal.main_arg0)
      ∧ r.2.mem ((c.tc : Thread Cert.ReferenceAttnBwdIdeal.nD Cert.ReferenceAttnBwdIdeal.τ).loc Cert.ReferenceAttnBwdIdeal.main_arg1) = m ((c.tc : Thread Cert.ReferenceAttnBwdIdeal.nD Cert.ReferenceAttnBwdIdeal.τ).loc Cert.ReferenceAttnBwdIdeal.main_arg1))
      ∧ r.2.sem = fun _ => 0)

def quiescent_KernelAttnFwd [hKernelAttnFwd : Cert.KernelAttnFwd.Facts] : Prop :=
  ∀ (m : (ℓ : Loc Cert.KernelAttnFwd.nD Cert.KernelAttnFwd.τ Cert.KernelAttnFwd.sig) → Buf (Elt Bits) ℓ) (g : Dev Cert.KernelAttnFwd.nD → PrngReg), Pre_KernelAttnFwd m →
    θ_run (Cert.KernelAttnFwd.defs (F := Bits)) (onTc (τ := Cert.KernelAttnFwd.τ) (Cert.KernelAttnFwd.main (F := Bits))) ⟨m, fun _ => 0, g⟩ (fun r => (∀ c : Dev Cert.KernelAttnFwd.nD,
      r.2.mem ((c.tc : Thread Cert.KernelAttnFwd.nD Cert.KernelAttnFwd.τ).loc Cert.KernelAttnFwd.main_arg0) = m ((c.tc : Thread Cert.KernelAttnFwd.nD Cert.KernelAttnFwd.τ).loc Cert.KernelAttnFwd.main_arg0))
      ∧ r.2.sem = fun _ => 0)

def quiescent_KernelAttnFwdIdeal [hKernelAttnFwdIdeal : Cert.KernelAttnFwdIdeal.Facts] : Prop :=
  ∀ (m : (ℓ : Loc Cert.KernelAttnFwdIdeal.nD Cert.KernelAttnFwdIdeal.τ Cert.KernelAttnFwdIdeal.sig) → Buf (Elt Ideal) ℓ) (g : Dev Cert.KernelAttnFwdIdeal.nD → PrngReg), Pre_KernelAttnFwdIdeal m →
    θ_run (Cert.KernelAttnFwdIdeal.defs (F := Ideal)) (onTc (τ := Cert.KernelAttnFwdIdeal.τ) (Cert.KernelAttnFwdIdeal.main (F := Ideal))) ⟨m, fun _ => 0, g⟩ (fun r => (∀ c : Dev Cert.KernelAttnFwdIdeal.nD,
      r.2.mem ((c.tc : Thread Cert.KernelAttnFwdIdeal.nD Cert.KernelAttnFwdIdeal.τ).loc Cert.KernelAttnFwdIdeal.main_arg0) = m ((c.tc : Thread Cert.KernelAttnFwdIdeal.nD Cert.KernelAttnFwdIdeal.τ).loc Cert.KernelAttnFwdIdeal.main_arg0))
      ∧ r.2.sem = fun _ => 0)

def quiescent_KernelAttnFwdIdeal_pre_finite_proj [hKernelAttnFwdIdeal : Cert.KernelAttnFwdIdeal.Facts] [hPre_finite_proj : Cert.Pre_finite_proj.Facts] : Prop :=
  ∀ (m : (ℓ : Loc Cert.KernelAttnFwdIdeal.nD Cert.KernelAttnFwdIdeal.τ Cert.KernelAttnFwdIdeal.sig) → Buf (Elt Ideal) ℓ) (g : Dev Cert.KernelAttnFwdIdeal.nD → PrngReg), Pre_KernelAttnFwdIdeal_finite_proj m →
    θ_run (Cert.KernelAttnFwdIdeal.defs (F := Ideal)) (onTc (τ := Cert.KernelAttnFwdIdeal.τ) (Cert.KernelAttnFwdIdeal.main (F := Ideal))) ⟨m, fun _ => 0, g⟩ (fun r => (∀ c : Dev Cert.KernelAttnFwdIdeal.nD,
      r.2.mem ((c.tc : Thread Cert.KernelAttnFwdIdeal.nD Cert.KernelAttnFwdIdeal.τ).loc Cert.KernelAttnFwdIdeal.main_arg0) = m ((c.tc : Thread Cert.KernelAttnFwdIdeal.nD Cert.KernelAttnFwdIdeal.τ).loc Cert.KernelAttnFwdIdeal.main_arg0))
      ∧ r.2.sem = fun _ => 0)

def quiescent_ReferenceAttnFwdIdeal [hReferenceAttnFwdIdeal : Cert.ReferenceAttnFwdIdeal.Facts] : Prop :=
  ∀ (m : (ℓ : Loc Cert.ReferenceAttnFwdIdeal.nD Cert.ReferenceAttnFwdIdeal.τ Cert.ReferenceAttnFwdIdeal.sig) → Buf (Elt Ideal) ℓ) (g : Dev Cert.ReferenceAttnFwdIdeal.nD → PrngReg), Pre_ReferenceAttnFwdIdeal m →
    θ_run (Cert.ReferenceAttnFwdIdeal.defs (F := Ideal)) (onTc (τ := Cert.ReferenceAttnFwdIdeal.τ) (Cert.ReferenceAttnFwdIdeal.main (F := Ideal))) ⟨m, fun _ => 0, g⟩ (fun r => (∀ c : Dev Cert.ReferenceAttnFwdIdeal.nD,
      r.2.mem ((c.tc : Thread Cert.ReferenceAttnFwdIdeal.nD Cert.ReferenceAttnFwdIdeal.τ).loc Cert.ReferenceAttnFwdIdeal.main_arg0) = m ((c.tc : Thread Cert.ReferenceAttnFwdIdeal.nD Cert.ReferenceAttnFwdIdeal.τ).loc Cert.ReferenceAttnFwdIdeal.main_arg0))
      ∧ r.2.sem = fun _ => 0)

def quiescent_ReferenceAttnFwdIdeal_pre_finite_proj [hReferenceAttnFwdIdeal : Cert.ReferenceAttnFwdIdeal.Facts] [hPre_finite_proj : Cert.Pre_finite_proj.Facts] : Prop :=
  ∀ (m : (ℓ : Loc Cert.ReferenceAttnFwdIdeal.nD Cert.ReferenceAttnFwdIdeal.τ Cert.ReferenceAttnFwdIdeal.sig) → Buf (Elt Ideal) ℓ) (g : Dev Cert.ReferenceAttnFwdIdeal.nD → PrngReg), Pre_ReferenceAttnFwdIdeal_finite_proj m →
    θ_run (Cert.ReferenceAttnFwdIdeal.defs (F := Ideal)) (onTc (τ := Cert.ReferenceAttnFwdIdeal.τ) (Cert.ReferenceAttnFwdIdeal.main (F := Ideal))) ⟨m, fun _ => 0, g⟩ (fun r => (∀ c : Dev Cert.ReferenceAttnFwdIdeal.nD,
      r.2.mem ((c.tc : Thread Cert.ReferenceAttnFwdIdeal.nD Cert.ReferenceAttnFwdIdeal.τ).loc Cert.ReferenceAttnFwdIdeal.main_arg0) = m ((c.tc : Thread Cert.ReferenceAttnFwdIdeal.nD Cert.ReferenceAttnFwdIdeal.τ).loc Cert.ReferenceAttnFwdIdeal.main_arg0))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1)
      ∧ r.2.mem ((c.tc : Thread Cert.KernelGate.nD Cert.KernelGate.τ).loc Cert.KernelGate.main_arg2) = m ((c.tc : Thread Cert.KernelGate.nD Cert.KernelGate.τ).loc Cert.KernelGate.main_arg2)
      ∧ r.2.mem ((c.tc : Thread Cert.KernelGate.nD Cert.KernelGate.τ).loc Cert.KernelGate.main_arg3) = m ((c.tc : Thread Cert.KernelGate.nD Cert.KernelGate.τ).loc Cert.KernelGate.main_arg3))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
      ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2)
      ∧ r.2.mem ((c.tc : Thread Cert.ReferenceGateIdeal.nD Cert.ReferenceGateIdeal.τ).loc Cert.ReferenceGateIdeal.main_arg3) = m ((c.tc : Thread Cert.ReferenceGateIdeal.nD Cert.ReferenceGateIdeal.τ).loc Cert.ReferenceGateIdeal.main_arg3))
      ∧ r.2.sem = fun _ => 0)

def quiescent_KernelRelu2 [hKernelRelu2 : Cert.KernelRelu2.Facts] : Prop :=
  ∀ (m : (ℓ : Loc Cert.KernelRelu2.nD Cert.KernelRelu2.τ Cert.KernelRelu2.sig) → Buf (Elt Bits) ℓ) (g : Dev Cert.KernelRelu2.nD → PrngReg), Pre_KernelRelu2 m →
    θ_run (Cert.KernelRelu2.defs (F := Bits)) (onTc (τ := Cert.KernelRelu2.τ) (Cert.KernelRelu2.main (F := Bits))) ⟨m, fun _ => 0, g⟩ (fun r => (∀ c : Dev Cert.KernelRelu2.nD,
      r.2.mem ((c.tc : Thread Cert.KernelRelu2.nD Cert.KernelRelu2.τ).loc Cert.KernelRelu2.main_arg0) = m ((c.tc : Thread Cert.KernelRelu2.nD Cert.KernelRelu2.τ).loc Cert.KernelRelu2.main_arg0)
      ∧ r.2.mem ((c.tc : Thread Cert.KernelRelu2.nD Cert.KernelRelu2.τ).loc Cert.KernelRelu2.main_arg1) = m ((c.tc : Thread Cert.KernelRelu2.nD Cert.KernelRelu2.τ).loc Cert.KernelRelu2.main_arg1)
      ∧ r.2.mem ((c.tc : Thread Cert.KernelRelu2.nD Cert.KernelRelu2.τ).loc Cert.KernelRelu2.main_arg2) = m ((c.tc : Thread Cert.KernelRelu2.nD Cert.KernelRelu2.τ).loc Cert.KernelRelu2.main_arg2))
      ∧ r.2.sem = fun _ => 0)

def quiescent_KernelRelu2Ideal [hKernelRelu2Ideal : Cert.KernelRelu2Ideal.Facts] : Prop :=
  ∀ (m : (ℓ : Loc Cert.KernelRelu2Ideal.nD Cert.KernelRelu2Ideal.τ Cert.KernelRelu2Ideal.sig) → Buf (Elt Ideal) ℓ) (g : Dev Cert.KernelRelu2Ideal.nD → PrngReg), Pre_KernelRelu2Ideal m →
    θ_run (Cert.KernelRelu2Ideal.defs (F := Ideal)) (onTc (τ := Cert.KernelRelu2Ideal.τ) (Cert.KernelRelu2Ideal.main (F := Ideal))) ⟨m, fun _ => 0, g⟩ (fun r => (∀ c : Dev Cert.KernelRelu2Ideal.nD,
      r.2.mem ((c.tc : Thread Cert.KernelRelu2Ideal.nD Cert.KernelRelu2Ideal.τ).loc Cert.KernelRelu2Ideal.main_arg0) = m ((c.tc : Thread Cert.KernelRelu2Ideal.nD Cert.KernelRelu2Ideal.τ).loc Cert.KernelRelu2Ideal.main_arg0)
      ∧ r.2.mem ((c.tc : Thread Cert.KernelRelu2Ideal.nD Cert.KernelRelu2Ideal.τ).loc Cert.KernelRelu2Ideal.main_arg1) = m ((c.tc : Thread Cert.KernelRelu2Ideal.nD Cert.KernelRelu2Ideal.τ).loc Cert.KernelRelu2Ideal.main_arg1)
      ∧ r.2.mem ((c.tc : Thread Cert.KernelRelu2Ideal.nD Cert.KernelRelu2Ideal.τ).loc Cert.KernelRelu2Ideal.main_arg2) = m ((c.tc : Thread Cert.KernelRelu2Ideal.nD Cert.KernelRelu2Ideal.τ).loc Cert.KernelRelu2Ideal.main_arg2))
      ∧ r.2.sem = fun _ => 0)

def quiescent_ReferenceRelu2Ideal [hReferenceRelu2Ideal : Cert.ReferenceRelu2Ideal.Facts] : Prop :=
  ∀ (m : (ℓ : Loc Cert.ReferenceRelu2Ideal.nD Cert.ReferenceRelu2Ideal.τ Cert.ReferenceRelu2Ideal.sig) → Buf (Elt Ideal) ℓ) (g : Dev Cert.ReferenceRelu2Ideal.nD → PrngReg), Pre_ReferenceRelu2Ideal m →
    θ_run (Cert.ReferenceRelu2Ideal.defs (F := Ideal)) (onTc (τ := Cert.ReferenceRelu2Ideal.τ) (Cert.ReferenceRelu2Ideal.main (F := Ideal))) ⟨m, fun _ => 0, g⟩ (fun r => (∀ c : Dev Cert.ReferenceRelu2Ideal.nD,
      r.2.mem ((c.tc : Thread Cert.ReferenceRelu2Ideal.nD Cert.ReferenceRelu2Ideal.τ).loc Cert.ReferenceRelu2Ideal.main_arg0) = m ((c.tc : Thread Cert.ReferenceRelu2Ideal.nD Cert.ReferenceRelu2Ideal.τ).loc Cert.ReferenceRelu2Ideal.main_arg0)
      ∧ r.2.mem ((c.tc : Thread Cert.ReferenceRelu2Ideal.nD Cert.ReferenceRelu2Ideal.τ).loc Cert.ReferenceRelu2Ideal.main_arg1) = m ((c.tc : Thread Cert.ReferenceRelu2Ideal.nD Cert.ReferenceRelu2Ideal.τ).loc Cert.ReferenceRelu2Ideal.main_arg1)
      ∧ r.2.mem ((c.tc : Thread Cert.ReferenceRelu2Ideal.nD Cert.ReferenceRelu2Ideal.τ).loc Cert.ReferenceRelu2Ideal.main_arg2) = m ((c.tc : Thread Cert.ReferenceRelu2Ideal.nD Cert.ReferenceRelu2Ideal.τ).loc Cert.ReferenceRelu2Ideal.main_arg2))
      ∧ r.2.sem = fun _ => 0)

def quiescent_KernelPost [hKernelPost : Cert.KernelPost.Facts] : Prop :=
  ∀ (m : (ℓ : Loc Cert.KernelPost.nD Cert.KernelPost.τ Cert.KernelPost.sig) → Buf (Elt Bits) ℓ) (g : Dev Cert.KernelPost.nD → PrngReg), Pre_KernelPost m →
    θ_run (Cert.KernelPost.defs (F := Bits)) (onTc (τ := Cert.KernelPost.τ) (Cert.KernelPost.main (F := Bits))) ⟨m, fun _ => 0, g⟩ (fun r => (∀ c : Dev Cert.KernelPost.nD,
      r.2.mem ((c.tc : Thread Cert.KernelPost.nD Cert.KernelPost.τ).loc Cert.KernelPost.main_arg0) = m ((c.tc : Thread Cert.KernelPost.nD Cert.KernelPost.τ).loc Cert.KernelPost.main_arg0)
      ∧ r.2.mem ((c.tc : Thread Cert.KernelPost.nD Cert.KernelPost.τ).loc Cert.KernelPost.main_arg1) = m ((c.tc : Thread Cert.KernelPost.nD Cert.KernelPost.τ).loc Cert.KernelPost.main_arg1)
      ∧ r.2.mem ((c.tc : Thread Cert.KernelPost.nD Cert.KernelPost.τ).loc Cert.KernelPost.main_arg2) = m ((c.tc : Thread Cert.KernelPost.nD Cert.KernelPost.τ).loc Cert.KernelPost.main_arg2)
      ∧ r.2.mem ((c.tc : Thread Cert.KernelPost.nD Cert.KernelPost.τ).loc Cert.KernelPost.main_arg3) = m ((c.tc : Thread Cert.KernelPost.nD Cert.KernelPost.τ).loc Cert.KernelPost.main_arg3))
      ∧ r.2.sem = fun _ => 0)

def quiescent_KernelPostIdeal [hKernelPostIdeal : Cert.KernelPostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg), Pre_KernelPostIdeal m →
    θ_run (Cert.KernelPostIdeal.defs (F := Ideal)) (onTc (τ := Cert.KernelPostIdeal.τ) (Cert.KernelPostIdeal.main (F := Ideal))) ⟨m, fun _ => 0, g⟩ (fun r => (∀ c : Dev Cert.KernelPostIdeal.nD,
      r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
      ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
      ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
      ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3))
      ∧ r.2.sem = fun _ => 0)

def quiescent_KernelPostIdeal_pre_finite_post [hKernelPostIdeal : Cert.KernelPostIdeal.Facts] [hPre_finite_post : Cert.Pre_finite_post.Facts] : Prop :=
  ∀ (m : (ℓ : Loc Cert.KernelPostIdeal.nD Cert.KernelPostIdeal.τ Cert.KernelPostIdeal.sig) → Buf (Elt Ideal) ℓ) (g : Dev Cert.KernelPostIdeal.nD → PrngReg), Pre_KernelPostIdeal_finite_post m →
    θ_run (Cert.KernelPostIdeal.defs (F := Ideal)) (onTc (τ := Cert.KernelPostIdeal.τ) (Cert.KernelPostIdeal.main (F := Ideal))) ⟨m, fun _ => 0, g⟩ (fun r => (∀ c : Dev Cert.KernelPostIdeal.nD,
      r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
      ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
      ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
      ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3))
      ∧ r.2.sem = fun _ => 0)

def quiescent_ReferencePostIdeal [hReferencePostIdeal : Cert.ReferencePostIdeal.Facts] : Prop :=
  ∀ (m : (ℓ : Loc Cert.ReferencePostIdeal.nD Cert.ReferencePostIdeal.τ Cert.ReferencePostIdeal.sig) → Buf (Elt Ideal) ℓ) (g : Dev Cert.ReferencePostIdeal.nD → PrngReg), Pre_ReferencePostIdeal m →
    θ_run (Cert.ReferencePostIdeal.defs (F := Ideal)) (onTc (τ := Cert.ReferencePostIdeal.τ) (Cert.ReferencePostIdeal.main (F := Ideal))) ⟨m, fun _ => 0, g⟩ (fun r => (∀ c : Dev Cert.ReferencePostIdeal.nD,
      r.2.mem ((c.tc : Thread Cert.ReferencePostIdeal.nD Cert.ReferencePostIdeal.τ).loc Cert.ReferencePostIdeal.main_arg0) = m ((c.tc : Thread Cert.ReferencePostIdeal.nD Cert.ReferencePostIdeal.τ).loc Cert.ReferencePostIdeal.main_arg0)
      ∧ r.2.mem ((c.tc : Thread Cert.ReferencePostIdeal.nD Cert.ReferencePostIdeal.τ).loc Cert.ReferencePostIdeal.main_arg1) = m ((c.tc : Thread Cert.ReferencePostIdeal.nD Cert.ReferencePostIdeal.τ).loc Cert.ReferencePostIdeal.main_arg1)
      ∧ r.2.mem ((c.tc : Thread Cert.ReferencePostIdeal.nD Cert.ReferencePostIdeal.τ).loc Cert.ReferencePostIdeal.main_arg2) = m ((c.tc : Thread Cert.ReferencePostIdeal.nD Cert.ReferencePostIdeal.τ).loc Cert.ReferencePostIdeal.main_arg2)
      ∧ r.2.mem ((c.tc : Thread Cert.ReferencePostIdeal.nD Cert.ReferencePostIdeal.τ).loc Cert.ReferencePostIdeal.main_arg3) = m ((c.tc : Thread Cert.ReferencePostIdeal.nD Cert.ReferencePostIdeal.τ).loc Cert.ReferencePostIdeal.main_arg3))
      ∧ r.2.sem = fun _ => 0)

def quiescent_ReferencePostIdeal_pre_finite_post [hReferencePostIdeal : Cert.ReferencePostIdeal.Facts] [hPre_finite_post : Cert.Pre_finite_post.Facts] : Prop :=
  ∀ (m : (ℓ : Loc Cert.ReferencePostIdeal.nD Cert.ReferencePostIdeal.τ Cert.ReferencePostIdeal.sig) → Buf (Elt Ideal) ℓ) (g : Dev Cert.ReferencePostIdeal.nD → PrngReg), Pre_ReferencePostIdeal_finite_post m →
    θ_run (Cert.ReferencePostIdeal.defs (F := Ideal)) (onTc (τ := Cert.ReferencePostIdeal.τ) (Cert.ReferencePostIdeal.main (F := Ideal))) ⟨m, fun _ => 0, g⟩ (fun r => (∀ c : Dev Cert.ReferencePostIdeal.nD,
      r.2.mem ((c.tc : Thread Cert.ReferencePostIdeal.nD Cert.ReferencePostIdeal.τ).loc Cert.ReferencePostIdeal.main_arg0) = m ((c.tc : Thread Cert.ReferencePostIdeal.nD Cert.ReferencePostIdeal.τ).loc Cert.ReferencePostIdeal.main_arg0)
      ∧ r.2.mem ((c.tc : Thread Cert.ReferencePostIdeal.nD Cert.ReferencePostIdeal.τ).loc Cert.ReferencePostIdeal.main_arg1) = m ((c.tc : Thread Cert.ReferencePostIdeal.nD Cert.ReferencePostIdeal.τ).loc Cert.ReferencePostIdeal.main_arg1)
      ∧ r.2.mem ((c.tc : Thread Cert.ReferencePostIdeal.nD Cert.ReferencePostIdeal.τ).loc Cert.ReferencePostIdeal.main_arg2) = m ((c.tc : Thread Cert.ReferencePostIdeal.nD Cert.ReferencePostIdeal.τ).loc Cert.ReferencePostIdeal.main_arg2)
      ∧ r.2.mem ((c.tc : Thread Cert.ReferencePostIdeal.nD Cert.ReferencePostIdeal.τ).loc Cert.ReferencePostIdeal.main_arg3) = m ((c.tc : Thread Cert.ReferencePostIdeal.nD Cert.ReferencePostIdeal.τ).loc Cert.ReferencePostIdeal.main_arg3))
      ∧ r.2.sem = fun _ => 0)

def quiescent_KernelPre [hKernelPre : Cert.KernelPre.Facts] : Prop :=
  ∀ (m : (ℓ : Loc Cert.KernelPre.nD Cert.KernelPre.τ Cert.KernelPre.sig) → Buf (Elt Bits) ℓ) (g : Dev Cert.KernelPre.nD → PrngReg), Pre_KernelPre m →
    θ_run (Cert.KernelPre.defs (F := Bits)) (onTc (τ := Cert.KernelPre.τ) (Cert.KernelPre.main (F := Bits))) ⟨m, fun _ => 0, g⟩ (fun r => (∀ c : Dev Cert.KernelPre.nD,
      r.2.mem ((c.tc : Thread Cert.KernelPre.nD Cert.KernelPre.τ).loc Cert.KernelPre.main_arg0) = m ((c.tc : Thread Cert.KernelPre.nD Cert.KernelPre.τ).loc Cert.KernelPre.main_arg0)
      ∧ r.2.mem ((c.tc : Thread Cert.KernelPre.nD Cert.KernelPre.τ).loc Cert.KernelPre.main_arg1) = m ((c.tc : Thread Cert.KernelPre.nD Cert.KernelPre.τ).loc Cert.KernelPre.main_arg1)
      ∧ r.2.mem ((c.tc : Thread Cert.KernelPre.nD Cert.KernelPre.τ).loc Cert.KernelPre.main_arg2) = m ((c.tc : Thread Cert.KernelPre.nD Cert.KernelPre.τ).loc Cert.KernelPre.main_arg2)
      ∧ r.2.mem ((c.tc : Thread Cert.KernelPre.nD Cert.KernelPre.τ).loc Cert.KernelPre.main_arg3) = m ((c.tc : Thread Cert.KernelPre.nD Cert.KernelPre.τ).loc Cert.KernelPre.main_arg3)
      ∧ r.2.mem ((c.tc : Thread Cert.KernelPre.nD Cert.KernelPre.τ).loc Cert.KernelPre.main_arg4) = m ((c.tc : Thread Cert.KernelPre.nD Cert.KernelPre.τ).loc Cert.KernelPre.main_arg4))
      ∧ r.2.sem = fun _ => 0)

def quiescent_KernelPreIdeal [hKernelPreIdeal : Cert.KernelPreIdeal.Facts] : Prop :=
  ∀ (m : (ℓ : Loc Cert.KernelPreIdeal.nD Cert.KernelPreIdeal.τ Cert.KernelPreIdeal.sig) → Buf (Elt Ideal) ℓ) (g : Dev Cert.KernelPreIdeal.nD → PrngReg), Pre_KernelPreIdeal m →
    θ_run (Cert.KernelPreIdeal.defs (F := Ideal)) (onTc (τ := Cert.KernelPreIdeal.τ) (Cert.KernelPreIdeal.main (F := Ideal))) ⟨m, fun _ => 0, g⟩ (fun r => (∀ c : Dev Cert.KernelPreIdeal.nD,
      r.2.mem ((c.tc : Thread Cert.KernelPreIdeal.nD Cert.KernelPreIdeal.τ).loc Cert.KernelPreIdeal.main_arg0) = m ((c.tc : Thread Cert.KernelPreIdeal.nD Cert.KernelPreIdeal.τ).loc Cert.KernelPreIdeal.main_arg0)
      ∧ r.2.mem ((c.tc : Thread Cert.KernelPreIdeal.nD Cert.KernelPreIdeal.τ).loc Cert.KernelPreIdeal.main_arg1) = m ((c.tc : Thread Cert.KernelPreIdeal.nD Cert.KernelPreIdeal.τ).loc Cert.KernelPreIdeal.main_arg1)
      ∧ r.2.mem ((c.tc : Thread Cert.KernelPreIdeal.nD Cert.KernelPreIdeal.τ).loc Cert.KernelPreIdeal.main_arg2) = m ((c.tc : Thread Cert.KernelPreIdeal.nD Cert.KernelPreIdeal.τ).loc Cert.KernelPreIdeal.main_arg2)
      ∧ r.2.mem ((c.tc : Thread Cert.KernelPreIdeal.nD Cert.KernelPreIdeal.τ).loc Cert.KernelPreIdeal.main_arg3) = m ((c.tc : Thread Cert.KernelPreIdeal.nD Cert.KernelPreIdeal.τ).loc Cert.KernelPreIdeal.main_arg3)
      ∧ r.2.mem ((c.tc : Thread Cert.KernelPreIdeal.nD Cert.KernelPreIdeal.τ).loc Cert.KernelPreIdeal.main_arg4) = m ((c.tc : Thread Cert.KernelPreIdeal.nD Cert.KernelPreIdeal.τ).loc Cert.KernelPreIdeal.main_arg4))
      ∧ r.2.sem = fun _ => 0)

def quiescent_KernelPreIdeal_pre_finite_pre [hKernelPreIdeal : Cert.KernelPreIdeal.Facts] [hPre_finite_pre : Cert.Pre_finite_pre.Facts] : Prop :=
  ∀ (m : (ℓ : Loc Cert.KernelPreIdeal.nD Cert.KernelPreIdeal.τ Cert.KernelPreIdeal.sig) → Buf (Elt Ideal) ℓ) (g : Dev Cert.KernelPreIdeal.nD → PrngReg), Pre_KernelPreIdeal_finite_pre m →
    θ_run (Cert.KernelPreIdeal.defs (F := Ideal)) (onTc (τ := Cert.KernelPreIdeal.τ) (Cert.KernelPreIdeal.main (F := Ideal))) ⟨m, fun _ => 0, g⟩ (fun r => (∀ c : Dev Cert.KernelPreIdeal.nD,
      r.2.mem ((c.tc : Thread Cert.KernelPreIdeal.nD Cert.KernelPreIdeal.τ).loc Cert.KernelPreIdeal.main_arg0) = m ((c.tc : Thread Cert.KernelPreIdeal.nD Cert.KernelPreIdeal.τ).loc Cert.KernelPreIdeal.main_arg0)
      ∧ r.2.mem ((c.tc : Thread Cert.KernelPreIdeal.nD Cert.KernelPreIdeal.τ).loc Cert.KernelPreIdeal.main_arg1) = m ((c.tc : Thread Cert.KernelPreIdeal.nD Cert.KernelPreIdeal.τ).loc Cert.KernelPreIdeal.main_arg1)
      ∧ r.2.mem ((c.tc : Thread Cert.KernelPreIdeal.nD Cert.KernelPreIdeal.τ).loc Cert.KernelPreIdeal.main_arg2) = m ((c.tc : Thread Cert.KernelPreIdeal.nD Cert.KernelPreIdeal.τ).loc Cert.KernelPreIdeal.main_arg2)
      ∧ r.2.mem ((c.tc : Thread Cert.KernelPreIdeal.nD Cert.KernelPreIdeal.τ).loc Cert.KernelPreIdeal.main_arg3) = m ((c.tc : Thread Cert.KernelPreIdeal.nD Cert.KernelPreIdeal.τ).loc Cert.KernelPreIdeal.main_arg3)
      ∧ r.2.mem ((c.tc : Thread Cert.KernelPreIdeal.nD Cert.KernelPreIdeal.τ).loc Cert.KernelPreIdeal.main_arg4) = m ((c.tc : Thread Cert.KernelPreIdeal.nD Cert.KernelPreIdeal.τ).loc Cert.KernelPreIdeal.main_arg4))
      ∧ r.2.sem = fun _ => 0)

def quiescent_ReferencePreIdeal [hReferencePreIdeal : Cert.ReferencePreIdeal.Facts] : Prop :=
  ∀ (m : (ℓ : Loc Cert.ReferencePreIdeal.nD Cert.ReferencePreIdeal.τ Cert.ReferencePreIdeal.sig) → Buf (Elt Ideal) ℓ) (g : Dev Cert.ReferencePreIdeal.nD → PrngReg), Pre_ReferencePreIdeal m →
    θ_run (Cert.ReferencePreIdeal.defs (F := Ideal)) (onTc (τ := Cert.ReferencePreIdeal.τ) (Cert.ReferencePreIdeal.main (F := Ideal))) ⟨m, fun _ => 0, g⟩ (fun r => (∀ c : Dev Cert.ReferencePreIdeal.nD,
      r.2.mem ((c.tc : Thread Cert.ReferencePreIdeal.nD Cert.ReferencePreIdeal.τ).loc Cert.ReferencePreIdeal.main_arg0) = m ((c.tc : Thread Cert.ReferencePreIdeal.nD Cert.ReferencePreIdeal.τ).loc Cert.ReferencePreIdeal.main_arg0)
      ∧ r.2.mem ((c.tc : Thread Cert.ReferencePreIdeal.nD Cert.ReferencePreIdeal.τ).loc Cert.ReferencePreIdeal.main_arg1) = m ((c.tc : Thread Cert.ReferencePreIdeal.nD Cert.ReferencePreIdeal.τ).loc Cert.ReferencePreIdeal.main_arg1)
      ∧ r.2.mem ((c.tc : Thread Cert.ReferencePreIdeal.nD Cert.ReferencePreIdeal.τ).loc Cert.ReferencePreIdeal.main_arg2) = m ((c.tc : Thread Cert.ReferencePreIdeal.nD Cert.ReferencePreIdeal.τ).loc Cert.ReferencePreIdeal.main_arg2)
      ∧ r.2.mem ((c.tc : Thread Cert.ReferencePreIdeal.nD Cert.ReferencePreIdeal.τ).loc Cert.ReferencePreIdeal.main_arg3) = m ((c.tc : Thread Cert.ReferencePreIdeal.nD Cert.ReferencePreIdeal.τ).loc Cert.ReferencePreIdeal.main_arg3)
      ∧ r.2.mem ((c.tc : Thread Cert.ReferencePreIdeal.nD Cert.ReferencePreIdeal.τ).loc Cert.ReferencePreIdeal.main_arg4) = m ((c.tc : Thread Cert.ReferencePreIdeal.nD Cert.ReferencePreIdeal.τ).loc Cert.ReferencePreIdeal.main_arg4))
      ∧ r.2.sem = fun _ => 0)

def quiescent_ReferencePreIdeal_pre_finite_pre [hReferencePreIdeal : Cert.ReferencePreIdeal.Facts] [hPre_finite_pre : Cert.Pre_finite_pre.Facts] : Prop :=
  ∀ (m : (ℓ : Loc Cert.ReferencePreIdeal.nD Cert.ReferencePreIdeal.τ Cert.ReferencePreIdeal.sig) → Buf (Elt Ideal) ℓ) (g : Dev Cert.ReferencePreIdeal.nD → PrngReg), Pre_ReferencePreIdeal_finite_pre m →
    θ_run (Cert.ReferencePreIdeal.defs (F := Ideal)) (onTc (τ := Cert.ReferencePreIdeal.τ) (Cert.ReferencePreIdeal.main (F := Ideal))) ⟨m, fun _ => 0, g⟩ (fun r => (∀ c : Dev Cert.ReferencePreIdeal.nD,
      r.2.mem ((c.tc : Thread Cert.ReferencePreIdeal.nD Cert.ReferencePreIdeal.τ).loc Cert.ReferencePreIdeal.main_arg0) = m ((c.tc : Thread Cert.ReferencePreIdeal.nD Cert.ReferencePreIdeal.τ).loc Cert.ReferencePreIdeal.main_arg0)
      ∧ r.2.mem ((c.tc : Thread Cert.ReferencePreIdeal.nD Cert.ReferencePreIdeal.τ).loc Cert.ReferencePreIdeal.main_arg1) = m ((c.tc : Thread Cert.ReferencePreIdeal.nD Cert.ReferencePreIdeal.τ).loc Cert.ReferencePreIdeal.main_arg1)
      ∧ r.2.mem ((c.tc : Thread Cert.ReferencePreIdeal.nD Cert.ReferencePreIdeal.τ).loc Cert.ReferencePreIdeal.main_arg2) = m ((c.tc : Thread Cert.ReferencePreIdeal.nD Cert.ReferencePreIdeal.τ).loc Cert.ReferencePreIdeal.main_arg2)
      ∧ r.2.mem ((c.tc : Thread Cert.ReferencePreIdeal.nD Cert.ReferencePreIdeal.τ).loc Cert.ReferencePreIdeal.main_arg3) = m ((c.tc : Thread Cert.ReferencePreIdeal.nD Cert.ReferencePreIdeal.τ).loc Cert.ReferencePreIdeal.main_arg3)
      ∧ r.2.mem ((c.tc : Thread Cert.ReferencePreIdeal.nD Cert.ReferencePreIdeal.τ).loc Cert.ReferencePreIdeal.main_arg4) = m ((c.tc : Thread Cert.ReferencePreIdeal.nD Cert.ReferencePreIdeal.τ).loc Cert.ReferencePreIdeal.main_arg4))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1)
      ∧ r.2.mem ((c.tc : Thread Cert.KernelConv.nD Cert.KernelConv.τ).loc Cert.KernelConv.main_arg2) = m ((c.tc : Thread Cert.KernelConv.nD Cert.KernelConv.τ).loc Cert.KernelConv.main_arg2))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
      ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2))
      ∧ r.2.sem = fun _ => 0)

def quiescent_KernelGateFwd [hKernelGateFwd : Cert.KernelGateFwd.Facts] : Prop :=
  ∀ (m : (ℓ : Loc Cert.KernelGateFwd.nD Cert.KernelGateFwd.τ Cert.KernelGateFwd.sig) → Buf (Elt Bits) ℓ) (g : Dev Cert.KernelGateFwd.nD → PrngReg), Pre_KernelGateFwd m →
    θ_run (Cert.KernelGateFwd.defs (F := Bits)) (onTc (τ := Cert.KernelGateFwd.τ) (Cert.KernelGateFwd.main (F := Bits))) ⟨m, fun _ => 0, g⟩ (fun r => (∀ c : Dev Cert.KernelGateFwd.nD,
      r.2.mem ((c.tc : Thread Cert.KernelGateFwd.nD Cert.KernelGateFwd.τ).loc Cert.KernelGateFwd.main_arg0) = m ((c.tc : Thread Cert.KernelGateFwd.nD Cert.KernelGateFwd.τ).loc Cert.KernelGateFwd.main_arg0)
      ∧ r.2.mem ((c.tc : Thread Cert.KernelGateFwd.nD Cert.KernelGateFwd.τ).loc Cert.KernelGateFwd.main_arg1) = m ((c.tc : Thread Cert.KernelGateFwd.nD Cert.KernelGateFwd.τ).loc Cert.KernelGateFwd.main_arg1)
      ∧ r.2.mem ((c.tc : Thread Cert.KernelGateFwd.nD Cert.KernelGateFwd.τ).loc Cert.KernelGateFwd.main_arg2) = m ((c.tc : Thread Cert.KernelGateFwd.nD Cert.KernelGateFwd.τ).loc Cert.KernelGateFwd.main_arg2))
      ∧ r.2.sem = fun _ => 0)

def quiescent_KernelGateFwdIdeal [hKernelGateFwdIdeal : Cert.KernelGateFwdIdeal.Facts] : Prop :=
  ∀ (m : (ℓ : Loc Cert.KernelGateFwdIdeal.nD Cert.KernelGateFwdIdeal.τ Cert.KernelGateFwdIdeal.sig) → Buf (Elt Ideal) ℓ) (g : Dev Cert.KernelGateFwdIdeal.nD → PrngReg), Pre_KernelGateFwdIdeal m →
    θ_run (Cert.KernelGateFwdIdeal.defs (F := Ideal)) (onTc (τ := Cert.KernelGateFwdIdeal.τ) (Cert.KernelGateFwdIdeal.main (F := Ideal))) ⟨m, fun _ => 0, g⟩ (fun r => (∀ c : Dev Cert.KernelGateFwdIdeal.nD,
      r.2.mem ((c.tc : Thread Cert.KernelGateFwdIdeal.nD Cert.KernelGateFwdIdeal.τ).loc Cert.KernelGateFwdIdeal.main_arg0) = m ((c.tc : Thread Cert.KernelGateFwdIdeal.nD Cert.KernelGateFwdIdeal.τ).loc Cert.KernelGateFwdIdeal.main_arg0)
      ∧ r.2.mem ((c.tc : Thread Cert.KernelGateFwdIdeal.nD Cert.KernelGateFwdIdeal.τ).loc Cert.KernelGateFwdIdeal.main_arg1) = m ((c.tc : Thread Cert.KernelGateFwdIdeal.nD Cert.KernelGateFwdIdeal.τ).loc Cert.KernelGateFwdIdeal.main_arg1)
      ∧ r.2.mem ((c.tc : Thread Cert.KernelGateFwdIdeal.nD Cert.KernelGateFwdIdeal.τ).loc Cert.KernelGateFwdIdeal.main_arg2) = m ((c.tc : Thread Cert.KernelGateFwdIdeal.nD Cert.KernelGateFwdIdeal.τ).loc Cert.KernelGateFwdIdeal.main_arg2))
      ∧ r.2.sem = fun _ => 0)

def quiescent_ReferenceGateFwdIdeal [hReferenceGateFwdIdeal : Cert.ReferenceGateFwdIdeal.Facts] : Prop :=
  ∀ (m : (ℓ : Loc Cert.ReferenceGateFwdIdeal.nD Cert.ReferenceGateFwdIdeal.τ Cert.ReferenceGateFwdIdeal.sig) → Buf (Elt Ideal) ℓ) (g : Dev Cert.ReferenceGateFwdIdeal.nD → PrngReg), Pre_ReferenceGateFwdIdeal m →
    θ_run (Cert.ReferenceGateFwdIdeal.defs (F := Ideal)) (onTc (τ := Cert.ReferenceGateFwdIdeal.τ) (Cert.ReferenceGateFwdIdeal.main (F := Ideal))) ⟨m, fun _ => 0, g⟩ (fun r => (∀ c : Dev Cert.ReferenceGateFwdIdeal.nD,
      r.2.mem ((c.tc : Thread Cert.ReferenceGateFwdIdeal.nD Cert.ReferenceGateFwdIdeal.τ).loc Cert.ReferenceGateFwdIdeal.main_arg0) = m ((c.tc : Thread Cert.ReferenceGateFwdIdeal.nD Cert.ReferenceGateFwdIdeal.τ).loc Cert.ReferenceGateFwdIdeal.main_arg0)
      ∧ r.2.mem ((c.tc : Thread Cert.ReferenceGateFwdIdeal.nD Cert.ReferenceGateFwdIdeal.τ).loc Cert.ReferenceGateFwdIdeal.main_arg1) = m ((c.tc : Thread Cert.ReferenceGateFwdIdeal.nD Cert.ReferenceGateFwdIdeal.τ).loc Cert.ReferenceGateFwdIdeal.main_arg1)
      ∧ r.2.mem ((c.tc : Thread Cert.ReferenceGateFwdIdeal.nD Cert.ReferenceGateFwdIdeal.τ).loc Cert.ReferenceGateFwdIdeal.main_arg2) = m ((c.tc : Thread Cert.ReferenceGateFwdIdeal.nD Cert.ReferenceGateFwdIdeal.τ).loc Cert.ReferenceGateFwdIdeal.main_arg2))
      ∧ r.2.sem = fun _ => 0)

def quiescent_KernelConvFwd [hKernelConvFwd : Cert.KernelConvFwd.Facts] : Prop :=
  ∀ (m : (ℓ : Loc Cert.KernelConvFwd.nD Cert.KernelConvFwd.τ Cert.KernelConvFwd.sig) → Buf (Elt Bits) ℓ) (g : Dev Cert.KernelConvFwd.nD → PrngReg), Pre_KernelConvFwd m →
    θ_run (Cert.KernelConvFwd.defs (F := Bits)) (onTc (τ := Cert.KernelConvFwd.τ) (Cert.KernelConvFwd.main (F := Bits))) ⟨m, fun _ => 0, g⟩ (fun r => (∀ c : Dev Cert.KernelConvFwd.nD,
      r.2.mem ((c.tc : Thread Cert.KernelConvFwd.nD Cert.KernelConvFwd.τ).loc Cert.KernelConvFwd.main_arg0) = m ((c.tc : Thread Cert.KernelConvFwd.nD Cert.KernelConvFwd.τ).loc Cert.KernelConvFwd.main_arg0)
      ∧ r.2.mem ((c.tc : Thread Cert.KernelConvFwd.nD Cert.KernelConvFwd.τ).loc Cert.KernelConvFwd.main_arg1) = m ((c.tc : Thread Cert.KernelConvFwd.nD Cert.KernelConvFwd.τ).loc Cert.KernelConvFwd.main_arg1))
      ∧ r.2.sem = fun _ => 0)

def quiescent_KernelConvFwdIdeal [hKernelConvFwdIdeal : Cert.KernelConvFwdIdeal.Facts] : Prop :=
  ∀ (m : (ℓ : Loc Cert.KernelConvFwdIdeal.nD Cert.KernelConvFwdIdeal.τ Cert.KernelConvFwdIdeal.sig) → Buf (Elt Ideal) ℓ) (g : Dev Cert.KernelConvFwdIdeal.nD → PrngReg), Pre_KernelConvFwdIdeal m →
    θ_run (Cert.KernelConvFwdIdeal.defs (F := Ideal)) (onTc (τ := Cert.KernelConvFwdIdeal.τ) (Cert.KernelConvFwdIdeal.main (F := Ideal))) ⟨m, fun _ => 0, g⟩ (fun r => (∀ c : Dev Cert.KernelConvFwdIdeal.nD,
      r.2.mem ((c.tc : Thread Cert.KernelConvFwdIdeal.nD Cert.KernelConvFwdIdeal.τ).loc Cert.KernelConvFwdIdeal.main_arg0) = m ((c.tc : Thread Cert.KernelConvFwdIdeal.nD Cert.KernelConvFwdIdeal.τ).loc Cert.KernelConvFwdIdeal.main_arg0)
      ∧ r.2.mem ((c.tc : Thread Cert.KernelConvFwdIdeal.nD Cert.KernelConvFwdIdeal.τ).loc Cert.KernelConvFwdIdeal.main_arg1) = m ((c.tc : Thread Cert.KernelConvFwdIdeal.nD Cert.KernelConvFwdIdeal.τ).loc Cert.KernelConvFwdIdeal.main_arg1))
      ∧ r.2.sem = fun _ => 0)

def quiescent_ReferenceConvFwdIdeal [hReferenceConvFwdIdeal : Cert.ReferenceConvFwdIdeal.Facts] : Prop :=
  ∀ (m : (ℓ : Loc Cert.ReferenceConvFwdIdeal.nD Cert.ReferenceConvFwdIdeal.τ Cert.ReferenceConvFwdIdeal.sig) → Buf (Elt Ideal) ℓ) (g : Dev Cert.ReferenceConvFwdIdeal.nD → PrngReg), Pre_ReferenceConvFwdIdeal m →
    θ_run (Cert.ReferenceConvFwdIdeal.defs (F := Ideal)) (onTc (τ := Cert.ReferenceConvFwdIdeal.τ) (Cert.ReferenceConvFwdIdeal.main (F := Ideal))) ⟨m, fun _ => 0, g⟩ (fun r => (∀ c : Dev Cert.ReferenceConvFwdIdeal.nD,
      r.2.mem ((c.tc : Thread Cert.ReferenceConvFwdIdeal.nD Cert.ReferenceConvFwdIdeal.τ).loc Cert.ReferenceConvFwdIdeal.main_arg0) = m ((c.tc : Thread Cert.ReferenceConvFwdIdeal.nD Cert.ReferenceConvFwdIdeal.τ).loc Cert.ReferenceConvFwdIdeal.main_arg0)
      ∧ r.2.mem ((c.tc : Thread Cert.ReferenceConvFwdIdeal.nD Cert.ReferenceConvFwdIdeal.τ).loc Cert.ReferenceConvFwdIdeal.main_arg1) = m ((c.tc : Thread Cert.ReferenceConvFwdIdeal.nD Cert.ReferenceConvFwdIdeal.τ).loc Cert.ReferenceConvFwdIdeal.main_arg1))
      ∧ r.2.sem = fun _ => 0)

def quiescent_KernelPreFwd [hKernelPreFwd : Cert.KernelPreFwd.Facts] : Prop :=
  ∀ (m : (ℓ : Loc Cert.KernelPreFwd.nD Cert.KernelPreFwd.τ Cert.KernelPreFwd.sig) → Buf (Elt Bits) ℓ) (g : Dev Cert.KernelPreFwd.nD → PrngReg), Pre_KernelPreFwd m →
    θ_run (Cert.KernelPreFwd.defs (F := Bits)) (onTc (τ := Cert.KernelPreFwd.τ) (Cert.KernelPreFwd.main (F := Bits))) ⟨m, fun _ => 0, g⟩ (fun r => (∀ c : Dev Cert.KernelPreFwd.nD,
      r.2.mem ((c.tc : Thread Cert.KernelPreFwd.nD Cert.KernelPreFwd.τ).loc Cert.KernelPreFwd.main_arg0) = m ((c.tc : Thread Cert.KernelPreFwd.nD Cert.KernelPreFwd.τ).loc Cert.KernelPreFwd.main_arg0)
      ∧ r.2.mem ((c.tc : Thread Cert.KernelPreFwd.nD Cert.KernelPreFwd.τ).loc Cert.KernelPreFwd.main_arg1) = m ((c.tc : Thread Cert.KernelPreFwd.nD Cert.KernelPreFwd.τ).loc Cert.KernelPreFwd.main_arg1)
      ∧ r.2.mem ((c.tc : Thread Cert.KernelPreFwd.nD Cert.KernelPreFwd.τ).loc Cert.KernelPreFwd.main_arg2) = m ((c.tc : Thread Cert.KernelPreFwd.nD Cert.KernelPreFwd.τ).loc Cert.KernelPreFwd.main_arg2)
      ∧ r.2.mem ((c.tc : Thread Cert.KernelPreFwd.nD Cert.KernelPreFwd.τ).loc Cert.KernelPreFwd.main_arg3) = m ((c.tc : Thread Cert.KernelPreFwd.nD Cert.KernelPreFwd.τ).loc Cert.KernelPreFwd.main_arg3))
      ∧ r.2.sem = fun _ => 0)

def quiescent_KernelPreFwdIdeal [hKernelPreFwdIdeal : Cert.KernelPreFwdIdeal.Facts] : Prop :=
  ∀ (m : (ℓ : Loc Cert.KernelPreFwdIdeal.nD Cert.KernelPreFwdIdeal.τ Cert.KernelPreFwdIdeal.sig) → Buf (Elt Ideal) ℓ) (g : Dev Cert.KernelPreFwdIdeal.nD → PrngReg), Pre_KernelPreFwdIdeal m →
    θ_run (Cert.KernelPreFwdIdeal.defs (F := Ideal)) (onTc (τ := Cert.KernelPreFwdIdeal.τ) (Cert.KernelPreFwdIdeal.main (F := Ideal))) ⟨m, fun _ => 0, g⟩ (fun r => (∀ c : Dev Cert.KernelPreFwdIdeal.nD,
      r.2.mem ((c.tc : Thread Cert.KernelPreFwdIdeal.nD Cert.KernelPreFwdIdeal.τ).loc Cert.KernelPreFwdIdeal.main_arg0) = m ((c.tc : Thread Cert.KernelPreFwdIdeal.nD Cert.KernelPreFwdIdeal.τ).loc Cert.KernelPreFwdIdeal.main_arg0)
      ∧ r.2.mem ((c.tc : Thread Cert.KernelPreFwdIdeal.nD Cert.KernelPreFwdIdeal.τ).loc Cert.KernelPreFwdIdeal.main_arg1) = m ((c.tc : Thread Cert.KernelPreFwdIdeal.nD Cert.KernelPreFwdIdeal.τ).loc Cert.KernelPreFwdIdeal.main_arg1)
      ∧ r.2.mem ((c.tc : Thread Cert.KernelPreFwdIdeal.nD Cert.KernelPreFwdIdeal.τ).loc Cert.KernelPreFwdIdeal.main_arg2) = m ((c.tc : Thread Cert.KernelPreFwdIdeal.nD Cert.KernelPreFwdIdeal.τ).loc Cert.KernelPreFwdIdeal.main_arg2)
      ∧ r.2.mem ((c.tc : Thread Cert.KernelPreFwdIdeal.nD Cert.KernelPreFwdIdeal.τ).loc Cert.KernelPreFwdIdeal.main_arg3) = m ((c.tc : Thread Cert.KernelPreFwdIdeal.nD Cert.KernelPreFwdIdeal.τ).loc Cert.KernelPreFwdIdeal.main_arg3))
      ∧ r.2.sem = fun _ => 0)

def quiescent_ReferencePreFwdIdeal [hReferencePreFwdIdeal : Cert.ReferencePreFwdIdeal.Facts] : Prop :=
  ∀ (m : (ℓ : Loc Cert.ReferencePreFwdIdeal.nD Cert.ReferencePreFwdIdeal.τ Cert.ReferencePreFwdIdeal.sig) → Buf (Elt Ideal) ℓ) (g : Dev Cert.ReferencePreFwdIdeal.nD → PrngReg), Pre_ReferencePreFwdIdeal m →
    θ_run (Cert.ReferencePreFwdIdeal.defs (F := Ideal)) (onTc (τ := Cert.ReferencePreFwdIdeal.τ) (Cert.ReferencePreFwdIdeal.main (F := Ideal))) ⟨m, fun _ => 0, g⟩ (fun r => (∀ c : Dev Cert.ReferencePreFwdIdeal.nD,
      r.2.mem ((c.tc : Thread Cert.ReferencePreFwdIdeal.nD Cert.ReferencePreFwdIdeal.τ).loc Cert.ReferencePreFwdIdeal.main_arg0) = m ((c.tc : Thread Cert.ReferencePreFwdIdeal.nD Cert.ReferencePreFwdIdeal.τ).loc Cert.ReferencePreFwdIdeal.main_arg0)
      ∧ r.2.mem ((c.tc : Thread Cert.ReferencePreFwdIdeal.nD Cert.ReferencePreFwdIdeal.τ).loc Cert.ReferencePreFwdIdeal.main_arg1) = m ((c.tc : Thread Cert.ReferencePreFwdIdeal.nD Cert.ReferencePreFwdIdeal.τ).loc Cert.ReferencePreFwdIdeal.main_arg1)
      ∧ r.2.mem ((c.tc : Thread Cert.ReferencePreFwdIdeal.nD Cert.ReferencePreFwdIdeal.τ).loc Cert.ReferencePreFwdIdeal.main_arg2) = m ((c.tc : Thread Cert.ReferencePreFwdIdeal.nD Cert.ReferencePreFwdIdeal.τ).loc Cert.ReferencePreFwdIdeal.main_arg2)
      ∧ r.2.mem ((c.tc : Thread Cert.ReferencePreFwdIdeal.nD Cert.ReferencePreFwdIdeal.τ).loc Cert.ReferencePreFwdIdeal.main_arg3) = m ((c.tc : Thread Cert.ReferencePreFwdIdeal.nD Cert.ReferencePreFwdIdeal.τ).loc Cert.ReferencePreFwdIdeal.main_arg3))
      ∧ r.2.sem = fun _ => 0)

def quiescent_KernelPostFwd [hKernelPostFwd : Cert.KernelPostFwd.Facts] : Prop :=
  ∀ (m : (ℓ : Loc Cert.KernelPostFwd.nD Cert.KernelPostFwd.τ Cert.KernelPostFwd.sig) → Buf (Elt Bits) ℓ) (g : Dev Cert.KernelPostFwd.nD → PrngReg), Pre_KernelPostFwd m →
    θ_run (Cert.KernelPostFwd.defs (F := Bits)) (onTc (τ := Cert.KernelPostFwd.τ) (Cert.KernelPostFwd.main (F := Bits))) ⟨m, fun _ => 0, g⟩ (fun r => (∀ c : Dev Cert.KernelPostFwd.nD,
      r.2.mem ((c.tc : Thread Cert.KernelPostFwd.nD Cert.KernelPostFwd.τ).loc Cert.KernelPostFwd.main_arg0) = m ((c.tc : Thread Cert.KernelPostFwd.nD Cert.KernelPostFwd.τ).loc Cert.KernelPostFwd.main_arg0)
      ∧ r.2.mem ((c.tc : Thread Cert.KernelPostFwd.nD Cert.KernelPostFwd.τ).loc Cert.KernelPostFwd.main_arg1) = m ((c.tc : Thread Cert.KernelPostFwd.nD Cert.KernelPostFwd.τ).loc Cert.KernelPostFwd.main_arg1)
      ∧ r.2.mem ((c.tc : Thread Cert.KernelPostFwd.nD Cert.KernelPostFwd.τ).loc Cert.KernelPostFwd.main_arg2) = m ((c.tc : Thread Cert.KernelPostFwd.nD Cert.KernelPostFwd.τ).loc Cert.KernelPostFwd.main_arg2)
      ∧ r.2.mem ((c.tc : Thread Cert.KernelPostFwd.nD Cert.KernelPostFwd.τ).loc Cert.KernelPostFwd.main_arg3) = m ((c.tc : Thread Cert.KernelPostFwd.nD Cert.KernelPostFwd.τ).loc Cert.KernelPostFwd.main_arg3))
      ∧ r.2.sem = fun _ => 0)

def quiescent_KernelPostFwdIdeal [hKernelPostFwdIdeal : Cert.KernelPostFwdIdeal.Facts] : Prop :=
  ∀ (m : (ℓ : Loc Cert.KernelPostFwdIdeal.nD Cert.KernelPostFwdIdeal.τ Cert.KernelPostFwdIdeal.sig) → Buf (Elt Ideal) ℓ) (g : Dev Cert.KernelPostFwdIdeal.nD → PrngReg), Pre_KernelPostFwdIdeal m →
    θ_run (Cert.KernelPostFwdIdeal.defs (F := Ideal)) (onTc (τ := Cert.KernelPostFwdIdeal.τ) (Cert.KernelPostFwdIdeal.main (F := Ideal))) ⟨m, fun _ => 0, g⟩ (fun r => (∀ c : Dev Cert.KernelPostFwdIdeal.nD,
      r.2.mem ((c.tc : Thread Cert.KernelPostFwdIdeal.nD Cert.KernelPostFwdIdeal.τ).loc Cert.KernelPostFwdIdeal.main_arg0) = m ((c.tc : Thread Cert.KernelPostFwdIdeal.nD Cert.KernelPostFwdIdeal.τ).loc Cert.KernelPostFwdIdeal.main_arg0)
      ∧ r.2.mem ((c.tc : Thread Cert.KernelPostFwdIdeal.nD Cert.KernelPostFwdIdeal.τ).loc Cert.KernelPostFwdIdeal.main_arg1) = m ((c.tc : Thread Cert.KernelPostFwdIdeal.nD Cert.KernelPostFwdIdeal.τ).loc Cert.KernelPostFwdIdeal.main_arg1)
      ∧ r.2.mem ((c.tc : Thread Cert.KernelPostFwdIdeal.nD Cert.KernelPostFwdIdeal.τ).loc Cert.KernelPostFwdIdeal.main_arg2) = m ((c.tc : Thread Cert.KernelPostFwdIdeal.nD Cert.KernelPostFwdIdeal.τ).loc Cert.KernelPostFwdIdeal.main_arg2)
      ∧ r.2.mem ((c.tc : Thread Cert.KernelPostFwdIdeal.nD Cert.KernelPostFwdIdeal.τ).loc Cert.KernelPostFwdIdeal.main_arg3) = m ((c.tc : Thread Cert.KernelPostFwdIdeal.nD Cert.KernelPostFwdIdeal.τ).loc Cert.KernelPostFwdIdeal.main_arg3))
      ∧ r.2.sem = fun _ => 0)

def quiescent_ReferencePostFwdIdeal [hReferencePostFwdIdeal : Cert.ReferencePostFwdIdeal.Facts] : Prop :=
  ∀ (m : (ℓ : Loc Cert.ReferencePostFwdIdeal.nD Cert.ReferencePostFwdIdeal.τ Cert.ReferencePostFwdIdeal.sig) → Buf (Elt Ideal) ℓ) (g : Dev Cert.ReferencePostFwdIdeal.nD → PrngReg), Pre_ReferencePostFwdIdeal m →
    θ_run (Cert.ReferencePostFwdIdeal.defs (F := Ideal)) (onTc (τ := Cert.ReferencePostFwdIdeal.τ) (Cert.ReferencePostFwdIdeal.main (F := Ideal))) ⟨m, fun _ => 0, g⟩ (fun r => (∀ c : Dev Cert.ReferencePostFwdIdeal.nD,
      r.2.mem ((c.tc : Thread Cert.ReferencePostFwdIdeal.nD Cert.ReferencePostFwdIdeal.τ).loc Cert.ReferencePostFwdIdeal.main_arg0) = m ((c.tc : Thread Cert.ReferencePostFwdIdeal.nD Cert.ReferencePostFwdIdeal.τ).loc Cert.ReferencePostFwdIdeal.main_arg0)
      ∧ r.2.mem ((c.tc : Thread Cert.ReferencePostFwdIdeal.nD Cert.ReferencePostFwdIdeal.τ).loc Cert.ReferencePostFwdIdeal.main_arg1) = m ((c.tc : Thread Cert.ReferencePostFwdIdeal.nD Cert.ReferencePostFwdIdeal.τ).loc Cert.ReferencePostFwdIdeal.main_arg1)
      ∧ r.2.mem ((c.tc : Thread Cert.ReferencePostFwdIdeal.nD Cert.ReferencePostFwdIdeal.τ).loc Cert.ReferencePostFwdIdeal.main_arg2) = m ((c.tc : Thread Cert.ReferencePostFwdIdeal.nD Cert.ReferencePostFwdIdeal.τ).loc Cert.ReferencePostFwdIdeal.main_arg2)
      ∧ r.2.mem ((c.tc : Thread Cert.ReferencePostFwdIdeal.nD Cert.ReferencePostFwdIdeal.τ).loc Cert.ReferencePostFwdIdeal.main_arg3) = m ((c.tc : Thread Cert.ReferencePostFwdIdeal.nD Cert.ReferencePostFwdIdeal.τ).loc Cert.ReferencePostFwdIdeal.main_arg3))
      ∧ r.2.sem = fun _ => 0)

def quiescent_KernelRelu2Fwd [hKernelRelu2Fwd : Cert.KernelRelu2Fwd.Facts] : Prop :=
  ∀ (m : (ℓ : Loc Cert.KernelRelu2Fwd.nD Cert.KernelRelu2Fwd.τ Cert.KernelRelu2Fwd.sig) → Buf (Elt Bits) ℓ) (g : Dev Cert.KernelRelu2Fwd.nD → PrngReg), Pre_KernelRelu2Fwd m →
    θ_run (Cert.KernelRelu2Fwd.defs (F := Bits)) (onTc (τ := Cert.KernelRelu2Fwd.τ) (Cert.KernelRelu2Fwd.main (F := Bits))) ⟨m, fun _ => 0, g⟩ (fun r => (∀ c : Dev Cert.KernelRelu2Fwd.nD,
      r.2.mem ((c.tc : Thread Cert.KernelRelu2Fwd.nD Cert.KernelRelu2Fwd.τ).loc Cert.KernelRelu2Fwd.main_arg0) = m ((c.tc : Thread Cert.KernelRelu2Fwd.nD Cert.KernelRelu2Fwd.τ).loc Cert.KernelRelu2Fwd.main_arg0)
      ∧ r.2.mem ((c.tc : Thread Cert.KernelRelu2Fwd.nD Cert.KernelRelu2Fwd.τ).loc Cert.KernelRelu2Fwd.main_arg1) = m ((c.tc : Thread Cert.KernelRelu2Fwd.nD Cert.KernelRelu2Fwd.τ).loc Cert.KernelRelu2Fwd.main_arg1))
      ∧ r.2.sem = fun _ => 0)

def quiescent_KernelRelu2FwdIdeal [hKernelRelu2FwdIdeal : Cert.KernelRelu2FwdIdeal.Facts] : Prop :=
  ∀ (m : (ℓ : Loc Cert.KernelRelu2FwdIdeal.nD Cert.KernelRelu2FwdIdeal.τ Cert.KernelRelu2FwdIdeal.sig) → Buf (Elt Ideal) ℓ) (g : Dev Cert.KernelRelu2FwdIdeal.nD → PrngReg), Pre_KernelRelu2FwdIdeal m →
    θ_run (Cert.KernelRelu2FwdIdeal.defs (F := Ideal)) (onTc (τ := Cert.KernelRelu2FwdIdeal.τ) (Cert.KernelRelu2FwdIdeal.main (F := Ideal))) ⟨m, fun _ => 0, g⟩ (fun r => (∀ c : Dev Cert.KernelRelu2FwdIdeal.nD,
      r.2.mem ((c.tc : Thread Cert.KernelRelu2FwdIdeal.nD Cert.KernelRelu2FwdIdeal.τ).loc Cert.KernelRelu2FwdIdeal.main_arg0) = m ((c.tc : Thread Cert.KernelRelu2FwdIdeal.nD Cert.KernelRelu2FwdIdeal.τ).loc Cert.KernelRelu2FwdIdeal.main_arg0)
      ∧ r.2.mem ((c.tc : Thread Cert.KernelRelu2FwdIdeal.nD Cert.KernelRelu2FwdIdeal.τ).loc Cert.KernelRelu2FwdIdeal.main_arg1) = m ((c.tc : Thread Cert.KernelRelu2FwdIdeal.nD Cert.KernelRelu2FwdIdeal.τ).loc Cert.KernelRelu2FwdIdeal.main_arg1))
      ∧ r.2.sem = fun _ => 0)

def quiescent_ReferenceRelu2FwdIdeal [hReferenceRelu2FwdIdeal : Cert.ReferenceRelu2FwdIdeal.Facts] : Prop :=
  ∀ (m : (ℓ : Loc Cert.ReferenceRelu2FwdIdeal.nD Cert.ReferenceRelu2FwdIdeal.τ Cert.ReferenceRelu2FwdIdeal.sig) → Buf (Elt Ideal) ℓ) (g : Dev Cert.ReferenceRelu2FwdIdeal.nD → PrngReg), Pre_ReferenceRelu2FwdIdeal m →
    θ_run (Cert.ReferenceRelu2FwdIdeal.defs (F := Ideal)) (onTc (τ := Cert.ReferenceRelu2FwdIdeal.τ) (Cert.ReferenceRelu2FwdIdeal.main (F := Ideal))) ⟨m, fun _ => 0, g⟩ (fun r => (∀ c : Dev Cert.ReferenceRelu2FwdIdeal.nD,
      r.2.mem ((c.tc : Thread Cert.ReferenceRelu2FwdIdeal.nD Cert.ReferenceRelu2FwdIdeal.τ).loc Cert.ReferenceRelu2FwdIdeal.main_arg0) = m ((c.tc : Thread Cert.ReferenceRelu2FwdIdeal.nD Cert.ReferenceRelu2FwdIdeal.τ).loc Cert.ReferenceRelu2FwdIdeal.main_arg0)
      ∧ r.2.mem ((c.tc : Thread Cert.ReferenceRelu2FwdIdeal.nD Cert.ReferenceRelu2FwdIdeal.τ).loc Cert.ReferenceRelu2FwdIdeal.main_arg1) = m ((c.tc : Thread Cert.ReferenceRelu2FwdIdeal.nD Cert.ReferenceRelu2FwdIdeal.τ).loc Cert.ReferenceRelu2FwdIdeal.main_arg1))
      ∧ r.2.sem = fun _ => 0)

def quiescent_KernelAdam [hKernelAdam : Cert.KernelAdam.Facts] : Prop :=
  ∀ (m : (ℓ : Loc Cert.KernelAdam.nD Cert.KernelAdam.τ Cert.KernelAdam.sig) → Buf (Elt Bits) ℓ) (g : Dev Cert.KernelAdam.nD → PrngReg), Pre_KernelAdam m →
    θ_run (Cert.KernelAdam.defs (F := Bits)) (onTc (τ := Cert.KernelAdam.τ) (Cert.KernelAdam.main (F := Bits))) ⟨m, fun _ => 0, g⟩ (fun r => (∀ c : Dev Cert.KernelAdam.nD,
      r.2.mem ((c.tc : Thread Cert.KernelAdam.nD Cert.KernelAdam.τ).loc Cert.KernelAdam.main_arg0) = m ((c.tc : Thread Cert.KernelAdam.nD Cert.KernelAdam.τ).loc Cert.KernelAdam.main_arg0)
      ∧ r.2.mem ((c.tc : Thread Cert.KernelAdam.nD Cert.KernelAdam.τ).loc Cert.KernelAdam.main_arg1) = m ((c.tc : Thread Cert.KernelAdam.nD Cert.KernelAdam.τ).loc Cert.KernelAdam.main_arg1)
      ∧ r.2.mem ((c.tc : Thread Cert.KernelAdam.nD Cert.KernelAdam.τ).loc Cert.KernelAdam.main_arg2) = m ((c.tc : Thread Cert.KernelAdam.nD Cert.KernelAdam.τ).loc Cert.KernelAdam.main_arg2)
      ∧ r.2.mem ((c.tc : Thread Cert.KernelAdam.nD Cert.KernelAdam.τ).loc Cert.KernelAdam.main_arg3) = m ((c.tc : Thread Cert.KernelAdam.nD Cert.KernelAdam.τ).loc Cert.KernelAdam.main_arg3))
      ∧ r.2.sem = fun _ => 0)

def quiescent_KernelAdamIdeal [hKernelAdamIdeal : Cert.KernelAdamIdeal.Facts] : Prop :=
  ∀ (m : (ℓ : Loc Cert.KernelAdamIdeal.nD Cert.KernelAdamIdeal.τ Cert.KernelAdamIdeal.sig) → Buf (Elt Ideal) ℓ) (g : Dev Cert.KernelAdamIdeal.nD → PrngReg), Pre_KernelAdamIdeal m →
    θ_run (Cert.KernelAdamIdeal.defs (F := Ideal)) (onTc (τ := Cert.KernelAdamIdeal.τ) (Cert.KernelAdamIdeal.main (F := Ideal))) ⟨m, fun _ => 0, g⟩ (fun r => (∀ c : Dev Cert.KernelAdamIdeal.nD,
      r.2.mem ((c.tc : Thread Cert.KernelAdamIdeal.nD Cert.KernelAdamIdeal.τ).loc Cert.KernelAdamIdeal.main_arg0) = m ((c.tc : Thread Cert.KernelAdamIdeal.nD Cert.KernelAdamIdeal.τ).loc Cert.KernelAdamIdeal.main_arg0)
      ∧ r.2.mem ((c.tc : Thread Cert.KernelAdamIdeal.nD Cert.KernelAdamIdeal.τ).loc Cert.KernelAdamIdeal.main_arg1) = m ((c.tc : Thread Cert.KernelAdamIdeal.nD Cert.KernelAdamIdeal.τ).loc Cert.KernelAdamIdeal.main_arg1)
      ∧ r.2.mem ((c.tc : Thread Cert.KernelAdamIdeal.nD Cert.KernelAdamIdeal.τ).loc Cert.KernelAdamIdeal.main_arg2) = m ((c.tc : Thread Cert.KernelAdamIdeal.nD Cert.KernelAdamIdeal.τ).loc Cert.KernelAdamIdeal.main_arg2)
      ∧ r.2.mem ((c.tc : Thread Cert.KernelAdamIdeal.nD Cert.KernelAdamIdeal.τ).loc Cert.KernelAdamIdeal.main_arg3) = m ((c.tc : Thread Cert.KernelAdamIdeal.nD Cert.KernelAdamIdeal.τ).loc Cert.KernelAdamIdeal.main_arg3))
      ∧ r.2.sem = fun _ => 0)

def quiescent_ReferenceAdamIdeal [hReferenceAdamIdeal : Cert.ReferenceAdamIdeal.Facts] : Prop :=
  ∀ (m : (ℓ : Loc Cert.ReferenceAdamIdeal.nD Cert.ReferenceAdamIdeal.τ Cert.ReferenceAdamIdeal.sig) → Buf (Elt Ideal) ℓ) (g : Dev Cert.ReferenceAdamIdeal.nD → PrngReg), Pre_ReferenceAdamIdeal m →
    θ_run (Cert.ReferenceAdamIdeal.defs (F := Ideal)) (onTc (τ := Cert.ReferenceAdamIdeal.τ) (Cert.ReferenceAdamIdeal.main (F := Ideal))) ⟨m, fun _ => 0, g⟩ (fun r => (∀ c : Dev Cert.ReferenceAdamIdeal.nD,
      r.2.mem ((c.tc : Thread Cert.ReferenceAdamIdeal.nD Cert.ReferenceAdamIdeal.τ).loc Cert.ReferenceAdamIdeal.main_arg0) = m ((c.tc : Thread Cert.ReferenceAdamIdeal.nD Cert.ReferenceAdamIdeal.τ).loc Cert.ReferenceAdamIdeal.main_arg0)
      ∧ r.2.mem ((c.tc : Thread Cert.ReferenceAdamIdeal.nD Cert.ReferenceAdamIdeal.τ).loc Cert.ReferenceAdamIdeal.main_arg1) = m ((c.tc : Thread Cert.ReferenceAdamIdeal.nD Cert.ReferenceAdamIdeal.τ).loc Cert.ReferenceAdamIdeal.main_arg1)
      ∧ r.2.mem ((c.tc : Thread Cert.ReferenceAdamIdeal.nD Cert.ReferenceAdamIdeal.τ).loc Cert.ReferenceAdamIdeal.main_arg2) = m ((c.tc : Thread Cert.ReferenceAdamIdeal.nD Cert.ReferenceAdamIdeal.τ).loc Cert.ReferenceAdamIdeal.main_arg2)
      ∧ r.2.mem ((c.tc : Thread Cert.ReferenceAdamIdeal.nD Cert.ReferenceAdamIdeal.τ).loc Cert.ReferenceAdamIdeal.main_arg3) = m ((c.tc : Thread Cert.ReferenceAdamIdeal.nD Cert.ReferenceAdamIdeal.τ).loc Cert.ReferenceAdamIdeal.main_arg3))
      ∧ r.2.sem = fun _ => 0)

def quiescent_KernelProduct [hKernelProduct : Cert.KernelProduct.Facts] : Prop :=
  ∀ (m : (ℓ : Loc Cert.KernelProduct.nD Cert.KernelProduct.τ Cert.KernelProduct.sig) → Buf (Elt Bits) ℓ) (g : Dev Cert.KernelProduct.nD → PrngReg), Pre_KernelProduct m →
    θ_run (Cert.KernelProduct.defs (F := Bits)) (onTc (τ := Cert.KernelProduct.τ) (Cert.KernelProduct.main (F := Bits))) ⟨m, fun _ => 0, g⟩ (fun r => (∀ c : Dev Cert.KernelProduct.nD,
      r.2.mem ((c.tc : Thread Cert.KernelProduct.nD Cert.KernelProduct.τ).loc Cert.KernelProduct.main_arg0) = m ((c.tc : Thread Cert.KernelProduct.nD Cert.KernelProduct.τ).loc Cert.KernelProduct.main_arg0)
      ∧ r.2.mem ((c.tc : Thread Cert.KernelProduct.nD Cert.KernelProduct.τ).loc Cert.KernelProduct.main_arg1) = m ((c.tc : Thread Cert.KernelProduct.nD Cert.KernelProduct.τ).loc Cert.KernelProduct.main_arg1))
      ∧ r.2.sem = fun _ => 0)

def quiescent_KernelProductIdeal [hKernelProductIdeal : Cert.KernelProductIdeal.Facts] : Prop :=
  ∀ (m : (ℓ : Loc Cert.KernelProductIdeal.nD Cert.KernelProductIdeal.τ Cert.KernelProductIdeal.sig) → Buf (Elt Ideal) ℓ) (g : Dev Cert.KernelProductIdeal.nD → PrngReg), Pre_KernelProductIdeal m →
    θ_run (Cert.KernelProductIdeal.defs (F := Ideal)) (onTc (τ := Cert.KernelProductIdeal.τ) (Cert.KernelProductIdeal.main (F := Ideal))) ⟨m, fun _ => 0, g⟩ (fun r => (∀ c : Dev Cert.KernelProductIdeal.nD,
      r.2.mem ((c.tc : Thread Cert.KernelProductIdeal.nD Cert.KernelProductIdeal.τ).loc Cert.KernelProductIdeal.main_arg0) = m ((c.tc : Thread Cert.KernelProductIdeal.nD Cert.KernelProductIdeal.τ).loc Cert.KernelProductIdeal.main_arg0)
      ∧ r.2.mem ((c.tc : Thread Cert.KernelProductIdeal.nD Cert.KernelProductIdeal.τ).loc Cert.KernelProductIdeal.main_arg1) = m ((c.tc : Thread Cert.KernelProductIdeal.nD Cert.KernelProductIdeal.τ).loc Cert.KernelProductIdeal.main_arg1))
      ∧ r.2.sem = fun _ => 0)

def quiescent_ReferenceProductIdeal [hReferenceProductIdeal : Cert.ReferenceProductIdeal.Facts] : Prop :=
  ∀ (m : (ℓ : Loc Cert.ReferenceProductIdeal.nD Cert.ReferenceProductIdeal.τ Cert.ReferenceProductIdeal.sig) → Buf (Elt Ideal) ℓ) (g : Dev Cert.ReferenceProductIdeal.nD → PrngReg), Pre_ReferenceProductIdeal m →
    θ_run (Cert.ReferenceProductIdeal.defs (F := Ideal)) (onTc (τ := Cert.ReferenceProductIdeal.τ) (Cert.ReferenceProductIdeal.main (F := Ideal))) ⟨m, fun _ => 0, g⟩ (fun r => (∀ c : Dev Cert.ReferenceProductIdeal.nD,
      r.2.mem ((c.tc : Thread Cert.ReferenceProductIdeal.nD Cert.ReferenceProductIdeal.τ).loc Cert.ReferenceProductIdeal.main_arg0) = m ((c.tc : Thread Cert.ReferenceProductIdeal.nD Cert.ReferenceProductIdeal.τ).loc Cert.ReferenceProductIdeal.main_arg0)
      ∧ r.2.mem ((c.tc : Thread Cert.ReferenceProductIdeal.nD Cert.ReferenceProductIdeal.τ).loc Cert.ReferenceProductIdeal.main_arg1) = m ((c.tc : Thread Cert.ReferenceProductIdeal.nD Cert.ReferenceProductIdeal.τ).loc Cert.ReferenceProductIdeal.main_arg1))
      ∧ r.2.sem = fun _ => 0)

def preserves_KernelAttnBwd_KernelAttnBwdIdeal : Prop :=
  True

def algebraic_KernelAttnBwdIdeal_ReferenceAttnBwdIdeal_pre_finite_proj_do [hKernelAttnBwdIdeal : Cert.KernelAttnBwdIdeal.Facts] [hReferenceAttnBwdIdeal : Cert.ReferenceAttnBwdIdeal.Facts] [hPre_finite_proj_do : Cert.Pre_finite_proj_do.Facts] : Prop :=
  ∀ (m : (ℓ : Loc Cert.KernelAttnBwdIdeal.nD Cert.KernelAttnBwdIdeal.τ Cert.KernelAttnBwdIdeal.sig) → Buf (Elt Ideal) ℓ) (g : Dev Cert.KernelAttnBwdIdeal.nD → PrngReg)
    (m' : (ℓ : Loc Cert.ReferenceAttnBwdIdeal.nD Cert.ReferenceAttnBwdIdeal.τ Cert.ReferenceAttnBwdIdeal.sig) → Buf (Elt Ideal) ℓ) (g' : Dev Cert.ReferenceAttnBwdIdeal.nD → PrngReg), Pre_KernelAttnBwdIdeal_finite_proj_do m →
    (∀ c : Dev Cert.KernelAttnBwdIdeal.nD,
      m' ((c.tc : Thread Cert.ReferenceAttnBwdIdeal.nD Cert.ReferenceAttnBwdIdeal.τ).loc Cert.ReferenceAttnBwdIdeal.main_arg0) = m ((c.tc : Thread Cert.KernelAttnBwdIdeal.nD Cert.KernelAttnBwdIdeal.τ).loc Cert.KernelAttnBwdIdeal.main_arg0)
      ∧ m' ((c.tc : Thread Cert.ReferenceAttnBwdIdeal.nD Cert.ReferenceAttnBwdIdeal.τ).loc Cert.ReferenceAttnBwdIdeal.main_arg1) = m ((c.tc : Thread Cert.KernelAttnBwdIdeal.nD Cert.KernelAttnBwdIdeal.τ).loc Cert.KernelAttnBwdIdeal.main_arg1)) →
    ∃ (v0 : (c : Dev Cert.KernelAttnBwdIdeal.nD) → Buf (Elt Ideal) ((c.tc : Thread Cert.KernelAttnBwdIdeal.nD Cert.KernelAttnBwdIdeal.τ).loc Cert.KernelAttnBwdIdeal.main_v24_0)) (v1 : (c : Dev Cert.KernelAttnBwdIdeal.nD) → Buf (Elt Ideal) ((c.tc : Thread Cert.KernelAttnBwdIdeal.nD Cert.KernelAttnBwdIdeal.τ).loc Cert.KernelAttnBwdIdeal.main_v24_1)) (v2 : (c : Dev Cert.KernelAttnBwdIdeal.nD) → Buf (Elt Ideal) ((c.tc : Thread Cert.KernelAttnBwdIdeal.nD Cert.KernelAttnBwdIdeal.τ).loc Cert.KernelAttnBwdIdeal.main_v24_2)),
      θ_run (Cert.KernelAttnBwdIdeal.defs (F := Ideal)) (onTc (τ := Cert.KernelAttnBwdIdeal.τ) (Cert.KernelAttnBwdIdeal.main (F := Ideal))) ⟨m, fun _ => 0, g⟩ (fun r => ∀ c : Dev Cert.KernelAttnBwdIdeal.nD,
          r.2.mem ((c.tc : Thread Cert.KernelAttnBwdIdeal.nD Cert.KernelAttnBwdIdeal.τ).loc Cert.KernelAttnBwdIdeal.main_v24_0) = v0 c
          ∧ r.2.mem ((c.tc : Thread Cert.KernelAttnBwdIdeal.nD Cert.KernelAttnBwdIdeal.τ).loc Cert.KernelAttnBwdIdeal.main_v24_1) = v1 c
          ∧ r.2.mem ((c.tc : Thread Cert.KernelAttnBwdIdeal.nD Cert.KernelAttnBwdIdeal.τ).loc Cert.KernelAttnBwdIdeal.main_v24_2) = v2 c
          ∧ r.2.mem ((c.tc : Thread Cert.KernelAttnBwdIdeal.nD Cert.KernelAttnBwdIdeal.τ).loc Cert.KernelAttnBwdIdeal.main_arg0) = m ((c.tc : Thread Cert.KernelAttnBwdIdeal.nD Cert.KernelAttnBwdIdeal.τ).loc Cert.KernelAttnBwdIdeal.main_arg0)
          ∧ r.2.mem ((c.tc : Thread Cert.KernelAttnBwdIdeal.nD Cert.KernelAttnBwdIdeal.τ).loc Cert.KernelAttnBwdIdeal.main_arg1) = m ((c.tc : Thread Cert.KernelAttnBwdIdeal.nD Cert.KernelAttnBwdIdeal.τ).loc Cert.KernelAttnBwdIdeal.main_arg1))
      ∧ θ_run (Cert.ReferenceAttnBwdIdeal.defs (F := Ideal)) (onTc (τ := Cert.ReferenceAttnBwdIdeal.τ) (Cert.ReferenceAttnBwdIdeal.main (F := Ideal))) ⟨m', fun _ => 0, g'⟩ (fun r => ∀ c : Dev Cert.ReferenceAttnBwdIdeal.nD,
          r.2.mem ((c.tc : Thread Cert.ReferenceAttnBwdIdeal.nD Cert.ReferenceAttnBwdIdeal.τ).loc Cert.ReferenceAttnBwdIdeal.main_v48) = v0 c
          ∧ r.2.mem ((c.tc : Thread Cert.ReferenceAttnBwdIdeal.nD Cert.ReferenceAttnBwdIdeal.τ).loc Cert.ReferenceAttnBwdIdeal.main_v50) = v1 c
          ∧ r.2.mem ((c.tc : Thread Cert.ReferenceAttnBwdIdeal.nD Cert.ReferenceAttnBwdIdeal.τ).loc Cert.ReferenceAttnBwdIdeal.main_v52) = v2 c
          ∧ r.2.mem ((c.tc : Thread Cert.ReferenceAttnBwdIdeal.nD Cert.ReferenceAttnBwdIdeal.τ).loc Cert.ReferenceAttnBwdIdeal.main_arg0) = m' ((c.tc : Thread Cert.ReferenceAttnBwdIdeal.nD Cert.ReferenceAttnBwdIdeal.τ).loc Cert.ReferenceAttnBwdIdeal.main_arg0)
          ∧ r.2.mem ((c.tc : Thread Cert.ReferenceAttnBwdIdeal.nD Cert.ReferenceAttnBwdIdeal.τ).loc Cert.ReferenceAttnBwdIdeal.main_arg1) = m' ((c.tc : Thread Cert.ReferenceAttnBwdIdeal.nD Cert.ReferenceAttnBwdIdeal.τ).loc Cert.ReferenceAttnBwdIdeal.main_arg1))

def preserves_KernelAttnFwd_KernelAttnFwdIdeal : Prop :=
  True

def algebraic_KernelAttnFwdIdeal_ReferenceAttnFwdIdeal_pre_finite_proj [hKernelAttnFwdIdeal : Cert.KernelAttnFwdIdeal.Facts] [hReferenceAttnFwdIdeal : Cert.ReferenceAttnFwdIdeal.Facts] [hPre_finite_proj : Cert.Pre_finite_proj.Facts] : Prop :=
  ∀ (m : (ℓ : Loc Cert.KernelAttnFwdIdeal.nD Cert.KernelAttnFwdIdeal.τ Cert.KernelAttnFwdIdeal.sig) → Buf (Elt Ideal) ℓ) (g : Dev Cert.KernelAttnFwdIdeal.nD → PrngReg)
    (m' : (ℓ : Loc Cert.ReferenceAttnFwdIdeal.nD Cert.ReferenceAttnFwdIdeal.τ Cert.ReferenceAttnFwdIdeal.sig) → Buf (Elt Ideal) ℓ) (g' : Dev Cert.ReferenceAttnFwdIdeal.nD → PrngReg), Pre_KernelAttnFwdIdeal_finite_proj m →
    (∀ c : Dev Cert.KernelAttnFwdIdeal.nD,
      m' ((c.tc : Thread Cert.ReferenceAttnFwdIdeal.nD Cert.ReferenceAttnFwdIdeal.τ).loc Cert.ReferenceAttnFwdIdeal.main_arg0) = m ((c.tc : Thread Cert.KernelAttnFwdIdeal.nD Cert.KernelAttnFwdIdeal.τ).loc Cert.KernelAttnFwdIdeal.main_arg0)) →
    ∃ (v0 : (c : Dev Cert.KernelAttnFwdIdeal.nD) → Buf (Elt Ideal) ((c.tc : Thread Cert.KernelAttnFwdIdeal.nD Cert.KernelAttnFwdIdeal.τ).loc Cert.KernelAttnFwdIdeal.main_v0_0)) (v1 : (c : Dev Cert.KernelAttnFwdIdeal.nD) → Buf (Elt Ideal) ((c.tc : Thread Cert.KernelAttnFwdIdeal.nD Cert.KernelAttnFwdIdeal.τ).loc Cert.KernelAttnFwdIdeal.main_v0_1)),
      θ_run (Cert.KernelAttnFwdIdeal.defs (F := Ideal)) (onTc (τ := Cert.KernelAttnFwdIdeal.τ) (Cert.KernelAttnFwdIdeal.main (F := Ideal))) ⟨m, fun _ => 0, g⟩ (fun r => ∀ c : Dev Cert.KernelAttnFwdIdeal.nD,
          r.2.mem ((c.tc : Thread Cert.KernelAttnFwdIdeal.nD Cert.KernelAttnFwdIdeal.τ).loc Cert.KernelAttnFwdIdeal.main_v0_0) = v0 c
          ∧ r.2.mem ((c.tc : Thread Cert.KernelAttnFwdIdeal.nD Cert.KernelAttnFwdIdeal.τ).loc Cert.KernelAttnFwdIdeal.main_v0_1) = v1 c
          ∧ r.2.mem ((c.tc : Thread Cert.KernelAttnFwdIdeal.nD Cert.KernelAttnFwdIdeal.τ).loc Cert.KernelAttnFwdIdeal.main_arg0) = m ((c.tc : Thread Cert.KernelAttnFwdIdeal.nD Cert.KernelAttnFwdIdeal.τ).loc Cert.KernelAttnFwdIdeal.main_arg0))
      ∧ θ_run (Cert.ReferenceAttnFwdIdeal.defs (F := Ideal)) (onTc (τ := Cert.ReferenceAttnFwdIdeal.τ) (Cert.ReferenceAttnFwdIdeal.main (F := Ideal))) ⟨m', fun _ => 0, g'⟩ (fun r => ∀ c : Dev Cert.ReferenceAttnFwdIdeal.nD,
          r.2.mem ((c.tc : Thread Cert.ReferenceAttnFwdIdeal.nD Cert.ReferenceAttnFwdIdeal.τ).loc Cert.ReferenceAttnFwdIdeal.main_v26) = v0 c
          ∧ r.2.mem ((c.tc : Thread Cert.ReferenceAttnFwdIdeal.nD Cert.ReferenceAttnFwdIdeal.τ).loc Cert.ReferenceAttnFwdIdeal.main_v44) = v1 c
          ∧ r.2.mem ((c.tc : Thread Cert.ReferenceAttnFwdIdeal.nD Cert.ReferenceAttnFwdIdeal.τ).loc Cert.ReferenceAttnFwdIdeal.main_arg0) = m' ((c.tc : Thread Cert.ReferenceAttnFwdIdeal.nD Cert.ReferenceAttnFwdIdeal.τ).loc Cert.ReferenceAttnFwdIdeal.main_arg0))

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)
      ∧ m' ((c.tc : Thread Cert.ReferenceGateIdeal.nD Cert.ReferenceGateIdeal.τ).loc Cert.ReferenceGateIdeal.main_arg2) = m ((c.tc : Thread Cert.KernelGateIdeal.nD Cert.KernelGateIdeal.τ).loc Cert.KernelGateIdeal.main_arg2)
      ∧ m' ((c.tc : Thread Cert.ReferenceGateIdeal.nD Cert.ReferenceGateIdeal.τ).loc Cert.ReferenceGateIdeal.main_arg3) = m ((c.tc : Thread Cert.KernelGateIdeal.nD Cert.KernelGateIdeal.τ).loc Cert.KernelGateIdeal.main_arg3)) →
    ∃ (v0 : (c : Dev Cert.KernelGateIdeal.nD) → Buf (Elt Ideal) ((c.tc : Thread Cert.KernelGateIdeal.nD Cert.KernelGateIdeal.τ).loc Cert.KernelGateIdeal.main_v0_0)) (v1 : (c : Dev Cert.KernelGateIdeal.nD) → Buf (Elt Ideal) ((c.tc : Thread Cert.KernelGateIdeal.nD Cert.KernelGateIdeal.τ).loc Cert.KernelGateIdeal.main_v0_1)) (v2 : (c : Dev Cert.KernelGateIdeal.nD) → Buf (Elt Ideal) ((c.tc : Thread Cert.KernelGateIdeal.nD Cert.KernelGateIdeal.τ).loc Cert.KernelGateIdeal.main_v0_2)) (v3 : (c : Dev Cert.KernelGateIdeal.nD) → Buf (Elt Ideal) ((c.tc : Thread Cert.KernelGateIdeal.nD Cert.KernelGateIdeal.τ).loc Cert.KernelGateIdeal.main_v0_3)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v0_0) = v0 c
          ∧ r.2.mem ((c.tc : Thread Cert.KernelGateIdeal.nD Cert.KernelGateIdeal.τ).loc Cert.KernelGateIdeal.main_v0_1) = v1 c
          ∧ r.2.mem ((c.tc : Thread Cert.KernelGateIdeal.nD Cert.KernelGateIdeal.τ).loc Cert.KernelGateIdeal.main_v0_2) = v2 c
          ∧ r.2.mem ((c.tc : Thread Cert.KernelGateIdeal.nD Cert.KernelGateIdeal.τ).loc Cert.KernelGateIdeal.main_v0_3) = v3 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
          ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
          ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v31) = v0 c
          ∧ r.2.mem ((c.tc : Thread Cert.ReferenceGateIdeal.nD Cert.ReferenceGateIdeal.τ).loc Cert.ReferenceGateIdeal.main_v32) = v1 c
          ∧ r.2.mem ((c.tc : Thread Cert.ReferenceGateIdeal.nD Cert.ReferenceGateIdeal.τ).loc Cert.ReferenceGateIdeal.main_v33) = v2 c
          ∧ r.2.mem ((c.tc : Thread Cert.ReferenceGateIdeal.nD Cert.ReferenceGateIdeal.τ).loc Cert.ReferenceGateIdeal.main_v34) = v3 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1)
          ∧ r.2.mem ((c.tc : Thread Cert.ReferenceGateIdeal.nD Cert.ReferenceGateIdeal.τ).loc Cert.ReferenceGateIdeal.main_arg2) = m' ((c.tc : Thread Cert.ReferenceGateIdeal.nD Cert.ReferenceGateIdeal.τ).loc Cert.ReferenceGateIdeal.main_arg2)
          ∧ r.2.mem ((c.tc : Thread Cert.ReferenceGateIdeal.nD Cert.ReferenceGateIdeal.τ).loc Cert.ReferenceGateIdeal.main_arg3) = m' ((c.tc : Thread Cert.ReferenceGateIdeal.nD Cert.ReferenceGateIdeal.τ).loc Cert.ReferenceGateIdeal.main_arg3))

def preserves_KernelRelu2_KernelRelu2Ideal : Prop :=
  True

def algebraic_KernelRelu2Ideal_ReferenceRelu2Ideal [hKernelRelu2Ideal : Cert.KernelRelu2Ideal.Facts] [hReferenceRelu2Ideal : Cert.ReferenceRelu2Ideal.Facts] : Prop :=
  ∀ (m : (ℓ : Loc Cert.KernelRelu2Ideal.nD Cert.KernelRelu2Ideal.τ Cert.KernelRelu2Ideal.sig) → Buf (Elt Ideal) ℓ) (g : Dev Cert.KernelRelu2Ideal.nD → PrngReg)
    (m' : (ℓ : Loc Cert.ReferenceRelu2Ideal.nD Cert.ReferenceRelu2Ideal.τ Cert.ReferenceRelu2Ideal.sig) → Buf (Elt Ideal) ℓ) (g' : Dev Cert.ReferenceRelu2Ideal.nD → PrngReg), Pre_KernelRelu2Ideal m →
    (∀ c : Dev Cert.KernelRelu2Ideal.nD,
      m' ((c.tc : Thread Cert.ReferenceRelu2Ideal.nD Cert.ReferenceRelu2Ideal.τ).loc Cert.ReferenceRelu2Ideal.main_arg0) = m ((c.tc : Thread Cert.KernelRelu2Ideal.nD Cert.KernelRelu2Ideal.τ).loc Cert.KernelRelu2Ideal.main_arg0)
      ∧ m' ((c.tc : Thread Cert.ReferenceRelu2Ideal.nD Cert.ReferenceRelu2Ideal.τ).loc Cert.ReferenceRelu2Ideal.main_arg1) = m ((c.tc : Thread Cert.KernelRelu2Ideal.nD Cert.KernelRelu2Ideal.τ).loc Cert.KernelRelu2Ideal.main_arg1)
      ∧ m' ((c.tc : Thread Cert.ReferenceRelu2Ideal.nD Cert.ReferenceRelu2Ideal.τ).loc Cert.ReferenceRelu2Ideal.main_arg2) = m ((c.tc : Thread Cert.KernelRelu2Ideal.nD Cert.KernelRelu2Ideal.τ).loc Cert.KernelRelu2Ideal.main_arg2)) →
    ∃ (v0 : (c : Dev Cert.KernelRelu2Ideal.nD) → Buf (Elt Ideal) ((c.tc : Thread Cert.KernelRelu2Ideal.nD Cert.KernelRelu2Ideal.τ).loc Cert.KernelRelu2Ideal.main_v0)),
      θ_run (Cert.KernelRelu2Ideal.defs (F := Ideal)) (onTc (τ := Cert.KernelRelu2Ideal.τ) (Cert.KernelRelu2Ideal.main (F := Ideal))) ⟨m, fun _ => 0, g⟩ (fun r => ∀ c : Dev Cert.KernelRelu2Ideal.nD,
          r.2.mem ((c.tc : Thread Cert.KernelRelu2Ideal.nD Cert.KernelRelu2Ideal.τ).loc Cert.KernelRelu2Ideal.main_v0) = v0 c
          ∧ r.2.mem ((c.tc : Thread Cert.KernelRelu2Ideal.nD Cert.KernelRelu2Ideal.τ).loc Cert.KernelRelu2Ideal.main_arg0) = m ((c.tc : Thread Cert.KernelRelu2Ideal.nD Cert.KernelRelu2Ideal.τ).loc Cert.KernelRelu2Ideal.main_arg0)
          ∧ r.2.mem ((c.tc : Thread Cert.KernelRelu2Ideal.nD Cert.KernelRelu2Ideal.τ).loc Cert.KernelRelu2Ideal.main_arg1) = m ((c.tc : Thread Cert.KernelRelu2Ideal.nD Cert.KernelRelu2Ideal.τ).loc Cert.KernelRelu2Ideal.main_arg1)
          ∧ r.2.mem ((c.tc : Thread Cert.KernelRelu2Ideal.nD Cert.KernelRelu2Ideal.τ).loc Cert.KernelRelu2Ideal.main_arg2) = m ((c.tc : Thread Cert.KernelRelu2Ideal.nD Cert.KernelRelu2Ideal.τ).loc Cert.KernelRelu2Ideal.main_arg2))
      ∧ θ_run (Cert.ReferenceRelu2Ideal.defs (F := Ideal)) (onTc (τ := Cert.ReferenceRelu2Ideal.τ) (Cert.ReferenceRelu2Ideal.main (F := Ideal))) ⟨m', fun _ => 0, g'⟩ (fun r => ∀ c : Dev Cert.ReferenceRelu2Ideal.nD,
          r.2.mem ((c.tc : Thread Cert.ReferenceRelu2Ideal.nD Cert.ReferenceRelu2Ideal.τ).loc Cert.ReferenceRelu2Ideal.main_v14) = v0 c
          ∧ r.2.mem ((c.tc : Thread Cert.ReferenceRelu2Ideal.nD Cert.ReferenceRelu2Ideal.τ).loc Cert.ReferenceRelu2Ideal.main_arg0) = m' ((c.tc : Thread Cert.ReferenceRelu2Ideal.nD Cert.ReferenceRelu2Ideal.τ).loc Cert.ReferenceRelu2Ideal.main_arg0)
          ∧ r.2.mem ((c.tc : Thread Cert.ReferenceRelu2Ideal.nD Cert.ReferenceRelu2Ideal.τ).loc Cert.ReferenceRelu2Ideal.main_arg1) = m' ((c.tc : Thread Cert.ReferenceRelu2Ideal.nD Cert.ReferenceRelu2Ideal.τ).loc Cert.ReferenceRelu2Ideal.main_arg1)
          ∧ r.2.mem ((c.tc : Thread Cert.ReferenceRelu2Ideal.nD Cert.ReferenceRelu2Ideal.τ).loc Cert.ReferenceRelu2Ideal.main_arg2) = m' ((c.tc : Thread Cert.ReferenceRelu2Ideal.nD Cert.ReferenceRelu2Ideal.τ).loc Cert.ReferenceRelu2Ideal.main_arg2))

def preserves_KernelPost_KernelPostIdeal : Prop :=
  True

def algebraic_KernelPostIdeal_ReferencePostIdeal_pre_finite_post [hKernelPostIdeal : Cert.KernelPostIdeal.Facts] [hReferencePostIdeal : Cert.ReferencePostIdeal.Facts] [hPre_finite_post : Cert.Pre_finite_post.Facts] : Prop :=
  ∀ (m : (ℓ : Loc Cert.KernelPostIdeal.nD Cert.KernelPostIdeal.τ Cert.KernelPostIdeal.sig) → Buf (Elt Ideal) ℓ) (g : Dev Cert.KernelPostIdeal.nD → PrngReg)
    (m' : (ℓ : Loc Cert.ReferencePostIdeal.nD Cert.ReferencePostIdeal.τ Cert.ReferencePostIdeal.sig) → Buf (Elt Ideal) ℓ) (g' : Dev Cert.ReferencePostIdeal.nD → PrngReg), Pre_KernelPostIdeal_finite_post m →
    (∀ c : Dev Cert.KernelPostIdeal.nD,
      m' ((c.tc : Thread Cert.ReferencePostIdeal.nD Cert.ReferencePostIdeal.τ).loc Cert.ReferencePostIdeal.main_arg0) = m ((c.tc : Thread Cert.KernelPostIdeal.nD Cert.KernelPostIdeal.τ).loc Cert.KernelPostIdeal.main_arg0)
      ∧ m' ((c.tc : Thread Cert.ReferencePostIdeal.nD Cert.ReferencePostIdeal.τ).loc Cert.ReferencePostIdeal.main_arg1) = m ((c.tc : Thread Cert.KernelPostIdeal.nD Cert.KernelPostIdeal.τ).loc Cert.KernelPostIdeal.main_arg1)
      ∧ m' ((c.tc : Thread Cert.ReferencePostIdeal.nD Cert.ReferencePostIdeal.τ).loc Cert.ReferencePostIdeal.main_arg2) = m ((c.tc : Thread Cert.KernelPostIdeal.nD Cert.KernelPostIdeal.τ).loc Cert.KernelPostIdeal.main_arg2)
      ∧ m' ((c.tc : Thread Cert.ReferencePostIdeal.nD Cert.ReferencePostIdeal.τ).loc Cert.ReferencePostIdeal.main_arg3) = m ((c.tc : Thread Cert.KernelPostIdeal.nD Cert.KernelPostIdeal.τ).loc Cert.KernelPostIdeal.main_arg3)) →
    ∃ (v0 : (c : Dev Cert.KernelPostIdeal.nD) → Buf (Elt Ideal) ((c.tc : Thread Cert.KernelPostIdeal.nD Cert.KernelPostIdeal.τ).loc Cert.KernelPostIdeal.main_v0_0)) (v1 : (c : Dev Cert.KernelPostIdeal.nD) → Buf (Elt Ideal) ((c.tc : Thread Cert.KernelPostIdeal.nD Cert.KernelPostIdeal.τ).loc Cert.KernelPostIdeal.main_v0_1)) (v2 : (c : Dev Cert.KernelPostIdeal.nD) → Buf (Elt Ideal) ((c.tc : Thread Cert.KernelPostIdeal.nD Cert.KernelPostIdeal.τ).loc Cert.KernelPostIdeal.main_v0_2)),
      θ_run (Cert.KernelPostIdeal.defs (F := Ideal)) (onTc (τ := Cert.KernelPostIdeal.τ) (Cert.KernelPostIdeal.main (F := Ideal))) ⟨m, fun _ => 0, g⟩ (fun r => ∀ c : Dev Cert.KernelPostIdeal.nD,
          r.2.mem ((c.tc : Thread Cert.KernelPostIdeal.nD Cert.KernelPostIdeal.τ).loc Cert.KernelPostIdeal.main_v0_0) = v0 c
          ∧ r.2.mem ((c.tc : Thread Cert.KernelPostIdeal.nD Cert.KernelPostIdeal.τ).loc Cert.KernelPostIdeal.main_v0_1) = v1 c
          ∧ r.2.mem ((c.tc : Thread Cert.KernelPostIdeal.nD Cert.KernelPostIdeal.τ).loc Cert.KernelPostIdeal.main_v0_2) = v2 c
          ∧ r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
          ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
          ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
          ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3))
      ∧ θ_run (Cert.ReferencePostIdeal.defs (F := Ideal)) (onTc (τ := Cert.ReferencePostIdeal.τ) (Cert.ReferencePostIdeal.main (F := Ideal))) ⟨m', fun _ => 0, g'⟩ (fun r => ∀ c : Dev Cert.ReferencePostIdeal.nD,
          r.2.mem ((c.tc : Thread Cert.ReferencePostIdeal.nD Cert.ReferencePostIdeal.τ).loc Cert.ReferencePostIdeal.main_v43) = v0 c
          ∧ r.2.mem ((c.tc : Thread Cert.ReferencePostIdeal.nD Cert.ReferencePostIdeal.τ).loc Cert.ReferencePostIdeal.main_v23) = v1 c
          ∧ r.2.mem ((c.tc : Thread Cert.ReferencePostIdeal.nD Cert.ReferencePostIdeal.τ).loc Cert.ReferencePostIdeal.main_v26) = v2 c
          ∧ r.2.mem ((c.tc : Thread Cert.ReferencePostIdeal.nD Cert.ReferencePostIdeal.τ).loc Cert.ReferencePostIdeal.main_arg0) = m' ((c.tc : Thread Cert.ReferencePostIdeal.nD Cert.ReferencePostIdeal.τ).loc Cert.ReferencePostIdeal.main_arg0)
          ∧ r.2.mem ((c.tc : Thread Cert.ReferencePostIdeal.nD Cert.ReferencePostIdeal.τ).loc Cert.ReferencePostIdeal.main_arg1) = m' ((c.tc : Thread Cert.ReferencePostIdeal.nD Cert.ReferencePostIdeal.τ).loc Cert.ReferencePostIdeal.main_arg1)
          ∧ r.2.mem ((c.tc : Thread Cert.ReferencePostIdeal.nD Cert.ReferencePostIdeal.τ).loc Cert.ReferencePostIdeal.main_arg2) = m' ((c.tc : Thread Cert.ReferencePostIdeal.nD Cert.ReferencePostIdeal.τ).loc Cert.ReferencePostIdeal.main_arg2)
          ∧ r.2.mem ((c.tc : Thread Cert.ReferencePostIdeal.nD Cert.ReferencePostIdeal.τ).loc Cert.ReferencePostIdeal.main_arg3) = m' ((c.tc : Thread Cert.ReferencePostIdeal.nD Cert.ReferencePostIdeal.τ).loc Cert.ReferencePostIdeal.main_arg3))

def preserves_KernelPre_KernelPreIdeal : Prop :=
  True

def algebraic_KernelPreIdeal_ReferencePreIdeal_pre_finite_pre [hKernelPreIdeal : Cert.KernelPreIdeal.Facts] [hReferencePreIdeal : Cert.ReferencePreIdeal.Facts] [hPre_finite_pre : Cert.Pre_finite_pre.Facts] : Prop :=
  ∀ (m : (ℓ : Loc Cert.KernelPreIdeal.nD Cert.KernelPreIdeal.τ Cert.KernelPreIdeal.sig) → Buf (Elt Ideal) ℓ) (g : Dev Cert.KernelPreIdeal.nD → PrngReg)
    (m' : (ℓ : Loc Cert.ReferencePreIdeal.nD Cert.ReferencePreIdeal.τ Cert.ReferencePreIdeal.sig) → Buf (Elt Ideal) ℓ) (g' : Dev Cert.ReferencePreIdeal.nD → PrngReg), Pre_KernelPreIdeal_finite_pre m →
    (∀ c : Dev Cert.KernelPreIdeal.nD,
      m' ((c.tc : Thread Cert.ReferencePreIdeal.nD Cert.ReferencePreIdeal.τ).loc Cert.ReferencePreIdeal.main_arg0) = m ((c.tc : Thread Cert.KernelPreIdeal.nD Cert.KernelPreIdeal.τ).loc Cert.KernelPreIdeal.main_arg0)
      ∧ m' ((c.tc : Thread Cert.ReferencePreIdeal.nD Cert.ReferencePreIdeal.τ).loc Cert.ReferencePreIdeal.main_arg1) = m ((c.tc : Thread Cert.KernelPreIdeal.nD Cert.KernelPreIdeal.τ).loc Cert.KernelPreIdeal.main_arg1)
      ∧ m' ((c.tc : Thread Cert.ReferencePreIdeal.nD Cert.ReferencePreIdeal.τ).loc Cert.ReferencePreIdeal.main_arg2) = m ((c.tc : Thread Cert.KernelPreIdeal.nD Cert.KernelPreIdeal.τ).loc Cert.KernelPreIdeal.main_arg2)
      ∧ m' ((c.tc : Thread Cert.ReferencePreIdeal.nD Cert.ReferencePreIdeal.τ).loc Cert.ReferencePreIdeal.main_arg3) = m ((c.tc : Thread Cert.KernelPreIdeal.nD Cert.KernelPreIdeal.τ).loc Cert.KernelPreIdeal.main_arg3)
      ∧ m' ((c.tc : Thread Cert.ReferencePreIdeal.nD Cert.ReferencePreIdeal.τ).loc Cert.ReferencePreIdeal.main_arg4) = m ((c.tc : Thread Cert.KernelPreIdeal.nD Cert.KernelPreIdeal.τ).loc Cert.KernelPreIdeal.main_arg4)) →
    ∃ (v0 : (c : Dev Cert.KernelPreIdeal.nD) → Buf (Elt Ideal) ((c.tc : Thread Cert.KernelPreIdeal.nD Cert.KernelPreIdeal.τ).loc Cert.KernelPreIdeal.main_v0_0)) (v1 : (c : Dev Cert.KernelPreIdeal.nD) → Buf (Elt Ideal) ((c.tc : Thread Cert.KernelPreIdeal.nD Cert.KernelPreIdeal.τ).loc Cert.KernelPreIdeal.main_v0_1)) (v2 : (c : Dev Cert.KernelPreIdeal.nD) → Buf (Elt Ideal) ((c.tc : Thread Cert.KernelPreIdeal.nD Cert.KernelPreIdeal.τ).loc Cert.KernelPreIdeal.main_v0_2)) (v3 : (c : Dev Cert.KernelPreIdeal.nD) → Buf (Elt Ideal) ((c.tc : Thread Cert.KernelPreIdeal.nD Cert.KernelPreIdeal.τ).loc Cert.KernelPreIdeal.main_v0_3)),
      θ_run (Cert.KernelPreIdeal.defs (F := Ideal)) (onTc (τ := Cert.KernelPreIdeal.τ) (Cert.KernelPreIdeal.main (F := Ideal))) ⟨m, fun _ => 0, g⟩ (fun r => ∀ c : Dev Cert.KernelPreIdeal.nD,
          r.2.mem ((c.tc : Thread Cert.KernelPreIdeal.nD Cert.KernelPreIdeal.τ).loc Cert.KernelPreIdeal.main_v0_0) = v0 c
          ∧ r.2.mem ((c.tc : Thread Cert.KernelPreIdeal.nD Cert.KernelPreIdeal.τ).loc Cert.KernelPreIdeal.main_v0_1) = v1 c
          ∧ r.2.mem ((c.tc : Thread Cert.KernelPreIdeal.nD Cert.KernelPreIdeal.τ).loc Cert.KernelPreIdeal.main_v0_2) = v2 c
          ∧ r.2.mem ((c.tc : Thread Cert.KernelPreIdeal.nD Cert.KernelPreIdeal.τ).loc Cert.KernelPreIdeal.main_v0_3) = v3 c
          ∧ r.2.mem ((c.tc : Thread Cert.KernelPreIdeal.nD Cert.KernelPreIdeal.τ).loc Cert.KernelPreIdeal.main_arg0) = m ((c.tc : Thread Cert.KernelPreIdeal.nD Cert.KernelPreIdeal.τ).loc Cert.KernelPreIdeal.main_arg0)
          ∧ r.2.mem ((c.tc : Thread Cert.KernelPreIdeal.nD Cert.KernelPreIdeal.τ).loc Cert.KernelPreIdeal.main_arg1) = m ((c.tc : Thread Cert.KernelPreIdeal.nD Cert.KernelPreIdeal.τ).loc Cert.KernelPreIdeal.main_arg1)
          ∧ r.2.mem ((c.tc : Thread Cert.KernelPreIdeal.nD Cert.KernelPreIdeal.τ).loc Cert.KernelPreIdeal.main_arg2) = m ((c.tc : Thread Cert.KernelPreIdeal.nD Cert.KernelPreIdeal.τ).loc Cert.KernelPreIdeal.main_arg2)
          ∧ r.2.mem ((c.tc : Thread Cert.KernelPreIdeal.nD Cert.KernelPreIdeal.τ).loc Cert.KernelPreIdeal.main_arg3) = m ((c.tc : Thread Cert.KernelPreIdeal.nD Cert.KernelPreIdeal.τ).loc Cert.KernelPreIdeal.main_arg3)
          ∧ r.2.mem ((c.tc : Thread Cert.KernelPreIdeal.nD Cert.KernelPreIdeal.τ).loc Cert.KernelPreIdeal.main_arg4) = m ((c.tc : Thread Cert.KernelPreIdeal.nD Cert.KernelPreIdeal.τ).loc Cert.KernelPreIdeal.main_arg4))
      ∧ θ_run (Cert.ReferencePreIdeal.defs (F := Ideal)) (onTc (τ := Cert.ReferencePreIdeal.τ) (Cert.ReferencePreIdeal.main (F := Ideal))) ⟨m', fun _ => 0, g'⟩ (fun r => ∀ c : Dev Cert.ReferencePreIdeal.nD,
          r.2.mem ((c.tc : Thread Cert.ReferencePreIdeal.nD Cert.ReferencePreIdeal.τ).loc Cert.ReferencePreIdeal.main_v49) = v0 c
          ∧ r.2.mem ((c.tc : Thread Cert.ReferencePreIdeal.nD Cert.ReferencePreIdeal.τ).loc Cert.ReferencePreIdeal.main_v24) = v1 c
          ∧ r.2.mem ((c.tc : Thread Cert.ReferencePreIdeal.nD Cert.ReferencePreIdeal.τ).loc Cert.ReferencePreIdeal.main_v27) = v2 c
          ∧ r.2.mem ((c.tc : Thread Cert.ReferencePreIdeal.nD Cert.ReferencePreIdeal.τ).loc Cert.ReferencePreIdeal.main_v32) = v3 c
          ∧ r.2.mem ((c.tc : Thread Cert.ReferencePreIdeal.nD Cert.ReferencePreIdeal.τ).loc Cert.ReferencePreIdeal.main_arg0) = m' ((c.tc : Thread Cert.ReferencePreIdeal.nD Cert.ReferencePreIdeal.τ).loc Cert.ReferencePreIdeal.main_arg0)
          ∧ r.2.mem ((c.tc : Thread Cert.ReferencePreIdeal.nD Cert.ReferencePreIdeal.τ).loc Cert.ReferencePreIdeal.main_arg1) = m' ((c.tc : Thread Cert.ReferencePreIdeal.nD Cert.ReferencePreIdeal.τ).loc Cert.ReferencePreIdeal.main_arg1)
          ∧ r.2.mem ((c.tc : Thread Cert.ReferencePreIdeal.nD Cert.ReferencePreIdeal.τ).loc Cert.ReferencePreIdeal.main_arg2) = m' ((c.tc : Thread Cert.ReferencePreIdeal.nD Cert.ReferencePreIdeal.τ).loc Cert.ReferencePreIdeal.main_arg2)
          ∧ r.2.mem ((c.tc : Thread Cert.ReferencePreIdeal.nD Cert.ReferencePreIdeal.τ).loc Cert.ReferencePreIdeal.main_arg3) = m' ((c.tc : Thread Cert.ReferencePreIdeal.nD Cert.ReferencePreIdeal.τ).loc Cert.ReferencePreIdeal.main_arg3)
          ∧ r.2.mem ((c.tc : Thread Cert.ReferencePreIdeal.nD Cert.ReferencePreIdeal.τ).loc Cert.ReferencePreIdeal.main_arg4) = m' ((c.tc : Thread Cert.ReferencePreIdeal.nD Cert.ReferencePreIdeal.τ).loc Cert.ReferencePreIdeal.main_arg4))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)) →
    ∃ (v0 : (c : Dev Cert.KernelLossIdeal.nD) → Buf (Elt Ideal) ((c.tc : Thread Cert.KernelLossIdeal.nD Cert.KernelLossIdeal.τ).loc Cert.KernelLossIdeal.main_v0_0)) (v1 : (c : Dev Cert.KernelLossIdeal.nD) → Buf (Elt Ideal) ((c.tc : Thread Cert.KernelLossIdeal.nD Cert.KernelLossIdeal.τ).loc Cert.KernelLossIdeal.main_v0_1)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v0_0) = v0 c
          ∧ r.2.mem ((c.tc : Thread Cert.KernelLossIdeal.nD Cert.KernelLossIdeal.τ).loc Cert.KernelLossIdeal.main_v0_1) = v1 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v14) = v0 c
          ∧ r.2.mem ((c.tc : Thread Cert.ReferenceLossIdeal.nD Cert.ReferenceLossIdeal.τ).loc Cert.ReferenceLossIdeal.main_v15) = v1 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1))

def preserves_KernelConv_KernelConvIdeal : Prop :=
  True

def algebraic_KernelConvIdeal_ReferenceConvIdeal [hKernelConvIdeal : Cert.KernelConvIdeal.Facts] [hReferenceConvIdeal : Cert.ReferenceConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelConvIdeal m →
    (∀ c : Dev Cert.KernelConvIdeal.nD,
      m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0)
      ∧ m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1)
      ∧ m' ((c.tc : Thread Cert.ReferenceConvIdeal.nD Cert.ReferenceConvIdeal.τ).loc Cert.ReferenceConvIdeal.main_arg2) = m ((c.tc : Thread Cert.KernelConvIdeal.nD Cert.KernelConvIdeal.τ).loc Cert.KernelConvIdeal.main_arg2)) →
    ∃ (v0 : (c : Dev Cert.KernelConvIdeal.nD) → Buf (Elt Ideal) ((c.tc : Thread Cert.KernelConvIdeal.nD Cert.KernelConvIdeal.τ).loc Cert.KernelConvIdeal.main_v0_0)) (v1 : (c : Dev Cert.KernelConvIdeal.nD) → Buf (Elt Ideal) ((c.tc : Thread Cert.KernelConvIdeal.nD Cert.KernelConvIdeal.τ).loc Cert.KernelConvIdeal.main_v0_1)) (v2 : (c : Dev Cert.KernelConvIdeal.nD) → Buf (Elt Ideal) ((c.tc : Thread Cert.KernelConvIdeal.nD Cert.KernelConvIdeal.τ).loc Cert.KernelConvIdeal.main_v0_2)) (v3 : (c : Dev Cert.KernelConvIdeal.nD) → Buf (Elt Ideal) ((c.tc : Thread Cert.KernelConvIdeal.nD Cert.KernelConvIdeal.τ).loc Cert.KernelConvIdeal.main_v0_3)) (v4 : (c : Dev Cert.KernelConvIdeal.nD) → Buf (Elt Ideal) ((c.tc : Thread Cert.KernelConvIdeal.nD Cert.KernelConvIdeal.τ).loc Cert.KernelConvIdeal.main_v0_4)) (v5 : (c : Dev Cert.KernelConvIdeal.nD) → Buf (Elt Ideal) ((c.tc : Thread Cert.KernelConvIdeal.nD Cert.KernelConvIdeal.τ).loc Cert.KernelConvIdeal.main_v0_5)),
      θ_run (Cert.KernelConvIdeal.defs (F := Ideal)) (onTc (τ := Cert.KernelConvIdeal.τ) (Cert.KernelConvIdeal.main (F := Ideal))) ⟨m, fun _ => 0, g⟩ (fun r => ∀ c : Dev Cert.KernelConvIdeal.nD,
          r.2.mem ((c.tc : Thread Cert.KernelConvIdeal.nD Cert.KernelConvIdeal.τ).loc Cert.KernelConvIdeal.main_v0_0) = v0 c
          ∧ r.2.mem ((c.tc : Thread Cert.KernelConvIdeal.nD Cert.KernelConvIdeal.τ).loc Cert.KernelConvIdeal.main_v0_1) = v1 c
          ∧ r.2.mem ((c.tc : Thread Cert.KernelConvIdeal.nD Cert.KernelConvIdeal.τ).loc Cert.KernelConvIdeal.main_v0_2) = v2 c
          ∧ r.2.mem ((c.tc : Thread Cert.KernelConvIdeal.nD Cert.KernelConvIdeal.τ).loc Cert.KernelConvIdeal.main_v0_3) = v3 c
          ∧ r.2.mem ((c.tc : Thread Cert.KernelConvIdeal.nD Cert.KernelConvIdeal.τ).loc Cert.KernelConvIdeal.main_v0_4) = v4 c
          ∧ r.2.mem ((c.tc : Thread Cert.KernelConvIdeal.nD Cert.KernelConvIdeal.τ).loc Cert.KernelConvIdeal.main_v0_5) = v5 c
          ∧ r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
          ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
          ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v67) = v0 c
          ∧ r.2.mem ((c.tc : Thread Cert.ReferenceConvIdeal.nD Cert.ReferenceConvIdeal.τ).loc Cert.ReferenceConvIdeal.main_v68) = v1 c
          ∧ r.2.mem ((c.tc : Thread Cert.ReferenceConvIdeal.nD Cert.ReferenceConvIdeal.τ).loc Cert.ReferenceConvIdeal.main_v69) = v2 c
          ∧ r.2.mem ((c.tc : Thread Cert.ReferenceConvIdeal.nD Cert.ReferenceConvIdeal.τ).loc Cert.ReferenceConvIdeal.main_v70) = v3 c
          ∧ r.2.mem ((c.tc : Thread Cert.ReferenceConvIdeal.nD Cert.ReferenceConvIdeal.τ).loc Cert.ReferenceConvIdeal.main_v71) = v4 c
          ∧ r.2.mem ((c.tc : Thread Cert.ReferenceConvIdeal.nD Cert.ReferenceConvIdeal.τ).loc Cert.ReferenceConvIdeal.main_v72) = v5 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1)
          ∧ r.2.mem ((c.tc : Thread Cert.ReferenceConvIdeal.nD Cert.ReferenceConvIdeal.τ).loc Cert.ReferenceConvIdeal.main_arg2) = m' ((c.tc : Thread Cert.ReferenceConvIdeal.nD Cert.ReferenceConvIdeal.τ).loc Cert.ReferenceConvIdeal.main_arg2))

def preserves_KernelGateFwd_KernelGateFwdIdeal : Prop :=
  True

def algebraic_KernelGateFwdIdeal_ReferenceGateFwdIdeal [hKernelGateFwdIdeal : Cert.KernelGateFwdIdeal.Facts] [hReferenceGateFwdIdeal : Cert.ReferenceGateFwdIdeal.Facts] : Prop :=
  ∀ (m : (ℓ : Loc Cert.KernelGateFwdIdeal.nD Cert.KernelGateFwdIdeal.τ Cert.KernelGateFwdIdeal.sig) → Buf (Elt Ideal) ℓ) (g : Dev Cert.KernelGateFwdIdeal.nD → PrngReg)
    (m' : (ℓ : Loc Cert.ReferenceGateFwdIdeal.nD Cert.ReferenceGateFwdIdeal.τ Cert.ReferenceGateFwdIdeal.sig) → Buf (Elt Ideal) ℓ) (g' : Dev Cert.ReferenceGateFwdIdeal.nD → PrngReg), Pre_KernelGateFwdIdeal m →
    (∀ c : Dev Cert.KernelGateFwdIdeal.nD,
      m' ((c.tc : Thread Cert.ReferenceGateFwdIdeal.nD Cert.ReferenceGateFwdIdeal.τ).loc Cert.ReferenceGateFwdIdeal.main_arg0) = m ((c.tc : Thread Cert.KernelGateFwdIdeal.nD Cert.KernelGateFwdIdeal.τ).loc Cert.KernelGateFwdIdeal.main_arg0)
      ∧ m' ((c.tc : Thread Cert.ReferenceGateFwdIdeal.nD Cert.ReferenceGateFwdIdeal.τ).loc Cert.ReferenceGateFwdIdeal.main_arg1) = m ((c.tc : Thread Cert.KernelGateFwdIdeal.nD Cert.KernelGateFwdIdeal.τ).loc Cert.KernelGateFwdIdeal.main_arg1)
      ∧ m' ((c.tc : Thread Cert.ReferenceGateFwdIdeal.nD Cert.ReferenceGateFwdIdeal.τ).loc Cert.ReferenceGateFwdIdeal.main_arg2) = m ((c.tc : Thread Cert.KernelGateFwdIdeal.nD Cert.KernelGateFwdIdeal.τ).loc Cert.KernelGateFwdIdeal.main_arg2)) →
    ∃ (v0 : (c : Dev Cert.KernelGateFwdIdeal.nD) → Buf (Elt Ideal) ((c.tc : Thread Cert.KernelGateFwdIdeal.nD Cert.KernelGateFwdIdeal.τ).loc Cert.KernelGateFwdIdeal.main_v0)),
      θ_run (Cert.KernelGateFwdIdeal.defs (F := Ideal)) (onTc (τ := Cert.KernelGateFwdIdeal.τ) (Cert.KernelGateFwdIdeal.main (F := Ideal))) ⟨m, fun _ => 0, g⟩ (fun r => ∀ c : Dev Cert.KernelGateFwdIdeal.nD,
          r.2.mem ((c.tc : Thread Cert.KernelGateFwdIdeal.nD Cert.KernelGateFwdIdeal.τ).loc Cert.KernelGateFwdIdeal.main_v0) = v0 c
          ∧ r.2.mem ((c.tc : Thread Cert.KernelGateFwdIdeal.nD Cert.KernelGateFwdIdeal.τ).loc Cert.KernelGateFwdIdeal.main_arg0) = m ((c.tc : Thread Cert.KernelGateFwdIdeal.nD Cert.KernelGateFwdIdeal.τ).loc Cert.KernelGateFwdIdeal.main_arg0)
          ∧ r.2.mem ((c.tc : Thread Cert.KernelGateFwdIdeal.nD Cert.KernelGateFwdIdeal.τ).loc Cert.KernelGateFwdIdeal.main_arg1) = m ((c.tc : Thread Cert.KernelGateFwdIdeal.nD Cert.KernelGateFwdIdeal.τ).loc Cert.KernelGateFwdIdeal.main_arg1)
          ∧ r.2.mem ((c.tc : Thread Cert.KernelGateFwdIdeal.nD Cert.KernelGateFwdIdeal.τ).loc Cert.KernelGateFwdIdeal.main_arg2) = m ((c.tc : Thread Cert.KernelGateFwdIdeal.nD Cert.KernelGateFwdIdeal.τ).loc Cert.KernelGateFwdIdeal.main_arg2))
      ∧ θ_run (Cert.ReferenceGateFwdIdeal.defs (F := Ideal)) (onTc (τ := Cert.ReferenceGateFwdIdeal.τ) (Cert.ReferenceGateFwdIdeal.main (F := Ideal))) ⟨m', fun _ => 0, g'⟩ (fun r => ∀ c : Dev Cert.ReferenceGateFwdIdeal.nD,
          r.2.mem ((c.tc : Thread Cert.ReferenceGateFwdIdeal.nD Cert.ReferenceGateFwdIdeal.τ).loc Cert.ReferenceGateFwdIdeal.main_v17) = v0 c
          ∧ r.2.mem ((c.tc : Thread Cert.ReferenceGateFwdIdeal.nD Cert.ReferenceGateFwdIdeal.τ).loc Cert.ReferenceGateFwdIdeal.main_arg0) = m' ((c.tc : Thread Cert.ReferenceGateFwdIdeal.nD Cert.ReferenceGateFwdIdeal.τ).loc Cert.ReferenceGateFwdIdeal.main_arg0)
          ∧ r.2.mem ((c.tc : Thread Cert.ReferenceGateFwdIdeal.nD Cert.ReferenceGateFwdIdeal.τ).loc Cert.ReferenceGateFwdIdeal.main_arg1) = m' ((c.tc : Thread Cert.ReferenceGateFwdIdeal.nD Cert.ReferenceGateFwdIdeal.τ).loc Cert.ReferenceGateFwdIdeal.main_arg1)
          ∧ r.2.mem ((c.tc : Thread Cert.ReferenceGateFwdIdeal.nD Cert.ReferenceGateFwdIdeal.τ).loc Cert.ReferenceGateFwdIdeal.main_arg2) = m' ((c.tc : Thread Cert.ReferenceGateFwdIdeal.nD Cert.ReferenceGateFwdIdeal.τ).loc Cert.ReferenceGateFwdIdeal.main_arg2))

def preserves_KernelConvFwd_KernelConvFwdIdeal : Prop :=
  True

def algebraic_KernelConvFwdIdeal_ReferenceConvFwdIdeal [hKernelConvFwdIdeal : Cert.KernelConvFwdIdeal.Facts] [hReferenceConvFwdIdeal : Cert.ReferenceConvFwdIdeal.Facts] : Prop :=
  ∀ (m : (ℓ : Loc Cert.KernelConvFwdIdeal.nD Cert.KernelConvFwdIdeal.τ Cert.KernelConvFwdIdeal.sig) → Buf (Elt Ideal) ℓ) (g : Dev Cert.KernelConvFwdIdeal.nD → PrngReg)
    (m' : (ℓ : Loc Cert.ReferenceConvFwdIdeal.nD Cert.ReferenceConvFwdIdeal.τ Cert.ReferenceConvFwdIdeal.sig) → Buf (Elt Ideal) ℓ) (g' : Dev Cert.ReferenceConvFwdIdeal.nD → PrngReg), Pre_KernelConvFwdIdeal m →
    (∀ c : Dev Cert.KernelConvFwdIdeal.nD,
      m' ((c.tc : Thread Cert.ReferenceConvFwdIdeal.nD Cert.ReferenceConvFwdIdeal.τ).loc Cert.ReferenceConvFwdIdeal.main_arg0) = m ((c.tc : Thread Cert.KernelConvFwdIdeal.nD Cert.KernelConvFwdIdeal.τ).loc Cert.KernelConvFwdIdeal.main_arg0)
      ∧ m' ((c.tc : Thread Cert.ReferenceConvFwdIdeal.nD Cert.ReferenceConvFwdIdeal.τ).loc Cert.ReferenceConvFwdIdeal.main_arg1) = m ((c.tc : Thread Cert.KernelConvFwdIdeal.nD Cert.KernelConvFwdIdeal.τ).loc Cert.KernelConvFwdIdeal.main_arg1)) →
    ∃ (v0 : (c : Dev Cert.KernelConvFwdIdeal.nD) → Buf (Elt Ideal) ((c.tc : Thread Cert.KernelConvFwdIdeal.nD Cert.KernelConvFwdIdeal.τ).loc Cert.KernelConvFwdIdeal.main_v0)),
      θ_run (Cert.KernelConvFwdIdeal.defs (F := Ideal)) (onTc (τ := Cert.KernelConvFwdIdeal.τ) (Cert.KernelConvFwdIdeal.main (F := Ideal))) ⟨m, fun _ => 0, g⟩ (fun r => ∀ c : Dev Cert.KernelConvFwdIdeal.nD,
          r.2.mem ((c.tc : Thread Cert.KernelConvFwdIdeal.nD Cert.KernelConvFwdIdeal.τ).loc Cert.KernelConvFwdIdeal.main_v0) = v0 c
          ∧ r.2.mem ((c.tc : Thread Cert.KernelConvFwdIdeal.nD Cert.KernelConvFwdIdeal.τ).loc Cert.KernelConvFwdIdeal.main_arg0) = m ((c.tc : Thread Cert.KernelConvFwdIdeal.nD Cert.KernelConvFwdIdeal.τ).loc Cert.KernelConvFwdIdeal.main_arg0)
          ∧ r.2.mem ((c.tc : Thread Cert.KernelConvFwdIdeal.nD Cert.KernelConvFwdIdeal.τ).loc Cert.KernelConvFwdIdeal.main_arg1) = m ((c.tc : Thread Cert.KernelConvFwdIdeal.nD Cert.KernelConvFwdIdeal.τ).loc Cert.KernelConvFwdIdeal.main_arg1))
      ∧ θ_run (Cert.ReferenceConvFwdIdeal.defs (F := Ideal)) (onTc (τ := Cert.ReferenceConvFwdIdeal.τ) (Cert.ReferenceConvFwdIdeal.main (F := Ideal))) ⟨m', fun _ => 0, g'⟩ (fun r => ∀ c : Dev Cert.ReferenceConvFwdIdeal.nD,
          r.2.mem ((c.tc : Thread Cert.ReferenceConvFwdIdeal.nD Cert.ReferenceConvFwdIdeal.τ).loc Cert.ReferenceConvFwdIdeal.main_v29) = v0 c
          ∧ r.2.mem ((c.tc : Thread Cert.ReferenceConvFwdIdeal.nD Cert.ReferenceConvFwdIdeal.τ).loc Cert.ReferenceConvFwdIdeal.main_arg0) = m' ((c.tc : Thread Cert.ReferenceConvFwdIdeal.nD Cert.ReferenceConvFwdIdeal.τ).loc Cert.ReferenceConvFwdIdeal.main_arg0)
          ∧ r.2.mem ((c.tc : Thread Cert.ReferenceConvFwdIdeal.nD Cert.ReferenceConvFwdIdeal.τ).loc Cert.ReferenceConvFwdIdeal.main_arg1) = m' ((c.tc : Thread Cert.ReferenceConvFwdIdeal.nD Cert.ReferenceConvFwdIdeal.τ).loc Cert.ReferenceConvFwdIdeal.main_arg1))

def preserves_KernelPreFwd_KernelPreFwdIdeal : Prop :=
  True

def algebraic_KernelPreFwdIdeal_ReferencePreFwdIdeal [hKernelPreFwdIdeal : Cert.KernelPreFwdIdeal.Facts] [hReferencePreFwdIdeal : Cert.ReferencePreFwdIdeal.Facts] : Prop :=
  ∀ (m : (ℓ : Loc Cert.KernelPreFwdIdeal.nD Cert.KernelPreFwdIdeal.τ Cert.KernelPreFwdIdeal.sig) → Buf (Elt Ideal) ℓ) (g : Dev Cert.KernelPreFwdIdeal.nD → PrngReg)
    (m' : (ℓ : Loc Cert.ReferencePreFwdIdeal.nD Cert.ReferencePreFwdIdeal.τ Cert.ReferencePreFwdIdeal.sig) → Buf (Elt Ideal) ℓ) (g' : Dev Cert.ReferencePreFwdIdeal.nD → PrngReg), Pre_KernelPreFwdIdeal m →
    (∀ c : Dev Cert.KernelPreFwdIdeal.nD,
      m' ((c.tc : Thread Cert.ReferencePreFwdIdeal.nD Cert.ReferencePreFwdIdeal.τ).loc Cert.ReferencePreFwdIdeal.main_arg0) = m ((c.tc : Thread Cert.KernelPreFwdIdeal.nD Cert.KernelPreFwdIdeal.τ).loc Cert.KernelPreFwdIdeal.main_arg0)
      ∧ m' ((c.tc : Thread Cert.ReferencePreFwdIdeal.nD Cert.ReferencePreFwdIdeal.τ).loc Cert.ReferencePreFwdIdeal.main_arg1) = m ((c.tc : Thread Cert.KernelPreFwdIdeal.nD Cert.KernelPreFwdIdeal.τ).loc Cert.KernelPreFwdIdeal.main_arg1)
      ∧ m' ((c.tc : Thread Cert.ReferencePreFwdIdeal.nD Cert.ReferencePreFwdIdeal.τ).loc Cert.ReferencePreFwdIdeal.main_arg2) = m ((c.tc : Thread Cert.KernelPreFwdIdeal.nD Cert.KernelPreFwdIdeal.τ).loc Cert.KernelPreFwdIdeal.main_arg2)
      ∧ m' ((c.tc : Thread Cert.ReferencePreFwdIdeal.nD Cert.ReferencePreFwdIdeal.τ).loc Cert.ReferencePreFwdIdeal.main_arg3) = m ((c.tc : Thread Cert.KernelPreFwdIdeal.nD Cert.KernelPreFwdIdeal.τ).loc Cert.KernelPreFwdIdeal.main_arg3)) →
    ∃ (v0 : (c : Dev Cert.KernelPreFwdIdeal.nD) → Buf (Elt Ideal) ((c.tc : Thread Cert.KernelPreFwdIdeal.nD Cert.KernelPreFwdIdeal.τ).loc Cert.KernelPreFwdIdeal.main_v0)),
      θ_run (Cert.KernelPreFwdIdeal.defs (F := Ideal)) (onTc (τ := Cert.KernelPreFwdIdeal.τ) (Cert.KernelPreFwdIdeal.main (F := Ideal))) ⟨m, fun _ => 0, g⟩ (fun r => ∀ c : Dev Cert.KernelPreFwdIdeal.nD,
          r.2.mem ((c.tc : Thread Cert.KernelPreFwdIdeal.nD Cert.KernelPreFwdIdeal.τ).loc Cert.KernelPreFwdIdeal.main_v0) = v0 c
          ∧ r.2.mem ((c.tc : Thread Cert.KernelPreFwdIdeal.nD Cert.KernelPreFwdIdeal.τ).loc Cert.KernelPreFwdIdeal.main_arg0) = m ((c.tc : Thread Cert.KernelPreFwdIdeal.nD Cert.KernelPreFwdIdeal.τ).loc Cert.KernelPreFwdIdeal.main_arg0)
          ∧ r.2.mem ((c.tc : Thread Cert.KernelPreFwdIdeal.nD Cert.KernelPreFwdIdeal.τ).loc Cert.KernelPreFwdIdeal.main_arg1) = m ((c.tc : Thread Cert.KernelPreFwdIdeal.nD Cert.KernelPreFwdIdeal.τ).loc Cert.KernelPreFwdIdeal.main_arg1)
          ∧ r.2.mem ((c.tc : Thread Cert.KernelPreFwdIdeal.nD Cert.KernelPreFwdIdeal.τ).loc Cert.KernelPreFwdIdeal.main_arg2) = m ((c.tc : Thread Cert.KernelPreFwdIdeal.nD Cert.KernelPreFwdIdeal.τ).loc Cert.KernelPreFwdIdeal.main_arg2)
          ∧ r.2.mem ((c.tc : Thread Cert.KernelPreFwdIdeal.nD Cert.KernelPreFwdIdeal.τ).loc Cert.KernelPreFwdIdeal.main_arg3) = m ((c.tc : Thread Cert.KernelPreFwdIdeal.nD Cert.KernelPreFwdIdeal.τ).loc Cert.KernelPreFwdIdeal.main_arg3))
      ∧ θ_run (Cert.ReferencePreFwdIdeal.defs (F := Ideal)) (onTc (τ := Cert.ReferencePreFwdIdeal.τ) (Cert.ReferencePreFwdIdeal.main (F := Ideal))) ⟨m', fun _ => 0, g'⟩ (fun r => ∀ c : Dev Cert.ReferencePreFwdIdeal.nD,
          r.2.mem ((c.tc : Thread Cert.ReferencePreFwdIdeal.nD Cert.ReferencePreFwdIdeal.τ).loc Cert.ReferencePreFwdIdeal.main_v18) = v0 c
          ∧ r.2.mem ((c.tc : Thread Cert.ReferencePreFwdIdeal.nD Cert.ReferencePreFwdIdeal.τ).loc Cert.ReferencePreFwdIdeal.main_arg0) = m' ((c.tc : Thread Cert.ReferencePreFwdIdeal.nD Cert.ReferencePreFwdIdeal.τ).loc Cert.ReferencePreFwdIdeal.main_arg0)
          ∧ r.2.mem ((c.tc : Thread Cert.ReferencePreFwdIdeal.nD Cert.ReferencePreFwdIdeal.τ).loc Cert.ReferencePreFwdIdeal.main_arg1) = m' ((c.tc : Thread Cert.ReferencePreFwdIdeal.nD Cert.ReferencePreFwdIdeal.τ).loc Cert.ReferencePreFwdIdeal.main_arg1)
          ∧ r.2.mem ((c.tc : Thread Cert.ReferencePreFwdIdeal.nD Cert.ReferencePreFwdIdeal.τ).loc Cert.ReferencePreFwdIdeal.main_arg2) = m' ((c.tc : Thread Cert.ReferencePreFwdIdeal.nD Cert.ReferencePreFwdIdeal.τ).loc Cert.ReferencePreFwdIdeal.main_arg2)
          ∧ r.2.mem ((c.tc : Thread Cert.ReferencePreFwdIdeal.nD Cert.ReferencePreFwdIdeal.τ).loc Cert.ReferencePreFwdIdeal.main_arg3) = m' ((c.tc : Thread Cert.ReferencePreFwdIdeal.nD Cert.ReferencePreFwdIdeal.τ).loc Cert.ReferencePreFwdIdeal.main_arg3))

def preserves_KernelPostFwd_KernelPostFwdIdeal : Prop :=
  True

def algebraic_KernelPostFwdIdeal_ReferencePostFwdIdeal [hKernelPostFwdIdeal : Cert.KernelPostFwdIdeal.Facts] [hReferencePostFwdIdeal : Cert.ReferencePostFwdIdeal.Facts] : Prop :=
  ∀ (m : (ℓ : Loc Cert.KernelPostFwdIdeal.nD Cert.KernelPostFwdIdeal.τ Cert.KernelPostFwdIdeal.sig) → Buf (Elt Ideal) ℓ) (g : Dev Cert.KernelPostFwdIdeal.nD → PrngReg)
    (m' : (ℓ : Loc Cert.ReferencePostFwdIdeal.nD Cert.ReferencePostFwdIdeal.τ Cert.ReferencePostFwdIdeal.sig) → Buf (Elt Ideal) ℓ) (g' : Dev Cert.ReferencePostFwdIdeal.nD → PrngReg), Pre_KernelPostFwdIdeal m →
    (∀ c : Dev Cert.KernelPostFwdIdeal.nD,
      m' ((c.tc : Thread Cert.ReferencePostFwdIdeal.nD Cert.ReferencePostFwdIdeal.τ).loc Cert.ReferencePostFwdIdeal.main_arg0) = m ((c.tc : Thread Cert.KernelPostFwdIdeal.nD Cert.KernelPostFwdIdeal.τ).loc Cert.KernelPostFwdIdeal.main_arg0)
      ∧ m' ((c.tc : Thread Cert.ReferencePostFwdIdeal.nD Cert.ReferencePostFwdIdeal.τ).loc Cert.ReferencePostFwdIdeal.main_arg1) = m ((c.tc : Thread Cert.KernelPostFwdIdeal.nD Cert.KernelPostFwdIdeal.τ).loc Cert.KernelPostFwdIdeal.main_arg1)
      ∧ m' ((c.tc : Thread Cert.ReferencePostFwdIdeal.nD Cert.ReferencePostFwdIdeal.τ).loc Cert.ReferencePostFwdIdeal.main_arg2) = m ((c.tc : Thread Cert.KernelPostFwdIdeal.nD Cert.KernelPostFwdIdeal.τ).loc Cert.KernelPostFwdIdeal.main_arg2)
      ∧ m' ((c.tc : Thread Cert.ReferencePostFwdIdeal.nD Cert.ReferencePostFwdIdeal.τ).loc Cert.ReferencePostFwdIdeal.main_arg3) = m ((c.tc : Thread Cert.KernelPostFwdIdeal.nD Cert.KernelPostFwdIdeal.τ).loc Cert.KernelPostFwdIdeal.main_arg3)) →
    ∃ (v0 : (c : Dev Cert.KernelPostFwdIdeal.nD) → Buf (Elt Ideal) ((c.tc : Thread Cert.KernelPostFwdIdeal.nD Cert.KernelPostFwdIdeal.τ).loc Cert.KernelPostFwdIdeal.main_v0)),
      θ_run (Cert.KernelPostFwdIdeal.defs (F := Ideal)) (onTc (τ := Cert.KernelPostFwdIdeal.τ) (Cert.KernelPostFwdIdeal.main (F := Ideal))) ⟨m, fun _ => 0, g⟩ (fun r => ∀ c : Dev Cert.KernelPostFwdIdeal.nD,
          r.2.mem ((c.tc : Thread Cert.KernelPostFwdIdeal.nD Cert.KernelPostFwdIdeal.τ).loc Cert.KernelPostFwdIdeal.main_v0) = v0 c
          ∧ r.2.mem ((c.tc : Thread Cert.KernelPostFwdIdeal.nD Cert.KernelPostFwdIdeal.τ).loc Cert.KernelPostFwdIdeal.main_arg0) = m ((c.tc : Thread Cert.KernelPostFwdIdeal.nD Cert.KernelPostFwdIdeal.τ).loc Cert.KernelPostFwdIdeal.main_arg0)
          ∧ r.2.mem ((c.tc : Thread Cert.KernelPostFwdIdeal.nD Cert.KernelPostFwdIdeal.τ).loc Cert.KernelPostFwdIdeal.main_arg1) = m ((c.tc : Thread Cert.KernelPostFwdIdeal.nD Cert.KernelPostFwdIdeal.τ).loc Cert.KernelPostFwdIdeal.main_arg1)
          ∧ r.2.mem ((c.tc : Thread Cert.KernelPostFwdIdeal.nD Cert.KernelPostFwdIdeal.τ).loc Cert.KernelPostFwdIdeal.main_arg2) = m ((c.tc : Thread Cert.KernelPostFwdIdeal.nD Cert.KernelPostFwdIdeal.τ).loc Cert.KernelPostFwdIdeal.main_arg2)
          ∧ r.2.mem ((c.tc : Thread Cert.KernelPostFwdIdeal.nD Cert.KernelPostFwdIdeal.τ).loc Cert.KernelPostFwdIdeal.main_arg3) = m ((c.tc : Thread Cert.KernelPostFwdIdeal.nD Cert.KernelPostFwdIdeal.τ).loc Cert.KernelPostFwdIdeal.main_arg3))
      ∧ θ_run (Cert.ReferencePostFwdIdeal.defs (F := Ideal)) (onTc (τ := Cert.ReferencePostFwdIdeal.τ) (Cert.ReferencePostFwdIdeal.main (F := Ideal))) ⟨m', fun _ => 0, g'⟩ (fun r => ∀ c : Dev Cert.ReferencePostFwdIdeal.nD,
          r.2.mem ((c.tc : Thread Cert.ReferencePostFwdIdeal.nD Cert.ReferencePostFwdIdeal.τ).loc Cert.ReferencePostFwdIdeal.main_v14) = v0 c
          ∧ r.2.mem ((c.tc : Thread Cert.ReferencePostFwdIdeal.nD Cert.ReferencePostFwdIdeal.τ).loc Cert.ReferencePostFwdIdeal.main_arg0) = m' ((c.tc : Thread Cert.ReferencePostFwdIdeal.nD Cert.ReferencePostFwdIdeal.τ).loc Cert.ReferencePostFwdIdeal.main_arg0)
          ∧ r.2.mem ((c.tc : Thread Cert.ReferencePostFwdIdeal.nD Cert.ReferencePostFwdIdeal.τ).loc Cert.ReferencePostFwdIdeal.main_arg1) = m' ((c.tc : Thread Cert.ReferencePostFwdIdeal.nD Cert.ReferencePostFwdIdeal.τ).loc Cert.ReferencePostFwdIdeal.main_arg1)
          ∧ r.2.mem ((c.tc : Thread Cert.ReferencePostFwdIdeal.nD Cert.ReferencePostFwdIdeal.τ).loc Cert.ReferencePostFwdIdeal.main_arg2) = m' ((c.tc : Thread Cert.ReferencePostFwdIdeal.nD Cert.ReferencePostFwdIdeal.τ).loc Cert.ReferencePostFwdIdeal.main_arg2)
          ∧ r.2.mem ((c.tc : Thread Cert.ReferencePostFwdIdeal.nD Cert.ReferencePostFwdIdeal.τ).loc Cert.ReferencePostFwdIdeal.main_arg3) = m' ((c.tc : Thread Cert.ReferencePostFwdIdeal.nD Cert.ReferencePostFwdIdeal.τ).loc Cert.ReferencePostFwdIdeal.main_arg3))

def preserves_KernelRelu2Fwd_KernelRelu2FwdIdeal : Prop :=
  True

def algebraic_KernelRelu2FwdIdeal_ReferenceRelu2FwdIdeal [hKernelRelu2FwdIdeal : Cert.KernelRelu2FwdIdeal.Facts] [hReferenceRelu2FwdIdeal : Cert.ReferenceRelu2FwdIdeal.Facts] : Prop :=
  ∀ (m : (ℓ : Loc Cert.KernelRelu2FwdIdeal.nD Cert.KernelRelu2FwdIdeal.τ Cert.KernelRelu2FwdIdeal.sig) → Buf (Elt Ideal) ℓ) (g : Dev Cert.KernelRelu2FwdIdeal.nD → PrngReg)
    (m' : (ℓ : Loc Cert.ReferenceRelu2FwdIdeal.nD Cert.ReferenceRelu2FwdIdeal.τ Cert.ReferenceRelu2FwdIdeal.sig) → Buf (Elt Ideal) ℓ) (g' : Dev Cert.ReferenceRelu2FwdIdeal.nD → PrngReg), Pre_KernelRelu2FwdIdeal m →
    (∀ c : Dev Cert.KernelRelu2FwdIdeal.nD,
      m' ((c.tc : Thread Cert.ReferenceRelu2FwdIdeal.nD Cert.ReferenceRelu2FwdIdeal.τ).loc Cert.ReferenceRelu2FwdIdeal.main_arg0) = m ((c.tc : Thread Cert.KernelRelu2FwdIdeal.nD Cert.KernelRelu2FwdIdeal.τ).loc Cert.KernelRelu2FwdIdeal.main_arg0)
      ∧ m' ((c.tc : Thread Cert.ReferenceRelu2FwdIdeal.nD Cert.ReferenceRelu2FwdIdeal.τ).loc Cert.ReferenceRelu2FwdIdeal.main_arg1) = m ((c.tc : Thread Cert.KernelRelu2FwdIdeal.nD Cert.KernelRelu2FwdIdeal.τ).loc Cert.KernelRelu2FwdIdeal.main_arg1)) →
    ∃ (v0 : (c : Dev Cert.KernelRelu2FwdIdeal.nD) → Buf (Elt Ideal) ((c.tc : Thread Cert.KernelRelu2FwdIdeal.nD Cert.KernelRelu2FwdIdeal.τ).loc Cert.KernelRelu2FwdIdeal.main_v0_0)) (v1 : (c : Dev Cert.KernelRelu2FwdIdeal.nD) → Buf (Elt Ideal) ((c.tc : Thread Cert.KernelRelu2FwdIdeal.nD Cert.KernelRelu2FwdIdeal.τ).loc Cert.KernelRelu2FwdIdeal.main_v0_1)),
      θ_run (Cert.KernelRelu2FwdIdeal.defs (F := Ideal)) (onTc (τ := Cert.KernelRelu2FwdIdeal.τ) (Cert.KernelRelu2FwdIdeal.main (F := Ideal))) ⟨m, fun _ => 0, g⟩ (fun r => ∀ c : Dev Cert.KernelRelu2FwdIdeal.nD,
          r.2.mem ((c.tc : Thread Cert.KernelRelu2FwdIdeal.nD Cert.KernelRelu2FwdIdeal.τ).loc Cert.KernelRelu2FwdIdeal.main_v0_0) = v0 c
          ∧ r.2.mem ((c.tc : Thread Cert.KernelRelu2FwdIdeal.nD Cert.KernelRelu2FwdIdeal.τ).loc Cert.KernelRelu2FwdIdeal.main_v0_1) = v1 c
          ∧ r.2.mem ((c.tc : Thread Cert.KernelRelu2FwdIdeal.nD Cert.KernelRelu2FwdIdeal.τ).loc Cert.KernelRelu2FwdIdeal.main_arg0) = m ((c.tc : Thread Cert.KernelRelu2FwdIdeal.nD Cert.KernelRelu2FwdIdeal.τ).loc Cert.KernelRelu2FwdIdeal.main_arg0)
          ∧ r.2.mem ((c.tc : Thread Cert.KernelRelu2FwdIdeal.nD Cert.KernelRelu2FwdIdeal.τ).loc Cert.KernelRelu2FwdIdeal.main_arg1) = m ((c.tc : Thread Cert.KernelRelu2FwdIdeal.nD Cert.KernelRelu2FwdIdeal.τ).loc Cert.KernelRelu2FwdIdeal.main_arg1))
      ∧ θ_run (Cert.ReferenceRelu2FwdIdeal.defs (F := Ideal)) (onTc (τ := Cert.ReferenceRelu2FwdIdeal.τ) (Cert.ReferenceRelu2FwdIdeal.main (F := Ideal))) ⟨m', fun _ => 0, g'⟩ (fun r => ∀ c : Dev Cert.ReferenceRelu2FwdIdeal.nD,
          r.2.mem ((c.tc : Thread Cert.ReferenceRelu2FwdIdeal.nD Cert.ReferenceRelu2FwdIdeal.τ).loc Cert.ReferenceRelu2FwdIdeal.main_v2) = v0 c
          ∧ r.2.mem ((c.tc : Thread Cert.ReferenceRelu2FwdIdeal.nD Cert.ReferenceRelu2FwdIdeal.τ).loc Cert.ReferenceRelu2FwdIdeal.main_v5) = v1 c
          ∧ r.2.mem ((c.tc : Thread Cert.ReferenceRelu2FwdIdeal.nD Cert.ReferenceRelu2FwdIdeal.τ).loc Cert.ReferenceRelu2FwdIdeal.main_arg0) = m' ((c.tc : Thread Cert.ReferenceRelu2FwdIdeal.nD Cert.ReferenceRelu2FwdIdeal.τ).loc Cert.ReferenceRelu2FwdIdeal.main_arg0)
          ∧ r.2.mem ((c.tc : Thread Cert.ReferenceRelu2FwdIdeal.nD Cert.ReferenceRelu2FwdIdeal.τ).loc Cert.ReferenceRelu2FwdIdeal.main_arg1) = m' ((c.tc : Thread Cert.ReferenceRelu2FwdIdeal.nD Cert.ReferenceRelu2FwdIdeal.τ).loc Cert.ReferenceRelu2FwdIdeal.main_arg1))

def preserves_KernelAdam_KernelAdamIdeal : Prop :=
  True

def algebraic_KernelAdamIdeal_ReferenceAdamIdeal [hKernelAdamIdeal : Cert.KernelAdamIdeal.Facts] [hReferenceAdamIdeal : Cert.ReferenceAdamIdeal.Facts] : Prop :=
  ∀ (m : (ℓ : Loc Cert.KernelAdamIdeal.nD Cert.KernelAdamIdeal.τ Cert.KernelAdamIdeal.sig) → Buf (Elt Ideal) ℓ) (g : Dev Cert.KernelAdamIdeal.nD → PrngReg)
    (m' : (ℓ : Loc Cert.ReferenceAdamIdeal.nD Cert.ReferenceAdamIdeal.τ Cert.ReferenceAdamIdeal.sig) → Buf (Elt Ideal) ℓ) (g' : Dev Cert.ReferenceAdamIdeal.nD → PrngReg), Pre_KernelAdamIdeal m →
    (∀ c : Dev Cert.KernelAdamIdeal.nD,
      m' ((c.tc : Thread Cert.ReferenceAdamIdeal.nD Cert.ReferenceAdamIdeal.τ).loc Cert.ReferenceAdamIdeal.main_arg0) = m ((c.tc : Thread Cert.KernelAdamIdeal.nD Cert.KernelAdamIdeal.τ).loc Cert.KernelAdamIdeal.main_arg0)
      ∧ m' ((c.tc : Thread Cert.ReferenceAdamIdeal.nD Cert.ReferenceAdamIdeal.τ).loc Cert.ReferenceAdamIdeal.main_arg1) = m ((c.tc : Thread Cert.KernelAdamIdeal.nD Cert.KernelAdamIdeal.τ).loc Cert.KernelAdamIdeal.main_arg1)
      ∧ m' ((c.tc : Thread Cert.ReferenceAdamIdeal.nD Cert.ReferenceAdamIdeal.τ).loc Cert.ReferenceAdamIdeal.main_arg2) = m ((c.tc : Thread Cert.KernelAdamIdeal.nD Cert.KernelAdamIdeal.τ).loc Cert.KernelAdamIdeal.main_arg2)
      ∧ m' ((c.tc : Thread Cert.ReferenceAdamIdeal.nD Cert.ReferenceAdamIdeal.τ).loc Cert.ReferenceAdamIdeal.main_arg3) = m ((c.tc : Thread Cert.KernelAdamIdeal.nD Cert.KernelAdamIdeal.τ).loc Cert.KernelAdamIdeal.main_arg3)) →
    ∃ (v0 : (c : Dev Cert.KernelAdamIdeal.nD) → Buf (Elt Ideal) ((c.tc : Thread Cert.KernelAdamIdeal.nD Cert.KernelAdamIdeal.τ).loc Cert.KernelAdamIdeal.main_v0_0)) (v1 : (c : Dev Cert.KernelAdamIdeal.nD) → Buf (Elt Ideal) ((c.tc : Thread Cert.KernelAdamIdeal.nD Cert.KernelAdamIdeal.τ).loc Cert.KernelAdamIdeal.main_v0_1)) (v2 : (c : Dev Cert.KernelAdamIdeal.nD) → Buf (Elt Ideal) ((c.tc : Thread Cert.KernelAdamIdeal.nD Cert.KernelAdamIdeal.τ).loc Cert.KernelAdamIdeal.main_v0_2)) (v3 : (c : Dev Cert.KernelAdamIdeal.nD) → Buf (Elt Ideal) ((c.tc : Thread Cert.KernelAdamIdeal.nD Cert.KernelAdamIdeal.τ).loc Cert.KernelAdamIdeal.main_v0_3)),
      θ_run (Cert.KernelAdamIdeal.defs (F := Ideal)) (onTc (τ := Cert.KernelAdamIdeal.τ) (Cert.KernelAdamIdeal.main (F := Ideal))) ⟨m, fun _ => 0, g⟩ (fun r => ∀ c : Dev Cert.KernelAdamIdeal.nD,
          r.2.mem ((c.tc : Thread Cert.KernelAdamIdeal.nD Cert.KernelAdamIdeal.τ).loc Cert.KernelAdamIdeal.main_v0_0) = v0 c
          ∧ r.2.mem ((c.tc : Thread Cert.KernelAdamIdeal.nD Cert.KernelAdamIdeal.τ).loc Cert.KernelAdamIdeal.main_v0_1) = v1 c
          ∧ r.2.mem ((c.tc : Thread Cert.KernelAdamIdeal.nD Cert.KernelAdamIdeal.τ).loc Cert.KernelAdamIdeal.main_v0_2) = v2 c
          ∧ r.2.mem ((c.tc : Thread Cert.KernelAdamIdeal.nD Cert.KernelAdamIdeal.τ).loc Cert.KernelAdamIdeal.main_v0_3) = v3 c
          ∧ r.2.mem ((c.tc : Thread Cert.KernelAdamIdeal.nD Cert.KernelAdamIdeal.τ).loc Cert.KernelAdamIdeal.main_arg0) = m ((c.tc : Thread Cert.KernelAdamIdeal.nD Cert.KernelAdamIdeal.τ).loc Cert.KernelAdamIdeal.main_arg0)
          ∧ r.2.mem ((c.tc : Thread Cert.KernelAdamIdeal.nD Cert.KernelAdamIdeal.τ).loc Cert.KernelAdamIdeal.main_arg1) = m ((c.tc : Thread Cert.KernelAdamIdeal.nD Cert.KernelAdamIdeal.τ).loc Cert.KernelAdamIdeal.main_arg1)
          ∧ r.2.mem ((c.tc : Thread Cert.KernelAdamIdeal.nD Cert.KernelAdamIdeal.τ).loc Cert.KernelAdamIdeal.main_arg2) = m ((c.tc : Thread Cert.KernelAdamIdeal.nD Cert.KernelAdamIdeal.τ).loc Cert.KernelAdamIdeal.main_arg2)
          ∧ r.2.mem ((c.tc : Thread Cert.KernelAdamIdeal.nD Cert.KernelAdamIdeal.τ).loc Cert.KernelAdamIdeal.main_arg3) = m ((c.tc : Thread Cert.KernelAdamIdeal.nD Cert.KernelAdamIdeal.τ).loc Cert.KernelAdamIdeal.main_arg3))
      ∧ θ_run (Cert.ReferenceAdamIdeal.defs (F := Ideal)) (onTc (τ := Cert.ReferenceAdamIdeal.τ) (Cert.ReferenceAdamIdeal.main (F := Ideal))) ⟨m', fun _ => 0, g'⟩ (fun r => ∀ c : Dev Cert.ReferenceAdamIdeal.nD,
          r.2.mem ((c.tc : Thread Cert.ReferenceAdamIdeal.nD Cert.ReferenceAdamIdeal.τ).loc Cert.ReferenceAdamIdeal.main_v1) = v0 c
          ∧ r.2.mem ((c.tc : Thread Cert.ReferenceAdamIdeal.nD Cert.ReferenceAdamIdeal.τ).loc Cert.ReferenceAdamIdeal.main_v25) = v1 c
          ∧ r.2.mem ((c.tc : Thread Cert.ReferenceAdamIdeal.nD Cert.ReferenceAdamIdeal.τ).loc Cert.ReferenceAdamIdeal.main_v6) = v2 c
          ∧ r.2.mem ((c.tc : Thread Cert.ReferenceAdamIdeal.nD Cert.ReferenceAdamIdeal.τ).loc Cert.ReferenceAdamIdeal.main_v12) = v3 c
          ∧ r.2.mem ((c.tc : Thread Cert.ReferenceAdamIdeal.nD Cert.ReferenceAdamIdeal.τ).loc Cert.ReferenceAdamIdeal.main_arg0) = m' ((c.tc : Thread Cert.ReferenceAdamIdeal.nD Cert.ReferenceAdamIdeal.τ).loc Cert.ReferenceAdamIdeal.main_arg0)
          ∧ r.2.mem ((c.tc : Thread Cert.ReferenceAdamIdeal.nD Cert.ReferenceAdamIdeal.τ).loc Cert.ReferenceAdamIdeal.main_arg1) = m' ((c.tc : Thread Cert.ReferenceAdamIdeal.nD Cert.ReferenceAdamIdeal.τ).loc Cert.ReferenceAdamIdeal.main_arg1)
          ∧ r.2.mem ((c.tc : Thread Cert.ReferenceAdamIdeal.nD Cert.ReferenceAdamIdeal.τ).loc Cert.ReferenceAdamIdeal.main_arg2) = m' ((c.tc : Thread Cert.ReferenceAdamIdeal.nD Cert.ReferenceAdamIdeal.τ).loc Cert.ReferenceAdamIdeal.main_arg2)
          ∧ r.2.mem ((c.tc : Thread Cert.ReferenceAdamIdeal.nD Cert.ReferenceAdamIdeal.τ).loc Cert.ReferenceAdamIdeal.main_arg3) = m' ((c.tc : Thread Cert.ReferenceAdamIdeal.nD Cert.ReferenceAdamIdeal.τ).loc Cert.ReferenceAdamIdeal.main_arg3))

def preserves_KernelProduct_KernelProductIdeal : Prop :=
  True

def algebraic_KernelProductIdeal_ReferenceProductIdeal [hKernelProductIdeal : Cert.KernelProductIdeal.Facts] [hReferenceProductIdeal : Cert.ReferenceProductIdeal.Facts] : Prop :=
  ∀ (m : (ℓ : Loc Cert.KernelProductIdeal.nD Cert.KernelProductIdeal.τ Cert.KernelProductIdeal.sig) → Buf (Elt Ideal) ℓ) (g : Dev Cert.KernelProductIdeal.nD → PrngReg)
    (m' : (ℓ : Loc Cert.ReferenceProductIdeal.nD Cert.ReferenceProductIdeal.τ Cert.ReferenceProductIdeal.sig) → Buf (Elt Ideal) ℓ) (g' : Dev Cert.ReferenceProductIdeal.nD → PrngReg), Pre_KernelProductIdeal m →
    (∀ c : Dev Cert.KernelProductIdeal.nD,
      m' ((c.tc : Thread Cert.ReferenceProductIdeal.nD Cert.ReferenceProductIdeal.τ).loc Cert.ReferenceProductIdeal.main_arg0) = m ((c.tc : Thread Cert.KernelProductIdeal.nD Cert.KernelProductIdeal.τ).loc Cert.KernelProductIdeal.main_arg0)
      ∧ m' ((c.tc : Thread Cert.ReferenceProductIdeal.nD Cert.ReferenceProductIdeal.τ).loc Cert.ReferenceProductIdeal.main_arg1) = m ((c.tc : Thread Cert.KernelProductIdeal.nD Cert.KernelProductIdeal.τ).loc Cert.KernelProductIdeal.main_arg1)) →
    ∃ (v0 : (c : Dev Cert.KernelProductIdeal.nD) → Buf (Elt Ideal) ((c.tc : Thread Cert.KernelProductIdeal.nD Cert.KernelProductIdeal.τ).loc Cert.KernelProductIdeal.main_v0)),
      θ_run (Cert.KernelProductIdeal.defs (F := Ideal)) (onTc (τ := Cert.KernelProductIdeal.τ) (Cert.KernelProductIdeal.main (F := Ideal))) ⟨m, fun _ => 0, g⟩ (fun r => ∀ c : Dev Cert.KernelProductIdeal.nD,
          r.2.mem ((c.tc : Thread Cert.KernelProductIdeal.nD Cert.KernelProductIdeal.τ).loc Cert.KernelProductIdeal.main_v0) = v0 c
          ∧ r.2.mem ((c.tc : Thread Cert.KernelProductIdeal.nD Cert.KernelProductIdeal.τ).loc Cert.KernelProductIdeal.main_arg0) = m ((c.tc : Thread Cert.KernelProductIdeal.nD Cert.KernelProductIdeal.τ).loc Cert.KernelProductIdeal.main_arg0)
          ∧ r.2.mem ((c.tc : Thread Cert.KernelProductIdeal.nD Cert.KernelProductIdeal.τ).loc Cert.KernelProductIdeal.main_arg1) = m ((c.tc : Thread Cert.KernelProductIdeal.nD Cert.KernelProductIdeal.τ).loc Cert.KernelProductIdeal.main_arg1))
      ∧ θ_run (Cert.ReferenceProductIdeal.defs (F := Ideal)) (onTc (τ := Cert.ReferenceProductIdeal.τ) (Cert.ReferenceProductIdeal.main (F := Ideal))) ⟨m', fun _ => 0, g'⟩ (fun r => ∀ c : Dev Cert.ReferenceProductIdeal.nD,
          r.2.mem ((c.tc : Thread Cert.ReferenceProductIdeal.nD Cert.ReferenceProductIdeal.τ).loc Cert.ReferenceProductIdeal.main_v2) = v0 c
          ∧ r.2.mem ((c.tc : Thread Cert.ReferenceProductIdeal.nD Cert.ReferenceProductIdeal.τ).loc Cert.ReferenceProductIdeal.main_arg0) = m' ((c.tc : Thread Cert.ReferenceProductIdeal.nD Cert.ReferenceProductIdeal.τ).loc Cert.ReferenceProductIdeal.main_arg0)
          ∧ r.2.mem ((c.tc : Thread Cert.ReferenceProductIdeal.nD Cert.ReferenceProductIdeal.τ).loc Cert.ReferenceProductIdeal.main_arg1) = m' ((c.tc : Thread Cert.ReferenceProductIdeal.nD Cert.ReferenceProductIdeal.τ).loc Cert.ReferenceProductIdeal.main_arg1))

def Claim : Prop :=
  ∃ (hKernelAttnBwd : Cert.KernelAttnBwd.Facts) (hKernelAttnBwdIdeal : Cert.KernelAttnBwdIdeal.Facts) (hReferenceAttnBwdIdeal : Cert.ReferenceAttnBwdIdeal.Facts) (hKernelAttnFwd : Cert.KernelAttnFwd.Facts) (hKernelAttnFwdIdeal : Cert.KernelAttnFwdIdeal.Facts) (hReferenceAttnFwdIdeal : Cert.ReferenceAttnFwdIdeal.Facts) (hKernelGate : Cert.KernelGate.Facts) (hKernelGateIdeal : Cert.KernelGateIdeal.Facts) (hReferenceGateIdeal : Cert.ReferenceGateIdeal.Facts) (hKernelRelu2 : Cert.KernelRelu2.Facts) (hKernelRelu2Ideal : Cert.KernelRelu2Ideal.Facts) (hReferenceRelu2Ideal : Cert.ReferenceRelu2Ideal.Facts) (hKernelPost : Cert.KernelPost.Facts) (hKernelPostIdeal : Cert.KernelPostIdeal.Facts) (hReferencePostIdeal : Cert.ReferencePostIdeal.Facts) (hKernelPre : Cert.KernelPre.Facts) (hKernelPreIdeal : Cert.KernelPreIdeal.Facts) (hReferencePreIdeal : Cert.ReferencePreIdeal.Facts) (hKernelLoss : Cert.KernelLoss.Facts) (hKernelLossIdeal : Cert.KernelLossIdeal.Facts) (hReferenceLossIdeal : Cert.ReferenceLossIdeal.Facts) (hKernelConv : Cert.KernelConv.Facts) (hKernelConvIdeal : Cert.KernelConvIdeal.Facts) (hReferenceConvIdeal : Cert.ReferenceConvIdeal.Facts) (hKernelGateFwd : Cert.KernelGateFwd.Facts) (hKernelGateFwdIdeal : Cert.KernelGateFwdIdeal.Facts) (hReferenceGateFwdIdeal : Cert.ReferenceGateFwdIdeal.Facts) (hKernelConvFwd : Cert.KernelConvFwd.Facts) (hKernelConvFwdIdeal : Cert.KernelConvFwdIdeal.Facts) (hReferenceConvFwdIdeal : Cert.ReferenceConvFwdIdeal.Facts) (hKernelPreFwd : Cert.KernelPreFwd.Facts) (hKernelPreFwdIdeal : Cert.KernelPreFwdIdeal.Facts) (hReferencePreFwdIdeal : Cert.ReferencePreFwdIdeal.Facts) (hKernelPostFwd : Cert.KernelPostFwd.Facts) (hKernelPostFwdIdeal : Cert.KernelPostFwdIdeal.Facts) (hReferencePostFwdIdeal : Cert.ReferencePostFwdIdeal.Facts) (hKernelRelu2Fwd : Cert.KernelRelu2Fwd.Facts) (hKernelRelu2FwdIdeal : Cert.KernelRelu2FwdIdeal.Facts) (hReferenceRelu2FwdIdeal : Cert.ReferenceRelu2FwdIdeal.Facts) (hKernelAdam : Cert.KernelAdam.Facts) (hKernelAdamIdeal : Cert.KernelAdamIdeal.Facts) (hReferenceAdamIdeal : Cert.ReferenceAdamIdeal.Facts) (hKernelProduct : Cert.KernelProduct.Facts) (hKernelProductIdeal : Cert.KernelProductIdeal.Facts) (hReferenceProductIdeal : Cert.ReferenceProductIdeal.Facts) (hPre_finite_proj_do : Cert.Pre_finite_proj_do.Facts) (hPre_finite_proj : Cert.Pre_finite_proj.Facts) (hPre_finite_post : Cert.Pre_finite_post.Facts) (hPre_finite_pre : Cert.Pre_finite_pre.Facts),
    quiescent_KernelAttnBwd (hKernelAttnBwd := hKernelAttnBwd)
    ∧ quiescent_KernelAttnBwdIdeal (hKernelAttnBwdIdeal := hKernelAttnBwdIdeal)
    ∧ quiescent_KernelAttnBwdIdeal_pre_finite_proj_do (hKernelAttnBwdIdeal := hKernelAttnBwdIdeal) (hPre_finite_proj_do := hPre_finite_proj_do)
    ∧ quiescent_ReferenceAttnBwdIdeal (hReferenceAttnBwdIdeal := hReferenceAttnBwdIdeal)
    ∧ quiescent_ReferenceAttnBwdIdeal_pre_finite_proj_do (hReferenceAttnBwdIdeal := hReferenceAttnBwdIdeal) (hPre_finite_proj_do := hPre_finite_proj_do)
    ∧ quiescent_KernelAttnFwd (hKernelAttnFwd := hKernelAttnFwd)
    ∧ quiescent_KernelAttnFwdIdeal (hKernelAttnFwdIdeal := hKernelAttnFwdIdeal)
    ∧ quiescent_KernelAttnFwdIdeal_pre_finite_proj (hKernelAttnFwdIdeal := hKernelAttnFwdIdeal) (hPre_finite_proj := hPre_finite_proj)
    ∧ quiescent_ReferenceAttnFwdIdeal (hReferenceAttnFwdIdeal := hReferenceAttnFwdIdeal)
    ∧ quiescent_ReferenceAttnFwdIdeal_pre_finite_proj (hReferenceAttnFwdIdeal := hReferenceAttnFwdIdeal) (hPre_finite_proj := hPre_finite_proj)
    ∧ quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelRelu2 (hKernelRelu2 := hKernelRelu2)
    ∧ quiescent_KernelRelu2Ideal (hKernelRelu2Ideal := hKernelRelu2Ideal)
    ∧ quiescent_ReferenceRelu2Ideal (hReferenceRelu2Ideal := hReferenceRelu2Ideal)
    ∧ quiescent_KernelPost (hKernelPost := hKernelPost)
    ∧ quiescent_KernelPostIdeal (hKernelPostIdeal := hKernelPostIdeal)
    ∧ quiescent_KernelPostIdeal_pre_finite_post (hKernelPostIdeal := hKernelPostIdeal) (hPre_finite_post := hPre_finite_post)
    ∧ quiescent_ReferencePostIdeal (hReferencePostIdeal := hReferencePostIdeal)
    ∧ quiescent_ReferencePostIdeal_pre_finite_post (hReferencePostIdeal := hReferencePostIdeal) (hPre_finite_post := hPre_finite_post)
    ∧ quiescent_KernelPre (hKernelPre := hKernelPre)
    ∧ quiescent_KernelPreIdeal (hKernelPreIdeal := hKernelPreIdeal)
    ∧ quiescent_KernelPreIdeal_pre_finite_pre (hKernelPreIdeal := hKernelPreIdeal) (hPre_finite_pre := hPre_finite_pre)
    ∧ quiescent_ReferencePreIdeal (hReferencePreIdeal := hReferencePreIdeal)
    ∧ quiescent_ReferencePreIdeal_pre_finite_pre (hReferencePreIdeal := hReferencePreIdeal) (hPre_finite_pre := hPre_finite_pre)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelConv (hKernelConv := hKernelConv)
    ∧ quiescent_KernelConvIdeal (hKernelConvIdeal := hKernelConvIdeal)
    ∧ quiescent_ReferenceConvIdeal (hReferenceConvIdeal := hReferenceConvIdeal)
    ∧ quiescent_KernelGateFwd (hKernelGateFwd := hKernelGateFwd)
    ∧ quiescent_KernelGateFwdIdeal (hKernelGateFwdIdeal := hKernelGateFwdIdeal)
    ∧ quiescent_ReferenceGateFwdIdeal (hReferenceGateFwdIdeal := hReferenceGateFwdIdeal)
    ∧ quiescent_KernelConvFwd (hKernelConvFwd := hKernelConvFwd)
    ∧ quiescent_KernelConvFwdIdeal (hKernelConvFwdIdeal := hKernelConvFwdIdeal)
    ∧ quiescent_ReferenceConvFwdIdeal (hReferenceConvFwdIdeal := hReferenceConvFwdIdeal)
    ∧ quiescent_KernelPreFwd (hKernelPreFwd := hKernelPreFwd)
    ∧ quiescent_KernelPreFwdIdeal (hKernelPreFwdIdeal := hKernelPreFwdIdeal)
    ∧ quiescent_ReferencePreFwdIdeal (hReferencePreFwdIdeal := hReferencePreFwdIdeal)
    ∧ quiescent_KernelPostFwd (hKernelPostFwd := hKernelPostFwd)
    ∧ quiescent_KernelPostFwdIdeal (hKernelPostFwdIdeal := hKernelPostFwdIdeal)
    ∧ quiescent_ReferencePostFwdIdeal (hReferencePostFwdIdeal := hReferencePostFwdIdeal)
    ∧ quiescent_KernelRelu2Fwd (hKernelRelu2Fwd := hKernelRelu2Fwd)
    ∧ quiescent_KernelRelu2FwdIdeal (hKernelRelu2FwdIdeal := hKernelRelu2FwdIdeal)
    ∧ quiescent_ReferenceRelu2FwdIdeal (hReferenceRelu2FwdIdeal := hReferenceRelu2FwdIdeal)
    ∧ quiescent_KernelAdam (hKernelAdam := hKernelAdam)
    ∧ quiescent_KernelAdamIdeal (hKernelAdamIdeal := hKernelAdamIdeal)
    ∧ quiescent_ReferenceAdamIdeal (hReferenceAdamIdeal := hReferenceAdamIdeal)
    ∧ quiescent_KernelProduct (hKernelProduct := hKernelProduct)
    ∧ quiescent_KernelProductIdeal (hKernelProductIdeal := hKernelProductIdeal)
    ∧ quiescent_ReferenceProductIdeal (hReferenceProductIdeal := hReferenceProductIdeal)
    ∧ preserves_KernelAttnBwd_KernelAttnBwdIdeal
    ∧ algebraic_KernelAttnBwdIdeal_ReferenceAttnBwdIdeal_pre_finite_proj_do (hKernelAttnBwdIdeal := hKernelAttnBwdIdeal) (hReferenceAttnBwdIdeal := hReferenceAttnBwdIdeal) (hPre_finite_proj_do := hPre_finite_proj_do)
    ∧ preserves_KernelAttnFwd_KernelAttnFwdIdeal
    ∧ algebraic_KernelAttnFwdIdeal_ReferenceAttnFwdIdeal_pre_finite_proj (hKernelAttnFwdIdeal := hKernelAttnFwdIdeal) (hReferenceAttnFwdIdeal := hReferenceAttnFwdIdeal) (hPre_finite_proj := hPre_finite_proj)
    ∧ preserves_KernelGate_KernelGateIdeal
    ∧ algebraic_KernelGateIdeal_ReferenceGateIdeal (hKernelGateIdeal := hKernelGateIdeal) (hReferenceGateIdeal := hReferenceGateIdeal)
    ∧ preserves_KernelRelu2_KernelRelu2Ideal
    ∧ algebraic_KernelRelu2Ideal_ReferenceRelu2Ideal (hKernelRelu2Ideal := hKernelRelu2Ideal) (hReferenceRelu2Ideal := hReferenceRelu2Ideal)
    ∧ preserves_KernelPost_KernelPostIdeal
    ∧ algebraic_KernelPostIdeal_ReferencePostIdeal_pre_finite_post (hKernelPostIdeal := hKernelPostIdeal) (hReferencePostIdeal := hReferencePostIdeal) (hPre_finite_post := hPre_finite_post)
    ∧ preserves_KernelPre_KernelPreIdeal
    ∧ algebraic_KernelPreIdeal_ReferencePreIdeal_pre_finite_pre (hKernelPreIdeal := hKernelPreIdeal) (hReferencePreIdeal := hReferencePreIdeal) (hPre_finite_pre := hPre_finite_pre)
    ∧ preserves_KernelLoss_KernelLossIdeal
    ∧ algebraic_KernelLossIdeal_ReferenceLossIdeal (hKernelLossIdeal := hKernelLossIdeal) (hReferenceLossIdeal := hReferenceLossIdeal)
    ∧ preserves_KernelConv_KernelConvIdeal
    ∧ algebraic_KernelConvIdeal_ReferenceConvIdeal (hKernelConvIdeal := hKernelConvIdeal) (hReferenceConvIdeal := hReferenceConvIdeal)
    ∧ preserves_KernelGateFwd_KernelGateFwdIdeal
    ∧ algebraic_KernelGateFwdIdeal_ReferenceGateFwdIdeal (hKernelGateFwdIdeal := hKernelGateFwdIdeal) (hReferenceGateFwdIdeal := hReferenceGateFwdIdeal)
    ∧ preserves_KernelConvFwd_KernelConvFwdIdeal
    ∧ algebraic_KernelConvFwdIdeal_ReferenceConvFwdIdeal (hKernelConvFwdIdeal := hKernelConvFwdIdeal) (hReferenceConvFwdIdeal := hReferenceConvFwdIdeal)
    ∧ preserves_KernelPreFwd_KernelPreFwdIdeal
    ∧ algebraic_KernelPreFwdIdeal_ReferencePreFwdIdeal (hKernelPreFwdIdeal := hKernelPreFwdIdeal) (hReferencePreFwdIdeal := hReferencePreFwdIdeal)
    ∧ preserves_KernelPostFwd_KernelPostFwdIdeal
    ∧ algebraic_KernelPostFwdIdeal_ReferencePostFwdIdeal (hKernelPostFwdIdeal := hKernelPostFwdIdeal) (hReferencePostFwdIdeal := hReferencePostFwdIdeal)
    ∧ preserves_KernelRelu2Fwd_KernelRelu2FwdIdeal
    ∧ algebraic_KernelRelu2FwdIdeal_ReferenceRelu2FwdIdeal (hKernelRelu2FwdIdeal := hKernelRelu2FwdIdeal) (hReferenceRelu2FwdIdeal := hReferenceRelu2FwdIdeal)
    ∧ preserves_KernelAdam_KernelAdamIdeal
    ∧ algebraic_KernelAdamIdeal_ReferenceAdamIdeal (hKernelAdamIdeal := hKernelAdamIdeal) (hReferenceAdamIdeal := hReferenceAdamIdeal)
    ∧ preserves_KernelProduct_KernelProductIdeal
    ∧ algebraic_KernelProductIdeal_ReferenceProductIdeal (hKernelProductIdeal := hKernelProductIdeal) (hReferenceProductIdeal := hReferenceProductIdeal)
-- ==== Pre_finite_post.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x1024 .f32) (main_arg1 : FVec F S8192x1024 .f32) (main_arg2 : FVec F S1x1024 .f32) (main_arg3 : FVec F S1x1024 .f32) : IVec S8192x1024 1 × IVec S1x1024 1 × IVec S1x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg3
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  (main_v2, main_v5, main_v8)
-- ==== Pre_finite_pre.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x1024 .f32) (main_arg1 : FVec F S8192x1024 .f32) (main_arg2 : FVec F S1x1024 .f32) (main_arg3 : FVec F S1x1024 .f32) (main_arg4 : FVec F S8192x1024 .f32) : IVec S8192x1024 1 × IVec S1x1024 1 × IVec S1x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg3
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  (main_v2, main_v5, main_v8)
-- ==== Pre_finite_proj.lean ====
abbrev S8192x5120 : Shape := ⟨2, ![8192, 5120]⟩
abbrev S_ : Shape := ⟨0, ![]⟩

class Facts : Prop where
  bcast_S_S8192x5120 : S_.BroadcastsInDim S8192x5120 (![] : Fin 0 → Fin S8192x5120.rank)

variable [Facts]

def fn {F : FTy → Type} [FloatOps F] (main_arg0 : FVec F S8192x5120 .f32) : IVec S8192x5120 1 :=
  let main_v0 : FVec F S8192x5120 .f32 := Host.absf main_arg0
  let main_cst : FVec F S_ .f32 := constant S_ .f32 0x7F800000#32
  let main_v1 : FVec F S8192x5120 .f32 := broadcastInDim S8192x5120 ![] bcast_S_S8192x5120 main_cst
  let main_v2 : IVec S8192x5120 1 := cmpf .olt main_v0 main_v1
  main_v2
-- ==== Pre_finite_proj_do.lean ====
abbrev S8192x5120 : Shape := ⟨2, ![8192, 5120]⟩
abbrev S8192x512 : Shape := ⟨2, ![8192, 512]⟩
abbrev S_ : Shape := ⟨0, ![]⟩

class Facts : Prop where
  bcast_S_S8192x5120 : S_.BroadcastsInDim S8192x5120 (![] : Fin 0 → Fin S8192x5120.rank)
  bcast_S_S8192x512 : S_.BroadcastsInDim S8192x512 (![] : Fin 0 → Fin S8192x512.rank)

variable [Facts]

def fn {F : FTy → Type} [FloatOps F] (main_arg0 : FVec F S8192x5120 .f32) (main_arg1 : FVec F S8192x512 .f32) : IVec S8192x5120 1 × IVec S8192x512 1 :=
  let main_v0 : FVec F S8192x5120 .f32 := Host.absf main_arg0
  let main_cst : FVec F S_ .f32 := constant S_ .f32 0x7F800000#32
  let main_v1 : FVec F S8192x5120 .f32 := broadcastInDim S8192x5120 ![] bcast_S_S8192x5120 main_cst
  let main_v2 : IVec S8192x5120 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  (main_v2, main_v5)
-- ==== KernelAttnBwd.lean ====
abbrev S8192x5120 : Shape := ⟨2, ![8192, 5120]⟩
abbrev S8192x512 : Shape := ⟨2, ![8192, 512]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192x64x128 : Shape := ⟨4, ![8, 8192, 64, 128]⟩
abbrev S8x8192x64 : Shape := ⟨3, ![8, 8192, 64]⟩
abbrev S8x8192x63 : Shape := ⟨3, ![8, 8192, 63]⟩
abbrev S8x8192x65 : Shape := ⟨3, ![8, 8192, 65]⟩
abbrev S8x8192x128 : Shape := ⟨3, ![8, 8192, 128]⟩
abbrev S512x128 : Shape := ⟨2, ![512, 128]⟩
abbrev S8192x128 : Shape := ⟨2, ![8192, 128]⟩
abbrev S2x512x128 : Shape := ⟨3, ![2, 512, 128]⟩
abbrev S128x128 : Shape := ⟨2, ![128, 128]⟩
abbrev S128x256 : Shape := ⟨2, ![128, 256]⟩
abbrev S512x1 : Shape := ⟨2, ![512, 1]⟩
abbrev S1x128 : Shape := ⟨2, ![1, 128]⟩
abbrev S1x512x128 : Shape := ⟨3, ![1, 512, 128]⟩
abbrev S512 : Shape := ⟨1, ![512]⟩
abbrev S512x256 : Shape := ⟨2, ![512, 256]⟩

abbrev nBuf : Space → Nat
  | .hbm => 53
  | .vmem => 20
  | .smem => 0
  | _ => 0

abbrev bufTy : (tb : Table) → Fin (tcTables nBuf tb) → BufTy
  | .hbm, ⟨0, _⟩ => ⟨S8192x5120, .f32⟩
  | .hbm, ⟨1, _⟩ => ⟨S8192x512, .f32⟩
  | .hbm, ⟨2, _⟩ => ⟨S8192x512, .f32⟩
  | .hbm, ⟨3, _⟩ => ⟨S8192x8x64, .f32⟩
  | .hbm, ⟨4, _⟩ => ⟨S8192x512, .f32⟩
  | .hbm, ⟨5, _⟩ => ⟨S8192x8x64, .f32⟩
  | .hbm, ⟨6, _⟩ => ⟨S8192x512, .f32⟩
  | .hbm, ⟨7, _⟩ => ⟨S8192x8x64, .f32⟩
  | .hbm, ⟨8, _⟩ => ⟨S8x8192x8192, .f32⟩
  | .hbm, ⟨9, _⟩ => ⟨S_, .f32⟩
  | .hbm, ⟨10, _⟩ => ⟨S8x8192x8192, .f32⟩
  | .hbm, ⟨11, _⟩ => ⟨S8x8192x8192, .f32⟩
  | .hbm, ⟨12, _⟩ => ⟨S8192, .i32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S8x8192x8192, .f32⟩
  | .hbm, ⟨19, _⟩ => ⟨S8x8192x8192, .f32⟩
  | .hbm, ⟨20, _⟩ => ⟨S_, .f32⟩
  | .hbm, ⟨21, _⟩ => ⟨S8x8192x8192, .f32⟩
  | .hbm, ⟨22, _⟩ => ⟨S8x8192x8192, .f32⟩
  | .hbm, ⟨23, _⟩ => ⟨S8x8192x8192, .f32⟩
  | .hbm, ⟨24, _⟩ => ⟨S8x8192x8192, .f32⟩
  | .hbm, ⟨25, _⟩ => ⟨S8x8192x8192, .i1⟩
  | .hbm, ⟨26, _⟩ => ⟨S8x8192x8192, .f32⟩
  | .hbm, ⟨27, _⟩ => ⟨S8x8192x8192, .f32⟩
  | .hbm, ⟨28, _⟩ => ⟨S8x8192x8192, .f32⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S_, .f32⟩
  | .hbm, ⟨36, _⟩ => ⟨S_, .f32⟩
  | .hbm, ⟨37, _⟩ => ⟨S8x8192x8192, .i1⟩
  | .hbm, ⟨38, _⟩ => ⟨S8x8192x8192, .f32⟩
  | .hbm, ⟨39, _⟩ => ⟨S8x8192x8192, .f32⟩
  | .hbm, ⟨40, _⟩ => ⟨S8x8192x64x128, .f32⟩
  | .hbm, ⟨41, _⟩ => ⟨S_, .f32⟩
  | .hbm, ⟨42, _⟩ => ⟨S8x8192x64, .f32⟩
  | .hbm, ⟨43, _⟩ => ⟨S8x8192x63, .f32⟩
  | .hbm, ⟨44, _⟩ => ⟨S_, .f32⟩
  | .hbm, ⟨45, _⟩ => ⟨S8x8192x65, .f32⟩
  | .hbm, ⟨46, _⟩ => ⟨S8x8192x128, .f32⟩
  | .hbm, ⟨47, _⟩ => ⟨S_, .f32⟩
  | .hbm, ⟨48, _⟩ => ⟨S_, .f32⟩
  | .hbm, ⟨49, _⟩ => ⟨S8x8192x128, .f32⟩
  | .hbm, ⟨50, _⟩ => ⟨S8192x512, .bf16⟩
  | .hbm, ⟨51, _⟩ => ⟨S8192x512, .bf16⟩
  | .hbm, ⟨52, _⟩ => ⟨S8192x512, .bf16⟩
  | .local _ .vmem, ⟨0, _⟩ => ⟨S512x128, .f32⟩
  | .local _ .vmem, ⟨1, _⟩ => ⟨S512x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S512x128, .f32⟩
  | .local _ .vmem, ⟨7, _⟩ => ⟨S512x128, .f32⟩
  | .local _ .vmem, ⟨8, _⟩ => ⟨S2x512x128, .f32⟩
  | .local _ .vmem, ⟨9, _⟩ => ⟨S2x512x128, .f32⟩
  | .local _ .vmem, ⟨10, _⟩ => ⟨S512x128, .bf16⟩
  | .local _ .vmem, ⟨11, _⟩ => ⟨S512x128, .bf16⟩
  | .local _ .vmem, ⟨12, _⟩ => ⟨S8192x128, .bf16⟩
  | .local _ .vmem, ⟨13, _⟩ => ⟨S8192x128, .bf16⟩
  | .local _ .vmem, ⟨14, _⟩ => ⟨S8192x128, .bf16⟩
  | .local _ .vmem, ⟨15, _⟩ => ⟨S8192x128, .bf16⟩
  | .local _ .vmem, ⟨16, _⟩ => ⟨S512x128, .f32⟩
  | .local _ .vmem, ⟨17, _⟩ => ⟨S512x128, .f32⟩
  | .local _ .vmem, ⟨18, _⟩ => ⟨S8192x128, .f32⟩
  | .local _ .vmem, ⟨19, _⟩ => ⟨S8192x128, .f32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v16 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v17 : Ref sig .tc := ⟨.hbm, 39, rfl⟩
abbrev main_v18 : Ref sig .tc := ⟨.hbm, 40, rfl⟩
abbrev main_cst_1 : Ref sig .tc := ⟨.hbm, 41, rfl⟩
abbrev main_v19 : Ref sig .tc := ⟨.hbm, 42, rfl⟩
abbrev main_v20 : Ref sig .tc := ⟨.hbm, 43, rfl⟩
abbrev main_cst_2 : Ref sig .tc := ⟨.hbm, 44, rfl⟩
abbrev main_v21 : Ref sig .tc := ⟨.hbm, 45, rfl⟩
abbrev main_v22 : Ref sig .tc := ⟨.hbm, 46, rfl⟩
abbrev main_call2_cst : Ref sig .tc := ⟨.hbm, 47, rfl⟩
abbrev main_call2_v0 : Ref sig .tc := ⟨.hbm, 48, rfl⟩
abbrev main_v23 : Ref sig .tc := ⟨.hbm, 49, rfl⟩
abbrev main_v24_0 : Ref sig .tc := ⟨.hbm, 50, rfl⟩
abbrev main_v24_1 : Ref sig .tc := ⟨.hbm, 51, rfl⟩
abbrev main_v24_2 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32_19 : BitVec 32 := 0#32
  let arg1 : BitVec 32 := BitVec.ofNat 32 (i 1).val
  let c1_i32 : BitVec 32 := 1#32
  let v28 : BitVec 32 := Scalar.addi arg1 c1_i32
  let c4_i32 : BitVec 32 := 4#32
  let v29 : BitVec 32 := Scalar.muli v28 c4_i32
  let v57 : BitVec 32 := Scalar.subi v29 c0_i32_19
  let c1_i32_20 : BitVec 32 := 1#32
  let v59 : BitVec 32 := Scalar.divsi v57 c1_i32_20
  let v60 : BitVec 32 := Scalar.muli v59 c1_i32_20
  let v61 : BitVec 32 := Scalar.addi c0_i32_19 v60
  let c1_i32_21 : BitVec 32 := 1#32
  ⟨c0_i32_19, v61, c1_i32_21⟩
def k0_mult1 (i : grid0.Coords) (k0_t1 : Fin (k0_t1_loop i).trips) : BitVec 32 :=
  let c0_i32_19 : BitVec 32 := 0#32
  let c1_i32_21 : BitVec 32 := 1#32
  let arg14 : BitVec 32 := Scf.iv c0_i32_19 c1_i32_21 k0_t1
  let c128_i32_46 : BitVec 32 := 128#32
  let v98 : BitVec 32 := Scalar.muli arg14 c128_i32_46
  v98
def k0_off1 (i : grid0.Coords) (k0_t1 : Fin (k0_t1_loop i).trips) : Fin 2 → Nat :=
  let c0_i32_19 : BitVec 32 := 0#32
  let c1_i32_21 : BitVec 32 := 1#32
  let arg14 : BitVec 32 := Scf.iv c0_i32_19 c1_i32_21 k0_t1
  let c128_i32_46 : BitVec 32 := 128#32
  let v98 : BitVec 32 := Scalar.muli arg14 c128_i32_46
  let v99 : BitVec 32 := v98
  let v100 : Index := Scalar.indexCast v99
  let c0_47 : Index := 0#32
  ![v100.toNat, 0]
@[reducible] def k0_t2_loop (i : grid0.Coords) : Scf.Loop 32 :=
  let c0_i32_19 : BitVec 32 := 0#32
  let arg1 : BitVec 32 := BitVec.ofNat 32 (i 1).val
  let c1_i32 : BitVec 32 := 1#32
  let v28 : BitVec 32 := Scalar.addi arg1 c1_i32
  let c4_i32 : BitVec 32 := 4#32
  let v29 : BitVec 32 := Scalar.muli v28 c4_i32
  let v57 : BitVec 32 := Scalar.subi v29 c0_i32_19
  let c1_i32_20 : BitVec 32 := 1#32
  let v59 : BitVec 32 := Scalar.divsi v57 c1_i32_20
  let v60 : BitVec 32 := Scalar.muli v59 c1_i32_20
  let v61 : BitVec 32 := Scalar.addi c0_i32_19 v60
  let v58 : BitVec 32 := Scalar.addi c0_i32_19 v57
  let c1_i32_22 : BitVec 32 := 1#32
  ⟨v61, v58, c1_i32_22⟩
def k0_mult2 (i : grid0.Coords) (k0_t2 : Fin (k0_t2_loop i).trips) : BitVec 32 :=
  let c0_i32_19 : BitVec 32 := 0#32
  let arg1 : BitVec 32 := BitVec.ofNat 32 (i 1).val
  let c1_i32 : BitVec 32 := 1#32
  let v28 : BitVec 32 := Scalar.addi arg1 c1_i32
  let c4_i32 : BitVec 32 := 4#32
  let v29 : BitVec 32 := Scalar.muli v28 c4_i32
  let v57 : BitVec 32 := Scalar.subi v29 c0_i32_19
  let c1_i32_20 : BitVec 32 := 1#32
  let v59 : BitVec 32 := Scalar.divsi v57 c1_i32_20
  let v60 : BitVec 32 := Scalar.muli v59 c1_i32_20
  let v61 : BitVec 32 := Scalar.addi c0_i32_19 v60
  let c1_i32_22 : BitVec 32 := 1#32
  let arg14 : BitVec 32 := Scf.iv v61 c1_i32_22 k0_t2
  let c128_i32_46 : BitVec 32 := 128#32
  let v98 : BitVec 32 := Scalar.muli arg14 c128_i32_46
  v98
def k0_off2 (i : grid0.Coords) (k0_t2 : Fin (k0_t2_loop i).trips) : Fin 2 → Nat :=
  let c0_i32_19 : BitVec 32 := 0#32
  let arg1 : BitVec 32 := BitVec.ofNat 32 (i 1).val
  let c1_i32 : BitVec 32 := 1#32
  let v28 : BitVec 32 := Scalar.addi arg1 c1_i32
  let c4_i32 : BitVec 32 := 4#32
  let v29 : BitVec 32 := Scalar.muli v28 c4_i32
  let v57 : BitVec 32 := Scalar.subi v29 c0_i32_19
  let c1_i32_20 : BitVec 32 := 1#32
  let v59 : BitVec 32 := Scalar.divsi v57 c1_i32_20
  let v60 : BitVec 32 := Scalar.muli v59 c1_i32_20
  let v61 : BitVec 32 := Scalar.addi c0_i32_19 v60
  let c1_i32_22 : BitVec 32 := 1#32
  let arg14 : BitVec 32 := Scf.iv v61 c1_i32_22 k0_t2
  let c128_i32_46 : BitVec 32 := 128#32
  let v98 : BitVec 32 := Scalar.muli arg14 c128_i32_46
  let v99 : BitVec 32 := v98
  let v100 : Index := Scalar.indexCast v99
  let c0_47 : Index := 0#32
  ![v100.toNat, 0]
@[reducible] def k0_t3_loop (i : grid0.Coords) : Scf.Loop 32 :=
  let c0_i32_36 : BitVec 32 := 0#32
  let arg1 : BitVec 32 := BitVec.ofNat 32 (i 1).val
  let c1_i32 : BitVec 32 := 1#32
  let v28 : BitVec 32 := Scalar.addi arg1 c1_i32
  let c4_i32 : BitVec 32 := 4#32
  let v29 : BitVec 32 := Scalar.muli v28 c4_i32
  let v85 : BitVec 32 := Scalar.subi v29 c0_i32_36
  let c1_i32_37 : BitVec 32 := 1#32
  let v87 : BitVec 32 := Scalar.divsi v85 c1_i32_37
  let v88 : BitVec 32 := Scalar.muli v87 c1_i32_37
  let v89 : BitVec 32 := Scalar.addi c0_i32_36 v88
  let c1_i32_38 : BitVec 32 := 1#32
  ⟨c0_i32_36, v89, c1_i32_38⟩
def k0_mult3 (i : grid0.Coords) (k0_t3 : Fin (k0_t3_loop i).trips) : BitVec 32 :=
  let c0_i32_36 : BitVec 32 := 0#32
  let c1_i32_38 : BitVec 32 := 1#32
  let arg14 : BitVec 32 := Scf.iv c0_i32_36 c1_i32_38 k0_t3
  let c128_i32_46 : BitVec 32 := 128#32
  let v98 : BitVec 32 := Scalar.muli arg14 c128_i32_46
  v98
def k0_off3 (i : grid0.Coords) (k0_t3 : Fin (k0_t3_loop i).trips) : Fin 2 → Nat :=
  let c0_i32_36 : BitVec 32 := 0#32
  let c1_i32_38 : BitVec 32 := 1#32
  let arg14 : BitVec 32 := Scf.iv c0_i32_36 c1_i32_38 k0_t3
  let c128_i32_46 : BitVec 32 := 128#32
  let v98 : BitVec 32 := Scalar.muli arg14 c128_i32_46
  let v99 : BitVec 32 := v98
  let v100 : Index := Scalar.indexCast v99
  let c0_47 : Index := 0#32
  ![v100.toNat, 0]
@[reducible] def k0_t4_loop (i : grid0.Coords) : Scf.Loop 32 :=
  let c0_i32_36 : BitVec 32 := 0#32
  let arg1 : BitVec 32 := BitVec.ofNat 32 (i 1).val
  let c1_i32 : BitVec 32 := 1#32
  let v28 : BitVec 32 := Scalar.addi arg1 c1_i32
  let c4_i32 : BitVec 32 := 4#32
  let v29 : BitVec 32 := Scalar.muli v28 c4_i32
  let v85 : BitVec 32 := Scalar.subi v29 c0_i32_36
  let c1_i32_37 : BitVec 32 := 1#32
  let v87 : BitVec 32 := Scalar.divsi v85 c1_i32_37
  let v88 : BitVec 32 := Scalar.muli v87 c1_i32_37
  let v89 : BitVec 32 := Scalar.addi c0_i32_36 v88
  let v86 : BitVec 32 := Scalar.addi c0_i32_36 v85
  let c1_i32_39 : BitVec 32 := 1#32
  ⟨v89, v86, c1_i32_39⟩
def k0_mult4 (i : grid0.Coords) (k0_t4 : Fin (k0_t4_loop i).trips) : BitVec 32 :=
  let c0_i32_36 : BitVec 32 := 0#32
  let arg1 : BitVec 32 := BitVec.ofNat 32 (i 1).val
  let c1_i32 : BitVec 32 := 1#32
  let v28 : BitVec 32 := Scalar.addi arg1 c1_i32
  let c4_i32 : BitVec 32 := 4#32
  let v29 : BitVec 32 := Scalar.muli v28 c4_i32
  let v85 : BitVec 32 := Scalar.subi v29 c0_i32_36
  let c1_i32_37 : BitVec 32 := 1#32
  let v87 : BitVec 32 := Scalar.divsi v85 c1_i32_37
  let v88 : BitVec 32 := Scalar.muli v87 c1_i32_37
  let v89 : BitVec 32 := Scalar.addi c0_i32_36 v88
  let c1_i32_39 : BitVec 32 := 1#32
  let arg14 : BitVec 32 := Scf.iv v89 c1_i32_39 k0_t4
  let c128_i32_46 : BitVec 32 := 128#32
  let v98 : BitVec 32 := Scalar.muli arg14 c128_i32_46
  v98
def k0_off4 (i : grid0.Coords) (k0_t4 : Fin (k0_t4_loop i).trips) : Fin 2 → Nat :=
  let c0_i32_36 : BitVec 32 := 0#32
  let arg1 : BitVec 32 := BitVec.ofNat 32 (i 1).val
  let c1_i32 : BitVec 32 := 1#32
  let v28 : BitVec 32 := Scalar.addi arg1 c1_i32
  let c4_i32 : BitVec 32 := 4#32
  let v29 : BitVec 32 := Scalar.muli v28 c4_i32
  let v85 : BitVec 32 := Scalar.subi v29 c0_i32_36
  let c1_i32_37 : BitVec 32 := 1#32
  let v87 : BitVec 32 := Scalar.divsi v85 c1_i32_37
  let v88 : BitVec 32 := Scalar.muli v87 c1_i32_37
  let v89 : BitVec 32 := Scalar.addi c0_i32_36 v88
  let c1_i32_39 : BitVec 32 := 1#32
  let arg14 : BitVec 32 := Scf.iv v89 c1_i32_39 k0_t4
  let c128_i32_46 : BitVec 32 := 128#32
  let v98 : BitVec 32 := Scalar.muli arg14 c128_i32_46
  let v99 : BitVec 32 := v98
  let v100 : Index := Scalar.indexCast v99
  let c0_47 : Index := 0#32
  ![v100.toNat, 0]
def k0_cond2 (i : grid0.Coords) : BitVec 1 :=
  let arg1 : BitVec 32 := BitVec.ofNat 32 (i 1).val
  let c15_i32 : BitVec 32 := 15#32
  let v95 : BitVec 1 := Scalar.cmpi .eq arg1 c15_i32
  let v96 : BitVec 32 := Scalar.extui v95
  let c0_i32_45 : BitVec 32 := 0#32
  let v97 : BitVec 1 := Scalar.cmpi .ne v96 c0_i32_45
  v97

def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceAttnBwdIdeal.lean ====
abbrev S8192x5120 : Shape := ⟨2, ![8192, 5120]⟩
abbrev S8192x512 : Shape := ⟨2, ![8192, 512]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩
abbrev S8x8192x64 : Shape := ⟨3, ![8, 8192, 64]⟩

abbrev nBuf : Space → Nat
  | .hbm => 175
  | .vmem => 0
  | .smem => 0
  | _ => 0

abbrev hbmTy0_0 (i : Nat) : BufTy := match i % 128 with
  | 0 => ⟨S8192x5120, .f32⟩
  | 1 => ⟨S8192x512, .f32⟩
  | 2 => ⟨S8192x512, .f32⟩
  | 3 => ⟨S8192x8x64, .f32⟩
  | 4 => ⟨S8192x512, .f32⟩
  | 5 => ⟨S8192x8x64, .f32⟩
  | 6 => ⟨S8192x512, .f32⟩
  | 7 => ⟨S8192x8x64, .f32⟩
  | 8 => ⟨S8x8192x8192, .f32⟩
  | 9 => ⟨S_, .f32⟩
  | 10 => ⟨S8x8192x8192, .f32⟩
  | 11 => ⟨S8x8192x8192, .f32⟩
  | 12 => ⟨S8192, .i32⟩
  | 13 => ⟨S1x8192, .i32⟩
  | 14 => ⟨S8192x1, .i32⟩
  | 15 => ⟨S8192x8192, .i32⟩
  | 16 => ⟨S8192x8192, .i32⟩
  | 17 => ⟨S8192x8192, .i1⟩
  | 18 => ⟨S8x8192x8192, .f32⟩
  | 19 => ⟨S8x8192x8192, .f32⟩
  | 20 => ⟨S_, .f32⟩
  | 21 => ⟨S8x8192x8192, .f32⟩
  | 22 => ⟨S8x8192x8192, .f32⟩
  | 23 => ⟨S8x8192x8192, .f32⟩
  | 24 => ⟨S8x8192x8192, .f32⟩
  | 25 => ⟨S8x8192x8192, .i1⟩
  | 26 => ⟨S8x8192x8192, .f32⟩
  | 27 => ⟨S8x8192x8192, .f32⟩
  | 28 => ⟨S8x8192x8192, .f32⟩
  | 29 => ⟨S8x8192x8192, .f32⟩
  | 30 => ⟨S8x8192x8192, .f32⟩
  | 31 => ⟨S8x8192x8192, .f32⟩
  | 32 => ⟨S8x8192x8192, .f32⟩
  | 33 => ⟨S8x8192x8192, .f32⟩
  | 34 => ⟨S_, .f32⟩
  | 35 => ⟨S8x8192x8192, .f32⟩
  | 36 => ⟨S8x8192x8192, .i1⟩
  | 37 => ⟨S_, .f32⟩
  | 38 => ⟨S8x8192x8192, .f32⟩
  | 39 => ⟨S8x8192x8192, .f32⟩
  | 40 => ⟨S_, .f32⟩
  | 41 => ⟨S8x8192x8192, .f32⟩
  | 42 => ⟨S8x8192x8192, .i1⟩
  | 43 => ⟨S_, .f32⟩
  | 44 => ⟨S8x8192x8192, .f32⟩
  | 45 => ⟨S8x8192x8192, .f32⟩
  | 46 => ⟨S8x8192x8192, .f32⟩
  | 47 => ⟨S8x8192x8192, .f32⟩
  | 48 => ⟨S_, .f32⟩
  | 49 => ⟨S_, .f32⟩
  | 50 => ⟨S_, .i1⟩
  | 51 => ⟨S_, .f32⟩
  | 52 => ⟨S_, .f32⟩
  | 53 => ⟨S_, .f32⟩
  | 54 => ⟨S_, .f32⟩
  | 55 => ⟨S8x8192x8192, .f32⟩
  | 56 => ⟨S8x8192x8192, .i1⟩
  | 57 => ⟨S_, .f32⟩
  | 58 => ⟨S8x8192x8192, .f32⟩
  | 59 => ⟨S8x8192x8192, .f32⟩
  | 60 => ⟨S8x8192x8192, .f32⟩
  | 61 => ⟨S8x8192x8192, .f32⟩
  | 62 => ⟨S8x8192x8192, .f32⟩
  | 63 => ⟨S_, .f32⟩
  | 64 => ⟨S8x8192x8192, .f32⟩
  | 65 => ⟨S8x8192x8192, .f32⟩
  | 66 => ⟨S8x8192x8192, .f32⟩
  | 67 => ⟨S_, .f32⟩
  | 68 => ⟨S_, .f32⟩
  | 69 => ⟨S8x8192x8192, .i1⟩
  | 70 => ⟨S8x8192x8192, .f32⟩
  | 71 => ⟨S8x8192x8192, .f32⟩
  | 72 => ⟨S_, .f32⟩
  | 73 => ⟨S8x8192x8192, .f32⟩
  | 74 => ⟨S_, .f32⟩
  | 75 => ⟨S_, .f32⟩
  | 76 => ⟨S8x8192x8192, .f32⟩
  | 77 => ⟨S8x8192x8192, .f32⟩
  | 78 => ⟨S8x8192x8192, .f32⟩
  | 79 => ⟨S_, .f32⟩
  | 80 => ⟨S8x8192x8192, .f32⟩
  | 81 => ⟨S8x8192x8192, .f32⟩
  | 82 => ⟨S8x8192x8192, .f32⟩
  | 83 => ⟨S8x8192x8192, .f32⟩
  | 84 => ⟨S8x8192x8192, .i1⟩
  | 85 => ⟨S8x8192x8192, .f32⟩
  | 86 => ⟨S8x8192x8192, .f32⟩
  | 87 => ⟨S8x8192x8192, .f32⟩
  | 88 => ⟨S8x8192x8192, .f32⟩
  | 89 => ⟨S8x8192x8192, .f32⟩
  | 90 => ⟨S8x8192x8192, .f32⟩
  | 91 => ⟨S8x8192x8192, .f32⟩
  | 92 => ⟨S8x8192x8192, .f32⟩
  | 93 => ⟨S_, .f32⟩
  | 94 => ⟨S8x8192x8192, .f32⟩
  | 95 => ⟨S8x8192x8192, .i1⟩
  | 96 => ⟨S_, .f32⟩
  | 97 => ⟨S8x8192x8192, .f32⟩
  | 98 => ⟨S8x8192x8192, .f32⟩
  | 99 => ⟨S_, .f32⟩
  | 100 => ⟨S8x8192x8192, .f32⟩
  | 101 => ⟨S8x8192x8192, .i1⟩
  | 102 => ⟨S_, .f32⟩
  | 103 => ⟨S8x8192x8192, .f32⟩
  | 104 => ⟨S8x8192x8192, .f32⟩
  | 105 => ⟨S8x8192x8192, .f32⟩
  | 106 => ⟨S8x8192x8192, .f32⟩
  | 107 => ⟨S_, .f32⟩
  | 108 => ⟨S_, .f32⟩
  | 109 => ⟨S_, .i1⟩
  | 110 => ⟨S_, .f32⟩
  | 111 => ⟨S_, .f32⟩
  | 112 => ⟨S_, .f32⟩
  | 113 => ⟨S_, .f32⟩
  | 114 => ⟨S8x8192x8192, .f32⟩
  | 115 => ⟨S8x8192x8192, .i1⟩
  | 116 => ⟨S_, .f32⟩
  | 117 => ⟨S8x8192x8192, .f32⟩
  | 118 => ⟨S8x8192x8192, .f32⟩
  | 119 => ⟨S8x8192x8192, .f32⟩
  | 120 => ⟨S8x8192x8192, .f32⟩
  | 121 => ⟨S8x8192x8192, .f32⟩
  | 122 => ⟨S_, .f32⟩
  | 123 => ⟨S8x8192x8192, .f32⟩
  | 124 => ⟨S8x8192x8192, .f32⟩
  | 125 => ⟨S8x8192x8192, .f32⟩
  | 126 => ⟨S8x8192x8192, .f32⟩
  | 127 => ⟨S8x8192x8192, .f32⟩
  | _ => ⟨S8192x5120, .f32⟩

abbrev hbmTy0_1 (i : Nat) : BufTy := match i % 128 with
  | 0 => ⟨S_, .f32⟩
  | 1 => ⟨S_, .f32⟩
  | 2 => ⟨S8x8192x8192, .i1⟩
  | 3 => ⟨S8x8192x8192, .f32⟩
  | 4 => ⟨S8x8192x8192, .f32⟩
  | 5 => ⟨S_, .f32⟩
  | 6 => ⟨S8x8192x8192, .f32⟩
  | 7 => ⟨S8x64x8192, .f32⟩
  | 8 => ⟨S8192x8x64, .f32⟩
  | 9 => ⟨S8192x8x64, .f32⟩
  | 10 => ⟨S8x64x8192, .f32⟩
  | 11 => ⟨S8x8192x8192, .f32⟩
  | 12 => ⟨S8x64x8192, .f32⟩
  | 13 => ⟨S8192x8x64, .f32⟩
  | 14 => ⟨S_, .f32⟩
  | 15 => ⟨S8x8192x8192, .f32⟩
  | 16 => ⟨S8x8192x8192, .f32⟩
  | 17 => ⟨S8x8192x8192, .f32⟩
  | 18 => ⟨S8x8192x8192, .f32⟩
  | 19 => ⟨S8x8192x8192, .f32⟩
  | 20 => ⟨S8x8192x8192, .f32⟩
  | 21 => ⟨S8x8192x8192, .f32⟩
  | 22 => ⟨S_, .f32⟩
  | 23 => ⟨S_, .f32⟩
  | 24 => ⟨S8x8192x8192, .f32⟩
  | 25 => ⟨S8x8192x8192, .f32⟩
  | 26 => ⟨S_, .f32⟩
  | 27 => ⟨S8x8192x8192, .f32⟩
  | 28 => ⟨S8x8192x8192, .f32⟩
  | 29 => ⟨S8x8192x8192, .f32⟩
  | 30 => ⟨S8x8192x8192, .f32⟩
  | 31 => ⟨S8x8192x8192, .f32⟩
  | 32 => ⟨S8x8192x8192, .f32⟩
  | 33 => ⟨S8x8192x8192, .f32⟩
  | 34 => ⟨S_, .f32⟩
  | 35 => ⟨S8x8192x8192, .f32⟩
  | 36 => ⟨S8x8192x8192, .f32⟩
  | 37 => ⟨S8x8192x64, .f32⟩
  | 38 => ⟨S8192x8x64, .f32⟩
  | 39 => ⟨S8x8192x64, .f32⟩
  | 40 => ⟨S8192x8x64, .f32⟩
  | 41 => ⟨S8192x512, .f32⟩
  | 42 => ⟨S8192x512, .bf16⟩
  | 43 => ⟨S8192x512, .f32⟩
  | 44 => ⟨S8192x512, .bf16⟩
  | 45 => ⟨S8192x512, .f32⟩
  | 46 => ⟨S8192x512, .bf16⟩
  | _ => ⟨S8192x5120, .f32⟩

abbrev hbmTy (i : Nat) : BufTy := match i / 128 with
  | 0 => hbmTy0_0 i
  | 1 => hbmTy0_1 i
  | _ => ⟨S8192x5120, .f32⟩

abbrev bufTy : (tb : Table) → Fin (tcTables nBuf tb) → BufTy
  | .hbm, ⟨i, _⟩ => hbmTy i
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1_0 : Ref sig .tc := ⟨.hbm, 33, rfl⟩
abbrev main_call0_call0_cst_0 : Ref sig .tc := ⟨.hbm, 34, rfl⟩
abbrev main_call0_call0_v13 : Ref sig .tc := ⟨.hbm, 35, rfl⟩
abbrev main_call0_call0_v14 : Ref sig .tc := ⟨.hbm, 36, rfl⟩
abbrev main_call0_call0_cst_1 : Ref sig .tc := ⟨.hbm, 37, rfl⟩
abbrev main_call0_call0_v15 : Ref sig .tc := ⟨.hbm, 38, rfl⟩
abbrev main_call0_call0_v16 : Ref sig .tc := ⟨.hbm, 39, rfl⟩
abbrev main_call0_call0_cst_2 : Ref sig .tc := ⟨.hbm, 40, rfl⟩
abbrev main_call0_call0_v17 : Ref sig .tc := ⟨.hbm, 41, rfl⟩
abbrev main_call0_call0_v18 : Ref sig .tc := ⟨.hbm, 42, rfl⟩
abbrev main_call0_call0_cst_3 : Ref sig .tc := ⟨.hbm, 43, rfl⟩
abbrev main_call0_call0_v19 : Ref sig .tc := ⟨.hbm, 44, rfl⟩
abbrev main_call0_call0_v20 : Ref sig .tc := ⟨.hbm, 45, rfl⟩
abbrev main_call0_call0_v21 : Ref sig .tc := ⟨.hbm, 46, rfl⟩
abbrev main_v16_1 : Ref sig .tc := ⟨.hbm, 47, rfl⟩
abbrev main_call0_call0_cst_4 : Ref sig .tc := ⟨.hbm, 48, rfl⟩
abbrev main_call0_call0_cst_5 : Ref sig .tc := ⟨.hbm, 49, rfl⟩
abbrev main_call0_call0_v23 : Ref sig .tc := ⟨.hbm, 50, rfl⟩
abbrev main_call0_call0_cst_6 : Ref sig .tc := ⟨.hbm, 51, rfl⟩
abbrev main_call0_call0_cst_7 : Ref sig .tc := ⟨.hbm, 52, rfl⟩
abbrev main_call0_call0_v24 : Ref sig .tc := ⟨.hbm, 53, rfl⟩
abbrev main_call0_call0_cst_8 : Ref sig .tc := ⟨.hbm, 54, rfl⟩
abbrev main_call0_call0_v25 : Ref sig .tc := ⟨.hbm, 55, rfl⟩
abbrev main_call0_call0_v26 : Ref sig .tc := ⟨.hbm, 56, rfl⟩
abbrev main_call0_call0_cst_9 : Ref sig .tc := ⟨.hbm, 57, rfl⟩
abbrev main_call0_call0_v27 : Ref sig .tc := ⟨.hbm, 58, rfl⟩
abbrev main_call0_call0_v28 : Ref sig .tc := ⟨.hbm, 59, rfl⟩
abbrev main_call0_call0_v29 : Ref sig .tc := ⟨.hbm, 60, rfl⟩
abbrev main_call0_call0_v30 : Ref sig .tc := ⟨.hbm, 61, rfl⟩
abbrev main_call0_call0_v31 : Ref sig .tc := ⟨.hbm, 62, rfl⟩
abbrev main_call0_call0_cst_10 : Ref sig .tc := ⟨.hbm, 63, rfl⟩
abbrev main_call0_call0_v32 : Ref sig .tc := ⟨.hbm, 64, rfl⟩
abbrev main_v16_2 : Ref sig .tc := ⟨.hbm, 65, rfl⟩
abbrev main_v16_0 : Ref sig .tc := ⟨.hbm, 66, rfl⟩
abbrev main_cst_0 : Ref sig .tc := ⟨.hbm, 67, rfl⟩
abbrev main_call1_v0 : Ref sig .tc := ⟨.hbm, 68, rfl⟩
abbrev main_v17_1 : Ref sig .tc := ⟨.hbm, 69, rfl⟩
abbrev main_call1_v2 : Ref sig .tc := ⟨.hbm, 70, rfl⟩
abbrev main_v17_0 : Ref sig .tc := ⟨.hbm, 71, rfl⟩
abbrev main_call1_cst : Ref sig .tc := ⟨.hbm, 72, rfl⟩
abbrev main_v17_2 : Ref sig .tc := ⟨.hbm, 73, rfl⟩
abbrev main_call2_cst : Ref sig .tc := ⟨.hbm, 74, rfl⟩
abbrev main_call2_v0 : Ref sig .tc := ⟨.hbm, 75, rfl⟩
abbrev main_v18 : Ref sig .tc := ⟨.hbm, 76, rfl⟩
abbrev main_v19 : Ref sig .tc := ⟨.hbm, 77, rfl⟩
abbrev main_call3_v0 : Ref sig .tc := ⟨.hbm, 78, rfl⟩
abbrev main_call3_call0_cst : Ref sig .tc := ⟨.hbm, 79, rfl⟩
abbrev main_call3_call0_v0 : Ref sig .tc := ⟨.hbm, 80, rfl⟩
abbrev main_call3_call0_v1 : Ref sig .tc := ⟨.hbm, 81, rfl⟩
abbrev main_call3_call0_v2 : Ref sig .tc := ⟨.hbm, 82, rfl⟩
abbrev main_call3_call0_v3 : Ref sig .tc := ⟨.hbm, 83, rfl⟩
abbrev main_call3_call0_v4 : Ref sig .tc := ⟨.hbm, 84, rfl⟩
abbrev main_call3_call0_v5 : Ref sig .tc := ⟨.hbm, 85, rfl⟩
abbrev main_call3_call0_v6 : Ref sig .tc := ⟨.hbm, 86, rfl⟩
abbrev main_call3_call0_v7 : Ref sig .tc := ⟨.hbm, 87, rfl⟩
abbrev main_call3_call0_v8 : Ref sig .tc := ⟨.hbm, 88, rfl⟩
abbrev main_call3_call0_v9 : Ref sig .tc := ⟨.hbm, 89, rfl⟩
abbrev main_call3_call0_v10 : Ref sig .tc := ⟨.hbm, 90, rfl⟩
abbrev main_call3_call0_v11 : Ref sig .tc := ⟨.hbm, 91, rfl⟩
abbrev main_call3_v1_0 : Ref sig .tc := ⟨.hbm, 92, rfl⟩
abbrev main_call3_call0_cst_0 : Ref sig .tc := ⟨.hbm, 93, rfl⟩
abbrev main_call3_call0_v13 : Ref sig .tc := ⟨.hbm, 94, rfl⟩
abbrev main_call3_call0_v14 : Ref sig .tc := ⟨.hbm, 95, rfl⟩
abbrev main_call3_call0_cst_1 : Ref sig .tc := ⟨.hbm, 96, rfl⟩
abbrev main_call3_call0_v15 : Ref sig .tc := ⟨.hbm, 97, rfl⟩
abbrev main_call3_call0_v16 : Ref sig .tc := ⟨.hbm, 98, rfl⟩
abbrev main_call3_call0_cst_2 : Ref sig .tc := ⟨.hbm, 99, rfl⟩
abbrev main_call3_call0_v17 : Ref sig .tc := ⟨.hbm, 100, rfl⟩
abbrev main_call3_call0_v18 : Ref sig .tc := ⟨.hbm, 101, rfl⟩
abbrev main_call3_call0_cst_3 : Ref sig .tc := ⟨.hbm, 102, rfl⟩
abbrev main_call3_call0_v19 : Ref sig .tc := ⟨.hbm, 103, rfl⟩
abbrev main_call3_call0_v20 : Ref sig .tc := ⟨.hbm, 104, rfl⟩
abbrev main_call3_call0_v21 : Ref sig .tc := ⟨.hbm, 105, rfl⟩
abbrev main_v20_1 : Ref sig .tc := ⟨.hbm, 106, rfl⟩
abbrev main_call3_call0_cst_4 : Ref sig .tc := ⟨.hbm, 107, rfl⟩
abbrev main_call3_call0_cst_5 : Ref sig .tc := ⟨.hbm, 108, rfl⟩
abbrev main_call3_call0_v23 : Ref sig .tc := ⟨.hbm, 109, rfl⟩
abbrev main_call3_call0_cst_6 : Ref sig .tc := ⟨.hbm, 110, rfl⟩
abbrev main_call3_call0_cst_7 : Ref sig .tc := ⟨.hbm, 111, rfl⟩
abbrev main_call3_call0_v24 : Ref sig .tc := ⟨.hbm, 112, rfl⟩
abbrev main_call3_call0_cst_8 : Ref sig .tc := ⟨.hbm, 113, rfl⟩
abbrev main_call3_call0_v25 : Ref sig .tc := ⟨.hbm, 114, rfl⟩
abbrev main_call3_call0_v26 : Ref sig .tc := ⟨.hbm, 115, rfl⟩
abbrev main_call3_call0_cst_9 : Ref sig .tc := ⟨.hbm, 116, rfl⟩
abbrev main_call3_call0_v27 : Ref sig .tc := ⟨.hbm, 117, rfl⟩
abbrev main_call3_call0_v28 : Ref sig .tc := ⟨.hbm, 118, rfl⟩
abbrev main_call3_call0_v29 : Ref sig .tc := ⟨.hbm, 119, rfl⟩
abbrev main_call3_call0_v30 : Ref sig .tc := ⟨.hbm, 120, rfl⟩
abbrev main_call3_call0_v31 : Ref sig .tc := ⟨.hbm, 121, rfl⟩
abbrev main_call3_call0_cst_10 : Ref sig .tc := ⟨.hbm, 122, rfl⟩
abbrev main_call3_call0_v32 : Ref sig .tc := ⟨.hbm, 123, rfl⟩
abbrev main_v20_2 : Ref sig .tc := ⟨.hbm, 124, rfl⟩
abbrev main_v20_0 : Ref sig .tc := ⟨.hbm, 125, rfl⟩
abbrev main_v21 : Ref sig .tc := ⟨.hbm, 126, rfl⟩
abbrev main_v22 : Ref sig .tc := ⟨.hbm, 127, rfl⟩
abbrev main_cst_1 : Ref sig .tc := ⟨.hbm, 128, rfl⟩
abbrev main_call4_v0 : Ref sig .tc := ⟨.hbm, 129, rfl⟩
abbrev main_v23_1 : Ref sig .tc := ⟨.hbm, 130, rfl⟩
abbrev main_call4_v2 : Ref sig .tc := ⟨.hbm, 131, rfl⟩
abbrev main_v23_0 : Ref sig .tc := ⟨.hbm, 132, rfl⟩
abbrev main_call4_cst : Ref sig .tc := ⟨.hbm, 133, rfl⟩
abbrev main_v23_2 : Ref sig .tc := ⟨.hbm, 134, rfl⟩
abbrev main_v24 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_call5_cst : Ref sig .tc := ⟨.hbm, 142, rfl⟩
abbrev main_call5_v0 : Ref sig .tc := ⟨.hbm, 143, rfl⟩
abbrev main_v31 : Ref sig .tc := ⟨.hbm, 144, rfl⟩
abbrev main_v32 : Ref sig .tc := ⟨.hbm, 145, rfl⟩
abbrev main_call6_v0 : Ref sig .tc := ⟨.hbm, 146, rfl⟩
abbrev main_call6_v1 : Ref sig .tc := ⟨.hbm, 147, rfl⟩
abbrev main_v33 : Ref sig .tc := ⟨.hbm, 148, rfl⟩
abbrev main_v34 : Ref sig .tc := ⟨.hbm, 149, rfl⟩
abbrev main_call7_cst : Ref sig .tc := ⟨.hbm, 150, rfl⟩
abbrev main_call7_v0 : Ref sig .tc := ⟨.hbm, 151, rfl⟩
abbrev main_v35 : Ref sig .tc := ⟨.hbm, 152, rfl⟩
abbrev main_v36 : Ref sig .tc := ⟨.hbm, 153, rfl⟩
abbrev main_call8_cst : Ref sig .tc := ⟨.hbm, 154, rfl⟩
abbrev main_call8_v0 : Ref sig .tc := ⟨.hbm, 155, rfl⟩
abbrev main_v37 : Ref sig .tc := ⟨.hbm, 156, rfl⟩
abbrev main_call9_v0 : Ref sig .tc := ⟨.hbm, 157, rfl⟩
abbrev main_call9_v1 : Ref sig .tc := ⟨.hbm, 158, rfl⟩
abbrev main_v38 : Ref sig .tc := ⟨.hbm, 159, rfl⟩
abbrev main_v39 : Ref sig .tc := ⟨.hbm, 160, rfl⟩
abbrev main_v40 : Ref sig .tc := ⟨.hbm, 161, rfl⟩
abbrev main_cst_2 : Ref sig .tc := ⟨.hbm, 162, rfl⟩
abbrev main_v41 : Ref sig .tc := ⟨.hbm, 163, rfl⟩
abbrev main_v42 : Ref sig .tc := ⟨.hbm, 164, rfl⟩
abbrev main_v43 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩

abbrev nD : Nat := 1
abbrev τ : Topo := Topo.v7x

variable {F : FTy → Type} [FloatOps F]
-- ==== KernelAttnFwd.lean ====
abbrev S8192x5120 : Shape := ⟨2, ![8192, 5120]⟩
abbrev S8192x512 : Shape := ⟨2, ![8192, 512]⟩
abbrev S8x8192x128 : Shape := ⟨3, ![8, 8192, 128]⟩
abbrev S512x128 : Shape := ⟨2, ![512, 128]⟩
abbrev S8192x128 : Shape := ⟨2, ![8192, 128]⟩
abbrev S2x512x128 : Shape := ⟨3, ![2, 512, 128]⟩
abbrev S128x256 : Shape := ⟨2, ![128, 256]⟩
abbrev S512x1 : Shape := ⟨2, ![512, 1]⟩
abbrev S1x128 : Shape := ⟨2, ![1, 128]⟩
abbrev S128x128 : Shape := ⟨2, ![128, 128]⟩
abbrev S512x256 : Shape := ⟨2, ![512, 256]⟩
abbrev S1x512x128 : Shape := ⟨3, ![1, 512, 128]⟩

abbrev nBuf : Space → Nat
  | .hbm => 3
  | .vmem => 13
  | .smem => 0
  | _ => 0

abbrev bufTy : (tb : Table) → Fin (tcTables nBuf tb) → BufTy
  | .hbm, ⟨0, _⟩ => ⟨S8192x5120, .f32⟩
  | .hbm, ⟨1, _⟩ => ⟨S8192x512, .f32⟩
  | .hbm, ⟨2, _⟩ => ⟨S8x8192x128, .f32⟩
  | .local _ .vmem, ⟨0, _⟩ => ⟨S512x128, .f32⟩
  | .local _ .vmem, ⟨1, _⟩ => ⟨S512x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S512x128, .f32⟩
  | .local _ .vmem, ⟨7, _⟩ => ⟨S512x128, .f32⟩
  | .local _ .vmem, ⟨8, _⟩ => ⟨S2x512x128, .f32⟩
  | .local _ .vmem, ⟨9, _⟩ => ⟨S2x512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32_15 : BitVec 32 := 0#32
  let arg1 : BitVec 32 := BitVec.ofNat 32 (i 1).val
  let c1_i32 : BitVec 32 := 1#32
  let v15 : BitVec 32 := Scalar.addi arg1 c1_i32
  let c4_i32 : BitVec 32 := 4#32
  let v16 : BitVec 32 := Scalar.muli v15 c4_i32
  let v44 : BitVec 32 := Scalar.subi v16 c0_i32_15
  let c1_i32_16 : BitVec 32 := 1#32
  let v46 : BitVec 32 := Scalar.divsi v44 c1_i32_16
  let v47 : BitVec 32 := Scalar.muli v46 c1_i32_16
  let v48 : BitVec 32 := Scalar.addi c0_i32_15 v47
  let c1_i32_17 : BitVec 32 := 1#32
  ⟨c0_i32_15, v48, c1_i32_17⟩
def k0_mult1 (i : grid0.Coords) (k0_t1 : Fin (k0_t1_loop i).trips) : BitVec 32 :=
  let arg1 : BitVec 32 := BitVec.ofNat 32 (i 1).val
  let c1_i32 : BitVec 32 := 1#32
  let v15 : BitVec 32 := Scalar.addi arg1 c1_i32
  let c4_i32 : BitVec 32 := 4#32
  let v16 : BitVec 32 := Scalar.muli v15 c4_i32
  let c1_i32_50 : BitVec 32 := 1#32
  let v87 : BitVec 32 := Scalar.subi v16 c1_i32_50
  let c0_i32_15 : BitVec 32 := 0#32
  let c1_i32_17 : BitVec 32 := 1#32
  let arg10 : BitVec 32 := Scf.iv c0_i32_15 c1_i32_17 k0_t1
  let v88 : BitVec 32 := Scalar.subi v87 arg10
  let c128_i32_51 : BitVec 32 := 128#32
  let v89 : BitVec 32 := Scalar.muli v88 c128_i32_51
  v89
def k0_off1 (i : grid0.Coords) (k0_t1 : Fin (k0_t1_loop i).trips) : Fin 2 → Nat :=
  let arg1 : BitVec 32 := BitVec.ofNat 32 (i 1).val
  let c1_i32 : BitVec 32 := 1#32
  let v15 : BitVec 32 := Scalar.addi arg1 c1_i32
  let c4_i32 : BitVec 32 := 4#32
  let v16 : BitVec 32 := Scalar.muli v15 c4_i32
  let c1_i32_50 : BitVec 32 := 1#32
  let v87 : BitVec 32 := Scalar.subi v16 c1_i32_50
  let c0_i32_15 : BitVec 32 := 0#32
  let c1_i32_17 : BitVec 32 := 1#32
  let arg10 : BitVec 32 := Scf.iv c0_i32_15 c1_i32_17 k0_t1
  let v88 : BitVec 32 := Scalar.subi v87 arg10
  let c128_i32_51 : BitVec 32 := 128#32
  let v89 : BitVec 32 := Scalar.muli v88 c128_i32_51
  let v90 : BitVec 32 := v89
  let v91 : Index := Scalar.indexCast v90
  let c0_52 : Index := 0#32
  ![v91.toNat, 0]
@[reducible] def k0_t2_loop (i : grid0.Coords) : Scf.Loop 32 :=
  let c0_i32_15 : BitVec 32 := 0#32
  let arg1 : BitVec 32 := BitVec.ofNat 32 (i 1).val
  let c1_i32 : BitVec 32 := 1#32
  let v15 : BitVec 32 := Scalar.addi arg1 c1_i32
  let c4_i32 : BitVec 32 := 4#32
  let v16 : BitVec 32 := Scalar.muli v15 c4_i32
  let v44 : BitVec 32 := Scalar.subi v16 c0_i32_15
  let c1_i32_16 : BitVec 32 := 1#32
  let v46 : BitVec 32 := Scalar.divsi v44 c1_i32_16
  let v47 : BitVec 32 := Scalar.muli v46 c1_i32_16
  let v48 : BitVec 32 := Scalar.addi c0_i32_15 v47
  let v45 : BitVec 32 := Scalar.addi c0_i32_15 v44
  let c1_i32_18 : BitVec 32 := 1#32
  ⟨v48, v45, c1_i32_18⟩
def k0_mult2 (i : grid0.Coords) (k0_t2 : Fin (k0_t2_loop i).trips) : BitVec 32 :=
  let arg1 : BitVec 32 := BitVec.ofNat 32 (i 1).val
  let c1_i32 : BitVec 32 := 1#32
  let v15 : BitVec 32 := Scalar.addi arg1 c1_i32
  let c4_i32 : BitVec 32 := 4#32
  let v16 : BitVec 32 := Scalar.muli v15 c4_i32
  let c1_i32_50 : BitVec 32 := 1#32
  let v87 : BitVec 32 := Scalar.subi v16 c1_i32_50
  let c0_i32_15 : BitVec 32 := 0#32
  let v44 : BitVec 32 := Scalar.subi v16 c0_i32_15
  let c1_i32_16 : BitVec 32 := 1#32
  let v46 : BitVec 32 := Scalar.divsi v44 c1_i32_16
  let v47 : BitVec 32 := Scalar.muli v46 c1_i32_16
  let v48 : BitVec 32 := Scalar.addi c0_i32_15 v47
  let c1_i32_18 : BitVec 32 := 1#32
  let arg10 : BitVec 32 := Scf.iv v48 c1_i32_18 k0_t2
  let v88 : BitVec 32 := Scalar.subi v87 arg10
  let c128_i32_51 : BitVec 32 := 128#32
  let v89 : BitVec 32 := Scalar.muli v88 c128_i32_51
  v89
def k0_off2 (i : grid0.Coords) (k0_t2 : Fin (k0_t2_loop i).trips) : Fin 2 → Nat :=
  let arg1 : BitVec 32 := BitVec.ofNat 32 (i 1).val
  let c1_i32 : BitVec 32 := 1#32
  let v15 : BitVec 32 := Scalar.addi arg1 c1_i32
  let c4_i32 : BitVec 32 := 4#32
  let v16 : BitVec 32 := Scalar.muli v15 c4_i32
  let c1_i32_50 : BitVec 32 := 1#32
  let v87 : BitVec 32 := Scalar.subi v16 c1_i32_50
  let c0_i32_15 : BitVec 32 := 0#32
  let v44 : BitVec 32 := Scalar.subi v16 c0_i32_15
  let c1_i32_16 : BitVec 32 := 1#32
  let v46 : BitVec 32 := Scalar.divsi v44 c1_i32_16
  let v47 : BitVec 32 := Scalar.muli v46 c1_i32_16
  let v48 : BitVec 32 := Scalar.addi c0_i32_15 v47
  let c1_i32_18 : BitVec 32 := 1#32
  let arg10 : BitVec 32 := Scf.iv v48 c1_i32_18 k0_t2
  let v88 : BitVec 32 := Scalar.subi v87 arg10
  let c128_i32_51 : BitVec 32 := 128#32
  let v89 : BitVec 32 := Scalar.muli v88 c128_i32_51
  let v90 : BitVec 32 := v89
  let v91 : Index := Scalar.indexCast v90
  let c0_52 : Index := 0#32
  ![v91.toNat, 0]
@[reducible] def k0_t3_loop (i : grid0.Coords) : Scf.Loop 32 :=
  let c0_i32_38 : BitVec 32 := 0#32
  let arg1 : BitVec 32 := BitVec.ofNat 32 (i 1).val
  let c1_i32 : BitVec 32 := 1#32
  let v15 : BitVec 32 := Scalar.addi arg1 c1_i32
  let c4_i32 : BitVec 32 := 4#32
  let v16 : BitVec 32 := Scalar.muli v15 c4_i32
  let v76 : BitVec 32 := Scalar.subi v16 c0_i32_38
  let c1_i32_39 : BitVec 32 := 1#32
  let v78 : BitVec 32 := Scalar.divsi v76 c1_i32_39
  let v79 : BitVec 32 := Scalar.muli v78 c1_i32_39
  let v80 : BitVec 32 := Scalar.addi c0_i32_38 v79
  let c1_i32_40 : BitVec 32 := 1#32
  ⟨c0_i32_38, v80, c1_i32_40⟩
def k0_mult3 (i : grid0.Coords) (k0_t3 : Fin (k0_t3_loop i).trips) : BitVec 32 :=
  let arg1 : BitVec 32 := BitVec.ofNat 32 (i 1).val
  let c1_i32 : BitVec 32 := 1#32
  let v15 : BitVec 32 := Scalar.addi arg1 c1_i32
  let c4_i32 : BitVec 32 := 4#32
  let v16 : BitVec 32 := Scalar.muli v15 c4_i32
  let c1_i32_50 : BitVec 32 := 1#32
  let v87 : BitVec 32 := Scalar.subi v16 c1_i32_50
  let c0_i32_38 : BitVec 32 := 0#32
  let c1_i32_40 : BitVec 32 := 1#32
  let arg10 : BitVec 32 := Scf.iv c0_i32_38 c1_i32_40 k0_t3
  let v88 : BitVec 32 := Scalar.subi v87 arg10
  let c128_i32_51 : BitVec 32 := 128#32
  let v89 : BitVec 32 := Scalar.muli v88 c128_i32_51
  v89
def k0_off3 (i : grid0.Coords) (k0_t3 : Fin (k0_t3_loop i).trips) : Fin 2 → Nat :=
  let arg1 : BitVec 32 := BitVec.ofNat 32 (i 1).val
  let c1_i32 : BitVec 32 := 1#32
  let v15 : BitVec 32 := Scalar.addi arg1 c1_i32
  let c4_i32 : BitVec 32 := 4#32
  let v16 : BitVec 32 := Scalar.muli v15 c4_i32
  let c1_i32_50 : BitVec 32 := 1#32
  let v87 : BitVec 32 := Scalar.subi v16 c1_i32_50
  let c0_i32_38 : BitVec 32 := 0#32
  let c1_i32_40 : BitVec 32 := 1#32
  let arg10 : BitVec 32 := Scf.iv c0_i32_38 c1_i32_40 k0_t3
  let v88 : BitVec 32 := Scalar.subi v87 arg10
  let c128_i32_51 : BitVec 32 := 128#32
  let v89 : BitVec 32 := Scalar.muli v88 c128_i32_51
  let v90 : BitVec 32 := v89
  let v91 : Index := Scalar.indexCast v90
  let c0_52 : Index := 0#32
  ![v91.toNat, 0]
@[reducible] def k0_t4_loop (i : grid0.Coords) : Scf.Loop 32 :=
  let c0_i32_38 : BitVec 32 := 0#32
  let arg1 : BitVec 32 := BitVec.ofNat 32 (i 1).val
  let c1_i32 : BitVec 32 := 1#32
  let v15 : BitVec 32 := Scalar.addi arg1 c1_i32
  let c4_i32 : BitVec 32 := 4#32
  let v16 : BitVec 32 := Scalar.muli v15 c4_i32
  let v76 : BitVec 32 := Scalar.subi v16 c0_i32_38
  let c1_i32_39 : BitVec 32 := 1#32
  let v78 : BitVec 32 := Scalar.divsi v76 c1_i32_39
  let v79 : BitVec 32 := Scalar.muli v78 c1_i32_39
  let v80 : BitVec 32 := Scalar.addi c0_i32_38 v79
  let v77 : BitVec 32 := Scalar.addi c0_i32_38 v76
  let c1_i32_41 : BitVec 32 := 1#32
  ⟨v80, v77, c1_i32_41⟩
def k0_mult4 (i : grid0.Coords) (k0_t4 : Fin (k0_t4_loop i).trips) : BitVec 32 :=
  let arg1 : BitVec 32 := BitVec.ofNat 32 (i 1).val
  let c1_i32 : BitVec 32 := 1#32
  let v15 : BitVec 32 := Scalar.addi arg1 c1_i32
  let c4_i32 : BitVec 32 := 4#32
  let v16 : BitVec 32 := Scalar.muli v15 c4_i32
  let c1_i32_50 : BitVec 32 := 1#32
  let v87 : BitVec 32 := Scalar.subi v16 c1_i32_50
  let c0_i32_38 : BitVec 32 := 0#32
  let v76 : BitVec 32 := Scalar.subi v16 c0_i32_38
  let c1_i32_39 : BitVec 32 := 1#32
  let v78 : BitVec 32 := Scalar.divsi v76 c1_i32_39
  let v79 : BitVec 32 := Scalar.muli v78 c1_i32_39
  let v80 : BitVec 32 := Scalar.addi c0_i32_38 v79
  let c1_i32_41 : BitVec 32 := 1#32
  let arg10 : BitVec 32 := Scf.iv v80 c1_i32_41 k0_t4
  let v88 : BitVec 32 := Scalar.subi v87 arg10
  let c128_i32_51 : BitVec 32 := 128#32
  let v89 : BitVec 32 := Scalar.muli v88 c128_i32_51
  v89
def k0_off4 (i : grid0.Coords) (k0_t4 : Fin (k0_t4_loop i).trips) : Fin 2 → Nat :=
  let arg1 : BitVec 32 := BitVec.ofNat 32 (i 1).val
  let c1_i32 : BitVec 32 := 1#32
  let v15 : BitVec 32 := Scalar.addi arg1 c1_i32
  let c4_i32 : BitVec 32 := 4#32
  let v16 : BitVec 32 := Scalar.muli v15 c4_i32
  let c1_i32_50 : BitVec 32 := 1#32
  let v87 : BitVec 32 := Scalar.subi v16 c1_i32_50
  let c0_i32_38 : BitVec 32 := 0#32
  let v76 : BitVec 32 := Scalar.subi v16 c0_i32_38
  let c1_i32_39 : BitVec 32 := 1#32
  let v78 : BitVec 32 := Scalar.divsi v76 c1_i32_39
  let v79 : BitVec 32 := Scalar.muli v78 c1_i32_39
  let v80 : BitVec 32 := Scalar.addi c0_i32_38 v79
  let c1_i32_41 : BitVec 32 := 1#32
  let arg10 : BitVec 32 := Scf.iv v80 c1_i32_41 k0_t4
  let v88 : BitVec 32 := Scalar.subi v87 arg10
  let c128_i32_51 : BitVec 32 := 128#32
  let v89 : BitVec 32 := Scalar.muli v88 c128_i32_51
  let v90 : BitVec 32 := v89
  let v91 : Index := Scalar.indexCast v90
  let c0_52 : Index := 0#32
  ![v91.toNat, 0]
def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceAttnFwdIdeal.lean ====
abbrev S8192x5120 : Shape := ⟨2, ![8192, 5120]⟩
abbrev S8192x512 : Shape := ⟨2, ![8192, 512]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩
abbrev S8x8192x64x128 : Shape := ⟨4, ![8, 8192, 64, 128]⟩
abbrev S8x8192x64 : Shape := ⟨3, ![8, 8192, 64]⟩
abbrev S8x8192x63 : Shape := ⟨3, ![8, 8192, 63]⟩
abbrev S8x8192x65 : Shape := ⟨3, ![8, 8192, 65]⟩
abbrev S8x8192x128 : Shape := ⟨3, ![8, 8192, 128]⟩

abbrev nBuf : Space → Nat
  | .hbm => 111
  | .vmem => 0
  | .smem => 0
  | _ => 0

abbrev bufTy : (tb : Table) → Fin (tcTables nBuf tb) → BufTy
  | .hbm, ⟨0, _⟩ => ⟨S8192x5120, .f32⟩
  | .hbm, ⟨1, _⟩ => ⟨S8192x512, .f32⟩
  | .hbm, ⟨2, _⟩ => ⟨S8192x8x64, .f32⟩
  | .hbm, ⟨3, _⟩ => ⟨S8192x512, .f32⟩
  | .hbm, ⟨4, _⟩ => ⟨S8192x8x64, .f32⟩
  | .hbm, ⟨5, _⟩ => ⟨S8192x512, .f32⟩
  | .hbm, ⟨6, _⟩ => ⟨S8192x8x64, .f32⟩
  | .hbm, ⟨7, _⟩ => ⟨S8x8192x8192, .f32⟩
  | .hbm, ⟨8, _⟩ => ⟨S_, .f32⟩
  | .hbm, ⟨9, _⟩ => ⟨S8x8192x8192, .f32⟩
  | .hbm, ⟨10, _⟩ => ⟨S8x8192x8192, .f32⟩
  | .hbm, ⟨11, _⟩ => ⟨S8192, .i32⟩
  | .hbm, ⟨12, _⟩ => ⟨S1x8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S8x8192x8192, .f32⟩
  | .hbm, ⟨18, _⟩ => ⟨S8x8192x8192, .f32⟩
  | .hbm, ⟨19, _⟩ => ⟨S_, .f32⟩
  | .hbm, ⟨20, _⟩ => ⟨S8x8192x8192, .f32⟩
  | .hbm, ⟨21, _⟩ => ⟨S8x8192x8192, .f32⟩
  | .hbm, ⟨22, _⟩ => ⟨S8x8192x8192, .f32⟩
  | .hbm, ⟨23, _⟩ => ⟨S8x8192x8192, .f32⟩
  | .hbm, ⟨24, _⟩ => ⟨S8x8192x8192, .i1⟩
  | .hbm, ⟨25, _⟩ => ⟨S8x8192x8192, .f32⟩
  | .hbm, ⟨26, _⟩ => ⟨S8x8192x8192, .f32⟩
  | .hbm, ⟨27, _⟩ => ⟨S8x8192x8192, .f32⟩
  | .hbm, ⟨28, _⟩ => ⟨S8x8192x8192, .f32⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S_, .f32⟩
  | .hbm, ⟨35, _⟩ => ⟨S_, .f32⟩
  | .hbm, ⟨36, _⟩ => ⟨S8x8192x8192, .i1⟩
  | .hbm, ⟨37, _⟩ => ⟨S8x8192x8192, .f32⟩
  | .hbm, ⟨38, _⟩ => ⟨S8x8192x8192, .f32⟩
  | .hbm, ⟨39, _⟩ => ⟨S_, .f32⟩
  | .hbm, ⟨40, _⟩ => ⟨S_, .f32⟩
  | .hbm, ⟨41, _⟩ => ⟨S8x8192x8192, .f32⟩
  | .hbm, ⟨42, _⟩ => ⟨S8x8192x8192, .f32⟩
  | .hbm, ⟨43, _⟩ => ⟨S8x8192x8192, .f32⟩
  | .hbm, ⟨44, _⟩ => ⟨S_, .f32⟩
  | .hbm, ⟨45, _⟩ => ⟨S8x8192x8192, .f32⟩
  | .hbm, ⟨46, _⟩ => ⟨S8x8192x8192, .f32⟩
  | .hbm, ⟨47, _⟩ => ⟨S8x8192x8192, .f32⟩
  | .hbm, ⟨48, _⟩ => ⟨S8x8192x8192, .f32⟩
  | .hbm, ⟨49, _⟩ => ⟨S8x8192x8192, .i1⟩
  | .hbm, ⟨50, _⟩ => ⟨S8x8192x8192, .f32⟩
  | .hbm, ⟨51, _⟩ => ⟨S8x8192x8192, .f32⟩
  | .hbm, ⟨52, _⟩ => ⟨S8x8192x8192, .f32⟩
  | .hbm, ⟨53, _⟩ => ⟨S8x8192x8192, .f32⟩
  | .hbm, ⟨54, _⟩ => ⟨S8x8192x8192, .f32⟩
  | .hbm, ⟨55, _⟩ => ⟨S8x8192x8192, .f32⟩
  | .hbm, ⟨56, _⟩ => ⟨S8x8192x8192, .f32⟩
  | .hbm, ⟨57, _⟩ => ⟨S8x8192x8192, .f32⟩
  | .hbm, ⟨58, _⟩ => ⟨S8x8192x8192, .f32⟩
  | .hbm, ⟨59, _⟩ => ⟨S8x8192x8192, .f32⟩
  | .hbm, ⟨60, _⟩ => ⟨S8x8192x8192, .f32⟩
  | .hbm, ⟨61, _⟩ => ⟨S_, .f32⟩
  | .hbm, ⟨62, _⟩ => ⟨S_, .f32⟩
  | .hbm, ⟨63, _⟩ => ⟨S8x8192x8192, .i1⟩
  | .hbm, ⟨64, _⟩ => ⟨S8x8192x8192, .f32⟩
  | .hbm, ⟨65, _⟩ => ⟨S8x8192x8192, .f32⟩
  | .hbm, ⟨66, _⟩ => ⟨S8x64x8192, .f32⟩
  | .hbm, ⟨67, _⟩ => ⟨S8192x8x64, .f32⟩
  | .hbm, ⟨68, _⟩ => ⟨S8192x512, .f32⟩
  | .hbm, ⟨69, _⟩ => ⟨S8x8192x8192, .f32⟩
  | .hbm, ⟨70, _⟩ => ⟨S_, .f32⟩
  | .hbm, ⟨71, _⟩ => ⟨S8x8192x8192, .f32⟩
  | .hbm, ⟨72, _⟩ => ⟨S8x8192x8192, .f32⟩
  | .hbm, ⟨73, _⟩ => ⟨S8192, .i32⟩
  | .hbm, ⟨74, _⟩ => ⟨S1x8192, .i32⟩
  | .hbm, ⟨75, _⟩ => ⟨S8192x1, .i32⟩
  | .hbm, ⟨76, _⟩ => ⟨S8192x8192, .i32⟩
  | .hbm, ⟨77, _⟩ => ⟨S8192x8192, .i32⟩
  | .hbm, ⟨78, _⟩ => ⟨S8192x8192, .i1⟩
  | .hbm, ⟨79, _⟩ => ⟨S8x8192x8192, .f32⟩
  | .hbm, ⟨80, _⟩ => ⟨S8x8192x8192, .f32⟩
  | .hbm, ⟨81, _⟩ => ⟨S_, .f32⟩
  | .hbm, ⟨82, _⟩ => ⟨S8x8192x8192, .f32⟩
  | .hbm, ⟨83, _⟩ => ⟨S8x8192x8192, .f32⟩
  | .hbm, ⟨84, _⟩ => ⟨S8x8192x8192, .f32⟩
  | .hbm, ⟨85, _⟩ => ⟨S8x8192x8192, .f32⟩
  | .hbm, ⟨86, _⟩ => ⟨S8x8192x8192, .i1⟩
  | .hbm, ⟨87, _⟩ => ⟨S8x8192x8192, .f32⟩
  | .hbm, ⟨88, _⟩ => ⟨S8x8192x8192, .f32⟩
  | .hbm, ⟨89, _⟩ => ⟨S8x8192x8192, .f32⟩
  | .hbm, ⟨90, _⟩ => ⟨S8x8192x8192, .f32⟩
  | .hbm, ⟨91, _⟩ => ⟨S8x8192x8192, .f32⟩
  | .hbm, ⟨92, _⟩ => ⟨S8x8192x8192, .f32⟩
  | .hbm, ⟨93, _⟩ => ⟨S8x8192x8192, .f32⟩
  | .hbm, ⟨94, _⟩ => ⟨S8x8192x8192, .f32⟩
  | .hbm, ⟨95, _⟩ => ⟨S8x8192x8192, .f32⟩
  | .hbm, ⟨96, _⟩ => ⟨S_, .f32⟩
  | .hbm, ⟨97, _⟩ => ⟨S_, .f32⟩
  | .hbm, ⟨98, _⟩ => ⟨S8x8192x8192, .i1⟩
  | .hbm, ⟨99, _⟩ => ⟨S8x8192x8192, .f32⟩
  | .hbm, ⟨100, _⟩ => ⟨S8x8192x8192, .f32⟩
  | .hbm, ⟨101, _⟩ => ⟨S8x8192x64x128, .f32⟩
  | .hbm, ⟨102, _⟩ => ⟨S_, .f32⟩
  | .hbm, ⟨103, _⟩ => ⟨S8x8192x64, .f32⟩
  | .hbm, ⟨104, _⟩ => ⟨S8x8192x63, .f32⟩
  | .hbm, ⟨105, _⟩ => ⟨S_, .f32⟩
  | .hbm, ⟨106, _⟩ => ⟨S8x8192x65, .f32⟩
  | .hbm, ⟨107, _⟩ => ⟨S8x8192x128, .f32⟩
  | .hbm, ⟨108, _⟩ => ⟨S_, .f32⟩
  | .hbm, ⟨109, _⟩ => ⟨S_, .f32⟩
  | .hbm, ⟨110, _⟩ => ⟨S8x8192x128, .f32⟩
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v16 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v17 : Ref sig .tc := ⟨.hbm, 38, rfl⟩
abbrev main_call2_cst : Ref sig .tc := ⟨.hbm, 39, rfl⟩
abbrev main_call2_v0 : Ref sig .tc := ⟨.hbm, 40, rfl⟩
abbrev main_v18 : Ref sig .tc := ⟨.hbm, 41, rfl⟩
abbrev main_v19 : Ref sig .tc := ⟨.hbm, 42, rfl⟩
abbrev main_call3_v0 : Ref sig .tc := ⟨.hbm, 43, rfl⟩
abbrev main_call3_call0_cst : Ref sig .tc := ⟨.hbm, 44, rfl⟩
abbrev main_call3_call0_v0 : Ref sig .tc := ⟨.hbm, 45, rfl⟩
abbrev main_call3_call0_v1 : Ref sig .tc := ⟨.hbm, 46, rfl⟩
abbrev main_call3_call0_v2 : Ref sig .tc := ⟨.hbm, 47, rfl⟩
abbrev main_call3_call0_v3 : Ref sig .tc := ⟨.hbm, 48, rfl⟩
abbrev main_call3_call0_v4 : Ref sig .tc := ⟨.hbm, 49, rfl⟩
abbrev main_call3_call0_v5 : Ref sig .tc := ⟨.hbm, 50, rfl⟩
abbrev main_call3_call0_v6 : Ref sig .tc := ⟨.hbm, 51, rfl⟩
abbrev main_call3_call0_v7 : Ref sig .tc := ⟨.hbm, 52, rfl⟩
abbrev main_call3_call0_v8 : Ref sig .tc := ⟨.hbm, 53, rfl⟩
abbrev main_call3_call0_v9 : Ref sig .tc := ⟨.hbm, 54, rfl⟩
abbrev main_call3_call0_v10 : Ref sig .tc := ⟨.hbm, 55, rfl⟩
abbrev main_call3_call0_v11 : Ref sig .tc := ⟨.hbm, 56, rfl⟩
abbrev main_call3_v1 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_cst_1 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_cst_2 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_call5_v0 : Ref sig .tc := ⟨.hbm, 80, rfl⟩
abbrev main_call5_call0_cst : Ref sig .tc := ⟨.hbm, 81, rfl⟩
abbrev main_call5_call0_v0 : Ref sig .tc := ⟨.hbm, 82, rfl⟩
abbrev main_call5_call0_v1 : Ref sig .tc := ⟨.hbm, 83, rfl⟩
abbrev main_call5_call0_v2 : Ref sig .tc := ⟨.hbm, 84, rfl⟩
abbrev main_call5_call0_v3 : Ref sig .tc := ⟨.hbm, 85, rfl⟩
abbrev main_call5_call0_v4 : Ref sig .tc := ⟨.hbm, 86, rfl⟩
abbrev main_call5_call0_v5 : Ref sig .tc := ⟨.hbm, 87, rfl⟩
abbrev main_call5_call0_v6 : Ref sig .tc := ⟨.hbm, 88, rfl⟩
abbrev main_call5_call0_v7 : Ref sig .tc := ⟨.hbm, 89, rfl⟩
abbrev main_call5_call0_v8 : Ref sig .tc := ⟨.hbm, 90, rfl⟩
abbrev main_call5_call0_v9 : Ref sig .tc := ⟨.hbm, 91, rfl⟩
abbrev main_call5_call0_v10 : Ref sig .tc := ⟨.hbm, 92, rfl⟩
abbrev main_call5_call0_v11 : Ref sig .tc := ⟨.hbm, 93, rfl⟩
abbrev main_call5_v1 : Ref sig .tc := ⟨.hbm, 94, rfl⟩
abbrev main_v37 : Ref sig .tc := ⟨.hbm, 95, rfl⟩
abbrev main_cst_3 : Ref sig .tc := ⟨.hbm, 96, rfl⟩
abbrev main_call6_v0 : Ref sig .tc := ⟨.hbm, 97, rfl⟩
abbrev main_call6_v1 : Ref sig .tc := ⟨.hbm, 98, rfl⟩
abbrev main_call6_v2 : Ref sig .tc := ⟨.hbm, 99, rfl⟩
abbrev main_v38 : Ref sig .tc := ⟨.hbm, 100, rfl⟩
abbrev main_v39 : Ref sig .tc := ⟨.hbm, 101, rfl⟩
abbrev main_cst_4 : Ref sig .tc := ⟨.hbm, 102, rfl⟩
abbrev main_v40 : Ref sig .tc := ⟨.hbm, 103, rfl⟩
abbrev main_v41 : Ref sig .tc := ⟨.hbm, 104, rfl⟩
abbrev main_cst_5 : Ref sig .tc := ⟨.hbm, 105, rfl⟩
abbrev main_v42 : Ref sig .tc := ⟨.hbm, 106, rfl⟩
abbrev main_v43 : Ref sig .tc := ⟨.hbm, 107, rfl⟩
abbrev main_call7_cst : Ref sig .tc := ⟨.hbm, 108, rfl⟩
abbrev main_call7_v0 : Ref sig .tc := ⟨.hbm, 109, rfl⟩
abbrev main_v44 : Ref sig .tc := ⟨.hbm, 110, rfl⟩

abbrev nD : Nat := 1
abbrev τ : Topo := Topo.v7x

variable {F : FTy → Type} [FloatOps F]
-- ==== KernelGate.lean ====
abbrev S8192x1024 : Shape := ⟨2, ![8192, 1024]⟩
abbrev S8192x5120 : Shape := ⟨2, ![8192, 5120]⟩
abbrev S512x1024 : Shape := ⟨2, ![512, 1024]⟩

abbrev nBuf : Space → Nat
  | .hbm => 8
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x5120, .f32⟩
  | .hbm, ⟨2, _⟩ => ⟨S8192x1024, .f32⟩
  | .hbm, ⟨3, _⟩ => ⟨S8192x1024, .f32⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceGateIdeal.lean ====
abbrev S8192x1024 : Shape := ⟨2, ![8192, 1024]⟩
abbrev S8192x5120 : Shape := ⟨2, ![8192, 5120]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5120, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | .hbm, ⟨42, _⟩ => ⟨S8192x1024, .bf16⟩
  | .hbm, ⟨43, _⟩ => ⟨S8192x1024, .bf16⟩
  | .hbm, ⟨44, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== KernelRelu2.lean ====
abbrev S8192x1024 : Shape := ⟨2, ![8192, 1024]⟩
abbrev S4096x1024 : Shape := ⟨2, ![4096, 1024]⟩
abbrev S8192x4096 : Shape := ⟨2, ![8192, 4096]⟩
abbrev S512x1024 : Shape := ⟨2, ![512, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .f32⟩
  | .hbm, ⟨3, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceRelu2Ideal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .f32⟩
  | .hbm, ⟨3, _⟩ => ⟨S4096x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .i1⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x1024, .f32⟩
  | .hbm, ⟨17, _⟩ => ⟨S8192x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== KernelPost.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .bf16⟩
  | .hbm, ⟨5, _⟩ => ⟨S1x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v37 : BitVec 32 := Scalar.extui v36
  let c0_i32_18 : BitVec 32 := 0#32
  let v38 : BitVec 1 := Scalar.cmpi .ne v37 c0_i32_18
  v38

def k0_cond2 (i : grid0.Coords) : BitVec 1 :=
  let arg0 : BitVec 32 := BitVec.ofNat 32 (i 0).val
  let c0_i32 : BitVec 32 := 0#32
  let v36 : BitVec 1 := Scalar.cmpi .eq arg0 c0_i32
  let v_true : BitVec 1 := 1#1
  let v39 : BitVec 1 := Scalar.xori v36 v_true
  let v40 : BitVec 32 := Scalar.extui v39
  let c0_i32_19 : BitVec 32 := 0#32
  let v41 : BitVec 1 := Scalar.cmpi .ne v40 c0_i32_19
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferencePostIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== KernelPre.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S1x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_21 : BitVec 32 := 0#32
  let v44 : BitVec 1 := Scalar.cmpi .ne v43 c0_i32_21
  v44

def k0_cond2 (i : grid0.Coords) : BitVec 1 :=
  let arg0 : BitVec 32 := BitVec.ofNat 32 (i 0).val
  let c0_i32 : BitVec 32 := 0#32
  let v42 : BitVec 1 := Scalar.cmpi .eq arg0 c0_i32
  let v_true : BitVec 1 := 1#1
  let v45 : BitVec 1 := Scalar.xori v42 v_true
  let v46 : BitVec 32 := Scalar.extui v45
  let c0_i32_22 : BitVec 32 := 0#32
  let v47 : BitVec 1 := Scalar.cmpi .ne v46 c0_i32_22
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferencePreIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 67
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S1x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== KernelLoss.lean ====
abbrev S8192x1024 : Shape := ⟨2, ![8192, 1024]⟩
abbrev S1x128 : Shape := ⟨2, ![1, 128]⟩
abbrev S512x1024 : Shape := ⟨2, ![512, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_8 : BitVec 32 := 0#32
  let v17 : BitVec 1 := Scalar.cmpi .ne v16 c0_i32_8
  v17

def k0_cond2 (i : grid0.Coords) : BitVec 1 :=
  let arg0 : BitVec 32 := BitVec.ofNat 32 (i 0).val
  let c0_i32 : BitVec 32 := 0#32
  let v15 : BitVec 1 := Scalar.cmpi .eq arg0 c0_i32
  let v_true : BitVec 1 := 1#1
  let v18 : BitVec 1 := Scalar.xori v15 v_true
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceLossIdeal.lean ====
abbrev S8192x1024 : Shape := ⟨2, ![8192, 1024]⟩
abbrev S_ : Shape := ⟨0, ![]⟩
abbrev S8192 : Shape := ⟨1, ![8192]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== KernelConv.lean ====
abbrev S8192x512 : Shape := ⟨2, ![8192, 512]⟩
abbrev S8192x5120 : Shape := ⟨2, ![8192, 5120]⟩
abbrev S3x512 : Shape := ⟨2, ![3, 512]⟩
abbrev S1x512 : Shape := ⟨2, ![1, 512]⟩
abbrev S512x512 : Shape := ⟨2, ![512, 512]⟩
abbrev S8x512 : Shape := ⟨2, ![8, 512]⟩
abbrev S520x512 : Shape := ⟨2, ![520, 512]⟩
abbrev S512 : Shape := ⟨1, ![512]⟩

abbrev nBuf : Space → Nat
  | .hbm => 9
  | .vmem => 26
  | .smem => 0
  | _ => 0

abbrev bufTy : (tb : Table) → Fin (tcTables nBuf tb) → BufTy
  | .hbm, ⟨0, _⟩ => ⟨S8192x512, .f32⟩
  | .hbm, ⟨1, _⟩ => ⟨S8192x5120, .f32⟩
  | .hbm, ⟨2, _⟩ => ⟨S3x512, .f32⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S1x512, .f32⟩
  | .hbm, ⟨7, _⟩ => ⟨S1x512, .f32⟩
  | .hbm, ⟨8, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S8x512, .f32⟩
  | .local _ .vmem, ⟨16, _⟩ => ⟨S3x512, .f32⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S1x512, .f32⟩
  | .local _ .vmem, ⟨24, _⟩ => ⟨S1x512, .f32⟩
  | .local _ .vmem, ⟨25, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem14_0 : DmaSem sig := 25

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_31 : BitVec 32 := 0#32
  let v69 : BitVec 1 := Scalar.cmpi .eq arg0 c0_i32_31
  let v70 : BitVec 32 := Scalar.extui v69
  let c0_i32_32 : BitVec 32 := 0#32
  let v71 : BitVec 1 := Scalar.cmpi .ne v70 c0_i32_32
  v71

def k0_cond2 (i : grid0.Coords) : BitVec 1 :=
  let arg0 : BitVec 32 := BitVec.ofNat 32 (i 0).val
  let c0_i32_31 : BitVec 32 := 0#32
  let v69 : BitVec 1 := Scalar.cmpi .eq arg0 c0_i32_31
  let v_true : BitVec 1 := 1#1
  let v72 : BitVec 1 := Scalar.xori v69 v_true
  let v73 : BitVec 32 := Scalar.extui v72
  let c0_i32_33 : BitVec 32 := 0#32
  let v74 : BitVec 1 := Scalar.cmpi .ne v73 c0_i32_33
  v74

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_5 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceConvIdeal.lean ====
abbrev S8192x512 : Shape := ⟨2, ![8192, 512]⟩
abbrev S8192x5120 : Shape := ⟨2, ![8192, 5120]⟩
abbrev S3x512 : Shape := ⟨2, ![3, 512]⟩
abbrev S_ : Shape := ⟨0, ![]⟩
abbrev S2x512 : Shape := ⟨2, ![2, 512]⟩
abbrev S8194x512 : Shape := ⟨2, ![8194, 512]⟩
abbrev S1x512 : Shape := ⟨2, ![1, 512]⟩
abbrev S512 : Shape := ⟨1, ![512]⟩

abbrev nBuf : Space → Nat
  | .hbm => 91
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x5120, .f32⟩
  | .hbm, ⟨2, _⟩ => ⟨S3x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S_, .f32⟩
  | .hbm, ⟨8, _⟩ => ⟨S2x512, .f32⟩
  | .hbm, ⟨9, _⟩ => ⟨S8194x512, .f32⟩
  | .hbm, ⟨10, _⟩ => ⟨S_, .f32⟩
  | .hbm, ⟨11, _⟩ => ⟨S2x512, .f32⟩
  | .hbm, ⟨12, _⟩ => ⟨S1x512, .f32⟩
  | .hbm, ⟨13, _⟩ => ⟨S512, .f32⟩
  | .hbm, ⟨14, _⟩ => ⟨S8192x512, .f32⟩
  | .hbm, ⟨15, _⟩ => ⟨S1x512, .f32⟩
  | .hbm, ⟨16, _⟩ => ⟨S8192x512, .f32⟩
  | .hbm, ⟨17, _⟩ => ⟨S8192x512, .f32⟩
  | .hbm, ⟨18, _⟩ => ⟨S_, .f32⟩
  | .hbm, ⟨19, _⟩ => ⟨S8192x512, .f32⟩
  | .hbm, ⟨20, _⟩ => ⟨S8192x512, .f32⟩
  | .hbm, ⟨21, _⟩ => ⟨S1x512, .f32⟩
  | .hbm, ⟨22, _⟩ => ⟨S512, .f32⟩
  | .hbm, ⟨23, _⟩ => ⟨S8192x512, .f32⟩
  | .hbm, ⟨24, _⟩ => ⟨S1x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S1x512, .f32⟩
  | .hbm, ⟨29, _⟩ => ⟨S512, .f32⟩
  | .hbm, ⟨30, _⟩ => ⟨S8192x512, .f32⟩
  | .hbm, ⟨31, _⟩ => ⟨S1x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S_, .f32⟩
  | .hbm, ⟨42, _⟩ => ⟨S512, .f32⟩
  | .hbm, ⟨43, _⟩ => ⟨S1x512, .f32⟩
  | .hbm, ⟨44, _⟩ => ⟨S_, .f32⟩
  | .hbm, ⟨45, _⟩ => ⟨S512, .f32⟩
  | .hbm, ⟨46, _⟩ => ⟨S_, .f32⟩
  | .hbm, ⟨47, _⟩ => ⟨S8194x512, .f32⟩
  | .hbm, ⟨48, _⟩ => ⟨S1x512, .f32⟩
  | .hbm, ⟨49, _⟩ => ⟨S_, .f32⟩
  | .hbm, ⟨50, _⟩ => ⟨S3x512, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S_, .f32⟩
  | .hbm, ⟨55, _⟩ => ⟨S512, .f32⟩
  | .hbm, ⟨56, _⟩ => ⟨S1x512, .f32⟩
  | .hbm, ⟨57, _⟩ => ⟨S_, .f32⟩
  | .hbm, ⟨58, _⟩ => ⟨S512, .f32⟩
  | .hbm, ⟨59, _⟩ => ⟨S_, .f32⟩
  | .hbm, ⟨60, _⟩ => ⟨S8194x512, .f32⟩
  | .hbm, ⟨61, _⟩ => ⟨S8194x512, .f32⟩
  | .hbm, ⟨62, _⟩ => ⟨S1x512, .f32⟩
  | .hbm, ⟨63, _⟩ => ⟨S_, .f32⟩
  | .hbm, ⟨64, _⟩ => ⟨S3x512, .f32⟩
  | .hbm, ⟨65, _⟩ => ⟨S3x512, .f32⟩
  | .hbm, ⟨66, _⟩ => ⟨S8192x512, .f32⟩
  | .hbm, ⟨67, _⟩ => ⟨S8192x512, .f32⟩
  | .hbm, ⟨68, _⟩ => ⟨S8192x512, .f32⟩
  | .hbm, ⟨69, _⟩ => ⟨S_, .f32⟩
  | .hbm, ⟨70, _⟩ => ⟨S512, .f32⟩
  | .hbm, ⟨71, _⟩ => ⟨S1x512, .f32⟩
  | .hbm, ⟨72, _⟩ => ⟨S_, .f32⟩
  | .hbm, ⟨73, _⟩ => ⟨S512, .f32⟩
  | .hbm, ⟨74, _⟩ => ⟨S_, .f32⟩
  | .hbm, ⟨75, _⟩ => ⟨S8194x512, .f32⟩
  | .hbm, ⟨76, _⟩ => ⟨S8194x512, .f32⟩
  | .hbm, ⟨77, _⟩ => ⟨S1x512, .f32⟩
  | .hbm, ⟨78, _⟩ => ⟨S_, .f32⟩
  | .hbm, ⟨79, _⟩ => ⟨S3x512, .f32⟩
  | .hbm, ⟨80, _⟩ => ⟨S3x512, .f32⟩
  | .hbm, ⟨81, _⟩ => ⟨S2x512, .f32⟩
  | .hbm, ⟨82, _⟩ => ⟨S8192x512, .f32⟩
  | .hbm, ⟨83, _⟩ => ⟨S8192x512, .f32⟩
  | .hbm, ⟨84, _⟩ => ⟨S8192x512, .f32⟩
  | .hbm, ⟨85, _⟩ => ⟨S8192x512, .bf16⟩
  | .hbm, ⟨86, _⟩ => ⟨S8192x512, .bf16⟩
  | .hbm, ⟨87, _⟩ => ⟨S8192x512, .bf16⟩
  | .hbm, ⟨88, _⟩ => ⟨S1x512, .f32⟩
  | .hbm, ⟨89, _⟩ => ⟨S1x512, .f32⟩
  | .hbm, ⟨90, _⟩ => ⟨S1x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_9 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_13 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩

abbrev nD : Nat := 1
abbrev τ : Topo := Topo.v7x

variable {F : FTy → Type} [FloatOps F]
-- ==== KernelGateFwd.lean ====
abbrev S8192x5120 : Shape := ⟨2, ![8192, 5120]⟩
abbrev S8192x1024 : Shape := ⟨2, ![8192, 1024]⟩
abbrev S512x1024 : Shape := ⟨2, ![512, 1024]⟩

abbrev nBuf : Space → Nat
  | .hbm => 4
  | .vmem => 10
  | .smem => 0
  | _ => 0

abbrev bufTy : (tb : Table) → Fin (tcTables nBuf tb) → BufTy
  | .hbm, ⟨0, _⟩ => ⟨S8192x5120, .f32⟩
  | .hbm, ⟨1, _⟩ => ⟨S8192x1024, .f32⟩
  | .hbm, ⟨2, _⟩ => ⟨S8192x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceGateFwdIdeal.lean ====
abbrev S8192x5120 : Shape := ⟨2, ![8192, 5120]⟩
abbrev S8192x1024 : Shape := ⟨2, ![8192, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x5120, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== KernelConvFwd.lean ====
abbrev S8192x5120 : Shape := ⟨2, ![8192, 5120]⟩
abbrev S3x512 : Shape := ⟨2, ![3, 512]⟩
abbrev S8192x512 : Shape := ⟨2, ![8192, 512]⟩
abbrev S512x512 : Shape := ⟨2, ![512, 512]⟩
abbrev S8x512 : Shape := ⟨2, ![8, 512]⟩
abbrev S1x512 : Shape := ⟨2, ![1, 512]⟩
abbrev S520x512 : Shape := ⟨2, ![520, 512]⟩

abbrev nBuf : Space → Nat
  | .hbm => 3
  | .vmem => 13
  | .smem => 0
  | _ => 0

abbrev bufTy : (tb : Table) → Fin (tcTables nBuf tb) → BufTy
  | .hbm, ⟨0, _⟩ => ⟨S8192x5120, .f32⟩
  | .hbm, ⟨1, _⟩ => ⟨S3x512, .f32⟩
  | .hbm, ⟨2, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S3x512, .f32⟩
  | .local _ .vmem, ⟨11, _⟩ => ⟨S512x512, .bf16⟩
  | .local _ .vmem, ⟨12, _⟩ => ⟨S512x512, .bf16⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceConvFwdIdeal.lean ====
abbrev S8192x5120 : Shape := ⟨2, ![8192, 5120]⟩
abbrev S3x512 : Shape := ⟨2, ![3, 512]⟩
abbrev S8192x512 : Shape := ⟨2, ![8192, 512]⟩
abbrev S_ : Shape := ⟨0, ![]⟩
abbrev S2x512 : Shape := ⟨2, ![2, 512]⟩
abbrev S8194x512 : Shape := ⟨2, ![8194, 512]⟩
abbrev S1x512 : Shape := ⟨2, ![1, 512]⟩
abbrev S512 : Shape := ⟨1, ![512]⟩

abbrev nBuf : Space → Nat
  | .hbm => 34
  | .vmem => 0
  | .smem => 0
  | _ => 0

abbrev bufTy : (tb : Table) → Fin (tcTables nBuf tb) → BufTy
  | .hbm, ⟨0, _⟩ => ⟨S8192x5120, .f32⟩
  | .hbm, ⟨1, _⟩ => ⟨S3x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S_, .f32⟩
  | .hbm, ⟨7, _⟩ => ⟨S2x512, .f32⟩
  | .hbm, ⟨8, _⟩ => ⟨S8194x512, .f32⟩
  | .hbm, ⟨9, _⟩ => ⟨S1x512, .f32⟩
  | .hbm, ⟨10, _⟩ => ⟨S512, .f32⟩
  | .hbm, ⟨11, _⟩ => ⟨S8192x512, .f32⟩
  | .hbm, ⟨12, _⟩ => ⟨S1x512, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S1x512, .f32⟩
  | .hbm, ⟨19, _⟩ => ⟨S512, .f32⟩
  | .hbm, ⟨20, _⟩ => ⟨S8192x512, .f32⟩
  | .hbm, ⟨21, _⟩ => ⟨S1x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S1x512, .f32⟩
  | .hbm, ⟨26, _⟩ => ⟨S512, .f32⟩
  | .hbm, ⟨27, _⟩ => ⟨S8192x512, .f32⟩
  | .hbm, ⟨28, _⟩ => ⟨S1x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .bf16⟩
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩

abbrev nD : Nat := 1
abbrev τ : Topo := Topo.v7x

variable {F : FTy → Type} [FloatOps F]
-- ==== KernelPreFwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferencePreFwdIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== KernelPostFwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferencePostFwdIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== KernelRelu2Fwd.lean ====
abbrev S8192x1024 : Shape := ⟨2, ![8192, 1024]⟩
abbrev S1024x4096 : Shape := ⟨2, ![1024, 4096]⟩
abbrev S8192x4096 : Shape := ⟨2, ![8192, 4096]⟩
abbrev S512x1024 : Shape := ⟨2, ![512, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .f32⟩
  | .hbm, ⟨3, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceRelu2FwdIdeal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .f32⟩
  | .hbm, ⟨3, _⟩ => ⟨S1024x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelAdam.lean ====
abbrev S8x1024x640 : Shape := ⟨3, ![8, 1024, 640]⟩
abbrev S1024x640 : Shape := ⟨2, ![1024, 640]⟩
abbrev S8x256x640 : Shape := ⟨3, ![8, 256, 640]⟩
abbrev S256x640 : Shape := ⟨2, ![256, 640]⟩
abbrev S1x256x640 : Shape := ⟨3, ![1, 256, 640]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x640, .bf16⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S1024x640, .f32⟩
  | .hbm, ⟨5, _⟩ => ⟨S1024x640, .f32⟩
  | .hbm, ⟨6, _⟩ => ⟨S1024x640, .f32⟩
  | .hbm, ⟨7, _⟩ => ⟨S1024x640, .f32⟩
  | .local _ .vmem, ⟨0, _⟩ => ⟨S8x256x640, .bf16⟩
  | .local _ .vmem, ⟨1, _⟩ => ⟨S8x256x640, .bf16⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | .local _ .vmem, ⟨14, _⟩ => ⟨S256x640, .f32⟩
  | .local _ .vmem, ⟨15, _⟩ => ⟨S256x640, .f32⟩
  | _, _ => ⟨S8x1024x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamIdeal.lean ====
abbrev S8x1024x640 : Shape := ⟨3, ![8, 1024, 640]⟩
abbrev S1024x640 : Shape := ⟨2, ![1024, 640]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x640, .bf16⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S8x1024x640, .f32⟩
  | .hbm, ⟨5, _⟩ => ⟨S_, .f32⟩
  | .hbm, ⟨6, _⟩ => ⟨S1024x640, .f32⟩
  | .hbm, ⟨7, _⟩ => ⟨S_, .f32⟩
  | .hbm, ⟨8, _⟩ => ⟨S1024x640, .f32⟩
  | .hbm, ⟨9, _⟩ => ⟨S1024x640, .f32⟩
  | .hbm, ⟨10, _⟩ => ⟨S_, .f32⟩
  | .hbm, ⟨11, _⟩ => ⟨S1024x640, .f32⟩
  | .hbm, ⟨12, _⟩ => ⟨S1024x640, .f32⟩
  | .hbm, ⟨13, _⟩ => ⟨S1024x640, .f32⟩
  | .hbm, ⟨14, _⟩ => ⟨S_, .f32⟩
  | .hbm, ⟨15, _⟩ => ⟨S1024x640, .f32⟩
  | .hbm, ⟨16, _⟩ => ⟨S1024x640, .f32⟩
  | .hbm, ⟨17, _⟩ => ⟨S1024x640, .f32⟩
  | .hbm, ⟨18, _⟩ => ⟨S_, .f32⟩
  | .hbm, ⟨19, _⟩ => ⟨S1024x640, .f32⟩
  | .hbm, ⟨20, _⟩ => ⟨S1024x640, .f32⟩
  | .hbm, ⟨21, _⟩ => ⟨S1024x640, .f32⟩
  | .hbm, ⟨22, _⟩ => ⟨S_, .f32⟩
  | .hbm, ⟨23, _⟩ => ⟨S1024x640, .f32⟩
  | .hbm, ⟨24, _⟩ => ⟨S1024x640, .f32⟩
  | .hbm, ⟨25, _⟩ => ⟨S_, .f32⟩
  | .hbm, ⟨26, _⟩ => ⟨S1024x640, .f32⟩
  | .hbm, ⟨27, _⟩ => ⟨S1024x640, .f32⟩
  | .hbm, ⟨28, _⟩ => ⟨S1024x640, .f32⟩
  | .hbm, ⟨29, _⟩ => ⟨S_, .f32⟩
  | .hbm, ⟨30, _⟩ => ⟨S1024x640, .f32⟩
  | .hbm, ⟨31, _⟩ => ⟨S1024x640, .f32⟩
  | .hbm, ⟨32, _⟩ => ⟨S1024x640, .f32⟩
  | .hbm, ⟨33, _⟩ => ⟨S_, .f32⟩
  | .hbm, ⟨34, _⟩ => ⟨S1024x640, .f32⟩
  | .hbm, ⟨35, _⟩ => ⟨S1024x640, .f32⟩
  | .hbm, ⟨36, _⟩ => ⟨S1024x640, .f32⟩
  | .hbm, ⟨37, _⟩ => ⟨S_, .f32⟩
  | .hbm, ⟨38, _⟩ => ⟨S1024x640, .f32⟩
  | .hbm, ⟨39, _⟩ => ⟨S1024x640, .f32⟩
  | _, _ => ⟨S8x1024x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelProduct.lean ====
abbrev S8192x1024 : Shape := ⟨2, ![8192, 1024]⟩
abbrev S1024x5120 : Shape := ⟨2, ![1024, 5120]⟩
abbrev S8192x5120 : Shape := ⟨2, ![8192, 5120]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5120, .bf16⟩
  | .hbm, ⟨2, _⟩ => ⟨S8192x5120, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceProductIdeal.lean ====
abbrev S8192x1024 : Shape := ⟨2, ![8192, 1024]⟩
abbrev S1024x5120 : Shape := ⟨2, ![1024, 5120]⟩
abbrev S8192x5120 : Shape := ⟨2, ![8192, 5120]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5120, .bf16⟩
  | .hbm, ⟨2, _⟩ => ⟨S8192x1024, .f32⟩
  | .hbm, ⟨3, _⟩ => ⟨S1024x5120, .f32⟩
  | .hbm, ⟨4, _⟩ => ⟨S8192x5120, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Stick.lean ====
/-
  Stick-breaking attention over the reals: for one head with scores `z t s` (row `t`, key `s`), the log of one minus
  the sigmoid, its sums over the keys that follow, the weights and the gradient of the scores.
-/
module

public import Idealize.ShloMosaic.PureOps.Ideal
public import Mathlib.Analysis.SpecialFunctions.Log.Basic

@[expose] public section

noncomputable section

namespace Cert.Proof.Stick

open Finset

/-- The number of rows and keys. -/
abbrev N : ℕ := 8192

/-- The log of one minus the sigmoid of a score. -/
def lg (x : ℝ) : ℝ := -Real.log (1 + Real.exp x)

/-- The sigmoid of a score. -/
def sg (x : ℝ) : ℝ := Real.exp x / (1 + Real.exp x)

/-- `lg` of the score where the key comes before the row, else nothing. -/
def L (z : ℕ → ℕ → ℝ) (t s : ℕ) : ℝ := if s < t then lg (z t s) else 0

/-- The sum over the keys from `a` on. -/
def suf (z : ℕ → ℕ → ℝ) (t a : ℕ) : ℝ := ∑ j ∈ Ico a N, L z t j

/-- The weight row `t` gives to key `s`. -/
def wt (z : ℕ → ℕ → ℝ) (t s : ℕ) : ℝ := if s < t then Real.exp (lg (z t s) + z t s + suf z t (s + 1)) else 0

/-- The gradient of the weight's logarithm. -/
def gr (z da : ℕ → ℕ → ℝ) (t s : ℕ) : ℝ := wt z t s * da t s

/-- The sum of `gr` over the keys before `a`. -/
def pre (z da : ℕ → ℕ → ℝ) (t a : ℕ) : ℝ := ∑ j ∈ range a, gr z da t j

/-- The gradient of the score. -/
def dz (z da : ℕ → ℕ → ℝ) (t s : ℕ) : ℝ :=
  if s < t then gr z da t s * (1 - sg (z t s)) - sg (z t s) * pre z da t s else 0

theorem one_add_exp_pos (x : ℝ) : 0 < 1 + Real.exp x := by positivity

theorem max_add_log (x : ℝ) : max x 0 + Real.log (1 + Real.exp (-|x|)) = Real.log (1 + Real.exp x) := by
  rcases le_total 0 x with h | h
  · have e : 1 + Real.exp x = Real.exp x * (1 + Real.exp (-x)) := by
      rw [mul_add, ← Real.exp_add]; simp; ring
    rw [max_eq_left h, abs_of_nonneg h, e, Real.log_mul (Real.exp_pos x).ne' (one_add_exp_pos _).ne', Real.log_exp]
  · rw [max_eq_right h, abs_of_nonpos h]; simp

theorem lg_eq (x : ℝ) : lg x = -(max x 0 + Real.log (1 + Real.exp (-|x|))) := by rw [max_add_log]; rfl

/-- The log of the sigmoid. -/
theorem lg_add (x : ℝ) : lg x + x = -Real.log (1 + Real.exp (-x)) := by
  have e : 1 + Real.exp (-x) = Real.exp (-x) * (1 + Real.exp x) := by
    rw [mul_add, ← Real.exp_add]; simp; ring
  rw [e, Real.log_mul (Real.exp_pos _).ne' (one_add_exp_pos _).ne', Real.log_exp]
  unfold lg; ring

theorem one_sub_sg (x : ℝ) : 1 - sg x = 1 / (1 + Real.exp x) := by
  unfold sg; field_simp [(one_add_exp_pos x).ne']; ring

theorem sg_eq_exp (x : ℝ) : sg x = Real.exp (x - Real.log (1 + Real.exp x)) := by
  rw [Real.exp_sub, Real.exp_log (one_add_exp_pos x)]; rfl

theorem one_sub_sg_eq_exp (x : ℝ) : 1 - sg x = Real.exp (-x - Real.log (1 + Real.exp (-x))) := by
  have h := lg_add x
  rw [show -x - Real.log (1 + Real.exp (-x)) = lg x by linarith, one_sub_sg]
  unfold lg; rw [Real.exp_neg, Real.exp_log (one_add_exp_pos x), one_div]

theorem sg_of_nonneg (x : ℝ) (h : 0 ≤ x) : sg x = 1 / (1 + Real.exp (-|x|)) := by
  rw [abs_of_nonneg h, Real.exp_neg]; unfold sg
  field_simp [(one_add_exp_pos x).ne', (Real.exp_pos x).ne']
  ring

theorem sg_of_neg (x : ℝ) (h : x < 0) : sg x = Real.exp (-|x|) * (1 / (1 + Real.exp (-|x|))) := by
  rw [abs_of_neg h]; unfold sg; simp [div_eq_mul_inv]

theorem one_sub_sg_of_nonneg (x : ℝ) (h : 0 ≤ x) : 1 - sg x = Real.exp (-|x|) * (1 / (1 + Real.exp (-|x|))) := by
  rw [one_sub_sg, abs_of_nonneg h, Real.exp_neg]
  field_simp [(one_add_exp_pos x).ne', (Real.exp_pos x).ne']
  ring

theorem one_sub_sg_of_neg (x : ℝ) (h : x < 0) : 1 - sg x = 1 / (1 + Real.exp (-|x|)) := by
  rw [one_sub_sg, abs_of_neg h]; simp

/-! ## Sums over a block of keys -/

variable (z da : ℕ → ℕ → ℝ) (t : ℕ)

theorem L_of_le {t s : ℕ} (h : t ≤ s) : L z t s = 0 := if_neg (by omega)
theorem wt_of_le {t s : ℕ} (h : t ≤ s) : wt z t s = 0 := if_neg (by omega)
theorem gr_of_le {t s : ℕ} (h : t ≤ s) : gr z da t s = 0 := by unfold gr; rw [wt_of_le z h, zero_mul]

/-- Nothing is left to sum after the row. -/
theorem suf_of_le {t a : ℕ} (h : t ≤ a) : suf z t a = 0 :=
  sum_eq_zero fun j hj => L_of_le z (h.trans (mem_Ico.1 hj).1)

/-- The sum from `a` on, the keys before `b` taken apart. -/
theorem suf_split {a b : ℕ} (h : a ≤ b) (hb : b ≤ N) : suf z t a = (∑ j ∈ Ico a b, L z t j) + suf z t b :=
  (sum_Ico_consecutive _ h hb).symm

/-- A block's sum over `Fin 128` is one over an interval. -/
theorem sum_block (f : ℕ → ℝ) (b : ℕ) : ∑ j : Fin 128, f (128 * b + j) = ∑ j ∈ Ico (128 * b) (128 * (b + 1)), f j := by
  rw [sum_Ico_eq_sum_range, show 128 * (b + 1) - 128 * b = 128 by omega, sum_range]

/-- The part of a block's sum that follows place `c`. -/
theorem sum_block_after (f : ℕ → ℝ) (b : ℕ) (c : ℕ) (hc : c < 128) :
    ∑ j : Fin 128, f (128 * b + j) * (if c < j.val then 1 else 0) = ∑ j ∈ Ico (128 * b + c + 1) (128 * (b + 1)), f j := by
  have e := sum_block (fun j => if 128 * b + c < j then f j else 0) b
  have e1 : ∑ j : Fin 128, f (128 * b + j) * (if c < j.val then 1 else 0)
      = ∑ j : Fin 128, (if 128 * b + c < 128 * b + j.val then f (128 * b + j.val) else 0) :=
    sum_congr rfl fun j _ => by
      by_cases h : c < j.val
      · rw [if_pos h, if_pos (by omega), mul_one]
      · rw [if_neg h, if_neg (by omega), mul_zero]
  rw [e1, e, ← sum_filter]
  refine sum_congr (Finset.ext fun j => ?_) fun _ _ => rfl
  simp only [mem_filter, mem_Ico]; omega

/-- The part of a block's sum that comes before place `c`. -/
theorem sum_block_before (f : ℕ → ℝ) (b : ℕ) (c : ℕ) (hc : c < 128) :
    ∑ j : Fin 128, f (128 * b + j) * (if j.val < c then 1 else 0) = ∑ j ∈ Ico (128 * b) (128 * b + c), f j := by
  have e := sum_block (fun j => if j < 128 * b + c then f j else 0) b
  have e1 : ∑ j : Fin 128, f (128 * b + j) * (if j.val < c then 1 else 0)
      = ∑ j : Fin 128, (if 128 * b + j.val < 128 * b + c then f (128 * b + j.val) else 0) :=
    sum_congr rfl fun j _ => by
      by_cases h : j.val < c
      · rw [if_pos h, if_pos (by omega), mul_one]
      · rw [if_neg h, if_neg (by omega), mul_zero]
  rw [e1, e, ← sum_filter]
  refine sum_congr (Finset.ext fun j => ?_) fun _ _ => rfl
  simp only [mem_filter, mem_Ico]; omega

/-- The sum after key `128 b + c`: the rest of its block and the blocks that follow. -/
theorem suf_in_block (b c : ℕ) (hc : c < 128) (hb : b < 64) :
    suf z t (128 * b + c + 1)
      = (∑ j : Fin 128, L z t (128 * b + j) * (if c < j.val then 1 else 0)) + suf z t (128 * (b + 1)) := by
  rw [sum_block_after (fun j => L z t j) b c hc]
  exact suf_split z t (by omega) (by show _ ≤ 8192; omega)

/-- The sum from a block on: the block's and that of the blocks that follow. -/
theorem suf_block (b : ℕ) (hb : b < 64) :
    suf z t (128 * b) = (∑ j : Fin 128, L z t (128 * b + j)) + suf z t (128 * (b + 1)) := by
  rw [sum_block (fun j => L z t j) b]
  exact suf_split z t (by omega) (by show _ ≤ 8192; omega)

/-- The sum before key `128 b + c`: the blocks before its own and the part of its block. -/
theorem pre_in_block (b c : ℕ) (hc : c < 128) :
    pre z da t (128 * b + c)
      = (∑ j : Fin 128, gr z da t (128 * b + j) * (if j.val < c then 1 else 0)) + pre z da t (128 * b) := by
  rw [sum_block_before (fun j => gr z da t j) b c hc]
  have h := sum_range_add_sum_Ico (fun j => gr z da t j) (show 128 * b ≤ 128 * b + c by omega)
  unfold pre; linarith

/-- The sum before the next block. -/
theorem pre_block (b : ℕ) :
    pre z da t (128 * (b + 1)) = (∑ j : Fin 128, gr z da t (128 * b + j)) + pre z da t (128 * b) := by
  rw [sum_block (fun j => gr z da t j) b]
  have h := sum_range_add_sum_Ico (fun j => gr z da t j) (show 128 * b ≤ 128 * (b + 1) by omega)
  unfold pre; linarith

end Cert.Proof.Stick
-- ==== Proof.Reals.lean ====
/-
  Extended reals that are reals: finite sums, the scalar operations of stick-breaking attention and the words its masks
  are compared as.
-/
module

public import proofs.«01_k».proof.Proof.Stick
public import Idealize.ShloMosaic.Lib.IdealHost
public import Idealize.ShloMosaic.Lib.WordCmp
public import Idealize.ShloMosaic.Lib.Scf

@[expose] public section

noncomputable section

namespace Cert.Proof.Stick

open Finset Idealize.ShloMosaic

/-- A finite sum of reals, read among the extended reals. -/
theorem coe_sum {α : Type*} (s : Finset α) (f : α → ℝ) : ((∑ x ∈ s, f x : ℝ) : EReal) = ∑ x ∈ s, (f x : EReal) := by
  induction s using Finset.cons_induction with
  | empty => simp
  | cons a s ha ih => rw [sum_cons, sum_cons, EReal.coe_add, ih]

/-- A finite sum of extended reals that are each a real. -/
theorem sum_coe {α : Type*} (s : Finset α) (g : α → EReal) (f : α → ℝ) (h : ∀ x ∈ s, g x = (f x : EReal)) :
    ∑ x ∈ s, g x = ((∑ x ∈ s, f x : ℝ) : EReal) := by
  rw [coe_sum]; exact sum_congr rfl h

/-- A finite sum of products of reals. -/
theorem sum_mul_coe {α : Type*} (s : Finset α) (g h : α → EReal) (f f' : α → ℝ) (hg : ∀ x ∈ s, g x = (f x : EReal))
    (hh : ∀ x ∈ s, h x = (f' x : EReal)) : ∑ x ∈ s, g x * h x = ((∑ x ∈ s, f x * f' x : ℝ) : EReal) :=
  sum_coe s _ _ fun x hx => by rw [hg x hx, hh x hx, EReal.coe_mul]

/-- The larger of a real and its opposite. -/
theorem max_neg_coe (x : ℝ) : max (x : EReal) (-(x : EReal)) = ((|x| : ℝ) : EReal) := by
  rw [← EReal.coe_neg]; exact (EReal.coe_strictMono.monotone.map_max (a := x) (b := -x)).symm

theorem max_zero_coe (x : ℝ) : max (x : EReal) 0 = ((max x 0 : ℝ) : EReal) :=
  (EReal.coe_strictMono.monotone.map_max (a := x) (b := 0)).symm

/-- The log of one minus the sigmoid as the programs compute it. -/
theorem neg_softplus_coe (x : ℝ) :
    (0 : EReal) - (max (x : EReal) 0 + Ideal.log (1 + Ideal.exp (0 - max (x : EReal) (-(x : EReal))))) = (lg x : EReal) := by
  have p : ¬ (1 + Real.exp (-|x|) ≤ 0) := not_le.2 (one_add_exp_pos _)
  rw [max_neg_coe, max_zero_coe, zero_sub, zero_sub, ← EReal.coe_neg |x|, Ideal.exp_coe, ← EReal.coe_one, ← EReal.coe_add,
    Ideal.log_coe, if_neg p, ← EReal.coe_add, ← EReal.coe_neg, lg_eq]

/-- One eighth. -/
theorem ofBits_eighth : Ideal.ofBits .f32 1040187392#32 = (((1 : ℝ) / 8 : ℝ) : EReal) := by
  simp [Ideal.ofBits, Ideal.ieee, ← EReal.coe_mul]; norm_num

/-- A key's place compared with a row's. -/
theorem place_slt (b j t : ℕ) (hb : b < 64) (hj : j < 128) (ht : t < 8192) :
    IntOp.cmpi CmpIPredicate.slt (IntOp.addi (Scalar.muli (BitVec.ofNat 32 b) 128#32) (BitVec.ofNat 32 j)) (BitVec.ofNat 32 t)
      = BitVec.ofBool (decide (128 * b + j < t)) := by
  have e : IntOp.addi (Scalar.muli (BitVec.ofNat 32 b) 128#32) (BitVec.ofNat 32 j) = BitVec.ofNat 32 (128 * b + j) := by
    unfold IntOp.addi Scalar.muli IntOp.muli
    rw [BitVec.ofNat_add, BitVec.ofNat_mul, BitVec.mul_comm]
  rw [e, WordCmp.cmpi_slt_ofNat (by norm_num; omega) (by norm_num; omega)]

theorem select_ofBool {α : Type} (p : Prop) [Decidable p] (a b : α) :
    Scalar.select (BitVec.ofBool (decide p)) a b = if p then a else b := by
  unfold Scalar.select; by_cases h : p <;> simp [h]

/-- A word counted up from zero in ones. -/
theorem iv_zero_one (k : ℕ) : Scf.iv 0#32 1#32 k = BitVec.ofNat 32 k := by
  unfold Scf.iv; simp
-- ==== Proof.BwdElem.lean ====
/-
  One block of keys of the backward attention kernel, element by element: each value the loop body computes, as the
  real number it is for real arguments.
-/
module

public import proofs.«01_k».proof.Proof.Gen.KernelAttnBwdIdeal.Loops
public import proofs.«01_k».proof.Proof.Reals
public import Idealize.ShloMosaic.Lib.Pipeline.Value
public import Idealize.ShloMosaic.Lib.Pointwise

@[expose] public section

set_option maxRecDepth 8192

noncomputable section

namespace Cert.Proof.Bwd

open Cert.KernelAttnBwdIdeal Cert.KernelAttnBwdIdeal.Gen Idealize.ShloMosaic Idealize.ShloMosaic.TcCoe Idealize.SL.Sem
open Idealize.ShloMosaic.Tactic Cert.Proof.Stick

/-- What a head's pass over the blocks is given: the places of its rows (from `T` on), the lane numbers, the two
    triangles, the masked and scaled queries, the masked output gradient and the mask. -/
structure Pass (T : ℕ) (tp : IVec S512x1 32) (ln : IVec S512x128 32) (ta : FVec Ideal S128x128 .bf16)
    (tb : FVec Ideal S128x256 .bf16) (qm dm : FVec Ideal S512x128 .bf16) (lm : FVec Ideal S1x128 .f32)
    (q d : ℕ → ℕ → ℝ) (μ : ℕ → ℝ) : Prop where
  top : T + 512 ≤ 8192
  tp : ∀ y, tp y = BitVec.ofNat 32 (T + (y 0).val)
  ln : ∀ y, ln y = BitVec.ofNat 32 (y 1).val
  ta : ∀ y, ta y = if (y 1).val < (y 0).val then 1 else 0
  tb : ∀ y, tb y = if 128 ≤ (y 1).val ∨ (y 0).val < (y 1).val then 1 else 0
  qm : ∀ y, qm y = (q (T + (y 0).val) (y 1).val : EReal)
  dm : ∀ y, dm y = (d (T + (y 0).val) (y 1).val : EReal)
  lm : ∀ y, lm y = (μ (y 1).val : EReal)

/-- The scores of queries `q` and keys `k` over the lanes. -/
def dots (q k : ℕ → ℕ → ℝ) (t s : ℕ) : ℝ := ∑ x : Fin 128, q t x * k s x

/-- What the pass reads for block `b`: the keys, the values and the saved sums of the keys that follow. -/
structure Blk (T b : ℕ) (K V : Vec Ideal S128x128 .f32) (R : Vec Ideal S1x512x128 .f32) (q k v : ℕ → ℕ → ℝ) : Prop where
  lt : b < 64
  K : ∀ y, K y = (k (128 * b + (y 0).val) (y 1).val : EReal)
  V : ∀ y, V y = (v (128 * b + (y 0).val) (y 1).val : EReal)
  R : ∀ y, (y 2).val = b → R y = (suf (dots q k) (T + (y 1).val) (128 * (b + 1)) : EReal)

variable {T : ℕ} {tp : IVec S512x1 32} {ln : IVec S512x128 32} {ta : FVec Ideal S128x128 .bf16} {tb : FVec Ideal S128x256 .bf16}
  {qm dm : FVec Ideal S512x128 .bf16} {lm : FVec Ideal S1x128 .f32} {q d k v : ℕ → ℕ → ℝ} {μ : ℕ → ℝ}
  {K V : Vec Ideal S128x128 .f32} {R : Vec Ideal S1x512x128 .f32} {i : grid0.Coords} {n : Fin (k0_t1_loop i).trips}

/-- The scores. -/
theorem score (P : Pass T tp ln ta tb qm dm lm q d μ) (B : Blk T n.val K V R q k v) (y : S512x128.Idx) :
    k0_pay15 qm K y = (dots q k (T + (y 0).val) (128 * n.val + (y 1).val) : EReal) := by
  pointwise [k0_pay15]
  exact sum_mul_coe _ _ _ (fun x : Fin 128 => q (T + (y 0).val) x) (fun x : Fin 128 => k (128 * n.val + (y 1).val) x)
    (fun x _ => P.qm _) (fun x _ => B.K _)

/-- Which keys come before the row. -/
theorem before (P : Pass T tp ln ta tb qm dm lm q d μ) (B : Blk T n.val K V R q k v) (y : S512x128.Idx) :
    k0_pay16 i tp 0#32 1#32 n y = BitVec.ofBool (decide (128 * n.val + (y 1).val < T + (y 0).val)) := by
  have h0 : (y 0).val < 512 := (y 0).isLt
  have := P.top
  pointwise [k0_pay16]
  rw [iv_zero_one, P.tp]
  exact place_slt _ _ _ B.lt (y 1).isLt (by show T + (y 0).val < 8192; omega)

theorem decay (P : Pass T tp ln ta tb qm dm lm q d μ) (B : Blk T n.val K V R q k v) (y : S512x128.Idx) :
    k0_pay17 qm K y = (Real.exp (-|dots q k (T + (y 0).val) (128 * n.val + (y 1).val)|) : EReal) := by
  have h : k0_pay17 qm K y = Ideal.exp (0 - max (k0_pay15 qm K y) (-(k0_pay15 qm K y))) := by pointwise [k0_pay17]; rfl
  rw [h, score P B, max_neg_coe, zero_sub, ← EReal.coe_neg, Ideal.exp_coe]

/-- The log of one minus the sigmoid, nothing from the row on. -/
theorem logs (P : Pass T tp ln ta tb qm dm lm q d μ) (B : Blk T n.val K V R q k v) (y : S512x128.Idx) :
    k0_pay18 i tp qm 0#32 1#32 n K y = (L (dots q k) (T + (y 0).val) (128 * n.val + (y 1).val) : EReal) := by
  have h : k0_pay18 i tp qm 0#32 1#32 n K y = Scalar.select (k0_pay16 i tp 0#32 1#32 n y)
      (0 - (max (k0_pay15 qm K y) 0 + Ideal.log (1 + k0_pay17 qm K y))) 0 := by pointwise [k0_pay18]
  have e : k0_pay17 qm K y = Ideal.exp (0 - max (k0_pay15 qm K y) (-(k0_pay15 qm K y))) := by pointwise [k0_pay17]; rfl
  rw [h, e, before P B, select_ofBool, score P B, neg_softplus_coe]
  unfold L
  split <;> simp

/-- The saved sum of the keys after the block. -/
theorem near (P : Pass T tp ln ta tb qm dm lm q d μ) (B : Blk T n.val K V R q k v) (y : S512x1.Idx) :
    k0_pay19 i ln 0#32 1#32 n R y = (suf (dots q k) (T + (y 0).val) (128 * (n.val + 1)) : EReal) := by
  have hn : n.val < 128 := by have := B.lt; omega
  pointwise [k0_pay19]
  rw [Finset.sum_eq_single (⟨n.val, hn⟩ : Fin 128)]
  · rw [P.ln, iv_zero_one, WordCmp.cmpi_eq_ofNat (by norm_num; show n.val < _; omega) (by norm_num; omega), select_ofBool]
    exact (if_pos rfl).trans (B.R _ rfl)
  · intro x _ hx
    have hx' : x.val ≠ n.val := fun e => hx (Fin.ext e)
    have := x.isLt
    rw [P.ln, iv_zero_one, WordCmp.cmpi_eq_ofNat (by norm_num; show x.val < _; omega) (by norm_num; omega), select_ofBool]
    exact if_neg hx'
  · exact fun h => absurd (Finset.mem_univ _) h

/-- The weight from its parts. -/
theorem weight_of (z : ℕ → ℕ → ℝ) (t b j : ℕ) (hj : j < 128) (hb : b < 64) (M : BitVec 1) (a c o e : EReal)
    (hM : M = BitVec.ofBool (decide (128 * b + j < t))) (ha : a = ((L z t (128 * b + j) + z t (128 * b + j) : ℝ) : EReal))
    (hc : c = ((∑ x : Fin 128, L z t (128 * b + x.val) * (if j < x.val then 1 else 0) : ℝ) : EReal)) (ho : o = ((0 : ℝ) : EReal))
    (he : e = (suf z t (128 * (b + 1)) : EReal)) :
    Scalar.select M (Ideal.exp (a + (c + o) + e)) 0 = (wt z t (128 * b + j) : EReal) := by
  rw [hM, ha, hc, ho, he, select_ofBool, ← EReal.coe_add, ← EReal.coe_add, ← EReal.coe_add, Ideal.exp_coe]
  unfold wt
  split
  · rename_i hlt
    rw [suf_in_block _ _ _ _ hj hb, show L z t (128 * b + j) = lg (z t (128 * b + j)) from if_pos hlt]
    congr 2; ring
  · simp

/-- The weights of the block, as the loop body names them. -/
abbrev wtB (i : grid0.Coords) (n : Fin (k0_t1_loop i).trips) (tp : IVec S512x1 32) (ln : IVec S512x128 32)
    (ta : FVec Ideal S128x128 .bf16) (qm : FVec Ideal S512x128 .bf16) (K : Vec Ideal S128x128 .f32)
    (R : Vec Ideal S1x512x128 .f32) : FVec Ideal S512x128 .f32 :=
  k0_pay24 ta (k0_pay16 i tp 0#32 1#32 n) (k0_pay19 i ln 0#32 1#32 n R) (k0_pay20 i tp qm 0#32 1#32 n K)
    (k0_pay22 i tp qm 0#32 1#32 n K) (k0_pay23 i ta tp qm 0#32 1#32 n K) (constant S512x128 .f32 0x00000000#32)

theorem weights (P : Pass T tp ln ta tb qm dm lm q d μ) (B : Blk T n.val K V R q k v) (y : S512x128.Idx) :
    wtB i n tp ln ta qm K R y = (wt (dots q k) (T + (y 0).val) (128 * n.val + (y 1).val) : EReal) := by
  have h1 : ∀ y : S512x128.Idx, k0_pay20 i tp qm 0#32 1#32 n K y
      = ((L (dots q k) (T + (y 0).val) (128 * n.val + (y 1).val) + dots q k (T + (y 0).val) (128 * n.val + (y 1).val) : ℝ) : EReal) := by
    intro y
    pointwise [k0_pay20]
    rw [logs P B, score P B, EReal.coe_add]
  have h2 : ∀ y : S512x128.Idx, k0_pay22 i tp qm 0#32 1#32 n K y = ((0 : ℝ) : EReal) := by
    intro y
    pointwise [k0_pay22, k0_pay21]
    rw [logs P B, ← EReal.coe_sub, sub_self]
  have h3 : ∀ y : S128x128.Idx, ta y = ((if (y 1).val < (y 0).val then 1 else 0 : ℝ) : EReal) := by
    intro y; rw [P.ta]; split <;> simp
  have h4 : ∀ y : S512x128.Idx, k0_pay23 i ta tp qm 0#32 1#32 n K y
      = ((∑ x : Fin 128, L (dots q k) (T + (y 0).val) (128 * n.val + x.val) * (if (y 1).val < x.val then 1 else 0) : ℝ) : EReal) := by
    intro y
    pointwise [k0_pay23, k0_pay21]
    exact sum_mul_coe _ _ _ _ _ (fun x _ => logs P B _) (fun x _ => h3 _)
  have h5 : ∑ x : Fin 128, k0_pay22 i tp qm 0#32 1#32 n K (ValueIdx.ix2 (y 0) x) * ta (ValueIdx.ix2 x (y 1)) = ((0 : ℝ) : EReal) := by
    rw [sum_mul_coe _ _ _ _ _ (fun x _ => h2 _) (fun x _ => h3 _)]; simp
  unfold wtB
  pointwise [k0_pay24]
  exact weight_of (dots q k) (T + (y 0).val) n.val (y 1).val (y 1).isLt B.lt _ _ _ _ _ (before P B y) (h1 y) (h4 y) h5 (near P B _)

/-- The weights' gradients times the weights, as the loop body names them. -/
abbrev grB (i : grid0.Coords) (n : Fin (k0_t1_loop i).trips) (tp : IVec S512x1 32) (ln : IVec S512x128 32)
    (ta : FVec Ideal S128x128 .bf16) (qm dm : FVec Ideal S512x128 .bf16) (K V : Vec Ideal S128x128 .f32)
    (R : Vec Ideal S1x512x128 .f32) : FVec Ideal S512x128 .f32 :=
  k0_pay25 ta dm (k0_pay14 V) (k0_pay16 i tp 0#32 1#32 n) (k0_pay19 i ln 0#32 1#32 n R) (k0_pay20 i tp qm 0#32 1#32 n K)
    (k0_pay22 i tp qm 0#32 1#32 n K) (k0_pay23 i ta tp qm 0#32 1#32 n K) (constant S512x128 .f32 0x00000000#32)

theorem grads (P : Pass T tp ln ta tb qm dm lm q d μ) (B : Blk T n.val K V R q k v) (y : S512x128.Idx) :
    grB i n tp ln ta qm dm K V R y = (gr (dots q k) (dots d v) (T + (y 0).val) (128 * n.val + (y 1).val) : EReal) := by
  have h : ∑ x : Fin 128, dm (ValueIdx.ix2 (y 0) x) * V (ValueIdx.ix2 (y 1) x)
      = (dots d v (T + (y 0).val) (128 * n.val + (y 1).val) : EReal) :=
    sum_mul_coe _ _ _ (fun x : Fin 128 => d (T + (y 0).val) x) (fun x : Fin 128 => v (128 * n.val + (y 1).val) x)
      (fun x _ => P.dm _) (fun x _ => B.V _)
  unfold grB
  pointwise [k0_pay25, k0_pay14]
  exact (congrArg₂ (· * ·) (weights P B y) h).trans (EReal.coe_mul _ _).symm

/-- Their running sums: over the places before the column, and over the whole block from column 128 on. -/
abbrev cgB (i : grid0.Coords) (n : Fin (k0_t1_loop i).trips) (tp : IVec S512x1 32) (ln : IVec S512x128 32)
    (ta : FVec Ideal S128x128 .bf16) (tb : FVec Ideal S128x256 .bf16) (qm dm : FVec Ideal S512x128 .bf16)
    (K V : Vec Ideal S128x128 .f32) (R : Vec Ideal S1x512x128 .f32) : FVec Ideal S512x256 .f32 :=
  k0_pay26 ta tb dm (k0_pay14 V) (k0_pay16 i tp 0#32 1#32 n) (k0_pay19 i ln 0#32 1#32 n R) (k0_pay20 i tp qm 0#32 1#32 n K)
    (k0_pay22 i tp qm 0#32 1#32 n K) (k0_pay23 i ta tp qm 0#32 1#32 n K) (constant S512x128 .f32 0x00000000#32)

theorem runs (P : Pass T tp ln ta tb qm dm lm q d μ) (B : Blk T n.val K V R q k v) (y : S512x256.Idx) :
    cgB i n tp ln ta tb qm dm K V R y
      = ((∑ x : Fin 128, gr (dots q k) (dots d v) (T + (y 0).val) (128 * n.val + x.val)
          * (if 128 ≤ (y 1).val ∨ x.val < (y 1).val then 1 else 0) : ℝ) : EReal) := by
  have h1 : ∀ y : S128x256.Idx, tb y = ((if 128 ≤ (y 1).val ∨ (y 0).val < (y 1).val then 1 else 0 : ℝ) : EReal) := by
    intro y; rw [P.tb]; split <;> simp
  have h2 : ∀ y : S512x128.Idx, grB i n tp ln ta qm dm K V R y - grB i n tp ln ta qm dm K V R y = ((0 : ℝ) : EReal) := by
    intro y; rw [grads P B, ← EReal.coe_sub, sub_self]
  have h3 : ∑ x : Fin 128, (grB i n tp ln ta qm dm K V R (ValueIdx.ix2 (y 0) x) - grB i n tp ln ta qm dm K V R (ValueIdx.ix2 (y 0) x))
      * tb (ValueIdx.ix2 x (y 1)) = ((0 : ℝ) : EReal) := by
    rw [sum_mul_coe _ _ _ _ _ (fun x _ => h2 _) (fun x _ => h1 _)]; simp
  have h4 := sum_mul_coe Finset.univ (fun x : Fin 128 => grB i n tp ln ta qm dm K V R (ValueIdx.ix2 (y 0) x))
    (fun x : Fin 128 => tb (ValueIdx.ix2 x (y 1))) _ _ (fun x _ => grads P B _) (fun x _ => h1 _)
  unfold cgB
  pointwise [k0_pay26]
  exact (congrArg₂ (· + ·) h4 h3).trans (by rw [← EReal.coe_add, add_zero])

/-- The score's gradient from its parts. -/
theorem dz_of (z da : ℕ → ℕ → ℝ) (t b j : ℕ) (hj : j < 128) (M : BitVec 1) (g x e c p : EReal)
    (hM : M = BitVec.ofBool (decide (128 * b + j < t))) (hg : g = (gr z da t (128 * b + j) : EReal))
    (hx : x = (z t (128 * b + j) : EReal)) (he : e = (Real.exp (-|z t (128 * b + j)|) : EReal))
    (hc : c = ((∑ x : Fin 128, gr z da t (128 * b + x.val) * (if 128 ≤ j ∨ x.val < j then 1 else 0) : ℝ) : EReal))
    (hp : p = (pre z da t (128 * b) : EReal)) :
    Scalar.select M ((g * if 0 ≤ x then e * Ideal.div 1 (1 + e) else Ideal.div 1 (1 + e))
      - (if 0 ≤ x then Ideal.div 1 (1 + e) else e * Ideal.div 1 (1 + e)) * (c + p)) 0 = (dz z da t (128 * b + j) : EReal) := by
  have hpos : (1 + Real.exp (-|z t (128 * b + j)|)) ≠ 0 := (one_add_exp_pos _).ne'
  have hd : Ideal.div 1 (1 + e) = ((1 / (1 + Real.exp (-|z t (128 * b + j)|)) : ℝ) : EReal) := by
    rw [he, ← EReal.coe_one, ← EReal.coe_add, Ideal.div_coe hpos, EReal.coe_one, one_mul]
  have hs : pre z da t (128 * b + j) = (∑ x : Fin 128, gr z da t (128 * b + x.val) * (if 128 ≤ j ∨ x.val < j then 1 else 0))
      + pre z da t (128 * b) := by
    rw [pre_in_block _ _ _ b j hj]
    simp only [show ¬ 128 ≤ j by omega, false_or]
  rw [hM, hg, hx, hd, he, hc, hp, select_ofBool, ← EReal.coe_add, ← hs, ← EReal.coe_mul, ← EReal.coe_zero]
  unfold dz
  simp only [EReal.coe_le_coe_iff]
  by_cases h0 : 0 ≤ z t (128 * b + j)
  · rw [if_pos h0, if_pos h0, ← EReal.coe_mul, ← EReal.coe_mul, ← EReal.coe_sub, ← one_sub_sg_of_nonneg _ h0, ← sg_of_nonneg _ h0]
    split <;> rfl
  · rw [if_neg h0, if_neg h0, ← EReal.coe_mul, ← EReal.coe_mul, ← EReal.coe_sub, ← sg_of_neg _ (not_le.1 h0),
      ← one_sub_sg_of_neg _ (not_le.1 h0)]
    split <;> rfl

/-- The scores' gradients of the block, as the loop body names them. -/
abbrev dzB (i : grid0.Coords) (n : Fin (k0_t1_loop i).trips) (tp : IVec S512x1 32) (ln : IVec S512x128 32)
    (ta : FVec Ideal S128x128 .bf16) (tb : FVec Ideal S128x256 .bf16) (qm dm : FVec Ideal S512x128 .bf16)
    (K V : Vec Ideal S128x128 .f32) (R : Vec Ideal S1x512x128 .f32) (pg : Vec Ideal S512x128 .f32) : FVec Ideal S512x128 .bf16 :=
  k0_pay27 ta tb dm (k0_pay14 V) (k0_pay15 qm K) (k0_pay16 i tp 0#32 1#32 n) (k0_pay17 qm K) (k0_pay19 i ln 0#32 1#32 n R)
    (k0_pay20 i tp qm 0#32 1#32 n K) (k0_pay22 i tp qm 0#32 1#32 n K) (k0_pay23 i ta tp qm 0#32 1#32 n K)
    (constant S512x128 .f32 0x00000000#32) pg

variable {pg dq : Vec Ideal S512x128 .f32}

theorem scoreGrads (P : Pass T tp ln ta tb qm dm lm q d μ) (B : Blk T n.val K V R q k v)
    (hpg : ∀ y : S512x128.Idx, pg y = (pre (dots q k) (dots d v) (T + (y 0).val) (128 * n.val) : EReal)) (y : S512x128.Idx) :
    dzB i n tp ln ta tb qm dm K V R pg y = (dz (dots q k) (dots d v) (T + (y 0).val) (128 * n.val + (y 1).val) : EReal) := by
  unfold dzB
  pointwise [k0_pay27]
  exact dz_of (dots q k) (dots d v) (T + (y 0).val) n.val (y 1).val (y 1).isLt _ _ _ _ _ _ (before P B y) (grads P B y) (score P B y)
    (decay P B y) (runs P B _) (hpg y)

/-- The queries' gradient after the block. -/
theorem newDq (P : Pass T tp ln ta tb qm dm lm q d μ) (B : Blk T n.val K V R q k v)
    (hpg : ∀ y : S512x128.Idx, pg y = (pre (dots q k) (dots d v) (T + (y 0).val) (128 * n.val) : EReal)) (y : S512x128.Idx) :
    k0_pay28 ta tb lm dm (k0_pay13 K) (k0_pay14 V) (k0_pay15 qm K) (k0_pay16 i tp 0#32 1#32 n) (k0_pay17 qm K)
      (k0_pay19 i ln 0#32 1#32 n R) (k0_pay20 i tp qm 0#32 1#32 n K) (k0_pay22 i tp qm 0#32 1#32 n K)
      (k0_pay23 i ta tp qm 0#32 1#32 n K) (constant S512x128 .f32 0x00000000#32) pg dq y
      = dq y + (((∑ x : Fin 128, dz (dots q k) (dots d v) (T + (y 0).val) (128 * n.val + x.val) * k (128 * n.val + x.val) (y 1).val)
          * μ (y 1).val : ℝ) : EReal) := by
  have h := sum_mul_coe Finset.univ (fun x : Fin 128 => dzB i n tp ln ta tb qm dm K V R pg (ValueIdx.ix2 (y 0) x))
    (fun x : Fin 128 => K (ValueIdx.ix2 x (y 1))) _ _ (fun x _ => scoreGrads P B hpg _) (fun x _ => B.K _)
  pointwise [k0_pay28, k0_pay13]
  exact congrArg (dq y + ·) ((congrArg₂ (· * ·) h (P.lm _)).trans (EReal.coe_mul _ _).symm)

/-- The sum of the gradients over the blocks done, after the block. -/
theorem newPg (P : Pass T tp ln ta tb qm dm lm q d μ) (B : Blk T n.val K V R q k v)
    (hpg : ∀ y : S512x128.Idx, pg y = (pre (dots q k) (dots d v) (T + (y 0).val) (128 * n.val) : EReal)) (y : S512x128.Idx) :
    k0_pay90 (cgB i n tp ln ta tb qm dm K V R) pg y = (pre (dots q k) (dots d v) (T + (y 0).val) (128 * (n.val + 1)) : EReal) := by
  pointwise [k0_pay90]
  refine (congrArg₂ (· + ·) (hpg y) (runs P B _)).trans ?_
  rw [← EReal.coe_add, pre_block, add_comm]
  congr 2
  refine Finset.sum_congr rfl fun x _ => ?_
  rw [if_pos (Or.inl (by show 128 ≤ 128 + (y 1).val; omega)), mul_one]
  rfl

/-- A block's rows of the keys' (or values') gradient: what was there and the sum over the rows. -/
def addRows (a b : FVec Ideal S512x128 .bf16) (D : Vec Ideal S128x128 .f32) : FVec Ideal S128x128 .f32 :=
  fun y => D y + ∑ x : Fin 512, a (ValueIdx.ix2 x (y 0)) * b (ValueIdx.ix2 x (y 1))

theorem addRows_coe (a b : FVec Ideal S512x128 .bf16) (D : Vec Ideal S128x128 .f32) (f g : ℕ → ℕ → ℝ)
    (ha : ∀ y : S512x128.Idx, a y = (f (y 0).val (y 1).val : EReal)) (hb : ∀ y : S512x128.Idx, b y = (g (y 0).val (y 1).val : EReal))
    (y : S128x128.Idx) : addRows a b D y = D y + ((∑ x : Fin 512, f x.val (y 0).val * g x.val (y 1).val : ℝ) : EReal) :=
  congrArg (D y + ·) (sum_mul_coe _ _ _ _ _ (fun _ _ => ha _) (fun _ _ => hb _))

theorem pay88_eq (l : IVec S1x128 1) (Q : Vec Ideal S512x128 .f32) (a : FVec Ideal S512x128 .bf16) (D : Vec Ideal S128x128 .f32) :
    k0_pay88 l Q a D = addRows a (k0_pay85 l Q) D := by
  funext y; unfold addRows; pointwise [k0_pay88]; rfl

theorem pay89_eq (l : IVec S1x128 1) (Q : Vec Ideal S512x128 .f32) (a : FVec Ideal S512x128 .f32) (D : Vec Ideal S128x128 .f32) :
    k0_pay89 l Q a D = addRows a (k0_pay86 l Q) D := by
  funext y; unfold addRows; pointwise [k0_pay89]; rfl

theorem pay4_eq (Q : Vec Ideal S512x128 .f32) (l : FVec Ideal S512x128 .f32) (a : FVec Ideal S512x128 .bf16) (D : Vec Ideal S128x128 .f32) :
    k0_pay4 Q l a D = addRows a (k0_pay1 Q l) D := by
  funext y; unfold addRows; pointwise [k0_pay4]; rfl

theorem pay5_eq (l : FVec Ideal S1x128 .f32) (Q : Vec Ideal S512x128 .f32) (a : FVec Ideal S512x128 .f32) (D : Vec Ideal S128x128 .f32) :
    k0_pay5 l Q a D = addRows a (k0_pay2 l Q) D := by
  funext y; unfold addRows; pointwise [k0_pay5]; rfl

end Cert.Proof.Bwd
-- ==== Proof.BwdTrip.lean ====
/-
  The two loops of the backward attention kernel: each trip's stores, and what the four buffers hold after any number
  of trips.
-/
module

public import proofs.«01_k».proof.Proof.BwdElem
public import Idealize.ShloMosaic.Lib.Tactic
public import Idealize.ShloMosaic.Lib.VecWindow
public import Idealize.ShloMosaic.Lib.WritesUnit
public import Idealize.ShloMosaic.Lib.Pipeline.ValueKit.Tiles

@[expose] public section

set_option maxRecDepth 8192

noncomputable section

namespace Cert.Proof.Bwd

open Cert.KernelAttnBwdIdeal Cert.KernelAttnBwdIdeal.Gen Idealize.ShloMosaic Idealize.ShloMosaic.TcCoe Idealize.SL.Sem
open Idealize.ShloMosaic.Tactic Cert.Proof.Stick

/-- The queries' gradient after a block, as the loop body names it. -/
abbrev dqB (i : grid0.Coords) (n : Fin (k0_t1_loop i).trips) (tp : IVec S512x1 32) (ln : IVec S512x128 32)
    (ta : FVec Ideal S128x128 .bf16) (tb : FVec Ideal S128x256 .bf16) (qm dm : FVec Ideal S512x128 .bf16)
    (lm : FVec Ideal S1x128 .f32) (K V : Vec Ideal S128x128 .f32) (R : Vec Ideal S1x512x128 .f32) (pg dq : Vec Ideal S512x128 .f32) :
    FVec Ideal S512x128 .f32 :=
  k0_pay28 ta tb lm dm (k0_pay13 K) (k0_pay14 V) (k0_pay15 qm K) (k0_pay16 i tp 0#32 1#32 n) (k0_pay17 qm K)
    (k0_pay19 i ln 0#32 1#32 n R) (k0_pay20 i tp qm 0#32 1#32 n K) (k0_pay22 i tp qm 0#32 1#32 n K)
    (k0_pay23 i ta tp qm 0#32 1#32 n K) (constant S512x128 .f32 0x00000000#32) pg dq

/-- A whole-block store. -/
abbrev whole (w : FVec Ideal S512x128 .f32) : View.Piece (Elt Ideal) S512x128 .f32 :=
  ⟨Rect.unit (s := S512x128) ![0, 0] S512x128.size inb_S512x128_S512x128_0_0, w⟩

/-- A store of one block's rows. -/
abbrev rows (i : grid0.Coords) (n : Fin (k0_t1_loop i).trips) (w : FVec Ideal S128x128 .f32) : View.Piece (Elt Ideal) S8192x128 .f32 :=
  ⟨Rect.unit (s := S8192x128) (k0_off1 i n) S128x128.size (k0_off1_inb i n), w⟩

/-- A load of a whole block. -/
abbrev ldW (a : Memref sig .tc .vmem S512x128 .f32) (f : BufTy.Contents (Elt Ideal) a.view.ty) : Vec Ideal S512x128 .f32 :=
  a.view.readAt (Elt Ideal) (Rect.unit (s := S512x128) ![0, 0] S512x128.size inb_S512x128_S512x128_0_0).toLoadRect f

/-- A load of one block's rows. -/
abbrev ldR (i : grid0.Coords) (n : Fin (k0_t1_loop i).trips) (a : Memref sig .tc .vmem S8192x128 .f32)
    (f : BufTy.Contents (Elt Ideal) a.view.ty) : Vec Ideal S128x128 .f32 :=
  a.view.readAt (Elt Ideal) (Rect.unit (s := S8192x128) (k0_off1 i n) S128x128.size (k0_off1_inb i n)).toLoadRect f

/-- The stores of one trip, for queries, output gradient and mask `qm dm lm` and saved sums `R`. -/
abbrev stores (i : grid0.Coords) (n : Fin (k0_t1_loop i).trips) (tp : IVec S512x1 32) (ln : IVec S512x128 32)
    (ta : FVec Ideal S128x128 .bf16) (tb : FVec Ideal S128x256 .bf16) (qm dm : FVec Ideal S512x128 .bf16)
    (lm : FVec Ideal S1x128 .f32) (K V : Vec Ideal S128x128 .f32) (R : Vec Ideal S1x512x128 .f32) (pg dq : Vec Ideal S512x128 .f32)
    (dk dv : Vec Ideal S128x128 .f32) :
    List (View.Piece (Elt Ideal) S512x128 .f32) × List (View.Piece (Elt Ideal) S512x128 .f32)
      × List (View.Piece (Elt Ideal) S8192x128 .f32) × List (View.Piece (Elt Ideal) S8192x128 .f32) :=
  ([whole (k0_pay90 (cgB i n tp ln ta tb qm dm K V R) pg)],
   [whole (dqB i n tp ln ta tb qm dm lm K V R pg dq)],
   [rows i n (addRows (dzB i n tp ln ta tb qm dm K V R pg) qm dk)],
   [rows i n (addRows (wtB i n tp ln ta qm K R) dm dv)])

section Trips

variable (𝒱 : Variants) (c : Dev nD) (bd : Option 𝒱.V) (i : grid0.Coords)
  (arg2 : Memref sig .tc .vmem S512x128 .f32) (harg2 : arg2.IsWhole)
  (arg3 : Memref sig .tc .vmem S8192x128 .f32) (harg3 : arg3.IsWhole)
  (arg4 : Memref sig .tc .vmem S8192x128 .f32) (harg4 : arg4.IsWhole)
  (arg5 : Memref sig .tc .vmem S512x128 .f32) (harg5 : arg5.IsWhole)
  (arg6 : Memref sig .tc .vmem S2x512x128 .f32) (harg6 : arg6.IsWhole)
  (arg7 : Memref sig .tc .vmem S512x128 .bf16) (harg7 : arg7.IsWhole)
  (arg8 : Memref sig .tc .vmem S8192x128 .bf16) (harg8 : arg8.IsWhole)
  (arg9 : Memref sig .tc .vmem S8192x128 .bf16) (harg9 : arg9.IsWhole)
  (arg10 : Memref sig .tc .vmem S512x128 .f32) (harg10 : arg10.IsWhole)
  (arg11 : Memref sig .tc .vmem S512x128 .f32) (harg11 : arg11.IsWhole)
  (arg12 : Memref sig .tc .vmem S8192x128 .f32) (harg12 : arg12.IsWhole)
  (arg13 : Memref sig .tc .vmem S8192x128 .f32) (harg13 : arg13.IsWhole)
  (v3 : IVec S512x128 32) (v13 : FVec Ideal S128x128 .bf16) (v23 : FVec Ideal S128x256 .bf16) (v27 : IVec S512x1 32)
  (X3 : BufTy.Contents (Elt Ideal) arg3.view.ty) (X4 : BufTy.Contents (Elt Ideal) arg4.view.ty) (X6 : BufTy.Contents (Elt Ideal) arg6.view.ty)
  (k : Fin (k0_t1_loop i).trips) (f10 : BufTy.Contents (Elt Ideal) arg10.view.ty) (f11 : BufTy.Contents (Elt Ideal) arg11.view.ty)
  (f12 : BufTy.Contents (Elt Ideal) arg12.view.ty) (f13 : BufTy.Contents (Elt Ideal) arg13.view.ty)

set_option maxHeartbeats 4000000 in
/-- The first head's trip. -/
theorem trip1 (v29 : BitVec 32) (v39 : IVec S1x128 1) (v43 : Vec Ideal S512x128 .f32) (v49 : Vec Ideal S512x128 .f32) :
    tripL_k0_t1 (F := Ideal) 𝒱 c bd i arg2 harg2 arg3 harg3 arg4 harg4 arg5 harg5 arg6 harg6 arg7 harg7 arg8 harg8 arg9 harg9 arg10 harg10 arg11 harg11 arg12 harg12 arg13 harg13 v3 v13 v23 v27 v29 v39 v43 v49 X3 X4 X6 k f10 f11 f12 f13
      = stores i k v27 v3 v13 v23 (k0_pay85 v39 v43) (k0_pay86 v39 v49) (k0_pay84 v39) (ldR i k arg3 X3) (ldR i k arg4 X4)
          (arg6.view.readAt (Elt Ideal) (Rect.unit (s := S2x512x128) ![0, 0, 0] S1x512x128.size inb_S2x512x128_S1x512x128_0_0_0).toLoadRect X6)
          (ldW arg10 f10) (ldW arg11 f11) (ldR i k arg12 f12) (ldR i k arg13 f13) := by
  unfold tripL_k0_t1 trip_k0_t1
  dsimp only
  sl_unfold_words
  rw [pay88_eq, pay89_eq]
  rfl

set_option maxHeartbeats 4000000 in
/-- The second head's trip. -/
theorem trip3 (v70 : FVec Ideal S1x128 .f32) (v71 : Vec Ideal S512x128 .f32) (v74 : FVec Ideal S512x128 .f32) (v77 : Vec Ideal S512x128 .f32) :
    tripL_k0_t3 (F := Ideal) 𝒱 c bd i arg2 harg2 arg3 harg3 arg4 harg4 arg5 harg5 arg6 harg6 arg7 harg7 arg8 harg8 arg9 harg9 arg10 harg10 arg11 harg11 arg12 harg12 arg13 harg13 v3 v13 v23 v27 v70 v71 v74 v77 X3 X4 X6 k f10 f11 f12 f13
      = stores i k v27 v3 v13 v23 (k0_pay1 v71 v74) (k0_pay2 v70 v77) v70 (ldR i k arg3 X3) (ldR i k arg4 X4)
          (arg6.view.readAt (Elt Ideal) (Rect.unit (s := S2x512x128) ![1, 0, 0] S1x512x128.size inb_S2x512x128_S1x512x128_1_0_0).toLoadRect X6)
          (ldW arg10 f10) (ldW arg11 f11) (ldR i k arg12 f12) (ldR i k arg13 f13) := by
  unfold tripL_k0_t3 trip_k0_t3
  dsimp only
  sl_unfold_words
  rw [pay4_eq, pay5_eq]
  rfl

end Trips

/-! ## What the buffers hold -/

/-- The real part of a head's pass: queries, output gradient, keys and values by row and lane, and the head's mask. -/
structure Data where
  q : ℕ → ℕ → ℝ
  d : ℕ → ℕ → ℝ
  k : ℕ → ℕ → ℝ
  v : ℕ → ℕ → ℝ
  μ : ℕ → ℝ

/-- The gradient of the score of row `t` and key `s`. -/
def Data.dz (D : Data) (t s : ℕ) : ℝ := Stick.dz (dots D.q D.k) (dots D.d D.v) t s

/-- The weight of row `t` and key `s`. -/
def Data.wt (D : Data) (t s : ℕ) : ℝ := Stick.wt (dots D.q D.k) t s

/-- What the four buffers hold after `n` blocks, for rows from `T` on, over what the last three started from. -/
structure Held (D : Data) (T : ℕ) (dq₀ dk₀ dv₀ : ℕ → ℕ → ℝ) (n : ℕ) (pg dq : Vec Ideal S512x128 .f32)
    (dk dv : Vec Ideal S8192x128 .f32) : Prop where
  pg : ∀ y, pg y = (pre (dots D.q D.k) (dots D.d D.v) (T + (y 0).val) (128 * n) : EReal)
  dq : ∀ y, dq y = ((dq₀ (y 0).val (y 1).val
    + (∑ s ∈ Finset.range (128 * n), D.dz (T + (y 0).val) s * D.k s (y 1).val) * D.μ (y 1).val : ℝ) : EReal)
  dk : ∀ y, dk y = ((dk₀ (y 0).val (y 1).val
    + (if (y 0).val < 128 * n then ∑ r : Fin 512, D.dz (T + r.val) (y 0).val * D.q (T + r.val) (y 1).val else 0) : ℝ) : EReal)
  dv : ∀ y, dv y = ((dv₀ (y 0).val (y 1).val
    + (if (y 0).val < 128 * n then ∑ r : Fin 512, D.wt (T + r.val) (y 0).val * D.d (T + r.val) (y 1).val else 0) : ℝ) : EReal)

/-- A load of one block's rows, at an index. -/
theorem ldR_apply (i : grid0.Coords) (n : Fin (k0_t1_loop i).trips) (a : Memref sig .tc .vmem S8192x128 .f32)
    (f : BufTy.Contents (Elt Ideal) a.view.ty) (x : S128x128.Idx) (y : S8192x128.Idx) (h0 : (y 0).val = 128 * n.val + (x 0).val)
    (h1 : (y 1).val = (x 1).val) : ldR i n a f x = a.view.read (Elt Ideal) f y := by
  have hoff := k0_off1_eq i n
  exact View.ld_unit_apply_of (a.view.read (Elt Ideal) f) (k0_off1 i n) S128x128.size (k0_off1_inb i n) x y
    (Fin.forall_fin_two.mpr ⟨h0.trans (congrArg (· + (x 0).val) (congrFun hoff 0).symm),
      (h1.trans (Nat.zero_add _).symm).trans (congrArg (· + (x 1).val) (congrFun hoff 1).symm)⟩)

/-- One block's rows more in a gradient that is summed over the rows done. -/
theorem rows_step {a : Memref sig .tc .vmem S8192x128 .f32} (f : BufTy.Contents (Elt Ideal) a.view.ty) (i : grid0.Coords)
    (n : Fin (k0_t1_loop i).trips) (x w : FVec Ideal S512x128 .bf16) (T : ℕ) (g h g₀ : ℕ → ℕ → ℝ)
    (hx : ∀ y : S512x128.Idx, x y = (g (T + (y 0).val) (128 * n.val + (y 1).val) : EReal))
    (hw : ∀ y : S512x128.Idx, w y = (h (T + (y 0).val) (y 1).val : EReal))
    (H : ∀ y : S8192x128.Idx, a.view.read (Elt Ideal) f y = ((g₀ (y 0).val (y 1).val
      + (if (y 0).val < 128 * n.val then ∑ r : Fin 512, g (T + r.val) (y 0).val * h (T + r.val) (y 1).val else 0) : ℝ) : EReal))
    (y : S8192x128.Idx) :
    a.view.read (Elt Ideal) (a.view.writes (Elt Ideal) f [rows i n (addRows x w (ldR i n a f))]) y
      = ((g₀ (y 0).val (y 1).val + (if (y 0).val < 128 * (n.val + 1) then
          ∑ r : Fin 512, g (T + r.val) (y 0).val * h (T + r.val) (y 1).val else 0) : ℝ) : EReal) := by
  have hoff := k0_off1_eq i n
  by_cases hy : 128 * n.val ≤ (y 0).val ∧ (y 0).val < 128 * n.val + 128
  · obtain ⟨lo, hi⟩ := hy
    let x' : S128x128.Idx := ValueIdx.ix2 ⟨(y 0).val - 128 * n.val, by omega⟩ (y 1)
    have e0 : (y 0).val = 128 * n.val + (x' 0).val := by show _ = 128 * n.val + ((y 0).val - 128 * n.val); omega
    refine (View.read_writes_cons_rows_of_mem a.view f (k0_off1_inb i n) (addRows x w (ldR i n a f)) [] y x' hoff e0 rfl).trans ?_
    rw [addRows_coe x w _ (fun r s => g (T + r) (128 * n.val + s)) (fun r s => h (T + r) s) hx hw]
    have e1 : ldR i n a f x' = a.view.read (Elt Ideal) f y := ldR_apply i n a f x' y e0 rfl
    rw [e1, H y, if_neg (by omega), add_zero, if_pos (by omega), ← EReal.coe_add]
    congr 3
    funext r
    rw [e0]
  · refine (View.read_writes_cons_rows_of_not_mem (W := 128) a.view f (k0_off1_inb i n) _ [] y hoff rfl (by omega)).trans ?_
    rw [View.writes_nil, H y]
    congr 3
    exact propext ⟨fun h => by omega, fun h => by omega⟩

/-- The stores of one trip keep it. -/
theorem held_step {T : ℕ} {tp : IVec S512x1 32} {ln : IVec S512x128 32} {ta : FVec Ideal S128x128 .bf16} {tb : FVec Ideal S128x256 .bf16}
    {qm dm : FVec Ideal S512x128 .bf16} {lm : FVec Ideal S1x128 .f32} {D : Data} (P : Pass T tp ln ta tb qm dm lm D.q D.d D.μ)
    {K V : Vec Ideal S128x128 .f32} {R : Vec Ideal S1x512x128 .f32} {i : grid0.Coords} {n : Fin (k0_t1_loop i).trips}
    (B : Blk T n.val K V R D.q D.k D.v) {dq₀ dk₀ dv₀ : ℕ → ℕ → ℝ}
    {a10 a11 : Memref sig .tc .vmem S512x128 .f32} {a12 a13 : Memref sig .tc .vmem S8192x128 .f32}
    (f10 : BufTy.Contents (Elt Ideal) a10.view.ty) (f11 : BufTy.Contents (Elt Ideal) a11.view.ty)
    (f12 : BufTy.Contents (Elt Ideal) a12.view.ty) (f13 : BufTy.Contents (Elt Ideal) a13.view.ty)
    (H : Held D T dq₀ dk₀ dv₀ n.val (a10.view.read (Elt Ideal) f10) (a11.view.read (Elt Ideal) f11)
      (a12.view.read (Elt Ideal) f12) (a13.view.read (Elt Ideal) f13)) :
    let L := stores i n tp ln ta tb qm dm lm K V R (ldW a10 f10) (ldW a11 f11) (ldR i n a12 f12) (ldR i n a13 f13)
    Held D T dq₀ dk₀ dv₀ (n.val + 1) (a10.view.read (Elt Ideal) (a10.view.writes (Elt Ideal) f10 L.1))
      (a11.view.read (Elt Ideal) (a11.view.writes (Elt Ideal) f11 L.2.1))
      (a12.view.read (Elt Ideal) (a12.view.writes (Elt Ideal) f12 L.2.2.1))
      (a13.view.read (Elt Ideal) (a13.view.writes (Elt Ideal) f13 L.2.2.2)) := by
  intro L
  have e10 : ldW a10 f10 = a10.view.read (Elt Ideal) f10 := View.readAt_full _ _ _
  have e11 : ldW a11 f11 = a11.view.read (Elt Ideal) f11 := View.readAt_full _ _ _
  have hpg : ∀ y : S512x128.Idx, ldW a10 f10 y = (pre (dots D.q D.k) (dots D.d D.v) (T + (y 0).val) (128 * n.val) : EReal) :=
    fun y => by rw [e10]; exact H.pg y
  refine ⟨fun y => ?_, fun y => ?_, fun y => ?_, fun y => ?_⟩
  · rw [show a10.view.read (Elt Ideal) (a10.view.writes (Elt Ideal) f10 L.1) = _ from View.read_writes_full _ _ _ _ _]
    exact newPg P B hpg y
  · rw [show a11.view.read (Elt Ideal) (a11.view.writes (Elt Ideal) f11 L.2.1) = _ from View.read_writes_full _ _ _ _ _]
    refine (newDq P B hpg y).trans ?_
    rw [e11, H.dq y, ← EReal.coe_add, add_assoc, ← add_mul, sum_block (fun s => Stick.dz (dots D.q D.k) (dots D.d D.v) (T + (y 0).val) s * D.k s (y 1).val)]
    have := Finset.sum_range_add_sum_Ico (fun s => D.dz (T + (y 0).val) s * D.k s (y 1).val) (show 128 * n.val ≤ 128 * (n.val + 1) by omega)
    rw [← this]; rfl
  · exact rows_step f12 i n _ _ T D.dz D.q dk₀ (scoreGrads P B hpg) P.qm H.dk y
  · exact rows_step f13 i n _ _ T D.wt D.d dv₀ (weights P B) P.dm H.dv y

/-- The blocks the loops take at a point: all that hold a key before one of its rows. -/
theorem trips_eq (i : grid0.Coords) : (k0_t1_loop i).trips = 4 * ((i 1).val + 1) := by
  have h : ∀ w : Fin 16, (Scf.Loop.trips (w := 32) ⟨0#32, Scalar.addi 0#32 (Scalar.muli (Scalar.divsi (Scalar.subi
      (Scalar.muli (Scalar.addi (BitVec.ofNat 32 w.val) 1#32) 4#32) 0#32) 1#32) 1#32), 1#32⟩) = 4 * (w.val + 1) := by decide
  exact h (i 1)

theorem no_trips2 (i : grid0.Coords) : (k0_t2_loop i).trips = 0 := Nat.le_zero.1 (k0_t2_abs i).2.1
theorem no_trips4 (i : grid0.Coords) : (k0_t4_loop i).trips = 0 := Nat.le_zero.1 (k0_t4_abs i).2.1

section Loops

variable (𝒱 : Variants) (c : Dev nD) (bd : Option 𝒱.V) (i : grid0.Coords)
  (arg2 : Memref sig .tc .vmem S512x128 .f32) (harg2 : arg2.IsWhole)
  (arg3 : Memref sig .tc .vmem S8192x128 .f32) (harg3 : arg3.IsWhole)
  (arg4 : Memref sig .tc .vmem S8192x128 .f32) (harg4 : arg4.IsWhole)
  (arg5 : Memref sig .tc .vmem S512x128 .f32) (harg5 : arg5.IsWhole)
  (arg6 : Memref sig .tc .vmem S2x512x128 .f32) (harg6 : arg6.IsWhole)
  (arg7 : Memref sig .tc .vmem S512x128 .bf16) (harg7 : arg7.IsWhole)
  (arg8 : Memref sig .tc .vmem S8192x128 .bf16) (harg8 : arg8.IsWhole)
  (arg9 : Memref sig .tc .vmem S8192x128 .bf16) (harg9 : arg9.IsWhole)
  (arg10 : Memref sig .tc .vmem S512x128 .f32) (harg10 : arg10.IsWhole)
  (arg11 : Memref sig .tc .vmem S512x128 .f32) (harg11 : arg11.IsWhole)
  (arg12 : Memref sig .tc .vmem S8192x128 .f32) (harg12 : arg12.IsWhole)
  (arg13 : Memref sig .tc .vmem S8192x128 .f32) (harg13 : arg13.IsWhole)
  (v3 : IVec S512x128 32) (v13 : FVec Ideal S128x128 .bf16) (v23 : FVec Ideal S128x256 .bf16) (v27 : IVec S512x1 32)
  (X3 : BufTy.Contents (Elt Ideal) arg3.view.ty) (X4 : BufTy.Contents (Elt Ideal) arg4.view.ty) (X6 : BufTy.Contents (Elt Ideal) arg6.view.ty)
  (G10 : BufTy.Contents (Elt Ideal) arg10.view.ty) (G11 : BufTy.Contents (Elt Ideal) arg11.view.ty)
  (G12 : BufTy.Contents (Elt Ideal) arg12.view.ty) (G13 : BufTy.Contents (Elt Ideal) arg13.view.ty)
  {D : Data} {T : ℕ} {dq₀ dk₀ dv₀ : ℕ → ℕ → ℝ}

/-- The keys, the values and the saved sums of a head in the buffers the loops read. -/
structure Reads (D : Data) (T : ℕ) (K V : Vec Ideal S8192x128 .f32) (R : Vec Ideal S1x512x128 .f32) : Prop where
  K : ∀ y, K y = (D.k (y 0).val (y 1).val : EReal)
  V : ∀ y, V y = (D.v (y 0).val (y 1).val : EReal)
  R : ∀ y, (y 2).val < 64 → R y = (suf (dots D.q D.k) (T + (y 1).val) (128 * ((y 2).val + 1)) : EReal)

theorem Reads.blk {a3 a4 : Memref sig .tc .vmem S8192x128 .f32} {f3 : BufTy.Contents (Elt Ideal) a3.view.ty}
    {f4 : BufTy.Contents (Elt Ideal) a4.view.ty} {R : Vec Ideal S1x512x128 .f32}
    (X : Reads D T (a3.view.read (Elt Ideal) f3) (a4.view.read (Elt Ideal) f4) R) (n : Fin (k0_t1_loop i).trips) :
    Blk T n.val (ldR i n a3 f3) (ldR i n a4 f4) R D.q D.k D.v := by
  have hn : n.val < 64 := lt_of_lt_of_le n.isLt (k0_t1_abs i).2.1
  have hr : ∀ y : S128x128.Idx, 128 * n.val + (y 0).val < 8192 := fun y => by
    have : (y 0).val < 128 := (y 0).isLt
    omega
  refine ⟨hn, fun y => ?_, fun y => ?_, fun y hy => ?_⟩
  · exact (ldR_apply i n a3 f3 y (ValueIdx.ix2 ⟨_, hr y⟩ (y 1)) rfl rfl).trans (X.K _)
  · exact (ldR_apply i n a4 f4 y (ValueIdx.ix2 ⟨_, hr y⟩ (y 1)) rfl rfl).trans (X.V _)
  · rw [X.R y (by omega), hy]

/-- The first head's loop, after any number of its trips. -/
theorem loop1 (v29 : BitVec 32) (v39 : IVec S1x128 1) (v43 : Vec Ideal S512x128 .f32) (v49 : Vec Ideal S512x128 .f32)
    (P : Pass T v27 v3 v13 v23 (k0_pay85 v39 v43) (k0_pay86 v39 v49) (k0_pay84 v39) D.q D.d D.μ)
    (X : Reads D T (arg3.view.read (Elt Ideal) X3) (arg4.view.read (Elt Ideal) X4)
      (arg6.view.readAt (Elt Ideal) (Rect.unit (s := S2x512x128) ![0, 0, 0] S1x512x128.size inb_S2x512x128_S1x512x128_0_0_0).toLoadRect X6))
    (H : Held D T dq₀ dk₀ dv₀ 0 (arg10.view.read (Elt Ideal) G10) (arg11.view.read (Elt Ideal) G11)
      (arg12.view.read (Elt Ideal) G12) (arg13.view.read (Elt Ideal) G13)) (n : ℕ) (hn : n ≤ (k0_t1_loop i).trips) :
    let L := pb_k0_t1 (F := Ideal) 𝒱 c bd i arg2 harg2 arg3 harg3 arg4 harg4 arg5 harg5 arg6 harg6 arg7 harg7 arg8 harg8 arg9 harg9 arg10 harg10 arg11 harg11 arg12 harg12 arg13 harg13 v3 v13 v23 v27 v29 v39 v43 v49 X3 X4 X6 G10 G11 G12 G13 n
    Held D T dq₀ dk₀ dv₀ n (arg10.view.read (Elt Ideal) (arg10.view.writes (Elt Ideal) G10 L.1))
      (arg11.view.read (Elt Ideal) (arg11.view.writes (Elt Ideal) G11 L.2.1))
      (arg12.view.read (Elt Ideal) (arg12.view.writes (Elt Ideal) G12 L.2.2.1))
      (arg13.view.read (Elt Ideal) (arg13.view.writes (Elt Ideal) G13 L.2.2.2)) := by
  induction n with
  | zero => exact H
  | succ n ih =>
    have S := held_step P (X.blk i ⟨n, hn⟩) _ _ _ _ (ih (Nat.le_of_succ_le hn))
    have E := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 v3 v13 v23 v27 v29 v39 v43 v49 X3 X4 X6 G10 G11 G12 G13 ⟨n, hn⟩
    intro L
    rw [trip1] at E
    rw [show L = _ from E]
    simp only [View.writes_append]
    exact S

/-- The second head's loop, after any number of its trips. -/
theorem loop3 (v70 : FVec Ideal S1x128 .f32) (v71 : Vec Ideal S512x128 .f32) (v74 : FVec Ideal S512x128 .f32) (v77 : Vec Ideal S512x128 .f32)
    (P : Pass T v27 v3 v13 v23 (k0_pay1 v71 v74) (k0_pay2 v70 v77) v70 D.q D.d D.μ)
    (X : Reads D T (arg3.view.read (Elt Ideal) X3) (arg4.view.read (Elt Ideal) X4)
      (arg6.view.readAt (Elt Ideal) (Rect.unit (s := S2x512x128) ![1, 0, 0] S1x512x128.size inb_S2x512x128_S1x512x128_1_0_0).toLoadRect X6))
    (H : Held D T dq₀ dk₀ dv₀ 0 (arg10.view.read (Elt Ideal) G10) (arg11.view.read (Elt Ideal) G11)
      (arg12.view.read (Elt Ideal) G12) (arg13.view.read (Elt Ideal) G13)) (n : ℕ) (hn : n ≤ (k0_t1_loop i).trips) :
    let L := pb_k0_t3 (F := Ideal) 𝒱 c bd i arg2 harg2 arg3 harg3 arg4 harg4 arg5 harg5 arg6 harg6 arg7 harg7 arg8 harg8 arg9 harg9 arg10 harg10 arg11 harg11 arg12 harg12 arg13 harg13 v3 v13 v23 v27 v70 v71 v74 v77 X3 X4 X6 G10 G11 G12 G13 n
    Held D T dq₀ dk₀ dv₀ n (arg10.view.read (Elt Ideal) (arg10.view.writes (Elt Ideal) G10 L.1))
      (arg11.view.read (Elt Ideal) (arg11.view.writes (Elt Ideal) G11 L.2.1))
      (arg12.view.read (Elt Ideal) (arg12.view.writes (Elt Ideal) G12 L.2.2.1))
      (arg13.view.read (Elt Ideal) (arg13.view.writes (Elt Ideal) G13 L.2.2.2)) := by
  induction n with
  | zero => exact H
  | succ n ih =>
    have S := held_step P (X.blk i ⟨n, hn⟩) _ _ _ _ (ih (Nat.le_of_succ_le hn))
    have E := pb_k0_t3_succ (F := Ideal) 𝒱 c bd i arg2 harg2 arg3 harg3 arg4 harg4 arg5 harg5 arg6 harg6 arg7 harg7 arg8 harg8 arg9 harg9 arg10 harg10 arg11 harg11 arg12 harg12 arg13 harg13 v3 v13 v23 v27 v70 v71 v74 v77 X3 X4 X6 G10 G11 G12 G13 ⟨n, hn⟩
    intro L
    rw [trip3] at E
    rw [show L = _ from E]
    simp only [View.writes_append]
    exact S

end Loops

end Cert.Proof.Bwd
-- ==== Proof.BwdSetup.lean ====
/-
  What a point of the backward attention kernel sets up before its loops: row and lane numbers, the two triangles, the
  heads' lane masks, and the masked queries and output gradients.
-/
module

public import proofs.«01_k».proof.Proof.BwdTrip

@[expose] public section

set_option maxRecDepth 8192

noncomputable section

namespace Cert.Proof.Bwd

open Cert.KernelAttnBwdIdeal Cert.KernelAttnBwdIdeal.Gen Idealize.ShloMosaic Idealize.ShloMosaic.TcCoe
open Cert.Proof.Stick

theorem pick_or {α : Type} (p q : Prop) [Decidable p] [Decidable q] (x z : α) :
    Scalar.select (IntOp.ori (BitVec.ofBool (decide p)) (BitVec.ofBool (decide q))) x z = if p ∨ q then x else z := by
  by_cases hp : p <;> by_cases hq : q <;> simp [hp, hq, Scalar.select, IntOp.ori]

theorem pick_and {α : Type} (p q : Prop) [Decidable p] [Decidable q] (x z : α) :
    Scalar.select (IntOp.andi (BitVec.ofBool (decide p)) (BitVec.ofBool (decide q))) x z = if p ∧ q then x else z := by
  by_cases hp : p <;> by_cases hq : q <;> simp [hp, hq, Scalar.select, IntOp.andi]

/-- The lanes of a head of the pair. -/
def lane (h l : ℕ) : ℝ := if l / 64 = h then 1 else 0

/-- The numbers of a head's pass, from all rows of queries `Q`, output gradients `O`, keys `K` and values `V`. -/
def headData (Q O K V : ℕ → ℕ → ℝ) (h : ℕ) : Data where
  q t l := Q t l * (1 / 8 * lane h l)
  d t l := O t l * lane h l
  k := K
  v := V
  μ := lane h

theorem row_word (a b : ℕ) : IntOp.addi (Scalar.muli (BitVec.ofNat 32 a) 512#32) (BitVec.ofNat 32 b) = BitVec.ofNat 32 (512 * a + b) := by
  unfold IntOp.addi Scalar.muli IntOp.muli
  rw [← BitVec.ofNat_mul, ← BitVec.ofNat_add, mul_comm]

theorem after_word (a b : ℕ) (ha : a < 128) (hb : b < 128) :
    Scalar.select (IntOp.ori (IntOp.cmpi .sge (BitVec.ofNat 32 b) 128#32) (IntOp.cmpi .sgt (BitVec.ofNat 32 a) (BitVec.ofNat 32 b)))
      (1 : EReal) 0 = if b < a then 1 else 0 := by
  rw [WordCmp.cmpi_sge_ofNat (by omega) (by omega), WordCmp.cmpi_sgt_ofNat (by omega) (by omega), pick_or]
  exact if_congr (by omega) rfl rfl

theorem before_word (a b : ℕ) (ha : a < 128) (hb : b < 256) :
    Scalar.select (IntOp.ori (IntOp.cmpi .sge (BitVec.ofNat 32 b) 128#32) (IntOp.cmpi .slt (BitVec.ofNat 32 a) (BitVec.ofNat 32 b)))
      (1 : EReal) 0 = if 128 ≤ b ∨ a < b then 1 else 0 := by
  rw [WordCmp.cmpi_sge_ofNat (by omega) (by omega), WordCmp.cmpi_slt_ofNat (by omega) (by omega), pick_or]

theorem lane_word (l lo hi h : ℕ) (hl : l < 128) (hlo : lo = 64 * h) (hhi : hi = 64 * (h + 1)) (hh : h < 2) :
    Scalar.select (IntOp.andi (IntOp.cmpi .sge (BitVec.ofNat 32 l) (BitVec.ofNat 32 lo)) (IntOp.cmpi .slt (BitVec.ofNat 32 l) (BitVec.ofNat 32 hi)))
      (1 : EReal) 0 = (lane h l : EReal) := by
  rw [WordCmp.cmpi_sge_ofNat (by omega) (by omega), WordCmp.cmpi_slt_ofNat (by omega) (by omega), pick_and]
  unfold lane
  by_cases e : l / 64 = h
  · rw [if_pos e, if_pos (by omega), EReal.coe_one]
  · rw [if_neg e, if_neg (by omega), EReal.coe_zero]

theorem rowNumber (i : grid0.Coords) (y : S512x1.Idx) : k0_pay81 i y = BitVec.ofNat 32 (512 * (i 1).val + (y 0).val) := by
  pointwise [k0_pay81]
  exact row_word _ _

theorem after_ (y : S128x128.Idx) : k0_pay79 (F := Ideal) y = if (y 1).val < (y 0).val then 1 else 0 := by
  pointwise [k0_pay79]
  exact after_word _ _ (y 0).isLt (y 1).isLt

theorem before_ (y : S128x256.Idx) : k0_pay80 (F := Ideal) y = if 128 ≤ (y 1).val ∨ (y 0).val < (y 1).val then 1 else 0 := by
  pointwise [k0_pay80]
  exact before_word _ _ (y 0).isLt (y 1).isLt

theorem mask0 (y : S1x128.Idx) : k0_pay84 (F := Ideal) k0_pay83 y = (lane 0 (y 1).val : EReal) := by
  pointwise [k0_pay84, k0_pay83]
  exact lane_word _ 0 64 0 (y 1).isLt rfl rfl (by omega)

theorem mask1 (y : S1x128.Idx) : k0_pay94 (F := Ideal) y = (lane 1 (y 1).val : EReal) := by
  pointwise [k0_pay94]
  exact lane_word _ 64 128 1 (y 1).isLt rfl rfl (by omega)

theorem lanes (y : S512x128.Idx) : iota .tc S512x128 32 [1] iota_S512x128_d1_w32 y = BitVec.ofNat 32 (y 1).val := by
  pointwise

theorem times_eighth (x μ : ℝ) (X M : EReal) (hX : X = x) (hM : M = μ) :
    X * (Ideal.ofBits .f32 1040187392#32 * M) = ((x * (1 / 8 * μ) : ℝ) : EReal) := by
  rw [hX, hM, ofBits_eighth, EReal.coe_mul, EReal.coe_mul]

theorem times (x μ : ℝ) (X M : EReal) (hX : X = x) (hM : M = μ) : X * M = ((x * μ : ℝ) : EReal) := by
  rw [hX, hM, EReal.coe_mul]

/-- The rows a point's blocks of queries and of output gradients hold. -/
structure Rows (i : grid0.Coords) (x0 x3 : Vec Ideal S512x128 .f32) (Q O : ℕ → ℕ → ℝ) : Prop where
  q : ∀ y, x0 y = (Q (512 * (i 1).val + (y 0).val) (y 1).val : EReal)
  o : ∀ y, x3 y = (O (512 * (i 1).val + (y 0).val) (y 1).val : EReal)

variable {i : grid0.Coords} {x0 x3 : Vec Ideal S512x128 .f32} {Q O K V : ℕ → ℕ → ℝ}

/-- The first head's pass. -/
theorem pass0 (h : Rows i x0 x3 Q O) : Pass (512 * (i 1).val) (k0_pay81 i) (iota .tc S512x128 32 [1] iota_S512x128_d1_w32) k0_pay79 k0_pay80
    (k0_pay85 k0_pay83 x0) (k0_pay86 k0_pay83 x3) (k0_pay84 k0_pay83) (headData Q O K V 0).q (headData Q O K V 0).d (headData Q O K V 0).μ where
  top := by have : (i 1).val < 16 := (i 1).isLt; omega
  tp := rowNumber i
  ln := lanes
  ta := after_
  tb := before_
  qm y := by
    have e : k0_pay85 k0_pay83 x0 y = x0 y * (Ideal.ofBits .f32 1040187392#32 * k0_pay84 (F := Ideal) k0_pay83 (ValueIdx.ix2 0 (y 1))) := by
      pointwise [k0_pay85]; rfl
    exact e.trans (times_eighth _ _ _ _ (h.q y) (mask0 _))
  dm y := by
    have e : k0_pay86 k0_pay83 x3 y = x3 y * k0_pay84 (F := Ideal) k0_pay83 (ValueIdx.ix2 0 (y 1)) := by pointwise [k0_pay86]; rfl
    exact e.trans (times _ _ _ _ (h.o y) (mask0 _))
  lm := mask0

/-- The second head's pass. -/
theorem pass1 (h : Rows i x0 x3 Q O) : Pass (512 * (i 1).val) (k0_pay81 i) (iota .tc S512x128 32 [1] iota_S512x128_d1_w32) k0_pay79 k0_pay80
    (k0_pay1 x0 k0_pay95) (k0_pay2 k0_pay94 x3) k0_pay94 (headData Q O K V 1).q (headData Q O K V 1).d (headData Q O K V 1).μ where
  top := by have : (i 1).val < 16 := (i 1).isLt; omega
  tp := rowNumber i
  ln := lanes
  ta := after_
  tb := before_
  qm y := by
    have e : k0_pay1 x0 k0_pay95 y = x0 y * (Ideal.ofBits .f32 1040187392#32 * k0_pay94 (F := Ideal) (ValueIdx.ix2 0 (y 1))) := by
      pointwise [k0_pay1, k0_pay95]; rfl
    exact e.trans (times_eighth _ _ _ _ (h.q y) (mask1 _))
  dm y := by
    have e : k0_pay2 k0_pay94 x3 y = x3 y * k0_pay94 (F := Ideal) (ValueIdx.ix2 0 (y 1)) := by pointwise [k0_pay2]; rfl
    exact e.trans (times _ _ _ _ (h.o y) (mask1 _))
  lm := mask1

end Cert.Proof.Bwd
-- ==== Proof.BwdPoint.lean ====
/-
  Both heads' loops at a point of the backward attention kernel: what the queries' gradient and the running keys' and
  values' gradients are after them.
-/
module

public import proofs.«01_k».proof.Proof.BwdSetup

@[expose] public section

set_option maxRecDepth 8192

noncomputable section

namespace Cert.Proof.Bwd

open Cert.KernelAttnBwdIdeal Cert.KernelAttnBwdIdeal.Gen Idealize.ShloMosaic Idealize.ShloMosaic.TcCoe Idealize.SL.Sem
open Idealize.ShloMosaic.Tactic Cert.Proof.Stick

theorem hz3 : (k0_pay3 : FVec Ideal S512x128 .f32) = fun _ => 0 := by funext y; pointwise [k0_pay3]

/-- What a head adds to the queries' gradient of row `t` over the first `b` keys. -/
def Data.dqTo (D : Data) (b t l : ℕ) : ℝ := (∑ s ∈ Finset.range b, D.dz t s * D.k s l) * D.μ l

/-- What a head's rows from `T` on add to the gradient of key `s`, and of value `s`, among the first `b`. -/
def Data.dkTo (D : Data) (T b s l : ℕ) : ℝ := if s < b then ∑ r : Fin 512, D.dz (T + r.val) s * D.q (T + r.val) l else 0
def Data.dvTo (D : Data) (T b s l : ℕ) : ℝ := if s < b then ∑ r : Fin 512, D.wt (T + r.val) s * D.d (T + r.val) l else 0

/-- What both heads leave, over what the running gradients held before. -/
structure Both (D₀ D₁ : Data) (T b : ℕ) (dk₀ dv₀ : ℕ → ℕ → ℝ) (dq : Vec Ideal S512x128 .f32) (dk dv : Vec Ideal S8192x128 .f32) : Prop where
  dq : ∀ y, dq y = ((D₀.dqTo b (T + (y 0).val) (y 1).val + D₁.dqTo b (T + (y 0).val) (y 1).val : ℝ) : EReal)
  dk : ∀ y, dk y = ((dk₀ (y 0).val (y 1).val + D₀.dkTo T b (y 0).val (y 1).val + D₁.dkTo T b (y 0).val (y 1).val : ℝ) : EReal)
  dv : ∀ y, dv y = ((dv₀ (y 0).val (y 1).val + D₀.dvTo T b (y 0).val (y 1).val + D₁.dvTo T b (y 0).val (y 1).val : ℝ) : EReal)

/-- Before any block. -/
theorem held_zero (D : Data) (T : ℕ) (dq₀ dk₀ dv₀ : ℕ → ℕ → ℝ) (pg dq : Vec Ideal S512x128 .f32) (dk dv : Vec Ideal S8192x128 .f32)
    (hpg : ∀ y, pg y = 0) (hdq : ∀ y, dq y = (dq₀ (y 0).val (y 1).val : EReal)) (hdk : ∀ y, dk y = (dk₀ (y 0).val (y 1).val : EReal))
    (hdv : ∀ y, dv y = (dv₀ (y 0).val (y 1).val : EReal)) : Held D T dq₀ dk₀ dv₀ 0 pg dq dk dv where
  pg y := by rw [hpg y]; simp [pre]
  dq y := by rw [hdq y]; simp
  dk y := by rw [hdk y]; simp
  dv y := by rw [hdv y]; simp

section Point

variable (𝒱 : Variants) (c : Dev nD) (bd : Option 𝒱.V) (i : grid0.Coords)
  (arg2 : Memref sig .tc .vmem S512x128 .f32) (harg2 : arg2.IsWhole)
  (arg3 : Memref sig .tc .vmem S8192x128 .f32) (harg3 : arg3.IsWhole)
  (arg4 : Memref sig .tc .vmem S8192x128 .f32) (harg4 : arg4.IsWhole)
  (arg5 : Memref sig .tc .vmem S512x128 .f32) (harg5 : arg5.IsWhole)
  (arg6 : Memref sig .tc .vmem S2x512x128 .f32) (harg6 : arg6.IsWhole)
  (arg7 : Memref sig .tc .vmem S512x128 .bf16) (harg7 : arg7.IsWhole)
  (arg8 : Memref sig .tc .vmem S8192x128 .bf16) (harg8 : arg8.IsWhole)
  (arg9 : Memref sig .tc .vmem S8192x128 .bf16) (harg9 : arg9.IsWhole)
  (arg10 : Memref sig .tc .vmem S512x128 .f32) (harg10 : arg10.IsWhole)
  (arg11 : Memref sig .tc .vmem S512x128 .f32) (harg11 : arg11.IsWhole)
  (arg12 : Memref sig .tc .vmem S8192x128 .f32) (harg12 : arg12.IsWhole)
  (arg13 : Memref sig .tc .vmem S8192x128 .f32) (harg13 : arg13.IsWhole)
  (v29 v61 v89 : BitVec 32) {x0 x3 : Vec Ideal S512x128 .f32} {Q O K V dk₀ dv₀ : ℕ → ℕ → ℝ}
  (X3 : BufTy.Contents (Elt Ideal) arg3.view.ty) (X4 : BufTy.Contents (Elt Ideal) arg4.view.ty) (X6 : BufTy.Contents (Elt Ideal) arg6.view.ty)
  (F10 : BufTy.Contents (Elt Ideal) arg10.view.ty) (F11 : BufTy.Contents (Elt Ideal) arg11.view.ty)
  (F12 : BufTy.Contents (Elt Ideal) arg12.view.ty) (F13 : BufTy.Contents (Elt Ideal) arg13.view.ty)

set_option maxHeartbeats 2000000 in
/-- Both heads' loops. -/
theorem heads (P : Rows i x0 x3 Q O)
    (R0 : Reads (headData Q O K V 0) (512 * (i 1).val) (arg3.view.read (Elt Ideal) X3) (arg4.view.read (Elt Ideal) X4)
      (arg6.view.readAt (Elt Ideal) (Rect.unit (s := S2x512x128) ![0, 0, 0] S1x512x128.size inb_S2x512x128_S1x512x128_0_0_0).toLoadRect X6))
    (R1 : Reads (headData Q O K V 1) (512 * (i 1).val) (arg3.view.read (Elt Ideal) X3) (arg4.view.read (Elt Ideal) X4)
      (arg6.view.readAt (Elt Ideal) (Rect.unit (s := S2x512x128) ![1, 0, 0] S1x512x128.size inb_S2x512x128_S1x512x128_1_0_0).toLoadRect X6))
    (h10 : ∀ y, arg10.view.read (Elt Ideal) F10 y = 0) (h11 : ∀ y, arg11.view.read (Elt Ideal) F11 y = 0)
    (h12 : ∀ y, arg12.view.read (Elt Ideal) F12 y = (dk₀ (y 0).val (y 1).val : EReal))
    (h13 : ∀ y, arg13.view.read (Elt Ideal) F13 y = (dv₀ (y 0).val (y 1).val : EReal))
    (n1 n2 n3 n4 : ℕ) (hn1 : n1 = (k0_t1_loop i).trips) (hn2 : n2 = 0) (hn3 : n3 = (k0_t1_loop i).trips) (hn4 : n4 = 0) :
    let v3 := iota .tc S512x128 32 [1] iota_S512x128_d1_w32
    let L1 := pb_k0_t1 (F := Ideal) 𝒱 c bd i arg2 harg2 arg3 harg3 arg4 harg4 arg5 harg5 arg6 harg6 arg7 harg7 arg8 harg8 arg9 harg9 arg10 harg10 arg11 harg11 arg12 harg12 arg13 harg13 v3 k0_pay79 k0_pay80 (k0_pay81 i) v29 k0_pay83 x0 x3 X3 X4 X6 F10 F11 F12 F13 n1
    let A10 := arg10.view.writes (Elt Ideal) F10 L1.1
    let A11 := arg11.view.writes (Elt Ideal) F11 L1.2.1
    let A12 := arg12.view.writes (Elt Ideal) F12 L1.2.2.1
    let A13 := arg13.view.writes (Elt Ideal) F13 L1.2.2.2
    let L2 := pb_k0_t2 (F := Ideal) 𝒱 c bd i arg2 harg2 arg3 harg3 arg4 harg4 arg5 harg5 arg6 harg6 arg7 harg7 arg8 harg8 arg9 harg9 arg10 harg10 arg11 harg11 arg12 harg12 arg13 harg13 v3 k0_pay79 k0_pay80 (k0_pay81 i) v29 k0_pay83 x0 x3 v61 X3 X4 X6 A10 A11 A12 A13 n2
    let B10 := arg10.view.writes (Elt Ideal) (arg10.view.writes (Elt Ideal) A10 L2.1) [whole k0_pay3]
    let B11 := arg11.view.writes (Elt Ideal) A11 L2.2.1
    let B12 := arg12.view.writes (Elt Ideal) A12 L2.2.2.1
    let B13 := arg13.view.writes (Elt Ideal) A13 L2.2.2.2
    let L3 := pb_k0_t3 (F := Ideal) 𝒱 c bd i arg2 harg2 arg3 harg3 arg4 harg4 arg5 harg5 arg6 harg6 arg7 harg7 arg8 harg8 arg9 harg9 arg10 harg10 arg11 harg11 arg12 harg12 arg13 harg13 v3 k0_pay79 k0_pay80 (k0_pay81 i) k0_pay94 x0 k0_pay95 x3 X3 X4 X6 B10 B11 B12 B13 n3
    let C10 := arg10.view.writes (Elt Ideal) B10 L3.1
    let C11 := arg11.view.writes (Elt Ideal) B11 L3.2.1
    let C12 := arg12.view.writes (Elt Ideal) B12 L3.2.2.1
    let C13 := arg13.view.writes (Elt Ideal) B13 L3.2.2.2
    let L4 := pb_k0_t4 (F := Ideal) 𝒱 c bd i arg2 harg2 arg3 harg3 arg4 harg4 arg5 harg5 arg6 harg6 arg7 harg7 arg8 harg8 arg9 harg9 arg10 harg10 arg11 harg11 arg12 harg12 arg13 harg13 v3 k0_pay79 k0_pay80 (k0_pay81 i) k0_pay94 x0 k0_pay95 x3 v89 X3 X4 X6 C10 C11 C12 C13 n4
    Both (headData Q O K V 0) (headData Q O K V 1) (512 * (i 1).val) (128 * (k0_t1_loop i).trips) dk₀ dv₀
      (arg11.view.read (Elt Ideal) (arg11.view.writes (Elt Ideal) C11 L4.2.1))
      (arg12.view.read (Elt Ideal) (arg12.view.writes (Elt Ideal) C12 L4.2.2.1))
      (arg13.view.read (Elt Ideal) (arg13.view.writes (Elt Ideal) C13 L4.2.2.2)) := by
  subst hn1 hn2 hn3 hn4
  intro v3 L1 A10 A11 A12 A13 L2 B10 B11 B12 B13 L3 C10 C11 C12 C13 L4
  have H1 : Held (headData Q O K V 0) (512 * (i 1).val) (fun _ _ => 0) dk₀ dv₀ (k0_t1_loop i).trips (arg10.view.read (Elt Ideal) A10)
      (arg11.view.read (Elt Ideal) A11) (arg12.view.read (Elt Ideal) A12) (arg13.view.read (Elt Ideal) A13) :=
    loop1 𝒱 c bd i arg2 harg2 arg3 harg3 arg4 harg4 arg5 harg5 arg6 harg6 arg7 harg7 arg8 harg8 arg9 harg9 arg10 harg10 arg11 harg11 arg12 harg12 arg13 harg13 v3 k0_pay79 k0_pay80 (k0_pay81 i) X3 X4 X6 F10 F11 F12 F13 v29 k0_pay83 x0 x3 (pass0 P) R0
      (held_zero _ _ (fun _ _ => 0) dk₀ dv₀ _ _ _ _ h10 (fun y => (h11 y).trans EReal.coe_zero.symm) h12 h13) _ le_rfl
  clear_value A10 A11 A12 A13
  have hL2 : L2 = ([], [], [], []) := rfl
  clear_value L2
  subst hL2
  have e10 : arg10.view.read (Elt Ideal) B10 = fun _ => 0 := by
    rw [← hz3]; exact View.read_writes_full _ _ _ _ []
  have e11 : B11 = A11 := rfl
  have e12 : B12 = A12 := rfl
  have e13 : B13 = A13 := rfl
  clear_value B10 B11 B12 B13
  subst e11 e12 e13
  have H3 : Held (headData Q O K V 1) (512 * (i 1).val) _ _ _ (k0_t1_loop i).trips (arg10.view.read (Elt Ideal) C10)
      (arg11.view.read (Elt Ideal) C11) (arg12.view.read (Elt Ideal) C12) (arg13.view.read (Elt Ideal) C13) :=
    loop3 𝒱 c bd i arg2 harg2 arg3 harg3 arg4 harg4 arg5 harg5 arg6 harg6 arg7 harg7 arg8 harg8 arg9 harg9 arg10 harg10 arg11 harg11 arg12 harg12 arg13 harg13 v3 k0_pay79 k0_pay80 (k0_pay81 i) X3 X4 X6 B10 B11 B12 B13 k0_pay94 x0 k0_pay95 x3 (pass1 P) R1
      (held_zero _ _ (fun r l => 0 + (∑ s ∈ Finset.range (128 * (k0_t1_loop i).trips), (headData Q O K V 0).dz (512 * (i 1).val + r) s
          * (headData Q O K V 0).k s l) * (headData Q O K V 0).μ l)
        (fun s l => dk₀ s l + (if s < 128 * (k0_t1_loop i).trips then ∑ r : Fin 512, (headData Q O K V 0).dz (512 * (i 1).val + r.val) s
          * (headData Q O K V 0).q (512 * (i 1).val + r.val) l else 0))
        (fun s l => dv₀ s l + (if s < 128 * (k0_t1_loop i).trips then ∑ r : Fin 512, (headData Q O K V 0).wt (512 * (i 1).val + r.val) s
          * (headData Q O K V 0).d (512 * (i 1).val + r.val) l else 0))
        _ _ _ _ (fun y => congrFun e10 y) H1.dq H1.dk H1.dv) _ le_rfl
  clear_value C10 C11 C12 C13
  have hL4 : L4 = ([], [], [], []) := rfl
  clear_value L4
  subst hL4
  exact ⟨fun y => (H3.dq y).trans (by simp only [Data.dqTo, zero_add]), H3.dk, H3.dv⟩

end Point

end Cert.Proof.Bwd
-- ==== Proof.BwdRuns.lean ====
/-
  A point of the backward attention kernel, at each of its three places in the sweep over the query blocks: what it leaves
  in its blocks of the results and in the running gradients.
-/
module

public import proofs.«01_k».proof.Proof.Gen.KernelAttnBwdIdeal.Frame
public import proofs.«01_k».proof.Proof.BwdPoint

@[expose] public section

set_option maxRecDepth 16384

noncomputable section

namespace Cert.Proof.Bwd

open Cert.KernelAttnBwdIdeal Cert.KernelAttnBwdIdeal.Gen Idealize.ShloMosaic Idealize.ShloMosaic.TcCoe Idealize.SL.Sem
open Idealize.ShloMosaic.Tactic Cert.Proof.Stick

/-- A store over the rest. -/
theorem writes_split {s : Shape} {e : EltTy} {sp : Space} (v : View sig .tc sp s e) (f : v.ty.Contents (Elt Ideal))
    (p : View.Piece (Elt Ideal) s e) (L L' : List (View.Piece (Elt Ideal) s e)) :
    v.writes (Elt Ideal) f (p :: (L ++ L')) = v.writes (Elt Ideal) (v.writes (Elt Ideal) (v.writes (Elt Ideal) f L') L) [p] := by
  rw [← View.writes_append, ← View.writes_append]; rfl

/-- A load of a whole block of `512 × 128`. -/
theorem load_whole (v : View sig .tc .vmem S512x128 .f32) (f : v.ty.Contents (Elt Ideal)) :
    v.readAt (Elt Ideal) (Rect.unit (s := S512x128) ![0, 0] ![512, 128] inb_S512x128_S512x128_0_0).toLoadRect f = v.read (Elt Ideal) f :=
  View.readAt_full v f inb_S512x128_S512x128_0_0

section Cases

variable (c : Dev nD) (i : grid0.Coords)
  (arg2 : Memref sig .tc .vmem S512x128 .f32) (harg2 : arg2.IsWhole)
  (arg3 : Memref sig .tc .vmem S8192x128 .f32) (harg3 : arg3.IsWhole)
  (arg4 : Memref sig .tc .vmem S8192x128 .f32) (harg4 : arg4.IsWhole)
  (arg5 : Memref sig .tc .vmem S512x128 .f32) (harg5 : arg5.IsWhole)
  (arg6 : Memref sig .tc .vmem S2x512x128 .f32) (harg6 : arg6.IsWhole)
  (arg7 : Memref sig .tc .vmem S512x128 .bf16) (harg7 : arg7.IsWhole)
  (arg8 : Memref sig .tc .vmem S8192x128 .bf16) (harg8 : arg8.IsWhole)
  (arg9 : Memref sig .tc .vmem S8192x128 .bf16) (harg9 : arg9.IsWhole)
  (arg10 : Memref sig .tc .vmem S512x128 .f32) (harg10 : arg10.IsWhole)
  (arg11 : Memref sig .tc .vmem S512x128 .f32) (harg11 : arg11.IsWhole)
  (arg12 : Memref sig .tc .vmem S8192x128 .f32) (harg12 : arg12.IsWhole)
  (arg13 : Memref sig .tc .vmem S8192x128 .f32) (harg13 : arg13.IsWhole)
  {x0 x3 : Vec Ideal S512x128 .f32} {x1 x2 xs2 xs3 : Vec Ideal S8192x128 .f32} {x4 : Vec Ideal S2x512x128 .f32}
  {Q O K V dk₀ dv₀ : ℕ → ℕ → ℝ}

theorem hz82 : (k0_pay82 : FVec Ideal S512x128 .f32) = fun _ => 0 := by funext y; pointwise [k0_pay82]
theorem hz77 : (k0_pay77 : FVec Ideal S8192x128 .f32) = fun _ => 0 := by funext y; pointwise [k0_pay77]
theorem hz78 : (k0_pay78 : FVec Ideal S8192x128 .f32) = fun _ => 0 := by funext y; pointwise [k0_pay78]
theorem hz87 : (k0_pay87 : FVec Ideal S512x128 .f32) = fun _ => 0 := by funext y; pointwise [k0_pay87]

/-- A buffer just filled. -/
theorem filled {s : Shape} {e : EltTy} {sp : Space} (v : View sig .tc sp s e) (f : v.ty.Contents (Elt Ideal)) {off : Fin s.rank → ℕ}
    (inb : ∀ a, off a + s.size a ≤ s.size a) (w : s.Idx → Elt Ideal e) (z : Elt Ideal e) (hw : w = fun _ => z) (y : s.Idx) :
    v.read (Elt Ideal) (v.writes (Elt Ideal) f [⟨Rect.unit off s.size inb, w⟩]) y = z := by
  rw [View.read_writes_full v f inb w []]; exact congrFun hw y

/-- What a point reads: rows of queries and output gradients, all keys and values, and each head's saved sums. -/
structure Blocks (i : grid0.Coords) (x0 : Vec Ideal S512x128 .f32) (x1 x2 : Vec Ideal S8192x128 .f32) (x3 : Vec Ideal S512x128 .f32)
    (x4 : Vec Ideal S2x512x128 .f32) (Q O K V : ℕ → ℕ → ℝ) : Prop extends Rows i x0 x3 Q O where
  k : ∀ y, x1 y = (K (y 0).val (y 1).val : EReal)
  v : ∀ y, x2 y = (V (y 0).val (y 1).val : EReal)
  r : ∀ y, (y 2).val < 64 → x4 y = (suf (dots (headData Q O K V (y 0).val).q K) (512 * (i 1).val + (y 1).val) (128 * ((y 2).val + 1)) : EReal)

theorem Blocks.reads0 (h : Blocks i x0 x1 x2 x3 x4 Q O K V) : Reads (headData Q O K V 0) (512 * (i 1).val)
    (arg3.view.read (Elt Ideal) (harg3.unread x1)) (arg4.view.read (Elt Ideal) (harg4.unread x2))
    (arg6.view.readAt (Elt Ideal) (Rect.unit (s := S2x512x128) ![0, 0, 0] S1x512x128.size inb_S2x512x128_S1x512x128_0_0_0).toLoadRect
      (harg6.unread x4)) where
  K := by rw [harg3.read_unread]; exact h.k
  V := by rw [harg4.read_unread]; exact h.v
  R y hy := by
    rw [View.readAt_eq_ld, harg6.read_unread]
    exact (View.ld_unit_apply_of (S := S2x512x128) x4 _ _ _ y (ValueIdx.ix3 0 (y 1) (y 2)) (by rintro ⟨a, ha⟩; match a, ha with | 0, _ => have : (y 0).val < 1 := (y 0).isLt; exact (by show 0 = 0 + (y 0).val; omega) | 1, _ => exact (Nat.zero_add _).symm | 2, _ => exact (Nat.zero_add _).symm)).trans (h.r _ hy)

theorem Blocks.reads1 (h : Blocks i x0 x1 x2 x3 x4 Q O K V) : Reads (headData Q O K V 1) (512 * (i 1).val)
    (arg3.view.read (Elt Ideal) (harg3.unread x1)) (arg4.view.read (Elt Ideal) (harg4.unread x2))
    (arg6.view.readAt (Elt Ideal) (Rect.unit (s := S2x512x128) ![1, 0, 0] S1x512x128.size inb_S2x512x128_S1x512x128_1_0_0).toLoadRect
      (harg6.unread x4)) where
  K := by rw [harg3.read_unread]; exact h.k
  V := by rw [harg4.read_unread]; exact h.v
  R y hy := by
    rw [View.readAt_eq_ld, harg6.read_unread]
    exact (View.ld_unit_apply_of (S := S2x512x128) x4 _ _ _ y (ValueIdx.ix3 1 (y 1) (y 2)) (by rintro ⟨a, ha⟩; match a, ha with | 0, _ => have : (y 0).val < 1 := (y 0).isLt; exact (by show 1 = 1 + (y 0).val; omega) | 1, _ => exact (Nat.zero_add _).symm | 2, _ => exact (Nat.zero_add _).symm)).trans (h.r _ hy)

end Cases

end Cert.Proof.Bwd
-- ==== Proof.BwdRunA.lean ====
/-
  The first query block of a pair of heads.
-/
module

public import proofs.«01_k».proof.Proof.BwdRuns

@[expose] public section

set_option maxRecDepth 16384

noncomputable section

namespace Cert.Proof.Bwd

open Cert.KernelAttnBwdIdeal Cert.KernelAttnBwdIdeal.Gen Idealize.ShloMosaic Idealize.ShloMosaic.TcCoe Idealize.SL.Sem
open Idealize.ShloMosaic.Tactic Cert.Proof.Stick

section Cases

variable (c : Dev nD) (i : grid0.Coords)
  (arg2 : Memref sig .tc .vmem S512x128 .f32) (harg2 : arg2.IsWhole)
  (arg3 : Memref sig .tc .vmem S8192x128 .f32) (harg3 : arg3.IsWhole)
  (arg4 : Memref sig .tc .vmem S8192x128 .f32) (harg4 : arg4.IsWhole)
  (arg5 : Memref sig .tc .vmem S512x128 .f32) (harg5 : arg5.IsWhole)
  (arg6 : Memref sig .tc .vmem S2x512x128 .f32) (harg6 : arg6.IsWhole)
  (arg7 : Memref sig .tc .vmem S512x128 .bf16) (harg7 : arg7.IsWhole)
  (arg8 : Memref sig .tc .vmem S8192x128 .bf16) (harg8 : arg8.IsWhole)
  (arg9 : Memref sig .tc .vmem S8192x128 .bf16) (harg9 : arg9.IsWhole)
  (arg10 : Memref sig .tc .vmem S512x128 .f32) (harg10 : arg10.IsWhole)
  (arg11 : Memref sig .tc .vmem S512x128 .f32) (harg11 : arg11.IsWhole)
  (arg12 : Memref sig .tc .vmem S8192x128 .f32) (harg12 : arg12.IsWhole)
  (arg13 : Memref sig .tc .vmem S8192x128 .f32) (harg13 : arg13.IsWhole)
  {x0 x3 : Vec Ideal S512x128 .f32} {x1 x2 xs2 xs3 : Vec Ideal S8192x128 .f32} {x4 : Vec Ideal S2x512x128 .f32}
  {Q O K V dk₀ dv₀ : ℕ → ℕ → ℝ}

set_option maxHeartbeats 4000000 in
theorem runA (hc0 : cond0_0 i) (hc1 : ¬cond0_1 i) (h : Blocks i x0 x1 x2 x3 x4 Q O K V) :
    Both (headData Q O K V 0) (headData Q O K V 1) (512 * (i 1).val) (128 * (k0_t1_loop i).trips) (fun _ _ => 0) (fun _ _ => 0)
      (kernelRun0_A.sl.v90 (F := Ideal) c i arg2 harg2 arg3 harg3 arg4 harg4 arg5 harg5 arg6 harg6 arg7 harg7 arg8 harg8 arg9 harg9 arg10 harg10 arg11 harg11 arg12 harg12 arg13 harg13 x0 x1 x2 x3 x4)
      (sout0_A_2 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4)
      (sout0_A_3 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4) := by
  have e2 : sout0_A_2 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4
      = arg12.view.read (Elt Ideal) (arg12.view.writes (Elt Ideal) arg12.view.junk (kernelRun0_A (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.1) := by
    unfold sout0_A_2
    rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4),
      View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4)]
  have e3 : sout0_A_3 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4
      = arg13.view.read (Elt Ideal) (arg13.view.writes (Elt Ideal) arg13.view.junk (kernelRun0_A (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.2.1) := by
    unfold sout0_A_3
    rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 hc0 hc1 x0 x1 x2 x3 x4),
      View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 hc0 hc1 x0 x1 x2 x3 x4)]
  rw [e2, e3]
  unfold kernelRun0_A
  dsimp only
  sl_unfold_words
  simp only [View.readCov, load_whole, View.writes_append, writes_split, harg2.read_unread, harg5.read_unread]
  refine heads Variants.none c none i arg2 harg2 arg3 harg3 arg4 harg4 arg5 harg5 arg6 harg6 arg7 harg7 arg8 harg8 arg9 harg9 arg10 harg10 arg11 harg11 arg12 harg12 arg13 harg13 _ _ _ (harg3.unread x1) (harg4.unread x2) (harg6.unread x4) _ _ _ _ h.toRows
    (h.reads0 i arg3 harg3 arg4 harg4 arg6 harg6) (h.reads1 i arg3 harg3 arg4 harg4 arg6 harg6) ?_ ?_ ?_ ?_ _ _ _ _ rfl (no_trips2 i) rfl (no_trips4 i)
  · exact filled _ _ inb_S512x128_S512x128_0_0 _ _ hz87
  · exact filled _ _ inb_S512x128_S512x128_0_0 _ _ hz82
  · exact fun y => (filled _ _ inb_S8192x128_S8192x128_0_0 _ _ hz77 y).trans EReal.coe_zero.symm
  · exact fun y => (filled _ _ inb_S8192x128_S8192x128_0_0 _ _ hz78 y).trans EReal.coe_zero.symm

/-- The queries' gradient block. -/
theorem outDqA (hc0 : cond0_0 i) (hc1 : ¬cond0_1 i) (y : S512x128.Idx) :
    out0_A_5 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 y
      = kernelRun0_A.sl.v90 (F := Ideal) c i arg2 harg2 arg3 harg3 arg4 harg4 arg5 harg5 arg6 harg6 arg7 harg7 arg8 harg8 arg9 harg9 arg10 harg10 arg11 harg11 arg12 harg12 arg13 harg13 x0 x1 x2 x3 x4 y * Ideal.ofBits .f32 1040187392#32 := by
  have e : out0_A_5 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4
      = k0_pay10 (kernelRun0_A.sl.v90 (F := Ideal) c i arg2 harg2 arg3 harg3 arg4 harg4 arg5 harg5 arg6 harg6 arg7 harg7 arg8 harg8 arg9 harg9 arg10 harg10 arg11 harg11 arg12 harg12 arg13 harg13 x0 x1 x2 x3 x4) := by
    unfold out0_A_5 kernelRun0_A
    exact View.read_writes_full _ _ inb_S512x128_S512x128_0_0 _ []
  rw [e]
  generalize kernelRun0_A.sl.v90 (F := Ideal) c i arg2 harg2 arg3 harg3 arg4 harg4 arg5 harg5 arg6 harg6 arg7 harg7 arg8 harg8 arg9 harg9 arg10 harg10 arg11 harg11 arg12 harg12 arg13 harg13 x0 x1 x2 x3 x4 = G
  pointwise [k0_pay10]

end Cases

end Cert.Proof.Bwd
-- ==== Proof.BwdRunB.lean ====
/-
  A query block between the first and the last.
-/
module

public import proofs.«01_k».proof.Proof.BwdRuns

@[expose] public section

set_option maxRecDepth 16384

noncomputable section

namespace Cert.Proof.Bwd

open Cert.KernelAttnBwdIdeal Cert.KernelAttnBwdIdeal.Gen Idealize.ShloMosaic Idealize.ShloMosaic.TcCoe Idealize.SL.Sem
open Idealize.ShloMosaic.Tactic Cert.Proof.Stick

section Cases

variable (c : Dev nD) (i : grid0.Coords)
  (arg2 : Memref sig .tc .vmem S512x128 .f32) (harg2 : arg2.IsWhole)
  (arg3 : Memref sig .tc .vmem S8192x128 .f32) (harg3 : arg3.IsWhole)
  (arg4 : Memref sig .tc .vmem S8192x128 .f32) (harg4 : arg4.IsWhole)
  (arg5 : Memref sig .tc .vmem S512x128 .f32) (harg5 : arg5.IsWhole)
  (arg6 : Memref sig .tc .vmem S2x512x128 .f32) (harg6 : arg6.IsWhole)
  (arg7 : Memref sig .tc .vmem S512x128 .bf16) (harg7 : arg7.IsWhole)
  (arg8 : Memref sig .tc .vmem S8192x128 .bf16) (harg8 : arg8.IsWhole)
  (arg9 : Memref sig .tc .vmem S8192x128 .bf16) (harg9 : arg9.IsWhole)
  (arg10 : Memref sig .tc .vmem S512x128 .f32) (harg10 : arg10.IsWhole)
  (arg11 : Memref sig .tc .vmem S512x128 .f32) (harg11 : arg11.IsWhole)
  (arg12 : Memref sig .tc .vmem S8192x128 .f32) (harg12 : arg12.IsWhole)
  (arg13 : Memref sig .tc .vmem S8192x128 .f32) (harg13 : arg13.IsWhole)
  {x0 x3 : Vec Ideal S512x128 .f32} {x1 x2 xs2 xs3 : Vec Ideal S8192x128 .f32} {x4 : Vec Ideal S2x512x128 .f32}
  {Q O K V dk₀ dv₀ : ℕ → ℕ → ℝ}

set_option maxHeartbeats 4000000 in
theorem runB (hc0 : ¬cond0_0 i) (hc1 : ¬cond0_1 i) (h : Blocks i x0 x1 x2 x3 x4 Q O K V)
    (h2 : ∀ y, xs2 y = (dk₀ (y 0).val (y 1).val : EReal)) (h3 : ∀ y, xs3 y = (dv₀ (y 0).val (y 1).val : EReal)) :
    Both (headData Q O K V 0) (headData Q O K V 1) (512 * (i 1).val) (128 * (k0_t1_loop i).trips) dk₀ dv₀
      (kernelRun0_B.sl.v90 (F := Ideal) c i arg2 harg2 arg3 harg3 arg4 harg4 arg5 harg5 arg6 harg6 arg7 harg7 arg8 harg8 arg9 harg9 arg10 harg10 arg11 harg11 arg12 harg12 arg13 harg13 x0 x1 x2 x3 x4 xs2 xs3)
      (sout0_B_2 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 xs2 xs3)
      (sout0_B_3 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 xs2 xs3) := by
  unfold sout0_B_2 sout0_B_3 kernelRun0_B
  dsimp only
  sl_unfold_words
  simp only [View.readCov, load_whole, View.writes_append, writes_split, harg2.read_unread, harg5.read_unread]
  refine heads Variants.none c none i arg2 harg2 arg3 harg3 arg4 harg4 arg5 harg5 arg6 harg6 arg7 harg7 arg8 harg8 arg9 harg9 arg10 harg10 arg11 harg11 arg12 harg12 arg13 harg13 _ _ _ (harg3.unread x1) (harg4.unread x2) (harg6.unread x4) _ _ _ _ h.toRows
    (h.reads0 i arg3 harg3 arg4 harg4 arg6 harg6) (h.reads1 i arg3 harg3 arg4 harg4 arg6 harg6) ?_ ?_ ?_ ?_ _ _ _ _ rfl (no_trips2 i) rfl (no_trips4 i)
  · exact filled _ _ inb_S512x128_S512x128_0_0 _ _ hz87
  · exact filled _ _ inb_S512x128_S512x128_0_0 _ _ hz82
  · rw [harg12.read_unread]; exact h2
  · rw [harg13.read_unread]; exact h3

/-- The queries' gradient block. -/
theorem outDqB (hc0 : ¬cond0_0 i) (hc1 : ¬cond0_1 i) (y : S512x128.Idx) :
    out0_B_5 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 xs2 xs3 y
      = kernelRun0_B.sl.v90 (F := Ideal) c i arg2 harg2 arg3 harg3 arg4 harg4 arg5 harg5 arg6 harg6 arg7 harg7 arg8 harg8 arg9 harg9 arg10 harg10 arg11 harg11 arg12 harg12 arg13 harg13 x0 x1 x2 x3 x4 xs2 xs3 y * Ideal.ofBits .f32 1040187392#32 := by
  have e : out0_B_5 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 xs2 xs3
      = k0_pay10 (kernelRun0_B.sl.v90 (F := Ideal) c i arg2 harg2 arg3 harg3 arg4 harg4 arg5 harg5 arg6 harg6 arg7 harg7 arg8 harg8 arg9 harg9 arg10 harg10 arg11 harg11 arg12 harg12 arg13 harg13 x0 x1 x2 x3 x4 xs2 xs3) := by
    unfold out0_B_5 kernelRun0_B
    exact View.read_writes_full _ _ inb_S512x128_S512x128_0_0 _ []
  rw [e]
  generalize kernelRun0_B.sl.v90 (F := Ideal) c i arg2 harg2 arg3 harg3 arg4 harg4 arg5 harg5 arg6 harg6 arg7 harg7 arg8 harg8 arg9 harg9 arg10 harg10 arg11 harg11 arg12 harg12 arg13 harg13 x0 x1 x2 x3 x4 xs2 xs3 = G
  pointwise [k0_pay10]

end Cases

end Cert.Proof.Bwd
-- ==== Proof.BwdRunC.lean ====
/-
  The last query block of a pair of heads.
-/
module

public import proofs.«01_k».proof.Proof.BwdRuns

@[expose] public section

set_option maxRecDepth 16384

noncomputable section

namespace Cert.Proof.Bwd

open Cert.KernelAttnBwdIdeal Cert.KernelAttnBwdIdeal.Gen Idealize.ShloMosaic Idealize.ShloMosaic.TcCoe Idealize.SL.Sem
open Idealize.ShloMosaic.Tactic Cert.Proof.Stick

section Cases

variable (c : Dev nD) (i : grid0.Coords)
  (arg2 : Memref sig .tc .vmem S512x128 .f32) (harg2 : arg2.IsWhole)
  (arg3 : Memref sig .tc .vmem S8192x128 .f32) (harg3 : arg3.IsWhole)
  (arg4 : Memref sig .tc .vmem S8192x128 .f32) (harg4 : arg4.IsWhole)
  (arg5 : Memref sig .tc .vmem S512x128 .f32) (harg5 : arg5.IsWhole)
  (arg6 : Memref sig .tc .vmem S2x512x128 .f32) (harg6 : arg6.IsWhole)
  (arg7 : Memref sig .tc .vmem S512x128 .bf16) (harg7 : arg7.IsWhole)
  (arg8 : Memref sig .tc .vmem S8192x128 .bf16) (harg8 : arg8.IsWhole)
  (arg9 : Memref sig .tc .vmem S8192x128 .bf16) (harg9 : arg9.IsWhole)
  (arg10 : Memref sig .tc .vmem S512x128 .f32) (harg10 : arg10.IsWhole)
  (arg11 : Memref sig .tc .vmem S512x128 .f32) (harg11 : arg11.IsWhole)
  (arg12 : Memref sig .tc .vmem S8192x128 .f32) (harg12 : arg12.IsWhole)
  (arg13 : Memref sig .tc .vmem S8192x128 .f32) (harg13 : arg13.IsWhole)
  {x0 x3 : Vec Ideal S512x128 .f32} {x1 x2 xs2 xs3 : Vec Ideal S8192x128 .f32} {x4 : Vec Ideal S2x512x128 .f32}
  {Q O K V dk₀ dv₀ : ℕ → ℕ → ℝ}

set_option maxHeartbeats 4000000 in
theorem runC (hc0 : ¬cond0_0 i) (hc1 : cond0_1 i) (h : Blocks i x0 x1 x2 x3 x4 Q O K V)
    (h2 : ∀ y, xs2 y = (dk₀ (y 0).val (y 1).val : EReal)) (h3 : ∀ y, xs3 y = (dv₀ (y 0).val (y 1).val : EReal)) :
    Both (headData Q O K V 0) (headData Q O K V 1) (512 * (i 1).val) (128 * (k0_t1_loop i).trips) dk₀ dv₀
      (kernelRun0_C.sl.v90 (F := Ideal) c i arg2 harg2 arg3 harg3 arg4 harg4 arg5 harg5 arg6 harg6 arg7 harg7 arg8 harg8 arg9 harg9 arg10 harg10 arg11 harg11 arg12 harg12 arg13 harg13 x0 x1 x2 x3 x4 xs2 xs3)
      (sout0_C_2 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 xs2 xs3)
      (sout0_C_3 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 xs2 xs3) := by
  unfold sout0_C_2 sout0_C_3 kernelRun0_C
  dsimp only
  sl_unfold_words
  simp only [View.readCov, load_whole, View.writes_append, writes_split, harg2.read_unread, harg5.read_unread]
  refine heads Variants.none c none i arg2 harg2 arg3 harg3 arg4 harg4 arg5 harg5 arg6 harg6 arg7 harg7 arg8 harg8 arg9 harg9 arg10 harg10 arg11 harg11 arg12 harg12 arg13 harg13 _ _ _ (harg3.unread x1) (harg4.unread x2) (harg6.unread x4) _ _ _ _ h.toRows
    (h.reads0 i arg3 harg3 arg4 harg4 arg6 harg6) (h.reads1 i arg3 harg3 arg4 harg4 arg6 harg6) ?_ ?_ ?_ ?_ _ _ _ _ rfl (no_trips2 i) rfl (no_trips4 i)
  · exact filled _ _ inb_S512x128_S512x128_0_0 _ _ hz87
  · exact filled _ _ inb_S512x128_S512x128_0_0 _ _ hz82
  · rw [harg12.read_unread]; exact h2
  · rw [harg13.read_unread]; exact h3

/-- The queries' gradient block. -/
theorem outDqC (hc0 : ¬cond0_0 i) (hc1 : cond0_1 i) (y : S512x128.Idx) :
    out0_C_5 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 xs2 xs3 y
      = kernelRun0_C.sl.v90 (F := Ideal) c i arg2 harg2 arg3 harg3 arg4 harg4 arg5 harg5 arg6 harg6 arg7 harg7 arg8 harg8 arg9 harg9 arg10 harg10 arg11 harg11 arg12 harg12 arg13 harg13 x0 x1 x2 x3 x4 xs2 xs3 y * Ideal.ofBits .f32 1040187392#32 := by
  have e : out0_C_5 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 xs2 xs3
      = k0_pay10 (kernelRun0_C.sl.v90 (F := Ideal) c i arg2 harg2 arg3 harg3 arg4 harg4 arg5 harg5 arg6 harg6 arg7 harg7 arg8 harg8 arg9 harg9 arg10 harg10 arg11 harg11 arg12 harg12 arg13 harg13 x0 x1 x2 x3 x4 xs2 xs3) := by
    unfold out0_C_5 kernelRun0_C
    exact View.read_writes_full _ _ inb_S512x128_S512x128_0_0 _ []
  rw [e]
  generalize kernelRun0_C.sl.v90 (F := Ideal) c i arg2 harg2 arg3 harg3 arg4 harg4 arg5 harg5 arg6 harg6 arg7 harg7 arg8 harg8 arg9 harg9 arg10 harg10 arg11 harg11 arg12 harg12 arg13 harg13 x0 x1 x2 x3 x4 xs2 xs3 = G
  pointwise [k0_pay10]

/-- The whole gradient, copied out. -/
theorem copy6 (hc0 : ¬cond0_0 i) (hc1 : cond0_1 i) :
    out0_C_6 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 xs2 xs3 = sout0_C_2 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 xs2 xs3 := by
  have e : out0_C_6 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 xs2 xs3
      = k0_pay11 (kernelRun0_C.sl.v98 (F := Ideal) c i arg2 harg2 arg3 harg3 arg4 harg4 arg5 harg5 arg6 harg6 arg7 harg7 arg8 harg8 arg9 harg9 arg10 harg10 arg11 harg11 arg12 harg12 arg13 harg13 x0 x1 x2 x3 x4 xs2 xs3) := by
    unfold out0_C_6 kernelRun0_C
    exact View.read_writes_full _ _ inb_S8192x128_S8192x128_0_0 _ []
  have e' : kernelRun0_C.sl.v98 (F := Ideal) c i arg2 harg2 arg3 harg3 arg4 harg4 arg5 harg5 arg6 harg6 arg7 harg7 arg8 harg8 arg9 harg9 arg10 harg10 arg11 harg11 arg12 harg12 arg13 harg13 x0 x1 x2 x3 x4 xs2 xs3
      = sout0_C_2 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 xs2 xs3 := by
    unfold sout0_C_2 kernelRun0_C.sl.v98
    exact View.readAt_full _ _ inb_S8192x128_S8192x128_0_0
  rw [e, e']
  rfl

/-- The whole gradient, copied out. -/
theorem copy7 (hc0 : ¬cond0_0 i) (hc1 : cond0_1 i) :
    out0_C_7 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 xs2 xs3 = sout0_C_3 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 xs2 xs3 := by
  have e : out0_C_7 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 xs2 xs3
      = k0_pay12 (kernelRun0_C.sl.v101 (F := Ideal) c i arg2 harg2 arg3 harg3 arg4 harg4 arg5 harg5 arg6 harg6 arg7 harg7 arg8 harg8 arg9 harg9 arg10 harg10 arg11 harg11 arg12 harg12 arg13 harg13 x0 x1 x2 x3 x4 xs2 xs3) := by
    unfold out0_C_7 kernelRun0_C
    exact View.read_writes_full _ _ inb_S8192x128_S8192x128_0_0 _ []
  have e' : kernelRun0_C.sl.v101 (F := Ideal) c i arg2 harg2 arg3 harg3 arg4 harg4 arg5 harg5 arg6 harg6 arg7 harg7 arg8 harg8 arg9 harg9 arg10 harg10 arg11 harg11 arg12 harg12 arg13 harg13 x0 x1 x2 x3 x4 xs2 xs3
      = sout0_C_3 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 xs2 xs3 := by
    unfold sout0_C_3 kernelRun0_C.sl.v101
    exact View.readAt_full _ _ inb_S8192x128_S8192x128_0_0
  rw [e, e']
  rfl

end Cases

end Cert.Proof.Bwd
-- ==== Proof.BwdSweep.lean ====
/-
  The sweep of the backward attention kernel over the query blocks of each pair of heads: every block of the queries'
  gradient, and the keys' and values' gradients after the rows seen so far.
-/
module

public import proofs.«01_k».proof.Proof.Gen.KernelAttnBwdIdeal.Value
public import proofs.«01_k».proof.Proof.BwdRunA
public import proofs.«01_k».proof.Proof.BwdRunB
public import proofs.«01_k».proof.Proof.BwdRunC

@[expose] public section

set_option maxRecDepth 8192

noncomputable section

namespace Cert.Proof.Bwd

open Cert.KernelAttnBwdIdeal Cert.KernelAttnBwdIdeal.Gen Idealize.ShloMosaic Idealize.ShloMosaic.TcCoe Idealize.SL.Sem
open Cert.Proof.Stick Finset

/-- The numbers of head `h` of pair `p`, from the projections `P` and the output's gradient `O`. -/
abbrev pairData (P O : ℕ → ℕ → ℝ) (p h : ℕ) : Data :=
  headData (fun t l => P t (1536 + (128 * p + l))) (fun t l => O t (128 * p + l)) (fun t l => P t (2048 + (128 * p + l)))
    (fun t l => P t (2560 + (128 * p + l))) h

/-- The rows before `R` in the gradient of key `s`, and of value `s`, of a pair of heads. -/
def keyGrad (P O : ℕ → ℕ → ℝ) (p R s l : ℕ) : ℝ :=
  ∑ t ∈ range R, ((pairData P O p 0).dz t s * (pairData P O p 0).q t l + (pairData P O p 1).dz t s * (pairData P O p 1).q t l)
def valueGrad (P O : ℕ → ℕ → ℝ) (p R s l : ℕ) : ℝ :=
  ∑ t ∈ range R, ((pairData P O p 0).wt t s * (pairData P O p 0).d t l + (pairData P O p 1).wt t s * (pairData P O p 1).d t l)

theorem Data.dz_of_le (D : Data) {t s : ℕ} (h : t ≤ s) : D.dz t s = 0 := if_neg (by omega)
theorem Data.wt_of_le (D : Data) {t s : ℕ} (h : t ≤ s) : D.wt t s = 0 := if_neg (by omega)

theorem Data.dkTo_eq (D : Data) {T b : ℕ} (h : T + 512 ≤ b) (s l : ℕ) :
    D.dkTo T b s l = ∑ r ∈ range 512, D.dz (T + r) s * D.q (T + r) l := by
  rw [Finset.sum_range]
  unfold Data.dkTo
  split
  · rfl
  · exact (sum_eq_zero fun r _ => by rw [D.dz_of_le (by have := r.isLt; omega), zero_mul]).symm

theorem Data.dvTo_eq (D : Data) {T b : ℕ} (h : T + 512 ≤ b) (s l : ℕ) :
    D.dvTo T b s l = ∑ r ∈ range 512, D.wt (T + r) s * D.d (T + r) l := by
  rw [Finset.sum_range]
  unfold Data.dvTo
  split
  · rfl
  · exact (sum_eq_zero fun r _ => by rw [D.wt_of_le (by have := r.isLt; omega), zero_mul]).symm

theorem keyGrad_step (P O : ℕ → ℕ → ℝ) (p q b s l : ℕ) (h : 512 * q + 512 ≤ b) :
    keyGrad P O p (512 * q) s l + (pairData P O p 0).dkTo (512 * q) b s l + (pairData P O p 1).dkTo (512 * q) b s l
      = keyGrad P O p (512 * (q + 1)) s l := by
  unfold keyGrad
  rw [Data.dkTo_eq _ h, Data.dkTo_eq _ h, Nat.mul_succ, sum_range_add, sum_add_distrib (s := range 512)]
  ring

theorem valueGrad_step (P O : ℕ → ℕ → ℝ) (p q b s l : ℕ) (h : 512 * q + 512 ≤ b) :
    valueGrad P O p (512 * q) s l + (pairData P O p 0).dvTo (512 * q) b s l + (pairData P O p 1).dvTo (512 * q) b s l
      = valueGrad P O p (512 * (q + 1)) s l := by
  unfold valueGrad
  rw [Data.dvTo_eq _ h, Data.dvTo_eq _ h, Nat.mul_succ, sum_range_add, sum_add_distrib (s := range 512)]
  ring

variable (m : (ℓ : Loc nD τ sig) → Buf (Elt Ideal) ℓ)

/-- The kernel's inputs as real numbers, the saved sums those of the keys that follow each block. -/
structure Inputs (c : Dev nD) (P O : ℕ → ℕ → ℝ) : Prop where
  proj : ∀ y : S8192x5120.Idx, m ((c : Thread nD τ).loc main_arg0) y = (P (y 0).val (y 1).val : EReal)
  out : ∀ y : S8192x512.Idx, m ((c : Thread nD τ).loc main_arg1) y = (O (y 0).val (y 1).val : EReal)
  sums : ∀ y : S8x8192x128.Idx, (y 2).val < 64 → (V m c main_v23 : Vec Ideal S8x8192x128 .f32) y
    = (suf (dots (pairData P O ((y 0).val / 2) ((y 0).val % 2)).q (pairData P O ((y 0).val / 2) 0).k) (y 1).val (128 * ((y 2).val + 1)) : EReal)

theorem idx_facts : ∀ t : Fin grid0.N,
    (win0_0.index t 0 = t.val % 16 ∧ win0_0.index t 1 = 12 + t.val / 16) ∧ (win0_1.index t 0 = 0 ∧ win0_1.index t 1 = 16 + t.val / 16)
    ∧ (win0_2.index t 0 = 0 ∧ win0_2.index t 1 = 20 + t.val / 16) ∧ (win0_3.index t 0 = t.val % 16 ∧ win0_3.index t 1 = t.val / 16)
    ∧ (win0_4.index t 0 = t.val / 16 ∧ win0_4.index t 1 = t.val % 16 ∧ win0_4.index t 2 = 0) := by decide +kernel

variable {m} {c : Dev nD} {P O : ℕ → ℕ → ℝ}

set_option maxHeartbeats 4000000 in
theorem Inputs.blocks (h : Inputs m c P O) (t : Fin cfg0.N) :
    Blocks (grid0.coords t) (iblk m c 0 t) (iblk m c 1 t) (iblk m c 2 t) (iblk m c 3 t) (iblk m c 4 t)
      (fun r l => P r (1536 + (128 * (t.val / 16) + l))) (fun r l => O r (128 * (t.val / 16) + l))
      (fun r l => P r (2048 + (128 * (t.val / 16) + l))) (fun r l => P r (2560 + (128 * (t.val / 16) + l))) := by
  have ht : t.val < 64 := Nat.lt_of_lt_of_eq t.isLt N_0
  have e1 : (grid0.coords t 1).val = t.val / 1 % 16 := Pipeline.Grid.coords_val t 1 (by decide) rfl
  have F := idx_facts t
  refine ⟨⟨fun y => ?_, fun y => ?_⟩, fun y => ?_, fun y => ?_, fun y hy => ?_⟩
  · unfold iblk
    rw [View.read_apply]
    show V m c main_arg0 _ = _
    rw [V_main_arg0]
    refine (h.proj _).trans (congrArg _ (congrArg₂ P ?_ ?_))
    · show win0_0.index t 0 * 512 + 1 * (y 0).val = _
      rw [F.1.1, e1]; omega
    · show win0_0.index t 1 * 128 + 1 * (y 1).val = _
      rw [F.1.2]; omega
  · unfold iblk
    rw [View.read_apply]
    show V m c main_arg1 _ = _
    rw [V_main_arg1]
    refine (h.out _).trans (congrArg _ (congrArg₂ O ?_ ?_))
    · show win0_3.index t 0 * 512 + 1 * (y 0).val = _
      rw [F.2.2.2.1.1, e1]; omega
    · show win0_3.index t 1 * 128 + 1 * (y 1).val = _
      rw [F.2.2.2.1.2]; omega
  · unfold iblk
    rw [View.read_apply]
    show V m c main_arg0 _ = _
    rw [V_main_arg0]
    refine (h.proj _).trans (congrArg _ (congrArg₂ P ?_ ?_))
    · show win0_1.index t 0 * 8192 + 1 * (y 0).val = _
      rw [F.2.1.1]; omega
    · show win0_1.index t 1 * 128 + 1 * (y 1).val = _
      rw [F.2.1.2]; omega
  · unfold iblk
    rw [View.read_apply]
    show V m c main_arg0 _ = _
    rw [V_main_arg0]
    refine (h.proj _).trans (congrArg _ (congrArg₂ P ?_ ?_))
    · show win0_2.index t 0 * 8192 + 1 * (y 0).val = _
      rw [F.2.2.1.1]; omega
    · show win0_2.index t 1 * 128 + 1 * (y 1).val = _
      rw [F.2.2.1.2]; omega
  · unfold iblk
    rw [View.read_apply]
    show V m c main_v23 _ = _
    have hy0 : (y 0).val < 2 := (y 0).isLt
    have a0 : ((((cfg0.win 4).blk t).view.emb y) 0).val = 2 * (t.val / 16) + (y 0).val := by
      show win0_4.index t 0 * 2 + 1 * (y 0).val = _
      rw [F.2.2.2.2.1]; omega
    have a1 : ((((cfg0.win 4).blk t).view.emb y) 1).val = 512 * (grid0.coords t 1).val + (y 1).val := by
      show win0_4.index t 1 * 512 + 1 * (y 1).val = _
      rw [F.2.2.2.2.2.1, e1]; omega
    have a2 : ((((cfg0.win 4).blk t).view.emb y) 2).val = (y 2).val := by
      show win0_4.index t 2 * 128 + 1 * (y 2).val = _
      rw [F.2.2.2.2.2.2]; omega
    refine (h.sums _ (by rw [a2]; exact hy)).trans ?_
    rw [a0, a1, a2, show (2 * (t.val / 16) + (y 0).val) / 2 = t.val / 16 by omega, show (2 * (t.val / 16) + (y 0).val) % 2 = (y 0).val by omega]
    rfl

/-- What a point leaves: its block of the queries' gradient, and the keys' and values' over the rows so far. -/
def Swept (P O : ℕ → ℕ → ℝ) (p q : ℕ) (X : Vec Ideal S512x128 .bf16 × Vec Ideal S8192x128 .bf16 × Vec Ideal S8192x128 .bf16
    × Vec Ideal S8192x128 .f32 × Vec Ideal S8192x128 .f32) : Prop :=
  (∀ y, X.1 y = ((((pairData P O p 0).dqTo (512 * (q + 1)) (512 * q + (y 0).val) (y 1).val
      + (pairData P O p 1).dqTo (512 * (q + 1)) (512 * q + (y 0).val) (y 1).val) * (1 / 8) : ℝ) : EReal))
  ∧ (∀ y, X.2.2.2.1 y = (keyGrad P O p (512 * (q + 1)) (y 0).val (y 1).val : EReal))
  ∧ (∀ y, X.2.2.2.2 y = (valueGrad P O p (512 * (q + 1)) (y 0).val (y 1).val : EReal))

theorem swept_of {p q : ℕ} {T b : ℕ} {dk₀ dv₀ : ℕ → ℕ → ℝ} {G : Vec Ideal S512x128 .f32} {o5 : Vec Ideal S512x128 .bf16}
    {o6 o7 : Vec Ideal S8192x128 .bf16} {s2 s3 : Vec Ideal S8192x128 .f32}
    (hT : T = 512 * q) (hb : b = 512 * (q + 1)) (h0 : ∀ s l, dk₀ s l = keyGrad P O p (512 * q) s l)
    (h1 : ∀ s l, dv₀ s l = valueGrad P O p (512 * q) s l)
    (H : Both (pairData P O p 0) (pairData P O p 1) T b dk₀ dv₀ G s2 s3)
    (hG : ∀ y, o5 y = G y * Ideal.ofBits .f32 1040187392#32) : Swept P O p q (o5, o6, o7, s2, s3) := by
  subst hT hb
  refine ⟨fun y => ?_, fun y => ?_, fun y => ?_⟩
  · show o5 y = _
    rw [hG, H.dq, ofBits_eighth, ← EReal.coe_mul]
  · show s2 y = _
    rw [H.dk, h0, keyGrad_step P O p q _ _ _ (by omega)]
  · show s3 y = _
    rw [H.dv, h1, valueGrad_step P O p q _ _ _ (by omega)]

theorem of_parts {α β γ : Type} {X : α × β × γ × β × γ} {a : α} {b d : β} {g f : γ} (e : X = (a, b, g, d, f)) (h : b = d) (h' : g = f) :
    X.2.1 = X.2.2.2.1 ∧ X.2.2.1 = X.2.2.2.2 := by subst e; exact ⟨h, h'⟩

theorem blocks_of (t : Fin cfg0.N) : 128 * (k0_t1_loop (grid0.coords t)).trips = 512 * (t.val % 16 + 1) := by
  have e1 : (grid0.coords t 1).val = t.val / 1 % 16 := Pipeline.Grid.coords_val t 1 (by decide) rfl
  rw [trips_eq, e1]; omega

theorem rows_of (t : Fin cfg0.N) : 512 * (grid0.coords t 1).val = 512 * (t.val % 16) := by
  have e1 : (grid0.coords t 1).val = t.val / 1 % 16 := Pipeline.Grid.coords_val t 1 (by decide) rfl
  rw [e1]; omega

set_option maxHeartbeats 4000000 in
/-- Every point. -/
theorem swept (h : Inputs m c P O) : ∀ (n : ℕ) (hn : n < cfg0.N), Swept P O (n / 16) (n % 16) (outsAt0 m c n hn) := by
  intro n
  induction n with
  | zero =>
    intro hn
    rw [outsAt0_A m c ⟨0, hn⟩ (by rfl) (by show ¬ (0 % 16 = 15); omega)]
    exact swept_of (rows_of ⟨0, hn⟩) (blocks_of ⟨0, hn⟩) (fun s l => by simp [keyGrad]) (fun s l => by simp [valueGrad])
      (runA c _ _ _ _ _ _ _ _ _ _ _ _ _ _ _ _ _ _ _ _ _ _ _ _ _ _ _ (h.blocks ⟨0, hn⟩))
      (outDqA c _ _ _ _ _ _ _ _ _ _ _ _ _ _ _ _ _ _ _ _ _ _ _ _ _ _ _)
  | succ n ih =>
    intro hn
    have hN : n + 1 < 64 := Nat.lt_of_lt_of_eq hn N_0
    by_cases h0 : (n + 1) % 16 = 0
    · rw [outsAt0_A m c ⟨n + 1, hn⟩ h0 (by show ¬ ((n + 1) % 16 = 15); omega)]
      exact swept_of (rows_of ⟨n + 1, hn⟩) (blocks_of ⟨n + 1, hn⟩) (fun s l => by rw [h0]; simp [keyGrad])
        (fun s l => by rw [h0]; simp [valueGrad])
        (runA c _ _ _ _ _ _ _ _ _ _ _ _ _ _ _ _ _ _ _ _ _ _ _ _ _ _ _ (h.blocks ⟨n + 1, hn⟩))
        (outDqA c _ _ _ _ _ _ _ _ _ _ _ _ _ _ _ _ _ _ _ _ _ _ _ _ _ _ _)
    · have S := ih (Nat.lt_of_succ_lt hn)
      rw [show n / 16 = (n + 1) / 16 by omega] at S
      have e : n % 16 + 1 = (n + 1) % 16 := by omega
      have S1 := S.2.1
      have S2 := S.2.2
      rw [e] at S1 S2
      by_cases h1 : (n + 1) % 16 = 15
      · rw [outsAt0_C m c ⟨n + 1, hn⟩ h0 h1]
        exact swept_of (rows_of ⟨n + 1, hn⟩) (blocks_of ⟨n + 1, hn⟩) (fun _ _ => rfl) (fun _ _ => rfl)
          (runC c _ _ _ _ _ _ _ _ _ _ _ _ _ _ _ _ _ _ _ _ _ _ _ _ _ _ _ (h.blocks ⟨n + 1, hn⟩) S1 S2)
          (outDqC c _ _ _ _ _ _ _ _ _ _ _ _ _ _ _ _ _ _ _ _ _ _ _ _ _ _ _)
      · rw [outsAt0_B m c ⟨n + 1, hn⟩ h0 h1]
        exact swept_of (rows_of ⟨n + 1, hn⟩) (blocks_of ⟨n + 1, hn⟩) (fun _ _ => rfl) (fun _ _ => rfl)
          (runB c _ _ _ _ _ _ _ _ _ _ _ _ _ _ _ _ _ _ _ _ _ _ _ _ _ _ _ (h.blocks ⟨n + 1, hn⟩) S1 S2)
          (outDqB c _ _ _ _ _ _ _ _ _ _ _ _ _ _ _ _ _ _ _ _ _ _ _ _ _ _ _)

set_option maxHeartbeats 4000000 in
/-- The last point of a pair copies the running gradients out. -/
theorem copied (h : Inputs m c P O) (n : ℕ) (hn : n < cfg0.N) (h1 : n % 16 = 15) :
    (∀ y, (outsAt0 m c n hn).2.1 y = (keyGrad P O (n / 16) 8192 (y 0).val (y 1).val : EReal))
    ∧ (∀ y, (outsAt0 m c n hn).2.2.1 y = (valueGrad P O (n / 16) 8192 (y 0).val (y 1).val : EReal)) := by
  have S := swept h n hn
  rw [h1] at S
  obtain ⟨e6, e7⟩ := of_parts (outsAt0_C m c ⟨n, hn⟩ (show ¬ n % 16 = 0 by omega) h1)
    (copy6 c _ _ _ _ _ _ _ _ _ _ _ _ _ _ _ _ _ _ _ _ _ _ _ _ _ _ _)
    (copy7 c _ _ _ _ _ _ _ _ _ _ _ _ _ _ _ _ _ _ _ _ _ _ _ _ _ _ _)
  exact ⟨fun y => (congrFun e6 y).trans (S.2.1 y), fun y => (congrFun e7 y).trans (S.2.2 y)⟩

end Cert.Proof.Bwd
-- ==== Proof.Window.lean ====
/-
  Running sums along the last of three axes, as the host takes them over a window, at real entries.
-/
module

public import Idealize.ShloMosaic.PureOps
public import Idealize.ShloMosaic.Shape
public import proofs.«01_k».proof.Proof.Reals

@[expose] public section

noncomputable section

namespace Cert.Proof.Stick

open Idealize.ShloMosaic Finset

/-- Folding real summands adds their sum. -/
theorem foldl_add_coe {α : Type} (g : α → EReal) (f : α → ℝ) : ∀ (l : List α) (r : ℝ), (∀ n ∈ l, g n = (f n : EReal)) →
    l.foldl (fun r n => r + g n) (r : EReal) = ((r + (l.map f).sum : ℝ) : EReal)
  | [], r, _ => by simp
  | a :: l, r, h => by
    rw [List.foldl_cons, h a (List.mem_cons_self ..), ← EReal.coe_add,
      foldl_add_coe g f l (r + f a) fun n hn => h n (List.mem_cons_of_mem _ hn), List.map_cons, List.sum_cons, add_assoc]

/-- A window along the last axis. -/
theorem window_last {A B W lo hi : ℕ} (x : FVec Ideal ⟨3, ![A, B, W]⟩ .f32) (f : ℕ → ℕ → ℕ → ℝ)
    (hx : ∀ i : Shape.Idx ⟨3, ![A, B, W]⟩, x i = (f (i 0).val (i 1).val (i 2).val : EReal))
    {u : Shape} (init : u.Idx → Ideal .f32) (hu : 0 < u.numel) (hinit : init (Shape.Idx.first hu) = ((0 : ℝ) : EReal))
    (h : Shape.ReduceWindows (s := ⟨3, ![A, B, W]⟩) ![1, 1, W] ![1, 1, 1] ![0, 0, lo] ![0, 0, hi] ⟨3, ![A, B, W]⟩)
    (j : Shape.Idx ⟨3, ![A, B, W]⟩) :
    Host.reduceWindowAdd (s := ⟨3, ![A, B, W]⟩) (t := ⟨3, ![A, B, W]⟩) (φ := .f32) ![1, 1, W] ![1, 1, 1] ![0, 0, lo] ![0, 0, hi] x init h hu j
      = ((∑ n ∈ range W, if lo ≤ (j 2).val + n ∧ (j 2).val + n - lo < W then f (j 0).val (j 1).val ((j 2).val + n - lo) else 0 : ℝ) : EReal) := by
  unfold Host.reduceWindowAdd
  rw [Ideal.hostReduceWindowAdd_def]
  unfold Ideal.hostReduceWindowAdd Host.reduceWindow
  have hv : (init (Shape.Idx.first hu) : EReal) = ((0 : ℝ) : EReal) := hinit
  have hW : Shape.numel ⟨3, ![1, 1, W]⟩ = W := by simp [Shape.numel, Fin.prod_univ_succ]
  dsimp only
  rw [hv]
  refine (foldl_add_coe _ (fun n : Fin (Shape.numel ⟨3, ![1, 1, W]⟩) =>
    if lo ≤ (j 2).val + n.val ∧ (j 2).val + n.val - lo < W then f (j 0).val (j 1).val ((j 2).val + n.val - lo) else 0) _ 0 fun n _ => ?_).trans ?_
  · have j0 : (j 0).val < A := (j 0).isLt
    have j1 : (j 1).val < B := (j 1).isLt
    have e := Shape.rowMajor_val_three ((Shape.rowMajor ⟨3, ![1, 1, W]⟩).symm n)
    rw [Equiv.apply_symm_apply] at e
    have w0 : ((Shape.rowMajor ⟨3, ![1, 1, W]⟩).symm n 0).val = 0 := Nat.lt_one_iff.1 ((Shape.rowMajor ⟨3, ![1, 1, W]⟩).symm n 0).isLt
    have w1 : ((Shape.rowMajor ⟨3, ![1, 1, W]⟩).symm n 1).val = 0 := Nat.lt_one_iff.1 ((Shape.rowMajor ⟨3, ![1, 1, W]⟩).symm n 1).isLt
    rw [w0, w1] at e
    have w2 : ((Shape.rowMajor ⟨3, ![1, 1, W]⟩).symm n 2).val = n.val := by rw [e]; simp
    split
    · next hin =>
      have h2 := hin 2
      change lo ≤ (j 2).val * 1 + ((Shape.rowMajor ⟨3, ![1, 1, W]⟩).symm n 2).val
        ∧ (j 2).val * 1 + ((Shape.rowMajor ⟨3, ![1, 1, W]⟩).symm n 2).val - lo < W at h2
      rw [w2, Nat.mul_one] at h2
      rw [if_pos h2, hx]
      have a0 : (j 0).val * 1 + ((Shape.rowMajor ⟨3, ![1, 1, W]⟩).symm n 0).val - 0 = (j 0).val := by rw [w0]; omega
      have a1 : (j 1).val * 1 + ((Shape.rowMajor ⟨3, ![1, 1, W]⟩).symm n 1).val - 0 = (j 1).val := by rw [w1]; omega
      have a2 : (j 2).val * 1 + ((Shape.rowMajor ⟨3, ![1, 1, W]⟩).symm n 2).val - lo = (j 2).val + n.val - lo := by rw [w2]; omega
      exact congrArg _ ((congrArg₂ (fun a b => f a b _) a0 a1).trans (congrArg _ a2))
    · next hin =>
      rw [if_neg fun hle => hin fun a => by
        match a with
        | ⟨0, _⟩ =>
          show 0 ≤ (j 0).val * 1 + ((Shape.rowMajor ⟨3, ![1, 1, W]⟩).symm n 0).val
            ∧ (j 0).val * 1 + ((Shape.rowMajor ⟨3, ![1, 1, W]⟩).symm n 0).val - 0 < A
          rw [w0]; omega
        | ⟨1, _⟩ =>
          show 0 ≤ (j 1).val * 1 + ((Shape.rowMajor ⟨3, ![1, 1, W]⟩).symm n 1).val
            ∧ (j 1).val * 1 + ((Shape.rowMajor ⟨3, ![1, 1, W]⟩).symm n 1).val - 0 < B
          rw [w1]; omega
        | ⟨2, _⟩ =>
          show lo ≤ (j 2).val * 1 + ((Shape.rowMajor ⟨3, ![1, 1, W]⟩).symm n 2).val
            ∧ (j 2).val * 1 + ((Shape.rowMajor ⟨3, ![1, 1, W]⟩).symm n 2).val - lo < W
          rw [w2, Nat.mul_one]; exact hle]
  · rw [zero_add, ← Fin.sum_univ_def, Fin.sum_univ_eq_sum_range (fun n =>
      if lo ≤ (j 2).val + n ∧ (j 2).val + n - lo < W then f (j 0).val (j 1).val ((j 2).val + n - lo) else 0), hW]

/-- The sum from the place on. -/
theorem window_from {A B W hi : ℕ} (x : FVec Ideal ⟨3, ![A, B, W]⟩ .f32) (f : ℕ → ℕ → ℕ → ℝ)
    (hx : ∀ i : Shape.Idx ⟨3, ![A, B, W]⟩, x i = (f (i 0).val (i 1).val (i 2).val : EReal))
    {u : Shape} (init : u.Idx → Ideal .f32) (hu : 0 < u.numel) (hinit : init (Shape.Idx.first hu) = ((0 : ℝ) : EReal))
    (h : Shape.ReduceWindows (s := ⟨3, ![A, B, W]⟩) ![1, 1, W] ![1, 1, 1] ![0, 0, 0] ![0, 0, hi] ⟨3, ![A, B, W]⟩)
    (j : Shape.Idx ⟨3, ![A, B, W]⟩) :
    Host.reduceWindowAdd (s := ⟨3, ![A, B, W]⟩) (t := ⟨3, ![A, B, W]⟩) (φ := .f32) ![1, 1, W] ![1, 1, 1] ![0, 0, 0] ![0, 0, hi] x init h hu j
      = ((∑ s ∈ Ico (j 2).val W, f (j 0).val (j 1).val s : ℝ) : EReal) := by
  have j2 : (j 2).val < W := (j 2).isLt
  rw [window_last x f hx init hu hinit h j, sum_Ico_eq_sum_range, ← sum_filter]
  refine congrArg _ (sum_congr (ext fun n => ?_) fun _ _ => rfl)
  rw [mem_filter, mem_range, mem_range]
  omega

/-- The sum up to and including the place. -/
theorem window_to {A B W lo : ℕ} (hlo : lo + 1 = W) (x : FVec Ideal ⟨3, ![A, B, W]⟩ .f32) (f : ℕ → ℕ → ℕ → ℝ)
    (hx : ∀ i : Shape.Idx ⟨3, ![A, B, W]⟩, x i = (f (i 0).val (i 1).val (i 2).val : EReal))
    {u : Shape} (init : u.Idx → Ideal .f32) (hu : 0 < u.numel) (hinit : init (Shape.Idx.first hu) = ((0 : ℝ) : EReal))
    (h : Shape.ReduceWindows (s := ⟨3, ![A, B, W]⟩) ![1, 1, W] ![1, 1, 1] ![0, 0, lo] ![0, 0, 0] ⟨3, ![A, B, W]⟩)
    (j : Shape.Idx ⟨3, ![A, B, W]⟩) :
    Host.reduceWindowAdd (s := ⟨3, ![A, B, W]⟩) (t := ⟨3, ![A, B, W]⟩) (φ := .f32) ![1, 1, W] ![1, 1, 1] ![0, 0, lo] ![0, 0, 0] x init h hu j
      = ((∑ s ∈ range ((j 2).val + 1), f (j 0).val (j 1).val s : ℝ) : EReal) := by
  have j2 : (j 2).val < W := (j 2).isLt
  rw [window_last x f hx init hu hinit h j, ← sum_filter]
  refine congrArg _ (sum_nbij' (fun n => (j 2).val + n - lo) (fun s => s + lo - (j 2).val) (fun n hn => ?_) (fun s hs => ?_) (fun n hn => ?_)
    (fun s hs => ?_) fun n hn => rfl)
  · rw [mem_filter, mem_range] at hn; rw [mem_range]; omega
  · rw [mem_range] at hs; rw [mem_filter, mem_range]; omega
  · rw [mem_filter, mem_range] at hn; show _ + lo - _ = n; omega
  · rw [mem_range] at hs; show _ + _ - lo = s; omega

end Cert.Proof.Stick
-- ==== Proof.BwdRef.lean ====
/-
  The reference of the backward attention read at an index: its three results as sums over keys and rows of the
  gradients of the scores and of the weights, at real arguments.
-/
module

public import proofs.«01_k».proof.Proof.Gen.ReferenceAttnBwdIdeal.Read
public import proofs.«01_k».proof.Proof.Window

@[expose] public section

set_option maxRecDepth 8192

noncomputable section

namespace Cert.Proof.Ref

open Cert.ReferenceAttnBwdIdeal Cert.ReferenceAttnBwdIdeal.Gen Cert.ReferenceAttnBwdIdeal.Read Idealize.ShloMosaic Idealize.ShloMosaic.TcCoe
open Cert.Proof.Stick Finset

/-- The score of head `h`, row `t`, key `s`. -/
def score (P : ℕ → ℕ → ℝ) (h t s : ℕ) : ℝ := (∑ d : Fin 64, P t (1536 + (64 * h + d.val)) * P s (2048 + (64 * h + d.val))) * (1 / 8)

/-- The gradient of head `h`'s weight of key `s` in row `t`. -/
def back (P O : ℕ → ℕ → ℝ) (h t s : ℕ) : ℝ := ∑ d : Fin 64, O t (64 * h + d.val) * P s (2560 + (64 * h + d.val))

/-- `log (1 + exp x)` as the host writes it, `o` its zero. -/
def softplus (o x : EReal) : EReal :=
  Scalar.select (Ideal.cmp .une (x - o) (x - o)) (x + o) (max x o + Ideal.log1p (Ideal.exp (-(max (x - o) (-(x - o))))))

/-- `exp` of what is left of `x` below its `softplus`, `t` standing for the top. -/
def sigmoid (o t x : EReal) : EReal :=
  Ideal.exp (Scalar.select (Ideal.cmp .oeq x t) o x - Scalar.select (Ideal.cmp .oeq (softplus o x) t) o (softplus o x))

theorem softplus_coe (x : ℝ) : softplus (Ideal.ofBits .f32 0#32) (x : EReal) = ((Real.log (1 + Real.exp x) : ℝ) : EReal) := by
  have p : ¬ (1 + Real.exp (-|x|) ≤ 0) := not_le.2 (one_add_exp_pos _)
  have e : Ideal.ofBits .f32 0#32 = (0 : EReal) := by simp [Ideal.ofBits, Ideal.ieee]
  have c : ∀ y : EReal, Ideal.cmp .une y y = 0#1 := fun y => by simp [Ideal.cmp]
  unfold softplus Ideal.log1p
  rw [e, c, sub_zero, max_neg_coe, max_zero_coe, ← EReal.coe_neg |x|, Ideal.exp_coe, ← EReal.coe_one, ← EReal.coe_add, Ideal.log_coe, if_neg p,
    ← EReal.coe_add, max_add_log]
  rfl

theorem sigmoid_coe (x : ℝ) : sigmoid (Ideal.ofBits .f32 0#32) (Ideal.ofBits .f32 2139095040#32) (x : EReal) = (sg x : EReal) := by
  have e : Ideal.ofBits .f32 2139095040#32 = (⊤ : EReal) := by simp [Ideal.ofBits, Ideal.ieee]
  have c : ∀ y : ℝ, Ideal.cmp .oeq (y : EReal) ⊤ = 0#1 := fun y => by simp [Ideal.cmp]
  unfold sigmoid
  rw [softplus_coe, e, c, c, sg_eq_exp]
  show Ideal.exp ((x : EReal) - ((Real.log (1 + Real.exp x) : ℝ) : EReal)) = _
  rw [← EReal.coe_sub, Ideal.exp_coe]

variable {x0 : (⟨S8192x5120, .f32⟩ : BufTy).Contents (Elt Ideal)} {x1 : (⟨S8192x512, .f32⟩ : BufTy).Contents (Elt Ideal)} {P O : ℕ → ℕ → ℝ}

/-! ## The columns of a head -/

section
variable (hx : ∀ y : S8192x5120.Idx, x0 y = (P (y 0).val (y 1).val : EReal))
include hx

theorem query (i : S8192x8x64.Idx) : val_main_v1 (F := Ideal) x0 i = (P (i 0).val (1536 + (64 * (i 1).val + (i 2).val)) : EReal) := by
  have h1 : (i 1).val < 8 := (i 1).isLt
  have h2 : (i 2).val < 64 := (i 2).isLt
  rw [val_main_v1_apply, val_main_v0_apply, hx]
  refine congrArg _ (congrArg₂ P ?_ ?_)
  · show (((i 0).val * 8 + (i 1).val) * 64 + (i 2).val) / 512 = _; omega
  · show 1536 + (((i 0).val * 8 + (i 1).val) * 64 + (i 2).val) % 512 = _; omega

theorem key (i : S8192x8x64.Idx) : val_main_v3 (F := Ideal) x0 i = (P (i 0).val (2048 + (64 * (i 1).val + (i 2).val)) : EReal) := by
  have h1 : (i 1).val < 8 := (i 1).isLt
  have h2 : (i 2).val < 64 := (i 2).isLt
  rw [val_main_v3_apply, val_main_v2_apply, hx]
  refine congrArg _ (congrArg₂ P ?_ ?_)
  · show (((i 0).val * 8 + (i 1).val) * 64 + (i 2).val) / 512 = _; omega
  · show 2048 + (((i 0).val * 8 + (i 1).val) * 64 + (i 2).val) % 512 = _; omega

theorem value (i : S8192x8x64.Idx) : val_main_v5 (F := Ideal) x0 i = (P (i 0).val (2560 + (64 * (i 1).val + (i 2).val)) : EReal) := by
  have h1 : (i 1).val < 8 := (i 1).isLt
  have h2 : (i 2).val < 64 := (i 2).isLt
  rw [val_main_v5_apply, val_main_v4_apply, hx]
  refine congrArg _ (congrArg₂ P ?_ ?_)
  · show (((i 0).val * 8 + (i 1).val) * 64 + (i 2).val) / 512 = _; omega
  · show 2560 + (((i 0).val * 8 + (i 1).val) * 64 + (i 2).val) % 512 = _; omega

/-! ## The scores, the weights -/

theorem scores (i : S8x8192x8192.Idx) : val_main_v8 (F := Ideal) x0 i = (score P (i 0).val (i 1).val (i 2).val : EReal) := by
  rw [val_main_v8_apply, val_main_v6_apply, val_main_v7_apply, val_main_cst_apply]
  rw [sum_mul_coe univ _ _ _ _ (fun k _ => query hx _) (fun k _ => key hx _)]
  show _ * Ideal.ofBits .f32 1040187392#32 = _
  rw [ofBits_eighth, ← EReal.coe_mul]
  rfl

omit hx in
theorem earlier (i : S8192x8192.Idx) : val_main_v14 (F := Ideal) i = BitVec.ofBool (decide ((i 1).val < (i 0).val)) := by
  have h0 : (i 0).val < 8192 := (i 0).isLt
  have h1 : (i 1).val < 8192 := (i 1).isLt
  rw [val_main_v14_apply, val_main_v12_apply, val_main_v13_apply, val_main_v11_apply, val_main_v10_apply, val_main_v9_apply, val_main_v9_apply]
  exact WordCmp.cmpi_slt_ofNat (a := (i 1).val) (b := (i 0).val) (by omega) (by omega)

theorem logOther (i : S8x8192x8192.Idx) : val_main_v16_0 (F := Ideal) x0 i = (lg (score P (i 0).val (i 1).val (i 2).val) : EReal) := by
  have e : val_main_v16_0 (F := Ideal) x0 i = -(softplus (Ideal.ofBits .f32 0#32) (-(-(val_main_v8 (F := Ideal) x0 i)))) := by
    simp only [val_main_v16_0_apply, val_main_v15_apply,
      val_main_call0_v0_apply, val_main_call0_call0_cst_apply, val_main_call0_call0_v0_apply, val_main_call0_call0_v1_apply,
      val_main_call0_call0_v2_apply, val_main_call0_call0_v3_apply, val_main_call0_call0_v4_apply, val_main_call0_call0_v5_apply,
      val_main_call0_call0_v6_apply, val_main_call0_call0_v7_apply, val_main_call0_call0_v8_apply, val_main_call0_call0_v9_apply,
      val_main_call0_call0_v10_apply, val_main_call0_call0_v11_apply, val_main_call0_v1_0_apply, val_main_call0_call0_cst_0_apply,
      val_main_call0_call0_v13_apply, val_main_call0_call0_v14_apply, val_main_call0_call0_cst_1_apply, val_main_call0_call0_v15_apply,
      val_main_call0_call0_v16_apply, val_main_call0_call0_cst_2_apply, val_main_call0_call0_v17_apply, val_main_call0_call0_v18_apply,
      val_main_call0_call0_cst_3_apply, val_main_call0_call0_v19_apply, val_main_call0_call0_v20_apply, val_main_call0_call0_v21_apply]
    rfl
  rw [e, scores hx, neg_neg, softplus_coe, ← EReal.coe_neg]
  rfl

theorem sigma (i : S8x8192x8192.Idx) : val_main_v16_1 (F := Ideal) x0 i = (sg (score P (i 0).val (i 1).val (i 2).val) : EReal) := by
  have e : val_main_v16_1 (F := Ideal) x0 i
      = sigmoid (Ideal.ofBits .f32 0#32) (Ideal.ofBits .f32 2139095040#32) (-(-(val_main_v8 (F := Ideal) x0 i))) := by
    simp only [val_main_v16_1_apply, val_main_v15_apply,
      val_main_call0_v0_apply, val_main_call0_call0_cst_apply, val_main_call0_call0_v0_apply, val_main_call0_call0_v1_apply,
      val_main_call0_call0_v2_apply, val_main_call0_call0_v3_apply, val_main_call0_call0_v4_apply, val_main_call0_call0_v5_apply,
      val_main_call0_call0_v6_apply, val_main_call0_call0_v7_apply, val_main_call0_call0_v8_apply, val_main_call0_call0_v9_apply,
      val_main_call0_call0_v10_apply, val_main_call0_call0_v11_apply, val_main_call0_v1_0_apply, val_main_call0_call0_cst_0_apply,
      val_main_call0_call0_v13_apply, val_main_call0_call0_v14_apply, val_main_call0_call0_cst_1_apply, val_main_call0_call0_v15_apply,
      val_main_call0_call0_v16_apply, val_main_call0_call0_cst_2_apply, val_main_call0_call0_v17_apply, val_main_call0_call0_v18_apply,
      val_main_call0_call0_cst_3_apply, val_main_call0_call0_v19_apply, val_main_call0_call0_v20_apply, val_main_call0_call0_v21_apply]
    rfl
  rw [e, scores hx, neg_neg, sigmoid_coe]

theorem logOwn (i : S8x8192x8192.Idx) : val_main_v20_0 (F := Ideal) x0 i
    = ((lg (score P (i 0).val (i 1).val (i 2).val) + score P (i 0).val (i 1).val (i 2).val : ℝ) : EReal) := by
  have e : val_main_v20_0 (F := Ideal) x0 i = -(softplus (Ideal.ofBits .f32 0#32) (-(val_main_v8 (F := Ideal) x0 i))) := by
    simp only [val_main_v20_0_apply,
      val_main_call3_v0_apply, val_main_call3_call0_cst_apply, val_main_call3_call0_v0_apply, val_main_call3_call0_v1_apply,
      val_main_call3_call0_v2_apply, val_main_call3_call0_v3_apply, val_main_call3_call0_v4_apply, val_main_call3_call0_v5_apply,
      val_main_call3_call0_v6_apply, val_main_call3_call0_v7_apply, val_main_call3_call0_v8_apply, val_main_call3_call0_v9_apply,
      val_main_call3_call0_v10_apply, val_main_call3_call0_v11_apply, val_main_call3_v1_0_apply, val_main_call3_call0_cst_0_apply,
      val_main_call3_call0_v13_apply, val_main_call3_call0_v14_apply, val_main_call3_call0_cst_1_apply, val_main_call3_call0_v15_apply,
      val_main_call3_call0_v16_apply, val_main_call3_call0_cst_2_apply, val_main_call3_call0_v17_apply, val_main_call3_call0_v18_apply,
      val_main_call3_call0_cst_3_apply, val_main_call3_call0_v19_apply, val_main_call3_call0_v20_apply, val_main_call3_call0_v21_apply]
    rfl
  rw [e, scores hx, ← EReal.coe_neg (score _ _ _ _), softplus_coe, ← EReal.coe_neg, lg_add]

theorem sigmaOther (i : S8x8192x8192.Idx) : val_main_v20_1 (F := Ideal) x0 i
    = ((1 - sg (score P (i 0).val (i 1).val (i 2).val) : ℝ) : EReal) := by
  have e : val_main_v20_1 (F := Ideal) x0 i
      = sigmoid (Ideal.ofBits .f32 0#32) (Ideal.ofBits .f32 2139095040#32) (-(val_main_v8 (F := Ideal) x0 i)) := by
    simp only [val_main_v20_1_apply,
      val_main_call3_v0_apply, val_main_call3_call0_cst_apply, val_main_call3_call0_v0_apply, val_main_call3_call0_v1_apply,
      val_main_call3_call0_v2_apply, val_main_call3_call0_v3_apply, val_main_call3_call0_v4_apply, val_main_call3_call0_v5_apply,
      val_main_call3_call0_v6_apply, val_main_call3_call0_v7_apply, val_main_call3_call0_v8_apply, val_main_call3_call0_v9_apply,
      val_main_call3_call0_v10_apply, val_main_call3_call0_v11_apply, val_main_call3_v1_0_apply, val_main_call3_call0_cst_0_apply,
      val_main_call3_call0_v13_apply, val_main_call3_call0_v14_apply, val_main_call3_call0_cst_1_apply, val_main_call3_call0_v15_apply,
      val_main_call3_call0_v16_apply, val_main_call3_call0_cst_2_apply, val_main_call3_call0_v17_apply, val_main_call3_call0_v18_apply,
      val_main_call3_call0_cst_3_apply, val_main_call3_call0_v19_apply, val_main_call3_call0_v20_apply, val_main_call3_call0_v21_apply]
    rfl
  rw [e, scores hx, ← EReal.coe_neg (score _ _ _ _), sigmoid_coe, one_sub_sg_eq_exp, sg_eq_exp]

theorem masked (i : S8x8192x8192.Idx) : val_main_v17_0 (F := Ideal) x0 i = (L (score P (i 0).val) (i 1).val (i 2).val : EReal) := by
  rw [val_main_v17_0_apply, val_main_v17_1_apply, earlier, logOther hx, val_main_call1_v2_apply, select_ofBool]
  have e : val_main_call1_v0 (F := Ideal) (idx_main_call1_v2 i) = ((0 : ℝ) : EReal) := by
    show Ideal.ofBits .f32 0#32 = _; simp [Ideal.ofBits, Ideal.ieee]
  rw [e]
  unfold L
  show (if (i 2).val < (i 1).val then _ else _) = _
  split <;> rfl

theorem after (i : S8x8192x8192.Idx) : val_main_v19 (F := Ideal) x0 i = (suf (score P (i 0).val) (i 1).val ((i 2).val + 1) : EReal) := by
  have h2 : (i 2).val < 8192 := (i 2).isLt
  rw [val_main_v19_apply, masked hx]
  have e : val_main_v18 (F := Ideal) x0 i = ((∑ s ∈ Ico (i 2).val 8192, L (score P (i 0).val) (i 1).val s : ℝ) : EReal) :=
    window_from (val_main_v17_0 (F := Ideal) x0) (fun h t s => L (score P h) t s) (masked hx) _ h_S_
      (by show Ideal.ofBits .f32 0#32 = _; simp [Ideal.ofBits, Ideal.ieee]) _ i
  rw [e]
  show ((_ : ℝ) : EReal) - ((_ : ℝ) : EReal) = _
  rw [← EReal.coe_sub, sum_eq_sum_Ico_succ_bot h2]
  refine congrArg _ ?_
  rw [add_sub_cancel_left]
  rfl

theorem grown (i : S8x8192x8192.Idx) : val_main_v22 (F := Ideal) x0 i = (Real.exp (lg (score P (i 0).val (i 1).val (i 2).val)
    + score P (i 0).val (i 1).val (i 2).val + suf (score P (i 0).val) (i 1).val ((i 2).val + 1)) : EReal) := by
  rw [val_main_v22_apply, val_main_v21_apply, logOwn hx, after hx]
  show Ideal.exp (((_ : ℝ) : EReal) + ((_ : ℝ) : EReal)) = _
  rw [← EReal.coe_add, Ideal.exp_coe]

theorem weight (i : S8x8192x8192.Idx) : val_main_v23_0 (F := Ideal) x0 i = (wt (score P (i 0).val) (i 1).val (i 2).val : EReal) := by
  rw [val_main_v23_0_apply, val_main_v23_1_apply, earlier, grown hx, val_main_call4_v2_apply, select_ofBool]
  have e : val_main_call4_v0 (F := Ideal) (idx_main_call4_v2 i) = ((0 : ℝ) : EReal) := by
    show Ideal.ofBits .f32 0#32 = _; simp [Ideal.ofBits, Ideal.ieee]
  rw [e]
  unfold wt
  show (if (i 2).val < (i 1).val then _ else _) = _
  split <;> rfl

/-! ## The gradients of the weights and of the scores -/

variable (ho : ∀ y : S8192x512.Idx, x1 y = (O (y 0).val (y 1).val : EReal))
include ho

omit hx in
theorem given (i : S8x64x8192.Idx) : val_main_v27 (F := Ideal) x1 i = (O (i 2).val (64 * (i 0).val + (i 1).val) : EReal) := by
  have h0 : (i 0).val < 8 := (i 0).isLt
  have h1 : (i 1).val < 64 := (i 1).isLt
  rw [val_main_v27_apply, val_main_v26_apply, ho]
  refine congrArg _ (congrArg₂ O ?_ ?_)
  · show (((i 2).val * 8 + (i 0).val) * 64 + (i 1).val) / 512 = _; omega
  · show (((i 2).val * 8 + (i 0).val) * 64 + (i 1).val) % 512 = _; omega

theorem backs (i : S8x8192x8192.Idx) : val_main_v28 (F := Ideal) x0 x1 i = (back P O (i 0).val (i 1).val (i 2).val : EReal) := by
  rw [val_main_v28_apply]
  exact sum_mul_coe univ _ _ _ _ (fun k _ => given ho _) (fun k _ => value hx _)

theorem graded (i : S8x8192x8192.Idx) : val_main_v32 (F := Ideal) x0 x1 i
    = (gr (score P (i 0).val) (back P O (i 0).val) (i 1).val (i 2).val : EReal) := by
  rw [val_main_v32_apply, val_main_v31_apply, val_main_v23_1_apply, earlier, backs hx ho, grown hx, val_main_call5_v0_apply, select_ofBool]
  have e : val_main_call5_cst (F := Ideal) (idx_main_call5_v0 i) = ((0 : ℝ) : EReal) := by
    show Ideal.ofBits .f32 0#32 = _; simp [Ideal.ofBits, Ideal.ieee]
  rw [e]
  unfold gr wt
  show (if (i 2).val < (i 1).val then ((_ : ℝ) : EReal) else _) * ((_ : ℝ) : EReal) = _
  split
  · rw [← EReal.coe_mul, mul_comm]
  · rw [← EReal.coe_mul, zero_mul, zero_mul]

theorem before (i : S8x8192x8192.Idx) : val_main_v37 (F := Ideal) x0 x1 i
    = ((if (i 2).val < (i 1).val then pre (score P (i 0).val) (back P O (i 0).val) (i 1).val (i 2).val else 0 : ℝ) : EReal) := by
  have s : val_main_v35 (F := Ideal) x0 x1 i = ((∑ s ∈ range ((i 2).val + 1), gr (score P (i 0).val) (back P O (i 0).val) (i 1).val s : ℝ) : EReal) :=
    window_to rfl (val_main_v32 (F := Ideal) x0 x1) (fun h t s => gr (score P h) (back P O h) t s) (graded hx ho) _ h_S_
      (by show Ideal.ofBits .f32 0#32 = _; simp [Ideal.ofBits, Ideal.ieee]) _ i
  rw [val_main_v37_apply, val_main_v17_1_apply, earlier, val_main_v36_apply, val_main_v34_apply, graded hx ho, s, val_main_call8_v0_apply, select_ofBool]
  have e : val_main_call8_cst (F := Ideal) (idx_main_call8_v0 i) = ((0 : ℝ) : EReal) := by
    show Ideal.ofBits .f32 0#32 = _; simp [Ideal.ofBits, Ideal.ieee]
  rw [e]
  show (if (i 2).val < (i 1).val then -((_ : ℝ) : EReal) + ((_ : ℝ) : EReal) else _) = _
  rw [← EReal.coe_neg, ← EReal.coe_add, sum_range_succ, neg_add_eq_sub, add_sub_cancel_right]
  split <;> rfl

/-- The gradient of the dot product behind a score. -/
theorem scored (i : S8x8192x8192.Idx) : val_main_v42 (F := Ideal) x0 x1 i
    = ((dz (score P (i 0).val) (back P O (i 0).val) (i 1).val (i 2).val * (1 / 8) : ℝ) : EReal) := by
  rw [val_main_v42_apply, val_main_v40_apply, val_main_v33_apply, val_main_call6_v1_apply, val_main_call6_v0_apply, graded hx ho, sigmaOther hx,
    val_main_v39_apply, val_main_v38_apply, val_main_call9_v1_apply, val_main_call9_v0_apply, before hx ho, sigma hx, val_main_v41_apply, val_main_cst_2_apply]
  show (-(-((_ : ℝ) : EReal) * ((_ : ℝ) : EReal)) + -(-(-((_ : ℝ) : EReal) * ((_ : ℝ) : EReal)))) * Ideal.ofBits .f32 1040187392#32 = _
  rw [ofBits_eighth]
  simp only [← EReal.coe_neg, ← EReal.coe_mul, ← EReal.coe_add]
  refine congrArg _ (congrArg (· * (1 / 8 : ℝ)) ?_)
  unfold dz
  split
  · ring
  · next h => rw [gr_of_le _ _ (by omega)]; ring

/-! ## The results -/

theorem dq_at (i : S8192x512.Idx) : val_main_v48 (F := Ideal) x0 x1 i
    = ((∑ s : Fin 8192, dz (score P ((i 1).val / 64)) (back P O ((i 1).val / 64)) (i 0).val s.val * (1 / 8) * P s.val (2048 + (i 1).val) : ℝ) : EReal) := by
  have h0 : (i 0).val < 8192 := (i 0).isLt
  have h1 : (i 1).val < 512 := (i 1).isLt
  rw [val_main_v48_apply, val_main_v47_apply, val_main_v46_apply, val_main_v45_apply]
  refine (sum_mul_coe univ _ _ _ _ (fun k _ => scored hx ho _) (fun k _ => key hx _)).trans (congrArg _ (sum_congr rfl fun s _ => ?_))
  have e0 : (((i 0).val * 512 + (i 1).val) / 64) % 8 = (i 1).val / 64 := by omega
  have e1 : ((i 0).val * 512 + (i 1).val) / 512 = (i 0).val := by omega
  have e2 : 2048 + (64 * ((((i 0).val * 512 + (i 1).val) / 64) % 8) + ((i 0).val * 512 + (i 1).val) % 64) = 2048 + (i 1).val := by omega
  show dz (score P ((((i 0).val * 512 + (i 1).val) / 64) % 8)) (back P O ((((i 0).val * 512 + (i 1).val) / 64) % 8)) (((i 0).val * 512 + (i 1).val) / 512) s.val
      * (1 / 8) * P s.val (2048 + (64 * ((((i 0).val * 512 + (i 1).val) / 64) % 8) + ((i 0).val * 512 + (i 1).val) % 64)) = _
  rw [e2, e1, e0]

theorem dk_at (i : S8192x512.Idx) : val_main_v50 (F := Ideal) x0 x1 i
    = ((∑ t : Fin 8192, dz (score P ((i 1).val / 64)) (back P O ((i 1).val / 64)) t.val (i 0).val * (1 / 8) * P t.val (1536 + (i 1).val) : ℝ) : EReal) := by
  have h0 : (i 0).val < 8192 := (i 0).isLt
  have h1 : (i 1).val < 512 := (i 1).isLt
  rw [val_main_v50_apply, val_main_v49_apply, val_main_v44_apply, val_main_v43_apply]
  refine (sum_mul_coe univ _ _ _ _ (fun k _ => scored hx ho _) (fun k _ => query hx _)).trans (congrArg _ (sum_congr rfl fun s _ => ?_))
  have e0 : (((i 0).val * 512 + (i 1).val) / 64) % 8 = (i 1).val / 64 := by omega
  have e1 : ((i 0).val * 512 + (i 1).val) / 512 = (i 0).val := by omega
  have e2 : 1536 + (64 * ((((i 0).val * 512 + (i 1).val) / 64) % 8) + ((i 0).val * 512 + (i 1).val) % 64) = 1536 + (i 1).val := by omega
  show dz (score P ((((i 0).val * 512 + (i 1).val) / 64) % 8)) (back P O ((((i 0).val * 512 + (i 1).val) / 64) % 8)) s.val (((i 0).val * 512 + (i 1).val) / 512)
      * (1 / 8) * P s.val (1536 + (64 * ((((i 0).val * 512 + (i 1).val) / 64) % 8) + ((i 0).val * 512 + (i 1).val) % 64)) = _
  rw [e2, e1, e0]

theorem dv_at (i : S8192x512.Idx) : val_main_v52 (F := Ideal) x0 x1 i
    = ((∑ t : Fin 8192, wt (score P ((i 1).val / 64)) t.val (i 0).val * O t.val (i 1).val : ℝ) : EReal) := by
  have h0 : (i 0).val < 8192 := (i 0).isLt
  have h1 : (i 1).val < 512 := (i 1).isLt
  rw [val_main_v52_apply, val_main_v51_apply, val_main_v30_apply, val_main_v29_apply]
  refine (sum_mul_coe univ _ _ _ _ (fun k _ => given ho _) (fun k _ => weight hx _)).trans (congrArg _ (sum_congr rfl fun s _ => ?_))
  have e0 : (((i 0).val * 512 + (i 1).val) / 64) % 8 = (i 1).val / 64 := by omega
  have e1 : ((i 0).val * 512 + (i 1).val) / 512 = (i 0).val := by omega
  have e2 : 64 * ((((i 0).val * 512 + (i 1).val) / 64) % 8) + ((i 0).val * 512 + (i 1).val) % 64 = (i 1).val := by omega
  show O s.val (64 * ((((i 0).val * 512 + (i 1).val) / 64) % 8) + ((i 0).val * 512 + (i 1).val) % 64)
      * wt (score P ((((i 0).val * 512 + (i 1).val) / 64) % 8)) s.val (((i 0).val * 512 + (i 1).val) / 512) = _
  rw [e2, e1, e0, mul_comm]

end

end Cert.Proof.Ref
-- ==== Proof.BwdHost.lean ====
/-
  The sums that the backward attention's host lines save for the kernel: for each row, the logarithms over the blocks of
  keys that follow each block.
-/
module

public import proofs.«01_k».proof.Proof.BwdSweep
public import proofs.«01_k».proof.Proof.BwdRef
public import Idealize.ShloMosaic.Lib.StableHlo.RunRead

@[expose] public section

set_option maxRecDepth 8192

noncomputable section

namespace Cert.Proof.Bwd

open Cert.KernelAttnBwdIdeal Cert.KernelAttnBwdIdeal.Gen Idealize.ShloMosaic Idealize.ShloMosaic.TcCoe Idealize.SL.Sem
open Idealize.ShloMosaic.StableHlo Cert.Proof.Stick Finset
open Cert.ReferenceAttnBwdIdeal.Read

/-- The sum over each block of 128 keys but the first. -/
def sumsOf (x : FVec Ideal S8x8192x8192 .f32) : FVec Ideal S8x8192x63 .f32 :=
  extractStridedSlice S8x8192x63 ![0, 0, 1] (Host.reduceAdd (shapeCast S8x8192x64x128 x shapeCasts_S8x8192x8192_S8x8192x64x128)
    (constant (F := Ideal) S_ .f32 0x00000000#32) reducesTo_S8x8192x64x128_S8x8192x64_d3 h_S_) slices_S8x8192x64_S8x8192x63_0_0_1

/-- Nothing after the last block. -/
def noneAfter : FVec Ideal S8x8192x65 .f32 := broadcastInDim S8x8192x65 ![] bcast_S_S8x8192x65 (constant (F := Ideal) S_ .f32 0x00000000#32)

/-- The blocks' sums added up from the end. -/
def saved (a : FVec Ideal S8x8192x63 .f32) (b : FVec Ideal S8x8192x65 .f32) : FVec Ideal S8x8192x128 .f32 :=
  Host.reduceWindowAdd ![1, 1, 128] ![1, 1, 1] ![0, 0, 0] ![0, 0, 127] (concatenate (α := Ideal .f32) S8x8192x128 2 [⟨S8x8192x63, a⟩, ⟨S8x8192x65, b⟩]
    concatenates_S8x8192x63_S8x8192x65_S8x8192x128_d2) (broadcastInDim S_ ![] bcast_S_S_ (constant (F := Ideal) S_ .f32 0x00000000#32))
    reduceWindows_S8x8192x128_S8x8192x128_w1s1p0_0_w1s1p0_0_w128s1p0_127 h_S_

/-- Consecutive blocks together. -/
theorem sum_blocks (g : ℕ → ℝ) (a n : ℕ) (h : a ≤ n) :
    ∑ b ∈ Ico a n, ∑ j ∈ Ico (128 * (b + 1)) (128 * (b + 2)), g j = ∑ j ∈ Ico (128 * (a + 1)) (128 * (n + 1)), g j := by
  induction n, h using Nat.le_induction with
  | base => simp
  | succ n h ih => rw [sum_Ico_succ_top h, ih, sum_Ico_consecutive _ (by omega) (by omega)]

theorem zero_bits : Ideal.ofBits .f32 0#32 = ((0 : ℝ) : EReal) := by simp [Ideal.ofBits, Ideal.ieee]

variable {x : FVec Ideal S8x8192x8192 .f32} {f : ℕ → ℕ → ℕ → ℝ}

theorem sumsOf_at (hx : ∀ i : S8x8192x8192.Idx, x i = (f (i 0).val (i 1).val (i 2).val : EReal)) (i : S8x8192x63.Idx) :
    sumsOf x i = ((∑ j ∈ Ico (128 * ((i 2).val + 1)) (128 * ((i 2).val + 2)), f (i 0).val (i 1).val j : ℝ) : EReal) := by
  have h0 : (i 0).val < 8 := (i 0).isLt
  have h1 : (i 1).val < 8192 := (i 1).isLt
  have h2 : (i 2).val < 63 := (i 2).isLt
  unfold sumsOf
  refine (extractStridedSlice_apply ![0, 0, 1] _ slices_S8x8192x64_S8x8192x63_0_0_1 i (ValueIdx.ix3 (⟨(i 0).val, h0⟩ : Fin 8) (⟨(i 1).val, h1⟩ : Fin 8192) (⟨(i 2).val + 1, by omega⟩ : Fin 64)) (fun a => match a with
    | ⟨0, _⟩ => by show (i 0).val = 0 + (i 0).val; omega
    | ⟨1, _⟩ => by show (i 1).val = 0 + (i 1).val; omega
    | ⟨2, _⟩ => by show (i 2).val + 1 = 1 + (i 2).val; omega)).trans ?_
  simp only [Host.reduceAdd, Ideal.hostReduceAdd_def]
  rw [Ideal.hostReduceAdd_single reducesTo_S8x8192x64x128_S8x8192x64_d3 (by decide)]
  refine Eq.trans (congrArg₂ (· + ·) zero_bits (sum_coe univ _ (fun k => f (i 0).val (i 1).val (128 * ((i 2).val + 1) + k.val)) fun k _ => ?_)) ?_
  · have h3 : k.val < 128 := k.isLt
    refine (congrArg _ (a₂ := ValueIdx.ix4 (⟨(i 0).val, h0⟩ : Fin 8) (⟨(i 1).val, h1⟩ : Fin 8192) (⟨(i 2).val + 1, by omega⟩ : Fin 64) (⟨k.val, h3⟩ : Fin 128)) (funext fun a => Fin.ext (by
      match a with | ⟨0, _⟩ => rfl | ⟨1, _⟩ => rfl | ⟨2, _⟩ => rfl | ⟨3, _⟩ => rfl))).trans ?_
    refine (shapeCast_apply x shapeCasts_S8x8192x8192_S8x8192x64x128 _ (ValueIdx.ix3 (⟨(i 0).val, h0⟩ : Fin 8) (⟨(i 1).val, h1⟩ : Fin 8192) ⟨128 * ((i 2).val + 1) + k.val, by omega⟩) ?_).trans (hx _)
    rewrite [Shape.rowMajor_val_three, Shape.rowMajor_val_four]
    show ((i 0).val * 8192 + (i 1).val) * 8192 + (128 * ((i 2).val + 1) + k.val) = (((i 0).val * 8192 + (i 1).val) * 64 + ((i 2).val + 1)) * 128 + k.val
    omega
  · show ((0 : ℝ) : EReal) + _ = _
    rw [EReal.coe_zero, zero_add]
    exact congrArg _ (sum_block (fun j => f (i 0).val (i 1).val j) ((i 2).val + 1))

/-- What a column holds: the entries from the end of its block on. -/
theorem saved_at (hx : ∀ i : S8x8192x8192.Idx, x i = (f (i 0).val (i 1).val (i 2).val : EReal)) (y : S8x8192x128.Idx) :
    saved (sumsOf x) noneAfter y = ((∑ j ∈ Ico (128 * ((y 2).val + 1)) 8192, f (y 0).val (y 1).val j : ℝ) : EReal) := by
  have W := window_from (hi := 127) (concatenate (α := Ideal .f32) S8x8192x128 2 [⟨S8x8192x63, sumsOf x⟩, ⟨S8x8192x65, noneAfter⟩]
      concatenates_S8x8192x63_S8x8192x65_S8x8192x128_d2)
    (fun h t b => if b < 63 then ∑ j ∈ Ico (128 * (b + 1)) (128 * (b + 2)), f h t j else 0) (fun i => by
      have h2 : (i 2).val < 128 := (i 2).isLt
      by_cases h : (i 2).val < 63
      · rw [if_pos h]
        exact (concatenate_pair_apply_left 2 _ _ concatenates_S8x8192x63_S8x8192x65_S8x8192x128_d2 i rfl (ValueIdx.ix3 (i 0) (i 1) ⟨(i 2).val, h⟩)
          (fun b => by match b with | ⟨0, _⟩ => rfl | ⟨1, _⟩ => rfl | ⟨2, _⟩ => rfl)).trans (sumsOf_at hx _)
      · rw [if_neg h]
        exact (concatenate_pair_apply_right 2 _ _ concatenates_S8x8192x63_S8x8192x65_S8x8192x128_d2 i rfl rfl
          (ValueIdx.ix3 (i 0) (i 1) ⟨(i 2).val - 63, by omega⟩) (fun b hb => by match b with | ⟨0, _⟩ => rfl | ⟨1, _⟩ => rfl | ⟨2, _⟩ => exact absurd rfl hb)
          (show (i 2).val - 63 + 63 = (i 2).val by omega)).trans zero_bits)
    (broadcastInDim S_ ![] bcast_S_S_ (constant (F := Ideal) S_ .f32 0x00000000#32)) h_S_ zero_bits
    reduceWindows_S8x8192x128_S8x8192x128_w1s1p0_0_w1s1p0_0_w128s1p0_127 y
  refine Eq.trans W (congrArg _ ?_)
  rw [← sum_filter, show (Ico (y 2).val 128).filter (· < 63) = Ico (y 2).val 63 from ext fun b => by rw [mem_filter, mem_Ico, mem_Ico]; omega]
  obtain h | h := le_total (y 2).val 63
  · exact sum_blocks _ _ _ h
  · rw [Ico_eq_empty (by omega), Ico_eq_empty (by omega), sum_empty, sum_empty]

variable (m : (ℓ : Loc nD τ sig) → Buf (Elt Ideal) ℓ)

/-- The host lines compute them of the masked logarithms. -/
theorem saved_eq (c : Dev nD) : (V m c main_v23 : Vec Ideal S8x8192x128 .f32)
    = saved (sumsOf (val_main_v17_0 (F := Ideal) (m ((c : Thread nD τ).loc main_arg0)))) noneAfter := by
  unfold V
  after_reads_simp
  simp -implicitDefEqProofs only [StableHlo.TRef.toBuf, StableHlo.TRef.ofBuf, cast_cast, cast_eq]
  refine Eq.trans (b := saved _ _) rfl (congrArg₂ saved ?_ ?_)
  · after_reads_simp
    simp -implicitDefEqProofs only [StableHlo.TRef.toBuf, StableHlo.TRef.ofBuf, cast_cast, cast_eq]
    simp only [sumsOf,
      val_main_v0, val_main_v1, val_main_v2, val_main_v3, val_main_v4, val_main_v5, val_main_v6, val_main_cst, val_main_v7, val_main_v8, val_main_v9,
      val_main_v10, val_main_v11, val_main_v12, val_main_v13, val_main_v14, val_main_v15, val_main_call0_v0, val_main_call0_call0_cst,
      val_main_call0_call0_v0, val_main_call0_call0_v1, val_main_call0_call0_v2, val_main_call0_call0_v3, val_main_call0_call0_v4,
      val_main_call0_call0_v5, val_main_call0_call0_v6, val_main_call0_call0_v7, val_main_call0_call0_v8, val_main_call0_call0_v9,
      val_main_call0_call0_v10, val_main_call0_call0_v11, val_main_call0_v1_0, val_main_v16_0, val_main_cst_0, val_main_call1_v0, val_main_v17_1,
      val_main_call1_v2, val_main_v17_0]
    rfl
  · after_reads_simp
    rfl

end Cert.Proof.Bwd
-- ==== Proof.BwdFinal.lean ====
/-
  The backward attention: the gradients that the kernel's sweep leaves are those of the reference.
-/
module

public import proofs.«01_k».proof.Defs
public import proofs.«01_k».proof.Proof.BwdHost
public import proofs.«01_k».proof.Proof.Gen.ReferenceAttnBwdIdeal.Run

@[expose] public section

set_option maxRecDepth 8192

noncomputable section

namespace Cert.Proof.Bwd

open Cert.KernelAttnBwdIdeal Cert.KernelAttnBwdIdeal.Gen Idealize.ShloMosaic Idealize.ShloMosaic.TcCoe Idealize.SL.Sem
open Cert.Proof.Stick Cert.Proof.Ref Finset
open Cert.ReferenceAttnBwdIdeal.Read

/-! ## The lanes of a head -/

/-- A sum over the lanes under a head's mask runs over the head's own. -/
theorem lane_sum (g : ℕ → ℝ) {e : ℕ} (he : e < 2) : ∑ x : Fin 128, g x.val * lane e x.val = ∑ d : Fin 64, g (64 * e + d.val) := by
  rw [← Finset.sum_range (fun x => g x * lane e x), ← Finset.sum_range (fun d => g (64 * e + d)), show (128 : ℕ) = 64 + 64 from rfl,
    sum_range_add]
  have l0 : ∀ x ∈ range 64, g x * lane e x = if e = 0 then g x else 0 := fun x hx => by
    rw [mem_range] at hx
    unfold lane
    rw [show x / 64 = 0 by omega]
    by_cases h : e = 0
    · rw [if_pos h.symm, if_pos h, mul_one]
    · rw [if_neg (Ne.symm h), if_neg h, mul_zero]
  have l1 : ∀ x ∈ range 64, g (64 + x) * lane e (64 + x) = if e = 1 then g (64 + x) else 0 := fun x hx => by
    rw [mem_range] at hx
    unfold lane
    rw [show (64 + x) / 64 = 1 by omega]
    by_cases h : e = 1
    · rw [if_pos h.symm, if_pos h, mul_one]
    · rw [if_neg (Ne.symm h), if_neg h, mul_zero]
  rw [sum_congr rfl l0, sum_congr rfl l1]
  obtain rfl | rfl : e = 0 ∨ e = 1 := by omega
  · simp
  · simp

/-- Of two heads' numbers under their masks, the lane's own. -/
theorem lane_pick (f : ℕ → ℝ) {l : ℕ} (hl : l < 128) : f 0 * lane 0 l + f 1 * lane 1 l = f (l / 64) := by
  unfold lane
  obtain h | h : l / 64 = 0 ∨ l / 64 = 1 := by omega
  · rw [h]; simp
  · rw [h]; simp

variable (P O : ℕ → ℕ → ℝ) (p : ℕ)

theorem pair_score {e : ℕ} (he : e < 2) (e' : ℕ) : dots (pairData P O p e).q (pairData P O p e').k = Ref.score P (2 * p + e) := by
  funext t s
  show ∑ x : Fin 128, P t (1536 + (128 * p + x.val)) * (1 / 8 * lane e x.val) * P s (2048 + (128 * p + x.val)) = _
  refine Eq.trans (sum_congr rfl fun x _ => ?_)
    ((lane_sum (fun x => P t (1536 + (128 * p + x)) * P s (2048 + (128 * p + x)) * (1 / 8)) he).trans ?_)
  · ring
  · unfold Ref.score
    rw [sum_mul]
    refine sum_congr rfl fun d _ => ?_
    rw [show 128 * p + (64 * e + d.val) = 64 * (2 * p + e) + d.val by ring]

theorem pair_back {e : ℕ} (he : e < 2) : dots (pairData P O p e).d (pairData P O p e).v = back P O (2 * p + e) := by
  funext t s
  show ∑ x : Fin 128, O t (128 * p + x.val) * lane e x.val * P s (2560 + (128 * p + x.val)) = _
  refine Eq.trans (sum_congr rfl fun x _ => ?_)
    ((lane_sum (fun x => O t (128 * p + x) * P s (2560 + (128 * p + x))) he).trans ?_)
  · ring
  · unfold back
    refine sum_congr rfl fun d _ => ?_
    rw [show 128 * p + (64 * e + d.val) = 64 * (2 * p + e) + d.val by ring]

theorem pair_dz {e : ℕ} (he : e < 2) : (pairData P O p e).dz = dz (Ref.score P (2 * p + e)) (back P O (2 * p + e)) := by
  unfold Data.dz
  rw [pair_score P O p he, pair_back P O p he]

theorem pair_wt {e : ℕ} (he : e < 2) : (pairData P O p e).wt = wt (Ref.score P (2 * p + e)) := by
  unfold Data.wt
  rw [pair_score P O p he]

/-- The queries' gradient. -/
theorem dq_pair {q t l : ℕ} (ht : t < 512 * (q + 1)) (hq : q < 16) (hl : l < 128) :
    ((pairData P O p 0).dqTo (512 * (q + 1)) t l + (pairData P O p 1).dqTo (512 * (q + 1)) t l) * (1 / 8)
      = ∑ s : Fin 8192, dz (Ref.score P (2 * p + l / 64)) (back P O (2 * p + l / 64)) t s.val * (1 / 8) * P s.val (2048 + (128 * p + l)) := by
  unfold Data.dqTo
  rw [pair_dz P O p (by omega : 0 < 2), pair_dz P O p (by omega : 1 < 2)]
  refine (congrArg (· * (1 / 8 : ℝ)) (lane_pick (fun e => ∑ s ∈ range (512 * (q + 1)),
    dz (Ref.score P (2 * p + e)) (back P O (2 * p + e)) t s * P s (2048 + (128 * p + l))) hl)).trans ?_
  rw [← Finset.sum_range (fun s => dz (Ref.score P (2 * p + l / 64)) (back P O (2 * p + l / 64)) t s * (1 / 8) * P s (2048 + (128 * p + l))),
    sum_mul]
  refine Eq.trans (sum_congr rfl fun s _ => ?_) (sum_subset (range_subset_range.mpr (by omega : 512 * (q + 1) ≤ 8192)) fun s _ h => ?_)
  · ring
  · have h' : ¬ s < t := fun k => h (mem_range.mpr (by omega))
    rw [show dz (Ref.score P (2 * p + l / 64)) (back P O (2 * p + l / 64)) t s = 0 from if_neg h']
    ring

/-- The keys' gradient. -/
theorem dk_pair {s l : ℕ} (hl : l < 128) : keyGrad P O p 8192 s l
    = ∑ t : Fin 8192, dz (Ref.score P (2 * p + l / 64)) (back P O (2 * p + l / 64)) t.val s * (1 / 8) * P t.val (1536 + (128 * p + l)) := by
  unfold keyGrad
  rw [pair_dz P O p (by omega : 0 < 2), pair_dz P O p (by omega : 1 < 2),
    ← Finset.sum_range (fun t => dz (Ref.score P (2 * p + l / 64)) (back P O (2 * p + l / 64)) t s * (1 / 8) * P t (1536 + (128 * p + l)))]
  refine sum_congr rfl fun t _ => Eq.trans ?_ (lane_pick (fun e => dz (Ref.score P (2 * p + e)) (back P O (2 * p + e)) t s * (1 / 8)
    * P t (1536 + (128 * p + l))) hl)
  show _ * (P t (1536 + (128 * p + l)) * (1 / 8 * lane 0 l)) + _ * (P t (1536 + (128 * p + l)) * (1 / 8 * lane 1 l)) = _
  ring

/-- The values' gradient. -/
theorem dv_pair {s l : ℕ} (hl : l < 128) : valueGrad P O p 8192 s l
    = ∑ t : Fin 8192, wt (Ref.score P (2 * p + l / 64)) t.val s * O t.val (128 * p + l) := by
  unfold valueGrad
  rw [pair_wt P O p (by omega : 0 < 2), pair_wt P O p (by omega : 1 < 2),
    ← Finset.sum_range (fun t => wt (Ref.score P (2 * p + l / 64)) t s * O t (128 * p + l))]
  refine sum_congr rfl fun t _ => Eq.trans ?_ (lane_pick (fun e => wt (Ref.score P (2 * p + e)) t s * O t (128 * p + l)) hl)
  show _ * (O t (128 * p + l) * lane 0 l) + _ * (O t (128 * p + l) * lane 1 l) = _
  ring

/-! ## Finite arguments as real numbers -/

theorem infinity_bits : Ideal.ofBits .f32 0x7F800000#32 = ⊤ := by simp [Ideal.ofBits, Ideal.ieee]

/-- A number below infinity in size is real. -/
theorem real_of_lt (x : EReal) (h : Ideal.cmp .olt (max x (-x)) (Ideal.ofBits .f32 0x7F800000#32) = 1#1) : ((x.toReal : ℝ) : EReal) = x := by
  rw [infinity_bits] at h
  have h' : max x (-x) < ⊤ := by
    by_contra k
    simp [Ideal.cmp, k] at h
  refine EReal.coe_toReal (fun e => ?_) (fun e => ?_)
  · subst e; simp at h'
  · subst e; simp at h'

/-- The numbers of a finite matrix, by row and column. -/
def numbers {r n : ℕ} (hr : 0 < r) (hn : 0 < n) (x : (⟨2, ![r, n]⟩ : Shape).Idx → EReal) (a b : ℕ) : ℝ :=
  (x (ValueIdx.ix2 (⟨a % r, Nat.mod_lt _ hr⟩ : Fin r) (⟨b % n, Nat.mod_lt _ hn⟩ : Fin n))).toReal

theorem numbers_at {r n : ℕ} (hr : 0 < r) (hn : 0 < n) (x : (⟨2, ![r, n]⟩ : Shape).Idx → EReal)
    (h : ∀ y, Ideal.cmp .olt (max (x y) (-(x y))) (Ideal.ofBits .f32 0x7F800000#32) = 1#1) (y : (⟨2, ![r, n]⟩ : Shape).Idx) :
    x y = (numbers hr hn x (y 0).val (y 1).val : EReal) := by
  unfold numbers
  rw [real_of_lt _ (h _)]
  refine congrArg x (Shape.idx_ext₂ ?_ ?_)
  · exact (Nat.mod_eq_of_lt (y 0).isLt).symm
  · exact (Nat.mod_eq_of_lt (y 1).isLt).symm

variable {P O} (m : (ℓ : Loc nD τ sig) → Buf (Elt Ideal) ℓ)

/-- The saved sums are those of the reference's scores. -/
theorem inputs {c : Dev nD} (hP : ∀ y : S8192x5120.Idx, m ((c : Thread nD τ).loc main_arg0) y = (P (y 0).val (y 1).val : EReal))
    (hO : ∀ y : S8192x512.Idx, m ((c : Thread nD τ).loc main_arg1) y = (O (y 0).val (y 1).val : EReal)) : Inputs m c P O where
  proj := hP
  out := hO
  sums y _ := by
    have h0 : (y 0).val < 8 := (y 0).isLt
    rw [saved_eq, saved_at (f := fun a t s => L (Ref.score P a) t s) (fun i => masked hP i) y,
      pair_score P O _ (Nat.mod_lt _ (by omega)), Nat.div_add_mod]
    rfl

variable {m} {c : Dev nD}

section
variable (h : Inputs m c P O)
include h

theorem left5 (i : S8192x512.Idx) : Cert.KernelAttnBwdIdeal.Value.G5 m c i
    = val_main_v48 (F := Ideal) (m ((c : Thread nD τ).loc main_arg0)) (m ((c : Thread nD τ).loc main_arg1)) i := by
  have h0 : (i 0).val < 8192 := (i 0).isLt
  have h1 : (i 1).val < 512 := (i 1).isLt
  have hn : Cert.KernelAttnBwdIdeal.Value.pt5Of i < cfg0.N := by
    rw [show cfg0.N = 64 from N_0]
    show 1 * ((i 0).val / 512 - 0) + 16 * ((i 1).val / 128 - 0) < 64
    omega
  have e1 : Cert.KernelAttnBwdIdeal.Value.pt5Of i / 16 = (i 1).val / 128 := by
    show (1 * ((i 0).val / 512 - 0) + 16 * ((i 1).val / 128 - 0)) / 16 = _
    omega
  have e0 : Cert.KernelAttnBwdIdeal.Value.pt5Of i % 16 = (i 0).val / 512 := by
    show (1 * ((i 0).val / 512 - 0) + 16 * ((i 1).val / 128 - 0)) % 16 = _
    omega
  unfold Cert.KernelAttnBwdIdeal.Value.G5
  rw [dif_pos hn, ← Cert.KernelAttnBwdIdeal.Value.outsAt0_sweep m c _ hn, (swept h _ hn).1, e0, e1, dq_at h.proj h.out]
  refine congrArg _ (((dq_pair P O ((i 1).val / 128) (q := (i 0).val / 512) (t := 512 * ((i 0).val / 512) + (i 0).val % 512) (l := (i 1).val % 128)
    (by omega) (by omega) (by omega))).trans ?_)
  rw [show 2 * ((i 1).val / 128) + (i 1).val % 128 / 64 = (i 1).val / 64 by omega, Nat.div_add_mod, Nat.div_add_mod]

theorem left6 (i : S8192x512.Idx) : Cert.KernelAttnBwdIdeal.Value.G6 m c i
    = val_main_v50 (F := Ideal) (m ((c : Thread nD τ).loc main_arg0)) (m ((c : Thread nD τ).loc main_arg1)) i := by
  have h0 : (i 0).val < 8192 := (i 0).isLt
  have h1 : (i 1).val < 512 := (i 1).isLt
  have e : Cert.KernelAttnBwdIdeal.Value.pt6Of i = 16 * ((i 1).val / 128) + 15 := by
    show 16 * Cert.KernelAttnBwdIdeal.Value.run6Of i + 15 = _
    show 16 * (4 * ((i 0).val / 8192 - 0) + 1 * ((i 1).val / 128 - 0)) + 15 = _
    omega
  have hn : Cert.KernelAttnBwdIdeal.Value.pt6Of i < cfg0.N := by
    rw [e, show cfg0.N = 64 from N_0]
    omega
  unfold Cert.KernelAttnBwdIdeal.Value.G6
  rw [dif_pos hn, ← Cert.KernelAttnBwdIdeal.Value.outsAt0_sweep m c _ hn, (copied h _ hn (by omega)).1, dk_at h.proj h.out,
    show Cert.KernelAttnBwdIdeal.Value.pt6Of i / 16 = (i 1).val / 128 by omega]
  refine congrArg _ ((dk_pair P O ((i 1).val / 128) (s := (i 0).val % 8192) (l := (i 1).val % 128) (by omega)).trans ?_)
  rw [show 2 * ((i 1).val / 128) + (i 1).val % 128 / 64 = (i 1).val / 64 by omega, Nat.div_add_mod, Nat.mod_eq_of_lt h0]

theorem left7 (i : S8192x512.Idx) : Cert.KernelAttnBwdIdeal.Value.G7 m c i
    = val_main_v52 (F := Ideal) (m ((c : Thread nD τ).loc main_arg0)) (m ((c : Thread nD τ).loc main_arg1)) i := by
  have h0 : (i 0).val < 8192 := (i 0).isLt
  have h1 : (i 1).val < 512 := (i 1).isLt
  have e : Cert.KernelAttnBwdIdeal.Value.pt7Of i = 16 * ((i 1).val / 128) + 15 := by
    show 16 * Cert.KernelAttnBwdIdeal.Value.run7Of i + 15 = _
    show 16 * (4 * ((i 0).val / 8192 - 0) + 1 * ((i 1).val / 128 - 0)) + 15 = _
    omega
  have hn : Cert.KernelAttnBwdIdeal.Value.pt7Of i < cfg0.N := by
    rw [e, show cfg0.N = 64 from N_0]
    omega
  unfold Cert.KernelAttnBwdIdeal.Value.G7
  rw [dif_pos hn, ← Cert.KernelAttnBwdIdeal.Value.outsAt0_sweep m c _ hn, (copied h _ hn (by omega)).2, dv_at h.proj h.out,
    show Cert.KernelAttnBwdIdeal.Value.pt7Of i / 16 = (i 1).val / 128 by omega]
  refine congrArg _ ((dv_pair P O ((i 1).val / 128) (s := (i 0).val % 8192) (l := (i 1).val % 128) (by omega)).trans ?_)
  rw [show 2 * ((i 1).val / 128) + (i 1).val % 128 / 64 = (i 1).val / 64 by omega, Nat.div_add_mod, Nat.mod_eq_of_lt h0]

end

/-- The value claim of the backward attention. -/
theorem algebraic [Cert.Pre_finite_proj_do.Facts] :
    Cert.algebraic_KernelAttnBwdIdeal_ReferenceAttnBwdIdeal_pre_finite_proj_do := by
  intro m ρ m' ρ' hpre hagree
  have H : ∀ c : Dev nD, Inputs m c (numbers (by decide) (by decide) (m ((c : Thread nD τ).loc main_arg0)))
      (numbers (by decide) (by decide) (m ((c : Thread nD τ).loc main_arg1))) := fun c =>
    inputs m (numbers_at _ _ _ fun y => congrFun (hpre c).1 y) (numbers_at _ _ _ fun y => congrFun (hpre c).2 y)
  refine ⟨Cert.KernelAttnBwdIdeal.Value.G5 m, Cert.KernelAttnBwdIdeal.Value.G6 m, Cert.KernelAttnBwdIdeal.Value.G7 m,
    Cert.KernelAttnBwdIdeal.Value.run (F := Ideal) m ρ, ?_⟩
  refine (θ_run Cert.ReferenceAttnBwdIdeal.defs _ _).mono (fun r hr c => ?_) (Cert.ReferenceAttnBwdIdeal.Value.run (F := Ideal) m' ρ')
  obtain ⟨h5, h6, h7, h⟩ := hr c
  obtain ⟨a0, a1⟩ := hagree c
  refine ⟨h5.trans ?_, h6.trans ?_, h7.trans ?_, h⟩
  · rw [val_main_v48_eq, a0, a1]; exact (funext (left5 (H c))).symm
  · rw [val_main_v50_eq, a0, a1]; exact (funext (left6 (H c))).symm
  · rw [val_main_v52_eq, a0, a1]; exact (funext (left7 (H c))).symm

end Cert.Proof.Bwd

end
-- ==== Proof.FwdRun.lean ====
/-
  The forward attention kernel's body on any staging buffers, run once: what it stores in its two results, and that it
  gives back its inputs and its scratch buffers.
-/
module

public import proofs.«01_k».proof.Proof.Gen.KernelAttnFwdIdeal.Frame.Runs

@[expose] public section

set_option maxRecDepth 16384

noncomputable section

namespace Cert.Proof.FwdRun

open Cert.KernelAttnFwdIdeal Cert.KernelAttnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The second part of the body without the value the first loop never uses (the accumulator's old contents). -/
noncomputable def part6 (i : grid0.Coords) (arg2 : Memref sig .tc .vmem S512x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S512x128 .f32) (harg5 : arg5.IsWhole) (arg6 : Memref sig .tc .vmem S2x512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (v0 : IVec S512x128 32) (v10 : FVec F S128x256 .bf16) (v14 : IVec S512x1 32) (v16 : BitVec 32) (v29 : FVec F S1x128 .f32) (v35 : FVec F S512x128 .bf16) (v36 : FVec F S512x128 .f32) :
    Prog (TpuEff nD τ sig (Elt F) Λ₀ .tc) (Σ' (v61 : FVec F S1x128 .f32) (v67 : FVec F S512x128 .bf16) (v68 : FVec F S512x128 .f32), Vec F S512x128 .f32) :=
  k0_part6_skel i arg2 harg2 arg3 harg3 arg4 harg4 arg5 harg5 arg6 harg6 arg7 harg7 arg8 harg8 arg9 harg9 v0 v10 v14 v16 v29 v35 v36 v36

set_option maxRecDepth 65536 in
theorem part6_eq (i : grid0.Coords) (arg2 : Memref sig .tc .vmem S512x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S512x128 .f32) (harg5 : arg5.IsWhole) (arg6 : Memref sig .tc .vmem S2x512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (v0 : IVec S512x128 32) (v10 : FVec F S128x256 .bf16) (v14 : IVec S512x1 32) (v16 : BitVec 32) (v29 : FVec F S1x128 .f32) (v35 : FVec F S512x128 .bf16) (v36 : FVec F S512x128 .f32) (v37 : Vec F S512x128 .f32) :
    k0_part6_skel i arg2 harg2 arg3 harg3 arg4 harg4 arg5 harg5 arg6 harg6 arg7 harg7 arg8 harg8 arg9 harg9 v0 v10 v14 v16 v29 v35 v36 v37 = part6 i arg2 harg2 arg3 harg3 arg4 harg4 arg5 harg5 arg6 harg6 arg7 harg7 arg8 harg8 arg9 harg9 v0 v10 v14 v16 v29 v35 v36 := rfl

set_option maxHeartbeats 4000000 in
/-- The stores into the attention's output and into the saved sums, last first, with the triple of the body: on buffers
    holding the queries, keys and values, it gives these back unchanged and the results' buffers with the stores made. -/
noncomputable def run (c : Dev nD) (i : grid0.Coords) (arg2 : Memref sig .tc .vmem S512x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S512x128 .f32) (harg5 : arg5.IsWhole) (arg6 : Memref sig .tc .vmem S2x512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole)
    (x0 : Vec F S512x128 .f32) (x1 : Vec F S8192x128 .f32) (x2 : Vec F S8192x128 .f32) :
    Σ' (L3 : List (View.Piece (Elt F) S512x128 .f32)), { L4 : List (View.Piece (Elt F) S2x512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_attn_fwd i arg2 harg2 arg3 harg3 arg4 harg4 arg5 harg5 arg6 harg6 arg7 harg7 arg8 harg8 arg9 harg9) K } := by
  refine ⟨?_, ?_, fun E K => ?run⟩
  case run =>
    simp only [cc0_attn_fwd_eq_skeleton]; unfold cc0_attn_fwd_skel
    simp only [k0_part5_eq_skeleton, k0_part6_eq_skeleton, part6_eq]
    unfold part6
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Proof.FwdRun

end
-- ==== Proof.FwdFrame.lean ====
/-
  The launch of the forward attention kernel over its grid, from the body's run: it ends, leaves its argument as it
  found it, and fills its two results block by block.
-/
module

public import proofs.«01_k».proof.Proof.FwdRun
public import Idealize.ShloMosaic.Lib.Claim
public import Idealize.ShloMosaic.Lib.Pipeline.Value

@[expose] public section

set_option maxRecDepth 16384

noncomputable section

namespace Cert.Proof.FwdRun

open Cert.KernelAttnFwdIdeal Cert.KernelAttnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The one store into the output covers its block. -/
theorem coverO (c : Dev nD) (i : grid0.Coords) (arg2 : Memref sig .tc .vmem S512x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S512x128 .f32) (harg5 : arg5.IsWhole) (arg6 : Memref sig .tc .vmem S2x512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole)
    (x0 : Vec F S512x128 .f32) (x1 : Vec F S8192x128 .f32) (x2 : Vec F S8192x128 .f32) (y : S512x128.Idx) :
    ∃ pc ∈ (run c i arg2 harg2 arg3 harg3 arg4 harg4 arg5 harg5 arg6 harg6 arg7 harg7 arg8 harg8 arg9 harg9 x0 x1 x2).1, y ∈ pc.1.set :=
  View.cover_of_tiledL (run c i arg2 harg2 arg3 harg3 arg4 harg4 arg5 harg5 arg6 harg6 arg7 harg7 arg8 harg8 arg9 harg9 x0 x1 x2).1 S512x128.size (by sl_kernel_rfl) y

/-- What the body leaves in the output's block. -/
def leftO (c : Dev nD) (i : grid0.Coords) (arg2 : Memref sig .tc .vmem S512x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S512x128 .f32) (harg5 : arg5.IsWhole) (arg6 : Memref sig .tc .vmem S2x512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole)
    (x0 : Vec F S512x128 .f32) (x1 : Vec F S8192x128 .f32) (x2 : Vec F S8192x128 .f32) : Vec F S512x128 .f32 :=
  VO0_3.read (Elt F) (VO0_3.writes (Elt F) VO0_3.junk (run c i arg2 harg2 arg3 harg3 arg4 harg4 arg5 harg5 arg6 harg6 arg7 harg7 arg8 harg8 arg9 harg9 x0 x1 x2).1)

/-- The two stores into the saved sums, one for each head, cover their block. -/
theorem coverR (c : Dev nD) (i : grid0.Coords) (arg2 : Memref sig .tc .vmem S512x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S512x128 .f32) (harg5 : arg5.IsWhole) (arg6 : Memref sig .tc .vmem S2x512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole)
    (x0 : Vec F S512x128 .f32) (x1 : Vec F S8192x128 .f32) (x2 : Vec F S8192x128 .f32) (y : S2x512x128.Idx) :
    ∃ pc ∈ (run c i arg2 harg2 arg3 harg3 arg4 harg4 arg5 harg5 arg6 harg6 arg7 harg7 arg8 harg8 arg9 harg9 x0 x1 x2).2.1, y ∈ pc.1.set :=
  View.cover_of_tiledL (run c i arg2 harg2 arg3 harg3 arg4 harg4 arg5 harg5 arg6 harg6 arg7 harg7 arg8 harg8 arg9 harg9 x0 x1 x2).2.1 S1x512x128.size (by sl_kernel_rfl) y

/-- What the body leaves in the saved sums' block. -/
def leftR (c : Dev nD) (i : grid0.Coords) (arg2 : Memref sig .tc .vmem S512x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S512x128 .f32) (harg5 : arg5.IsWhole) (arg6 : Memref sig .tc .vmem S2x512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole)
    (x0 : Vec F S512x128 .f32) (x1 : Vec F S8192x128 .f32) (x2 : Vec F S8192x128 .f32) : Vec F S2x512x128 .f32 :=
  VO0_4.read (Elt F) (VO0_4.writes (Elt F) VO0_4.junk (run c i arg2 harg2 arg3 harg3 arg4 harg4 arg5 harg5 arg6 harg6 arg7 harg7 arg8 harg8 arg9 harg9 x0 x1 x2).2.1)

/-- What a point leaves in both results. -/
def left (c : Dev nD) (t : Fin cfg0.N) : Vec F S512x128 .f32 × Vec F S2x512x128 .f32 :=
  (leftO c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t), leftR c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t))

/-- The launch's data: the arrays as found, what every window's buffer holds after a point, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (left m c t).1
    | ⟨4, _⟩ => (left m c t).2
  Φ _ := Pipeline.ΦA spec0 c
  q w := Pipeline.shareOf spec0 w
  owed _ := 0

/-- The arrays are as found. -/
theorem A_eq (c : Dev nD) (w : Fin cfg0.W) : (dats m 0 c).A w = V m c (Pipeline.arrRef spec0 w) := by
  dsimp only [dats]

/-- What each window holds after a point. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (left m c t).1 := by dsimp only [dats]
theorem after0_4 (c : Dev nD) (t : Fin cfg0.N) : (dats m 0 c).after 4 t = (left m c t).2 := by dsimp only [dats]

/-- What each input's window holds before a point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is given at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 800000 in
/-- The body at a point, from its run on any buffers. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold left
  unfold leftO leftR; (try dsimp only)
  iintro ⟨⟨⟨HS0, HS1, HS2⟩, Hg⟩, Ho, ⟨%d0, H0⟩, ⟨%d1, H1⟩, ⟨%d2, H2⟩, ⟨%d3, H3⟩, ⟨%d4, H4⟩⟩
  iapply ((run c (grid0.coords t) _ _ _ _ _ _ _ _ _ _ _ _ _ _ _ _ (iblk m c 0 t) (iblk m c 1 t) (iblk m c 2 t)).2.2 Set.univ _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  isplitl [HS2]; · iexact HS2
  iintro ⟨H0, H1, H2, ⟨%e3, H3⟩, ⟨%e4, H4⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (coverO c _ _ _ _ _ _ _ _ _ _ _ _ _ _ _ _ _ _ _ _)
  unfold owns; iexists _; isplitr
  swap; · iexact H4
  ipureintro; exact View.read_writes_of_cover _ _ _ _ _ (coverR c _ _ _ _ _ _ _ _ _ _ _ _ _ _ _ _ _ _ _ _)

/-- The launch's body at a point. -/
theorem defs₀_row (t : Fin cfg0.N) :
    defs₀ (F := F) .tc cfg0.body (cfg0.bodyArgs t (cfg0.slots t)) = bodyAt0 t := by
  unfold defs₀; rw [Defs.onTc_tc]

/-- So the launch may run the body at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch ends with the arrays as the data say and every counter at zero. -/
theorem launched : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same without the counters. -/
theorem runs : θ_run defs (onTc (τ := τ) (main (F := F))) (s₀ m ρ) (Pipeline.FramePost cfgs (dats m) 0 (V m)) :=
  (θ_run defs _ _).mono (fun _ h => h.1) (launched m ρ)

/-- The argument ends as it began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (runs m ρ)

/-- The frame claim, for numbers of any kind. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (launched m ρ))

end Cert.Proof.FwdRun

end
-- ==== Proof.FwdBits.lean ====
/-
  The frame of the forward attention kernel on machine numbers: its text is that of the program read on extended reals,
  whose launch was run for numbers of any kind.
-/
module

public import proofs.«01_k».proof.Defs
public import proofs.«01_k».proof.Proof.FwdFrame
public import proofs.«01_k».proof.Proof.Gen.KernelAttnFwd.Skeleton

@[expose] public section

set_option maxRecDepth 65536

open Idealize.SL.Sem Idealize.ShloMosaic Idealize.ShloMosaic.TcCoe Idealize.ShloMosaic.Tactic

namespace Cert.Proof.FwdRun

open Cert.KernelAttnFwdIdeal in
/-- The two claims are one, the programs' texts being the same. -/
theorem same : Cert.quiescent_KernelAttnFwd = ∀ (m : (ℓ : Loc nD τ sig) → Buf (Elt Bits) ℓ) (ρ : Dev nD → PrngReg), True →
    θ_run defs (onTc (τ := τ) (main (F := Bits))) ⟨m, fun _ => 0, ρ⟩ (fun r => (∀ c : Dev nD,
      r.2.mem ((c.tc : Thread nD τ).loc main_arg0) = m ((c.tc : Thread nD τ).loc main_arg0)) ∧ r.2.sem = fun _ => 0) := by
  sl_kernel_rfl

theorem frame_bits : Cert.quiescent_KernelAttnFwd := by
  rw [same]
  exact fun m ρ _ => frame (F := Bits) m ρ

end Cert.Proof.FwdRun
-- ==== Proof.FwdElem.lean ====
/-
  One block of keys of the forward attention kernel, element by element: each value the loop body computes, as the real
  number it is for real arguments.
-/
module

public import proofs.«01_k».proof.Proof.Gen.KernelAttnFwdIdeal.Loops
public import proofs.«01_k».proof.Proof.BwdSetup

@[expose] public section

set_option maxRecDepth 8192

noncomputable section

namespace Cert.Proof.Fwd

open Cert.KernelAttnFwdIdeal Cert.KernelAttnFwdIdeal.Gen Idealize.ShloMosaic Idealize.ShloMosaic.TcCoe Idealize.SL.Sem
open Idealize.ShloMosaic.Tactic Cert.Proof.Stick
open Cert.Proof.Bwd (dots lane)

/-- What a head's pass over its `m` blocks is given: the places of its rows (from `T` on), the number of blocks, the
    triangle beside a block of ones, the masked and scaled queries and the mask. -/
structure Pass (T m : ℕ) (tp : IVec S512x1 32) (w : BitVec 32) (ta : FVec Ideal S128x256 .bf16) (qm : FVec Ideal S512x128 .bf16)
    (lm : FVec Ideal S1x128 .f32) (q : ℕ → ℕ → ℝ) (μ : ℕ → ℝ) : Prop where
  top : T + 512 ≤ 8192
  blocks : m ≤ 64
  w : w = BitVec.ofNat 32 m
  tp : ∀ y, tp y = BitVec.ofNat 32 (T + (y 0).val)
  ta : ∀ y, ta y = if 128 ≤ (y 1).val ∨ (y 1).val < (y 0).val then 1 else 0
  qm : ∀ y, qm y = (q (T + (y 0).val) (y 1).val : EReal)
  lm : ∀ y, lm y = (μ (y 1).val : EReal)

/-- The keys and values of block `b`. -/
structure Blk (b : ℕ) (K V : Vec Ideal S128x128 .f32) (k v : ℕ → ℕ → ℝ) : Prop where
  K : ∀ y, K y = (k (128 * b + (y 0).val) (y 1).val : EReal)
  V : ∀ y, V y = (v (128 * b + (y 0).val) (y 1).val : EReal)

/-- The block a trip takes: the blocks go by from the last to the first. -/
theorem block_word (m n : ℕ) (hm : m ≤ 64) (hn : n < m) :
    Scalar.subi (Scalar.subi (BitVec.ofNat 32 m) 1#32) (Scf.iv 0#32 1#32 n) = BitVec.ofNat 32 (m - 1 - n) := by
  rw [iv_zero_one]
  unfold Scalar.subi IntOp.subi
  apply BitVec.eq_of_toNat_eq
  simp only [BitVec.toNat_sub, BitVec.toNat_ofNat]
  omega

variable {T m : ℕ} {tp : IVec S512x1 32} {w : BitVec 32} {ta : FVec Ideal S128x256 .bf16} {qm : FVec Ideal S512x128 .bf16}
  {lm : FVec Ideal S1x128 .f32} {q k v : ℕ → ℕ → ℝ} {μ : ℕ → ℝ} {K V : Vec Ideal S128x128 .f32} {i : grid0.Coords}
  {n : Fin (k0_t1_loop i).trips}

/-- The scores. -/
theorem score (P : Pass T m tp w ta qm lm q μ) (B : Blk (m - 1 - n.val) K V k v) (y : S512x128.Idx) :
    k0_pay11 qm K y = (dots q k (T + (y 0).val) (128 * (m - 1 - n.val) + (y 1).val) : EReal) := by
  pointwise [k0_pay11]
  exact sum_mul_coe _ _ _ (fun x : Fin 128 => q (T + (y 0).val) x) (fun x : Fin 128 => k (128 * (m - 1 - n.val) + (y 1).val) x)
    (fun x _ => P.qm _) (fun x _ => B.K _)

/-- Which keys come before the row. -/
theorem before (P : Pass T m tp w ta qm lm q μ) (hn : n.val < m) (y : S512x128.Idx) :
    k0_pay12 i tp w 0#32 1#32 n y = BitVec.ofBool (decide (128 * (m - 1 - n.val) + (y 1).val < T + (y 0).val)) := by
  have h0 : (y 0).val < 512 := (y 0).isLt
  have := P.top
  have := P.blocks
  pointwise [k0_pay12]
  rw [P.tp, P.w, block_word m n.val P.blocks hn]
  exact place_slt _ _ _ (by omega) (y 1).isLt (by show T + (y 0).val < 8192; omega)

/-- The log of one minus the sigmoid, nothing from the row on. -/
theorem logs (P : Pass T m tp w ta qm lm q μ) (hn : n.val < m) (B : Blk (m - 1 - n.val) K V k v) (y : S512x128.Idx) :
    k0_pay13 i tp w qm 0#32 1#32 n K y = (L (dots q k) (T + (y 0).val) (128 * (m - 1 - n.val) + (y 1).val) : EReal) := by
  have h : k0_pay13 i tp w qm 0#32 1#32 n K y = Scalar.select (k0_pay12 i tp w 0#32 1#32 n y)
      (0 - (max (k0_pay11 qm K y) 0 + Ideal.log (1 + Ideal.exp (0 - max (k0_pay11 qm K y) (-(k0_pay11 qm K y)))))) 0 := by
    pointwise [k0_pay13]; rfl
  rw [h, before P hn, select_ofBool, score P B, neg_softplus_coe]
  unfold L
  split <;> simp

/-- Their sums: over the places after the column, and over the whole block from column 128 on. -/
theorem cums (P : Pass T m tp w ta qm lm q μ) (hn : n.val < m) (B : Blk (m - 1 - n.val) K V k v) (y : S512x256.Idx) :
    k0_pay14 i ta tp w qm 0#32 1#32 n K y = ((∑ x : Fin 128, L (dots q k) (T + (y 0).val) (128 * (m - 1 - n.val) + x.val)
      * (if 128 ≤ (y 1).val ∨ (y 1).val < x.val then 1 else 0) : ℝ) : EReal) := by
  have h1 : ∀ y : S128x256.Idx, ta y = ((if 128 ≤ (y 1).val ∨ (y 1).val < (y 0).val then 1 else 0 : ℝ) : EReal) := by
    intro y; rw [P.ta]; split <;> simp
  have h2 : ∀ y : S512x128.Idx, k0_pay13 i tp w qm 0#32 1#32 n K y - k0_pay13 i tp w qm 0#32 1#32 n K y = ((0 : ℝ) : EReal) := by
    intro y; rw [logs P hn B, ← EReal.coe_sub, sub_self]
  have h3 : ∑ x : Fin 128, (k0_pay13 i tp w qm 0#32 1#32 n K (ValueIdx.ix2 (y 0) x) - k0_pay13 i tp w qm 0#32 1#32 n K (ValueIdx.ix2 (y 0) x))
      * ta (ValueIdx.ix2 x (y 1)) = ((0 : ℝ) : EReal) := by
    rw [sum_mul_coe _ _ _ _ _ (fun x _ => h2 _) (fun x _ => h1 _)]; simp
  have h4 := sum_mul_coe Finset.univ (fun x : Fin 128 => k0_pay13 i tp w qm 0#32 1#32 n K (ValueIdx.ix2 (y 0) x))
    (fun x : Fin 128 => ta (ValueIdx.ix2 x (y 1))) _ _ (fun x _ => logs P hn B _) (fun x _ => h1 _)
  pointwise [k0_pay14]
  exact (congrArg₂ (· + ·) h4 h3).trans (by rw [← EReal.coe_add, add_zero])

/-- The weight from its parts. -/
theorem weight_of (z : ℕ → ℕ → ℝ) (t b j : ℕ) (hj : j < 128) (hb : b < 64) (M : BitVec 1) (a o c e : EReal)
    (hM : M = BitVec.ofBool (decide (128 * b + j < t))) (ha : a = (L z t (128 * b + j) : EReal)) (ho : o = (z t (128 * b + j) : EReal))
    (hc : c = ((∑ x : Fin 128, L z t (128 * b + x.val) * (if 128 ≤ j ∨ j < x.val then 1 else 0) : ℝ) : EReal))
    (he : e = (suf z t (128 * (b + 1)) : EReal)) :
    Scalar.select M (Ideal.exp (a + o + c + e)) 0 = (wt z t (128 * b + j) : EReal) := by
  rw [hM, ha, ho, hc, he, select_ofBool, ← EReal.coe_add, ← EReal.coe_add, ← EReal.coe_add, Ideal.exp_coe]
  unfold wt
  split
  · rename_i hlt
    rw [suf_in_block _ _ _ _ hj hb, show L z t (128 * b + j) = lg (z t (128 * b + j)) from if_pos hlt]
    simp only [show ¬ 128 ≤ j by omega, false_or]
    congr 2; ring
  · simp

variable {R A : Vec Ideal S512x128 .f32}

/-- A factor goes into a choice against zero. -/
theorem select_mul (M : BitVec 1) (a c : EReal) : Scalar.select M a 0 * c = Scalar.select M (a * c) 0 := by
  unfold Scalar.select
  split
  · rfl
  · exact zero_mul c

/-- The output after the block. -/
theorem newOut (P : Pass T m tp w ta qm lm q μ) (hn : n.val < m) (B : Blk (m - 1 - n.val) K V k v)
    (hR : ∀ y : S512x128.Idx, R y = (suf (dots q k) (T + (y 0).val) (128 * (m - 1 - n.val + 1)) : EReal)) (y : S512x128.Idx) :
    k0_pay42 (k0_pay10 lm V) (k0_pay12 i tp w 0#32 1#32 n) (k0_pay15 i ta tp w qm 0#32 1#32 n K R) A y
      = A y + ((∑ x : Fin 128, wt (dots q k) (T + (y 0).val) (128 * (m - 1 - n.val) + x.val)
          * (v (128 * (m - 1 - n.val) + x.val) (y 1).val * μ (y 1).val) : ℝ) : EReal) := by
  have hb : m - 1 - n.val < 64 := by have := P.blocks; omega
  have h1 : ∀ y : S512x128.Idx, Scalar.select (k0_pay12 i tp w 0#32 1#32 n y) (Ideal.exp (k0_pay15 i ta tp w qm 0#32 1#32 n K R y)) 0
      = (wt (dots q k) (T + (y 0).val) (128 * (m - 1 - n.val) + (y 1).val) : EReal) := by
    intro y
    pointwise [k0_pay15]
    exact weight_of (dots q k) (T + (y 0).val) (m - 1 - n.val) (y 1).val (y 1).isLt hb _ _ _ _ _ (before P hn y) (logs P hn B y) (score P B y)
      (cums P hn B _) (hR y)
  have h2 : ∀ y : S128x128.Idx, k0_pay10 lm V y = ((v (128 * (m - 1 - n.val) + (y 0).val) (y 1).val * μ (y 1).val : ℝ) : EReal) := by
    intro y
    pointwise [k0_pay10]
    exact (congrArg₂ (· * ·) (B.V y) (P.lm _)).trans (EReal.coe_mul _ _).symm
  pointwise [k0_pay42]
  refine congrArg (A y + ·) ((Finset.sum_congr rfl fun x _ => (select_mul _ _ _).symm).trans ?_)
  exact (sum_mul_coe Finset.univ _ _ _ _ (fun x _ => h1 (ValueIdx.ix2 (y 0) x)) (fun x _ => h2 (ValueIdx.ix2 x (y 1))))

/-- The sum from the block on. -/
theorem newSum (P : Pass T m tp w ta qm lm q μ) (hn : n.val < m) (B : Blk (m - 1 - n.val) K V k v)
    (hR : ∀ y : S512x128.Idx, R y = (suf (dots q k) (T + (y 0).val) (128 * (m - 1 - n.val + 1)) : EReal)) (y : S512x128.Idx) :
    k0_pay44 (k0_pay14 i ta tp w qm 0#32 1#32 n K) R y = (suf (dots q k) (T + (y 0).val) (128 * (m - 1 - n.val)) : EReal) := by
  have hb : m - 1 - n.val < 64 := by have := P.blocks; omega
  pointwise [k0_pay44]
  refine (congrArg₂ (· + ·) (hR y) (cums P hn B _)).trans ?_
  rw [← EReal.coe_add, suf_block _ _ _ hb, add_comm]
  congr 2
  refine Finset.sum_congr rfl fun x _ => ?_
  rw [if_pos (Or.inl (by show 128 ≤ 128 + (y 1).val; omega)), mul_one]
  rfl

/-- The saved sums: the block's column takes the sum of the keys after the block. -/
theorem newAll (hm : m ≤ 64) (hn : n.val < m) (hw : w = BitVec.ofNat 32 m) (y : S512x128.Idx) :
    k0_pay43 (iota .tc S512x128 32 [1] iota_S512x128_d1_w32) (Scalar.subi (Scalar.subi w 1#32) (Scf.iv 0#32 1#32 n.val)) R A y
      = if (y 1).val = m - 1 - n.val then R y else A y := by
  have h1 : (y 1).val < 128 := (y 1).isLt
  pointwise [k0_pay43]
  rw [hw, block_word m n.val hm hn, WordCmp.cmpi_eq_ofNat (by norm_num; omega) (by norm_num; omega), select_ofBool]

end Cert.Proof.Fwd
-- ==== Proof.FwdTrip.lean ====
/-
  The two loops of the forward attention kernel: each trip's stores, and what the three buffers hold after any number
  of trips.
-/
module

public import proofs.«01_k».proof.Proof.FwdElem
public import Idealize.ShloMosaic.Lib.Tactic
public import Idealize.ShloMosaic.Lib.VecWindow
public import Idealize.ShloMosaic.Lib.WritesUnit
public import Idealize.ShloMosaic.Lib.Pipeline.ValueKit.Tiles

@[expose] public section

set_option maxRecDepth 8192

noncomputable section

namespace Cert.Proof.Fwd

open Cert.KernelAttnFwdIdeal Cert.KernelAttnFwdIdeal.Gen Idealize.ShloMosaic Idealize.ShloMosaic.TcCoe Idealize.SL.Sem
open Idealize.ShloMosaic.Tactic Cert.Proof.Stick
open Cert.Proof.Bwd (dots lane)

/-- A whole-block store. -/
abbrev whole (w : FVec Ideal S512x128 .f32) : View.Piece (Elt Ideal) S512x128 .f32 :=
  ⟨Rect.unit (s := S512x128) ![0, 0] S512x128.size inb_S512x128_S512x128_0_0, w⟩

/-- A load of a whole block. -/
abbrev ldW (a : Memref sig .tc .vmem S512x128 .f32) (f : BufTy.Contents (Elt Ideal) a.view.ty) : Vec Ideal S512x128 .f32 :=
  a.view.readAt (Elt Ideal) (Rect.unit (s := S512x128) ![0, 0] S512x128.size inb_S512x128_S512x128_0_0).toLoadRect f

/-- A load of one block's rows. -/
abbrev ldR (i : grid0.Coords) (n : Fin (k0_t1_loop i).trips) (a : Memref sig .tc .vmem S8192x128 .f32)
    (f : BufTy.Contents (Elt Ideal) a.view.ty) : Vec Ideal S128x128 .f32 :=
  a.view.readAt (Elt Ideal) (Rect.unit (s := S8192x128) (k0_off1 i n) S128x128.size (k0_off1_inb i n)).toLoadRect f

/-- The lane numbers of a block. -/
abbrev lanes512 : IVec S512x128 32 := iota .tc S512x128 32 [1] iota_S512x128_d1_w32

/-- The stores of one trip: the sum from the block on, the saved sums, the output. -/
abbrev stores (i : grid0.Coords) (n : Fin (k0_t1_loop i).trips) (tp : IVec S512x1 32) (w : BitVec 32) (ta : FVec Ideal S128x256 .bf16)
    (qm : FVec Ideal S512x128 .bf16) (lm : FVec Ideal S1x128 .f32) (K V : Vec Ideal S128x128 .f32) (ln : IVec S512x128 32)
    (R S A : Vec Ideal S512x128 .f32) :
    List (View.Piece (Elt Ideal) S512x128 .f32) × List (View.Piece (Elt Ideal) S512x128 .f32) × List (View.Piece (Elt Ideal) S512x128 .f32) :=
  ([whole (k0_pay44 (k0_pay14 i ta tp w qm 0#32 1#32 n K) R)],
   [whole (k0_pay43 ln (Scalar.subi (Scalar.subi w 1#32) (Scf.iv 0#32 1#32 n.val)) R S)],
   [whole (k0_pay42 (k0_pay10 lm V) (k0_pay12 i tp w 0#32 1#32 n) (k0_pay15 i ta tp w qm 0#32 1#32 n K R) A)])

section Trips

variable (𝒱 : Variants) (c : Dev nD) (bd : Option 𝒱.V) (i : grid0.Coords)
  (arg2 : Memref sig .tc .vmem S512x128 .f32) (harg2 : arg2.IsWhole)
  (arg3 : Memref sig .tc .vmem S8192x128 .f32) (harg3 : arg3.IsWhole)
  (arg4 : Memref sig .tc .vmem S8192x128 .f32) (harg4 : arg4.IsWhole)
  (arg5 : Memref sig .tc .vmem S512x128 .f32) (harg5 : arg5.IsWhole)
  (arg6 : Memref sig .tc .vmem S2x512x128 .f32) (harg6 : arg6.IsWhole)
  (arg7 : Memref sig .tc .vmem S512x128 .f32) (harg7 : arg7.IsWhole)
  (arg8 : Memref sig .tc .vmem S512x128 .f32) (harg8 : arg8.IsWhole)
  (arg9 : Memref sig .tc .vmem S512x128 .f32) (harg9 : arg9.IsWhole)
  (v0 : IVec S512x128 32) (v10 : FVec Ideal S128x256 .bf16) (v14 : IVec S512x1 32) (v16 : BitVec 32)
  (X3 : BufTy.Contents (Elt Ideal) arg3.view.ty) (X4 : BufTy.Contents (Elt Ideal) arg4.view.ty)
  (k : Fin (k0_t1_loop i).trips) (f7 : BufTy.Contents (Elt Ideal) arg7.view.ty) (f8 : BufTy.Contents (Elt Ideal) arg8.view.ty)
  (f9 : BufTy.Contents (Elt Ideal) arg9.view.ty)

set_option maxHeartbeats 4000000 in
/-- The first head's trip. -/
theorem trip1 (v29 : FVec Ideal S1x128 .f32) (v35 : FVec Ideal S512x128 .bf16) (v36 v37 : FVec Ideal S512x128 .f32) :
    tripL_k0_t1 (F := Ideal) 𝒱 c bd i arg2 harg2 arg3 harg3 arg4 harg4 arg5 harg5 arg6 harg6 arg7 harg7 arg8 harg8 arg9 harg9 v0 v10 v14 v16 v29 v35 v36 v37 X3 X4 k f7 f8 f9
      = stores i k v14 v16 v10 v35 v29 (ldR i k arg3 X3) (ldR i k arg4 X4) v0 (ldW arg7 f7) (ldW arg8 f8) (ldW arg9 f9) := by
  unfold tripL_k0_t1 trip_k0_t1
  dsimp only
  sl_unfold_words
  rfl

set_option maxHeartbeats 4000000 in
/-- The second head's trip. -/
theorem trip3 (v61 : FVec Ideal S1x128 .f32) (v67 : FVec Ideal S512x128 .bf16) :
    tripL_k0_t3 (F := Ideal) 𝒱 c bd i arg2 harg2 arg3 harg3 arg4 harg4 arg5 harg5 arg6 harg6 arg7 harg7 arg8 harg8 arg9 harg9 v0 v10 v14 v16 v61 v67 X3 X4 k f7 f8 f9
      = stores i k v14 v16 v10 v67 v61 (ldR i k arg3 X3) (ldR i k arg4 X4) v0 (ldW arg7 f7) (ldW arg8 f8) (ldW arg9 f9) := by
  unfold tripL_k0_t3 trip_k0_t3
  dsimp only
  sl_unfold_words
  rfl

end Trips

/-! ## What the buffers hold -/

/-- What the three buffers hold after `n` of `m` blocks, for rows from `T` on and scores `z`, over what the output started from. -/
structure Held (z v : ℕ → ℕ → ℝ) (μ : ℕ → ℝ) (T m : ℕ) (a₀ : ℕ → ℕ → ℝ) (n : ℕ) (R S A : Vec Ideal S512x128 .f32) : Prop where
  R : ∀ y, R y = (suf z (T + (y 0).val) (128 * (m - n)) : EReal)
  S : ∀ y, S y = ((if m - n ≤ (y 1).val ∧ (y 1).val < m then suf z (T + (y 0).val) (128 * ((y 1).val + 1)) else 0 : ℝ) : EReal)
  A : ∀ y, A y = ((a₀ (y 0).val (y 1).val
    + ∑ s ∈ Finset.Ico (128 * (m - n)) (128 * m), wt z (T + (y 0).val) s * (v s (y 1).val * μ (y 1).val) : ℝ) : EReal)

/-- The blocks the loops take at a point: all that hold a key before one of its rows. -/
theorem trips_eq (i : grid0.Coords) : (k0_t1_loop i).trips = 4 * ((i 1).val + 1) := by
  have h : ∀ w : Fin 16, (Scf.Loop.trips (w := 32) ⟨0#32, Scalar.addi 0#32 (Scalar.muli (Scalar.divsi (Scalar.subi
      (Scalar.muli (Scalar.addi (BitVec.ofNat 32 w.val) 1#32) 4#32) 0#32) 1#32) 1#32), 1#32⟩) = 4 * (w.val + 1) := by decide
  exact h (i 1)

theorem no_trips2 (i : grid0.Coords) : (k0_t2_loop i).trips = 0 := Nat.le_zero.1 (k0_t2_abs i).2.1
theorem no_trips4 (i : grid0.Coords) : (k0_t4_loop i).trips = 0 := Nat.le_zero.1 (k0_t4_abs i).2.1

/-- The number of blocks as the body computes it. -/
theorem count_word (i : grid0.Coords) :
    Scalar.muli (Scalar.addi (BitVec.ofNat 32 (i 1).val) 1#32) 4#32 = BitVec.ofNat 32 (k0_t1_loop i).trips := by
  rw [trips_eq]
  unfold Scalar.muli IntOp.muli Scalar.addi IntOp.addi
  apply BitVec.eq_of_toNat_eq
  simp only [BitVec.toNat_mul, BitVec.toNat_add, BitVec.toNat_ofNat]
  omega

/-- Where a trip's rows begin. -/
theorem off_eq (i : grid0.Coords) (n : Fin (k0_t1_loop i).trips) : k0_off1 i n = ![128 * ((k0_t1_loop i).trips - 1 - n.val), 0] := by
  have hm : (k0_t1_loop i).trips ≤ 64 := (k0_t1_abs i).2.1
  have e := block_word (k0_t1_loop i).trips n.val hm n.isLt
  rw [← count_word i] at e
  unfold k0_off1
  dsimp only
  rw [e]
  simp only [Scalar.muli, IntOp.muli, Scalar.indexCast]
  have := n.isLt
  congr 1
  simp only [BitVec.toNat_mul, BitVec.toNat_ofNat]
  omega

/-- A load of one block's rows, at an index. -/
theorem ldR_apply (i : grid0.Coords) (n : Fin (k0_t1_loop i).trips) (a : Memref sig .tc .vmem S8192x128 .f32)
    (f : BufTy.Contents (Elt Ideal) a.view.ty) (x : S128x128.Idx) (y : S8192x128.Idx)
    (h0 : (y 0).val = 128 * ((k0_t1_loop i).trips - 1 - n.val) + (x 0).val)
    (h1 : (y 1).val = (x 1).val) : ldR i n a f x = a.view.read (Elt Ideal) f y := by
  have hoff := off_eq i n
  exact View.ld_unit_apply_of (a.view.read (Elt Ideal) f) (k0_off1 i n) S128x128.size (k0_off1_inb i n) x y
    (Fin.forall_fin_two.mpr ⟨h0.trans (congrArg (· + (x 0).val) (congrFun hoff 0).symm),
      (h1.trans (Nat.zero_add _).symm).trans (congrArg (· + (x 1).val) (congrFun hoff 1).symm)⟩)

/-- The rows of a trip's block, from the buffers of all keys and values. -/
theorem blk (i : grid0.Coords) {kk vv : ℕ → ℕ → ℝ} {a3 a4 : Memref sig .tc .vmem S8192x128 .f32} {f3 : BufTy.Contents (Elt Ideal) a3.view.ty}
    {f4 : BufTy.Contents (Elt Ideal) a4.view.ty} (hK : ∀ y, a3.view.read (Elt Ideal) f3 y = (kk (y 0).val (y 1).val : EReal))
    (hV : ∀ y, a4.view.read (Elt Ideal) f4 y = (vv (y 0).val (y 1).val : EReal)) (n : Fin (k0_t1_loop i).trips) :
    Blk ((k0_t1_loop i).trips - 1 - n.val) (ldR i n a3 f3) (ldR i n a4 f4) kk vv := by
  have hr : ∀ y : S128x128.Idx, 128 * ((k0_t1_loop i).trips - 1 - n.val) + (y 0).val < 8192 := fun y => by
    have : (y 0).val < 128 := (y 0).isLt
    have := n.isLt
    have : (k0_t1_loop i).trips ≤ 64 := (k0_t1_abs i).2.1
    omega
  exact ⟨fun y => (ldR_apply i n a3 f3 y (ValueIdx.ix2 ⟨_, hr y⟩ (y 1)) rfl rfl).trans (hK _),
    fun y => (ldR_apply i n a4 f4 y (ValueIdx.ix2 ⟨_, hr y⟩ (y 1)) rfl rfl).trans (hV _)⟩

/-- The stores of one trip keep it. -/
theorem held_step {T : ℕ} {i : grid0.Coords} {tp : IVec S512x1 32} {w : BitVec 32} {ta : FVec Ideal S128x256 .bf16} {qm : FVec Ideal S512x128 .bf16}
    {lm : FVec Ideal S1x128 .f32} {q kk vv a₀ : ℕ → ℕ → ℝ} {μ : ℕ → ℝ} (P : Pass T (k0_t1_loop i).trips tp w ta qm lm q μ)
    {K V : Vec Ideal S128x128 .f32} {n : ℕ} (hn : n < (k0_t1_loop i).trips)
    (B : Blk ((k0_t1_loop i).trips - 1 - n) K V kk vv) {a7 a8 a9 : Memref sig .tc .vmem S512x128 .f32}
    (f7 : BufTy.Contents (Elt Ideal) a7.view.ty) (f8 : BufTy.Contents (Elt Ideal) a8.view.ty) (f9 : BufTy.Contents (Elt Ideal) a9.view.ty)
    (H : Held (dots q kk) vv μ T (k0_t1_loop i).trips a₀ n (a7.view.read (Elt Ideal) f7) (a8.view.read (Elt Ideal) f8) (a9.view.read (Elt Ideal) f9)) :
    let L := stores i ⟨n, hn⟩ tp w ta qm lm K V lanes512 (ldW a7 f7) (ldW a8 f8) (ldW a9 f9)
    Held (dots q kk) vv μ T (k0_t1_loop i).trips a₀ (n + 1) (a7.view.read (Elt Ideal) (a7.view.writes (Elt Ideal) f7 L.1))
      (a8.view.read (Elt Ideal) (a8.view.writes (Elt Ideal) f8 L.2.1))
      (a9.view.read (Elt Ideal) (a9.view.writes (Elt Ideal) f9 L.2.2)) := by
  intro L
  have e7 : ldW a7 f7 = a7.view.read (Elt Ideal) f7 := View.readAt_full _ _ _
  have e8 : ldW a8 f8 = a8.view.read (Elt Ideal) f8 := View.readAt_full _ _ _
  have e9 : ldW a9 f9 = a9.view.read (Elt Ideal) f9 := View.readAt_full _ _ _
  have hb : (k0_t1_loop i).trips - n = (k0_t1_loop i).trips - 1 - n + 1 := by omega
  have hb' : (k0_t1_loop i).trips - (n + 1) = (k0_t1_loop i).trips - 1 - n := by omega
  have hR : ∀ y : S512x128.Idx, ldW a7 f7 y = (suf (dots q kk) (T + (y 0).val) (128 * ((k0_t1_loop i).trips - 1 - n + 1)) : EReal) :=
    fun y => by rw [e7, ← hb]; exact H.R y
  refine ⟨fun y => ?_, fun y => ?_, fun y => ?_⟩
  · rw [show a7.view.read (Elt Ideal) (a7.view.writes (Elt Ideal) f7 L.1) = _ from View.read_writes_full _ _ _ _ _, hb']
    exact newSum (n := ⟨n, hn⟩) P hn B hR y
  · rw [show a8.view.read (Elt Ideal) (a8.view.writes (Elt Ideal) f8 L.2.1) = _ from View.read_writes_full _ _ _ _ _, hb']
    refine (newAll (n := ⟨n, hn⟩) P.blocks hn P.w y).trans ?_
    rw [hR y, e8, H.S y, hb]
    by_cases e : (y 1).val = (k0_t1_loop i).trips - 1 - n
    · rw [if_pos e, if_pos (by omega), e]
    · rw [if_neg e]
      congr 1
      exact if_congr (by omega) rfl rfl
  · rw [show a9.view.read (Elt Ideal) (a9.view.writes (Elt Ideal) f9 L.2.2) = _ from View.read_writes_full _ _ _ _ _, hb']
    refine (newOut (n := ⟨n, hn⟩) P hn B hR y).trans ?_
    rw [e9, H.A y, ← EReal.coe_add, hb, add_assoc,
      sum_block (fun s => wt (dots q kk) (T + (y 0).val) s * (vv s (y 1).val * μ (y 1).val)),
      add_comm (∑ s ∈ Finset.Ico (128 * ((k0_t1_loop i).trips - 1 - n + 1)) _, _),
      Finset.sum_Ico_consecutive _ (by omega) (by omega)]

section Loops

variable (𝒱 : Variants) (c : Dev nD) (bd : Option 𝒱.V) (i : grid0.Coords)
  (arg2 : Memref sig .tc .vmem S512x128 .f32) (harg2 : arg2.IsWhole)
  (arg3 : Memref sig .tc .vmem S8192x128 .f32) (harg3 : arg3.IsWhole)
  (arg4 : Memref sig .tc .vmem S8192x128 .f32) (harg4 : arg4.IsWhole)
  (arg5 : Memref sig .tc .vmem S512x128 .f32) (harg5 : arg5.IsWhole)
  (arg6 : Memref sig .tc .vmem S2x512x128 .f32) (harg6 : arg6.IsWhole)
  (arg7 : Memref sig .tc .vmem S512x128 .f32) (harg7 : arg7.IsWhole)
  (arg8 : Memref sig .tc .vmem S512x128 .f32) (harg8 : arg8.IsWhole)
  (arg9 : Memref sig .tc .vmem S512x128 .f32) (harg9 : arg9.IsWhole)
  (v10 : FVec Ideal S128x256 .bf16) (v14 : IVec S512x1 32) (v16 : BitVec 32)
  (X3 : BufTy.Contents (Elt Ideal) arg3.view.ty) (X4 : BufTy.Contents (Elt Ideal) arg4.view.ty)
  (G7 : BufTy.Contents (Elt Ideal) arg7.view.ty) (G8 : BufTy.Contents (Elt Ideal) arg8.view.ty)
  (G9 : BufTy.Contents (Elt Ideal) arg9.view.ty) {T : ℕ} {q kk vv a₀ : ℕ → ℕ → ℝ} {μ : ℕ → ℝ}

/-- The first head's loop, after any number of its trips. -/
theorem loop1 (v29 : FVec Ideal S1x128 .f32) (v35 : FVec Ideal S512x128 .bf16) (v36 v37 : FVec Ideal S512x128 .f32)
    (P : Pass T (k0_t1_loop i).trips v14 v16 v10 v35 v29 q μ)
    (hK : ∀ y, arg3.view.read (Elt Ideal) X3 y = (kk (y 0).val (y 1).val : EReal))
    (hV : ∀ y, arg4.view.read (Elt Ideal) X4 y = (vv (y 0).val (y 1).val : EReal))
    (H : Held (dots q kk) vv μ T (k0_t1_loop i).trips a₀ 0 (arg7.view.read (Elt Ideal) G7) (arg8.view.read (Elt Ideal) G8)
      (arg9.view.read (Elt Ideal) G9)) (n : ℕ) (hn : n ≤ (k0_t1_loop i).trips) :
    let L := pb_k0_t1 (F := Ideal) 𝒱 c bd i arg2 harg2 arg3 harg3 arg4 harg4 arg5 harg5 arg6 harg6 arg7 harg7 arg8 harg8 arg9 harg9 lanes512 v10 v14 v16 v29 v35 v36 v37 X3 X4 G7 G8 G9 n
    Held (dots q kk) vv μ T (k0_t1_loop i).trips a₀ n (arg7.view.read (Elt Ideal) (arg7.view.writes (Elt Ideal) G7 L.1))
      (arg8.view.read (Elt Ideal) (arg8.view.writes (Elt Ideal) G8 L.2.1))
      (arg9.view.read (Elt Ideal) (arg9.view.writes (Elt Ideal) G9 L.2.2)) := by
  induction n with
  | zero => exact H
  | succ n ih =>
    have S := held_step P hn (blk i hK hV ⟨n, hn⟩) _ _ _ (ih (Nat.le_of_succ_le hn))
    have E := pb_k0_t1_succ (F := Ideal) 𝒱 c bd i arg2 harg2 arg3 harg3 arg4 harg4 arg5 harg5 arg6 harg6 arg7 harg7 arg8 harg8 arg9 harg9 lanes512 v10 v14 v16 v29 v35 v36 v37 X3 X4 G7 G8 G9 ⟨n, hn⟩
    intro L
    rw [trip1] at E
    rw [show L = _ from E]
    simp only [View.writes_append]
    exact S

/-- The second head's loop, after any number of its trips. -/
theorem loop3 (v61 : FVec Ideal S1x128 .f32) (v67 : FVec Ideal S512x128 .bf16)
    (P : Pass T (k0_t1_loop i).trips v14 v16 v10 v67 v61 q μ)
    (hK : ∀ y, arg3.view.read (Elt Ideal) X3 y = (kk (y 0).val (y 1).val : EReal))
    (hV : ∀ y, arg4.view.read (Elt Ideal) X4 y = (vv (y 0).val (y 1).val : EReal))
    (H : Held (dots q kk) vv μ T (k0_t1_loop i).trips a₀ 0 (arg7.view.read (Elt Ideal) G7) (arg8.view.read (Elt Ideal) G8)
      (arg9.view.read (Elt Ideal) G9)) (n : ℕ) (hn : n ≤ (k0_t1_loop i).trips) :
    let L := pb_k0_t3 (F := Ideal) 𝒱 c bd i arg2 harg2 arg3 harg3 arg4 harg4 arg5 harg5 arg6 harg6 arg7 harg7 arg8 harg8 arg9 harg9 lanes512 v10 v14 v16 v61 v67 X3 X4 G7 G8 G9 n
    Held (dots q kk) vv μ T (k0_t1_loop i).trips a₀ n (arg7.view.read (Elt Ideal) (arg7.view.writes (Elt Ideal) G7 L.1))
      (arg8.view.read (Elt Ideal) (arg8.view.writes (Elt Ideal) G8 L.2.1))
      (arg9.view.read (Elt Ideal) (arg9.view.writes (Elt Ideal) G9 L.2.2)) := by
  induction n with
  | zero => exact H
  | succ n ih =>
    have S := held_step P hn (blk i hK hV ⟨n, hn⟩) _ _ _ (ih (Nat.le_of_succ_le hn))
    have E := pb_k0_t3_succ (F := Ideal) 𝒱 c bd i arg2 harg2 arg3 harg3 arg4 harg4 arg5 harg5 arg6 harg6 arg7 harg7 arg8 harg8 arg9 harg9 lanes512 v10 v14 v16 v61 v67 X3 X4 G7 G8 G9 ⟨n, hn⟩
    intro L
    rw [trip3] at E
    rw [show L = _ from E]
    simp only [View.writes_append]
    exact S

end Loops

end Cert.Proof.Fwd
-- ==== Proof.FwdPoint.lean ====
/-
  A point of the forward attention kernel: both heads' loops, and from them what the body leaves in the output's block
  and in the saved sums' block.
-/
module

public import proofs.«01_k».proof.Proof.FwdTrip
public import proofs.«01_k».proof.Proof.FwdFrame

@[expose] public section

set_option maxRecDepth 16384

noncomputable section

namespace Cert.Proof.Fwd

open Cert.KernelAttnFwdIdeal Cert.KernelAttnFwdIdeal.Gen Idealize.ShloMosaic Idealize.ShloMosaic.TcCoe Idealize.SL.Sem
open Idealize.ShloMosaic.Tactic Cert.Proof.Stick
open Cert.Proof.Bwd (dots lane)

/-- A head's queries: scaled, its own lanes only. -/
def headQ (Q : ℕ → ℕ → ℝ) (h t l : ℕ) : ℝ := Q t l * (1 / 8 * lane h l)

theorem rowNumber (i : grid0.Coords) (y : S512x1.Idx) : k0_pay35 i y = BitVec.ofNat 32 (512 * (i 1).val + (y 0).val) := by
  pointwise [k0_pay35]
  exact Bwd.row_word _ _

theorem later_word (a b : ℕ) (ha : a < 128) (hb : b < 256) :
    Scalar.select (IntOp.ori (IntOp.cmpi .sge (BitVec.ofNat 32 b) 128#32) (IntOp.cmpi .sgt (BitVec.ofNat 32 a) (BitVec.ofNat 32 b)))
      (1 : EReal) 0 = if 128 ≤ b ∨ b < a then 1 else 0 := by
  rw [WordCmp.cmpi_sge_ofNat (by omega) (by omega), WordCmp.cmpi_sgt_ofNat (by omega) (by omega), Bwd.pick_or]

theorem later (y : S128x256.Idx) : k0_pay34 (F := Ideal) y = if 128 ≤ (y 1).val ∨ (y 1).val < (y 0).val then 1 else 0 := by
  pointwise [k0_pay34]
  exact later_word _ _ (y 0).isLt (y 1).isLt

theorem mask0 (y : S1x128.Idx) : k0_pay37 (F := Ideal) y = (lane 0 (y 1).val : EReal) := by
  pointwise [k0_pay37]
  exact Bwd.lane_word _ 0 64 0 (y 1).isLt rfl rfl (by omega)

theorem mask1 (y : S1x128.Idx) : k0_pay49 (F := Ideal) y = (lane 1 (y 1).val : EReal) := by
  pointwise [k0_pay49]
  exact Bwd.lane_word _ 64 128 1 (y 1).isLt rfl rfl (by omega)

theorem hz36 : (k0_pay36 : FVec Ideal S512x128 .f32) = fun _ => 0 := by funext y; pointwise [k0_pay36]
theorem hz40 : k0_pay40 (k0_pay39 : FVec Ideal S512x128 .f32) = fun _ => 0 := by funext y; pointwise [k0_pay40, k0_pay39]
theorem hz41 : (k0_pay41 : FVec Ideal S512x128 .f32) = fun _ => 0 := by funext y; pointwise [k0_pay41]
theorem hz1 : k0_pay1 (k0_pay51 : FVec Ideal S512x128 .f32) = fun _ => 0 := by funext y; pointwise [k0_pay1, k0_pay51]
theorem hz2 : (k0_pay2 : FVec Ideal S512x128 .f32) = fun _ => 0 := by funext y; pointwise [k0_pay2]

/-- What a point reads: rows of queries, all keys and values. -/
structure Blocks (i : grid0.Coords) (x0 : Vec Ideal S512x128 .f32) (x1 x2 : Vec Ideal S8192x128 .f32) (Q K V : ℕ → ℕ → ℝ) : Prop where
  q : ∀ y, x0 y = (Q (512 * (i 1).val + (y 0).val) (y 1).val : EReal)
  k : ∀ y, x1 y = (K (y 0).val (y 1).val : EReal)
  v : ∀ y, x2 y = (V (y 0).val (y 1).val : EReal)

section Passes

variable {i : grid0.Coords} {x0 : Vec Ideal S512x128 .f32} {Q : ℕ → ℕ → ℝ}

/-- The first head's pass. -/
theorem pass0 (h : ∀ y, x0 y = (Q (512 * (i 1).val + (y 0).val) (y 1).val : EReal)) : Pass (512 * (i 1).val) (k0_t1_loop i).trips (k0_pay35 i)
    (Scalar.muli (Scalar.addi (BitVec.ofNat 32 (i 1).val) 1#32) 4#32) k0_pay34 (k0_pay38 x0) k0_pay37 (headQ Q 0) (lane 0) where
  top := by have : (i 1).val < 16 := (i 1).isLt; omega
  blocks := (k0_t1_abs i).2.1
  w := count_word i
  tp := rowNumber i
  ta := later
  qm y := by
    have e : k0_pay38 x0 y = x0 y * (Ideal.ofBits .f32 1040187392#32 * k0_pay37 (F := Ideal) (ValueIdx.ix2 0 (y 1))) := by
      pointwise [k0_pay38]; rfl
    exact e.trans (Bwd.times_eighth _ _ _ _ (h y) (mask0 _))
  lm := mask0

/-- The second head's pass. -/
theorem pass1 (h : ∀ y, x0 y = (Q (512 * (i 1).val + (y 0).val) (y 1).val : EReal)) : Pass (512 * (i 1).val) (k0_t1_loop i).trips (k0_pay35 i)
    (Scalar.muli (Scalar.addi (BitVec.ofNat 32 (i 1).val) 1#32) 4#32) k0_pay34 (k0_pay50 x0) k0_pay49 (headQ Q 1) (lane 1) where
  top := by have : (i 1).val < 16 := (i 1).isLt; omega
  blocks := (k0_t1_abs i).2.1
  w := count_word i
  tp := rowNumber i
  ta := later
  qm y := by
    have e : k0_pay50 x0 y = x0 y * (Ideal.ofBits .f32 1040187392#32 * k0_pay49 (F := Ideal) (ValueIdx.ix2 0 (y 1))) := by
      pointwise [k0_pay50]; rfl
    exact e.trans (Bwd.times_eighth _ _ _ _ (h y) (mask1 _))
  lm := mask1

end Passes

/-- What a head adds to the output of row `t` at lane `l`. -/
def headOut (Q K V : ℕ → ℕ → ℝ) (m h t l : ℕ) : ℝ :=
  ∑ s ∈ Finset.range (128 * m), wt (dots (headQ Q h) K) t s * (V s l * lane h l)

/-- What a head saves for row `t`: at lane `b` the sum over the keys after block `b`, among the first `m` blocks. -/
def headSum (Q K : ℕ → ℕ → ℝ) (m h t b : ℕ) : ℝ := if b < m then suf (dots (headQ Q h) K) t (128 * (b + 1)) else 0

/-- Before any block. -/
theorem held_zero (z v : ℕ → ℕ → ℝ) (μ : ℕ → ℝ) (T m : ℕ) (a₀ : ℕ → ℕ → ℝ) (R S A : Vec Ideal S512x128 .f32) (hT : T + 512 ≤ 128 * m)
    (hR : ∀ y, R y = 0) (hS : ∀ y, S y = 0) (hA : ∀ y, A y = (a₀ (y 0).val (y 1).val : EReal)) : Held z v μ T m a₀ 0 R S A where
  R y := by
    have : (y 0).val < 512 := (y 0).isLt
    rw [hR y, suf_of_le z (by omega), EReal.coe_zero]
  S y := by rw [hS y, if_neg (by omega), EReal.coe_zero]
  A y := by rw [hA y, Nat.sub_zero, Finset.Ico_self, Finset.sum_empty, add_zero]

section Point

variable (𝒱 : Variants) (c : Dev nD) (bd : Option 𝒱.V) (i : grid0.Coords)
  (arg2 : Memref sig .tc .vmem S512x128 .f32) (harg2 : arg2.IsWhole)
  (arg3 : Memref sig .tc .vmem S8192x128 .f32) (harg3 : arg3.IsWhole)
  (arg4 : Memref sig .tc .vmem S8192x128 .f32) (harg4 : arg4.IsWhole)
  (arg5 : Memref sig .tc .vmem S512x128 .f32) (harg5 : arg5.IsWhole)
  (arg6 : Memref sig .tc .vmem S2x512x128 .f32) (harg6 : arg6.IsWhole)
  (arg7 : Memref sig .tc .vmem S512x128 .f32) (harg7 : arg7.IsWhole)
  (arg8 : Memref sig .tc .vmem S512x128 .f32) (harg8 : arg8.IsWhole)
  (arg9 : Memref sig .tc .vmem S512x128 .f32) (harg9 : arg9.IsWhole)
  {x0 : Vec Ideal S512x128 .f32} {Q K V : ℕ → ℕ → ℝ}
  (X3 : BufTy.Contents (Elt Ideal) arg3.view.ty) (X4 : BufTy.Contents (Elt Ideal) arg4.view.ty)
  (F7 : BufTy.Contents (Elt Ideal) arg7.view.ty) (F8 : BufTy.Contents (Elt Ideal) arg8.view.ty)
  (F9 : BufTy.Contents (Elt Ideal) arg9.view.ty)

/-- What both heads leave in the output and in each head's saved sums. -/
structure Both (Q K V : ℕ → ℕ → ℝ) (T m : ℕ) (A S0 S1 : Vec Ideal S512x128 .f32) : Prop where
  A : ∀ y, A y = ((headOut Q K V m 0 (T + (y 0).val) (y 1).val + headOut Q K V m 1 (T + (y 0).val) (y 1).val : ℝ) : EReal)
  S0 : ∀ y, S0 y = (headSum Q K m 0 (T + (y 0).val) (y 1).val : EReal)
  S1 : ∀ y, S1 y = (headSum Q K m 1 (T + (y 0).val) (y 1).val : EReal)

set_option maxHeartbeats 2000000 in
/-- Both heads' loops. -/
theorem heads (hQ : ∀ y, x0 y = (Q (512 * (i 1).val + (y 0).val) (y 1).val : EReal))
    (hK : ∀ y, arg3.view.read (Elt Ideal) X3 y = (K (y 0).val (y 1).val : EReal))
    (hV : ∀ y, arg4.view.read (Elt Ideal) X4 y = (V (y 0).val (y 1).val : EReal))
    (h7 : ∀ y, arg7.view.read (Elt Ideal) F7 y = 0) (h8 : ∀ y, arg8.view.read (Elt Ideal) F8 y = 0)
    (h9 : ∀ y, arg9.view.read (Elt Ideal) F9 y = 0) (u2 u4 : BitVec 32)
    (n1 n2 n3 n4 : ℕ) (hn1 : n1 = (k0_t1_loop i).trips) (hn2 : n2 = 0) (hn3 : n3 = (k0_t1_loop i).trips) (hn4 : n4 = 0) :
    let L1 := pb_k0_t1 (F := Ideal) 𝒱 c bd i arg2 harg2 arg3 harg3 arg4 harg4 arg5 harg5 arg6 harg6 arg7 harg7 arg8 harg8 arg9 harg9 lanes512 k0_pay34 (k0_pay35 i) (Scalar.muli (Scalar.addi (BitVec.ofNat 32 (i 1).val) 1#32) 4#32) k0_pay37 (k0_pay38 x0) k0_pay39 (k0_pay39 (F := Ideal)) X3 X4 F7 F8 F9 n1
    let A7 := arg7.view.writes (Elt Ideal) F7 L1.1
    let A8 := arg8.view.writes (Elt Ideal) F8 L1.2.1
    let A9 := arg9.view.writes (Elt Ideal) F9 L1.2.2
    let L2 := pb_k0_t2 (F := Ideal) 𝒱 c bd i arg2 harg2 arg3 harg3 arg4 harg4 arg5 harg5 arg6 harg6 arg7 harg7 arg8 harg8 arg9 harg9 lanes512 k0_pay34 (k0_pay35 i) (Scalar.muli (Scalar.addi (BitVec.ofNat 32 (i 1).val) 1#32) 4#32) k0_pay37 (k0_pay38 x0) k0_pay39 (k0_pay39 (F := Ideal)) u2 X3 X4 A7 A8 A9 n2
    let B7 := arg7.view.writes (Elt Ideal) (arg7.view.writes (Elt Ideal) A7 L2.1) [whole (k0_pay1 k0_pay51)]
    let B8 := arg8.view.writes (Elt Ideal) (arg8.view.writes (Elt Ideal) A8 L2.2.1) [whole k0_pay2]
    let B9 := arg9.view.writes (Elt Ideal) A9 L2.2.2
    let L3 := pb_k0_t3 (F := Ideal) 𝒱 c bd i arg2 harg2 arg3 harg3 arg4 harg4 arg5 harg5 arg6 harg6 arg7 harg7 arg8 harg8 arg9 harg9 lanes512 k0_pay34 (k0_pay35 i) (Scalar.muli (Scalar.addi (BitVec.ofNat 32 (i 1).val) 1#32) 4#32) k0_pay49 (k0_pay50 x0) X3 X4 B7 B8 B9 n3
    let C7 := arg7.view.writes (Elt Ideal) B7 L3.1
    let C8 := arg8.view.writes (Elt Ideal) B8 L3.2.1
    let C9 := arg9.view.writes (Elt Ideal) B9 L3.2.2
    let L4 := pb_k0_t4 (F := Ideal) 𝒱 c bd i arg2 harg2 arg3 harg3 arg4 harg4 arg5 harg5 arg6 harg6 arg7 harg7 arg8 harg8 arg9 harg9 lanes512 k0_pay34 (k0_pay35 i) (Scalar.muli (Scalar.addi (BitVec.ofNat 32 (i 1).val) 1#32) 4#32) k0_pay49 (k0_pay50 x0) u4 X3 X4 C7 C8 C9 n4
    Both Q K V (512 * (i 1).val) (k0_t1_loop i).trips (arg9.view.read (Elt Ideal) (arg9.view.writes (Elt Ideal) C9 L4.2.2))
      (arg8.view.read (Elt Ideal) (arg8.view.writes (Elt Ideal) A8 L2.2.1))
      (arg8.view.read (Elt Ideal) (arg8.view.writes (Elt Ideal) C8 L4.2.1)) := by
  subst hn1 hn2 hn3 hn4
  intro L1 A7 A8 A9 L2 B7 B8 B9 L3 C7 C8 C9 L4
  have hT : 512 * (i 1).val + 512 ≤ 128 * (k0_t1_loop i).trips := by rw [trips_eq]; omega
  have H1 : Held (dots (headQ Q 0) K) V (lane 0) (512 * (i 1).val) (k0_t1_loop i).trips (fun _ _ => 0) (k0_t1_loop i).trips
      (arg7.view.read (Elt Ideal) A7) (arg8.view.read (Elt Ideal) A8) (arg9.view.read (Elt Ideal) A9) :=
    loop1 𝒱 c bd i arg2 harg2 arg3 harg3 arg4 harg4 arg5 harg5 arg6 harg6 arg7 harg7 arg8 harg8 arg9 harg9 k0_pay34 (k0_pay35 i) _ X3 X4 F7 F8 F9 k0_pay37 (k0_pay38 x0) k0_pay39 (k0_pay39 (F := Ideal)) (pass0 hQ) hK hV
      (held_zero _ _ _ _ _ (fun _ _ => 0) _ _ _ hT h7 h8 (fun y => (h9 y).trans EReal.coe_zero.symm)) _ le_rfl
  clear_value A7 A8 A9
  have hL2 : L2 = ([], [], []) := rfl
  clear_value L2
  subst hL2
  have e7 : arg7.view.read (Elt Ideal) B7 = fun _ => 0 := by
    rw [← hz1]; exact View.read_writes_full _ _ _ _ []
  have e8 : arg8.view.read (Elt Ideal) B8 = fun _ => 0 := by
    rw [← hz2]; exact View.read_writes_full _ _ _ _ []
  have e9 : B9 = A9 := rfl
  clear_value B7 B8 B9
  subst e9
  have hlast : ∀ y : S512x128.Idx, headOut Q K V (k0_t1_loop i).trips 0 (512 * (i 1).val + (y 0).val) (y 1).val
      = 0 + ∑ s ∈ Finset.Ico (128 * ((k0_t1_loop i).trips - (k0_t1_loop i).trips)) (128 * (k0_t1_loop i).trips),
          wt (dots (headQ Q 0) K) (512 * (i 1).val + (y 0).val) s * (V s (y 1).val * lane 0 (y 1).val) := fun y => by
    rw [zero_add, Nat.sub_self, Nat.mul_zero, ← Finset.range_eq_Ico]; rfl
  have H3 : Held (dots (headQ Q 1) K) V (lane 1) (512 * (i 1).val) (k0_t1_loop i).trips
      (fun r l => headOut Q K V (k0_t1_loop i).trips 0 (512 * (i 1).val + r) l) (k0_t1_loop i).trips
      (arg7.view.read (Elt Ideal) C7) (arg8.view.read (Elt Ideal) C8) (arg9.view.read (Elt Ideal) C9) :=
    loop3 𝒱 c bd i arg2 harg2 arg3 harg3 arg4 harg4 arg5 harg5 arg6 harg6 arg7 harg7 arg8 harg8 arg9 harg9 k0_pay34 (k0_pay35 i) _ X3 X4 B7 B8 B9 k0_pay49 (k0_pay50 x0) (pass1 hQ) hK hV
      (held_zero _ _ _ _ _ _ _ _ _ hT (congrFun e7) (congrFun e8) (fun y => (H1.A y).trans (congrArg _ (hlast y).symm))) _ le_rfl
  clear_value C7 C8 C9
  have hL4 : L4 = ([], [], []) := rfl
  clear_value L4
  subst hL4
  refine ⟨fun y => (H3.A y).trans ?_, fun y => (H1.S y).trans ?_, fun y => (H3.S y).trans ?_⟩
  · rw [Nat.sub_self, Nat.mul_zero, ← Finset.range_eq_Ico]; rfl
  · rw [Nat.sub_self]; exact congrArg _ (if_congr (by omega) rfl rfl)
  · rw [Nat.sub_self]; exact congrArg _ (if_congr (by omega) rfl rfl)

/-- The first head's saved sums. -/
theorem first_head (hQ : ∀ y, x0 y = (Q (512 * (i 1).val + (y 0).val) (y 1).val : EReal))
    (hK : ∀ y, arg3.view.read (Elt Ideal) X3 y = (K (y 0).val (y 1).val : EReal))
    (hV : ∀ y, arg4.view.read (Elt Ideal) X4 y = (V (y 0).val (y 1).val : EReal))
    (h7 : ∀ y, arg7.view.read (Elt Ideal) F7 y = 0) (h8 : ∀ y, arg8.view.read (Elt Ideal) F8 y = 0)
    (h9 : ∀ y, arg9.view.read (Elt Ideal) F9 y = 0) (u2 : BitVec 32)
    (n1 n2 : ℕ) (hn1 : n1 = (k0_t1_loop i).trips) (hn2 : n2 = 0) (y : S512x128.Idx) :
    let L1 := pb_k0_t1 (F := Ideal) 𝒱 c bd i arg2 harg2 arg3 harg3 arg4 harg4 arg5 harg5 arg6 harg6 arg7 harg7 arg8 harg8 arg9 harg9 lanes512 k0_pay34 (k0_pay35 i) (Scalar.muli (Scalar.addi (BitVec.ofNat 32 (i 1).val) 1#32) 4#32) k0_pay37 (k0_pay38 x0) k0_pay39 (k0_pay39 (F := Ideal)) X3 X4 F7 F8 F9 n1
    let A7 := arg7.view.writes (Elt Ideal) F7 L1.1
    let A8 := arg8.view.writes (Elt Ideal) F8 L1.2.1
    let A9 := arg9.view.writes (Elt Ideal) F9 L1.2.2
    let L2 := pb_k0_t2 (F := Ideal) 𝒱 c bd i arg2 harg2 arg3 harg3 arg4 harg4 arg5 harg5 arg6 harg6 arg7 harg7 arg8 harg8 arg9 harg9 lanes512 k0_pay34 (k0_pay35 i) (Scalar.muli (Scalar.addi (BitVec.ofNat 32 (i 1).val) 1#32) 4#32) k0_pay37 (k0_pay38 x0) k0_pay39 (k0_pay39 (F := Ideal)) u2 X3 X4 A7 A8 A9 n2
    arg8.view.read (Elt Ideal) (arg8.view.writes (Elt Ideal) A8 L2.2.1) y
      = (headSum Q K (k0_t1_loop i).trips 0 (512 * (i 1).val + (y 0).val) (y 1).val : EReal) :=
  (heads 𝒱 c bd i arg2 harg2 arg3 harg3 arg4 harg4 arg5 harg5 arg6 harg6 arg7 harg7 arg8 harg8 arg9 harg9 X3 X4 F7 F8 F9 hQ hK hV h7 h8 h9 u2 u2 n1 n2 _ _ hn1 hn2 rfl rfl).S0 y

end Point

/-- A store over the rest. -/
theorem writes_split {s : Shape} {e : EltTy} {sp : Space} (v : View sig .tc sp s e) (f : v.ty.Contents (Elt Ideal))
    (p : View.Piece (Elt Ideal) s e) (L L' : List (View.Piece (Elt Ideal) s e)) :
    v.writes (Elt Ideal) f (p :: (L ++ L')) = v.writes (Elt Ideal) (v.writes (Elt Ideal) (v.writes (Elt Ideal) f L') L) [p] := by
  rw [← View.writes_append, ← View.writes_append]; rfl

/-- A load of a whole block of `512 × 128`. -/
theorem load_whole (v : View sig .tc .vmem S512x128 .f32) (f : v.ty.Contents (Elt Ideal)) :
    v.readAt (Elt Ideal) (Rect.unit (s := S512x128) ![0, 0] ![512, 128] inb_S512x128_S512x128_0_0).toLoadRect f = v.read (Elt Ideal) f :=
  View.readAt_full v f inb_S512x128_S512x128_0_0

/-- A buffer just filled. -/
theorem filled {s : Shape} {e : EltTy} {sp : Space} (v : View sig .tc sp s e) (f : v.ty.Contents (Elt Ideal)) {off : Fin s.rank → ℕ}
    (inb : ∀ a, off a + s.size a ≤ s.size a) (w : s.Idx → Elt Ideal e) (z : Elt Ideal e) (hw : w = fun _ => z) (y : s.Idx) :
    v.read (Elt Ideal) (v.writes (Elt Ideal) f [⟨Rect.unit off s.size inb, w⟩]) y = z := by
  rw [View.read_writes_full v f inb w []]; exact congrFun hw y

section Left

variable (c : Dev nD) (i : grid0.Coords)
  (arg2 : Memref sig .tc .vmem S512x128 .f32) (harg2 : arg2.IsWhole)
  (arg3 : Memref sig .tc .vmem S8192x128 .f32) (harg3 : arg3.IsWhole)
  (arg4 : Memref sig .tc .vmem S8192x128 .f32) (harg4 : arg4.IsWhole)
  (arg5 : Memref sig .tc .vmem S512x128 .f32) (harg5 : arg5.IsWhole)
  (arg6 : Memref sig .tc .vmem S2x512x128 .f32) (harg6 : arg6.IsWhole)
  (arg7 : Memref sig .tc .vmem S512x128 .f32) (harg7 : arg7.IsWhole)
  (arg8 : Memref sig .tc .vmem S512x128 .f32) (harg8 : arg8.IsWhole)
  (arg9 : Memref sig .tc .vmem S512x128 .f32) (harg9 : arg9.IsWhole)
  {x0 : Vec Ideal S512x128 .f32} {x1 x2 : Vec Ideal S8192x128 .f32} {Q K V : ℕ → ℕ → ℝ}

/-- The saved sums' block from its two heads. -/
theorem two_heads (v : View sig .tc .vmem S2x512x128 .f32) (f : v.ty.Contents (Elt Ideal)) (a b : Vec Ideal S512x128 .f32) (y : S2x512x128.Idx) :
    v.read (Elt Ideal) (v.writes (Elt Ideal) f
      [⟨Rect.unit (s := S2x512x128) ![1, 0, 0] S1x512x128.size inb_S2x512x128_S1x512x128_1_0_0, k0_pay9 b⟩,
       ⟨Rect.unit (s := S2x512x128) ![0, 0, 0] S1x512x128.size inb_S2x512x128_S1x512x128_0_0_0, k0_pay48 a⟩]) y
      = if (y 0).val = 1 then b (ValueIdx.ix2 (y 1) (y 2)) else a (ValueIdx.ix2 (y 1) (y 2)) := by
  have e9 : k0_pay9 b (ValueIdx.ix3 0 (y 1) (y 2)) = b (ValueIdx.ix2 (y 1) (y 2)) := by pointwise [k0_pay9]; rfl
  have e48 : k0_pay48 a (ValueIdx.ix3 0 (y 1) (y 2)) = a (ValueIdx.ix2 (y 1) (y 2)) := by pointwise [k0_pay48]; rfl
  by_cases e : (y 0).val = 1
  · rw [if_pos e, ← e9]
    exact View.read_writes_cons_unit_of_mem v f inb_S2x512x128_S1x512x128_1_0_0 (k0_pay9 b) _ y (ValueIdx.ix3 0 (y 1) (y 2)) rfl (by
      rintro ⟨t, ht⟩
      match t, ht with
      | 0, _ => exact e
      | 1, _ => exact (Nat.zero_add _).symm
      | 2, _ => exact (Nat.zero_add _).symm)
  · have h0 : (y 0).val < 2 := (y 0).isLt
    rw [if_neg e, ← e48]
    refine (View.read_writes_cons_unit_of_not_mem v f inb_S2x512x128_S1x512x128_1_0_0 (k0_pay9 b) _ y rfl 0
      (Or.inl (by show (y 0).val < 1; omega))).trans ?_
    exact View.read_writes_cons_unit_of_mem v f inb_S2x512x128_S1x512x128_0_0_0 (k0_pay48 a) [] y (ValueIdx.ix3 0 (y 1) (y 2)) rfl (by
      rintro ⟨t, ht⟩
      match t, ht with
      | 0, _ => exact (by show (y 0).val = 0; omega)
      | 1, _ => exact (Nat.zero_add _).symm
      | 2, _ => exact (Nat.zero_add _).symm)

set_option maxHeartbeats 4000000 in
/-- The output's block. -/
theorem left_out (h : Blocks i x0 x1 x2 Q K V) (y : S512x128.Idx) : FwdRun.leftO (F := Ideal) c i arg2 harg2 arg3 harg3 arg4 harg4 arg5 harg5 arg6 harg6 arg7 harg7 arg8 harg8 arg9 harg9 x0 x1 x2 y
    = ((headOut Q K V (k0_t1_loop i).trips 0 (512 * (i 1).val + (y 0).val) (y 1).val
      + headOut Q K V (k0_t1_loop i).trips 1 (512 * (i 1).val + (y 0).val) (y 1).val : ℝ) : EReal) := by
  unfold FwdRun.leftO FwdRun.run
  dsimp only
  rw [View.read_writes_full VO0_3 _ inb_S512x128_S512x128_0_0 _ _]
  sl_unfold_words
  simp only [View.readCov, load_whole, View.writes_append, writes_split, harg2.read_unread]
  refine (heads Variants.none c none i arg2 harg2 arg3 harg3 arg4 harg4 arg5 harg5 arg6 harg6 arg7 harg7 arg8 harg8 arg9 harg9 (harg3.unread x1) (harg4.unread x2) _ _ _ h.q
    (by rw [harg3.read_unread]; exact h.k) (by rw [harg4.read_unread]; exact h.v) ?_ ?_ ?_ _ _ _ _ _ _ rfl (no_trips2 i) rfl (no_trips4 i)).A y
  · exact filled _ _ inb_S512x128_S512x128_0_0 _ _ hz40
  · exact filled _ _ inb_S512x128_S512x128_0_0 _ _ hz41
  · exact filled _ _ inb_S512x128_S512x128_0_0 _ _ hz36

set_option maxHeartbeats 4000000 in
/-- The saved sums' block. -/
theorem left_sums (h : Blocks i x0 x1 x2 Q K V) (y : S2x512x128.Idx) : FwdRun.leftR (F := Ideal) c i arg2 harg2 arg3 harg3 arg4 harg4 arg5 harg5 arg6 harg6 arg7 harg7 arg8 harg8 arg9 harg9 x0 x1 x2 y
    = (headSum Q K (k0_t1_loop i).trips (y 0).val (512 * (i 1).val + (y 1).val) (y 2).val : EReal) := by
  unfold FwdRun.leftR FwdRun.run
  dsimp only
  refine (two_heads VO0_4 _ _ _ y).trans ?_
  sl_unfold_words
  simp only [View.readCov, load_whole, View.writes_append, writes_split, harg2.read_unread]
  by_cases e : (y 0).val = 1
  · rw [if_pos e, e]
    refine (heads Variants.none c none i arg2 harg2 arg3 harg3 arg4 harg4 arg5 harg5 arg6 harg6 arg7 harg7 arg8 harg8 arg9 harg9 (harg3.unread x1) (harg4.unread x2) _ _ _ h.q
      (by rw [harg3.read_unread]; exact h.k) (by rw [harg4.read_unread]; exact h.v) ?_ ?_ ?_ _ _ _ _ _ _ rfl (no_trips2 i) rfl (no_trips4 i)).S1
      (ValueIdx.ix2 (y 1) (y 2))
    · exact filled _ _ inb_S512x128_S512x128_0_0 _ _ hz40
    · exact filled _ _ inb_S512x128_S512x128_0_0 _ _ hz41
    · exact filled _ _ inb_S512x128_S512x128_0_0 _ _ hz36
  · have h0 : (y 0).val < 2 := (y 0).isLt
    rw [if_neg e, show (y 0).val = 0 by omega]
    refine (first_head Variants.none c none i arg2 harg2 arg3 harg3 arg4 harg4 arg5 harg5 arg6 harg6 arg7 harg7 arg8 harg8 arg9 harg9 (harg3.unread x1) (harg4.unread x2) _ _ _ h.q
      (by rw [harg3.read_unread]; exact h.k) (by rw [harg4.read_unread]; exact h.v) ?_ ?_ ?_ _ _ _ rfl (no_trips2 i)
      (ValueIdx.ix2 (y 1) (y 2)))
    · exact filled _ _ inb_S512x128_S512x128_0_0 _ _ hz40
    · exact filled _ _ inb_S512x128_S512x128_0_0 _ _ hz41
    · exact filled _ _ inb_S512x128_S512x128_0_0 _ _ hz36

end Left

end Cert.Proof.Fwd
-- ==== Proof.FwdRef.lean ====
/-
  The reference of the forward attention read at an index: the output as a sum over keys under the weights, and the
  sums saved for the gradient as the logarithms over the keys that follow each block.
-/
module

public import proofs.«01_k».proof.Proof.BwdHost
public import proofs.«01_k».proof.Proof.Gen.ReferenceAttnFwdIdeal.Read

@[expose] public section

set_option maxRecDepth 8192

noncomputable section

namespace Cert.Proof.FwdRef

open Cert.ReferenceAttnFwdIdeal Idealize.ShloMosaic Idealize.ShloMosaic.TcCoe
open Cert.Proof.Stick Cert.Proof.Bwd Finset

variable (x0 : (⟨S8192x5120, .f32⟩ : BufTy).Contents (Elt Ideal))

/-! ## The lines that the backward pass's reference shares -/

theorem value_eq : Read.val_main_v5 (F := Ideal) x0 = Cert.ReferenceAttnBwdIdeal.Read.val_main_v5 (F := Ideal) x0 := rfl
theorem scores_eq : Read.val_main_v8 (F := Ideal) x0 = Cert.ReferenceAttnBwdIdeal.Read.val_main_v8 (F := Ideal) x0 := rfl
theorem logOther_eq : Read.val_main_v16 (F := Ideal) x0 = Cert.ReferenceAttnBwdIdeal.Read.val_main_v16_0 (F := Ideal) x0 := rfl
theorem masked_eq : Read.val_main_v17 (F := Ideal) x0 = Cert.ReferenceAttnBwdIdeal.Read.val_main_v17_0 (F := Ideal) x0 := rfl
theorem after_eq : Read.val_main_v19 (F := Ideal) x0 = Cert.ReferenceAttnBwdIdeal.Read.val_main_v19 (F := Ideal) x0 := rfl
theorem logOwn_eq : Read.val_main_v20 (F := Ideal) x0 = Cert.ReferenceAttnBwdIdeal.Read.val_main_v20_0 (F := Ideal) x0 := rfl
theorem weight_eq : Read.val_main_v23 (F := Ideal) x0 = Cert.ReferenceAttnBwdIdeal.Read.val_main_v23_0 (F := Ideal) x0 := rfl
theorem again_eq : Read.val_main_v38 (F := Ideal) x0 = Cert.ReferenceAttnBwdIdeal.Read.val_main_v17_0 (F := Ideal) x0 := rfl

theorem saved_eq : Read.val_main_v44 (F := Ideal) x0 = saved (sumsOf (Read.val_main_v38 (F := Ideal) x0)) noneAfter := rfl

/-! ## The results -/

variable {x0} {P : ℕ → ℕ → ℝ} (hx : ∀ y : S8192x5120.Idx, x0 y = (P (y 0).val (y 1).val : EReal))
include hx

theorem out_at (i : S8192x512.Idx) : Read.val_main_v26 (F := Ideal) x0 i
    = ((∑ s : Fin 8192, wt (Ref.score P ((i 1).val / 64)) (i 0).val s.val * P s.val (2560 + (i 1).val) : ℝ) : EReal) := by
  have h0 : (i 0).val < 8192 := (i 0).isLt
  have h1 : (i 1).val < 512 := (i 1).isLt
  rw [Read.val_main_v26_apply, Read.val_main_v25_apply, Read.val_main_v24_apply, value_eq, weight_eq]
  refine (sum_mul_coe univ _ _ _ _ (fun k _ => Ref.value hx _) (fun k _ => Ref.weight hx _)).trans (congrArg _ (sum_congr rfl fun s _ => ?_))
  have e0 : (((i 0).val * 512 + (i 1).val) / 64) % 8 = (i 1).val / 64 := by omega
  have e1 : ((i 0).val * 512 + (i 1).val) / 512 = (i 0).val := by omega
  have e2 : 2560 + (64 * ((((i 0).val * 512 + (i 1).val) / 64) % 8) + ((i 0).val * 512 + (i 1).val) % 64) = 2560 + (i 1).val := by omega
  show P s.val (2560 + (64 * ((((i 0).val * 512 + (i 1).val) / 64) % 8) + ((i 0).val * 512 + (i 1).val) % 64))
      * wt (Ref.score P ((((i 0).val * 512 + (i 1).val) / 64) % 8)) (((i 0).val * 512 + (i 1).val) / 512) s.val = _
  rw [e2, e1, e0, mul_comm]

theorem sums_at (i : S8x8192x128.Idx) : Read.val_main_v44 (F := Ideal) x0 i
    = (suf (Ref.score P (i 0).val) (i 1).val (128 * ((i 2).val + 1)) : EReal) := by
  rw [saved_eq, again_eq]
  exact saved_at (f := fun a t s => L (Ref.score P a) t s) (fun j => Ref.masked hx j) i

end Cert.Proof.FwdRef

end
-- ==== Proof.FwdFinal.lean ====
/-
  The forward attention: the output and the saved sums that the kernel's points leave are those of the reference.
-/
module

public import proofs.«01_k».proof.Defs
public import proofs.«01_k».proof.Proof.FwdPoint
public import proofs.«01_k».proof.Proof.FwdRef
public import proofs.«01_k».proof.Proof.BwdFinal
public import proofs.«01_k».proof.Proof.Gen.ReferenceAttnFwdIdeal.Run

@[expose] public section

set_option maxRecDepth 8192

noncomputable section

namespace Cert.Proof.Fwd

open Cert.KernelAttnFwdIdeal Cert.KernelAttnFwdIdeal.Gen Idealize.ShloMosaic Idealize.ShloMosaic.TcCoe Idealize.SL.Sem
open Cert.Proof.Stick Cert.Proof.FwdRun Finset

/-! ## A pair of heads -/

section
variable (P : ℕ → ℕ → ℝ) (p : ℕ)

/-- The queries, keys and values of a pair of heads. -/
abbrev qOf (t l : ℕ) : ℝ := P t (1536 + (128 * p + l))
abbrev kOf (t l : ℕ) : ℝ := P t (2048 + (128 * p + l))
abbrev vOf (t l : ℕ) : ℝ := P t (2560 + (128 * p + l))

theorem pair_score {e : ℕ} (he : e < 2) : Bwd.dots (headQ (qOf P p) e) (kOf P p) = Ref.score P (2 * p + e) :=
  Bwd.pair_score P (fun _ _ => 0) p he e

/-- The output of a row among the first `m` blocks of keys. -/
theorem out_pair {m t l : ℕ} (ht : t < 128 * m) (hm : 128 * m ≤ 8192) (hl : l < 128) :
    headOut (qOf P p) (kOf P p) (vOf P p) m 0 t l + headOut (qOf P p) (kOf P p) (vOf P p) m 1 t l
      = ∑ s : Fin 8192, wt (Ref.score P (2 * p + l / 64)) t s.val * P s.val (2560 + (128 * p + l)) := by
  unfold headOut
  rw [pair_score P p (by omega : 0 < 2), pair_score P p (by omega : 1 < 2), ← sum_add_distrib,
    ← Finset.sum_range (fun s => wt (Ref.score P (2 * p + l / 64)) t s * P s (2560 + (128 * p + l)))]
  refine Eq.trans (sum_congr rfl fun s _ => ?_) (sum_subset (range_subset_range.mpr hm) fun s _ h => ?_)
  · refine Eq.trans ?_ (Bwd.lane_pick (fun e => wt (Ref.score P (2 * p + e)) t s * P s (2560 + (128 * p + l))) hl)
    show _ * (P s (2560 + (128 * p + l)) * _) + _ * (P s (2560 + (128 * p + l)) * _) = _
    ring
  · rw [wt_of_le _ (by by_contra k; exact h (mem_range.mpr (by omega))), zero_mul]

/-- The sums a row saves. -/
theorem sum_pair {m e t b : ℕ} (ht : t < 128 * m) (he : e < 2) :
    headSum (qOf P p) (kOf P p) m e t b = suf (Ref.score P (2 * p + e)) t (128 * (b + 1)) := by
  unfold headSum
  rw [pair_score P p he]
  split
  · rfl
  · exact (suf_of_le _ (by omega)).symm

end

/-! ## The blocks of a point -/

theorem idx_facts : ∀ t : Fin grid0.N,
    (win0_0.index t 0 = t.val % 16 ∧ win0_0.index t 1 = 12 + t.val / 16) ∧ (win0_1.index t 0 = 0 ∧ win0_1.index t 1 = 16 + t.val / 16)
    ∧ (win0_2.index t 0 = 0 ∧ win0_2.index t 1 = 20 + t.val / 16) ∧ (win0_3.index t 0 = t.val % 16 ∧ win0_3.index t 1 = t.val / 16)
    ∧ (win0_4.index t 0 = t.val / 16 ∧ win0_4.index t 1 = t.val % 16 ∧ win0_4.index t 2 = 0) := by decide +kernel

variable {m : (ℓ : Loc nD τ sig) → Buf (Elt Ideal) ℓ} {c : Dev nD} {P : ℕ → ℕ → ℝ}

theorem coord (t : Fin cfg0.N) : (grid0.coords t 1).val = t.val % 16 := by
  have e : (grid0.coords t 1).val = t.val / 1 % 16 := Pipeline.Grid.coords_val t 1 (by decide) rfl
  omega

section
variable (h : ∀ y : S8192x5120.Idx, m ((c : Thread nD τ).loc main_arg0) y = (P (y 0).val (y 1).val : EReal))
include h

theorem blocks (t : Fin cfg0.N) : Blocks (grid0.coords t) (iblk m c 0 t) (iblk m c 1 t) (iblk m c 2 t)
    (qOf P (t.val / 16)) (kOf P (t.val / 16)) (vOf P (t.val / 16)) := by
  have F := idx_facts t
  refine ⟨fun y => ?_, fun y => ?_, fun y => ?_⟩
  · unfold iblk
    rw [View.read_apply]
    show V m c main_arg0 _ = _
    refine (h _).trans (congrArg _ (congrArg₂ P ?_ ?_))
    · show win0_0.index t 0 * 512 + 1 * (y 0).val = _
      rw [F.1.1, coord]; omega
    · show win0_0.index t 1 * 128 + 1 * (y 1).val = _
      rw [F.1.2]; omega
  · unfold iblk
    rw [View.read_apply]
    show V m c main_arg0 _ = _
    refine (h _).trans (congrArg _ (congrArg₂ P ?_ ?_))
    · show win0_1.index t 0 * 8192 + 1 * (y 0).val = _
      rw [F.2.1.1]; omega
    · show win0_1.index t 1 * 128 + 1 * (y 1).val = _
      rw [F.2.1.2]; omega
  · unfold iblk
    rw [View.read_apply]
    show V m c main_arg0 _ = _
    refine (h _).trans (congrArg _ (congrArg₂ P ?_ ?_))
    · show win0_2.index t 0 * 8192 + 1 * (y 0).val = _
      rw [F.2.2.1.1]; omega
    · show win0_2.index t 1 * 128 + 1 * (y 1).val = _
      rw [F.2.2.1.2]; omega

set_option maxHeartbeats 2000000 in
theorem left3 (t : Fin cfg0.N) (y : S512x128.Idx) : (left m c t).1 y
    = ((∑ s : Fin 8192, wt (Ref.score P (2 * (t.val / 16) + (y 1).val / 64)) (512 * (t.val % 16) + (y 0).val) s.val
        * P s.val (2560 + (128 * (t.val / 16) + (y 1).val)) : ℝ) : EReal) := by
  have y0 : (y 0).val < 512 := (y 0).isLt
  have y1 : (y 1).val < 128 := (y 1).isLt
  have E := left_out c (grid0.coords t) (ms0_0 t) (hs0_0 t) (ms0_1 t) (hs0_1 t) (ms0_2 t) (hs0_2 t) (ms0_3 t) (hs0_3 t) (ms0_4 t) (hs0_4 t)
    scM0_0 (Memref.isWhole_whole _) scM0_1 (Memref.isWhole_whole _) scM0_2 (Memref.isWhole_whole _) (blocks h t) y
  rw [out_pair P _ (by rw [trips_eq, coord]; omega) (by rw [trips_eq, coord]; omega) y1, coord] at E
  unfold left
  exact E

set_option maxHeartbeats 2000000 in
theorem left4 (t : Fin cfg0.N) (y : S2x512x128.Idx) : (left m c t).2 y
    = (suf (Ref.score P (2 * (t.val / 16) + (y 0).val)) (512 * (t.val % 16) + (y 1).val) (128 * ((y 2).val + 1)) : EReal) := by
  have y0 : (y 0).val < 2 := (y 0).isLt
  have y1 : (y 1).val < 512 := (y 1).isLt
  have E := left_sums c (grid0.coords t) (ms0_0 t) (hs0_0 t) (ms0_1 t) (hs0_1 t) (ms0_2 t) (hs0_2 t) (ms0_3 t) (hs0_3 t) (ms0_4 t) (hs0_4 t)
    scM0_0 (Memref.isWhole_whole _) scM0_1 (Memref.isWhole_whole _) scM0_2 (Memref.isWhole_whole _) (blocks h t) y
  rw [sum_pair P _ (by rw [trips_eq, coord]; omega) y0, coord] at E
  unfold left
  exact E

/-! ## The arrays -/

/-- The output. -/
theorem final3 : (dats m 0 c).arrAt 3 cfg0.N
    = Cert.ReferenceAttnFwdIdeal.Read.val_main_v26 (F := Ideal) (m ((c : Thread nD τ).loc main_arg0)) := by
  have hN : cfg0.N = 64 := N_0
  refine (dats m 0 c).arrAt_eq_of_cover 3 _ (fun t _ => ?_) (fun i => ?_)
  · have F := (idx_facts t).2.2.2.1
    have ht : t.val < 64 := Nat.lt_of_lt_of_eq t.isLt hN
    funext y
    have y0 : (y 0).val < 512 := (y 0).isLt
    have y1 : (y 1).val < 128 := (y 1).isLt
    have e0 : (((cfg0.win 3).blk t).view.emb y 0).val = 512 * (t.val % 16) + (y 0).val := by
      show win0_3.index t 0 * 512 + 1 * (y 0).val = _
      rw [F.1]; omega
    have e1 : (((cfg0.win 3).blk t).view.emb y 1).val = 128 * (t.val / 16) + (y 1).val := by
      show win0_3.index t 1 * 128 + 1 * (y 1).val = _
      rw [F.2]; omega
    rw [View.read_apply]
    show (dats m 0 c).after 3 t y = _
    rw [after0_3]
    refine (left3 h t y).trans (Eq.trans (congrArg _ ?_) (FwdRef.out_at h _).symm)
    rw [e0, e1, show (128 * (t.val / 16) + (y 1).val) / 64 = 2 * (t.val / 16) + (y 1).val / 64 by omega]
  · have i0 : (i 0).val < 8192 := (i 0).isLt
    have i1 : (i 1).val < 512 := (i 1).isLt
    have ht : 16 * ((i 1).val / 128) + (i 0).val / 512 < cfg0.N := by rw [hN]; omega
    refine ⟨⟨_, ht⟩, flush0_3 _, Finset.mem_map.mpr ⟨ValueIdx.ix2 (⟨(i 0).val % 512, by omega⟩ : Fin 512) (⟨(i 1).val % 128, by omega⟩ : Fin 128),
      Finset.mem_univ _, Shape.idx_ext₂ ?_ ?_⟩⟩
    · show win0_3.index ⟨_, ht⟩ 0 * 512 + 1 * ((i 0).val % 512) = (i 0).val
      rw [(idx_facts ⟨_, ht⟩).2.2.2.1.1]
      show (16 * ((i 1).val / 128) + (i 0).val / 512) % 16 * 512 + 1 * ((i 0).val % 512) = _
      omega
    · show win0_3.index ⟨_, ht⟩ 1 * 128 + 1 * ((i 1).val % 128) = (i 1).val
      rw [(idx_facts ⟨_, ht⟩).2.2.2.1.2]
      show (16 * ((i 1).val / 128) + (i 0).val / 512) / 16 * 128 + 1 * ((i 1).val % 128) = _
      omega

/-- The saved sums. -/
theorem final4 : (dats m 0 c).arrAt 4 cfg0.N
    = Cert.ReferenceAttnFwdIdeal.Read.val_main_v44 (F := Ideal) (m ((c : Thread nD τ).loc main_arg0)) := by
  have hN : cfg0.N = 64 := N_0
  refine (dats m 0 c).arrAt_eq_of_cover 4 _ (fun t _ => ?_) (fun i => ?_)
  · have F := (idx_facts t).2.2.2.2
    have ht : t.val < 64 := Nat.lt_of_lt_of_eq t.isLt hN
    funext y
    have y0 : (y 0).val < 2 := (y 0).isLt
    have y1 : (y 1).val < 512 := (y 1).isLt
    have e0 : (((cfg0.win 4).blk t).view.emb y 0).val = 2 * (t.val / 16) + (y 0).val := by
      show win0_4.index t 0 * 2 + 1 * (y 0).val = _
      rw [F.1]; omega
    have e1 : (((cfg0.win 4).blk t).view.emb y 1).val = 512 * (t.val % 16) + (y 1).val := by
      show win0_4.index t 1 * 512 + 1 * (y 1).val = _
      rw [F.2.1]; omega
    have e2 : (((cfg0.win 4).blk t).view.emb y 2).val = (y 2).val := by
      show win0_4.index t 2 * 128 + 1 * (y 2).val = _
      rw [F.2.2]; omega
    rw [View.read_apply]
    show (dats m 0 c).after 4 t y = _
    rw [after0_4]
    refine (left4 h t y).trans (Eq.trans (congrArg _ ?_) (FwdRef.sums_at h _).symm)
    rw [e0, e1, e2]
  · have i0 : (i 0).val < 8 := (i 0).isLt
    have i1 : (i 1).val < 8192 := (i 1).isLt
    have i2 : (i 2).val < 128 := (i 2).isLt
    have ht : 16 * ((i 0).val / 2) + (i 1).val / 512 < cfg0.N := by rw [hN]; omega
    refine ⟨⟨_, ht⟩, flush0_4 _, Finset.mem_map.mpr ⟨ValueIdx.ix3 (⟨(i 0).val % 2, by omega⟩ : Fin 2) (⟨(i 1).val % 512, by omega⟩ : Fin 512)
      (⟨(i 2).val, i2⟩ : Fin 128), Finset.mem_univ _, funext fun a => Fin.ext ?_⟩⟩
    match a with
    | ⟨0, _⟩ =>
      show win0_4.index ⟨_, ht⟩ 0 * 2 + 1 * ((i 0).val % 2) = (i 0).val
      rw [(idx_facts ⟨_, ht⟩).2.2.2.2.1]
      show (16 * ((i 0).val / 2) + (i 1).val / 512) / 16 * 2 + 1 * ((i 0).val % 2) = _
      omega
    | ⟨1, _⟩ =>
      show win0_4.index ⟨_, ht⟩ 1 * 512 + 1 * ((i 1).val % 512) = (i 1).val
      rw [(idx_facts ⟨_, ht⟩).2.2.2.2.2.1]
      show (16 * ((i 0).val / 2) + (i 1).val / 512) % 16 * 512 + 1 * ((i 1).val % 512) = _
      omega
    | ⟨2, _⟩ =>
      show win0_4.index ⟨_, ht⟩ 2 * 128 + 1 * (i 2).val = (i 2).val
      rw [(idx_facts ⟨_, ht⟩).2.2.2.2.2.2]
      omega

end

/-- The value claim of the forward attention. -/
theorem algebraic [Cert.Pre_finite_proj.Facts] : Cert.algebraic_KernelAttnFwdIdeal_ReferenceAttnFwdIdeal_pre_finite_proj := by
  intro m ρ m' ρ' hpre hagree
  have H := fun c : Dev nD => Bwd.numbers_at (r := 8192) (n := 5120) (by decide) (by decide) (m ((c : Thread nD τ).loc main_arg0))
    fun y => congrFun (hpre c) y
  refine ⟨fun c => Cert.ReferenceAttnFwdIdeal.Read.val_main_v26 (F := Ideal) (m ((c : Thread nD τ).loc main_arg0)),
    fun c => Cert.ReferenceAttnFwdIdeal.Read.val_main_v44 (F := Ideal) (m ((c : Thread nD τ).loc main_arg0)), ?_, ?_⟩
  · refine (θ_run defs _ _).mono (fun r hr c => ⟨((hr.1 c).1 3).trans (final3 (H c)), ((hr.1 c).1 4).trans (final4 (H c)), hr.2 c⟩)
      (θ_run_and (runs (F := Ideal) m ρ) (unchanged (F := Ideal) m ρ))
  · refine (θ_run Cert.ReferenceAttnFwdIdeal.defs _ _).mono (fun r hr c => ?_) (Cert.ReferenceAttnFwdIdeal.Value.run (F := Ideal) m' ρ')
    obtain ⟨h3, h4, h⟩ := hr c
    have a0 := hagree c
    refine ⟨h3.trans ?_, h4.trans ?_, h⟩
    · rw [Cert.ReferenceAttnFwdIdeal.Read.val_main_v26_eq, a0]
    · rw [Cert.ReferenceAttnFwdIdeal.Read.val_main_v44_eq, a0]

end Cert.Proof.Fwd

end
-- ==== Proof.Gate.lean ====
/-
  The value claim of the gate's backward call: the kernel works on 16 row blocks of 512 rows, every output element
  is a pointwise function of the input elements at the same place, so each output array is the reference's array.
-/
module

public import proofs.«01_k».proof.Defs
public import proofs.«01_k».proof.Proof.Gen.KernelGateIdeal.Value
public import proofs.«01_k».proof.Proof.Gen.ReferenceGateIdeal.Read
public import Idealize.ShloMosaic.Lib.Pipeline.Value
public import Idealize.ShloMosaic.Lib.Pointwise
public import Idealize.ShloMosaic.Lib.Claim

@[expose] public section

noncomputable section

namespace Cert.Proof.Gate

open Cert.KernelGateIdeal Cert.KernelGateIdeal.Gen Idealize.ShloMosaic Idealize.ShloMosaic.TcCoe Idealize.SL.Sem
open Idealize.ShloMosaic.Pipeline (Dat)
open Cert.ReferenceGateIdeal.Read

variable (m : (ℓ : Loc nD τ sig) → Buf (Elt Ideal) ℓ)

theorem hz : (![0, 0] : Fin 2 → Nat) = fun _ => 0 := funext fun a => by fin_cases a <;> rfl

/-- The block indices of the nine windows at a grid point. -/
theorem idx_facts : ∀ t : Fin grid0.N,
    (win0_0.index t 0 = t.val ∧ win0_0.index t 1 = 0) ∧ (win0_1.index t 0 = t.val ∧ win0_1.index t 1 = 3)
    ∧ (win0_2.index t 0 = t.val ∧ win0_2.index t 1 = 4) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0)
    ∧ (win0_8.index t 0 = t.val ∧ win0_8.index t 1 = 0) := by decide +kernel

/-- Where element `y` of block `t` lies in a full-width array. -/
def at_ (t : Fin cfg0.N) (y : S512x1024.Idx) : S8192x1024.Idx := fun a => match a with
  | ⟨0, _⟩ => ⟨t.val * 512 + (y 0).val, by
      have h0 : (y 0).val < 512 := (y 0).isLt
      have hN : cfg0.N = 16 := N_0
      have ht := t.isLt
      show _ < 8192; omega⟩
  | ⟨1, _⟩ => ⟨(y 1).val, (y 1).isLt⟩

/-- Where element `y` of block `t` lies in the projection's array, for a window on its column block `k`. -/
def atCol (k : Nat) (hk : k < 5) (t : Fin cfg0.N) (y : S512x1024.Idx) : S8192x5120.Idx := fun a => match a with
  | ⟨0, _⟩ => ⟨t.val * 512 + (y 0).val, by
      have h0 : (y 0).val < 512 := (y 0).isLt
      have hN : cfg0.N = 16 := N_0
      have ht := t.isLt
      show _ < 8192; omega⟩
  | ⟨1, _⟩ => ⟨k * 1024 + (y 1).val, by
      have h1 : (y 1).val < 1024 := (y 1).isLt
      show _ < 5120; omega⟩

theorem iblk0 (c : Dev nD) (t : Fin cfg0.N) (y : S512x1024.Idx) :
    iblk m c 0 t y = m ((c : Thread nD τ).loc main_arg0) (at_ t y) := by
  unfold iblk
  rw [View.read_apply]
  show V m c main_arg0 _ = m _ _
  congr 1
  refine Shape.idx_ext₂ ?_ ?_
  · show win0_0.index t 0 * 512 + 1 * (y 0).val = t.val * 512 + (y 0).val
    rw [(idx_facts t).1.1]; omega
  · show win0_0.index t 1 * 1024 + 1 * (y 1).val = (y 1).val
    rw [(idx_facts t).1.2]; omega

theorem iblk1 (c : Dev nD) (t : Fin cfg0.N) (y : S512x1024.Idx) :
    iblk m c 1 t y = m ((c : Thread nD τ).loc main_arg1) (atCol 3 (by omega) t y) := by
  unfold iblk
  rw [View.read_apply]
  show V m c main_arg1 _ = m _ _
  congr 1
  refine Shape.idx_ext₂ ?_ ?_
  · show win0_1.index t 0 * 512 + 1 * (y 0).val = t.val * 512 + (y 0).val
    rw [(idx_facts t).2.1.1]; omega
  · show win0_1.index t 1 * 1024 + 1 * (y 1).val = 3072 + (y 1).val
    rw [(idx_facts t).2.1.2]; omega

theorem iblk2 (c : Dev nD) (t : Fin cfg0.N) (y : S512x1024.Idx) :
    iblk m c 2 t y = m ((c : Thread nD τ).loc main_arg1) (atCol 4 (by omega) t y) := by
  unfold iblk
  rw [View.read_apply]
  show V m c main_arg1 _ = m _ _
  congr 1
  refine Shape.idx_ext₂ ?_ ?_
  · show win0_2.index t 0 * 512 + 1 * (y 0).val = t.val * 512 + (y 0).val
    rw [(idx_facts t).2.2.1.1]; omega
  · show win0_2.index t 1 * 1024 + 1 * (y 1).val = 4096 + (y 1).val
    rw [(idx_facts t).2.2.1.2]; omega

theorem iblk3 (c : Dev nD) (t : Fin cfg0.N) (y : S512x1024.Idx) :
    iblk m c 3 t y = m ((c : Thread nD τ).loc main_arg2) (at_ t y) := by
  unfold iblk
  rw [View.read_apply]
  show V m c main_arg2 _ = m _ _
  congr 1
  refine Shape.idx_ext₂ ?_ ?_
  · show win0_3.index t 0 * 512 + 1 * (y 0).val = t.val * 512 + (y 0).val
    rw [(idx_facts t).2.2.2.1.1]; omega
  · show win0_3.index t 1 * 1024 + 1 * (y 1).val = (y 1).val
    rw [(idx_facts t).2.2.2.1.2]; omega

theorem iblk4 (c : Dev nD) (t : Fin cfg0.N) (y : S512x1024.Idx) :
    iblk m c 4 t y = m ((c : Thread nD τ).loc main_arg3) (at_ t y) := by
  unfold iblk
  rw [View.read_apply]
  show V m c main_arg3 _ = m _ _
  congr 1
  refine Shape.idx_ext₂ ?_ ?_
  · show win0_4.index t 0 * 512 + 1 * (y 0).val = t.val * 512 + (y 0).val
    rw [(idx_facts t).2.2.2.2.1.1]; omega
  · show win0_4.index t 1 * 1024 + 1 * (y 1).val = (y 1).val
    rw [(idx_facts t).2.2.2.2.1.2]; omega

/-- The kernel's sigmoid is written with `0 - x`, the reference's with `-x`. -/
theorem sig3 (x : S8192x5120.Idx → EReal) (t : Fin cfg0.N) (y : S512x1024.Idx) (h) (h') :
    Ideal.div 1 (1 + Ideal.exp (0 - x (atCol 3 h t y)))
      = Ideal.div 1 (1 + Ideal.exp (-x (ix2 (at_ t y 0) ⟨3072 + (at_ t y 1).val, h'⟩))) := by
  rw [zero_sub, show atCol 3 h t y = ix2 (at_ t y 0) ⟨3072 + (at_ t y 1).val, h'⟩ from Shape.idx_ext₂ rfl rfl]
  rfl

theorem sig4 (x : S8192x5120.Idx → EReal) (t : Fin cfg0.N) (y : S512x1024.Idx) (h) (h') :
    Ideal.div 1 (1 + Ideal.exp (0 - x (atCol 4 h t y)))
      = Ideal.div 1 (1 + Ideal.exp (-x (ix2 (at_ t y 0) ⟨4096 + (at_ t y 1).val, h'⟩))) := by
  rw [zero_sub, show atCol 4 h t y = ix2 (at_ t y 0) ⟨4096 + (at_ t y 1).val, h'⟩ from Shape.idx_ext₂ rfl rfl]
  rfl

/-- Every index of a full-width array lies in the block of its row. -/
theorem exists_at (i : S8192x1024.Idx) : ∃ (t : Fin cfg0.N) (y : S512x1024.Idx), at_ t y = i := by
  have h0 : (i 0).val < 8192 := (i 0).isLt
  have hN : cfg0.N = 16 := N_0
  refine ⟨⟨(i 0).val / 512, by omega⟩, ix2 ⟨(i 0).val % 512, by omega⟩ (i 1), Shape.idx_ext₂ ?_ rfl⟩
  show (i 0).val / 512 * 512 + (i 0).val % 512 = (i 0).val
  omega

/-- Output window 5's array: the reference's value of the arguments. -/
abbrev G5 (c : Dev nD) : Buf (Elt Ideal) ((c : Thread nD τ).loc main_v0_0) :=
  val_main_v31 (F := Ideal) (m ((c : Thread nD τ).loc main_arg0)) (m ((c : Thread nD τ).loc main_arg1))

theorem emb5 (t : Fin cfg0.N) (y : S512x1024.Idx) : ((cfg0.win 5).blk t).view.emb y = at_ t y := by
  refine Shape.idx_ext₂ ?_ ?_
  · show win0_5.index t 0 * 512 + 1 * (y 0).val = t.val * 512 + (y 0).val
    rw [(idx_facts t).2.2.2.2.2.1.1]; omega
  · show win0_5.index t 1 * 1024 + 1 * (y 1).val = (y 1).val
    rw [(idx_facts t).2.2.2.2.2.1.2]; omega

theorem final5 (c : Dev nD) : (dats m 0 c).arrAt 5 cfg0.N = G5 m c := by
  refine (dats m 0 c).arrAt_eq_of_cover 5 (G5 m c) (fun t _ => ?_) (fun i => ?_)
  · rw [Cert.KernelGateIdeal.Value.flushed5]
    funext y
    rw [View.read_apply]
    show out0_5 _ _ _ _ _ y = G5 m c _
    rw [emb5]
    unfold out0_5
    rw [View.canon_unit_zero hz]
    simp only [View.ld_unit_zero (S := S512x1024) hz]
    pointwise [k0_pay4, k0_pay2, iblk0, iblk1, G5, val_main_v0, val_main_v2, val_main_v3, val_main_v4, val_main_v5, val_main_v6, val_main_v7, val_main_v23, val_main_v28, val_main_v31, val_main_cst, val_main_cst_0]
    rw [sig3, mul_comm]
  · obtain ⟨t, y, rfl⟩ := exists_at i
    exact ⟨t, flush0_5 t, Finset.mem_map.mpr ⟨y, Finset.mem_univ y, emb5 t y⟩⟩

/-- Output window 6's array: the reference's value of the arguments. -/
abbrev G6 (c : Dev nD) : Buf (Elt Ideal) ((c : Thread nD τ).loc main_v0_1) :=
  val_main_v32 (F := Ideal) (m ((c : Thread nD τ).loc main_arg0)) (m ((c : Thread nD τ).loc main_arg1))

theorem emb6 (t : Fin cfg0.N) (y : S512x1024.Idx) : ((cfg0.win 6).blk t).view.emb y = at_ t y := by
  refine Shape.idx_ext₂ ?_ ?_
  · show win0_6.index t 0 * 512 + 1 * (y 0).val = t.val * 512 + (y 0).val
    rw [(idx_facts t).2.2.2.2.2.2.1.1]; omega
  · show win0_6.index t 1 * 1024 + 1 * (y 1).val = (y 1).val
    rw [(idx_facts t).2.2.2.2.2.2.1.2]; omega

theorem final6 (c : Dev nD) : (dats m 0 c).arrAt 6 cfg0.N = G6 m c := by
  refine (dats m 0 c).arrAt_eq_of_cover 6 (G6 m c) (fun t _ => ?_) (fun i => ?_)
  · rw [Cert.KernelGateIdeal.Value.flushed6]
    funext y
    rw [View.read_apply]
    show out0_6 _ _ _ _ _ y = G6 m c _
    rw [emb6]
    unfold out0_6
    rw [View.canon_unit_zero hz]
    simp only [View.ld_unit_zero (S := S512x1024) hz]
    pointwise [k0_pay5, k0_pay3, iblk0, iblk2, G6, val_main_v1, val_main_v12, val_main_v13, val_main_v14, val_main_v15, val_main_v16, val_main_v17, val_main_v24, val_main_v25, val_main_v32, val_main_cst_2, val_main_cst_3]
    rw [sig4, mul_comm]
  · obtain ⟨t, y, rfl⟩ := exists_at i
    exact ⟨t, flush0_6 t, Finset.mem_map.mpr ⟨y, Finset.mem_univ y, emb6 t y⟩⟩

/-- Output window 7's array: the reference's value of the arguments. -/
abbrev G7 (c : Dev nD) : Buf (Elt Ideal) ((c : Thread nD τ).loc main_v0_2) :=
  val_main_v33 (F := Ideal) (m ((c : Thread nD τ).loc main_arg0)) (m ((c : Thread nD τ).loc main_arg1)) (m ((c : Thread nD τ).loc main_arg2))

theorem emb7 (t : Fin cfg0.N) (y : S512x1024.Idx) : ((cfg0.win 7).blk t).view.emb y = at_ t y := by
  refine Shape.idx_ext₂ ?_ ?_
  · show win0_7.index t 0 * 512 + 1 * (y 0).val = t.val * 512 + (y 0).val
    rw [(idx_facts t).2.2.2.2.2.2.2.1.1]; omega
  · show win0_7.index t 1 * 1024 + 1 * (y 1).val = (y 1).val
    rw [(idx_facts t).2.2.2.2.2.2.2.1.2]; omega

theorem final7 (c : Dev nD) : (dats m 0 c).arrAt 7 cfg0.N = G7 m c := by
  refine (dats m 0 c).arrAt_eq_of_cover 7 (G7 m c) (fun t _ => ?_) (fun i => ?_)
  · rw [Cert.KernelGateIdeal.Value.flushed7]
    funext y
    rw [View.read_apply]
    show out0_7 _ _ _ _ _ y = G7 m c _
    rw [emb7]
    unfold out0_7
    rw [View.canon_unit_zero hz]
    simp only [View.ld_unit_zero (S := S512x1024) hz]
    pointwise [k0_pay6, k0_pay2, iblk0, iblk1, iblk3, G7, val_main_v0, val_main_v2, val_main_v3, val_main_v4, val_main_v5, val_main_v6, val_main_v7, val_main_v8, val_main_v9, val_main_v10, val_main_v23, val_main_v29, val_main_v30, val_main_v33, val_main_cst, val_main_cst_0, val_main_cst_1]
    rw [sig3]
  · obtain ⟨t, y, rfl⟩ := exists_at i
    exact ⟨t, flush0_7 t, Finset.mem_map.mpr ⟨y, Finset.mem_univ y, emb7 t y⟩⟩

/-- Output window 8's array: the reference's value of the arguments. -/
abbrev G8 (c : Dev nD) : Buf (Elt Ideal) ((c : Thread nD τ).loc main_v0_3) :=
  val_main_v34 (F := Ideal) (m ((c : Thread nD τ).loc main_arg0)) (m ((c : Thread nD τ).loc main_arg1)) (m ((c : Thread nD τ).loc main_arg3))

theorem emb8 (t : Fin cfg0.N) (y : S512x1024.Idx) : ((cfg0.win 8).blk t).view.emb y = at_ t y := by
  refine Shape.idx_ext₂ ?_ ?_
  · show win0_8.index t 0 * 512 + 1 * (y 0).val = t.val * 512 + (y 0).val
    rw [(idx_facts t).2.2.2.2.2.2.2.2.1]; omega
  · show win0_8.index t 1 * 1024 + 1 * (y 1).val = (y 1).val
    rw [(idx_facts t).2.2.2.2.2.2.2.2.2]; omega

theorem final8 (c : Dev nD) : (dats m 0 c).arrAt 8 cfg0.N = G8 m c := by
  refine (dats m 0 c).arrAt_eq_of_cover 8 (G8 m c) (fun t _ => ?_) (fun i => ?_)
  · rw [Cert.KernelGateIdeal.Value.flushed8]
    funext y
    rw [View.read_apply]
    show out0_8 _ _ _ _ _ y = G8 m c _
    rw [emb8]
    unfold out0_8
    rw [View.canon_unit_zero hz]
    simp only [View.ld_unit_zero (S := S512x1024) hz]
    pointwise [k0_pay1, k0_pay3, k0_pay7, iblk0, iblk2, iblk4, G8, val_main_v1, val_main_v12, val_main_v13, val_main_v14, val_main_v15, val_main_v16, val_main_v17, val_main_v18, val_main_v19, val_main_v20, val_main_v24, val_main_v26, val_main_v27, val_main_v34, val_main_cst_2, val_main_cst_3, val_main_cst_4]
    rw [sig4]
  · obtain ⟨t, y, rfl⟩ := exists_at i
    exact ⟨t, flush0_8 t, Finset.mem_map.mpr ⟨y, Finset.mem_univ y, emb8 t y⟩⟩

theorem algebraic : Cert.algebraic_KernelGateIdeal_ReferenceGateIdeal := by
  intro m ρ m' ρ' _ hagree
  refine ⟨G5 m, G6 m, G7 m, G8 m, ?_, ?_⟩
  · refine (θ_run defs _ _).mono (fun r h c => ?_) (Cert.KernelGateIdeal.Value.run_blocks (F := Ideal) m ρ)
    obtain ⟨h5, h6, h7, h8, h⟩ := h c
    exact ⟨h5.trans (final5 m c), h6.trans (final6 m c), h7.trans (final7 m c), h8.trans (final8 m c), h⟩
  · refine (θ_run Cert.ReferenceGateIdeal.defs _ _).mono (fun r h c => ?_)
      (Cert.ReferenceGateIdeal.Value.run (F := Ideal) m' ρ')
    obtain ⟨h5, h6, h7, h8, h⟩ := h c
    obtain ⟨a0, a1, a2, a3⟩ := hagree c
    refine ⟨h5.trans ?_, h6.trans ?_, h7.trans ?_, h8.trans ?_, h⟩
    · rw [val_main_v31_eq, a0, a1]
    · rw [val_main_v32_eq, a0, a1]
    · rw [val_main_v33_eq, a0, a1, a2]
    · rw [val_main_v34_eq, a0, a1, a3]

end Cert.Proof.Gate

end
-- ==== Proof.Relu2.lean ====
/-
  The value claim of the squared ReLU's backward call: the product of the cotangent with the second weight, times the
  derivative `2 * max(a, 0)`. The grid's 64 blocks of 512 by 1024 tile the result and each contracts in one piece.
-/
module

public import proofs.«01_k».proof.Defs
public import proofs.«01_k».proof.Proof.Gen.KernelRelu2Ideal.Value
public import proofs.«01_k».proof.Proof.Gen.ReferenceRelu2Ideal.Read
public import Idealize.ShloMosaic.Lib.Pipeline.Value
public import Idealize.ShloMosaic.Lib.Pointwise
public import Idealize.ShloMosaic.Lib.Claim

@[expose] public section

noncomputable section

namespace Cert.Proof.Relu2

open Cert.KernelRelu2Ideal Cert.KernelRelu2Ideal.Gen Idealize.ShloMosaic Idealize.ShloMosaic.TcCoe Idealize.SL.Sem
open Idealize.ShloMosaic.Pipeline (Dat)
open Cert.ReferenceRelu2Ideal.Read

variable (m : (ℓ : Loc nD τ sig) → Buf (Elt Ideal) ℓ)

theorem hz : (![0, 0] : Fin 2 → Nat) = fun _ => 0 := funext fun a => by fin_cases a <;> rfl

/-- The block indices of the four windows at a grid point: the row block is `t / 4`, the column block `t % 4`. -/
theorem idx_facts : ∀ t : Fin grid0.N,
    (win0_0.index t 0 = t.val / 4 ∧ win0_0.index t 1 = 0) ∧ (win0_1.index t 0 = t.val % 4 ∧ win0_1.index t 1 = 0)
    ∧ (win0_2.index t 0 = t.val / 4 ∧ win0_2.index t 1 = t.val % 4)
    ∧ (win0_3.index t 0 = t.val / 4 ∧ win0_3.index t 1 = t.val % 4) := by decide +kernel

theorem lt64 (t : Fin cfg0.N) : t.val < 64 := by have hN : cfg0.N = 64 := N_0; have := t.isLt; omega

/-- Row `r` of point `t`'s row block, in the whole array. -/
def row (t : Fin cfg0.N) (r : Fin 512) : Fin 8192 := ⟨t.val / 4 * 512 + r.val, by have := lt64 t; omega⟩

/-- Column `l` of point `t`'s column block, in the whole array. -/
def col (t : Fin cfg0.N) (l : Fin 1024) : Fin 4096 := ⟨t.val % 4 * 1024 + l.val, by omega⟩

theorem iblk0 (c : Dev nD) (t : Fin cfg0.N) (y : S512x1024.Idx) :
    iblk m c 0 t y = m ((c : Thread nD τ).loc main_arg0) (ix2 (row t (y 0)) (y 1)) := by
  unfold iblk
  rw [View.read_apply]
  show V m c main_arg0 _ = m _ _
  congr 1
  refine Shape.idx_ext₂ ?_ ?_
  · show win0_0.index t 0 * 512 + 1 * (y 0).val = t.val / 4 * 512 + (y 0).val
    rw [(idx_facts t).1.1]; omega
  · show win0_0.index t 1 * 1024 + 1 * (y 1).val = (y 1).val
    rw [(idx_facts t).1.2]; omega

theorem iblk1 (c : Dev nD) (t : Fin cfg0.N) (y : S1024x1024.Idx) :
    iblk m c 1 t y = m ((c : Thread nD τ).loc main_arg1) (ix2 (col t (y 0)) (y 1)) := by
  unfold iblk
  rw [View.read_apply]
  show V m c main_arg1 _ = m _ _
  congr 1
  refine Shape.idx_ext₂ ?_ ?_
  · show win0_1.index t 0 * 1024 + 1 * (y 0).val = t.val % 4 * 1024 + (y 0).val
    rw [(idx_facts t).2.1.1]; omega
  · show win0_1.index t 1 * 1024 + 1 * (y 1).val = (y 1).val
    rw [(idx_facts t).2.1.2]; omega

theorem iblk2 (c : Dev nD) (t : Fin cfg0.N) (y : S512x1024.Idx) :
    iblk m c 2 t y = m ((c : Thread nD τ).loc main_arg2) (ix2 (row t (y 0)) (col t (y 1))) := by
  unfold iblk
  rw [View.read_apply]
  show V m c main_arg2 _ = m _ _
  congr 1
  refine Shape.idx_ext₂ ?_ ?_
  · show win0_2.index t 0 * 512 + 1 * (y 0).val = t.val / 4 * 512 + (y 0).val
    rw [(idx_facts t).2.2.1.1]; omega
  · show win0_2.index t 1 * 1024 + 1 * (y 1).val = t.val % 4 * 1024 + (y 1).val
    rw [(idx_facts t).2.2.1.2]; omega

theorem emb3 (t : Fin cfg0.N) (y : S512x1024.Idx) :
    ((cfg0.win 3).blk t).view.emb y = ix2 (row t (y 0)) (col t (y 1)) := by
  refine Shape.idx_ext₂ ?_ ?_
  · show win0_3.index t 0 * 512 + 1 * (y 0).val = t.val / 4 * 512 + (y 0).val
    rw [(idx_facts t).2.2.2.1]; omega
  · show win0_3.index t 1 * 1024 + 1 * (y 1).val = t.val % 4 * 1024 + (y 1).val
    rw [(idx_facts t).2.2.2.2]; omega

/-- Every index of the result lies in some point's block. -/
theorem exists_at (i : S8192x4096.Idx) : ∃ (t : Fin cfg0.N) (y : S512x1024.Idx), ix2 (row t (y 0)) (col t (y 1)) = i := by
  have h0 : (i 0).val < 8192 := (i 0).isLt
  have h1 : (i 1).val < 4096 := (i 1).isLt
  have hN : cfg0.N = 64 := N_0
  refine ⟨⟨(i 0).val / 512 * 4 + (i 1).val / 1024, by omega⟩,
    ix2 ⟨(i 0).val % 512, by omega⟩ ⟨(i 1).val % 1024, by omega⟩, Shape.idx_ext₂ ?_ ?_⟩
  · show ((i 0).val / 512 * 4 + (i 1).val / 1024) / 4 * 512 + (i 0).val % 512 = (i 0).val
    omega
  · show ((i 0).val / 512 * 4 + (i 1).val / 1024) % 4 * 1024 + (i 1).val % 1024 = (i 1).val
    omega

/-- The reference selects by the sign of the pre-activation, the kernel's factor is zero there. -/
theorem relu_factor (g x two : EReal) :
    g * (two * max x 0) = if 0 < x then g * (two * max x 0) else 0 := by
  split_ifs with h
  · rfl
  · rw [max_eq_right (not_lt.mp h), mul_zero, mul_zero]

/-- The result array: the reference's value of the arguments. -/
abbrev G3 (c : Dev nD) : Buf (Elt Ideal) ((c : Thread nD τ).loc main_v0) :=
  val_main_v14 (F := Ideal) (m ((c : Thread nD τ).loc main_arg0)) (m ((c : Thread nD τ).loc main_arg1)) (m ((c : Thread nD τ).loc main_arg2))

theorem final3 (c : Dev nD) : (dats m 0 c).arrAt 3 cfg0.N = G3 m c := by
  refine (dats m 0 c).arrAt_eq_of_cover 3 (G3 m c) (fun t _ => ?_) (fun i => ?_)
  · rw [Cert.KernelRelu2Ideal.Value.flushed3]
    funext y
    rw [View.read_apply]
    show out0_3 _ _ _ y = G3 m c _
    rw [emb3]
    unfold out0_3
    rw [View.canon_unit_zero hz]
    simp only [View.ld_unit_zero (S := S512x1024) hz, View.ld_unit_zero (S := S1024x1024) hz]
    pointwise [k0_pay1, iblk0, iblk1, iblk2, G3, val_main_v0, val_main_v1, val_main_call0_cst, val_main_call0_v0,
      val_main_v2, val_main_cst, val_main_v3, val_main_cst_0, val_main_v4, val_main_v5, val_main_cst_1,
      val_main_v6, val_main_v7, val_main_v9, val_main_v10, val_main_v11, val_main_cst_2, val_main_v12,
      val_main_v13, val_main_v14]
    exact relu_factor _ _ _
  · obtain ⟨t, y, rfl⟩ := exists_at i
    exact ⟨t, flush0_3 t, Finset.mem_map.mpr ⟨y, Finset.mem_univ y, emb3 t y⟩⟩

theorem algebraic : Cert.algebraic_KernelRelu2Ideal_ReferenceRelu2Ideal := by
  intro m ρ m' ρ' _ hagree
  refine ⟨G3 m, ?_, ?_⟩
  · refine (θ_run defs _ _).mono (fun r h c => ?_) (Cert.KernelRelu2Ideal.Value.run_blocks (F := Ideal) m ρ)
    exact ⟨(h c).1.trans (final3 m c), (h c).2⟩
  · refine (θ_run Cert.ReferenceRelu2Ideal.defs _ _).mono (fun r h c => ?_)
      (Cert.ReferenceRelu2Ideal.Value.run (F := Ideal) m' ρ')
    obtain ⟨a0, a1, a2⟩ := hagree c
    refine ⟨(h c).1.trans ?_, (h c).2⟩
    rw [val_main_v14_eq, a0, a1, a2]

end Cert.Proof.Relu2

end
-- ==== Proof.Rows.lean ====
/-
  Sums over the rows of a sequence taken block by block: sixteen blocks of 512 rows, each added to what the blocks before
  left, are the sum over all rows; and the factors that pass through a sum of extended reals.
-/
module

public import proofs.«01_k».proof.Proof.Reals

@[expose] public section

noncomputable section

namespace Cert.Proof.Rows

open Finset

/-- Row `r` of block `n`. -/
def row (n : ℕ) (hn : n < 16) (r : Fin 512) : Fin 8192 := ⟨n * 512 + r.val, by omega⟩

theorem row_surj (i : Fin 8192) : ∃ (n : ℕ) (hn : n < 16) (r : Fin 512), row n hn r = i :=
  ⟨i.val / 512, by omega, ⟨i.val % 512, by omega⟩, Fin.ext (show i.val / 512 * 512 + i.val % 512 = i.val by omega)⟩

/-- A function of the rows, by its number, zero past the last. -/
def ext (f : Fin 8192 → EReal) (k : ℕ) : EReal := if h : k < 8192 then f ⟨k, h⟩ else 0

theorem block_sum (f : Fin 8192 → EReal) (n : ℕ) (hn : n < 16) :
    ∑ r : Fin 512, f (row n hn r) = ∑ k ∈ range 512, ext f (512 * n + k) := by
  rw [sum_range]
  refine sum_congr rfl fun r _ => ?_
  have h : 512 * n + r.val < 8192 := by have := r.isLt; omega
  unfold ext
  rw [dif_pos h]
  exact congrArg f (Fin.ext (show n * 512 + r.val = 512 * n + r.val by omega))

/-- What a running sum over the blocks holds after block `n`. -/
theorem running (f : Fin 8192 → EReal) (A : ∀ n, n < 16 → EReal)
    (h0 : A 0 (by omega) = ∑ r : Fin 512, f (row 0 (by omega) r))
    (hs : ∀ n (h : n + 1 < 16), A (n + 1) h = A n (by omega) + ∑ r : Fin 512, f (row (n + 1) h r)) :
    ∀ n (h : n < 16), A n h = ∑ k ∈ range (512 * (n + 1)), ext f k
  | 0, _ => by rw [h0, block_sum]; exact sum_congr rfl fun k _ => by rw [Nat.mul_zero, Nat.zero_add]
  | n + 1, h => by
    rw [hs n h, running f A h0 hs n (by omega), block_sum, show 512 * (n + 1 + 1) = 512 * (n + 1) + 512 by omega,
      sum_range_add]

/-- After the last block the running sum is the sum over all rows. -/
theorem total (f : Fin 8192 → EReal) (A : ∀ n, n < 16 → EReal)
    (h0 : A 0 (by omega) = ∑ r : Fin 512, f (row 0 (by omega) r))
    (hs : ∀ n (h : n + 1 < 16), A (n + 1) h = A n (by omega) + ∑ r : Fin 512, f (row (n + 1) h r)) :
    A 15 (by omega) = ∑ i : Fin 8192, f i := by
  rw [running f A h0 hs 15 (by omega), sum_range]
  exact sum_congr rfl fun i _ => by unfold ext; rw [dif_pos i.isLt]

/-- A nonnegative real factor passes through any finite sum. -/
theorem sum_scale {α : Type*} (s : Finset α) (g : α → EReal) (c : ℝ) (hc : 0 ≤ c) :
    (∑ x ∈ s, g x) * (c : EReal) = ∑ x ∈ s, g x * (c : EReal) := by
  induction s using Finset.cons_induction with
  | empty => rw [sum_empty, sum_empty, zero_mul]
  | cons a s ha ih =>
    rw [sum_cons, sum_cons, ← ih]
    exact EReal.right_distrib_of_nonneg_of_ne_top (EReal.coe_nonneg.2 hc) (EReal.coe_ne_top c) _ _

/-- A real factor passes through a finite sum of reals. -/
theorem sum_real_mul {α : Type*} (s : Finset α) (g : α → EReal) (c : EReal) (hg : ∀ x ∈ s, ∃ r : ℝ, g x = (r : EReal))
    (hc : ∃ r : ℝ, c = (r : EReal)) : (∑ x ∈ s, g x) * c = ∑ x ∈ s, g x * c := by
  obtain ⟨c, rfl⟩ := hc
  induction s using Finset.cons_induction with
  | empty => rw [sum_empty, sum_empty, zero_mul]
  | cons a s ha ih =>
    have hs : ∀ x ∈ s, ∃ r : ℝ, g x = (r : EReal) := fun x hx => hg x (mem_cons_of_mem hx)
    have hex : ∃ r : ℝ, ∑ x ∈ s, g x = (r : EReal) :=
      ⟨∑ x ∈ s, (g x).toReal, Cert.Proof.Stick.sum_coe s g _ fun x hx => by
        obtain ⟨r, hr⟩ := hs x hx; rw [hr, EReal.toReal_coe]⟩
    obtain ⟨u, hu⟩ := hg a (mem_cons_self a s)
    obtain ⟨w, hw⟩ := hex
    rw [sum_cons, sum_cons, ← ih hs, hu, hw]
    rw [← EReal.coe_add, ← EReal.coe_mul, ← EReal.coe_mul, ← EReal.coe_mul, ← EReal.coe_add, add_mul]

end Cert.Proof.Rows

end
-- ==== Proof.Norm.lean ====
/-
  A row's root-mean-square norm among the extended reals, and the two ways its gradient is written: by the normalised row
  (`r * (d - n * mean (d * n))`) and by the derivative of each step of the norm.
-/
module

public import proofs.«01_k».proof.Proof.Rows
public import Idealize.ShloMosaic.Lib.Pointwise

@[expose] public section

noncomputable section

namespace Cert.Proof.Norm

open Finset Idealize.ShloMosaic

abbrev W : EReal := Ideal.ofBits .f32 0x44800000#32
abbrev E : EReal := Ideal.ofBits .f32 0x358637BD#32
abbrev H : EReal := Ideal.ofBits .f32 0xBF000000#32

/-- A number below infinity in size is real. -/
theorem real_of_finite (x : EReal) (h : Ideal.cmp .olt (max x (-x)) (Ideal.ofBits .f32 0x7F800000#32) = 1#1) :
    ∃ r : ℝ, x = (r : EReal) := by
  induction x using EReal.rec with
  | bot => simp [Ideal.cmp, Ideal.ofBits, Ideal.ieee] at h
  | coe r => exact ⟨r, rfl⟩
  | top => simp [Ideal.cmp, Ideal.ofBits, Ideal.ieee] at h

theorem W_eq : W = ((1024 : ℝ) : EReal) := by
  simp [W, Ideal.ofBits, Ideal.ieee, ← EReal.coe_mul]; norm_num

theorem H_eq : H = ((-1 / 2 : ℝ) : EReal) := by
  simp [H, Ideal.ofBits, Ideal.ieee, ← EReal.coe_mul, ← EReal.coe_neg]; norm_num

theorem E_eq : ∃ e : ℝ, 0 < e ∧ E = (e : EReal) := by
  refine ⟨8796093 * (2 ^ 43)⁻¹, by positivity, ?_⟩
  simp [E, Ideal.ofBits, Ideal.ieee, ← EReal.coe_mul]

/-- The mean square plus the guard, and its inverse square root. -/
def V (x : Fin 1024 → EReal) : EReal := Ideal.div (∑ k, x k * x k) W + E
def R (x : Fin 1024 → EReal) : EReal := Ideal.rsqrt (V x)

theorem mul_self_nonneg' (a : EReal) : 0 ≤ a * a := by
  induction a using EReal.rec with
  | bot => simp
  | coe r => rw [← EReal.coe_mul]; exact EReal.coe_nonneg.2 (mul_self_nonneg r)
  | top => simp

/-- A row is real with a real root, or its root and the root's derivative vanish. -/
theorem cases (x : Fin 1024 → EReal) :
    (∃ (f : Fin 1024 → ℝ) (p : ℝ), (∀ k, x k = (f k : EReal)) ∧ R x = (p : EReal)
      ∧ Ideal.div (R x) (V x) = ((p * p * p : ℝ) : EReal))
    ∨ (R x = 0 ∧ Ideal.div (R x) (V x) = 0) := by
  obtain ⟨e, he, hE⟩ := E_eq
  by_cases hx : ∀ k, ∃ r : ℝ, x k = (r : EReal)
  · left
    choose f hf using hx
    have hs : ∑ k, x k * x k = ((∑ k, f k * f k : ℝ) : EReal) := Stick.sum_mul_coe _ x x f f (fun k _ => hf k) (fun k _ => hf k)
    have hpos : 0 < (∑ k, f k * f k) * (1 / 1024) + e := by
      have : 0 ≤ ∑ k, f k * f k := sum_nonneg fun k _ => mul_self_nonneg _
      positivity
    have hV : V x = (((∑ k, f k * f k) * (1 / 1024) + e : ℝ) : EReal) := by
      unfold V; rw [hs, W_eq, hE, Ideal.div_coe (by norm_num), ← EReal.coe_mul, ← EReal.coe_add]
    generalize (∑ k, f k * f k) * (1 / 1024) + e = v at hpos hV
    have hR : R x = (((Real.sqrt v)⁻¹ : ℝ) : EReal) := by
      unfold R; rw [hV, Ideal.rsqrt_coe, if_neg (not_lt.2 hpos.le), if_neg hpos.ne']
    refine ⟨f, (Real.sqrt v)⁻¹, hf, hR, ?_⟩
    rw [hR, hV, Ideal.div_coe hpos.ne', ← EReal.coe_mul]
    congr 1
    rw [mul_assoc, ← mul_inv, Real.mul_self_sqrt hpos.le, one_div]
  · right
    obtain ⟨k, hk⟩ := not_forall.1 hx
    have hk' : x k * x k = ⊤ := by
      generalize x k = a at hk
      induction a using EReal.rec with
      | bot => simp
      | coe r => exact absurd ⟨r, rfl⟩ hk
      | top => simp
    have hs : ∑ k, x k * x k = ⊤ :=
      top_le_iff.1 (hk'.symm.le.trans (single_le_sum (f := fun k => x k * x k) (fun i _ => mul_self_nonneg' (x i)) (mem_univ k)))
    have hV : V x = ⊤ := by
      unfold V
      rw [hs, W_eq, hE, Ideal.div_coe (by norm_num), EReal.top_mul_coe_of_pos (by norm_num), EReal.top_add_coe]
    have hR : R x = 0 := by unfold R; rw [hV, Ideal.rsqrt_top]
    exact ⟨hR, by rw [hR, hV]; simp [Ideal.div]⟩

/-- A normalised element is real. -/
theorem normal_real (x : Fin 1024 → EReal) (l : Fin 1024) : ∃ r : ℝ, x l * R x = (r : EReal) := by
  obtain ⟨f, p, hf, hp, _⟩ | ⟨h, _⟩ := cases x
  · exact ⟨f l * p, by rw [hf, hp, EReal.coe_mul]⟩
  · exact ⟨0, by rw [h, mul_zero, EReal.coe_zero]⟩

theorem mul_real {a b : EReal} (ha : ∃ r : ℝ, a = (r : EReal)) (hb : ∃ r : ℝ, b = (r : EReal)) : ∃ r : ℝ, a * b = (r : EReal) := by
  obtain ⟨r, rfl⟩ := ha; obtain ⟨s, rfl⟩ := hb; exact ⟨r * s, by rw [EReal.coe_mul]⟩

/-- What the gradient through the root adds to an element, over the element. -/
def P (x d : Fin 1024 → EReal) : EReal := Ideal.div ((∑ k, x k * d k) * (H * Ideal.div (R x) (V x))) W

/-- The two gradients of the norm agree. -/
theorem grad (x d : Fin 1024 → EReal) (hd : ∀ k, ∃ r : ℝ, d k = (r : EReal)) (l : Fin 1024) :
    R x * (d l - x l * R x * Ideal.div (∑ k, d k * (x k * R x)) W) = d l * R x + x l * P x d + P x d * x l := by
  choose g hg using hd
  obtain ⟨f, p, hf, hp, hq⟩ | ⟨h, h'⟩ := cases x
  · have s1 : ∑ k, d k * (x k * R x) = ((∑ k, g k * (f k * p) : ℝ) : EReal) :=
      Stick.sum_mul_coe _ d (fun k => x k * R x) g (fun k => f k * p) (fun k _ => hg k)
        (fun k _ => by rw [hf, hp, EReal.coe_mul])
    have s2 : ∑ k, x k * d k = ((∑ k, f k * g k : ℝ) : EReal) :=
      Stick.sum_mul_coe _ x d f g (fun k _ => hf k) (fun k _ => hg k)
    have s3 : (∑ k, g k * (f k * p)) = (∑ k, f k * g k) * p := by
      rw [sum_mul]; exact sum_congr rfl fun k _ => by ring
    unfold P
    rw [s1, s2, s3, hq, hp, W_eq, H_eq, hf, hg]
    simp only [Ideal.div_coe (show (1024 : ℝ) ≠ 0 by norm_num), ← EReal.coe_mul, ← EReal.coe_sub, ← EReal.coe_add]
    congr 1
    ring
  · unfold P
    rw [h', h, W_eq]
    simp [Ideal.div_coe]

/-! ## Vectors' gradients, summed over the rows -/

abbrev SRows : Shape := ⟨2, ![8192, 1024]⟩
abbrev SVec : Shape := ⟨2, ![1, 1024]⟩

/-- A row of an array. -/
abbrev line (x : SRows.Idx → EReal) (i : Fin 8192) (k : Fin 1024) : EReal := x (ix2 i k)

/-- What one row adds to a vector's gradient: the cotangent times the normalised element, times another vector. -/
def term (d x : SRows.Idx → EReal) (v : SVec.Idx → EReal) (l : Fin 1024) (i : Fin 8192) : EReal :=
  d (ix2 i l) * (line x i l * R (line x i)) * v (ix2 (0 : Fin 1) l)

theorem block_term (d x : SRows.Idx → EReal) (v : SVec.Idx → EReal) (hd : ∀ y, ∃ r : ℝ, d y = (r : EReal))
    (hv : ∀ y, ∃ r : ℝ, v y = (r : EReal)) (l : Fin 1024) (n : ℕ) (hn : n < 16) :
    (∑ r : Fin 512, d (ix2 (Rows.row n hn r) l) * (line x (Rows.row n hn r) l * R (line x (Rows.row n hn r))))
        * v (ix2 (0 : Fin 1) l)
      = ∑ r : Fin 512, term d x v l (Rows.row n hn r) :=
  Rows.sum_real_mul _ _ _ (fun _ _ => mul_real (hd _) (normal_real _ _)) (hv _)

/-- An index of a vector is its lane. -/
theorem lane_eq (y : SVec.Idx) : ∃ l : Fin 1024, y = ix2 (0 : Fin 1) l :=
  ⟨y 1, Shape.idx_ext₂ (by have : (y 0).val < 1 := (y 0).isLt; show (y 0).val = 0; omega) rfl⟩

end Cert.Proof.Norm

end
-- ==== Proof.Post.lean ====
/-
  The value claim of the norm's backward call after a sub-layer: the gradient of the normalised row for every block of
  rows, and the gradients of the norm's weight and of the gate as running sums over the blocks.
-/
module

public import proofs.«01_k».proof.Defs
public import proofs.«01_k».proof.Proof.Norm
public import proofs.«01_k».proof.Proof.Gen.KernelPostIdeal.Value
public import proofs.«01_k».proof.Proof.Gen.ReferencePostIdeal.Read
public import Idealize.ShloMosaic.Lib.Pipeline.Value
public import Idealize.ShloMosaic.Lib.Pipeline.ValueKit
public import Idealize.ShloMosaic.Lib.Pointwise
public import Idealize.ShloMosaic.Lib.Claim

@[expose] public section

set_option maxHeartbeats 1000000

noncomputable section

namespace Cert.Proof.Post

open Cert.KernelPostIdeal Cert.KernelPostIdeal.Gen Idealize.ShloMosaic Idealize.ShloMosaic.TcCoe Idealize.SL.Sem
open Idealize.ShloMosaic.Pipeline (Dat)
open Cert.ReferencePostIdeal.Read Cert.Proof.Rows
open Cert.Proof.Norm (line term block_term lane_eq)

variable (m : (ℓ : Loc nD τ sig) → Buf (Elt Ideal) ℓ)

theorem idx_facts : ∀ t : Fin grid0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = 0 ∧ win0_5.index t 1 = 0)
    ∧ (win0_6.index t 0 = 0 ∧ win0_6.index t 1 = 0) := by
  decide +kernel

theorem lt16 (t : Fin cfg0.N) : t.val < 16 := lt_of_lt_of_eq t.isLt N_0

/-- Where element `y` of block `t` lies in an array of 8192 rows. -/
abbrev at_ (t : Fin cfg0.N) (y : S512x1024.Idx) : S8192x1024.Idx := ix2 (row t.val (lt16 t) (y 0)) (y 1)

/-- The arguments: the cotangent, the norm's argument, its weight and the gate. -/
abbrev A0 (c : Dev nD) : S8192x1024.Idx → EReal := m ((c : Thread nD τ).loc main_arg0)
abbrev A1 (c : Dev nD) : S8192x1024.Idx → EReal := m ((c : Thread nD τ).loc main_arg1)
abbrev A2 (c : Dev nD) : S1x1024.Idx → EReal := m ((c : Thread nD τ).loc main_arg2)
abbrev A3 (c : Dev nD) : S1x1024.Idx → EReal := m ((c : Thread nD τ).loc main_arg3)

theorem iblk0 (c : Dev nD) (t : Fin cfg0.N) (y : S512x1024.Idx) : iblk m c 0 t y = A0 m c (at_ t y) := by
  unfold iblk
  rw [View.read_apply]
  show V m c main_arg0 _ = m _ _
  congr 1
  refine Shape.idx_ext₂ ?_ ?_
  · show win0_0.index t 0 * 512 + 1 * (y 0).val = t.val * 512 + (y 0).val
    rw [(idx_facts t).1.1]; omega
  · show win0_0.index t 1 * 1024 + 1 * (y 1).val = (y 1).val
    rw [(idx_facts t).1.2]; omega

theorem iblk1 (c : Dev nD) (t : Fin cfg0.N) (y : S512x1024.Idx) : iblk m c 1 t y = A1 m c (at_ t y) := by
  unfold iblk
  rw [View.read_apply]
  show V m c main_arg1 _ = m _ _
  congr 1
  refine Shape.idx_ext₂ ?_ ?_
  · show win0_1.index t 0 * 512 + 1 * (y 0).val = t.val * 512 + (y 0).val
    rw [(idx_facts t).2.1.1]; omega
  · show win0_1.index t 1 * 1024 + 1 * (y 1).val = (y 1).val
    rw [(idx_facts t).2.1.2]; omega

theorem iblk2 (c : Dev nD) (t : Fin cfg0.N) (y : S1x1024.Idx) : iblk m c 2 t y = A2 m c y := by
  unfold iblk
  rw [View.read_apply]
  show V m c main_arg2 _ = m _ _
  congr 1
  refine Shape.idx_ext₂ ?_ ?_
  · show win0_2.index t 0 * 1 + 1 * (y 0).val = (y 0).val
    rw [(idx_facts t).2.2.1.1]; omega
  · show win0_2.index t 1 * 1024 + 1 * (y 1).val = (y 1).val
    rw [(idx_facts t).2.2.1.2]; omega

theorem iblk3 (c : Dev nD) (t : Fin cfg0.N) (y : S1x1024.Idx) : iblk m c 3 t y = A3 m c y := by
  unfold iblk
  rw [View.read_apply]
  show V m c main_arg3 _ = m _ _
  congr 1
  refine Shape.idx_ext₂ ?_ ?_
  · show win0_3.index t 0 * 1 + 1 * (y 0).val = (y 0).val
    rw [(idx_facts t).2.2.2.1.1]; omega
  · show win0_3.index t 1 * 1024 + 1 * (y 1).val = (y 1).val
    rw [(idx_facts t).2.2.2.1.2]; omega

theorem emb4 (t : Fin cfg0.N) (y : S512x1024.Idx) : ((cfg0.win 4).blk t).view.emb y = at_ t y := by
  refine Shape.idx_ext₂ ?_ ?_
  · show win0_4.index t 0 * 512 + 1 * (y 0).val = t.val * 512 + (y 0).val
    rw [(idx_facts t).2.2.2.2.1.1]; omega
  · show win0_4.index t 1 * 1024 + 1 * (y 1).val = (y 1).val
    rw [(idx_facts t).2.2.2.2.1.2]; omega

theorem emb5 (t : Fin cfg0.N) (y : S1x1024.Idx) : ((cfg0.win 5).blk t).view.emb y = y := by
  refine Shape.idx_ext₂ ?_ ?_
  · show win0_5.index t 0 * 1 + 1 * (y 0).val = (y 0).val
    rw [(idx_facts t).2.2.2.2.2.1.1]; omega
  · show win0_5.index t 1 * 1024 + 1 * (y 1).val = (y 1).val
    rw [(idx_facts t).2.2.2.2.2.1.2]; omega

theorem emb6 (t : Fin cfg0.N) (y : S1x1024.Idx) : ((cfg0.win 6).blk t).view.emb y = y := by
  refine Shape.idx_ext₂ ?_ ?_
  · show win0_6.index t 0 * 1 + 1 * (y 0).val = (y 0).val
    rw [(idx_facts t).2.2.2.2.2.2.1]; omega
  · show win0_6.index t 1 * 1024 + 1 * (y 1).val = (y 1).val
    rw [(idx_facts t).2.2.2.2.2.2.2]; omega

theorem exists_at (i : S8192x1024.Idx) : ∃ (t : Fin cfg0.N) (y : S512x1024.Idx), at_ t y = i := by
  obtain ⟨n, hn, r, h⟩ := row_surj (i 0)
  exact ⟨⟨n, lt_of_lt_of_eq hn N_0.symm⟩, ix2 r (i 1), Shape.idx_ext₂ (congrArg Fin.val h) rfl⟩

theorem exists_last : ∃ t : Fin cfg0.N, t.val = 15 := ⟨⟨15, lt_of_lt_of_eq (by omega) N_0.symm⟩, rfl⟩

/-! ## What the windows hold after each point -/

theorem left4 (c : Dev nD) (t : Fin cfg0.N) :
    (outsAt0 m c t.val t.isLt).1 = k0_pay5 (F := Ideal) (iblk m c 1 t) (iblk m c 0 t) (iblk m c 3 t) (iblk m c 2 t) := by
  by_cases h : 1 ≤ t.val
  · have h0 : ¬ t.val % 16 = 0 := by have := lt16 t; omega
    rw [outsAt0_B m c t h0 h]
    frame_out
  · have h0 : t.val % 16 = 0 := by omega
    rw [outsAt0_A m c t h0 h]
    frame_out

theorem left5_zero (c : Dev nD) (t : Fin cfg0.N) (h : ¬ 1 ≤ t.val) :
    (outsAt0 m c t.val t.isLt).2.1 = k0_pay7 (F := Ideal) (iblk m c 1 t) (iblk m c 0 t) (iblk m c 2 t) := by
  have h0 : t.val % 16 = 0 := by omega
  rw [outsAt0_A m c t h0 h]
  frame_out

theorem left5_succ (c : Dev nD) (t : Fin cfg0.N) (h : 1 ≤ t.val) :
    (outsAt0 m c t.val t.isLt).2.1 = k0_pay1 (F := Ideal) (k0_pay7 (F := Ideal) (iblk m c 1 t) (iblk m c 0 t) (iblk m c 2 t))
      (outsAt0 m c (t.val - 1) (Nat.lt_of_le_of_lt (Nat.sub_le _ _) t.isLt)).2.1 := by
  have h0 : ¬ t.val % 16 = 0 := by have := lt16 t; omega
  rw [outsAt0_B m c t h0 h]
  frame_out

theorem left6_zero (c : Dev nD) (t : Fin cfg0.N) (h : ¬ 1 ≤ t.val) :
    (outsAt0 m c t.val t.isLt).2.2 = k0_pay8 (F := Ideal) (iblk m c 1 t) (iblk m c 0 t) (iblk m c 3 t) := by
  have h0 : t.val % 16 = 0 := by omega
  rw [outsAt0_A m c t h0 h]
  frame_out

theorem left6_succ (c : Dev nD) (t : Fin cfg0.N) (h : 1 ≤ t.val) :
    (outsAt0 m c t.val t.isLt).2.2 = k0_pay2 (F := Ideal) (k0_pay8 (F := Ideal) (iblk m c 1 t) (iblk m c 0 t) (iblk m c 3 t))
      (outsAt0 m c (t.val - 1) (Nat.lt_of_le_of_lt (Nat.sub_le _ _) t.isLt)).2.2 := by
  have h0 : ¬ t.val % 16 = 0 := by have := lt16 t; omega
  rw [outsAt0_B m c t h0 h]
  frame_out

/-! ## The gradient of the norm's argument -/

/-- The cotangent of the normalised row. -/
abbrev dn (d : S8192x1024.Idx → EReal) (g gt : S1x1024.Idx → EReal) (i : Fin 8192) (k : Fin 1024) : EReal :=
  gt (ix2 (0 : Fin 1) k) * d (ix2 i k) * g (ix2 (0 : Fin 1) k)

theorem pay5_at (c : Dev nD) (t : Fin cfg0.N) (r : Fin 512) (l : Fin 1024) :
    k0_pay5 (F := Ideal) (iblk m c 1 t) (iblk m c 0 t) (iblk m c 3 t) (iblk m c 2 t) (ix2 r l)
      = Norm.R (line (A1 m c) (row t.val (lt16 t) r))
        * (A0 m c (ix2 (row t.val (lt16 t) r) l) * (A3 m c (ix2 (0 : Fin 1) l) * A2 m c (ix2 (0 : Fin 1) l))
          - line (A1 m c) (row t.val (lt16 t) r) l * Norm.R (line (A1 m c) (row t.val (lt16 t) r))
            * Ideal.div (∑ k, A0 m c (ix2 (row t.val (lt16 t) r) k) * (A3 m c (ix2 (0 : Fin 1) k) * A2 m c (ix2 (0 : Fin 1) k))
                * (line (A1 m c) (row t.val (lt16 t) r) k * Norm.R (line (A1 m c) (row t.val (lt16 t) r)))) Norm.W) := by
  pointwise [k0_pay5, k0_pay4, k0_pay3, iblk0, iblk1, iblk2, iblk3]
  rfl

theorem ref_dm (d x : S8192x1024.Idx → EReal) (g gt : S1x1024.Idx → EReal) (i : Fin 8192) (l : Fin 1024) :
    val_main_v43 (F := Ideal) d x g gt (ix2 i l)
      = dn d g gt i l * Norm.R (line x i) + line x i l * Norm.P (line x i) (dn d g gt i)
        + Norm.P (line x i) (dn d g gt i) * line x i l := by
  pointwise [val_main_v1, val_main_cst_0, val_main_v2, val_main_v3, val_main_cst_1, val_main_v4, val_main_v5, val_main_cst_2,
    val_main_v6, val_main_v7, val_main_v8, val_main_v9, val_main_cst_3, val_main_v10, val_main_v11, val_main_v19,
    val_main_v20, val_main_v27, val_main_v28, val_main_v29, val_main_cst_6, val_main_v30, val_main_v31, val_main_v32,
    val_main_v33, val_main_v34, val_main_cst_7, val_main_v35, val_main_v36, val_main_cst_8, val_main_v37, val_main_v38,
    val_main_v39, val_main_v40, val_main_v41, val_main_v42, val_main_v43]
  simp only [Fin.sum_univ_one]
  rfl

/-- The numbers the claim needs finite. -/
structure Finite (c : Dev nD) : Prop where
  dxn : ∀ y, ∃ r : ℝ, A0 m c y = (r : EReal)
  g : ∀ y, ∃ r : ℝ, A2 m c y = (r : EReal)
  gt : ∀ y, ∃ r : ℝ, A3 m c y = (r : EReal)

/-- The three result arrays: the reference's values of the arguments. -/
abbrev G4 (c : Dev nD) : Buf (Elt Ideal) ((c : Thread nD τ).loc main_v0_0) :=
  val_main_v43 (F := Ideal) (A0 m c) (A1 m c) (A2 m c) (A3 m c)
abbrev G5 (c : Dev nD) : Buf (Elt Ideal) ((c : Thread nD τ).loc main_v0_1) := val_main_v23 (F := Ideal) (A0 m c) (A1 m c) (A2 m c)
abbrev G6 (c : Dev nD) : Buf (Elt Ideal) ((c : Thread nD τ).loc main_v0_2) := val_main_v26 (F := Ideal) (A0 m c) (A1 m c) (A3 m c)

theorem final4 {c : Dev nD} (hf : Finite m c) : (dats m 0 c).arrAt 4 cfg0.N = G4 m c := by
  refine (dats m 0 c).arrAt_eq_of_cover 4 (G4 m c) (fun t _ => ?_) (fun i => ?_)
  · rw [Cert.KernelPostIdeal.Value.flushed4]
    funext y
    obtain ⟨r, l, rfl⟩ : ∃ (r : Fin 512) (l : Fin 1024), y = ix2 r l := ⟨y 0, y 1, (ix2_eta y).symm⟩
    rw [View.read_apply, left4]
    show k0_pay5 (F := Ideal) _ _ _ _ (ix2 r l) = G4 m c _
    rw [emb4]
    refine (pay5_at m c t r l).trans (Eq.trans ?_
      (ref_dm (A0 m c) (A1 m c) (A2 m c) (A3 m c) (row t.val (lt16 t) r) l).symm)
    rw [← Norm.grad _ _ (fun k => Norm.mul_real (Norm.mul_real (hf.gt _) (hf.dxn _)) (hf.g _))]
    have e : ∀ k, A0 m c (ix2 (row t.val (lt16 t) r) k) * (A3 m c (ix2 (0 : Fin 1) k) * A2 m c (ix2 (0 : Fin 1) k))
        = dn (A0 m c) (A2 m c) (A3 m c) (row t.val (lt16 t) r) k := fun k => by
      rw [← mul_assoc, mul_comm (A0 m c _)]
    simp only [e]
  · obtain ⟨t, y, rfl⟩ := exists_at i
    exact ⟨t, flush0_4 t, Finset.mem_map.mpr ⟨y, Finset.mem_univ y, emb4 t y⟩⟩

/-! ## The gradients of the weight and the gate -/

theorem pay7_at (c : Dev nD) (t : Fin cfg0.N) (l : Fin 1024) :
    k0_pay7 (F := Ideal) (iblk m c 1 t) (iblk m c 0 t) (iblk m c 2 t) (ix2 (0 : Fin 1) l)
      = (∑ r : Fin 512, A0 m c (ix2 (row t.val (lt16 t) r) l)
          * (line (A1 m c) (row t.val (lt16 t) r) l * Norm.R (line (A1 m c) (row t.val (lt16 t) r)))) * A2 m c (ix2 (0 : Fin 1) l) := by
  pointwise [k0_pay7, k0_pay6, k0_pay4, k0_pay3, iblk0, iblk1, iblk2]
  rfl

theorem pay8_at (c : Dev nD) (t : Fin cfg0.N) (l : Fin 1024) :
    k0_pay8 (F := Ideal) (iblk m c 1 t) (iblk m c 0 t) (iblk m c 3 t) (ix2 (0 : Fin 1) l)
      = (∑ r : Fin 512, A0 m c (ix2 (row t.val (lt16 t) r) l)
          * (line (A1 m c) (row t.val (lt16 t) r) l * Norm.R (line (A1 m c) (row t.val (lt16 t) r)))) * A3 m c (ix2 (0 : Fin 1) l) := by
  pointwise [k0_pay8, k0_pay6, k0_pay4, k0_pay3, iblk0, iblk1, iblk3]
  rfl

theorem pay1_at (a v : Vec Ideal S1x1024 .f32) (y : S1x1024.Idx) : k0_pay1 (F := Ideal) a v y = v y + a y := by
  pointwise [k0_pay1]

theorem pay2_at (a v : Vec Ideal S1x1024 .f32) (y : S1x1024.Idx) : k0_pay2 (F := Ideal) a v y = v y + a y := by
  pointwise [k0_pay2]

/-- The running sums after block `n`. -/
def at5 (c : Dev nD) (l : Fin 1024) (n : ℕ) (hn : n < 16) : EReal :=
  (outsAt0 m c n (lt_of_lt_of_eq hn N_0.symm)).2.1 (ix2 (0 : Fin 1) l)
def at6 (c : Dev nD) (l : Fin 1024) (n : ℕ) (hn : n < 16) : EReal :=
  (outsAt0 m c n (lt_of_lt_of_eq hn N_0.symm)).2.2 (ix2 (0 : Fin 1) l)

variable {m}

theorem first5 {c : Dev nD} (hf : Finite m c) (l : Fin 1024) : at5 m c l 0 (by omega)
    = ∑ r : Fin 512, term (A0 m c) (A1 m c) (A2 m c) l (row 0 (by omega) r) :=
  (congrFun (left5_zero m c ⟨0, lt_of_lt_of_eq (by omega) N_0.symm⟩ (Nat.not_succ_le_zero 0)) _).trans
    ((pay7_at m c _ l).trans (block_term _ _ _ hf.dxn hf.g l _ _))

theorem next5 {c : Dev nD} (hf : Finite m c) (l : Fin 1024) (n : ℕ) (h : n + 1 < 16) : at5 m c l (n + 1) h
    = at5 m c l n (by omega) + ∑ r : Fin 512, term (A0 m c) (A1 m c) (A2 m c) l (row (n + 1) h r) :=
  (congrFun (left5_succ m c ⟨n + 1, lt_of_lt_of_eq h N_0.symm⟩ (Nat.le_add_left 1 n)) _).trans ((pay1_at _ _ _).trans
    (congrArg (at5 m c l n (by omega) + ·) ((pay7_at m c _ l).trans (block_term _ _ _ hf.dxn hf.g l _ _))))

theorem first6 {c : Dev nD} (hf : Finite m c) (l : Fin 1024) : at6 m c l 0 (by omega)
    = ∑ r : Fin 512, term (A0 m c) (A1 m c) (A3 m c) l (row 0 (by omega) r) :=
  (congrFun (left6_zero m c ⟨0, lt_of_lt_of_eq (by omega) N_0.symm⟩ (Nat.not_succ_le_zero 0)) _).trans
    ((pay8_at m c _ l).trans (block_term _ _ _ hf.dxn hf.gt l _ _))

theorem next6 {c : Dev nD} (hf : Finite m c) (l : Fin 1024) (n : ℕ) (h : n + 1 < 16) : at6 m c l (n + 1) h
    = at6 m c l n (by omega) + ∑ r : Fin 512, term (A0 m c) (A1 m c) (A3 m c) l (row (n + 1) h r) :=
  (congrFun (left6_succ m c ⟨n + 1, lt_of_lt_of_eq h N_0.symm⟩ (Nat.le_add_left 1 n)) _).trans ((pay2_at _ _ _).trans
    (congrArg (at6 m c l n (by omega) + ·) ((pay8_at m c _ l).trans (block_term _ _ _ hf.dxn hf.gt l _ _))))

theorem sum5 {c : Dev nD} (hf : Finite m c) (l : Fin 1024) : ∀ n (hn : n < 16), n = 15 →
    at5 m c l n hn = ∑ i : Fin 8192, term (A0 m c) (A1 m c) (A2 m c) l i := by
  rintro _ _ rfl
  exact total (term (A0 m c) (A1 m c) (A2 m c) l) (at5 m c l) (first5 hf l) (next5 hf l)

theorem sum6 {c : Dev nD} (hf : Finite m c) (l : Fin 1024) : ∀ n (hn : n < 16), n = 15 →
    at6 m c l n hn = ∑ i : Fin 8192, term (A0 m c) (A1 m c) (A3 m c) l i := by
  rintro _ _ rfl
  exact total (term (A0 m c) (A1 m c) (A3 m c) l) (at6 m c l) (first6 hf l) (next6 hf l)

theorem ref_dgt (d x : S8192x1024.Idx → EReal) (g : S1x1024.Idx → EReal) (l : Fin 1024) :
    val_main_v23 (F := Ideal) d x g (ix2 (0 : Fin 1) l) = ∑ i : Fin 8192, term d x g l i := by
  have e : val_main_v23 (F := Ideal) d x g (ix2 (0 : Fin 1) l)
      = ∑ i : Fin 8192, d (ix2 i l) * (line x i l * Norm.R (line x i) * g (ix2 (0 : Fin 1) l)) := by
    pointwise [val_main_v1, val_main_cst_0, val_main_v2, val_main_v3, val_main_cst_1, val_main_v4, val_main_v5, val_main_cst_2,
      val_main_v6, val_main_v7, val_main_v8, val_main_v12, val_main_v13, val_main_v14, val_main_v15, val_main_v21,
      val_main_cst_4, val_main_v22, val_main_v23]
    rfl
  rw [e]
  exact Finset.sum_congr rfl fun i _ => (mul_assoc _ _ _).symm

theorem ref_dg (d x : S8192x1024.Idx → EReal) (gt : S1x1024.Idx → EReal) (l : Fin 1024) :
    val_main_v26 (F := Ideal) d x gt (ix2 (0 : Fin 1) l) = ∑ i : Fin 8192, term d x gt l i := by
  have e : val_main_v26 (F := Ideal) d x gt (ix2 (0 : Fin 1) l)
      = ∑ i : Fin 8192, line x i l * Norm.R (line x i) * (gt (ix2 (0 : Fin 1) l) * d (ix2 i l)) := by
    pointwise [val_main_v1, val_main_cst_0, val_main_v2, val_main_v3, val_main_cst_1, val_main_v4, val_main_v5, val_main_cst_2,
      val_main_v6, val_main_v7, val_main_v8, val_main_v12, val_main_v13, val_main_v19, val_main_v20, val_main_v24,
      val_main_cst_5, val_main_v25, val_main_v26]
    rfl
  rw [e]
  exact Finset.sum_congr rfl fun i _ => by
    unfold term; rw [mul_comm (gt _), ← mul_assoc, mul_comm (d _)]

variable (m)

theorem final5 {c : Dev nD} (hf : Finite m c) : (dats m 0 c).arrAt 5 cfg0.N = G5 m c := by
  refine (dats m 0 c).arrAt_eq_of_cover 5 (G5 m c) (fun t ht => ?_) (fun i => ?_)
  · have h15 : t.val = 15 := by have := (flush0_5 t).mp ht; have := lt16 t; omega
    rw [Cert.KernelPostIdeal.Value.flushed5]
    funext y
    rw [View.read_apply, emb5]
    obtain ⟨l, rfl⟩ := lane_eq y
    exact (sum5 hf l t.val (lt16 t) h15).trans (ref_dgt _ _ _ l).symm
  · obtain ⟨t, ht⟩ := exists_last
    exact ⟨t, (flush0_5 t).mpr (by omega), Finset.mem_map.mpr ⟨i, Finset.mem_univ i, emb5 t i⟩⟩

theorem final6 {c : Dev nD} (hf : Finite m c) : (dats m 0 c).arrAt 6 cfg0.N = G6 m c := by
  refine (dats m 0 c).arrAt_eq_of_cover 6 (G6 m c) (fun t ht => ?_) (fun i => ?_)
  · have h15 : t.val = 15 := by have := (flush0_6 t).mp ht; have := lt16 t; omega
    rw [Cert.KernelPostIdeal.Value.flushed6]
    funext y
    rw [View.read_apply, emb6]
    obtain ⟨l, rfl⟩ := lane_eq y
    exact (sum6 hf l t.val (lt16 t) h15).trans (ref_dg _ _ _ l).symm
  · obtain ⟨t, ht⟩ := exists_last
    exact ⟨t, (flush0_6 t).mpr (by omega), Finset.mem_map.mpr ⟨i, Finset.mem_univ i, emb6 t i⟩⟩

theorem algebraic [Cert.Pre_finite_post.Facts] : Cert.algebraic_KernelPostIdeal_ReferencePostIdeal_pre_finite_post := by
  intro m ρ m' ρ' hpre hagree
  have hf : ∀ c : Dev nD, Finite m c := fun c =>
    ⟨fun y => Norm.real_of_finite _ (congrFun (hpre c).1 y), fun y => Norm.real_of_finite _ (congrFun (hpre c).2.1 y),
      fun y => Norm.real_of_finite _ (congrFun (hpre c).2.2 y)⟩
  refine ⟨G4 m, G5 m, G6 m, ?_, ?_⟩
  · refine (θ_run defs _ _).mono (fun r h c => ?_) (Cert.KernelPostIdeal.Value.run_blocks (F := Ideal) m ρ)
    obtain ⟨h4, h5, h6, h⟩ := h c
    exact ⟨h4.trans (final4 m (hf c)), h5.trans (final5 m (hf c)), h6.trans (final6 m (hf c)), h⟩
  · refine (θ_run Cert.ReferencePostIdeal.defs _ _).mono (fun r h c => ?_)
      (Cert.ReferencePostIdeal.Value.run (F := Ideal) m' ρ')
    obtain ⟨h4, h5, h6, h⟩ := h c
    obtain ⟨a0, a1, a2, a3⟩ := hagree c
    refine ⟨h4.trans ?_, h5.trans ?_, h6.trans ?_, h⟩
    · rw [val_main_v43_eq, a0, a1, a2, a3]
    · rw [val_main_v23_eq, a0, a1, a2]
    · rw [val_main_v26_eq, a0, a1, a3]

end Cert.Proof.Post

end
-- ==== Proof.Pre.lean ====
/-
  The value claim of the norm's backward call before a sub-layer: the gradient of the norm's argument for every block of
  rows, added to the gradient that went past the sub-layer, and the gradients of the shift, the scale and the weight as
  running sums over the blocks.
-/
module

public import proofs.«01_k».proof.Defs
public import proofs.«01_k».proof.Proof.Norm
public import proofs.«01_k».proof.Proof.Gen.KernelPreIdeal.Value
public import proofs.«01_k».proof.Proof.Gen.ReferencePreIdeal.Read
public import Idealize.ShloMosaic.Lib.Pipeline.Value
public import Idealize.ShloMosaic.Lib.Pipeline.ValueKit
public import Idealize.ShloMosaic.Lib.Pointwise
public import Idealize.ShloMosaic.Lib.Claim

@[expose] public section

set_option maxHeartbeats 1000000

noncomputable section

namespace Cert.Proof.Pre

open Cert.KernelPreIdeal Cert.KernelPreIdeal.Gen Idealize.ShloMosaic Idealize.ShloMosaic.TcCoe Idealize.SL.Sem
open Idealize.ShloMosaic.Pipeline (Dat)
open Cert.ReferencePreIdeal.Read Cert.Proof.Rows
open Cert.Proof.Norm (line term block_term lane_eq)

variable (m : (ℓ : Loc nD τ sig) → Buf (Elt Ideal) ℓ)

theorem idx_facts : ∀ t : Fin grid0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) := by
  decide +kernel

theorem lt16 (t : Fin cfg0.N) : t.val < 16 := lt_of_lt_of_eq t.isLt N_0

/-- Where element `y` of block `t` lies in an array of 8192 rows. -/
abbrev at_ (t : Fin cfg0.N) (y : S512x1024.Idx) : S8192x1024.Idx := ix2 (row t.val (lt16 t) (y 0)) (y 1)

/-- The arguments: the cotangent, the norm's argument, its weight, the scale and the gradient that went past. -/
abbrev A0 (c : Dev nD) : S8192x1024.Idx → EReal := m ((c : Thread nD τ).loc main_arg0)
abbrev A1 (c : Dev nD) : S8192x1024.Idx → EReal := m ((c : Thread nD τ).loc main_arg1)
abbrev A2 (c : Dev nD) : S1x1024.Idx → EReal := m ((c : Thread nD τ).loc main_arg2)
abbrev A3 (c : Dev nD) : S1x1024.Idx → EReal := m ((c : Thread nD τ).loc main_arg3)
abbrev A4 (c : Dev nD) : S8192x1024.Idx → EReal := m ((c : Thread nD τ).loc main_arg4)

theorem iblk0 (c : Dev nD) (t : Fin cfg0.N) (y : S512x1024.Idx) : iblk m c 0 t y = A0 m c (at_ t y) := by
  unfold iblk
  rw [View.read_apply]
  show V m c main_arg0 _ = m _ _
  congr 1
  refine Shape.idx_ext₂ ?_ ?_
  · show win0_0.index t 0 * 512 + 1 * (y 0).val = t.val * 512 + (y 0).val
    rw [(idx_facts t).1.1]; omega
  · show win0_0.index t 1 * 1024 + 1 * (y 1).val = (y 1).val
    rw [(idx_facts t).1.2]; omega

theorem iblk1 (c : Dev nD) (t : Fin cfg0.N) (y : S512x1024.Idx) : iblk m c 1 t y = A1 m c (at_ t y) := by
  unfold iblk
  rw [View.read_apply]
  show V m c main_arg1 _ = m _ _
  congr 1
  refine Shape.idx_ext₂ ?_ ?_
  · show win0_1.index t 0 * 512 + 1 * (y 0).val = t.val * 512 + (y 0).val
    rw [(idx_facts t).2.1.1]; omega
  · show win0_1.index t 1 * 1024 + 1 * (y 1).val = (y 1).val
    rw [(idx_facts t).2.1.2]; omega

theorem iblk2 (c : Dev nD) (t : Fin cfg0.N) (y : S1x1024.Idx) : iblk m c 2 t y = A2 m c y := by
  unfold iblk
  rw [View.read_apply]
  show V m c main_arg2 _ = m _ _
  congr 1
  refine Shape.idx_ext₂ ?_ ?_
  · show win0_2.index t 0 * 1 + 1 * (y 0).val = (y 0).val
    rw [(idx_facts t).2.2.1.1]; omega
  · show win0_2.index t 1 * 1024 + 1 * (y 1).val = (y 1).val
    rw [(idx_facts t).2.2.1.2]; omega

theorem iblk3 (c : Dev nD) (t : Fin cfg0.N) (y : S1x1024.Idx) : iblk m c 3 t y = A3 m c y := by
  unfold iblk
  rw [View.read_apply]
  show V m c main_arg3 _ = m _ _
  congr 1
  refine Shape.idx_ext₂ ?_ ?_
  · show win0_3.index t 0 * 1 + 1 * (y 0).val = (y 0).val
    rw [(idx_facts t).2.2.2.1.1]; omega
  · show win0_3.index t 1 * 1024 + 1 * (y 1).val = (y 1).val
    rw [(idx_facts t).2.2.2.1.2]; omega

theorem iblk4 (c : Dev nD) (t : Fin cfg0.N) (y : S512x1024.Idx) : iblk m c 4 t y = A4 m c (at_ t y) := by
  unfold iblk
  rw [View.read_apply]
  show V m c main_arg4 _ = m _ _
  congr 1
  refine Shape.idx_ext₂ ?_ ?_
  · show win0_4.index t 0 * 512 + 1 * (y 0).val = t.val * 512 + (y 0).val
    rw [(idx_facts t).2.2.2.2.1.1]; omega
  · show win0_4.index t 1 * 1024 + 1 * (y 1).val = (y 1).val
    rw [(idx_facts t).2.2.2.2.1.2]; omega

theorem emb5 (t : Fin cfg0.N) (y : S512x1024.Idx) : ((cfg0.win 5).blk t).view.emb y = at_ t y := by
  refine Shape.idx_ext₂ ?_ ?_
  · show win0_5.index t 0 * 512 + 1 * (y 0).val = t.val * 512 + (y 0).val
    rw [(idx_facts t).2.2.2.2.2.1.1]; omega
  · show win0_5.index t 1 * 1024 + 1 * (y 1).val = (y 1).val
    rw [(idx_facts t).2.2.2.2.2.1.2]; omega

theorem emb6 (t : Fin cfg0.N) (y : S1x1024.Idx) : ((cfg0.win 6).blk t).view.emb y = y := by
  refine Shape.idx_ext₂ ?_ ?_
  · show win0_6.index t 0 * 1 + 1 * (y 0).val = (y 0).val
    rw [(idx_facts t).2.2.2.2.2.2.1.1]; omega
  · show win0_6.index t 1 * 1024 + 1 * (y 1).val = (y 1).val
    rw [(idx_facts t).2.2.2.2.2.2.1.2]; omega

theorem emb7 (t : Fin cfg0.N) (y : S1x1024.Idx) : ((cfg0.win 7).blk t).view.emb y = y := by
  refine Shape.idx_ext₂ ?_ ?_
  · show win0_7.index t 0 * 1 + 1 * (y 0).val = (y 0).val
    rw [(idx_facts t).2.2.2.2.2.2.2.1.1]; omega
  · show win0_7.index t 1 * 1024 + 1 * (y 1).val = (y 1).val
    rw [(idx_facts t).2.2.2.2.2.2.2.1.2]; omega

theorem emb8 (t : Fin cfg0.N) (y : S1x1024.Idx) : ((cfg0.win 8).blk t).view.emb y = y := by
  refine Shape.idx_ext₂ ?_ ?_
  · show win0_8.index t 0 * 1 + 1 * (y 0).val = (y 0).val
    rw [(idx_facts t).2.2.2.2.2.2.2.2.1]; omega
  · show win0_8.index t 1 * 1024 + 1 * (y 1).val = (y 1).val
    rw [(idx_facts t).2.2.2.2.2.2.2.2.2]; omega

theorem exists_at (i : S8192x1024.Idx) : ∃ (t : Fin cfg0.N) (y : S512x1024.Idx), at_ t y = i := by
  obtain ⟨n, hn, r, h⟩ := row_surj (i 0)
  exact ⟨⟨n, lt_of_lt_of_eq hn N_0.symm⟩, ix2 r (i 1), Shape.idx_ext₂ (congrArg Fin.val h) rfl⟩

theorem exists_last : ∃ t : Fin cfg0.N, t.val = 15 := ⟨⟨15, lt_of_lt_of_eq (by omega) N_0.symm⟩, rfl⟩

/-! ## What the windows hold after each point -/

theorem left5 (c : Dev nD) (t : Fin cfg0.N) :
    (outsAt0 m c t.val t.isLt).1
      = k0_pay9 (F := Ideal) (iblk m c 1 t) (iblk m c 0 t) (iblk m c 3 t) (iblk m c 2 t) (iblk m c 4 t) := by
  by_cases h : 1 ≤ t.val
  · have h0 : ¬ t.val % 16 = 0 := by have := lt16 t; omega
    rw [outsAt0_B m c t h0 h]
    frame_out
  · have h0 : t.val % 16 = 0 := by omega
    rw [outsAt0_A m c t h0 h]
    frame_out

theorem left6_zero (c : Dev nD) (t : Fin cfg0.N) (h : ¬ 1 ≤ t.val) :
    (outsAt0 m c t.val t.isLt).2.1 = k0_pay11 (F := Ideal) (iblk m c 0 t) := by
  have h0 : t.val % 16 = 0 := by omega
  rw [outsAt0_A m c t h0 h]
  frame_out

theorem left6_succ (c : Dev nD) (t : Fin cfg0.N) (h : 1 ≤ t.val) :
    (outsAt0 m c t.val t.isLt).2.1 = k0_pay3 (F := Ideal) (k0_pay11 (F := Ideal) (iblk m c 0 t))
      (outsAt0 m c (t.val - 1) (Nat.lt_of_le_of_lt (Nat.sub_le _ _) t.isLt)).2.1 := by
  have h0 : ¬ t.val % 16 = 0 := by have := lt16 t; omega
  rw [outsAt0_B m c t h0 h]
  frame_out

theorem left7_zero (c : Dev nD) (t : Fin cfg0.N) (h : ¬ 1 ≤ t.val) :
    (outsAt0 m c t.val t.isLt).2.2.1 = k0_pay1 (F := Ideal) (k0_pay12 (F := Ideal) (iblk m c 1 t) (iblk m c 0 t)) (iblk m c 2 t) := by
  have h0 : t.val % 16 = 0 := by omega
  rw [outsAt0_A m c t h0 h]
  frame_out

theorem left7_succ (c : Dev nD) (t : Fin cfg0.N) (h : 1 ≤ t.val) :
    (outsAt0 m c t.val t.isLt).2.2.1 = k0_pay4 (F := Ideal) (k0_pay12 (F := Ideal) (iblk m c 1 t) (iblk m c 0 t)) (iblk m c 2 t)
      (outsAt0 m c (t.val - 1) (Nat.lt_of_le_of_lt (Nat.sub_le _ _) t.isLt)).2.2.1 := by
  have h0 : ¬ t.val % 16 = 0 := by have := lt16 t; omega
  rw [outsAt0_B m c t h0 h]
  frame_out

theorem left8_zero (c : Dev nD) (t : Fin cfg0.N) (h : ¬ 1 ≤ t.val) :
    (outsAt0 m c t.val t.isLt).2.2.2 = k0_pay2 (F := Ideal) (k0_pay8 (F := Ideal) (iblk m c 3 t)) (k0_pay10 (F := Ideal) (iblk m c 1 t) (iblk m c 0 t)) := by
  have h0 : t.val % 16 = 0 := by omega
  rw [outsAt0_A m c t h0 h]
  frame_out

theorem left8_succ (c : Dev nD) (t : Fin cfg0.N) (h : 1 ≤ t.val) :
    (outsAt0 m c t.val t.isLt).2.2.2 = k0_pay5 (F := Ideal) (k0_pay8 (F := Ideal) (iblk m c 3 t)) (k0_pay10 (F := Ideal) (iblk m c 1 t) (iblk m c 0 t))
      (outsAt0 m c (t.val - 1) (Nat.lt_of_le_of_lt (Nat.sub_le _ _) t.isLt)).2.2.2 := by
  have h0 : ¬ t.val % 16 = 0 := by have := lt16 t; omega
  rw [outsAt0_B m c t h0 h]
  frame_out

/-! ## The gradient of the norm's argument -/

/-- One more than the scale. -/
def one (sc : S1x1024.Idx → EReal) (y : S1x1024.Idx) : EReal := 1 + sc y

theorem one_real {sc : S1x1024.Idx → EReal} (h : ∀ y, ∃ r : ℝ, sc y = (r : EReal)) (y : S1x1024.Idx) :
    ∃ r : ℝ, one sc y = (r : EReal) := by
  obtain ⟨r, hr⟩ := h y
  exact ⟨1 + r, by rw [one, hr, EReal.coe_add, EReal.coe_one]⟩

/-- The cotangent of the normalised row. -/
abbrev dn (d : S8192x1024.Idx → EReal) (g sc : S1x1024.Idx → EReal) (i : Fin 8192) (k : Fin 1024) : EReal :=
  d (ix2 i k) * one sc (ix2 (0 : Fin 1) k) * g (ix2 (0 : Fin 1) k)

theorem pay9_at (c : Dev nD) (t : Fin cfg0.N) (r : Fin 512) (l : Fin 1024) :
    k0_pay9 (F := Ideal) (iblk m c 1 t) (iblk m c 0 t) (iblk m c 3 t) (iblk m c 2 t) (iblk m c 4 t) (ix2 r l)
      = A4 m c (ix2 (row t.val (lt16 t) r) l) + Norm.R (line (A1 m c) (row t.val (lt16 t) r))
        * (A0 m c (ix2 (row t.val (lt16 t) r) l) * (A2 m c (ix2 (0 : Fin 1) l) * one (A3 m c) (ix2 (0 : Fin 1) l))
          - line (A1 m c) (row t.val (lt16 t) r) l * Norm.R (line (A1 m c) (row t.val (lt16 t) r))
            * Ideal.div (∑ k, A0 m c (ix2 (row t.val (lt16 t) r) k) * (A2 m c (ix2 (0 : Fin 1) k) * one (A3 m c) (ix2 (0 : Fin 1) k))
                * (line (A1 m c) (row t.val (lt16 t) r) k * Norm.R (line (A1 m c) (row t.val (lt16 t) r)))) Norm.W) := by
  pointwise [k0_pay9, k0_pay8, k0_pay7, k0_pay6, iblk0, iblk1, iblk2, iblk3, iblk4]
  rfl

theorem ref_dx (d x : S8192x1024.Idx → EReal) (g sc : S1x1024.Idx → EReal) (p : S8192x1024.Idx → EReal) (i : Fin 8192)
    (l : Fin 1024) : val_main_v49 (F := Ideal) d x g sc p (ix2 i l)
      = p (ix2 i l) + dn d g sc i l * Norm.R (line x i) + line x i l * Norm.P (line x i) (dn d g sc i)
        + Norm.P (line x i) (dn d g sc i) * line x i l := by
  pointwise [val_main_v1, val_main_cst_0, val_main_v2, val_main_v3, val_main_cst_1, val_main_v4, val_main_v5, val_main_cst_2,
    val_main_v6, val_main_v7, val_main_v8, val_main_v9, val_main_cst_3, val_main_v10, val_main_v11, val_main_cst_4,
    val_main_v16, val_main_v17, val_main_v22, val_main_v28, val_main_v29, val_main_v33, val_main_v34, val_main_v35,
    val_main_cst_8, val_main_v36, val_main_v37, val_main_v38, val_main_v39, val_main_v40, val_main_v41, val_main_cst_9,
    val_main_v42, val_main_v43, val_main_cst_10, val_main_v44, val_main_v45, val_main_v46, val_main_v47, val_main_v48,
    val_main_v49]
  simp only [Fin.sum_univ_one]
  rfl

/-- The numbers the claim needs finite. -/
structure Finite (c : Dev nD) : Prop where
  dh : ∀ y, ∃ r : ℝ, A0 m c y = (r : EReal)
  g : ∀ y, ∃ r : ℝ, A2 m c y = (r : EReal)
  sc : ∀ y, ∃ r : ℝ, A3 m c y = (r : EReal)

/-- The four result arrays: the reference's values of the arguments. -/
abbrev G5 (c : Dev nD) : Buf (Elt Ideal) ((c : Thread nD τ).loc main_v0_0) :=
  val_main_v49 (F := Ideal) (A0 m c) (A1 m c) (A2 m c) (A3 m c) (A4 m c)
abbrev G6 (c : Dev nD) : Buf (Elt Ideal) ((c : Thread nD τ).loc main_v0_1) := val_main_v24 (F := Ideal) (A0 m c)
abbrev G7 (c : Dev nD) : Buf (Elt Ideal) ((c : Thread nD τ).loc main_v0_2) := val_main_v27 (F := Ideal) (A0 m c) (A1 m c) (A2 m c)
abbrev G8 (c : Dev nD) : Buf (Elt Ideal) ((c : Thread nD τ).loc main_v0_3) := val_main_v32 (F := Ideal) (A0 m c) (A1 m c) (A3 m c)

theorem final5 {c : Dev nD} (hf : Finite m c) : (dats m 0 c).arrAt 5 cfg0.N = G5 m c := by
  refine (dats m 0 c).arrAt_eq_of_cover 5 (G5 m c) (fun t _ => ?_) (fun i => ?_)
  · rw [Cert.KernelPreIdeal.Value.flushed5]
    funext y
    obtain ⟨r, l, rfl⟩ : ∃ (r : Fin 512) (l : Fin 1024), y = ix2 r l := ⟨y 0, y 1, (ix2_eta y).symm⟩
    rw [View.read_apply, left5]
    show k0_pay9 (F := Ideal) _ _ _ _ _ (ix2 r l) = G5 m c _
    rw [emb5]
    refine (pay9_at m c t r l).trans (Eq.trans ?_
      (ref_dx (A0 m c) (A1 m c) (A2 m c) (A3 m c) (A4 m c) (row t.val (lt16 t) r) l).symm)
    have e : ∀ k, A0 m c (ix2 (row t.val (lt16 t) r) k) * (A2 m c (ix2 (0 : Fin 1) k) * one (A3 m c) (ix2 (0 : Fin 1) k))
        = dn (A0 m c) (A2 m c) (A3 m c) (row t.val (lt16 t) r) k := fun k => by
      rw [mul_comm (A2 m c _), ← mul_assoc]
    simp only [e]
    rw [Norm.grad _ _ (fun k => Norm.mul_real (Norm.mul_real (hf.dh _) (one_real hf.sc _)) (hf.g _))]
    simp only [add_assoc]
  · obtain ⟨t, y, rfl⟩ := exists_at i
    exact ⟨t, flush0_5 t, Finset.mem_map.mpr ⟨y, Finset.mem_univ y, emb5 t y⟩⟩

/-! ## The gradients of the shift, the scale and the weight -/

/-- What one row adds to the shift's gradient. -/
def shift (d : S8192x1024.Idx → EReal) (l : Fin 1024) (i : Fin 8192) : EReal := d (ix2 i l)

theorem pay11_at (c : Dev nD) (t : Fin cfg0.N) (l : Fin 1024) :
    k0_pay11 (F := Ideal) (iblk m c 0 t) (ix2 (0 : Fin 1) l) = ∑ r : Fin 512, shift (A0 m c) l (row t.val (lt16 t) r) := by
  pointwise [k0_pay11, iblk0]
  rfl

theorem pay1_at (c : Dev nD) (t : Fin cfg0.N) (l : Fin 1024) :
    k0_pay1 (F := Ideal) (k0_pay12 (F := Ideal) (iblk m c 1 t) (iblk m c 0 t)) (iblk m c 2 t) (ix2 (0 : Fin 1) l)
      = (∑ r : Fin 512, A0 m c (ix2 (row t.val (lt16 t) r) l)
          * (line (A1 m c) (row t.val (lt16 t) r) l * Norm.R (line (A1 m c) (row t.val (lt16 t) r)))) * A2 m c (ix2 (0 : Fin 1) l) := by
  pointwise [k0_pay1, k0_pay12, k0_pay10, k0_pay7, k0_pay6, iblk0, iblk1, iblk2]
  rfl

theorem pay2_at (c : Dev nD) (t : Fin cfg0.N) (l : Fin 1024) :
    k0_pay2 (F := Ideal) (k0_pay8 (F := Ideal) (iblk m c 3 t)) (k0_pay10 (F := Ideal) (iblk m c 1 t) (iblk m c 0 t))
        (ix2 (0 : Fin 1) l)
      = (∑ r : Fin 512, A0 m c (ix2 (row t.val (lt16 t) r) l)
          * (line (A1 m c) (row t.val (lt16 t) r) l * Norm.R (line (A1 m c) (row t.val (lt16 t) r))))
        * one (A3 m c) (ix2 (0 : Fin 1) l) := by
  pointwise [k0_pay2, k0_pay8, k0_pay10, k0_pay7, k0_pay6, iblk0, iblk1, iblk3]
  rfl

theorem pay3_at (a v : Vec Ideal S1x1024 .f32) (y : S1x1024.Idx) : k0_pay3 (F := Ideal) a v y = v y + a y := by
  pointwise [k0_pay3]

theorem pay4_at (a b v : Vec Ideal S1x1024 .f32) (y : S1x1024.Idx) :
    k0_pay4 (F := Ideal) a b v y = v y + k0_pay1 (F := Ideal) a b y := by
  pointwise [k0_pay4]

theorem pay5_at (a : Vec Ideal S1x1024 .f32) (b : Vec Ideal S512x1024 .f32) (v : Vec Ideal S1x1024 .f32) (y : S1x1024.Idx) :
    k0_pay5 (F := Ideal) a b v y = v y + k0_pay2 (F := Ideal) a b y := by
  pointwise [k0_pay5]

/-- The running sums after block `n`. -/
def at6 (c : Dev nD) (l : Fin 1024) (n : ℕ) (hn : n < 16) : EReal :=
  (outsAt0 m c n (lt_of_lt_of_eq hn N_0.symm)).2.1 (ix2 (0 : Fin 1) l)
def at7 (c : Dev nD) (l : Fin 1024) (n : ℕ) (hn : n < 16) : EReal :=
  (outsAt0 m c n (lt_of_lt_of_eq hn N_0.symm)).2.2.1 (ix2 (0 : Fin 1) l)
def at8 (c : Dev nD) (l : Fin 1024) (n : ℕ) (hn : n < 16) : EReal :=
  (outsAt0 m c n (lt_of_lt_of_eq hn N_0.symm)).2.2.2 (ix2 (0 : Fin 1) l)

variable {m}

theorem first6 (c : Dev nD) (l : Fin 1024) : at6 m c l 0 (by omega) = ∑ r : Fin 512, shift (A0 m c) l (row 0 (by omega) r) :=
  (congrFun (left6_zero m c ⟨0, lt_of_lt_of_eq (by omega) N_0.symm⟩ (Nat.not_succ_le_zero 0)) _).trans
    (pay11_at m c _ l)

theorem next6 (c : Dev nD) (l : Fin 1024) (n : ℕ) (h : n + 1 < 16) : at6 m c l (n + 1) h
    = at6 m c l n (by omega) + ∑ r : Fin 512, shift (A0 m c) l (row (n + 1) h r) :=
  (congrFun (left6_succ m c ⟨n + 1, lt_of_lt_of_eq h N_0.symm⟩ (Nat.le_add_left 1 n)) _).trans ((pay3_at _ _ _).trans
    (congrArg (at6 m c l n (by omega) + ·) (pay11_at m c _ l)))

theorem sum6 (c : Dev nD) (l : Fin 1024) : ∀ n (hn : n < 16), n = 15 →
    at6 m c l n hn = ∑ i : Fin 8192, shift (A0 m c) l i := by
  rintro _ _ rfl
  exact total (shift (A0 m c) l) (at6 m c l) (first6 c l) (next6 c l)

theorem first7 {c : Dev nD} (hf : Finite m c) (l : Fin 1024) : at7 m c l 0 (by omega) = ∑ r : Fin 512, term (A0 m c) (A1 m c) (A2 m c) l (row 0 (by omega) r) :=
  (congrFun (left7_zero m c ⟨0, lt_of_lt_of_eq (by omega) N_0.symm⟩ (Nat.not_succ_le_zero 0)) _).trans
    ((pay1_at m c _ l).trans (block_term _ _ _ hf.dh hf.g l _ _))

theorem next7 {c : Dev nD} (hf : Finite m c) (l : Fin 1024) (n : ℕ) (h : n + 1 < 16) : at7 m c l (n + 1) h
    = at7 m c l n (by omega) + ∑ r : Fin 512, term (A0 m c) (A1 m c) (A2 m c) l (row (n + 1) h r) :=
  (congrFun (left7_succ m c ⟨n + 1, lt_of_lt_of_eq h N_0.symm⟩ (Nat.le_add_left 1 n)) _).trans ((pay4_at _ _ _ _).trans
    (congrArg (at7 m c l n (by omega) + ·) ((pay1_at m c _ l).trans (block_term _ _ _ hf.dh hf.g l _ _))))

theorem sum7 {c : Dev nD} (hf : Finite m c) (l : Fin 1024) : ∀ n (hn : n < 16), n = 15 →
    at7 m c l n hn = ∑ i : Fin 8192, term (A0 m c) (A1 m c) (A2 m c) l i := by
  rintro _ _ rfl
  exact total (term (A0 m c) (A1 m c) (A2 m c) l) (at7 m c l) (first7 hf l) (next7 hf l)

theorem first8 {c : Dev nD} (hf : Finite m c) (l : Fin 1024) : at8 m c l 0 (by omega) = ∑ r : Fin 512, term (A0 m c) (A1 m c) (one (A3 m c)) l (row 0 (by omega) r) :=
  (congrFun (left8_zero m c ⟨0, lt_of_lt_of_eq (by omega) N_0.symm⟩ (Nat.not_succ_le_zero 0)) _).trans
    ((pay2_at m c _ l).trans (block_term _ _ _ hf.dh (one_real hf.sc) l _ _))

theorem next8 {c : Dev nD} (hf : Finite m c) (l : Fin 1024) (n : ℕ) (h : n + 1 < 16) : at8 m c l (n + 1) h
    = at8 m c l n (by omega) + ∑ r : Fin 512, term (A0 m c) (A1 m c) (one (A3 m c)) l (row (n + 1) h r) :=
  (congrFun (left8_succ m c ⟨n + 1, lt_of_lt_of_eq h N_0.symm⟩ (Nat.le_add_left 1 n)) _).trans ((pay5_at _ _ _ _).trans
    (congrArg (at8 m c l n (by omega) + ·) ((pay2_at m c _ l).trans (block_term _ _ _ hf.dh (one_real hf.sc) l _ _))))

theorem sum8 {c : Dev nD} (hf : Finite m c) (l : Fin 1024) : ∀ n (hn : n < 16), n = 15 →
    at8 m c l n hn = ∑ i : Fin 8192, term (A0 m c) (A1 m c) (one (A3 m c)) l i := by
  rintro _ _ rfl
  exact total (term (A0 m c) (A1 m c) (one (A3 m c)) l) (at8 m c l) (first8 hf l) (next8 hf l)

theorem ref_dsh (d : S8192x1024.Idx → EReal) (l : Fin 1024) :
    val_main_v24 (F := Ideal) d (ix2 (0 : Fin 1) l) = ∑ i : Fin 8192, shift d l i := by
  pointwise [val_main_cst_5, val_main_v23, val_main_v24]
  rfl

theorem ref_dsc (d x : S8192x1024.Idx → EReal) (g : S1x1024.Idx → EReal) (l : Fin 1024) :
    val_main_v27 (F := Ideal) d x g (ix2 (0 : Fin 1) l) = ∑ i : Fin 8192, term d x g l i := by
  have e : val_main_v27 (F := Ideal) d x g (ix2 (0 : Fin 1) l)
      = ∑ i : Fin 8192, line x i l * Norm.R (line x i) * g (ix2 (0 : Fin 1) l) * d (ix2 i l) := by
    pointwise [val_main_v1, val_main_cst_0, val_main_v2, val_main_v3, val_main_cst_1, val_main_v4, val_main_v5, val_main_cst_2,
      val_main_v6, val_main_v7, val_main_v8, val_main_v12, val_main_v13, val_main_v14, val_main_v15, val_main_v22,
      val_main_v25, val_main_cst_6, val_main_v26, val_main_v27]
    rfl
  rw [e]
  exact Finset.sum_congr rfl fun i _ => by unfold term; rw [mul_comm _ (d _), ← mul_assoc]

theorem ref_dg (d x : S8192x1024.Idx → EReal) (sc : S1x1024.Idx → EReal) (l : Fin 1024) :
    val_main_v32 (F := Ideal) d x sc (ix2 (0 : Fin 1) l) = ∑ i : Fin 8192, term d x (one sc) l i := by
  have e : val_main_v32 (F := Ideal) d x sc (ix2 (0 : Fin 1) l)
      = ∑ i : Fin 8192, line x i l * Norm.R (line x i) * (d (ix2 i l) * one sc (ix2 (0 : Fin 1) l)) := by
    pointwise [val_main_v1, val_main_cst_0, val_main_v2, val_main_v3, val_main_cst_1, val_main_v4, val_main_v5, val_main_cst_2,
      val_main_v6, val_main_v7, val_main_v8, val_main_v12, val_main_v13, val_main_cst_4, val_main_v16, val_main_v17,
      val_main_v22, val_main_v28, val_main_v29, val_main_v30, val_main_cst_7, val_main_v31, val_main_v32]
    rfl
  rw [e]
  exact Finset.sum_congr rfl fun i _ => by unfold term; rw [← mul_assoc, mul_comm (d _)]

variable (m)

theorem final6 (c : Dev nD) : (dats m 0 c).arrAt 6 cfg0.N = G6 m c := by
  refine (dats m 0 c).arrAt_eq_of_cover 6 (G6 m c) (fun t ht => ?_) (fun i => ?_)
  · have h15 : t.val = 15 := by have := (flush0_6 t).mp ht; have := lt16 t; omega
    rw [Cert.KernelPreIdeal.Value.flushed6]
    funext y
    rw [View.read_apply, emb6]
    obtain ⟨l, rfl⟩ := lane_eq y
    exact (sum6 c l t.val (lt16 t) h15).trans (ref_dsh _ l).symm
  · obtain ⟨t, ht⟩ := exists_last
    exact ⟨t, (flush0_6 t).mpr (by omega), Finset.mem_map.mpr ⟨i, Finset.mem_univ i, emb6 t i⟩⟩

theorem final7 {c : Dev nD} (hf : Finite m c) : (dats m 0 c).arrAt 7 cfg0.N = G7 m c := by
  refine (dats m 0 c).arrAt_eq_of_cover 7 (G7 m c) (fun t ht => ?_) (fun i => ?_)
  · have h15 : t.val = 15 := by have := (flush0_7 t).mp ht; have := lt16 t; omega
    rw [Cert.KernelPreIdeal.Value.flushed7]
    funext y
    rw [View.read_apply, emb7]
    obtain ⟨l, rfl⟩ := lane_eq y
    exact (sum7 hf l t.val (lt16 t) h15).trans (ref_dsc _ _ _ l).symm
  · obtain ⟨t, ht⟩ := exists_last
    exact ⟨t, (flush0_7 t).mpr (by omega), Finset.mem_map.mpr ⟨i, Finset.mem_univ i, emb7 t i⟩⟩

theorem final8 {c : Dev nD} (hf : Finite m c) : (dats m 0 c).arrAt 8 cfg0.N = G8 m c := by
  refine (dats m 0 c).arrAt_eq_of_cover 8 (G8 m c) (fun t ht => ?_) (fun i => ?_)
  · have h15 : t.val = 15 := by have := (flush0_8 t).mp ht; have := lt16 t; omega
    rw [Cert.KernelPreIdeal.Value.flushed8]
    funext y
    rw [View.read_apply, emb8]
    obtain ⟨l, rfl⟩ := lane_eq y
    exact (sum8 hf l t.val (lt16 t) h15).trans (ref_dg _ _ _ l).symm
  · obtain ⟨t, ht⟩ := exists_last
    exact ⟨t, (flush0_8 t).mpr (by omega), Finset.mem_map.mpr ⟨i, Finset.mem_univ i, emb8 t i⟩⟩

theorem algebraic [Cert.Pre_finite_pre.Facts] : Cert.algebraic_KernelPreIdeal_ReferencePreIdeal_pre_finite_pre := by
  intro m ρ m' ρ' hpre hagree
  have hf : ∀ c : Dev nD, Finite m c := fun c =>
    ⟨fun y => Norm.real_of_finite _ (congrFun (hpre c).1 y), fun y => Norm.real_of_finite _ (congrFun (hpre c).2.1 y),
      fun y => Norm.real_of_finite _ (congrFun (hpre c).2.2 y)⟩
  refine ⟨G5 m, G6 m, G7 m, G8 m, ?_, ?_⟩
  · refine (θ_run defs _ _).mono (fun r h c => ?_) (Cert.KernelPreIdeal.Value.run_blocks (F := Ideal) m ρ)
    obtain ⟨h5, h6, h7, h8, h⟩ := h c
    exact ⟨h5.trans (final5 m (hf c)), h6.trans (final6 m c), h7.trans (final7 m (hf c)), h8.trans (final8 m (hf c)), h⟩
  · refine (θ_run Cert.ReferencePreIdeal.defs _ _).mono (fun r h c => ?_)
      (Cert.ReferencePreIdeal.Value.run (F := Ideal) m' ρ')
    obtain ⟨h5, h6, h7, h8, h⟩ := h c
    obtain ⟨a0, a1, a2, a3, a4⟩ := hagree c
    refine ⟨h5.trans ?_, h6.trans ?_, h7.trans ?_, h8.trans ?_, h⟩
    · rw [val_main_v49_eq, a0, a1, a2, a3, a4]
    · rw [val_main_v24_eq, a0]
    · exact (val_main_v27_eq _ _ _).trans (by rw [a0, a1, a2])
    · exact (val_main_v32_eq _ _ _).trans (by rw [a0, a1, a3])

end Cert.Proof.Pre

end
-- ==== Proof.Loss.lean ====
/-
  The value claim of the loss and its gradient: the gradient is the error over the width, and the loss, a running sum over
  the blocks of rows, half the sum over all rows of the mean squared error.
-/
module

public import proofs.«01_k».proof.Defs
public import proofs.«01_k».proof.Proof.Rows
public import proofs.«01_k».proof.Proof.Gen.KernelLossIdeal.Value
public import proofs.«01_k».proof.Proof.Gen.ReferenceLossIdeal.Read
public import Idealize.ShloMosaic.Lib.Pipeline.Value
public import Idealize.ShloMosaic.Lib.Pointwise
public import Idealize.ShloMosaic.Lib.Claim
public import Idealize.ShloMosaic.Lib.Pipeline.ValueKit

@[expose] public section

set_option maxHeartbeats 400000

noncomputable section

namespace Cert.Proof.Loss

open Cert.KernelLossIdeal Cert.KernelLossIdeal.Gen Idealize.ShloMosaic Idealize.ShloMosaic.TcCoe Idealize.SL.Sem
open Idealize.ShloMosaic.Pipeline (Dat)
open Cert.ReferenceLossIdeal.Read Cert.Proof.Rows

variable (m : (ℓ : Loc nD τ sig) → Buf (Elt Ideal) ℓ)

theorem idx_facts : ∀ t : Fin grid0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0) := by
  decide +kernel

theorem lt16 (t : Fin cfg0.N) : t.val < 16 := lt_of_lt_of_eq t.isLt N_0

/-- Where element `y` of block `t` lies in an array of 8192 rows. -/
abbrev at_ (t : Fin cfg0.N) (y : S512x1024.Idx) : S8192x1024.Idx := ix2 (row t.val (lt16 t) (y 0)) (y 1)

theorem iblk0 (c : Dev nD) (t : Fin cfg0.N) (y : S512x1024.Idx) :
    iblk m c 0 t y = m ((c : Thread nD τ).loc main_arg0) (at_ t y) := by
  unfold iblk
  rw [View.read_apply]
  show V m c main_arg0 _ = m _ _
  congr 1
  refine Shape.idx_ext₂ ?_ ?_
  · show win0_0.index t 0 * 512 + 1 * (y 0).val = t.val * 512 + (y 0).val
    rw [(idx_facts t).1.1]; omega
  · show win0_0.index t 1 * 1024 + 1 * (y 1).val = (y 1).val
    rw [(idx_facts t).1.2]; omega

theorem iblk1 (c : Dev nD) (t : Fin cfg0.N) (y : S512x1024.Idx) :
    iblk m c 1 t y = m ((c : Thread nD τ).loc main_arg1) (at_ t y) := by
  unfold iblk
  rw [View.read_apply]
  show V m c main_arg1 _ = m _ _
  congr 1
  refine Shape.idx_ext₂ ?_ ?_
  · show win0_1.index t 0 * 512 + 1 * (y 0).val = t.val * 512 + (y 0).val
    rw [(idx_facts t).2.1.1]; omega
  · show win0_1.index t 1 * 1024 + 1 * (y 1).val = (y 1).val
    rw [(idx_facts t).2.1.2]; omega

theorem emb2 (t : Fin cfg0.N) (y : S512x1024.Idx) : ((cfg0.win 2).blk t).view.emb y = at_ t y := by
  refine Shape.idx_ext₂ ?_ ?_
  · show win0_2.index t 0 * 512 + 1 * (y 0).val = t.val * 512 + (y 0).val
    rw [(idx_facts t).2.2.1.1]; omega
  · show win0_2.index t 1 * 1024 + 1 * (y 1).val = (y 1).val
    rw [(idx_facts t).2.2.1.2]; omega

theorem emb3 (t : Fin cfg0.N) (y : S1x128.Idx) : ((cfg0.win 3).blk t).view.emb y = y := by
  refine Shape.idx_ext₂ ?_ ?_
  · show win0_3.index t 0 * 1 + 1 * (y 0).val = (y 0).val
    rw [(idx_facts t).2.2.2.1]; omega
  · show win0_3.index t 1 * 128 + 1 * (y 1).val = (y 1).val
    rw [(idx_facts t).2.2.2.2]; omega

theorem exists_at (i : S8192x1024.Idx) : ∃ (t : Fin cfg0.N) (y : S512x1024.Idx), at_ t y = i := by
  obtain ⟨n, hn, r, h⟩ := row_surj (i 0)
  exact ⟨⟨n, lt_of_lt_of_eq hn N_0.symm⟩, ix2 r (i 1), Shape.idx_ext₂ (congrArg Fin.val h) rfl⟩

/-- What the windows of the two results hold after a point: the payloads over the point's blocks. -/
theorem left2 (c : Dev nD) (t : Fin cfg0.N) :
    (outsAt0 m c t.val t.isLt).1 = k0_pay2 (F := Ideal) (iblk m c 0 t) (iblk m c 1 t) := by
  by_cases h : 1 ≤ t.val
  · have h0 : ¬ t.val % 16 = 0 := by have := lt16 t; omega
    rw [outsAt0_B m c t h0 h]
    frame_out
  · have h0 : t.val % 16 = 0 := by omega
    rw [outsAt0_A m c t h0 h]
    frame_out

theorem left3_zero (c : Dev nD) (t : Fin cfg0.N) (h : ¬ 1 ≤ t.val) :
    (outsAt0 m c t.val t.isLt).2 = k0_pay3 (F := Ideal) (iblk m c 0 t) (iblk m c 1 t) := by
  have h0 : t.val % 16 = 0 := by omega
  rw [outsAt0_A m c t h0 h]
  frame_out

theorem left3_succ (c : Dev nD) (t : Fin cfg0.N) (h : 1 ≤ t.val) :
    (outsAt0 m c t.val t.isLt).2 = k0_pay4 (F := Ideal) (iblk m c 0 t) (iblk m c 1 t)
      (outsAt0 m c (t.val - 1) (Nat.lt_of_le_of_lt (Nat.sub_le _ _) t.isLt)).2 := by
  have h0 : ¬ t.val % 16 = 0 := by have := lt16 t; omega
  rw [outsAt0_B m c t h0 h]
  frame_out

/-- The squared error of one element. -/
def sq (a b : S8192x1024.Idx → EReal) (i : Fin 8192) (l : Fin 1024) : EReal :=
  (a (ix2 i l) - b (ix2 i l)) * (a (ix2 i l) - b (ix2 i l))

/-- The squared error summed along a row, times half the reciprocal of the width. -/
def term (a b : S8192x1024.Idx → EReal) (i : Fin 8192) : EReal := (∑ l : Fin 1024, sq a b i l) * (((1 : ℝ) / 2048 : ℝ) : EReal)

theorem bits_width : Ideal.ofBits .f32 0x3A000000#32 = (((1 : ℝ) / 2048 : ℝ) : EReal) := by
  simp [Ideal.ofBits, Ideal.ieee, ← EReal.coe_mul]; norm_num

theorem block_sq (a b : S8192x1024.Idx → EReal) (n : ℕ) (hn : n < 16) :
    (∑ l : Fin 1024, ∑ r : Fin 512, sq a b (row n hn r) l) * Ideal.ofBits .f32 0x3A000000#32
      = ∑ r : Fin 512, term a b (row n hn r) := by
  rw [bits_width, Finset.sum_comm, sum_scale _ _ _ (by norm_num)]
  rfl

/-- What one block adds to the loss. -/
theorem block_term (c : Dev nD) (t : Fin cfg0.N) (y : S1x128.Idx) :
    k0_pay3 (F := Ideal) (iblk m c 0 t) (iblk m c 1 t) y
      = ∑ r : Fin 512, term (m ((c : Thread nD τ).loc main_arg0)) (m ((c : Thread nD τ).loc main_arg1)) (row t.val (lt16 t) r) := by
  refine Eq.trans ?_ (block_sq (m ((c : Thread nD τ).loc main_arg0)) (m ((c : Thread nD τ).loc main_arg1)) t.val (lt16 t))
  pointwise [k0_pay3, k0_pay1, iblk0, iblk1, sq]
  rfl

theorem pay4 (a b : Vec Ideal S512x1024 .f32) (v : Vec Ideal S1x128 .f32) (y : S1x128.Idx) :
    k0_pay4 (F := Ideal) a b v y = v y + k0_pay3 (F := Ideal) a b y := by
  pointwise [k0_pay4]

/-- The running loss after block `n`. -/
def loss_at (c : Dev nD) (y : S1x128.Idx) (n : ℕ) (hn : n < 16) : EReal := (outsAt0 m c n (lt_of_lt_of_eq hn N_0.symm)).2 y

theorem loss_first (c : Dev nD) (y : S1x128.Idx) : loss_at m c y 0 (by omega)
    = ∑ r : Fin 512, term (m ((c : Thread nD τ).loc main_arg0)) (m ((c : Thread nD τ).loc main_arg1)) (row 0 (by omega) r) := by
  have e := congrFun (left3_zero m c ⟨0, lt_of_lt_of_eq (by omega) N_0.symm⟩ (Nat.not_succ_le_zero 0)) y
  exact e.trans (block_term m c _ y)

theorem loss_next (c : Dev nD) (y : S1x128.Idx) (n : ℕ) (h : n + 1 < 16) : loss_at m c y (n + 1) h
    = loss_at m c y n (by omega)
      + ∑ r : Fin 512, term (m ((c : Thread nD τ).loc main_arg0)) (m ((c : Thread nD τ).loc main_arg1)) (row (n + 1) h r) := by
  have e := congrFun (left3_succ m c ⟨n + 1, lt_of_lt_of_eq h N_0.symm⟩ (Nat.le_add_left 1 n)) y
  refine e.trans ((pay4 _ _ _ y).trans ?_)
  exact congrArg (loss_at m c y n (by omega) + ·) (block_term m c _ y)

theorem loss_left (c : Dev nD) (y : S1x128.Idx) (t : Fin cfg0.N) (h : t.val = 15) :
    (outsAt0 m c t.val t.isLt).2 y
      = ∑ i : Fin 8192, term (m ((c : Thread nD τ).loc main_arg0)) (m ((c : Thread nD τ).loc main_arg1)) i := by
  have key : ∀ n (hn : n < 16), n = 15 → loss_at m c y n hn
      = ∑ i : Fin 8192, term (m ((c : Thread nD τ).loc main_arg0)) (m ((c : Thread nD τ).loc main_arg1)) i := by
    rintro _ _ rfl
    exact total (term (m ((c : Thread nD τ).loc main_arg0)) (m ((c : Thread nD τ).loc main_arg1))) (loss_at m c y)
      (loss_first m c y) (loss_next m c y)
  exact key t.val (lt16 t) h

/-- The gradient's array and the loss's: the reference's values of the arguments. -/
abbrev G2 (c : Dev nD) : Buf (Elt Ideal) ((c : Thread nD τ).loc main_v0_0) :=
  val_main_v14 (F := Ideal) (m ((c : Thread nD τ).loc main_arg0)) (m ((c : Thread nD τ).loc main_arg1))

abbrev G3 (c : Dev nD) : Buf (Elt Ideal) ((c : Thread nD τ).loc main_v0_1) :=
  val_main_v15 (F := Ideal) (m ((c : Thread nD τ).loc main_arg0)) (m ((c : Thread nD τ).loc main_arg1))

theorem half : Ideal.ofBits .f32 0x3F000000#32 = (((1 : ℝ) / 2 : ℝ) : EReal) := by
  simp [Ideal.ofBits, Ideal.ieee, ← EReal.coe_mul]; norm_num

theorem width : Ideal.ofBits .f32 0x44800000#32 = ((1024 : ℝ) : EReal) := by
  simp [Ideal.ofBits, Ideal.ieee, ← EReal.coe_mul]; norm_num

theorem grad_scalar (e : EReal) :
    e * Ideal.ofBits .f32 0x3A800000#32
      = Ideal.div (Ideal.ofBits .f32 0x3F000000#32) (Ideal.ofBits .f32 0x44800000#32) * (Ideal.ofBits .f32 0x40000000#32 * e) := by
  have h1 : Ideal.ofBits .f32 0x3A800000#32 = (((1 : ℝ) / 1024 : ℝ) : EReal) := by
    simp [Ideal.ofBits, Ideal.ieee, ← EReal.coe_mul]; norm_num
  have h5 : Ideal.ofBits .f32 0x40000000#32 = ((2 : ℝ) : EReal) := by
    simp [Ideal.ofBits, Ideal.ieee, ← EReal.coe_mul]; norm_num
  rw [h1, half, width, h5, Ideal.div_coe (by norm_num), ← EReal.coe_mul, ← mul_assoc, ← EReal.coe_mul, mul_comm]
  norm_num

theorem final2 (c : Dev nD) : (dats m 0 c).arrAt 2 cfg0.N = G2 m c := by
  refine (dats m 0 c).arrAt_eq_of_cover 2 (G2 m c) (fun t _ => ?_) (fun i => ?_)
  · rw [Cert.KernelLossIdeal.Value.flushed2]
    funext y
    rw [View.read_apply, left2]
    show k0_pay2 (F := Ideal) _ _ y = G2 m c _
    rw [emb2]
    pointwise [k0_pay2, k0_pay1, iblk0, iblk1, G2, val_main_v0, val_main_cst, val_main_v2, val_main_v3, val_main_cst_4,
      val_main_cst_5, val_main_v9, val_main_v10, val_main_cst_6, val_main_v11, val_main_v12, val_main_v13, val_main_v14]
    exact grad_scalar _
  · obtain ⟨t, y, rfl⟩ := exists_at i
    exact ⟨t, flush0_2 t, Finset.mem_map.mpr ⟨y, Finset.mem_univ y, emb2 t y⟩⟩

/-- Half the sum of the rows' means is the sum of the rows' terms. -/
theorem loss_scalar (g : Fin 8192 → EReal) :
    Ideal.ofBits .f32 0x3F000000#32 * ∑ i : Fin 8192, Ideal.div (g i) (Ideal.ofBits .f32 0x44800000#32)
      = ∑ i : Fin 8192, g i * (((1 : ℝ) / 2048 : ℝ) : EReal) := by
  rw [half, width, mul_comm, sum_scale _ _ _ (by norm_num)]
  refine Finset.sum_congr rfl fun i _ => ?_
  rw [Ideal.div_coe (by norm_num), mul_assoc, ← EReal.coe_mul]
  norm_num

theorem ref_loss (a b : S8192x1024.Idx → EReal) (y : S1x128.Idx) :
    val_main_v15 (F := Ideal) a b y = ∑ i : Fin 8192, term a b i := by
  have e : val_main_v15 (F := Ideal) a b y
      = Ideal.ofBits .f32 0x3F000000#32
        * ∑ i : Fin 8192, Ideal.div (∑ l : Fin 1024, sq a b i l) (Ideal.ofBits .f32 0x44800000#32) := by
    pointwise [sq, val_main_v0, val_main_v1, val_main_cst_0, val_main_v4, val_main_cst_1, val_main_v5, val_main_v6,
      val_main_cst_2, val_main_v7, val_main_cst_3, val_main_v8, val_main_v15]
  rw [e, loss_scalar]
  rfl

theorem final3 (c : Dev nD) : (dats m 0 c).arrAt 3 cfg0.N = G3 m c := by
  refine (dats m 0 c).arrAt_eq_of_cover 3 (G3 m c) (fun t ht => ?_) (fun i => ?_)
  · have h15 : t.val = 15 := by have := (flush0_3 t).mp ht; have := lt16 t; omega
    rw [Cert.KernelLossIdeal.Value.flushed3]
    funext y
    rw [View.read_apply, emb3]
    show (outsAt0 m c t.val t.isLt).2 y = G3 m c y
    rw [loss_left m c y t h15]
    exact (ref_loss _ _ y).symm
  · obtain ⟨t, ht⟩ : ∃ t : Fin cfg0.N, t.val = 15 := ⟨⟨15, lt_of_lt_of_eq (by omega) N_0.symm⟩, rfl⟩
    exact ⟨t, (flush0_3 t).mpr (by omega), Finset.mem_map.mpr ⟨i, Finset.mem_univ i, emb3 t i⟩⟩

theorem algebraic : Cert.algebraic_KernelLossIdeal_ReferenceLossIdeal := by
  intro m ρ m' ρ' _ hagree
  refine ⟨G2 m, G3 m, ?_, ?_⟩
  · refine (θ_run defs _ _).mono (fun r h c => ?_) (Cert.KernelLossIdeal.Value.run_blocks (F := Ideal) m ρ)
    exact ⟨(h c).1.trans (final2 m c), (h c).2.1.trans (final3 m c), (h c).2.2⟩
  · refine (θ_run Cert.ReferenceLossIdeal.defs _ _).mono (fun r h c => ?_)
      (Cert.ReferenceLossIdeal.Value.run (F := Ideal) m' ρ')
    obtain ⟨a0, a1⟩ := hagree c
    refine ⟨(h c).1.trans ?_, (h c).2.1.trans ?_, (h c).2.2⟩
    · rw [val_main_v14_eq, a0, a1]
    · rw [val_main_v15_eq, a0, a1]

end Cert.Proof.Loss

end
-- ==== Proof.Conv.lean ====
/-
  The value claim of the short convolution's backward call: the gradients of its two gates and its input for every block of
  rows, where the rows just before and just after a block come from the blocks beside it, and the gradients of the three
  taps as running sums over the blocks.
-/
module

public import proofs.«01_k».proof.Defs
public import proofs.«01_k».proof.Proof.Rows
public import proofs.«01_k».proof.Proof.Gen.KernelConvIdeal.Value
public import proofs.«01_k».proof.Proof.Gen.ReferenceConvIdeal.Read
public import Idealize.ShloMosaic.Lib.Pipeline.Value
public import Idealize.ShloMosaic.Lib.Pipeline.ValueKit
public import Idealize.ShloMosaic.Lib.Pointwise
public import Idealize.ShloMosaic.Lib.Claim

@[expose] public section

set_option maxHeartbeats 1000000

noncomputable section

namespace Cert.Proof.Conv

open Cert.KernelConvIdeal Cert.KernelConvIdeal.Gen Idealize.ShloMosaic Idealize.ShloMosaic.TcCoe Idealize.SL.Sem
open Idealize.ShloMosaic.Pipeline (Dat)
open Cert.ReferenceConvIdeal.Read Cert.Proof.Rows

variable (m : (ℓ : Loc nD τ sig) → Buf (Elt Ideal) ℓ)

theorem idx_facts : ∀ t : Fin grid0.N,
    (win0_0.index t 0 = t.val ∧ win0_0.index t 1 = 0) ∧ (win0_1.index t 0 = t.val ∧ win0_1.index t 1 = 0)
    ∧ (win0_2.index t 0 = t.val ∧ win0_2.index t 1 = 1) ∧ (win0_3.index t 0 = t.val ∧ win0_3.index t 1 = 2)
    ∧ (win0_4.index t 0 = t.val * 64 - 1 ∧ win0_4.index t 1 = 1) ∧ (win0_5.index t 0 = t.val * 64 - 1 ∧ win0_5.index t 1 = 2)
    ∧ (win0_6.index t 0 = min (t.val * 64 + 64) 1023 ∧ win0_6.index t 1 = 0) ∧ (win0_7.index t 0 = min (t.val * 64 + 64) 1023 ∧ win0_7.index t 1 = 0)
    ∧ (win0_8.index t 0 = 0 ∧ win0_8.index t 1 = 0) ∧ (win0_9.index t 0 = t.val ∧ win0_9.index t 1 = 0)
    ∧ (win0_10.index t 0 = t.val ∧ win0_10.index t 1 = 0) ∧ (win0_11.index t 0 = t.val ∧ win0_11.index t 1 = 0)
    ∧ (win0_12.index t 0 = 0 ∧ win0_12.index t 1 = 0) ∧ (win0_13.index t 0 = 0 ∧ win0_13.index t 1 = 0)
    ∧ (win0_14.index t 0 = 0 ∧ win0_14.index t 1 = 0) := by
  decide +kernel

theorem coord : ∀ t : Fin grid0.N, (grid0.coords t 0).val = t.val := by decide +kernel

theorem lt16 (t : Fin cfg0.N) : t.val < 16 := lt_of_lt_of_eq t.isLt N_0

/-- Lane `l` of the first 512 columns of the projection. -/
abbrev lane (l : Fin 512) : Fin 5120 := ⟨l.val, by omega⟩

/-- Where element `y` of block `t` lies in an array of 8192 rows. -/
abbrev at_ (t : Fin cfg0.N) (y : S512x512.Idx) : S8192x512.Idx := ix2 (row t.val (lt16 t) (y 0)) (y 1)

/-- Lane `l` of the `k`-th group of 512 columns of the projection. -/
abbrev col (k : ℕ) (hk : k < 3) (l : Fin 512) : Fin 5120 := ⟨k * 512 + l.val, by omega⟩

/-- The arguments: the cotangent, the projection and the taps. -/
abbrev A0 (c : Dev nD) : S8192x512.Idx → EReal := m ((c : Thread nD τ).loc main_arg0)
abbrev A1 (c : Dev nD) : S8192x5120.Idx → EReal := m ((c : Thread nD τ).loc main_arg1)
abbrev A2 (c : Dev nD) : S3x512.Idx → EReal := m ((c : Thread nD τ).loc main_arg2)

theorem iblk0 (c : Dev nD) (t : Fin cfg0.N) (y : S512x512.Idx) : iblk m c 0 t y = A0 m c (at_ t y) := by
  unfold iblk
  rw [View.read_apply]
  show V m c main_arg0 _ = m _ _
  congr 1
  refine Shape.idx_ext₂ ?_ ?_
  · show win0_0.index t 0 * 512 + 1 * (y 0).val = t.val * 512 + (y 0).val
    rw [(idx_facts t).1.1]; omega
  · show win0_0.index t 1 * 512 + 1 * (y 1).val = (y 1).val
    rw [(idx_facts t).1.2]; omega

theorem iblk1 (c : Dev nD) (t : Fin cfg0.N) (y : S512x512.Idx) : iblk m c 1 t y = A1 m c (ix2 (row t.val (lt16 t) (y 0)) (lane (y 1))) := by
  unfold iblk
  rw [View.read_apply]
  show V m c main_arg1 _ = m _ _
  congr 1
  refine Shape.idx_ext₂ ?_ ?_
  · show win0_1.index t 0 * 512 + 1 * (y 0).val = t.val * 512 + (y 0).val
    rw [(idx_facts t).2.1.1]; omega
  · show win0_1.index t 1 * 512 + 1 * (y 1).val = (y 1).val
    rw [(idx_facts t).2.1.2]; omega

theorem iblk2 (c : Dev nD) (t : Fin cfg0.N) (y : S512x512.Idx) : iblk m c 2 t y = A1 m c (ix2 (row t.val (lt16 t) (y 0)) (col 1 (by omega) (y 1))) := by
  unfold iblk
  rw [View.read_apply]
  show V m c main_arg1 _ = m _ _
  congr 1
  refine Shape.idx_ext₂ ?_ ?_
  · show win0_2.index t 0 * 512 + 1 * (y 0).val = t.val * 512 + (y 0).val
    rw [(idx_facts t).2.2.1.1]; omega
  · show win0_2.index t 1 * 512 + 1 * (y 1).val = 1 * 512 + (y 1).val
    rw [(idx_facts t).2.2.1.2]; omega

theorem iblk3 (c : Dev nD) (t : Fin cfg0.N) (y : S512x512.Idx) : iblk m c 3 t y = A1 m c (ix2 (row t.val (lt16 t) (y 0)) (col 2 (by omega) (y 1))) := by
  unfold iblk
  rw [View.read_apply]
  show V m c main_arg1 _ = m _ _
  congr 1
  refine Shape.idx_ext₂ ?_ ?_
  · show win0_3.index t 0 * 512 + 1 * (y 0).val = t.val * 512 + (y 0).val
    rw [(idx_facts t).2.2.2.1.1]; omega
  · show win0_3.index t 1 * 512 + 1 * (y 1).val = 2 * 512 + (y 1).val
    rw [(idx_facts t).2.2.2.1.2]; omega

/-- Row `r` of the eight rows before block `t`, and of the eight rows after it; at the first and the last block, of the
    eight rows nearest. -/
def before (t : Fin cfg0.N) (r : Fin 8) : Fin 8192 := ⟨(t.val * 64 - 1) * 8 + r.val, by have := lt16 t; omega⟩
def after (t : Fin cfg0.N) (r : Fin 8) : Fin 8192 := ⟨min (t.val * 64 + 64) 1023 * 8 + r.val, by have := lt16 t; omega⟩

theorem iblk4 (c : Dev nD) (t : Fin cfg0.N) (y : S8x512.Idx) : iblk m c 4 t y = A1 m c (ix2 (before t (y 0)) (col 1 (by omega) (y 1))) := by
  unfold iblk
  rw [View.read_apply]
  show V m c main_arg1 _ = m _ _
  congr 1
  refine Shape.idx_ext₂ ?_ ?_
  · show win0_4.index t 0 * 8 + 1 * (y 0).val = (t.val * 64 - 1) * 8 + (y 0).val
    rw [(idx_facts t).2.2.2.2.1.1]; omega
  · show win0_4.index t 1 * 512 + 1 * (y 1).val = 1 * 512 + (y 1).val
    rw [(idx_facts t).2.2.2.2.1.2]; omega

theorem iblk5 (c : Dev nD) (t : Fin cfg0.N) (y : S8x512.Idx) : iblk m c 5 t y = A1 m c (ix2 (before t (y 0)) (col 2 (by omega) (y 1))) := by
  unfold iblk
  rw [View.read_apply]
  show V m c main_arg1 _ = m _ _
  congr 1
  refine Shape.idx_ext₂ ?_ ?_
  · show win0_5.index t 0 * 8 + 1 * (y 0).val = (t.val * 64 - 1) * 8 + (y 0).val
    rw [(idx_facts t).2.2.2.2.2.1.1]; omega
  · show win0_5.index t 1 * 512 + 1 * (y 1).val = 2 * 512 + (y 1).val
    rw [(idx_facts t).2.2.2.2.2.1.2]; omega

theorem iblk6 (c : Dev nD) (t : Fin cfg0.N) (y : S8x512.Idx) : iblk m c 6 t y = A0 m c (ix2 (after t (y 0)) (y 1)) := by
  unfold iblk
  rw [View.read_apply]
  show V m c main_arg0 _ = m _ _
  congr 1
  refine Shape.idx_ext₂ ?_ ?_
  · show win0_6.index t 0 * 8 + 1 * (y 0).val = min (t.val * 64 + 64) 1023 * 8 + (y 0).val
    rw [(idx_facts t).2.2.2.2.2.2.1.1]; omega
  · show win0_6.index t 1 * 512 + 1 * (y 1).val = (y 1).val
    rw [(idx_facts t).2.2.2.2.2.2.1.2]; omega

theorem iblk7 (c : Dev nD) (t : Fin cfg0.N) (y : S8x512.Idx) : iblk m c 7 t y = A1 m c (ix2 (after t (y 0)) (lane (y 1))) := by
  unfold iblk
  rw [View.read_apply]
  show V m c main_arg1 _ = m _ _
  congr 1
  refine Shape.idx_ext₂ ?_ ?_
  · show win0_7.index t 0 * 8 + 1 * (y 0).val = min (t.val * 64 + 64) 1023 * 8 + (y 0).val
    rw [(idx_facts t).2.2.2.2.2.2.2.1.1]; omega
  · show win0_7.index t 1 * 512 + 1 * (y 1).val = (y 1).val
    rw [(idx_facts t).2.2.2.2.2.2.2.1.2]; omega

theorem iblk8 (c : Dev nD) (t : Fin cfg0.N) (y : S3x512.Idx) : iblk m c 8 t y = A2 m c y := by
  unfold iblk
  rw [View.read_apply]
  show V m c main_arg2 _ = m _ _
  congr 1
  refine Shape.idx_ext₂ ?_ ?_
  · show win0_8.index t 0 * 3 + 1 * (y 0).val = (y 0).val
    rw [(idx_facts t).2.2.2.2.2.2.2.2.1.1]; omega
  · show win0_8.index t 1 * 512 + 1 * (y 1).val = (y 1).val
    rw [(idx_facts t).2.2.2.2.2.2.2.2.1.2]; omega

theorem emb9 (t : Fin cfg0.N) (y : S512x512.Idx) : ((cfg0.win 9).blk t).view.emb y = at_ t y := by
  refine Shape.idx_ext₂ ?_ ?_
  · show win0_9.index t 0 * 512 + 1 * (y 0).val = t.val * 512 + (y 0).val
    rw [(idx_facts t).2.2.2.2.2.2.2.2.2.1.1]; omega
  · show win0_9.index t 1 * 512 + 1 * (y 1).val = (y 1).val
    rw [(idx_facts t).2.2.2.2.2.2.2.2.2.1.2]; omega

theorem emb10 (t : Fin cfg0.N) (y : S512x512.Idx) : ((cfg0.win 10).blk t).view.emb y = at_ t y := by
  refine Shape.idx_ext₂ ?_ ?_
  · show win0_10.index t 0 * 512 + 1 * (y 0).val = t.val * 512 + (y 0).val
    rw [(idx_facts t).2.2.2.2.2.2.2.2.2.2.1.1]; omega
  · show win0_10.index t 1 * 512 + 1 * (y 1).val = (y 1).val
    rw [(idx_facts t).2.2.2.2.2.2.2.2.2.2.1.2]; omega

theorem emb11 (t : Fin cfg0.N) (y : S512x512.Idx) : ((cfg0.win 11).blk t).view.emb y = at_ t y := by
  refine Shape.idx_ext₂ ?_ ?_
  · show win0_11.index t 0 * 512 + 1 * (y 0).val = t.val * 512 + (y 0).val
    rw [(idx_facts t).2.2.2.2.2.2.2.2.2.2.2.1.1]; omega
  · show win0_11.index t 1 * 512 + 1 * (y 1).val = (y 1).val
    rw [(idx_facts t).2.2.2.2.2.2.2.2.2.2.2.1.2]; omega

theorem emb12 (t : Fin cfg0.N) (y : S1x512.Idx) : ((cfg0.win 12).blk t).view.emb y = y := by
  refine Shape.idx_ext₂ ?_ ?_
  · show win0_12.index t 0 * 1 + 1 * (y 0).val = (y 0).val
    rw [(idx_facts t).2.2.2.2.2.2.2.2.2.2.2.2.1.1]; omega
  · show win0_12.index t 1 * 512 + 1 * (y 1).val = (y 1).val
    rw [(idx_facts t).2.2.2.2.2.2.2.2.2.2.2.2.1.2]; omega

theorem emb13 (t : Fin cfg0.N) (y : S1x512.Idx) : ((cfg0.win 13).blk t).view.emb y = y := by
  refine Shape.idx_ext₂ ?_ ?_
  · show win0_13.index t 0 * 1 + 1 * (y 0).val = (y 0).val
    rw [(idx_facts t).2.2.2.2.2.2.2.2.2.2.2.2.2.1.1]; omega
  · show win0_13.index t 1 * 512 + 1 * (y 1).val = (y 1).val
    rw [(idx_facts t).2.2.2.2.2.2.2.2.2.2.2.2.2.1.2]; omega

theorem emb14 (t : Fin cfg0.N) (y : S1x512.Idx) : ((cfg0.win 14).blk t).view.emb y = y := by
  refine Shape.idx_ext₂ ?_ ?_
  · show win0_14.index t 0 * 1 + 1 * (y 0).val = (y 0).val
    rw [(idx_facts t).2.2.2.2.2.2.2.2.2.2.2.2.2.2.1]; omega
  · show win0_14.index t 1 * 512 + 1 * (y 1).val = (y 1).val
    rw [(idx_facts t).2.2.2.2.2.2.2.2.2.2.2.2.2.2.2]; omega

theorem exists_at (i : S8192x512.Idx) : ∃ (t : Fin cfg0.N) (y : S512x512.Idx), at_ t y = i := by
  obtain ⟨n, hn, r, h⟩ := row_surj (i 0)
  exact ⟨⟨n, lt_of_lt_of_eq hn N_0.symm⟩, ix2 r (i 1), Shape.idx_ext₂ (congrArg Fin.val h) rfl⟩

theorem exists_last : ∃ t : Fin cfg0.N, t.val = 15 := ⟨⟨15, lt_of_lt_of_eq (by omega) N_0.symm⟩, rfl⟩

theorem lane_eq (y : S1x512.Idx) : ∃ l : Fin 512, y = ix2 (0 : Fin 1) l :=
  ⟨y 1, Shape.idx_ext₂ (by have : (y 0).val < 1 := (y 0).isLt; show (y 0).val = 0; omega) rfl⟩

/-! ## What the windows hold after each point -/

/-- The three taps, as block `t` reads them. -/
abbrev tap0 (c : Dev nD) (t : Fin cfg0.N) : Vec Ideal S1x512 .f32 :=
  View.ld (iblk m c 8 t) (Rect.unit ![0, 0] ![1, 512] inb_S3x512_S1x512_0_0)
abbrev tap1 (c : Dev nD) (t : Fin cfg0.N) : Vec Ideal S1x512 .f32 :=
  View.ld (iblk m c 8 t) (Rect.unit ![1, 0] ![1, 512] inb_S3x512_S1x512_1_0)
abbrev tap2 (c : Dev nD) (t : Fin cfg0.N) : Vec Ideal S1x512 .f32 :=
  View.ld (iblk m c 8 t) (Rect.unit ![2, 0] ![1, 512] inb_S3x512_S1x512_2_0)

/-- The convolved sequence two rows earlier, one row earlier and at the row; and the cotangent of the convolution. -/
abbrev v2 (c : Dev nD) (t : Fin cfg0.N) : FVec Ideal S512x512 .f32 :=
  k0_pay7 (F := Ideal) (grid0.coords t) (iblk m c 2 t) (iblk m c 3 t) (iblk m c 4 t) (iblk m c 5 t)
abbrev v1 (c : Dev nD) (t : Fin cfg0.N) : FVec Ideal S512x512 .f32 :=
  k0_pay6 (F := Ideal) (grid0.coords t) (iblk m c 2 t) (iblk m c 3 t) (iblk m c 4 t) (iblk m c 5 t)
abbrev v0 (c : Dev nD) (t : Fin cfg0.N) : FVec Ideal S512x512 .f32 := k0_pay4 (F := Ideal) (iblk m c 2 t) (iblk m c 3 t)
abbrev dy (c : Dev nD) (t : Fin cfg0.N) : FVec Ideal S512x512 .f32 := k0_pay9 (F := Ideal) (iblk m c 0 t) (iblk m c 1 t)

theorem left9 (c : Dev nD) (t : Fin cfg0.N) :
    (outsAt0 m c t.val t.isLt).1 = k0_pay8 (F := Ideal) (grid0.coords t) (iblk m c 2 t) (iblk m c 3 t) (iblk m c 4 t) (iblk m c 5 t) (tap0 m c t)
      (tap1 m c t) (tap2 m c t) (iblk m c 0 t) := by
  by_cases h : 1 ≤ t.val
  · have h0 : ¬ t.val % 16 = 0 := by have := lt16 t; omega
    rw [outsAt0_B m c t h0 h]
    frame_out
    rfl
  · have h0 : t.val % 16 = 0 := by omega
    rw [outsAt0_A m c t h0 h]
    frame_out
    rfl

theorem left10 (c : Dev nD) (t : Fin cfg0.N) :
    (outsAt0 m c t.val t.isLt).2.1 = k0_pay11 (F := Ideal) (BitVec.ofNat 32 (grid0.coords t 0).val) (iblk m c 3 t) (tap0 m c t) (tap1 m c t)
      (tap2 m c t) (dy m c t) (iblk m c 6 t) (iblk m c 7 t) := by
  by_cases h : 1 ≤ t.val
  · have h0 : ¬ t.val % 16 = 0 := by have := lt16 t; omega
    rw [outsAt0_B m c t h0 h]
    frame_out
    rfl
  · have h0 : t.val % 16 = 0 := by omega
    rw [outsAt0_A m c t h0 h]
    frame_out
    rfl

theorem left11 (c : Dev nD) (t : Fin cfg0.N) :
    (outsAt0 m c t.val t.isLt).2.2.1 = k0_pay12 (F := Ideal) (BitVec.ofNat 32 (grid0.coords t 0).val) (iblk m c 2 t) (tap0 m c t) (tap1 m c t)
      (tap2 m c t) (dy m c t) (iblk m c 6 t) (iblk m c 7 t) := by
  by_cases h : 1 ≤ t.val
  · have h0 : ¬ t.val % 16 = 0 := by have := lt16 t; omega
    rw [outsAt0_B m c t h0 h]
    frame_out
    rfl
  · have h0 : t.val % 16 = 0 := by omega
    rw [outsAt0_A m c t h0 h]
    frame_out
    rfl

theorem left12_zero (c : Dev nD) (t : Fin cfg0.N) (h : ¬ 1 ≤ t.val) :
    (outsAt0 m c t.val t.isLt).2.2.2.1 = k0_pay13 (F := Ideal) (v2 m c t) (dy m c t) := by
  have h0 : t.val % 16 = 0 := by omega
  rw [outsAt0_A m c t h0 h]
  frame_out

theorem left12_succ (c : Dev nD) (t : Fin cfg0.N) (h : 1 ≤ t.val) :
    (outsAt0 m c t.val t.isLt).2.2.2.1 = k0_pay1 (F := Ideal) (k0_pay13 (F := Ideal) (v2 m c t) (dy m c t))
      (outsAt0 m c (t.val - 1) (Nat.lt_of_le_of_lt (Nat.sub_le _ _) t.isLt)).2.2.2.1 := by
  have h0 : ¬ t.val % 16 = 0 := by have := lt16 t; omega
  rw [outsAt0_B m c t h0 h]
  frame_out

theorem left13_zero (c : Dev nD) (t : Fin cfg0.N) (h : ¬ 1 ≤ t.val) :
    (outsAt0 m c t.val t.isLt).2.2.2.2.1 = k0_pay14 (F := Ideal) (v1 m c t) (dy m c t) := by
  have h0 : t.val % 16 = 0 := by omega
  rw [outsAt0_A m c t h0 h]
  frame_out

theorem left13_succ (c : Dev nD) (t : Fin cfg0.N) (h : 1 ≤ t.val) :
    (outsAt0 m c t.val t.isLt).2.2.2.2.1 = k0_pay2 (F := Ideal) (k0_pay14 (F := Ideal) (v1 m c t) (dy m c t))
      (outsAt0 m c (t.val - 1) (Nat.lt_of_le_of_lt (Nat.sub_le _ _) t.isLt)).2.2.2.2.1 := by
  have h0 : ¬ t.val % 16 = 0 := by have := lt16 t; omega
  rw [outsAt0_B m c t h0 h]
  frame_out

theorem left14_zero (c : Dev nD) (t : Fin cfg0.N) (h : ¬ 1 ≤ t.val) :
    (outsAt0 m c t.val t.isLt).2.2.2.2.2 = k0_pay15 (F := Ideal) (v0 m c t) (dy m c t) := by
  have h0 : t.val % 16 = 0 := by omega
  rw [outsAt0_A m c t h0 h]
  frame_out

theorem left14_succ (c : Dev nD) (t : Fin cfg0.N) (h : 1 ≤ t.val) :
    (outsAt0 m c t.val t.isLt).2.2.2.2.2 = k0_pay3 (F := Ideal) (k0_pay15 (F := Ideal) (v0 m c t) (dy m c t))
      (outsAt0 m c (t.val - 1) (Nat.lt_of_le_of_lt (Nat.sub_le _ _) t.isLt)).2.2.2.2.2 := by
  have h0 : ¬ t.val % 16 = 0 := by have := lt16 t; omega
  rw [outsAt0_B m c t h0 h]
  frame_out

/-! ## The sequences -/

/-- The convolved sequence with two rows of zeros before it, by the row's number. -/
def seq (p : S8192x5120.Idx → EReal) (l : Fin 512) (k : ℕ) : EReal :=
  if h : 2 ≤ k ∧ k < 8194 then p (ix2 ⟨k - 2, by omega⟩ (col 1 (by omega) l)) * p (ix2 ⟨k - 2, by omega⟩ (col 2 (by omega) l)) else 0

/-- The convolution's cotangent, zero past the last row. -/
def cot (d : S8192x512.Idx → EReal) (p : S8192x5120.Idx → EReal) (l : Fin 512) (k : ℕ) : EReal :=
  if h : k < 8192 then d (ix2 ⟨k, h⟩ l) * p (ix2 ⟨k, h⟩ (lane l)) else 0

/-- The convolution's gradient by its sequence. -/
def back (d : S8192x512.Idx → EReal) (p : S8192x5120.Idx → EReal) (w : S3x512.Idx → EReal) (l : Fin 512) (k : ℕ) : EReal :=
  w (ix2 (2 : Fin 3) l) * cot d p l k + w (ix2 (1 : Fin 3) l) * cot d p l (k + 1) + w (ix2 (0 : Fin 3) l) * cot d p l (k + 2)

theorem seq_row (p : S8192x5120.Idx → EReal) (l : Fin 512) (n : Fin 8192) (k : ℕ) (h : k = n.val + 2) :
    seq p l k = p (ix2 n (col 1 (by omega) l)) * p (ix2 n (col 2 (by omega) l)) := by
  subst h
  have := n.isLt
  rw [seq, dif_pos ⟨by omega, by omega⟩]
  rfl

theorem seq_low (p : S8192x5120.Idx → EReal) (l : Fin 512) (k : ℕ) (h : k < 2) : seq p l k = 0 := dif_neg (by omega)

theorem cot_row (d : S8192x512.Idx → EReal) (p : S8192x5120.Idx → EReal) (l : Fin 512) (n : Fin 8192) (k : ℕ) (h : k = n.val) :
    cot d p l k = d (ix2 n l) * p (ix2 n (lane l)) := by
  subst h
  exact dif_pos n.isLt

theorem cot_high (d : S8192x512.Idx → EReal) (p : S8192x5120.Idx → EReal) (l : Fin 512) (k : ℕ) (h : 8192 ≤ k) :
    cot d p l k = 0 := dif_neg (by omega)

/-- Only the first block has no rows before it, and only the last has none after it. -/
theorem inner_low : ∀ t : Fin grid0.N, Scalar.cmpi .sgt (BitVec.ofNat 32 (grid0.coords t 0).val) 0#32
    = if 1 ≤ t.val then 1 else 0 := by
  decide +kernel

theorem inner_high : ∀ t : Fin grid0.N, Scalar.cmpi .slt (BitVec.ofNat 32 (grid0.coords t 0).val) 15#32
    = if t.val < 15 then 1 else 0 := by
  decide +kernel

/-- The eight rows before a block and then the block's rows, of the convolved sequence. -/
theorem seq_window (c : Dev nD) (t : Fin cfg0.N) (l : Fin 512) (e : ℕ) (he : e < 520) (h6 : 6 ≤ e) :
    (if h : e < 8 then
        Scalar.select (Scalar.cmpi .sgt (BitVec.ofNat 32 (grid0.coords t 0).val) 0#32)
          (A1 m c (ix2 (before t ⟨e, h⟩) (col 1 (by omega) l)) * A1 m c (ix2 (before t ⟨e, h⟩) (col 2 (by omega) l))) 0
      else A1 m c (ix2 (row t.val (lt16 t) ⟨e - 8, by omega⟩) (col 1 (by omega) l))
        * A1 m c (ix2 (row t.val (lt16 t) ⟨e - 8, by omega⟩) (col 2 (by omega) l)))
      = seq (A1 m c) l (t.val * 512 + e - 6) := by
  split
  · next h =>
    rw [inner_low t]
    by_cases h1 : 1 ≤ t.val
    · rw [if_pos h1]
      exact (seq_row _ _ (before t ⟨e, h⟩) _ (by show _ = (t.val * 64 - 1) * 8 + e + 2; omega)).symm
    · rw [if_neg h1]
      exact (seq_low _ _ _ (by omega)).symm
  · next h =>
    exact (seq_row _ _ (row t.val (lt16 t) ⟨e - 8, by omega⟩) _ (by show _ = t.val * 512 + (e - 8) + 2; omega)).symm

/-- A block's rows and then the eight rows after it, of the cotangent. -/
theorem cot_window (c : Dev nD) (t : Fin cfg0.N) (l : Fin 512) (e : ℕ) (he : e < 520) :
    (if h : e < 512 then A0 m c (at_ t (ix2 (⟨e, h⟩ : Fin 512) l)) * A1 m c (ix2 (row t.val (lt16 t) ⟨e, h⟩) (lane l))
      else
        Scalar.select (Scalar.cmpi .slt (BitVec.ofNat 32 (grid0.coords t 0).val) 15#32)
          (A0 m c (ix2 (after t ⟨e - 512, by omega⟩) l) * A1 m c (ix2 (after t ⟨e - 512, by omega⟩) (lane l))) 0)
      = cot (A0 m c) (A1 m c) l (t.val * 512 + e) := by
  have ht := lt16 t
  split
  · next h => exact (cot_row _ _ _ (row t.val (lt16 t) ⟨e, h⟩) _ rfl).symm
  · next h =>
    rw [inner_high t]
    by_cases h1 : t.val < 15
    · rw [if_pos h1]
      exact (cot_row _ _ _ (after t ⟨e - 512, by omega⟩) _ (by show _ = min (t.val * 64 + 64) 1023 * 8 + (e - 512); omega)).symm
    · rw [if_neg h1]
      exact (cot_high _ _ _ _ (by omega)).symm

theorem v0_at (c : Dev nD) (t : Fin cfg0.N) (r l : Fin 512) :
    v0 m c t (ix2 r l) = seq (A1 m c) l (t.val * 512 + r.val + 2) := by
  refine Eq.trans ?_ (seq_row (A1 m c) l (row t.val (lt16 t) r) _ rfl).symm
  pointwise [v0, k0_pay4, iblk2, iblk3]

theorem v1_at (c : Dev nD) (t : Fin cfg0.N) (r l : Fin 512) :
    v1 m c t (ix2 r l) = seq (A1 m c) l (t.val * 512 + r.val + 1) := by
  have hr := r.isLt
  pointwise [v1, k0_pay4, k0_pay6, k0_pay5, iblk2, iblk3, iblk4, iblk5]
  exact (seq_window m c t l _ (by omega) (by omega)).trans (congrArg (seq _ l) (by omega))

theorem v2_at (c : Dev nD) (t : Fin cfg0.N) (r l : Fin 512) :
    v2 m c t (ix2 r l) = seq (A1 m c) l (t.val * 512 + r.val) := by
  have hr := r.isLt
  pointwise [v2, k0_pay4, k0_pay7, k0_pay5, iblk2, iblk3, iblk4, iblk5]
  exact (seq_window m c t l _ (by omega) (by omega)).trans (congrArg (seq _ l) (by omega))

theorem dy_at (c : Dev nD) (t : Fin cfg0.N) (r l : Fin 512) :
    dy m c t (ix2 r l) = cot (A0 m c) (A1 m c) l (t.val * 512 + r.val) := by
  refine Eq.trans ?_ (cot_row (A0 m c) (A1 m c) l (row t.val (lt16 t) r) _ rfl).symm
  pointwise [dy, k0_pay9, iblk0, iblk1]
  rfl

theorem pay10_at (c : Dev nD) (t : Fin cfg0.N) (r l : Fin 512) :
    k0_pay10 (F := Ideal) (BitVec.ofNat 32 (grid0.coords t 0).val) (tap0 m c t) (tap1 m c t) (tap2 m c t) (dy m c t)
        (iblk m c 6 t) (iblk m c 7 t) (ix2 r l)
      = back (A0 m c) (A1 m c) (A2 m c) l (t.val * 512 + r.val) := by
  have hr := r.isLt
  have e := cot_window m c t l
  pointwise [tap0, tap1, tap2, dy, k0_pay9, k0_pay10, iblk0, iblk1, iblk6, iblk7, iblk8]
  unfold back
  refine congrArg₂ (· + ·) (congrArg₂ (· + ·) (congrArg _ ?_) (congrArg _ ?_)) (congrArg _ ?_)
  · exact (cot_row _ _ l (row t.val (lt16 t) r) _ rfl).symm
  · exact (e _ (by omega)).trans (congrArg (cot _ _ l) (by omega))
  · exact (e _ (by omega)).trans (congrArg (cot _ _ l) (by omega))

/-! ## The reference's values -/

theorem ref_seq (p : S8192x5120.Idx → EReal) (k : Fin 8194) (l : Fin 512) :
    val_main_v5 (F := Ideal) p (ix2 k l) = seq p l k.val := by
  have hk := k.isLt
  pointwise [val_main_v1, val_main_v2, val_main_v3, val_main_cst, val_main_v4, val_main_v5]
  split
  · next h => exact (seq_low _ _ _ h).symm
  · next h => exact (seq_row p l ⟨k.val - 2, by omega⟩ _ (by show _ = k.val - 2 + 2; omega)).symm

theorem ref_out (d : S8192x512.Idx → EReal) (p : S8192x5120.Idx → EReal) (w : S3x512.Idx → EReal) (i : Fin 8192) (l : Fin 512) :
    val_main_v67 (F := Ideal) d p w (ix2 i l)
      = d (ix2 i l) * (w (ix2 (0 : Fin 3) l) * seq p l i.val + w (ix2 (1 : Fin 3) l) * seq p l (i.val + 1)
          + w (ix2 (2 : Fin 3) l) * seq p l (i.val + 2)) := by
  pointwise [val_main_v7, val_main_v8, val_main_v9, val_main_v10, val_main_v11, val_main_v12, val_main_cst_1, val_main_v13,
    val_main_v14, val_main_v15, val_main_v16, val_main_v17, val_main_v18, val_main_v19, val_main_v20, val_main_v21,
    val_main_v22, val_main_v23, val_main_v24, val_main_v25, val_main_v26, val_main_v27, val_main_v28, val_main_v31,
    val_main_v67, ref_seq]
  rw [add_comm 1 i.val, add_comm 2 i.val]

theorem ref_back (d : S8192x512.Idx → EReal) (p : S8192x5120.Idx → EReal) (w : S3x512.Idx → EReal) (i : Fin 8192) (l : Fin 512) :
    val_main_v64 (F := Ideal) d p w (ix2 i l) = back d p w l i.val := by
  have hi := i.isLt
  pointwise [val_main_v0, val_main_v30, val_main_v7, val_main_v8, val_main_v10, val_main_v15, val_main_v16, val_main_v18,
    val_main_v22, val_main_v23, val_main_v25, val_main_v32, val_main_v33, val_main_cst_4, val_main_v38, val_main_v41,
    val_main_v42, val_main_cst_8, val_main_v47, val_main_v48, val_main_v52, val_main_v53, val_main_cst_12, val_main_v58,
    val_main_v59, val_main_v64]
  unfold back
  refine congrArg₂ (· + ·) (congrArg₂ (· + ·) (congrArg _ ?_) ?_) ?_
  · exact (mul_comm _ _).trans (cot_row d p l i _ rfl).symm
  · split
    · next h => exact congrArg (w (ix2 (1 : Fin 3) l) * ·) ((mul_comm _ _).trans (cot_row d p l ⟨2 + i.val - 1, by omega⟩ _ (by show _ = 2 + i.val - 1; omega)).symm)
    · next h => rw [cot_high _ _ _ _ (by omega), mul_zero]
  · split
    · next h => exact congrArg (w (ix2 (0 : Fin 3) l) * ·) ((mul_comm _ _).trans (cot_row d p l ⟨2 + i.val, by omega⟩ _ (by show _ = 2 + i.val; omega)).symm)
    · next h => rw [cot_high _ _ _ _ (by omega), mul_zero]

/-- What one row adds to the gradient of the tap `k` rows on. -/
def part (d : S8192x512.Idx → EReal) (p : S8192x5120.Idx → EReal) (l : Fin 512) (k : ℕ) (i : Fin 8192) : EReal :=
  cot d p l i.val * seq p l (i.val + k)

theorem ref_dw0 (d : S8192x512.Idx → EReal) (p : S8192x5120.Idx → EReal) (l : Fin 512) :
    val_main_v70 (F := Ideal) d p (ix2 (0 : Fin 1) l) = ∑ i : Fin 8192, part d p l 0 i := by
  pointwise [val_main_v0, val_main_v30, val_main_v34, val_main_cst_2, val_main_v35, val_main_v36, val_main_cst_3,
    val_main_v37, val_main_v39, val_main_cst_5, val_main_v40, val_main_v43, val_main_cst_6, val_main_v44, val_main_v45,
    val_main_cst_7, val_main_v46, val_main_v49, val_main_cst_9, val_main_v50, val_main_v51, val_main_v54, val_main_cst_10,
    val_main_v55, val_main_v56, val_main_cst_11, val_main_v57, val_main_v60, val_main_cst_13, val_main_v61, val_main_v62,
    val_main_v9, val_main_v70, ref_seq]
  simp only [Fin.sum_univ_one]
  refine Finset.sum_congr rfl fun i _ => ?_
  exact congrArg₂ (· * ·) ((mul_comm _ _).trans (cot_row d p l i _ rfl).symm) (congrArg (seq p l) (by omega))

theorem ref_dw1 (d : S8192x512.Idx → EReal) (p : S8192x5120.Idx → EReal) (l : Fin 512) :
    val_main_v71 (F := Ideal) d p (ix2 (0 : Fin 1) l) = ∑ i : Fin 8192, part d p l 1 i := by
  pointwise [val_main_v0, val_main_v30, val_main_v34, val_main_cst_2, val_main_v35, val_main_v36, val_main_cst_3,
    val_main_v37, val_main_v39, val_main_cst_5, val_main_v40, val_main_v43, val_main_cst_6, val_main_v44, val_main_v45,
    val_main_cst_7, val_main_v46, val_main_v49, val_main_cst_9, val_main_v50, val_main_v51, val_main_v54, val_main_cst_10,
    val_main_v55, val_main_v56, val_main_cst_11, val_main_v57, val_main_v60, val_main_cst_13, val_main_v61, val_main_v62,
    val_main_v17, val_main_v71, ref_seq]
  simp only [Fin.sum_univ_one]
  refine Finset.sum_congr rfl fun i _ => ?_
  exact congrArg₂ (· * ·) ((mul_comm _ _).trans (cot_row d p l i _ rfl).symm) (congrArg (seq p l) (by omega))

theorem ref_dw2 (d : S8192x512.Idx → EReal) (p : S8192x5120.Idx → EReal) (l : Fin 512) :
    val_main_v72 (F := Ideal) d p (ix2 (0 : Fin 1) l) = ∑ i : Fin 8192, part d p l 2 i := by
  pointwise [val_main_v0, val_main_v30, val_main_v34, val_main_cst_2, val_main_v35, val_main_v36, val_main_cst_3,
    val_main_v37, val_main_v39, val_main_cst_5, val_main_v40, val_main_v43, val_main_cst_6, val_main_v44, val_main_v45,
    val_main_cst_7, val_main_v46, val_main_v49, val_main_cst_9, val_main_v50, val_main_v51, val_main_v54, val_main_cst_10,
    val_main_v55, val_main_v56, val_main_cst_11, val_main_v57, val_main_v60, val_main_cst_13, val_main_v61, val_main_v62,
    val_main_v24, val_main_v72, ref_seq]
  simp only [Fin.sum_univ_one]
  refine Finset.sum_congr rfl fun i _ => ?_
  exact congrArg₂ (· * ·) ((mul_comm _ _).trans (cot_row d p l i _ rfl).symm) (congrArg (seq p l) (by omega))

/-! ## The gradients of the three factors -/

/-- The six result arrays: the reference's values of the arguments. -/
abbrev G9 (c : Dev nD) : Buf (Elt Ideal) ((c : Thread nD τ).loc main_v0_0) :=
  val_main_v67 (F := Ideal) (A0 m c) (A1 m c) (A2 m c)
abbrev G10 (c : Dev nD) : Buf (Elt Ideal) ((c : Thread nD τ).loc main_v0_1) :=
  val_main_v68 (F := Ideal) (A0 m c) (A1 m c) (A2 m c)
abbrev G11 (c : Dev nD) : Buf (Elt Ideal) ((c : Thread nD τ).loc main_v0_2) :=
  val_main_v69 (F := Ideal) (A0 m c) (A1 m c) (A2 m c)
abbrev G12 (c : Dev nD) : Buf (Elt Ideal) ((c : Thread nD τ).loc main_v0_3) :=
  val_main_v70 (F := Ideal) (A0 m c) (A1 m c)
abbrev G13 (c : Dev nD) : Buf (Elt Ideal) ((c : Thread nD τ).loc main_v0_4) :=
  val_main_v71 (F := Ideal) (A0 m c) (A1 m c)
abbrev G14 (c : Dev nD) : Buf (Elt Ideal) ((c : Thread nD τ).loc main_v0_5) :=
  val_main_v72 (F := Ideal) (A0 m c) (A1 m c)

theorem pay8_at (c : Dev nD) (t : Fin cfg0.N) (r l : Fin 512) :
    k0_pay8 (F := Ideal) (grid0.coords t) (iblk m c 2 t) (iblk m c 3 t) (iblk m c 4 t) (iblk m c 5 t) (tap0 m c t)
        (tap1 m c t) (tap2 m c t) (iblk m c 0 t) (ix2 r l)
      = A0 m c (ix2 (row t.val (lt16 t) r) l) * (tap0 m c t (ix2 (0 : Fin 1) l) * v2 m c t (ix2 r l)
        + tap1 m c t (ix2 (0 : Fin 1) l) * v1 m c t (ix2 r l) + tap2 m c t (ix2 (0 : Fin 1) l) * v0 m c t (ix2 r l)) := by
  pointwise [k0_pay8, iblk0]
  rfl

theorem taps_at (c : Dev nD) (t : Fin cfg0.N) (l : Fin 512) :
    tap0 m c t (ix2 (0 : Fin 1) l) = A2 m c (ix2 (0 : Fin 3) l) ∧ tap1 m c t (ix2 (0 : Fin 1) l) = A2 m c (ix2 (1 : Fin 3) l)
      ∧ tap2 m c t (ix2 (0 : Fin 1) l) = A2 m c (ix2 (2 : Fin 3) l) := by
  refine ⟨?_, ?_, ?_⟩ <;> pointwise [tap0, tap1, tap2, iblk8]

theorem final9 (c : Dev nD) : (dats m 0 c).arrAt 9 cfg0.N = G9 m c := by
  refine (dats m 0 c).arrAt_eq_of_cover 9 (G9 m c) (fun t _ => ?_) (fun i => ?_)
  · rw [Cert.KernelConvIdeal.Value.flushed9]
    funext y
    obtain ⟨r, l, rfl⟩ : ∃ (r : Fin 512) (l : Fin 512), y = ix2 r l := ⟨y 0, y 1, (ix2_eta y).symm⟩
    rw [View.read_apply, left9]
    show k0_pay8 (F := Ideal) _ _ _ _ _ _ _ _ _ (ix2 r l) = G9 m c _
    rw [emb9]
    rw [pay8_at, v2_at, v1_at, v0_at, (taps_at m c t l).1, (taps_at m c t l).2.1, (taps_at m c t l).2.2]
    exact (ref_out (A0 m c) (A1 m c) (A2 m c) (row t.val (lt16 t) r) l).symm
  · obtain ⟨t, y, rfl⟩ := exists_at i
    exact ⟨t, flush0_9 t, Finset.mem_map.mpr ⟨y, Finset.mem_univ y, emb9 t y⟩⟩

theorem final10 (c : Dev nD) : (dats m 0 c).arrAt 10 cfg0.N = G10 m c := by
  refine (dats m 0 c).arrAt_eq_of_cover 10 (G10 m c) (fun t _ => ?_) (fun i => ?_)
  · rw [Cert.KernelConvIdeal.Value.flushed10]
    funext y
    obtain ⟨r, l, rfl⟩ : ∃ (r : Fin 512) (l : Fin 512), y = ix2 r l := ⟨y 0, y 1, (ix2_eta y).symm⟩
    rw [View.read_apply, left10]
    show k0_pay11 (F := Ideal) _ _ _ _ _ _ _ _ (ix2 r l) = G10 m c _
    rw [emb10]
    have e : val_main_v68 (F := Ideal) (A0 m c) (A1 m c) (A2 m c) (ix2 (row t.val (lt16 t) r) l)
        = val_main_v64 (F := Ideal) (A0 m c) (A1 m c) (A2 m c) (ix2 (row t.val (lt16 t) r) l)
          * A1 m c (ix2 (row t.val (lt16 t) r) (col 2 (by omega) l)) := by
      pointwise [val_main_v68, val_main_v66, val_main_v2]
    refine Eq.trans ?_ e.symm
    rw [ref_back]
    refine Eq.trans ?_ (congrArg (· * _) (pay10_at m c t r l))
    pointwise [k0_pay11, iblk3]
  · obtain ⟨t, y, rfl⟩ := exists_at i
    exact ⟨t, flush0_10 t, Finset.mem_map.mpr ⟨y, Finset.mem_univ y, emb10 t y⟩⟩

theorem final11 (c : Dev nD) : (dats m 0 c).arrAt 11 cfg0.N = G11 m c := by
  refine (dats m 0 c).arrAt_eq_of_cover 11 (G11 m c) (fun t _ => ?_) (fun i => ?_)
  · rw [Cert.KernelConvIdeal.Value.flushed11]
    funext y
    obtain ⟨r, l, rfl⟩ : ∃ (r : Fin 512) (l : Fin 512), y = ix2 r l := ⟨y 0, y 1, (ix2_eta y).symm⟩
    rw [View.read_apply, left11]
    show k0_pay12 (F := Ideal) _ _ _ _ _ _ _ _ (ix2 r l) = G11 m c _
    rw [emb11]
    have e : val_main_v69 (F := Ideal) (A0 m c) (A1 m c) (A2 m c) (ix2 (row t.val (lt16 t) r) l)
        = A1 m c (ix2 (row t.val (lt16 t) r) (col 1 (by omega) l))
          * val_main_v64 (F := Ideal) (A0 m c) (A1 m c) (A2 m c) (ix2 (row t.val (lt16 t) r) l) := by
      pointwise [val_main_v69, val_main_v65, val_main_v1]
    refine Eq.trans ?_ e.symm
    rw [ref_back]
    refine Eq.trans ?_ ((mul_comm _ _).trans (congrArg (_ * ·) (pay10_at m c t r l)))
    pointwise [k0_pay12, iblk2]
  · obtain ⟨t, y, rfl⟩ := exists_at i
    exact ⟨t, flush0_11 t, Finset.mem_map.mpr ⟨y, Finset.mem_univ y, emb11 t y⟩⟩

/-! ## The gradients of the taps -/

theorem pay13_at (c : Dev nD) (t : Fin cfg0.N) (l : Fin 512) :
    k0_pay13 (F := Ideal) (v2 m c t) (dy m c t) (ix2 (0 : Fin 1) l)
      = ∑ r : Fin 512, part (A0 m c) (A1 m c) l 0 (row t.val (lt16 t) r) := by
  have e : k0_pay13 (F := Ideal) (v2 m c t) (dy m c t) (ix2 (0 : Fin 1) l)
      = ∑ r : Fin 512, dy m c t (ix2 r l) * v2 m c t (ix2 r l) := by
    pointwise [k0_pay13]
  rw [e]
  exact Finset.sum_congr rfl fun r _ => by rw [dy_at, v2_at]; rfl

theorem pay1_at (a v : Vec Ideal S1x512 .f32) (y : S1x512.Idx) : k0_pay1 (F := Ideal) a v y = v y + a y := by
  pointwise [k0_pay1]

theorem pay14_at (c : Dev nD) (t : Fin cfg0.N) (l : Fin 512) :
    k0_pay14 (F := Ideal) (v1 m c t) (dy m c t) (ix2 (0 : Fin 1) l)
      = ∑ r : Fin 512, part (A0 m c) (A1 m c) l 1 (row t.val (lt16 t) r) := by
  have e : k0_pay14 (F := Ideal) (v1 m c t) (dy m c t) (ix2 (0 : Fin 1) l)
      = ∑ r : Fin 512, dy m c t (ix2 r l) * v1 m c t (ix2 r l) := by
    pointwise [k0_pay14]
  rw [e]
  exact Finset.sum_congr rfl fun r _ => by rw [dy_at, v1_at]; rfl

theorem pay2_at (a v : Vec Ideal S1x512 .f32) (y : S1x512.Idx) : k0_pay2 (F := Ideal) a v y = v y + a y := by
  pointwise [k0_pay2]

theorem pay15_at (c : Dev nD) (t : Fin cfg0.N) (l : Fin 512) :
    k0_pay15 (F := Ideal) (v0 m c t) (dy m c t) (ix2 (0 : Fin 1) l)
      = ∑ r : Fin 512, part (A0 m c) (A1 m c) l 2 (row t.val (lt16 t) r) := by
  have e : k0_pay15 (F := Ideal) (v0 m c t) (dy m c t) (ix2 (0 : Fin 1) l)
      = ∑ r : Fin 512, dy m c t (ix2 r l) * v0 m c t (ix2 r l) := by
    pointwise [k0_pay15]
  rw [e]
  exact Finset.sum_congr rfl fun r _ => by rw [dy_at, v0_at]; rfl

theorem pay3_at (a v : Vec Ideal S1x512 .f32) (y : S1x512.Idx) : k0_pay3 (F := Ideal) a v y = v y + a y := by
  pointwise [k0_pay3]

/-- The running sums after block `n`. -/
def at12 (c : Dev nD) (l : Fin 512) (n : ℕ) (hn : n < 16) : EReal :=
  (outsAt0 m c n (lt_of_lt_of_eq hn N_0.symm)).2.2.2.1 (ix2 (0 : Fin 1) l)
def at13 (c : Dev nD) (l : Fin 512) (n : ℕ) (hn : n < 16) : EReal :=
  (outsAt0 m c n (lt_of_lt_of_eq hn N_0.symm)).2.2.2.2.1 (ix2 (0 : Fin 1) l)
def at14 (c : Dev nD) (l : Fin 512) (n : ℕ) (hn : n < 16) : EReal :=
  (outsAt0 m c n (lt_of_lt_of_eq hn N_0.symm)).2.2.2.2.2 (ix2 (0 : Fin 1) l)

variable {m}

theorem first12 (c : Dev nD) (l : Fin 512) : at12 m c l 0 (by omega) = ∑ r : Fin 512, part (A0 m c) (A1 m c) l 0 (row 0 (by omega) r) :=
  (congrFun (left12_zero m c ⟨0, lt_of_lt_of_eq (by omega) N_0.symm⟩ (Nat.not_succ_le_zero 0)) _).trans
    (pay13_at m c _ l)

theorem next12 (c : Dev nD) (l : Fin 512) (n : ℕ) (h : n + 1 < 16) : at12 m c l (n + 1) h
    = at12 m c l n (by omega) + ∑ r : Fin 512, part (A0 m c) (A1 m c) l 0 (row (n + 1) h r) :=
  (congrFun (left12_succ m c ⟨n + 1, lt_of_lt_of_eq h N_0.symm⟩ (Nat.le_add_left 1 n)) _).trans ((pay1_at _ _ _).trans
    (congrArg (at12 m c l n (by omega) + ·) (pay13_at m c _ l)))

theorem sum12 (c : Dev nD) (l : Fin 512) : ∀ n (hn : n < 16), n = 15 →
    at12 m c l n hn = ∑ i : Fin 8192, part (A0 m c) (A1 m c) l 0 i := by
  rintro _ _ rfl
  exact total (part (A0 m c) (A1 m c) l 0) (at12 m c l) (first12 c l) (next12 c l)

theorem first13 (c : Dev nD) (l : Fin 512) : at13 m c l 0 (by omega) = ∑ r : Fin 512, part (A0 m c) (A1 m c) l 1 (row 0 (by omega) r) :=
  (congrFun (left13_zero m c ⟨0, lt_of_lt_of_eq (by omega) N_0.symm⟩ (Nat.not_succ_le_zero 0)) _).trans
    (pay14_at m c _ l)

theorem next13 (c : Dev nD) (l : Fin 512) (n : ℕ) (h : n + 1 < 16) : at13 m c l (n + 1) h
    = at13 m c l n (by omega) + ∑ r : Fin 512, part (A0 m c) (A1 m c) l 1 (row (n + 1) h r) :=
  (congrFun (left13_succ m c ⟨n + 1, lt_of_lt_of_eq h N_0.symm⟩ (Nat.le_add_left 1 n)) _).trans ((pay2_at _ _ _).trans
    (congrArg (at13 m c l n (by omega) + ·) (pay14_at m c _ l)))

theorem sum13 (c : Dev nD) (l : Fin 512) : ∀ n (hn : n < 16), n = 15 →
    at13 m c l n hn = ∑ i : Fin 8192, part (A0 m c) (A1 m c) l 1 i := by
  rintro _ _ rfl
  exact total (part (A0 m c) (A1 m c) l 1) (at13 m c l) (first13 c l) (next13 c l)

theorem first14 (c : Dev nD) (l : Fin 512) : at14 m c l 0 (by omega) = ∑ r : Fin 512, part (A0 m c) (A1 m c) l 2 (row 0 (by omega) r) :=
  (congrFun (left14_zero m c ⟨0, lt_of_lt_of_eq (by omega) N_0.symm⟩ (Nat.not_succ_le_zero 0)) _).trans
    (pay15_at m c _ l)

theorem next14 (c : Dev nD) (l : Fin 512) (n : ℕ) (h : n + 1 < 16) : at14 m c l (n + 1) h
    = at14 m c l n (by omega) + ∑ r : Fin 512, part (A0 m c) (A1 m c) l 2 (row (n + 1) h r) :=
  (congrFun (left14_succ m c ⟨n + 1, lt_of_lt_of_eq h N_0.symm⟩ (Nat.le_add_left 1 n)) _).trans ((pay3_at _ _ _).trans
    (congrArg (at14 m c l n (by omega) + ·) (pay15_at m c _ l)))

theorem sum14 (c : Dev nD) (l : Fin 512) : ∀ n (hn : n < 16), n = 15 →
    at14 m c l n hn = ∑ i : Fin 8192, part (A0 m c) (A1 m c) l 2 i := by
  rintro _ _ rfl
  exact total (part (A0 m c) (A1 m c) l 2) (at14 m c l) (first14 c l) (next14 c l)

variable (m)

theorem final12 (c : Dev nD) : (dats m 0 c).arrAt 12 cfg0.N = G12 m c := by
  refine (dats m 0 c).arrAt_eq_of_cover 12 (G12 m c) (fun t ht => ?_) (fun i => ?_)
  · have h15 : t.val = 15 := by have := (flush0_12 t).mp ht; have := lt16 t; omega
    rw [Cert.KernelConvIdeal.Value.flushed12]
    funext y
    rw [View.read_apply, emb12]
    obtain ⟨l, rfl⟩ := lane_eq y
    exact (sum12 c l t.val (lt16 t) h15).trans (ref_dw0 _ _ l).symm
  · obtain ⟨t, ht⟩ := exists_last
    exact ⟨t, (flush0_12 t).mpr (by omega), Finset.mem_map.mpr ⟨i, Finset.mem_univ i, emb12 t i⟩⟩

theorem final13 (c : Dev nD) : (dats m 0 c).arrAt 13 cfg0.N = G13 m c := by
  refine (dats m 0 c).arrAt_eq_of_cover 13 (G13 m c) (fun t ht => ?_) (fun i => ?_)
  · have h15 : t.val = 15 := by have := (flush0_13 t).mp ht; have := lt16 t; omega
    rw [Cert.KernelConvIdeal.Value.flushed13]
    funext y
    rw [View.read_apply, emb13]
    obtain ⟨l, rfl⟩ := lane_eq y
    exact (sum13 c l t.val (lt16 t) h15).trans (ref_dw1 _ _ l).symm
  · obtain ⟨t, ht⟩ := exists_last
    exact ⟨t, (flush0_13 t).mpr (by omega), Finset.mem_map.mpr ⟨i, Finset.mem_univ i, emb13 t i⟩⟩

theorem final14 (c : Dev nD) : (dats m 0 c).arrAt 14 cfg0.N = G14 m c := by
  refine (dats m 0 c).arrAt_eq_of_cover 14 (G14 m c) (fun t ht => ?_) (fun i => ?_)
  · have h15 : t.val = 15 := by have := (flush0_14 t).mp ht; have := lt16 t; omega
    rw [Cert.KernelConvIdeal.Value.flushed14]
    funext y
    rw [View.read_apply, emb14]
    obtain ⟨l, rfl⟩ := lane_eq y
    exact (sum14 c l t.val (lt16 t) h15).trans (ref_dw2 _ _ l).symm
  · obtain ⟨t, ht⟩ := exists_last
    exact ⟨t, (flush0_14 t).mpr (by omega), Finset.mem_map.mpr ⟨i, Finset.mem_univ i, emb14 t i⟩⟩

theorem algebraic : Cert.algebraic_KernelConvIdeal_ReferenceConvIdeal := by
  intro m ρ m' ρ' _ hagree
  refine ⟨G9 m, G10 m, G11 m, G12 m, G13 m, G14 m, ?_, ?_⟩
  · refine (θ_run defs _ _).mono (fun r h c => ?_) (Cert.KernelConvIdeal.Value.run_blocks (F := Ideal) m ρ)
    obtain ⟨h9, h10, h11, h12, h13, h14, h⟩ := h c
    exact ⟨h9.trans (final9 m c), h10.trans (final10 m c), h11.trans (final11 m c), h12.trans (final12 m c),
      h13.trans (final13 m c), h14.trans (final14 m c), h⟩
  · refine (θ_run Cert.ReferenceConvIdeal.defs _ _).mono (fun r h c => ?_)
      (Cert.ReferenceConvIdeal.Value.run (F := Ideal) m' ρ')
    obtain ⟨h9, h10, h11, h12, h13, h14, h⟩ := h c
    obtain ⟨a0, a1, a2⟩ := hagree c
    refine ⟨h9.trans ?_, h10.trans ?_, h11.trans ?_, h12.trans ?_, h13.trans ?_, h14.trans ?_, h⟩
    · exact (val_main_v67_eq _ _ _).trans (by rw [a0, a1, a2])
    · exact (val_main_v68_eq _ _ _).trans (by rw [a0, a1, a2])
    · exact (val_main_v69_eq _ _ _).trans (by rw [a0, a1, a2])
    · exact (val_main_v70_eq _ _).trans (by rw [a0, a1])
    · exact (val_main_v71_eq _ _).trans (by rw [a0, a1])
    · exact (val_main_v72_eq _ _).trans (by rw [a0, a1])

end Cert.Proof.Conv

end
-- ==== Proof.GateFwd.lean ====
/-
  The value claim of the gate's forward call: the two branches' results are scaled by the sigmoids of their gates and added,
  on 16 blocks of 512 rows.
-/
module

public import proofs.«01_k».proof.Defs
public import proofs.«01_k».proof.Proof.Rows
public import proofs.«01_k».proof.Proof.Gen.KernelGateFwdIdeal.Value
public import proofs.«01_k».proof.Proof.Gen.ReferenceGateFwdIdeal.Read
public import Idealize.ShloMosaic.Lib.Pipeline.Value
public import Idealize.ShloMosaic.Lib.Pipeline.ValueKit
public import Idealize.ShloMosaic.Lib.Pointwise
public import Idealize.ShloMosaic.Lib.Claim

@[expose] public section

set_option maxHeartbeats 1000000

noncomputable section

namespace Cert.Proof.GateFwd

open Cert.KernelGateFwdIdeal Cert.KernelGateFwdIdeal.Gen Idealize.ShloMosaic Idealize.ShloMosaic.TcCoe Idealize.SL.Sem
open Idealize.ShloMosaic.Pipeline (Dat)
open Cert.ReferenceGateFwdIdeal.Read Cert.Proof.Rows

variable (m : (ℓ : Loc nD τ sig) → Buf (Elt Ideal) ℓ)

theorem hz : (![0, 0] : Fin 2 → Nat) = fun _ => 0 := funext fun a => by fin_cases a <;> rfl

/-- The block indices of the five windows at a grid point: the row block is `t`. -/
theorem idx_facts : ∀ t : Fin grid0.N,
    (win0_0.index t 0 = t.val ∧ win0_0.index t 1 = 3)
    ∧ (win0_1.index t 0 = t.val ∧ win0_1.index t 1 = 4)
    ∧ (win0_2.index t 0 = t.val ∧ win0_2.index t 1 = 0)
    ∧ (win0_3.index t 0 = t.val ∧ win0_3.index t 1 = 0)
    ∧ (win0_4.index t 0 = t.val ∧ win0_4.index t 1 = 0) := by
  decide +kernel

theorem lt16 (t : Fin cfg0.N) : t.val < 16 := lt_of_lt_of_eq t.isLt N_0

/-- Lane `l` of the `k`-th group of 1024 columns of the projection. -/
abbrev col (k : ℕ) (hk : k < 5) (l : Fin 1024) : Fin 5120 := ⟨k * 1024 + l.val, by omega⟩

/-- The arguments. -/
abbrev A0 (c : Dev nD) : S8192x5120.Idx → EReal := m ((c : Thread nD τ).loc main_arg0)
abbrev A1 (c : Dev nD) : S8192x1024.Idx → EReal := m ((c : Thread nD τ).loc main_arg1)
abbrev A2 (c : Dev nD) : S8192x1024.Idx → EReal := m ((c : Thread nD τ).loc main_arg2)

theorem iblk0 (c : Dev nD) (t : Fin cfg0.N) (y : S512x1024.Idx) : iblk m c 0 t y = A0 m c (ix2 (row t.val (lt16 t) (y 0)) (col 3 (by omega) (y 1))) := by
  unfold iblk
  rw [View.read_apply]
  show V m c main_arg0 _ = m _ _
  congr 1
  refine Shape.idx_ext₂ ?_ ?_
  · show win0_0.index t 0 * 512 + 1 * (y 0).val = t.val * 512 + (y 0).val
    rw [(idx_facts t).1.1]; omega
  · show win0_0.index t 1 * 1024 + 1 * (y 1).val = 3 * 1024 + (y 1).val
    rw [(idx_facts t).1.2]; omega

theorem iblk1 (c : Dev nD) (t : Fin cfg0.N) (y : S512x1024.Idx) : iblk m c 1 t y = A0 m c (ix2 (row t.val (lt16 t) (y 0)) (col 4 (by omega) (y 1))) := by
  unfold iblk
  rw [View.read_apply]
  show V m c main_arg0 _ = m _ _
  congr 1
  refine Shape.idx_ext₂ ?_ ?_
  · show win0_1.index t 0 * 512 + 1 * (y 0).val = t.val * 512 + (y 0).val
    rw [(idx_facts t).2.1.1]; omega
  · show win0_1.index t 1 * 1024 + 1 * (y 1).val = 4 * 1024 + (y 1).val
    rw [(idx_facts t).2.1.2]; omega

theorem iblk2 (c : Dev nD) (t : Fin cfg0.N) (y : S512x1024.Idx) : iblk m c 2 t y = A1 m c (ix2 (row t.val (lt16 t) (y 0)) (y 1)) := by
  unfold iblk
  rw [View.read_apply]
  show V m c main_arg1 _ = m _ _
  congr 1
  refine Shape.idx_ext₂ ?_ ?_
  · show win0_2.index t 0 * 512 + 1 * (y 0).val = t.val * 512 + (y 0).val
    rw [(idx_facts t).2.2.1.1]; omega
  · show win0_2.index t 1 * 1024 + 1 * (y 1).val = (y 1).val
    rw [(idx_facts t).2.2.1.2]; omega

theorem iblk3 (c : Dev nD) (t : Fin cfg0.N) (y : S512x1024.Idx) : iblk m c 3 t y = A2 m c (ix2 (row t.val (lt16 t) (y 0)) (y 1)) := by
  unfold iblk
  rw [View.read_apply]
  show V m c main_arg2 _ = m _ _
  congr 1
  refine Shape.idx_ext₂ ?_ ?_
  · show win0_3.index t 0 * 512 + 1 * (y 0).val = t.val * 512 + (y 0).val
    rw [(idx_facts t).2.2.2.1.1]; omega
  · show win0_3.index t 1 * 1024 + 1 * (y 1).val = (y 1).val
    rw [(idx_facts t).2.2.2.1.2]; omega

theorem emb4 (t : Fin cfg0.N) (y : S512x1024.Idx) : ((cfg0.win 4).blk t).view.emb y = ix2 (row t.val (lt16 t) (y 0)) (y 1) := by
  refine Shape.idx_ext₂ ?_ ?_
  · show win0_4.index t 0 * 512 + 1 * (y 0).val = t.val * 512 + (y 0).val
    rw [(idx_facts t).2.2.2.2.1]; omega
  · show win0_4.index t 1 * 1024 + 1 * (y 1).val = (y 1).val
    rw [(idx_facts t).2.2.2.2.2]; omega

/-- Every index of the result lies in some point's block. -/
theorem exists_at (i : S8192x1024.Idx) : ∃ (t : Fin cfg0.N) (y : S512x1024.Idx), (ix2 (row t.val (lt16 t) (y 0)) (y 1) : S8192x1024.Idx) = i := by
  obtain ⟨n, hn, r, h⟩ := row_surj (i 0)
  exact ⟨⟨n, lt_of_lt_of_eq hn N_0.symm⟩, ix2 r (i 1), Shape.idx_ext₂ (congrArg Fin.val h) rfl⟩

/-- The result array: the reference's value of the arguments. The kernel negates by `0 - x`, the reference by `-x`. -/
abbrev G4 (c : Dev nD) : Buf (Elt Ideal) ((c : Thread nD τ).loc main_v0) :=
  val_main_v17 (F := Ideal) (A0 m c) (A1 m c) (A2 m c)

theorem final4 (c : Dev nD) : (dats m 0 c).arrAt 4 cfg0.N = G4 m c := by
  refine (dats m 0 c).arrAt_eq_of_cover 4 (G4 m c) (fun t _ => ?_) (fun i => ?_)
  · rw [Cert.KernelGateFwdIdeal.Value.flushed4]
    funext y
    rw [View.read_apply]
    show out0_4 _ _ _ _ y = G4 m c _
    rw [emb4]
    unfold out0_4
    rw [View.canon_unit_zero hz]
    simp only [View.ld_unit_zero (S := S512x1024) hz]
    pointwise [k0_pay1, iblk0, iblk1, iblk2, iblk3, zero_sub, G4, val_main_v0, val_main_v1, val_main_v2, val_main_v3,
      val_main_v4, val_main_v5, val_main_v6, val_main_v7, val_main_v8, val_main_v9, val_main_v10, val_main_v11,
      val_main_v12, val_main_v13, val_main_v14, val_main_v15, val_main_v16, val_main_v17, val_main_cst, val_main_cst_0,
      val_main_cst_1, val_main_cst_2]
  · obtain ⟨t, y, rfl⟩ := exists_at i
    exact ⟨t, flush0_4 t, Finset.mem_map.mpr ⟨y, Finset.mem_univ y, emb4 t y⟩⟩

theorem algebraic : Cert.algebraic_KernelGateFwdIdeal_ReferenceGateFwdIdeal := by
  intro m ρ m' ρ' _ hagree
  refine ⟨G4 m, ?_, ?_⟩
  · refine (θ_run defs _ _).mono (fun r h c => ?_) (Cert.KernelGateFwdIdeal.Value.run_blocks (F := Ideal) m ρ)
    exact ⟨(h c).1.trans (final4 m c), (h c).2⟩
  · refine (θ_run Cert.ReferenceGateFwdIdeal.defs _ _).mono (fun r h c => ?_)
      (Cert.ReferenceGateFwdIdeal.Value.run (F := Ideal) m' ρ')
    obtain ⟨a0, a1, a2⟩ := hagree c
    refine ⟨(h c).1.trans ?_, (h c).2⟩
    rw [val_main_v17_eq, a0, a1, a2]

end Cert.Proof.GateFwd

end
-- ==== Proof.ConvFwd.lean ====
/-
  The value claim of the short convolution's forward call: three taps over the gated sequence, times the output gate, for
  every block of 512 rows, where the two rows before a block come from the block above it.
-/
module

public import proofs.«01_k».proof.Defs
public import proofs.«01_k».proof.Proof.Rows
public import proofs.«01_k».proof.Proof.Conv
public import proofs.«01_k».proof.Proof.Gen.KernelConvFwdIdeal.Value
public import proofs.«01_k».proof.Proof.Gen.ReferenceConvFwdIdeal.Read
public import Idealize.ShloMosaic.Lib.Pipeline.Value
public import Idealize.ShloMosaic.Lib.Pipeline.ValueKit
public import Idealize.ShloMosaic.Lib.Pointwise
public import Idealize.ShloMosaic.Lib.Claim

@[expose] public section

set_option maxHeartbeats 1000000

noncomputable section

namespace Cert.Proof.ConvFwd

open Cert.KernelConvFwdIdeal Cert.KernelConvFwdIdeal.Gen Idealize.ShloMosaic Idealize.ShloMosaic.TcCoe Idealize.SL.Sem
open Idealize.ShloMosaic.Pipeline (Dat)
open Cert.ReferenceConvFwdIdeal.Read Cert.Proof.Rows
open Cert.Proof.Conv (seq seq_row seq_low col lane)

variable (m : (ℓ : Loc nD τ sig) → Buf (Elt Ideal) ℓ)

theorem hz : (![0, 0] : Fin 2 → Nat) = fun _ => 0 := funext fun a => by fin_cases a <;> rfl

/-- The block indices of the seven windows at a grid point: the row block is `t`. -/
theorem idx_facts : ∀ t : Fin grid0.N,
    (win0_0.index t 0 = t.val ∧ win0_0.index t 1 = 0)
    ∧ (win0_1.index t 0 = t.val ∧ win0_1.index t 1 = 1)
    ∧ (win0_2.index t 0 = t.val ∧ win0_2.index t 1 = 2)
    ∧ (win0_3.index t 0 = t.val * 64 - 1 ∧ win0_3.index t 1 = 1)
    ∧ (win0_4.index t 0 = t.val * 64 - 1 ∧ win0_4.index t 1 = 2)
    ∧ (win0_5.index t 0 = 0 ∧ win0_5.index t 1 = 0)
    ∧ (win0_6.index t 0 = t.val ∧ win0_6.index t 1 = 0) := by
  decide +kernel

theorem lt16 (t : Fin cfg0.N) : t.val < 16 := lt_of_lt_of_eq t.isLt N_0

/-- Row `r` of the eight rows before block `t`; at the first block, of the block's own first eight. -/
def before (t : Fin cfg0.N) (r : Fin 8) : Fin 8192 := ⟨(t.val * 64 - 1) * 8 + r.val, by have := lt16 t; omega⟩

/-- The arguments. -/
abbrev A0 (c : Dev nD) : S8192x5120.Idx → EReal := m ((c : Thread nD τ).loc main_arg0)
abbrev A1 (c : Dev nD) : S3x512.Idx → EReal := m ((c : Thread nD τ).loc main_arg1)

theorem iblk0 (c : Dev nD) (t : Fin cfg0.N) (y : S512x512.Idx) : iblk m c 0 t y = A0 m c (ix2 (row t.val (lt16 t) (y 0)) (lane (y 1))) := by
  unfold iblk
  rw [View.read_apply]
  show V m c main_arg0 _ = m _ _
  congr 1
  refine Shape.idx_ext₂ ?_ ?_
  · show win0_0.index t 0 * 512 + 1 * (y 0).val = t.val * 512 + (y 0).val
    rw [(idx_facts t).1.1]; omega
  · show win0_0.index t 1 * 512 + 1 * (y 1).val = (y 1).val
    rw [(idx_facts t).1.2]; omega

theorem iblk1 (c : Dev nD) (t : Fin cfg0.N) (y : S512x512.Idx) : iblk m c 1 t y = A0 m c (ix2 (row t.val (lt16 t) (y 0)) (col 1 (by omega) (y 1))) := by
  unfold iblk
  rw [View.read_apply]
  show V m c main_arg0 _ = m _ _
  congr 1
  refine Shape.idx_ext₂ ?_ ?_
  · show win0_1.index t 0 * 512 + 1 * (y 0).val = t.val * 512 + (y 0).val
    rw [(idx_facts t).2.1.1]; omega
  · show win0_1.index t 1 * 512 + 1 * (y 1).val = 1 * 512 + (y 1).val
    rw [(idx_facts t).2.1.2]; omega

theorem iblk2 (c : Dev nD) (t : Fin cfg0.N) (y : S512x512.Idx) : iblk m c 2 t y = A0 m c (ix2 (row t.val (lt16 t) (y 0)) (col 2 (by omega) (y 1))) := by
  unfold iblk
  rw [View.read_apply]
  show V m c main_arg0 _ = m _ _
  congr 1
  refine Shape.idx_ext₂ ?_ ?_
  · show win0_2.index t 0 * 512 + 1 * (y 0).val = t.val * 512 + (y 0).val
    rw [(idx_facts t).2.2.1.1]; omega
  · show win0_2.index t 1 * 512 + 1 * (y 1).val = 2 * 512 + (y 1).val
    rw [(idx_facts t).2.2.1.2]; omega

theorem iblk3 (c : Dev nD) (t : Fin cfg0.N) (y : S8x512.Idx) : iblk m c 3 t y = A0 m c (ix2 (before t (y 0)) (col 1 (by omega) (y 1))) := by
  unfold iblk
  rw [View.read_apply]
  show V m c main_arg0 _ = m _ _
  congr 1
  refine Shape.idx_ext₂ ?_ ?_
  · show win0_3.index t 0 * 8 + 1 * (y 0).val = (t.val * 64 - 1) * 8 + (y 0).val
    rw [(idx_facts t).2.2.2.1.1]; omega
  · show win0_3.index t 1 * 512 + 1 * (y 1).val = 1 * 512 + (y 1).val
    rw [(idx_facts t).2.2.2.1.2]; omega

theorem iblk4 (c : Dev nD) (t : Fin cfg0.N) (y : S8x512.Idx) : iblk m c 4 t y = A0 m c (ix2 (before t (y 0)) (col 2 (by omega) (y 1))) := by
  unfold iblk
  rw [View.read_apply]
  show V m c main_arg0 _ = m _ _
  congr 1
  refine Shape.idx_ext₂ ?_ ?_
  · show win0_4.index t 0 * 8 + 1 * (y 0).val = (t.val * 64 - 1) * 8 + (y 0).val
    rw [(idx_facts t).2.2.2.2.1.1]; omega
  · show win0_4.index t 1 * 512 + 1 * (y 1).val = 2 * 512 + (y 1).val
    rw [(idx_facts t).2.2.2.2.1.2]; omega

theorem iblk5 (c : Dev nD) (t : Fin cfg0.N) (y : S3x512.Idx) : iblk m c 5 t y = A1 m c y := by
  unfold iblk
  rw [View.read_apply]
  show V m c main_arg1 _ = m _ _
  congr 1
  refine Shape.idx_ext₂ ?_ ?_
  · show win0_5.index t 0 * 3 + 1 * (y 0).val = (y 0).val
    rw [(idx_facts t).2.2.2.2.2.1.1]; omega
  · show win0_5.index t 1 * 512 + 1 * (y 1).val = (y 1).val
    rw [(idx_facts t).2.2.2.2.2.1.2]; omega

theorem emb6 (t : Fin cfg0.N) (y : S512x512.Idx) : ((cfg0.win 6).blk t).view.emb y = ix2 (row t.val (lt16 t) (y 0)) (y 1) := by
  refine Shape.idx_ext₂ ?_ ?_
  · show win0_6.index t 0 * 512 + 1 * (y 0).val = t.val * 512 + (y 0).val
    rw [(idx_facts t).2.2.2.2.2.2.1]; omega
  · show win0_6.index t 1 * 512 + 1 * (y 1).val = (y 1).val
    rw [(idx_facts t).2.2.2.2.2.2.2]; omega

/-- Only the first block has no rows before it: the kernel multiplies by one or by zero. -/
theorem inner : ∀ t : Fin grid0.N, Scalar.cmpi .sgt (BitVec.ofNat 32 (grid0.coords t 0).val) 0#32
    = if 1 ≤ t.val then 1 else 0 := by
  decide +kernel

/-- The eight rows before a block and then the block's rows, of the convolved sequence. -/
theorem window (c : Dev nD) (t : Fin cfg0.N) (l : Fin 512) (e : ℕ) (he : e < 520) (h6 : 6 ≤ e) :
    (if h : e < 8 then
        Scalar.select (Scalar.cmpi .sgt (BitVec.ofNat 32 (grid0.coords t 0).val) 0#32)
          (A0 m c (ix2 (before t ⟨e, h⟩) (col 1 (by omega) l)) * A0 m c (ix2 (before t ⟨e, h⟩) (col 2 (by omega) l))) 0
      else A0 m c (ix2 (row t.val (lt16 t) ⟨e - 8, by omega⟩) (col 1 (by omega) l))
        * A0 m c (ix2 (row t.val (lt16 t) ⟨e - 8, by omega⟩) (col 2 (by omega) l)))
      = seq (A0 m c) l (t.val * 512 + e - 6) := by
  split
  · next h =>
    rw [inner t]
    by_cases h1 : 1 ≤ t.val
    · rw [if_pos h1]
      exact (seq_row _ _ (before t ⟨e, h⟩) _ (by show _ = (t.val * 64 - 1) * 8 + e + 2; omega)).symm
    · rw [if_neg h1]
      exact (seq_low _ _ _ (by omega)).symm
  · next h =>
    exact (seq_row _ _ (row t.val (lt16 t) ⟨e - 8, by omega⟩) _ (by show _ = t.val * 512 + (e - 8) + 2; omega)).symm

/-- The reference's padded sequence. -/
theorem ref_seq (p : S8192x5120.Idx → EReal) (k : Fin 8194) (l : Fin 512) :
    val_main_v5 (F := Ideal) p (ix2 k l) = seq p l k.val := by
  have hk := k.isLt
  pointwise [val_main_v1, val_main_v2, val_main_v3, val_main_cst, val_main_v4, val_main_v5]
  split
  · next h => exact (seq_low _ _ _ h).symm
  · next h => exact (seq_row p l ⟨k.val - 2, by omega⟩ _ (by show _ = k.val - 2 + 2; omega)).symm

/-- The reference's result at a row and a lane. -/
theorem ref_out (p : S8192x5120.Idx → EReal) (w : S3x512.Idx → EReal) (i : Fin 8192) (l : Fin 512) :
    val_main_v29 (F := Ideal) p w (ix2 i l)
      = p (ix2 i (lane l)) * (w (ix2 (0 : Fin 3) l) * seq p l i.val + w (ix2 (1 : Fin 3) l) * seq p l (i.val + 1)
          + w (ix2 (2 : Fin 3) l) * seq p l (i.val + 2)) := by
  pointwise [val_main_v0, val_main_v6, val_main_v7, val_main_v8, val_main_v9, val_main_v10, val_main_v11, val_main_cst_0,
    val_main_v12, val_main_v13, val_main_v14, val_main_v15, val_main_v16, val_main_v17, val_main_v18, val_main_v19,
    val_main_v20, val_main_v21, val_main_v22, val_main_v23, val_main_v24, val_main_v25, val_main_v26, val_main_v27,
    val_main_v28, val_main_v29, ref_seq]
  rw [add_comm 1 i.val, add_comm 2 i.val]

/-- Every index of the result lies in some point's block. -/
theorem exists_at (i : S8192x512.Idx) : ∃ (t : Fin cfg0.N) (y : S512x512.Idx), (ix2 (row t.val (lt16 t) (y 0)) (y 1) : S8192x512.Idx) = i := by
  obtain ⟨n, hn, r, h⟩ := row_surj (i 0)
  exact ⟨⟨n, lt_of_lt_of_eq hn N_0.symm⟩, ix2 r (i 1), Shape.idx_ext₂ (congrArg Fin.val h) rfl⟩

/-- The result array: the reference's value of the arguments. -/
abbrev G6 (c : Dev nD) : Buf (Elt Ideal) ((c : Thread nD τ).loc main_v0) :=
  val_main_v29 (F := Ideal) (A0 m c) (A1 m c)

theorem final6 (c : Dev nD) : (dats m 0 c).arrAt 6 cfg0.N = G6 m c := by
  refine (dats m 0 c).arrAt_eq_of_cover 6 (G6 m c) (fun t _ => ?_) (fun i => ?_)
  · rw [Cert.KernelConvFwdIdeal.Value.flushed6]
    funext y
    rw [View.read_apply]
    show out0_6 _ _ _ _ _ _ _ y = G6 m c _
    rw [emb6]
    unfold out0_6
    rw [View.canon_unit_zero hz]
    simp only [View.ld_unit_zero (S := S512x512) hz, View.ld_unit_zero (S := S8x512) hz]
    obtain ⟨r, l, rfl⟩ : ∃ r l : Fin 512, y = ix2 r l := ⟨y 0, y 1, eq_ix2 y⟩
    have e := window m c t l
    have h0 : r.val < 512 := r.isLt
    refine Eq.trans ?_ (ref_out (A0 m c) (A1 m c) (row t.val (lt16 t) r) l).symm
    pointwise [k0_pay1, iblk0, iblk1, iblk2, iblk3, iblk4, iblk5]
    refine congrArg (A0 m c (ix2 (row t.val (lt16 t) r) (lane l)) * ·) (congrArg₂ (· + ·) (congrArg₂ (· + ·)
      (congrArg (A1 m c (ix2 (0 : Fin 3) l) * ·) ?_) (congrArg (A1 m c (ix2 (1 : Fin 3) l) * ·) ?_))
      (congrArg (A1 m c (ix2 (2 : Fin 3) l) * ·) ?_))
    · exact (e _ (by omega) (by omega)).trans (congrArg (seq _ l) (by show _ = t.val * 512 + r.val; omega))
    · exact (e _ (by omega) (by omega)).trans (congrArg (seq _ l) (by show _ = t.val * 512 + r.val + 1; omega))
    · exact (seq_row (A0 m c) l (row t.val (lt16 t) r) _ rfl).symm
  · obtain ⟨t, y, rfl⟩ := exists_at i
    exact ⟨t, flush0_6 t, Finset.mem_map.mpr ⟨y, Finset.mem_univ y, emb6 t y⟩⟩

theorem algebraic : Cert.algebraic_KernelConvFwdIdeal_ReferenceConvFwdIdeal := by
  intro m ρ m' ρ' _ hagree
  refine ⟨G6 m, ?_, ?_⟩
  · refine (θ_run defs _ _).mono (fun r h c => ?_) (Cert.KernelConvFwdIdeal.Value.run_blocks (F := Ideal) m ρ)
    exact ⟨(h c).1.trans (final6 m c), (h c).2⟩
  · refine (θ_run Cert.ReferenceConvFwdIdeal.defs _ _).mono (fun r h c => ?_)
      (Cert.ReferenceConvFwdIdeal.Value.run (F := Ideal) m' ρ')
    obtain ⟨a0, a1⟩ := hagree c
    refine ⟨(h c).1.trans ?_, (h c).2⟩
    rw [val_main_v29_eq, a0, a1]

end Cert.Proof.ConvFwd

end
-- ==== Proof.PreFwd.lean ====
/-
  The value claim of the pre-norm's forward call: each block of 512 rows is divided by its root mean square, scaled by the
  norm's weight and then by the layer's scale and shift.
-/
module

public import proofs.«01_k».proof.Defs
public import proofs.«01_k».proof.Proof.Rows
public import proofs.«01_k».proof.Proof.Gen.KernelPreFwdIdeal.Value
public import proofs.«01_k».proof.Proof.Gen.ReferencePreFwdIdeal.Read
public import Idealize.ShloMosaic.Lib.Pipeline.Value
public import Idealize.ShloMosaic.Lib.Pipeline.ValueKit
public import Idealize.ShloMosaic.Lib.Pointwise
public import Idealize.ShloMosaic.Lib.Claim

@[expose] public section

set_option maxHeartbeats 1000000

noncomputable section

namespace Cert.Proof.PreFwd

open Cert.KernelPreFwdIdeal Cert.KernelPreFwdIdeal.Gen Idealize.ShloMosaic Idealize.ShloMosaic.TcCoe Idealize.SL.Sem
open Idealize.ShloMosaic.Pipeline (Dat)
open Cert.ReferencePreFwdIdeal.Read Cert.Proof.Rows

variable (m : (ℓ : Loc nD τ sig) → Buf (Elt Ideal) ℓ)

theorem hz : (![0, 0] : Fin 2 → Nat) = fun _ => 0 := funext fun a => by fin_cases a <;> rfl

/-- The block indices of the five windows at a grid point: the row block is `t`. -/
theorem idx_facts : ∀ t : Fin grid0.N,
    (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = t.val ∧ win0_4.index t 1 = 0) := by
  decide +kernel

theorem lt16 (t : Fin cfg0.N) : t.val < 16 := lt_of_lt_of_eq t.isLt N_0

/-- The arguments. -/
abbrev A0 (c : Dev nD) : S8192x1024.Idx → EReal := m ((c : Thread nD τ).loc main_arg0)
abbrev A1 (c : Dev nD) : S1x1024.Idx → EReal := m ((c : Thread nD τ).loc main_arg1)
abbrev A2 (c : Dev nD) : S1x1024.Idx → EReal := m ((c : Thread nD τ).loc main_arg2)
abbrev A3 (c : Dev nD) : S1x1024.Idx → EReal := m ((c : Thread nD τ).loc main_arg3)

theorem iblk0 (c : Dev nD) (t : Fin cfg0.N) (y : S512x1024.Idx) : iblk m c 0 t y = A0 m c (ix2 (row t.val (lt16 t) (y 0)) (y 1)) := by
  unfold iblk
  rw [View.read_apply]
  show V m c main_arg0 _ = m _ _
  congr 1
  refine Shape.idx_ext₂ ?_ ?_
  · show win0_0.index t 0 * 512 + 1 * (y 0).val = t.val * 512 + (y 0).val
    rw [(idx_facts t).1.1]; omega
  · show win0_0.index t 1 * 1024 + 1 * (y 1).val = (y 1).val
    rw [(idx_facts t).1.2]; omega

theorem iblk1 (c : Dev nD) (t : Fin cfg0.N) (y : S1x1024.Idx) : iblk m c 1 t y = A1 m c y := by
  unfold iblk
  rw [View.read_apply]
  show V m c main_arg1 _ = m _ _
  congr 1
  refine Shape.idx_ext₂ ?_ ?_
  · show win0_1.index t 0 * 1 + 1 * (y 0).val = (y 0).val
    rw [(idx_facts t).2.1.1]; omega
  · show win0_1.index t 1 * 1024 + 1 * (y 1).val = (y 1).val
    rw [(idx_facts t).2.1.2]; omega

theorem iblk2 (c : Dev nD) (t : Fin cfg0.N) (y : S1x1024.Idx) : iblk m c 2 t y = A2 m c y := by
  unfold iblk
  rw [View.read_apply]
  show V m c main_arg2 _ = m _ _
  congr 1
  refine Shape.idx_ext₂ ?_ ?_
  · show win0_2.index t 0 * 1 + 1 * (y 0).val = (y 0).val
    rw [(idx_facts t).2.2.1.1]; omega
  · show win0_2.index t 1 * 1024 + 1 * (y 1).val = (y 1).val
    rw [(idx_facts t).2.2.1.2]; omega

theorem iblk3 (c : Dev nD) (t : Fin cfg0.N) (y : S1x1024.Idx) : iblk m c 3 t y = A3 m c y := by
  unfold iblk
  rw [View.read_apply]
  show V m c main_arg3 _ = m _ _
  congr 1
  refine Shape.idx_ext₂ ?_ ?_
  · show win0_3.index t 0 * 1 + 1 * (y 0).val = (y 0).val
    rw [(idx_facts t).2.2.2.1.1]; omega
  · show win0_3.index t 1 * 1024 + 1 * (y 1).val = (y 1).val
    rw [(idx_facts t).2.2.2.1.2]; omega

theorem emb4 (t : Fin cfg0.N) (y : S512x1024.Idx) : ((cfg0.win 4).blk t).view.emb y = ix2 (row t.val (lt16 t) (y 0)) (y 1) := by
  refine Shape.idx_ext₂ ?_ ?_
  · show win0_4.index t 0 * 512 + 1 * (y 0).val = t.val * 512 + (y 0).val
    rw [(idx_facts t).2.2.2.2.1]; omega
  · show win0_4.index t 1 * 1024 + 1 * (y 1).val = (y 1).val
    rw [(idx_facts t).2.2.2.2.2]; omega

/-- Every index of the result lies in some point's block. -/
theorem exists_at (i : S8192x1024.Idx) : ∃ (t : Fin cfg0.N) (y : S512x1024.Idx), (ix2 (row t.val (lt16 t) (y 0)) (y 1) : S8192x1024.Idx) = i := by
  obtain ⟨n, hn, r, h⟩ := row_surj (i 0)
  exact ⟨⟨n, lt_of_lt_of_eq hn N_0.symm⟩, ix2 r (i 1), Shape.idx_ext₂ (congrArg Fin.val h) rfl⟩

/-- The result array: the reference's value of the arguments. -/
abbrev G4 (c : Dev nD) : Buf (Elt Ideal) ((c : Thread nD τ).loc main_v0) :=
  val_main_v18 (F := Ideal) (A0 m c) (A1 m c) (A2 m c) (A3 m c)

theorem final4 (c : Dev nD) : (dats m 0 c).arrAt 4 cfg0.N = G4 m c := by
  refine (dats m 0 c).arrAt_eq_of_cover 4 (G4 m c) (fun t _ => ?_) (fun i => ?_)
  · rw [Cert.KernelPreFwdIdeal.Value.flushed4]
    funext y
    rw [View.read_apply]
    show out0_4 _ _ _ _ y = G4 m c _
    rw [emb4]
    unfold out0_4
    rw [View.canon_unit_zero hz]
    simp only [View.ld_unit_zero (S := S512x1024) hz, View.ld_unit_zero (S := S1x1024) hz]
    pointwise [k0_pay1, iblk0, iblk1, iblk2, iblk3, G4, val_main_v0, val_main_v1, val_main_v2, val_main_v3, val_main_v4,
      val_main_v5, val_main_v6, val_main_v7, val_main_v8, val_main_v9, val_main_v10, val_main_v11, val_main_v12,
      val_main_v13, val_main_v14, val_main_v15, val_main_v16, val_main_v17, val_main_v18, val_main_cst, val_main_cst_0,
      val_main_cst_1, val_main_cst_2]
  · obtain ⟨t, y, rfl⟩ := exists_at i
    exact ⟨t, flush0_4 t, Finset.mem_map.mpr ⟨y, Finset.mem_univ y, emb4 t y⟩⟩

theorem algebraic : Cert.algebraic_KernelPreFwdIdeal_ReferencePreFwdIdeal := by
  intro m ρ m' ρ' _ hagree
  refine ⟨G4 m, ?_, ?_⟩
  · refine (θ_run defs _ _).mono (fun r h c => ?_) (Cert.KernelPreFwdIdeal.Value.run_blocks (F := Ideal) m ρ)
    exact ⟨(h c).1.trans (final4 m c), (h c).2⟩
  · refine (θ_run Cert.ReferencePreFwdIdeal.defs _ _).mono (fun r h c => ?_)
      (Cert.ReferencePreFwdIdeal.Value.run (F := Ideal) m' ρ')
    obtain ⟨a0, a1, a2, a3⟩ := hagree c
    refine ⟨(h c).1.trans ?_, (h c).2⟩
    rw [val_main_v18_eq, a0, a1, a2, a3]

end Cert.Proof.PreFwd

end
-- ==== Proof.PostFwd.lean ====
/-
  The value claim of the post-norm's forward call: each block of 512 rows is divided by its root mean square, scaled by the
  norm's weight and the layer's gate, and added to the residual stream.
-/
module

public import proofs.«01_k».proof.Defs
public import proofs.«01_k».proof.Proof.Rows
public import proofs.«01_k».proof.Proof.Gen.KernelPostFwdIdeal.Value
public import proofs.«01_k».proof.Proof.Gen.ReferencePostFwdIdeal.Read
public import Idealize.ShloMosaic.Lib.Pipeline.Value
public import Idealize.ShloMosaic.Lib.Pipeline.ValueKit
public import Idealize.ShloMosaic.Lib.Pointwise
public import Idealize.ShloMosaic.Lib.Claim

@[expose] public section

set_option maxHeartbeats 1000000

noncomputable section

namespace Cert.Proof.PostFwd

open Cert.KernelPostFwdIdeal Cert.KernelPostFwdIdeal.Gen Idealize.ShloMosaic Idealize.ShloMosaic.TcCoe Idealize.SL.Sem
open Idealize.ShloMosaic.Pipeline (Dat)
open Cert.ReferencePostFwdIdeal.Read Cert.Proof.Rows

variable (m : (ℓ : Loc nD τ sig) → Buf (Elt Ideal) ℓ)

theorem hz : (![0, 0] : Fin 2 → Nat) = fun _ => 0 := funext fun a => by fin_cases a <;> rfl

/-- The block indices of the five windows at a grid point: the row block is `t`. -/
theorem idx_facts : ∀ t : Fin grid0.N,
    (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = 0 ∧ win0_3.index t 1 = 0)
    ∧ (win0_4.index t 0 = t.val ∧ win0_4.index t 1 = 0) := by
  decide +kernel

theorem lt16 (t : Fin cfg0.N) : t.val < 16 := lt_of_lt_of_eq t.isLt N_0

/-- The arguments. -/
abbrev A0 (c : Dev nD) : S8192x1024.Idx → EReal := m ((c : Thread nD τ).loc main_arg0)
abbrev A1 (c : Dev nD) : S8192x1024.Idx → EReal := m ((c : Thread nD τ).loc main_arg1)
abbrev A2 (c : Dev nD) : S1x1024.Idx → EReal := m ((c : Thread nD τ).loc main_arg2)
abbrev A3 (c : Dev nD) : S1x1024.Idx → EReal := m ((c : Thread nD τ).loc main_arg3)

theorem iblk0 (c : Dev nD) (t : Fin cfg0.N) (y : S512x1024.Idx) : iblk m c 0 t y = A0 m c (ix2 (row t.val (lt16 t) (y 0)) (y 1)) := by
  unfold iblk
  rw [View.read_apply]
  show V m c main_arg0 _ = m _ _
  congr 1
  refine Shape.idx_ext₂ ?_ ?_
  · show win0_0.index t 0 * 512 + 1 * (y 0).val = t.val * 512 + (y 0).val
    rw [(idx_facts t).1.1]; omega
  · show win0_0.index t 1 * 1024 + 1 * (y 1).val = (y 1).val
    rw [(idx_facts t).1.2]; omega

theorem iblk1 (c : Dev nD) (t : Fin cfg0.N) (y : S512x1024.Idx) : iblk m c 1 t y = A1 m c (ix2 (row t.val (lt16 t) (y 0)) (y 1)) := by
  unfold iblk
  rw [View.read_apply]
  show V m c main_arg1 _ = m _ _
  congr 1
  refine Shape.idx_ext₂ ?_ ?_
  · show win0_1.index t 0 * 512 + 1 * (y 0).val = t.val * 512 + (y 0).val
    rw [(idx_facts t).2.1.1]; omega
  · show win0_1.index t 1 * 1024 + 1 * (y 1).val = (y 1).val
    rw [(idx_facts t).2.1.2]; omega

theorem iblk2 (c : Dev nD) (t : Fin cfg0.N) (y : S1x1024.Idx) : iblk m c 2 t y = A2 m c y := by
  unfold iblk
  rw [View.read_apply]
  show V m c main_arg2 _ = m _ _
  congr 1
  refine Shape.idx_ext₂ ?_ ?_
  · show win0_2.index t 0 * 1 + 1 * (y 0).val = (y 0).val
    rw [(idx_facts t).2.2.1.1]; omega
  · show win0_2.index t 1 * 1024 + 1 * (y 1).val = (y 1).val
    rw [(idx_facts t).2.2.1.2]; omega

theorem iblk3 (c : Dev nD) (t : Fin cfg0.N) (y : S1x1024.Idx) : iblk m c 3 t y = A3 m c y := by
  unfold iblk
  rw [View.read_apply]
  show V m c main_arg3 _ = m _ _
  congr 1
  refine Shape.idx_ext₂ ?_ ?_
  · show win0_3.index t 0 * 1 + 1 * (y 0).val = (y 0).val
    rw [(idx_facts t).2.2.2.1.1]; omega
  · show win0_3.index t 1 * 1024 + 1 * (y 1).val = (y 1).val
    rw [(idx_facts t).2.2.2.1.2]; omega

theorem emb4 (t : Fin cfg0.N) (y : S512x1024.Idx) : ((cfg0.win 4).blk t).view.emb y = ix2 (row t.val (lt16 t) (y 0)) (y 1) := by
  refine Shape.idx_ext₂ ?_ ?_
  · show win0_4.index t 0 * 512 + 1 * (y 0).val = t.val * 512 + (y 0).val
    rw [(idx_facts t).2.2.2.2.1]; omega
  · show win0_4.index t 1 * 1024 + 1 * (y 1).val = (y 1).val
    rw [(idx_facts t).2.2.2.2.2]; omega

/-- Every index of the result lies in some point's block. -/
theorem exists_at (i : S8192x1024.Idx) : ∃ (t : Fin cfg0.N) (y : S512x1024.Idx), (ix2 (row t.val (lt16 t) (y 0)) (y 1) : S8192x1024.Idx) = i := by
  obtain ⟨n, hn, r, h⟩ := row_surj (i 0)
  exact ⟨⟨n, lt_of_lt_of_eq hn N_0.symm⟩, ix2 r (i 1), Shape.idx_ext₂ (congrArg Fin.val h) rfl⟩

/-- The result array: the reference's value of the arguments. -/
abbrev G4 (c : Dev nD) : Buf (Elt Ideal) ((c : Thread nD τ).loc main_v0) :=
  val_main_v14 (F := Ideal) (A0 m c) (A1 m c) (A2 m c) (A3 m c)

theorem final4 (c : Dev nD) : (dats m 0 c).arrAt 4 cfg0.N = G4 m c := by
  refine (dats m 0 c).arrAt_eq_of_cover 4 (G4 m c) (fun t _ => ?_) (fun i => ?_)
  · rw [Cert.KernelPostFwdIdeal.Value.flushed4]
    funext y
    rw [View.read_apply]
    show out0_4 _ _ _ _ y = G4 m c _
    rw [emb4]
    unfold out0_4
    rw [View.canon_unit_zero hz]
    simp only [View.ld_unit_zero (S := S512x1024) hz, View.ld_unit_zero (S := S1x1024) hz]
    pointwise [k0_pay1, iblk0, iblk1, iblk2, iblk3, G4, val_main_v0, val_main_v1, val_main_v2, val_main_v3, val_main_v4,
      val_main_v5, val_main_v6, val_main_v7, val_main_v8, val_main_v9, val_main_v10, val_main_v11, val_main_v12,
      val_main_v13, val_main_v14, val_main_cst, val_main_cst_0, val_main_cst_1]
  · obtain ⟨t, y, rfl⟩ := exists_at i
    exact ⟨t, flush0_4 t, Finset.mem_map.mpr ⟨y, Finset.mem_univ y, emb4 t y⟩⟩

theorem algebraic : Cert.algebraic_KernelPostFwdIdeal_ReferencePostFwdIdeal := by
  intro m ρ m' ρ' _ hagree
  refine ⟨G4 m, ?_, ?_⟩
  · refine (θ_run defs _ _).mono (fun r h c => ?_) (Cert.KernelPostFwdIdeal.Value.run_blocks (F := Ideal) m ρ)
    exact ⟨(h c).1.trans (final4 m c), (h c).2⟩
  · refine (θ_run Cert.ReferencePostFwdIdeal.defs _ _).mono (fun r h c => ?_)
      (Cert.ReferencePostFwdIdeal.Value.run (F := Ideal) m' ρ')
    obtain ⟨a0, a1, a2, a3⟩ := hagree c
    refine ⟨(h c).1.trans ?_, (h c).2⟩
    rw [val_main_v14_eq, a0, a1, a2, a3]

end Cert.Proof.PostFwd

end
-- ==== Proof.Relu2Fwd.lean ====
/-
  The value claim of the squared ReLU's forward call: the product with the first weight and its squared positive part. The
  grid's 64 blocks of 512 by 1024 tile the two results and each contracts in one piece.
-/
module

public import proofs.«01_k».proof.Defs
public import proofs.«01_k».proof.Proof.Gen.KernelRelu2FwdIdeal.Value
public import proofs.«01_k».proof.Proof.Gen.ReferenceRelu2FwdIdeal.Read
public import Idealize.ShloMosaic.Lib.Pipeline.Value
public import Idealize.ShloMosaic.Lib.Pipeline.ValueKit
public import Idealize.ShloMosaic.Lib.Pointwise
public import Idealize.ShloMosaic.Lib.Claim

@[expose] public section

set_option maxHeartbeats 1000000

noncomputable section

namespace Cert.Proof.Relu2Fwd

open Cert.KernelRelu2FwdIdeal Cert.KernelRelu2FwdIdeal.Gen Idealize.ShloMosaic Idealize.ShloMosaic.TcCoe Idealize.SL.Sem
open Idealize.ShloMosaic.Pipeline (Dat)
open Cert.ReferenceRelu2FwdIdeal.Read

variable (m : (ℓ : Loc nD τ sig) → Buf (Elt Ideal) ℓ)

theorem hz : (![0, 0] : Fin 2 → Nat) = fun _ => 0 := funext fun a => by fin_cases a <;> rfl

/-- The block indices of the four windows at a grid point: the row block is `t / 4`, the column block `t % 4`. -/
theorem idx_facts : ∀ t : Fin grid0.N,
    (win0_0.index t 0 = t.val / 4 ∧ win0_0.index t 1 = 0)
    ∧ (win0_1.index t 0 = 0 ∧ win0_1.index t 1 = t.val % 4)
    ∧ (win0_2.index t 0 = t.val / 4 ∧ win0_2.index t 1 = t.val % 4)
    ∧ (win0_3.index t 0 = t.val / 4 ∧ win0_3.index t 1 = t.val % 4) := by
  decide +kernel

theorem lt64 (t : Fin cfg0.N) : t.val < 64 := lt_of_lt_of_eq t.isLt N_0

/-- Row `r` of point `t`'s row block, in the whole array. -/
def row (t : Fin cfg0.N) (r : Fin 512) : Fin 8192 := ⟨t.val / 4 * 512 + r.val, by have := lt64 t; omega⟩

/-- Column `l` of point `t`'s column block, in the whole array. -/
def col (t : Fin cfg0.N) (l : Fin 1024) : Fin 4096 := ⟨t.val % 4 * 1024 + l.val, by omega⟩

/-- The arguments. -/
abbrev A0 (c : Dev nD) : S8192x1024.Idx → EReal := m ((c : Thread nD τ).loc main_arg0)
abbrev A1 (c : Dev nD) : S1024x4096.Idx → EReal := m ((c : Thread nD τ).loc main_arg1)

theorem iblk0 (c : Dev nD) (t : Fin cfg0.N) (y : S512x1024.Idx) : iblk m c 0 t y = A0 m c (ix2 (row t (y 0)) (y 1)) := by
  unfold iblk
  rw [View.read_apply]
  show V m c main_arg0 _ = m _ _
  congr 1
  refine Shape.idx_ext₂ ?_ ?_
  · show win0_0.index t 0 * 512 + 1 * (y 0).val = t.val / 4 * 512 + (y 0).val
    rw [(idx_facts t).1.1]; omega
  · show win0_0.index t 1 * 1024 + 1 * (y 1).val = (y 1).val
    rw [(idx_facts t).1.2]; omega

theorem iblk1 (c : Dev nD) (t : Fin cfg0.N) (y : S1024x1024.Idx) : iblk m c 1 t y = A1 m c (ix2 (y 0) (col t (y 1))) := by
  unfold iblk
  rw [View.read_apply]
  show V m c main_arg1 _ = m _ _
  congr 1
  refine Shape.idx_ext₂ ?_ ?_
  · show win0_1.index t 0 * 1024 + 1 * (y 0).val = (y 0).val
    rw [(idx_facts t).2.1.1]; omega
  · show win0_1.index t 1 * 1024 + 1 * (y 1).val = t.val % 4 * 1024 + (y 1).val
    rw [(idx_facts t).2.1.2]; omega

theorem emb2 (t : Fin cfg0.N) (y : S512x1024.Idx) : ((cfg0.win 2).blk t).view.emb y = ix2 (row t (y 0)) (col t (y 1)) := by
  refine Shape.idx_ext₂ ?_ ?_
  · show win0_2.index t 0 * 512 + 1 * (y 0).val = t.val / 4 * 512 + (y 0).val
    rw [(idx_facts t).2.2.1.1]; omega
  · show win0_2.index t 1 * 1024 + 1 * (y 1).val = t.val % 4 * 1024 + (y 1).val
    rw [(idx_facts t).2.2.1.2]; omega

theorem emb3 (t : Fin cfg0.N) (y : S512x1024.Idx) : ((cfg0.win 3).blk t).view.emb y = ix2 (row t (y 0)) (col t (y 1)) := by
  refine Shape.idx_ext₂ ?_ ?_
  · show win0_3.index t 0 * 512 + 1 * (y 0).val = t.val / 4 * 512 + (y 0).val
    rw [(idx_facts t).2.2.2.1]; omega
  · show win0_3.index t 1 * 1024 + 1 * (y 1).val = t.val % 4 * 1024 + (y 1).val
    rw [(idx_facts t).2.2.2.2]; omega

/-- Every index of a result lies in some point's block. -/
theorem exists_at (i : S8192x4096.Idx) : ∃ (t : Fin cfg0.N) (y : S512x1024.Idx), (ix2 (row t (y 0)) (col t (y 1)) : S8192x4096.Idx) = i := by
  have h0 : (i 0).val < 8192 := (i 0).isLt
  have h1 : (i 1).val < 4096 := (i 1).isLt
  have hN : cfg0.N = 64 := N_0
  refine ⟨⟨(i 0).val / 512 * 4 + (i 1).val / 1024, by omega⟩,
    ix2 ⟨(i 0).val % 512, by omega⟩ ⟨(i 1).val % 1024, by omega⟩, Shape.idx_ext₂ ?_ ?_⟩
  · show ((i 0).val / 512 * 4 + (i 1).val / 1024) / 4 * 512 + (i 0).val % 512 = (i 0).val
    omega
  · show ((i 0).val / 512 * 4 + (i 1).val / 1024) % 4 * 1024 + (i 1).val % 1024 = (i 1).val
    omega

/-- The pre-activation: the reference's value of the arguments. -/
abbrev G2 (c : Dev nD) : Buf (Elt Ideal) ((c : Thread nD τ).loc main_v0_0) :=
  val_main_v2 (F := Ideal) (A0 m c) (A1 m c)

theorem final2 (c : Dev nD) : (dats m 0 c).arrAt 2 cfg0.N = G2 m c := by
  refine (dats m 0 c).arrAt_eq_of_cover 2 (G2 m c) (fun t _ => ?_) (fun i => ?_)
  · rw [Cert.KernelRelu2FwdIdeal.Value.flushed2]
    funext y
    rw [View.read_apply]
    show out0_2 _ _ y = G2 m c _
    rw [emb2]
    unfold out0_2
    rw [View.canon_unit_zero hz]
    simp only [View.ld_unit_zero (S := S512x1024) hz, View.ld_unit_zero (S := S1024x1024) hz]
    pointwise [k0_pay1, iblk0, iblk1, G2, val_main_v0, val_main_v1, val_main_v2]
  · obtain ⟨t, y, rfl⟩ := exists_at i
    exact ⟨t, flush0_2 t, Finset.mem_map.mpr ⟨y, Finset.mem_univ y, emb2 t y⟩⟩

/-- The squared positive part: the reference's value of the arguments. -/
abbrev G3 (c : Dev nD) : Buf (Elt Ideal) ((c : Thread nD τ).loc main_v0_1) :=
  val_main_v5 (F := Ideal) (A0 m c) (A1 m c)

theorem final3 (c : Dev nD) : (dats m 0 c).arrAt 3 cfg0.N = G3 m c := by
  refine (dats m 0 c).arrAt_eq_of_cover 3 (G3 m c) (fun t _ => ?_) (fun i => ?_)
  · rw [Cert.KernelRelu2FwdIdeal.Value.flushed3]
    funext y
    rw [View.read_apply]
    show out0_3 _ _ y = G3 m c _
    rw [emb3]
    unfold out0_3
    rw [View.canon_unit_zero hz]
    simp only [View.ld_unit_zero (S := S512x1024) hz, View.ld_unit_zero (S := S1024x1024) hz]
    pointwise [k0_pay1, k0_pay2, iblk0, iblk1, G3, val_main_v0, val_main_v1, val_main_v2, val_main_v3, val_main_v4,
      val_main_v5, val_main_call0_cst, val_main_call0_v0]
  · obtain ⟨t, y, rfl⟩ := exists_at i
    exact ⟨t, flush0_3 t, Finset.mem_map.mpr ⟨y, Finset.mem_univ y, emb3 t y⟩⟩

theorem algebraic : Cert.algebraic_KernelRelu2FwdIdeal_ReferenceRelu2FwdIdeal := by
  intro m ρ m' ρ' _ hagree
  refine ⟨G2 m, G3 m, ?_, ?_⟩
  · refine (θ_run defs _ _).mono (fun r h c => ?_) (Cert.KernelRelu2FwdIdeal.Value.run_blocks (F := Ideal) m ρ)
    exact ⟨(h c).1.trans (final2 m c), (h c).2.1.trans (final3 m c), (h c).2.2⟩
  · refine (θ_run Cert.ReferenceRelu2FwdIdeal.defs _ _).mono (fun r h c => ?_)
      (Cert.ReferenceRelu2FwdIdeal.Value.run (F := Ideal) m' ρ')
    obtain ⟨a0, a1⟩ := hagree c
    refine ⟨(h c).1.trans ?_, (h c).2.1.trans ?_, (h c).2.2⟩
    · rw [val_main_v2_eq, a0, a1]
    · rw [val_main_v5_eq, a0, a1]

end Cert.Proof.Relu2Fwd

end
-- ==== Proof.Adam.lean ====
/-
  The value claim of the optimiser's call: the eight devices' parts of the gradient are added up, the two moments move towards
  the gradient and its square, and the weight's change follows from them.
-/
module

public import proofs.«01_k».proof.Defs
public import proofs.«01_k».proof.Proof.Gen.KernelAdamIdeal.Value
public import proofs.«01_k».proof.Proof.Gen.ReferenceAdamIdeal.Read
public import Idealize.ShloMosaic.Lib.Pipeline.Value
public import Idealize.ShloMosaic.Lib.Pipeline.ValueKit
public import Idealize.ShloMosaic.Lib.Pointwise
public import Idealize.ShloMosaic.Lib.Claim

@[expose] public section

set_option maxHeartbeats 1000000

noncomputable section

namespace Cert.Proof.Adam

open Cert.KernelAdamIdeal Cert.KernelAdamIdeal.Gen Idealize.ShloMosaic Idealize.ShloMosaic.TcCoe Idealize.SL.Sem
open Idealize.ShloMosaic.Pipeline (Dat)
open Cert.ReferenceAdamIdeal.Read

variable (m : (ℓ : Loc nD τ sig) → Buf (Elt Ideal) ℓ)

theorem hz : (![0, 0] : Fin 2 → Nat) = fun _ => 0 := funext fun a => by fin_cases a <;> rfl

/-- The block indices of the eight windows at a grid point: the row block is `t`. -/
theorem idx_facts : ∀ t : Fin grid0.N,
    (win0_0.index t 0 = 0 ∧ win0_0.index t 1 = t.val ∧ win0_0.index t 2 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0) := by
  decide +kernel

theorem lt4 (t : Fin cfg0.N) : t.val < 4 := lt_of_lt_of_eq t.isLt N_0

/-- Row `r` of point `t`'s block of 256 rows, in the whole array. -/
def row (t : Fin cfg0.N) (r : Fin 256) : Fin 1024 := ⟨t.val * 256 + r.val, by have := lt4 t; omega⟩

/-- The arguments. -/
abbrev A0 (c : Dev nD) : S8x1024x640.Idx → EReal := m ((c : Thread nD τ).loc main_arg0)
abbrev A1 (c : Dev nD) : S1024x640.Idx → EReal := m ((c : Thread nD τ).loc main_arg1)
abbrev A2 (c : Dev nD) : S1024x640.Idx → EReal := m ((c : Thread nD τ).loc main_arg2)
abbrev A3 (c : Dev nD) : S1024x640.Idx → EReal := m ((c : Thread nD τ).loc main_arg3)

theorem iblk0 (c : Dev nD) (t : Fin cfg0.N) (y : S8x256x640.Idx) : iblk m c 0 t y = A0 m c (ix3 (y 0) (row t (y 1)) (y 2)) := by
  unfold iblk
  rw [View.read_apply]
  show V m c main_arg0 _ = m _ _
  congr 1
  refine funext fun a => Fin.ext ?_
  fin_cases a
  · show win0_0.index t 0 * 8 + 1 * (y 0).val = (y 0).val
    rw [(idx_facts t).1.1]; omega
  · show win0_0.index t 1 * 256 + 1 * (y 1).val = t.val * 256 + (y 1).val
    rw [(idx_facts t).1.2.1]; omega
  · show win0_0.index t 2 * 640 + 1 * (y 2).val = (y 2).val
    rw [(idx_facts t).1.2.2]; omega

theorem iblk1 (c : Dev nD) (t : Fin cfg0.N) (y : S256x640.Idx) : iblk m c 1 t y = A1 m c (ix2 (row t (y 0)) (y 1)) := by
  unfold iblk
  rw [View.read_apply]
  show V m c main_arg1 _ = m _ _
  congr 1
  refine Shape.idx_ext₂ ?_ ?_
  · show win0_1.index t 0 * 256 + 1 * (y 0).val = t.val * 256 + (y 0).val
    rw [(idx_facts t).2.1.1]; omega
  · show win0_1.index t 1 * 640 + 1 * (y 1).val = (y 1).val
    rw [(idx_facts t).2.1.2]; omega

theorem iblk2 (c : Dev nD) (t : Fin cfg0.N) (y : S256x640.Idx) : iblk m c 2 t y = A2 m c (ix2 (row t (y 0)) (y 1)) := by
  unfold iblk
  rw [View.read_apply]
  show V m c main_arg2 _ = m _ _
  congr 1
  refine Shape.idx_ext₂ ?_ ?_
  · show win0_2.index t 0 * 256 + 1 * (y 0).val = t.val * 256 + (y 0).val
    rw [(idx_facts t).2.2.1.1]; omega
  · show win0_2.index t 1 * 640 + 1 * (y 1).val = (y 1).val
    rw [(idx_facts t).2.2.1.2]; omega

theorem iblk3 (c : Dev nD) (t : Fin cfg0.N) (y : S256x640.Idx) : iblk m c 3 t y = A3 m c (ix2 (row t (y 0)) (y 1)) := by
  unfold iblk
  rw [View.read_apply]
  show V m c main_arg3 _ = m _ _
  congr 1
  refine Shape.idx_ext₂ ?_ ?_
  · show win0_3.index t 0 * 256 + 1 * (y 0).val = t.val * 256 + (y 0).val
    rw [(idx_facts t).2.2.2.1.1]; omega
  · show win0_3.index t 1 * 640 + 1 * (y 1).val = (y 1).val
    rw [(idx_facts t).2.2.2.1.2]; omega

theorem emb4 (t : Fin cfg0.N) (y : S256x640.Idx) : ((cfg0.win 4).blk t).view.emb y = ix2 (row t (y 0)) (y 1) := by
  refine Shape.idx_ext₂ ?_ ?_
  · show win0_4.index t 0 * 256 + 1 * (y 0).val = t.val * 256 + (y 0).val
    rw [(idx_facts t).2.2.2.2.1.1]; omega
  · show win0_4.index t 1 * 640 + 1 * (y 1).val = (y 1).val
    rw [(idx_facts t).2.2.2.2.1.2]; omega

theorem emb5 (t : Fin cfg0.N) (y : S256x640.Idx) : ((cfg0.win 5).blk t).view.emb y = ix2 (row t (y 0)) (y 1) := by
  refine Shape.idx_ext₂ ?_ ?_
  · show win0_5.index t 0 * 256 + 1 * (y 0).val = t.val * 256 + (y 0).val
    rw [(idx_facts t).2.2.2.2.2.1.1]; omega
  · show win0_5.index t 1 * 640 + 1 * (y 1).val = (y 1).val
    rw [(idx_facts t).2.2.2.2.2.1.2]; omega

theorem emb6 (t : Fin cfg0.N) (y : S256x640.Idx) : ((cfg0.win 6).blk t).view.emb y = ix2 (row t (y 0)) (y 1) := by
  refine Shape.idx_ext₂ ?_ ?_
  · show win0_6.index t 0 * 256 + 1 * (y 0).val = t.val * 256 + (y 0).val
    rw [(idx_facts t).2.2.2.2.2.2.1.1]; omega
  · show win0_6.index t 1 * 640 + 1 * (y 1).val = (y 1).val
    rw [(idx_facts t).2.2.2.2.2.2.1.2]; omega

theorem emb7 (t : Fin cfg0.N) (y : S256x640.Idx) : ((cfg0.win 7).blk t).view.emb y = ix2 (row t (y 0)) (y 1) := by
  refine Shape.idx_ext₂ ?_ ?_
  · show win0_7.index t 0 * 256 + 1 * (y 0).val = t.val * 256 + (y 0).val
    rw [(idx_facts t).2.2.2.2.2.2.2.1]; omega
  · show win0_7.index t 1 * 640 + 1 * (y 1).val = (y 1).val
    rw [(idx_facts t).2.2.2.2.2.2.2.2]; omega

/-- The gradient: the sum of the eight devices' parts. -/
abbrev G (c : Dev nD) : S1024x640.Idx → EReal := val_main_v1 (F := Ideal) (A0 m c)

/-- Block `t` of the gradient, as the kernel adds it up. -/
theorem grad (c : Dev nD) (t : Fin cfg0.N) (y : S256x640.Idx) :
    k0_pay5 (F := Ideal) (iblk m c 0 t) (iblk m c 1 t) (iblk m c 2 t) (iblk m c 3 t) y = G m c (ix2 (row t (y 0)) (y 1)) := by
  pointwise [k0_pay5, k0_pay4, iblk0, G, val_main_v0, val_main_v1, val_main_cst]
  rw [Fin.sum_univ_eight]

/-- Every index of a result lies in some point's block. -/
theorem exists_at (i : S1024x640.Idx) : ∃ (t : Fin cfg0.N) (y : S256x640.Idx), (ix2 (row t (y 0)) (y 1) : S1024x640.Idx) = i := by
  have h0 : (i 0).val < 1024 := (i 0).isLt
  have hN : cfg0.N = 4 := N_0
  refine ⟨⟨(i 0).val / 256, by omega⟩, ix2 ⟨(i 0).val % 256, by omega⟩ (i 1), Shape.idx_ext₂ ?_ rfl⟩
  show (i 0).val / 256 * 256 + (i 0).val % 256 = (i 0).val
  omega

/-- The gradient: the reference's value of the arguments. -/
abbrev G4 (c : Dev nD) : Buf (Elt Ideal) ((c : Thread nD τ).loc main_v0_0) :=
  val_main_v1 (F := Ideal) (A0 m c)

theorem final4 (c : Dev nD) : (dats m 0 c).arrAt 4 cfg0.N = G4 m c := by
  refine (dats m 0 c).arrAt_eq_of_cover 4 (G4 m c) (fun t _ => ?_) (fun i => ?_)
  · rw [Cert.KernelAdamIdeal.Value.flushed4]
    funext y
    rw [View.read_apply]
    show out0_4 _ _ _ _ y = G4 m c _
    rw [emb4]
    unfold out0_4
    rw [View.canon_unit_zero hz]
    simp only [View.ld_unit_zero (S := S256x640) hz]
    exact grad m c t y
  · obtain ⟨t, y, rfl⟩ := exists_at i
    exact ⟨t, flush0_4 t, Finset.mem_map.mpr ⟨y, Finset.mem_univ y, emb4 t y⟩⟩

/-- The weight's change: the reference's value of the arguments. -/
abbrev G5 (c : Dev nD) : Buf (Elt Ideal) ((c : Thread nD τ).loc main_v0_1) :=
  val_main_v25 (F := Ideal) (A0 m c) (A1 m c) (A2 m c) (A3 m c)

theorem final5 (c : Dev nD) : (dats m 0 c).arrAt 5 cfg0.N = G5 m c := by
  refine (dats m 0 c).arrAt_eq_of_cover 5 (G5 m c) (fun t _ => ?_) (fun i => ?_)
  · rw [Cert.KernelAdamIdeal.Value.flushed5]
    funext y
    rw [View.read_apply]
    show out0_5 _ _ _ _ y = G5 m c _
    rw [emb5]
    unfold out0_5
    rw [View.canon_unit_zero hz]
    simp only [View.ld_unit_zero (S := S256x640) hz]
    pointwise [k0_pay3, k0_pay2, k0_pay1, grad, iblk1, iblk2, iblk3, G5, val_main_v2, val_main_v3, val_main_v4,
      val_main_v5, val_main_v6, val_main_v7, val_main_v8, val_main_v9, val_main_v10, val_main_v11, val_main_v12,
      val_main_v13, val_main_v14, val_main_v15, val_main_v16, val_main_v17, val_main_v18, val_main_v19, val_main_v20,
      val_main_v21, val_main_v22, val_main_v23, val_main_v24, val_main_v25, val_main_cst, val_main_cst_0, val_main_cst_1,
      val_main_cst_2, val_main_cst_3, val_main_cst_4, val_main_cst_5, val_main_cst_6, val_main_cst_7, val_main_cst_8]
  · obtain ⟨t, y, rfl⟩ := exists_at i
    exact ⟨t, flush0_5 t, Finset.mem_map.mpr ⟨y, Finset.mem_univ y, emb5 t y⟩⟩

/-- The first moment: the reference's value of the arguments. -/
abbrev G6 (c : Dev nD) : Buf (Elt Ideal) ((c : Thread nD τ).loc main_v0_2) :=
  val_main_v6 (F := Ideal) (A0 m c) (A2 m c)

theorem final6 (c : Dev nD) : (dats m 0 c).arrAt 6 cfg0.N = G6 m c := by
  refine (dats m 0 c).arrAt_eq_of_cover 6 (G6 m c) (fun t _ => ?_) (fun i => ?_)
  · rw [Cert.KernelAdamIdeal.Value.flushed6]
    funext y
    rw [View.read_apply]
    show out0_6 _ _ _ _ y = G6 m c _
    rw [emb6]
    unfold out0_6
    rw [View.canon_unit_zero hz]
    simp only [View.ld_unit_zero (S := S256x640) hz]
    pointwise [k0_pay1, grad, iblk2, G6, val_main_v2, val_main_v3, val_main_v4, val_main_v5, val_main_v6, val_main_cst,
      val_main_cst_0, val_main_cst_1, val_main_cst_2]
  · obtain ⟨t, y, rfl⟩ := exists_at i
    exact ⟨t, flush0_6 t, Finset.mem_map.mpr ⟨y, Finset.mem_univ y, emb6 t y⟩⟩

/-- The second moment: the reference's value of the arguments. -/
abbrev G7 (c : Dev nD) : Buf (Elt Ideal) ((c : Thread nD τ).loc main_v0_3) :=
  val_main_v12 (F := Ideal) (A0 m c) (A3 m c)

theorem final7 (c : Dev nD) : (dats m 0 c).arrAt 7 cfg0.N = G7 m c := by
  refine (dats m 0 c).arrAt_eq_of_cover 7 (G7 m c) (fun t _ => ?_) (fun i => ?_)
  · rw [Cert.KernelAdamIdeal.Value.flushed7]
    funext y
    rw [View.read_apply]
    show out0_7 _ _ _ _ y = G7 m c _
    rw [emb7]
    unfold out0_7
    rw [View.canon_unit_zero hz]
    simp only [View.ld_unit_zero (S := S256x640) hz]
    pointwise [k0_pay2, grad, iblk3, G7, val_main_v2, val_main_v3, val_main_v4, val_main_v5, val_main_v6, val_main_v7,
      val_main_v8, val_main_v9, val_main_v10, val_main_v11, val_main_v12, val_main_cst, val_main_cst_0, val_main_cst_1,
      val_main_cst_2, val_main_cst_3, val_main_cst_4]
  · obtain ⟨t, y, rfl⟩ := exists_at i
    exact ⟨t, flush0_7 t, Finset.mem_map.mpr ⟨y, Finset.mem_univ y, emb7 t y⟩⟩

theorem algebraic : Cert.algebraic_KernelAdamIdeal_ReferenceAdamIdeal := by
  intro m ρ m' ρ' _ hagree
  refine ⟨G4 m, G5 m, G6 m, G7 m, ?_, ?_⟩
  · refine (θ_run defs _ _).mono (fun r h c => ?_) (Cert.KernelAdamIdeal.Value.run_blocks (F := Ideal) m ρ)
    exact ⟨(h c).1.trans (final4 m c), (h c).2.1.trans (final5 m c), (h c).2.2.1.trans (final6 m c), (h c).2.2.2.1.trans (final7 m c), (h c).2.2.2.2⟩
  · refine (θ_run Cert.ReferenceAdamIdeal.defs _ _).mono (fun r h c => ?_)
      (Cert.ReferenceAdamIdeal.Value.run (F := Ideal) m' ρ')
    obtain ⟨a0, a1, a2, a3⟩ := hagree c
    refine ⟨(h c).1.trans ?_, (h c).2.1.trans ?_, (h c).2.2.1.trans ?_, (h c).2.2.2.1.trans ?_, (h c).2.2.2.2⟩
    · rw [val_main_v1_eq, a0]
    · rw [val_main_v25_eq, a0, a1, a2, a3]
    · rw [val_main_v6_eq, a0, a2]
    · rw [val_main_v12_eq, a0, a3]

end Cert.Proof.Adam

end
-- ==== Proof.Product.lean ====
/-
  The value claim of the step's largest plain product, the projection of the normed rows: the grid's 80 blocks of 512 by 1024
  tile the result and each contracts in one piece.
-/
module

public import proofs.«01_k».proof.Defs
public import proofs.«01_k».proof.Proof.Gen.KernelProductIdeal.Value
public import proofs.«01_k».proof.Proof.Gen.ReferenceProductIdeal.Read
public import Idealize.ShloMosaic.Lib.Pipeline.Value
public import Idealize.ShloMosaic.Lib.Pipeline.ValueKit
public import Idealize.ShloMosaic.Lib.Pointwise
public import Idealize.ShloMosaic.Lib.Claim

@[expose] public section

set_option maxHeartbeats 1000000

noncomputable section

namespace Cert.Proof.Product

open Cert.KernelProductIdeal Cert.KernelProductIdeal.Gen Idealize.ShloMosaic Idealize.ShloMosaic.TcCoe Idealize.SL.Sem
open Idealize.ShloMosaic.Pipeline (Dat)
open Cert.ReferenceProductIdeal.Read

variable (m : (ℓ : Loc nD τ sig) → Buf (Elt Ideal) ℓ)

theorem hz : (![0, 0] : Fin 2 → Nat) = fun _ => 0 := funext fun a => by fin_cases a <;> rfl

/-- The block indices of the three windows at a grid point: the row block is `t / 5`, the column block `t % 5`. -/
theorem idx_facts : ∀ t : Fin grid0.N,
    (win0_0.index t 0 = t.val / 5 ∧ win0_0.index t 1 = 0)
    ∧ (win0_1.index t 0 = 0 ∧ win0_1.index t 1 = t.val % 5)
    ∧ (win0_2.index t 0 = t.val / 5 ∧ win0_2.index t 1 = t.val % 5) := by
  decide +kernel

theorem lt80 (t : Fin cfg0.N) : t.val < 80 := lt_of_lt_of_eq t.isLt N_0

/-- Row `r` of point `t`'s row block, in the whole array. -/
def row (t : Fin cfg0.N) (r : Fin 512) : Fin 8192 := ⟨t.val / 5 * 512 + r.val, by have := lt80 t; omega⟩

/-- Column `l` of point `t`'s column block, in the whole array. -/
def col (t : Fin cfg0.N) (l : Fin 1024) : Fin 5120 := ⟨t.val % 5 * 1024 + l.val, by omega⟩

/-- The arguments. -/
abbrev A0 (c : Dev nD) : S8192x1024.Idx → EReal := m ((c : Thread nD τ).loc main_arg0)
abbrev A1 (c : Dev nD) : S1024x5120.Idx → EReal := m ((c : Thread nD τ).loc main_arg1)

theorem iblk0 (c : Dev nD) (t : Fin cfg0.N) (y : S512x1024.Idx) : iblk m c 0 t y = A0 m c (ix2 (row t (y 0)) (y 1)) := by
  unfold iblk
  rw [View.read_apply]
  show V m c main_arg0 _ = m _ _
  congr 1
  refine Shape.idx_ext₂ ?_ ?_
  · show win0_0.index t 0 * 512 + 1 * (y 0).val = t.val / 5 * 512 + (y 0).val
    rw [(idx_facts t).1.1]; omega
  · show win0_0.index t 1 * 1024 + 1 * (y 1).val = (y 1).val
    rw [(idx_facts t).1.2]; omega

theorem iblk1 (c : Dev nD) (t : Fin cfg0.N) (y : S1024x1024.Idx) : iblk m c 1 t y = A1 m c (ix2 (y 0) (col t (y 1))) := by
  unfold iblk
  rw [View.read_apply]
  show V m c main_arg1 _ = m _ _
  congr 1
  refine Shape.idx_ext₂ ?_ ?_
  · show win0_1.index t 0 * 1024 + 1 * (y 0).val = (y 0).val
    rw [(idx_facts t).2.1.1]; omega
  · show win0_1.index t 1 * 1024 + 1 * (y 1).val = t.val % 5 * 1024 + (y 1).val
    rw [(idx_facts t).2.1.2]; omega

theorem emb2 (t : Fin cfg0.N) (y : S512x1024.Idx) : ((cfg0.win 2).blk t).view.emb y = ix2 (row t (y 0)) (col t (y 1)) := by
  refine Shape.idx_ext₂ ?_ ?_
  · show win0_2.index t 0 * 512 + 1 * (y 0).val = t.val / 5 * 512 + (y 0).val
    rw [(idx_facts t).2.2.1]; omega
  · show win0_2.index t 1 * 1024 + 1 * (y 1).val = t.val % 5 * 1024 + (y 1).val
    rw [(idx_facts t).2.2.2]; omega

/-- Every index of a result lies in some point's block. -/
theorem exists_at (i : S8192x5120.Idx) : ∃ (t : Fin cfg0.N) (y : S512x1024.Idx), (ix2 (row t (y 0)) (col t (y 1)) : S8192x5120.Idx) = i := by
  have h0 : (i 0).val < 8192 := (i 0).isLt
  have h1 : (i 1).val < 5120 := (i 1).isLt
  have hN : cfg0.N = 80 := N_0
  refine ⟨⟨(i 0).val / 512 * 5 + (i 1).val / 1024, by omega⟩,
    ix2 ⟨(i 0).val % 512, by omega⟩ ⟨(i 1).val % 1024, by omega⟩, Shape.idx_ext₂ ?_ ?_⟩
  · show ((i 0).val / 512 * 5 + (i 1).val / 1024) / 5 * 512 + (i 0).val % 512 = (i 0).val
    omega
  · show ((i 0).val / 512 * 5 + (i 1).val / 1024) % 5 * 1024 + (i 1).val % 1024 = (i 1).val
    omega

/-- The result array: the reference's value of the arguments. -/
abbrev G2 (c : Dev nD) : Buf (Elt Ideal) ((c : Thread nD τ).loc main_v0) :=
  val_main_v2 (F := Ideal) (A0 m c) (A1 m c)

theorem final2 (c : Dev nD) : (dats m 0 c).arrAt 2 cfg0.N = G2 m c := by
  refine (dats m 0 c).arrAt_eq_of_cover 2 (G2 m c) (fun t _ => ?_) (fun i => ?_)
  · rw [Cert.KernelProductIdeal.Value.flushed2]
    funext y
    rw [View.read_apply]
    show out0_2 _ _ y = G2 m c _
    rw [emb2]
    unfold out0_2
    rw [View.canon_unit_zero hz]
    simp only [View.ld_unit_zero (S := S512x1024) hz, View.ld_unit_zero (S := S1024x1024) hz]
    pointwise [k0_pay1, iblk0, iblk1, G2, val_main_v0, val_main_v1, val_main_v2]
  · obtain ⟨t, y, rfl⟩ := exists_at i
    exact ⟨t, flush0_2 t, Finset.mem_map.mpr ⟨y, Finset.mem_univ y, emb2 t y⟩⟩

theorem algebraic : Cert.algebraic_KernelProductIdeal_ReferenceProductIdeal := by
  intro m ρ m' ρ' _ hagree
  refine ⟨G2 m, ?_, ?_⟩
  · refine (θ_run defs _ _).mono (fun r h c => ?_) (Cert.KernelProductIdeal.Value.run_blocks (F := Ideal) m ρ)
    exact ⟨(h c).1.trans (final2 m c), (h c).2⟩
  · refine (θ_run Cert.ReferenceProductIdeal.defs _ _).mono (fun r h c => ?_)
      (Cert.ReferenceProductIdeal.Value.run (F := Ideal) m' ρ')
    obtain ⟨a0, a1⟩ := hagree c
    refine ⟨(h c).1.trans ?_, (h c).2⟩
    rw [val_main_v2_eq, a0, a1]

end Cert.Proof.Product

end
-- ==== Proof.lean ====
/-
  The proof of `Cert.Claim`: for each call of the training step its three frames (the kernel, its idealized print and the
  reference), that no rule rewrote the kernel, and the value claim, which the call's own modules prove.
-/
module

public import Idealize.ShloMosaic.Lib.Quiescent
public import proofs.«01_k».proof.Defs
public import proofs.«01_k».proof.Proof.Gen.KernelAttnBwd.Frame
public import proofs.«01_k».proof.Proof.Gen.KernelAttnBwdIdeal.Frame
public import proofs.«01_k».proof.Proof.Gen.KernelAttnBwdIdeal.Value
public import proofs.«01_k».proof.Proof.Gen.ReferenceAttnBwdIdeal.Run
public import proofs.«01_k».proof.Proof.BwdFinal
public import proofs.«01_k».proof.Proof.FwdBits
public import proofs.«01_k».proof.Proof.FwdFinal
public import proofs.«01_k».proof.Proof.Gen.ReferenceAttnFwdIdeal.Run
public import proofs.«01_k».proof.Proof.Gen.KernelGate.Frame
public import proofs.«01_k».proof.Proof.Gen.KernelGateIdeal.Frame
public import proofs.«01_k».proof.Proof.Gen.KernelGateIdeal.Value
public import proofs.«01_k».proof.Proof.Gen.ReferenceGateIdeal.Run
public import proofs.«01_k».proof.Proof.Gate
public import proofs.«01_k».proof.Proof.Gen.KernelRelu2.Frame
public import proofs.«01_k».proof.Proof.Gen.KernelRelu2Ideal.Frame
public import proofs.«01_k».proof.Proof.Gen.KernelRelu2Ideal.Value
public import proofs.«01_k».proof.Proof.Gen.ReferenceRelu2Ideal.Run
public import proofs.«01_k».proof.Proof.Relu2
public import proofs.«01_k».proof.Proof.Gen.KernelPost.Frame
public import proofs.«01_k».proof.Proof.Gen.KernelPostIdeal.Frame
public import proofs.«01_k».proof.Proof.Gen.KernelPostIdeal.Value
public import proofs.«01_k».proof.Proof.Gen.ReferencePostIdeal.Run
public import proofs.«01_k».proof.Proof.Post
public import proofs.«01_k».proof.Proof.Gen.KernelPre.Frame
public import proofs.«01_k».proof.Proof.Gen.KernelPreIdeal.Frame
public import proofs.«01_k».proof.Proof.Gen.KernelPreIdeal.Value
public import proofs.«01_k».proof.Proof.Gen.ReferencePreIdeal.Run
public import proofs.«01_k».proof.Proof.Pre
public import proofs.«01_k».proof.Proof.Gen.KernelLoss.Frame
public import proofs.«01_k».proof.Proof.Gen.KernelLossIdeal.Frame
public import proofs.«01_k».proof.Proof.Gen.KernelLossIdeal.Value
public import proofs.«01_k».proof.Proof.Gen.ReferenceLossIdeal.Run
public import proofs.«01_k».proof.Proof.Loss
public import proofs.«01_k».proof.Proof.Gen.KernelConv.Frame
public import proofs.«01_k».proof.Proof.Gen.KernelConvIdeal.Frame
public import proofs.«01_k».proof.Proof.Gen.KernelConvIdeal.Value
public import proofs.«01_k».proof.Proof.Gen.ReferenceConvIdeal.Run
public import proofs.«01_k».proof.Proof.Conv
public import proofs.«01_k».proof.Proof.Gen.KernelGateFwd.Frame
public import proofs.«01_k».proof.Proof.Gen.KernelGateFwdIdeal.Frame
public import proofs.«01_k».proof.Proof.Gen.KernelGateFwdIdeal.Value
public import proofs.«01_k».proof.Proof.Gen.ReferenceGateFwdIdeal.Run
public import proofs.«01_k».proof.Proof.GateFwd
public import proofs.«01_k».proof.Proof.Gen.KernelConvFwd.Frame
public import proofs.«01_k».proof.Proof.Gen.KernelConvFwdIdeal.Frame
public import proofs.«01_k».proof.Proof.Gen.KernelConvFwdIdeal.Value
public import proofs.«01_k».proof.Proof.Gen.ReferenceConvFwdIdeal.Run
public import proofs.«01_k».proof.Proof.ConvFwd
public import proofs.«01_k».proof.Proof.Gen.KernelPreFwd.Frame
public import proofs.«01_k».proof.Proof.Gen.KernelPreFwdIdeal.Frame
public import proofs.«01_k».proof.Proof.Gen.KernelPreFwdIdeal.Value
public import proofs.«01_k».proof.Proof.Gen.ReferencePreFwdIdeal.Run
public import proofs.«01_k».proof.Proof.PreFwd
public import proofs.«01_k».proof.Proof.Gen.KernelPostFwd.Frame
public import proofs.«01_k».proof.Proof.Gen.KernelPostFwdIdeal.Frame
public import proofs.«01_k».proof.Proof.Gen.KernelPostFwdIdeal.Value
public import proofs.«01_k».proof.Proof.Gen.ReferencePostFwdIdeal.Run
public import proofs.«01_k».proof.Proof.PostFwd
public import proofs.«01_k».proof.Proof.Gen.KernelRelu2Fwd.Frame
public import proofs.«01_k».proof.Proof.Gen.KernelRelu2FwdIdeal.Frame
public import proofs.«01_k».proof.Proof.Gen.KernelRelu2FwdIdeal.Value
public import proofs.«01_k».proof.Proof.Gen.ReferenceRelu2FwdIdeal.Run
public import proofs.«01_k».proof.Proof.Relu2Fwd
public import proofs.«01_k».proof.Proof.Gen.KernelAdam.Frame
public import proofs.«01_k».proof.Proof.Gen.KernelAdamIdeal.Frame
public import proofs.«01_k».proof.Proof.Gen.KernelAdamIdeal.Value
public import proofs.«01_k».proof.Proof.Gen.ReferenceAdamIdeal.Run
public import proofs.«01_k».proof.Proof.Adam
public import proofs.«01_k».proof.Proof.Gen.KernelProduct.Frame
public import proofs.«01_k».proof.Proof.Gen.KernelProductIdeal.Frame
public import proofs.«01_k».proof.Proof.Gen.KernelProductIdeal.Value
public import proofs.«01_k».proof.Proof.Gen.ReferenceProductIdeal.Run
public import proofs.«01_k».proof.Proof.Product

@[expose] public section

noncomputable section

namespace Cert.Proof

open Idealize.ShloMosaic Idealize.SL.Sem

/-! The references' frames: each one's generated run keeps the arguments, and it declares no semaphore. -/

theorem frame_ReferenceAttnBwd : Cert.quiescent_ReferenceAttnBwdIdeal := fun m ρ _ =>
  (θ_run _ _ _).mono (fun _ h => ⟨fun c => (h c).2.2.2, sem_eq_zero_of_no_sems rfl _⟩) (Cert.ReferenceAttnBwdIdeal.Value.run m ρ)
theorem frame_ReferenceAttnFwd : Cert.quiescent_ReferenceAttnFwdIdeal := fun m ρ _ =>
  (θ_run _ _ _).mono (fun _ h => ⟨fun c => (h c).2.2, sem_eq_zero_of_no_sems rfl _⟩) (Cert.ReferenceAttnFwdIdeal.Value.run m ρ)
theorem frame_ReferenceGate : Cert.quiescent_ReferenceGateIdeal := fun m ρ _ =>
  (θ_run _ _ _).mono (fun _ h => ⟨fun c => (h c).2.2.2.2, sem_eq_zero_of_no_sems rfl _⟩) (Cert.ReferenceGateIdeal.Value.run m ρ)
theorem frame_ReferenceRelu2 : Cert.quiescent_ReferenceRelu2Ideal := fun m ρ _ =>
  (θ_run _ _ _).mono (fun _ h => ⟨fun c => (h c).2, sem_eq_zero_of_no_sems rfl _⟩) (Cert.ReferenceRelu2Ideal.Value.run m ρ)
theorem frame_ReferencePost : Cert.quiescent_ReferencePostIdeal := fun m ρ _ =>
  (θ_run _ _ _).mono (fun _ h => ⟨fun c => (h c).2.2.2, sem_eq_zero_of_no_sems rfl _⟩) (Cert.ReferencePostIdeal.Value.run m ρ)
theorem frame_ReferencePre : Cert.quiescent_ReferencePreIdeal := fun m ρ _ =>
  (θ_run _ _ _).mono (fun _ h => ⟨fun c => (h c).2.2.2.2, sem_eq_zero_of_no_sems rfl _⟩) (Cert.ReferencePreIdeal.Value.run m ρ)
theorem frame_ReferenceLoss : Cert.quiescent_ReferenceLossIdeal := fun m ρ _ =>
  (θ_run _ _ _).mono (fun _ h => ⟨fun c => (h c).2.2, sem_eq_zero_of_no_sems rfl _⟩) (Cert.ReferenceLossIdeal.Value.run m ρ)
theorem frame_ReferenceConv : Cert.quiescent_ReferenceConvIdeal := fun m ρ _ =>
  (θ_run _ _ _).mono (fun _ h => ⟨fun c => (h c).2.2.2.2.2.2, sem_eq_zero_of_no_sems rfl _⟩) (Cert.ReferenceConvIdeal.Value.run m ρ)
theorem frame_ReferenceGateFwd : Cert.quiescent_ReferenceGateFwdIdeal := fun m ρ _ =>
  (θ_run _ _ _).mono (fun _ h => ⟨fun c => (h c).2, sem_eq_zero_of_no_sems rfl _⟩) (Cert.ReferenceGateFwdIdeal.Value.run m ρ)
theorem frame_ReferenceConvFwd : Cert.quiescent_ReferenceConvFwdIdeal := fun m ρ _ =>
  (θ_run _ _ _).mono (fun _ h => ⟨fun c => (h c).2, sem_eq_zero_of_no_sems rfl _⟩) (Cert.ReferenceConvFwdIdeal.Value.run m ρ)
theorem frame_ReferencePreFwd : Cert.quiescent_ReferencePreFwdIdeal := fun m ρ _ =>
  (θ_run _ _ _).mono (fun _ h => ⟨fun c => (h c).2, sem_eq_zero_of_no_sems rfl _⟩) (Cert.ReferencePreFwdIdeal.Value.run m ρ)
theorem frame_ReferencePostFwd : Cert.quiescent_ReferencePostFwdIdeal := fun m ρ _ =>
  (θ_run _ _ _).mono (fun _ h => ⟨fun c => (h c).2, sem_eq_zero_of_no_sems rfl _⟩) (Cert.ReferencePostFwdIdeal.Value.run m ρ)
theorem frame_ReferenceRelu2Fwd : Cert.quiescent_ReferenceRelu2FwdIdeal := fun m ρ _ =>
  (θ_run _ _ _).mono (fun _ h => ⟨fun c => (h c).2.2, sem_eq_zero_of_no_sems rfl _⟩) (Cert.ReferenceRelu2FwdIdeal.Value.run m ρ)
theorem frame_ReferenceAdam : Cert.quiescent_ReferenceAdamIdeal := fun m ρ _ =>
  (θ_run _ _ _).mono (fun _ h => ⟨fun c => (h c).2.2.2.2, sem_eq_zero_of_no_sems rfl _⟩) (Cert.ReferenceAdamIdeal.Value.run m ρ)
theorem frame_ReferenceProduct : Cert.quiescent_ReferenceProductIdeal := fun m ρ _ =>
  (θ_run _ _ _).mono (fun _ h => ⟨fun c => (h c).2, sem_eq_zero_of_no_sems rfl _⟩) (Cert.ReferenceProductIdeal.Value.run m ρ)

/-! The preconditions' side conditions: the constant spreads over each argument's shape. -/

theorem facts_finite_proj_do : Cert.Pre_finite_proj_do.Facts where
  bcast_S_S8192x5120 := by decide
  bcast_S_S8192x512 := by decide
theorem facts_finite_proj : Cert.Pre_finite_proj.Facts where
  bcast_S_S8192x5120 := by decide
theorem facts_finite_post : Cert.Pre_finite_post.Facts where
  bcast_S_S8192x1024 := by decide
  bcast_S_S1x1024 := by decide
theorem facts_finite_pre : Cert.Pre_finite_pre.Facts where
  bcast_S_S8192x1024 := by decide
  bcast_S_S1x1024 := by decide

theorem claim : Cert.Claim := ⟨Cert.KernelAttnBwd.Gen.facts,
  Cert.KernelAttnBwdIdeal.Gen.facts,
  Cert.ReferenceAttnBwdIdeal.Gen.facts,
  Cert.KernelAttnFwd.Gen.facts,
  Cert.KernelAttnFwdIdeal.Gen.facts,
  Cert.ReferenceAttnFwdIdeal.Gen.facts,
  Cert.KernelGate.Gen.facts,
  Cert.KernelGateIdeal.Gen.facts,
  Cert.ReferenceGateIdeal.Gen.facts,
  Cert.KernelRelu2.Gen.facts,
  Cert.KernelRelu2Ideal.Gen.facts,
  Cert.ReferenceRelu2Ideal.Gen.facts,
  Cert.KernelPost.Gen.facts,
  Cert.KernelPostIdeal.Gen.facts,
  Cert.ReferencePostIdeal.Gen.facts,
  Cert.KernelPre.Gen.facts,
  Cert.KernelPreIdeal.Gen.facts,
  Cert.ReferencePreIdeal.Gen.facts,
  Cert.KernelLoss.Gen.facts,
  Cert.KernelLossIdeal.Gen.facts,
  Cert.ReferenceLossIdeal.Gen.facts,
  Cert.KernelConv.Gen.facts,
  Cert.KernelConvIdeal.Gen.facts,
  Cert.ReferenceConvIdeal.Gen.facts,
  Cert.KernelGateFwd.Gen.facts,
  Cert.KernelGateFwdIdeal.Gen.facts,
  Cert.ReferenceGateFwdIdeal.Gen.facts,
  Cert.KernelConvFwd.Gen.facts,
  Cert.KernelConvFwdIdeal.Gen.facts,
  Cert.ReferenceConvFwdIdeal.Gen.facts,
  Cert.KernelPreFwd.Gen.facts,
  Cert.KernelPreFwdIdeal.Gen.facts,
  Cert.ReferencePreFwdIdeal.Gen.facts,
  Cert.KernelPostFwd.Gen.facts,
  Cert.KernelPostFwdIdeal.Gen.facts,
  Cert.ReferencePostFwdIdeal.Gen.facts,
  Cert.KernelRelu2Fwd.Gen.facts,
  Cert.KernelRelu2FwdIdeal.Gen.facts,
  Cert.ReferenceRelu2FwdIdeal.Gen.facts,
  Cert.KernelAdam.Gen.facts,
  Cert.KernelAdamIdeal.Gen.facts,
  Cert.ReferenceAdamIdeal.Gen.facts,
  Cert.KernelProduct.Gen.facts,
  Cert.KernelProductIdeal.Gen.facts,
  Cert.ReferenceProductIdeal.Gen.facts,
  facts_finite_proj_do,
  facts_finite_proj,
  facts_finite_post,
  facts_finite_pre,
  fun m ρ _ => Cert.KernelAttnBwd.Gen.frame m ρ,
  fun m ρ _ => Cert.KernelAttnBwdIdeal.Gen.frame m ρ,
  fun m ρ _ => Cert.KernelAttnBwdIdeal.Gen.frame m ρ,
  frame_ReferenceAttnBwd,
  fun m ρ _ => frame_ReferenceAttnBwd m ρ trivial,
  FwdRun.frame_bits,
  fun m ρ _ => FwdRun.frame m ρ,
  fun m ρ _ => FwdRun.frame m ρ,
  frame_ReferenceAttnFwd,
  fun m ρ _ => frame_ReferenceAttnFwd m ρ trivial,
  fun m ρ _ => Cert.KernelGate.Gen.frame m ρ,
  fun m ρ _ => Cert.KernelGateIdeal.Gen.frame m ρ,
  frame_ReferenceGate,
  fun m ρ _ => Cert.KernelRelu2.Gen.frame m ρ,
  fun m ρ _ => Cert.KernelRelu2Ideal.Gen.frame m ρ,
  frame_ReferenceRelu2,
  fun m ρ _ => Cert.KernelPost.Gen.frame m ρ,
  fun m ρ _ => Cert.KernelPostIdeal.Gen.frame m ρ,
  fun m ρ _ => Cert.KernelPostIdeal.Gen.frame m ρ,
  frame_ReferencePost,
  fun m ρ _ => frame_ReferencePost m ρ trivial,
  fun m ρ _ => Cert.KernelPre.Gen.frame m ρ,
  fun m ρ _ => Cert.KernelPreIdeal.Gen.frame m ρ,
  fun m ρ _ => Cert.KernelPreIdeal.Gen.frame m ρ,
  frame_ReferencePre,
  fun m ρ _ => frame_ReferencePre m ρ trivial,
  fun m ρ _ => Cert.KernelLoss.Gen.frame m ρ,
  fun m ρ _ => Cert.KernelLossIdeal.Gen.frame m ρ,
  frame_ReferenceLoss,
  fun m ρ _ => Cert.KernelConv.Gen.frame m ρ,
  fun m ρ _ => Cert.KernelConvIdeal.Gen.frame m ρ,
  frame_ReferenceConv,
  fun m ρ _ => Cert.KernelGateFwd.Gen.frame m ρ,
  fun m ρ _ => Cert.KernelGateFwdIdeal.Gen.frame m ρ,
  frame_ReferenceGateFwd,
  fun m ρ _ => Cert.KernelConvFwd.Gen.frame m ρ,
  fun m ρ _ => Cert.KernelConvFwdIdeal.Gen.frame m ρ,
  frame_ReferenceConvFwd,
  fun m ρ _ => Cert.KernelPreFwd.Gen.frame m ρ,
  fun m ρ _ => Cert.KernelPreFwdIdeal.Gen.frame m ρ,
  frame_ReferencePreFwd,
  fun m ρ _ => Cert.KernelPostFwd.Gen.frame m ρ,
  fun m ρ _ => Cert.KernelPostFwdIdeal.Gen.frame m ρ,
  frame_ReferencePostFwd,
  fun m ρ _ => Cert.KernelRelu2Fwd.Gen.frame m ρ,
  fun m ρ _ => Cert.KernelRelu2FwdIdeal.Gen.frame m ρ,
  frame_ReferenceRelu2Fwd,
  fun m ρ _ => Cert.KernelAdam.Gen.frame m ρ,
  fun m ρ _ => Cert.KernelAdamIdeal.Gen.frame m ρ,
  frame_ReferenceAdam,
  fun m ρ _ => Cert.KernelProduct.Gen.frame m ρ,
  fun m ρ _ => Cert.KernelProductIdeal.Gen.frame m ρ,
  frame_ReferenceProduct,
  trivial,
  @Bwd.algebraic facts_finite_proj_do,
  trivial,
  @Fwd.algebraic facts_finite_proj,
  trivial,
  Gate.algebraic,
  trivial,
  Relu2.algebraic,
  trivial,
  @Post.algebraic facts_finite_post,
  trivial,
  @Pre.algebraic facts_finite_pre,
  trivial,
  Loss.algebraic,
  trivial,
  Conv.algebraic,
  trivial,
  GateFwd.algebraic,
  trivial,
  ConvFwd.algebraic,
  trivial,
  PreFwd.algebraic,
  trivial,
  PostFwd.algebraic,
  trivial,
  Relu2Fwd.algebraic,
  trivial,
  Adam.algebraic,
  trivial,
  Product.algebraic⟩

end Cert.Proof

end
